-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_GradSquare (m : (ℓ : Loc Cert.GradSquare.nD Cert.GradSquare.τ Cert.GradSquare.sig) → Buf (Elt Bits) ℓ) : Prop :=
  True

def Pre_GradSquareIdeal (m : (ℓ : Loc Cert.GradSquareIdeal.nD Cert.GradSquareIdeal.τ Cert.GradSquareIdeal.sig) → Buf (Elt Ideal) ℓ) : Prop :=
  True

def Pre_GradSquareRefIdeal (m : (ℓ : Loc Cert.GradSquareRefIdeal.nD Cert.GradSquareRefIdeal.τ Cert.GradSquareRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_OutXattn (m : (ℓ : Loc Cert.OutXattn.nD Cert.OutXattn.τ Cert.OutXattn.sig) → Buf (Elt Bits) ℓ) : Prop :=
  True

def Pre_OutXattnIdeal (m : (ℓ : Loc Cert.OutXattnIdeal.nD Cert.OutXattnIdeal.τ Cert.OutXattnIdeal.sig) → Buf (Elt Ideal) ℓ) : Prop :=
  True

def Pre_OutXattnRefIdeal (m : (ℓ : Loc Cert.OutXattnRefIdeal.nD Cert.OutXattnRefIdeal.τ Cert.OutXattnRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdRefIdeal (m : (ℓ : Loc Cert.MemBwdRefIdeal.nD Cert.MemBwdRefIdeal.τ Cert.MemBwdRefIdeal.sig) → Buf (Elt Ideal) ℓ) : Prop :=
  True

def Pre_MemSum (m : (ℓ : Loc Cert.MemSum.nD Cert.MemSum.τ Cert.MemSum.sig) → Buf (Elt Bits) ℓ) : Prop :=
  True

def Pre_MemSumIdeal (m : (ℓ : Loc Cert.MemSumIdeal.nD Cert.MemSumIdeal.τ Cert.MemSumIdeal.sig) → Buf (Elt Ideal) ℓ) : Prop :=
  True

def Pre_MemSumRefIdeal (m : (ℓ : Loc Cert.MemSumRefIdeal.nD Cert.MemSumRefIdeal.τ Cert.MemSumRefIdeal.sig) → Buf (Elt Ideal) ℓ) : Prop :=
  True

def Pre_GradMem (m : (ℓ : Loc Cert.GradMem.nD Cert.GradMem.τ Cert.GradMem.sig) → Buf (Elt Bits) ℓ) : Prop :=
  True

def Pre_GradMemIdeal (m : (ℓ : Loc Cert.GradMemIdeal.nD Cert.GradMemIdeal.τ Cert.GradMemIdeal.sig) → Buf (Elt Ideal) ℓ) : Prop :=
  True

def Pre_GradMemRefIdeal (m : (ℓ : Loc Cert.GradMemRefIdeal.nD Cert.GradMemRefIdeal.τ Cert.GradMemRefIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_GradGateRefIdeal (m : (ℓ : Loc Cert.GradGateRefIdeal.nD Cert.GradGateRefIdeal.τ Cert.GradGateRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_NormMemBwd (m : (ℓ : Loc Cert.NormMemBwd.nD Cert.NormMemBwd.τ Cert.NormMemBwd.sig) → Buf (Elt Bits) ℓ) : Prop :=
  True

def Pre_NormMemBwdIdeal (m : (ℓ : Loc Cert.NormMemBwdIdeal.nD Cert.NormMemBwdIdeal.τ Cert.NormMemBwdIdeal.sig) → Buf (Elt Ideal) ℓ) : Prop :=
  True

def Pre_NormMemBwdRefIdeal (m : (ℓ : Loc Cert.NormMemBwdRefIdeal.nD Cert.NormMemBwdRefIdeal.τ Cert.NormMemBwdRefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_AdamMid (m : (ℓ : Loc Cert.AdamMid.nD Cert.AdamMid.τ Cert.AdamMid.sig) → Buf (Elt Bits) ℓ) : Prop :=
  True

def Pre_AdamMidIdeal (m : (ℓ : Loc Cert.AdamMidIdeal.nD Cert.AdamMidIdeal.τ Cert.AdamMidIdeal.sig) → Buf (Elt Ideal) ℓ) : Prop :=
  True

def Pre_AdamMidRefIdeal (m : (ℓ : Loc Cert.AdamMidRefIdeal.nD Cert.AdamMidRefIdeal.τ Cert.AdamMidRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamVectors (m : (ℓ : Loc Cert.AdamVectors.nD Cert.AdamVectors.τ Cert.AdamVectors.sig) → Buf (Elt Bits) ℓ) : Prop :=
  True

def Pre_AdamVectorsIdeal (m : (ℓ : Loc Cert.AdamVectorsIdeal.nD Cert.AdamVectorsIdeal.τ Cert.AdamVectorsIdeal.sig) → Buf (Elt Ideal) ℓ) : Prop :=
  True

def Pre_AdamVectorsRefIdeal (m : (ℓ : Loc Cert.AdamVectorsRefIdeal.nD Cert.AdamVectorsRefIdeal.τ Cert.AdamVectorsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1)
      ∧ r.2.mem ((c.tc : Thread Cert.GradDown.nD Cert.GradDown.τ).loc Cert.GradDown.main_arg2) = m ((c.tc : Thread Cert.GradDown.nD Cert.GradDown.τ).loc Cert.GradDown.main_arg2))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1)
      ∧ r.2.mem ((c.tc : Thread Cert.GradDownIdeal.nD Cert.GradDownIdeal.τ).loc Cert.GradDownIdeal.main_arg2) = m ((c.tc : Thread Cert.GradDownIdeal.nD Cert.GradDownIdeal.τ).loc Cert.GradDownIdeal.main_arg2))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1)
      ∧ r.2.mem ((c.tc : Thread Cert.GradDownRefIdeal.nD Cert.GradDownRefIdeal.τ).loc Cert.GradDownRefIdeal.main_arg2) = m ((c.tc : Thread Cert.GradDownRefIdeal.nD Cert.GradDownRefIdeal.τ).loc Cert.GradDownRefIdeal.main_arg2))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_GradSquare [hGradSquare : Cert.GradSquare.Facts] : Prop :=
  ∀ (m : (ℓ : Loc Cert.GradSquare.nD Cert.GradSquare.τ Cert.GradSquare.sig) → Buf (Elt Bits) ℓ) (g : Dev Cert.GradSquare.nD → PrngReg), Pre_GradSquare m →
    θ_run (Cert.GradSquare.defs (F := Bits)) (onTc (τ := Cert.GradSquare.τ) (Cert.GradSquare.main (F := Bits))) ⟨m, fun _ => 0, g⟩ (fun r => (∀ c : Dev Cert.GradSquare.nD,
      r.2.mem ((c.tc : Thread Cert.GradSquare.nD Cert.GradSquare.τ).loc Cert.GradSquare.main_arg0) = m ((c.tc : Thread Cert.GradSquare.nD Cert.GradSquare.τ).loc Cert.GradSquare.main_arg0)
      ∧ r.2.mem ((c.tc : Thread Cert.GradSquare.nD Cert.GradSquare.τ).loc Cert.GradSquare.main_arg1) = m ((c.tc : Thread Cert.GradSquare.nD Cert.GradSquare.τ).loc Cert.GradSquare.main_arg1))
      ∧ r.2.sem = fun _ => 0)

def quiescent_GradSquareIdeal [hGradSquareIdeal : Cert.GradSquareIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg), Pre_GradSquareIdeal m →
    θ_run (Cert.GradSquareIdeal.defs (F := Ideal)) (onTc (τ := Cert.GradSquareIdeal.τ) (Cert.GradSquareIdeal.main (F := Ideal))) ⟨m, fun _ => 0, g⟩ (fun r => (∀ c : Dev Cert.GradSquareIdeal.nD,
      r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
      ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ r.2.sem = fun _ => 0)

def quiescent_GradSquareRefIdeal [hGradSquareRefIdeal : Cert.GradSquareRefIdeal.Facts] : Prop :=
  ∀ (m : (ℓ : Loc Cert.GradSquareRefIdeal.nD Cert.GradSquareRefIdeal.τ Cert.GradSquareRefIdeal.sig) → Buf (Elt Ideal) ℓ) (g : Dev Cert.GradSquareRefIdeal.nD → PrngReg), Pre_GradSquareRefIdeal m →
    θ_run (Cert.GradSquareRefIdeal.defs (F := Ideal)) (onTc (τ := Cert.GradSquareRefIdeal.τ) (Cert.GradSquareRefIdeal.main (F := Ideal))) ⟨m, fun _ => 0, g⟩ (fun r => (∀ c : Dev Cert.GradSquareRefIdeal.nD,
      r.2.mem ((c.tc : Thread Cert.GradSquareRefIdeal.nD Cert.GradSquareRefIdeal.τ).loc Cert.GradSquareRefIdeal.main_arg0) = m ((c.tc : Thread Cert.GradSquareRefIdeal.nD Cert.GradSquareRefIdeal.τ).loc Cert.GradSquareRefIdeal.main_arg0)
      ∧ r.2.mem ((c.tc : Thread Cert.GradSquareRefIdeal.nD Cert.GradSquareRefIdeal.τ).loc Cert.GradSquareRefIdeal.main_arg1) = m ((c.tc : Thread Cert.GradSquareRefIdeal.nD Cert.GradSquareRefIdeal.τ).loc Cert.GradSquareRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_OutXattn [hOutXattn : Cert.OutXattn.Facts] : Prop :=
  ∀ (m : (ℓ : Loc Cert.OutXattn.nD Cert.OutXattn.τ Cert.OutXattn.sig) → Buf (Elt Bits) ℓ) (g : Dev Cert.OutXattn.nD → PrngReg), Pre_OutXattn m →
    θ_run (Cert.OutXattn.defs (F := Bits)) (onTc (τ := Cert.OutXattn.τ) (Cert.OutXattn.main (F := Bits))) ⟨m, fun _ => 0, g⟩ (fun r => (∀ c : Dev Cert.OutXattn.nD,
      r.2.mem ((c.tc : Thread Cert.OutXattn.nD Cert.OutXattn.τ).loc Cert.OutXattn.main_arg0) = m ((c.tc : Thread Cert.OutXattn.nD Cert.OutXattn.τ).loc Cert.OutXattn.main_arg0)
      ∧ r.2.mem ((c.tc : Thread Cert.OutXattn.nD Cert.OutXattn.τ).loc Cert.OutXattn.main_arg1) = m ((c.tc : Thread Cert.OutXattn.nD Cert.OutXattn.τ).loc Cert.OutXattn.main_arg1)
      ∧ r.2.mem ((c.tc : Thread Cert.OutXattn.nD Cert.OutXattn.τ).loc Cert.OutXattn.main_arg2) = m ((c.tc : Thread Cert.OutXattn.nD Cert.OutXattn.τ).loc Cert.OutXattn.main_arg2)
      ∧ r.2.mem ((c.tc : Thread Cert.OutXattn.nD Cert.OutXattn.τ).loc Cert.OutXattn.main_arg3) = m ((c.tc : Thread Cert.OutXattn.nD Cert.OutXattn.τ).loc Cert.OutXattn.main_arg3)
      ∧ r.2.mem ((c.tc : Thread Cert.OutXattn.nD Cert.OutXattn.τ).loc Cert.OutXattn.main_arg4) = m ((c.tc : Thread Cert.OutXattn.nD Cert.OutXattn.τ).loc Cert.OutXattn.main_arg4)
      ∧ r.2.mem ((c.tc : Thread Cert.OutXattn.nD Cert.OutXattn.τ).loc Cert.OutXattn.main_arg5) = m ((c.tc : Thread Cert.OutXattn.nD Cert.OutXattn.τ).loc Cert.OutXattn.main_arg5)
      ∧ r.2.mem ((c.tc : Thread Cert.OutXattn.nD Cert.OutXattn.τ).loc Cert.OutXattn.main_arg6) = m ((c.tc : Thread Cert.OutXattn.nD Cert.OutXattn.τ).loc Cert.OutXattn.main_arg6)
      ∧ r.2.mem ((c.tc : Thread Cert.OutXattn.nD Cert.OutXattn.τ).loc Cert.OutXattn.main_arg7) = m ((c.tc : Thread Cert.OutXattn.nD Cert.OutXattn.τ).loc Cert.OutXattn.main_arg7)
      ∧ r.2.mem ((c.tc : Thread Cert.OutXattn.nD Cert.OutXattn.τ).loc Cert.OutXattn.main_arg8) = m ((c.tc : Thread Cert.OutXattn.nD Cert.OutXattn.τ).loc Cert.OutXattn.main_arg8)
      ∧ r.2.mem ((c.tc : Thread Cert.OutXattn.nD Cert.OutXattn.τ).loc Cert.OutXattn.main_arg9) = m ((c.tc : Thread Cert.OutXattn.nD Cert.OutXattn.τ).loc Cert.OutXattn.main_arg9))
      ∧ r.2.sem = fun _ => 0)

def quiescent_OutXattnIdeal [hOutXattnIdeal : Cert.OutXattnIdeal.Facts] : Prop :=
  ∀ (m : (ℓ : Loc Cert.OutXattnIdeal.nD Cert.OutXattnIdeal.τ Cert.OutXattnIdeal.sig) → Buf (Elt Ideal) ℓ) (g : Dev Cert.OutXattnIdeal.nD → PrngReg), Pre_OutXattnIdeal m →
    θ_run (Cert.OutXattnIdeal.defs (F := Ideal)) (onTc (τ := Cert.OutXattnIdeal.τ) (Cert.OutXattnIdeal.main (F := Ideal))) ⟨m, fun _ => 0, g⟩ (fun r => (∀ c : Dev Cert.OutXattnIdeal.nD,
      r.2.mem ((c.tc : Thread Cert.OutXattnIdeal.nD Cert.OutXattnIdeal.τ).loc Cert.OutXattnIdeal.main_arg0) = m ((c.tc : Thread Cert.OutXattnIdeal.nD Cert.OutXattnIdeal.τ).loc Cert.OutXattnIdeal.main_arg0)
      ∧ r.2.mem ((c.tc : Thread Cert.OutXattnIdeal.nD Cert.OutXattnIdeal.τ).loc Cert.OutXattnIdeal.main_arg1) = m ((c.tc : Thread Cert.OutXattnIdeal.nD Cert.OutXattnIdeal.τ).loc Cert.OutXattnIdeal.main_arg1)
      ∧ r.2.mem ((c.tc : Thread Cert.OutXattnIdeal.nD Cert.OutXattnIdeal.τ).loc Cert.OutXattnIdeal.main_arg2) = m ((c.tc : Thread Cert.OutXattnIdeal.nD Cert.OutXattnIdeal.τ).loc Cert.OutXattnIdeal.main_arg2)
      ∧ r.2.mem ((c.tc : Thread Cert.OutXattnIdeal.nD Cert.OutXattnIdeal.τ).loc Cert.OutXattnIdeal.main_arg3) = m ((c.tc : Thread Cert.OutXattnIdeal.nD Cert.OutXattnIdeal.τ).loc Cert.OutXattnIdeal.main_arg3)
      ∧ r.2.mem ((c.tc : Thread Cert.OutXattnIdeal.nD Cert.OutXattnIdeal.τ).loc Cert.OutXattnIdeal.main_arg4) = m ((c.tc : Thread Cert.OutXattnIdeal.nD Cert.OutXattnIdeal.τ).loc Cert.OutXattnIdeal.main_arg4)
      ∧ r.2.mem ((c.tc : Thread Cert.OutXattnIdeal.nD Cert.OutXattnIdeal.τ).loc Cert.OutXattnIdeal.main_arg5) = m ((c.tc : Thread Cert.OutXattnIdeal.nD Cert.OutXattnIdeal.τ).loc Cert.OutXattnIdeal.main_arg5)
      ∧ r.2.mem ((c.tc : Thread Cert.OutXattnIdeal.nD Cert.OutXattnIdeal.τ).loc Cert.OutXattnIdeal.main_arg6) = m ((c.tc : Thread Cert.OutXattnIdeal.nD Cert.OutXattnIdeal.τ).loc Cert.OutXattnIdeal.main_arg6)
      ∧ r.2.mem ((c.tc : Thread Cert.OutXattnIdeal.nD Cert.OutXattnIdeal.τ).loc Cert.OutXattnIdeal.main_arg7) = m ((c.tc : Thread Cert.OutXattnIdeal.nD Cert.OutXattnIdeal.τ).loc Cert.OutXattnIdeal.main_arg7)
      ∧ r.2.mem ((c.tc : Thread Cert.OutXattnIdeal.nD Cert.OutXattnIdeal.τ).loc Cert.OutXattnIdeal.main_arg8) = m ((c.tc : Thread Cert.OutXattnIdeal.nD Cert.OutXattnIdeal.τ).loc Cert.OutXattnIdeal.main_arg8)
      ∧ r.2.mem ((c.tc : Thread Cert.OutXattnIdeal.nD Cert.OutXattnIdeal.τ).loc Cert.OutXattnIdeal.main_arg9) = m ((c.tc : Thread Cert.OutXattnIdeal.nD Cert.OutXattnIdeal.τ).loc Cert.OutXattnIdeal.main_arg9))
      ∧ r.2.sem = fun _ => 0)

def quiescent_OutXattnRefIdeal [hOutXattnRefIdeal : Cert.OutXattnRefIdeal.Facts] : Prop :=
  ∀ (m : (ℓ : Loc Cert.OutXattnRefIdeal.nD Cert.OutXattnRefIdeal.τ Cert.OutXattnRefIdeal.sig) → Buf (Elt Ideal) ℓ) (g : Dev Cert.OutXattnRefIdeal.nD → PrngReg), Pre_OutXattnRefIdeal m →
    θ_run (Cert.OutXattnRefIdeal.defs (F := Ideal)) (onTc (τ := Cert.OutXattnRefIdeal.τ) (Cert.OutXattnRefIdeal.main (F := Ideal))) ⟨m, fun _ => 0, g⟩ (fun r => (∀ c : Dev Cert.OutXattnRefIdeal.nD,
      r.2.mem ((c.tc : Thread Cert.OutXattnRefIdeal.nD Cert.OutXattnRefIdeal.τ).loc Cert.OutXattnRefIdeal.main_arg0) = m ((c.tc : Thread Cert.OutXattnRefIdeal.nD Cert.OutXattnRefIdeal.τ).loc Cert.OutXattnRefIdeal.main_arg0)
      ∧ r.2.mem ((c.tc : Thread Cert.OutXattnRefIdeal.nD Cert.OutXattnRefIdeal.τ).loc Cert.OutXattnRefIdeal.main_arg1) = m ((c.tc : Thread Cert.OutXattnRefIdeal.nD Cert.OutXattnRefIdeal.τ).loc Cert.OutXattnRefIdeal.main_arg1)
      ∧ r.2.mem ((c.tc : Thread Cert.OutXattnRefIdeal.nD Cert.OutXattnRefIdeal.τ).loc Cert.OutXattnRefIdeal.main_arg2) = m ((c.tc : Thread Cert.OutXattnRefIdeal.nD Cert.OutXattnRefIdeal.τ).loc Cert.OutXattnRefIdeal.main_arg2)
      ∧ r.2.mem ((c.tc : Thread Cert.OutXattnRefIdeal.nD Cert.OutXattnRefIdeal.τ).loc Cert.OutXattnRefIdeal.main_arg3) = m ((c.tc : Thread Cert.OutXattnRefIdeal.nD Cert.OutXattnRefIdeal.τ).loc Cert.OutXattnRefIdeal.main_arg3)
      ∧ r.2.mem ((c.tc : Thread Cert.OutXattnRefIdeal.nD Cert.OutXattnRefIdeal.τ).loc Cert.OutXattnRefIdeal.main_arg4) = m ((c.tc : Thread Cert.OutXattnRefIdeal.nD Cert.OutXattnRefIdeal.τ).loc Cert.OutXattnRefIdeal.main_arg4)
      ∧ r.2.mem ((c.tc : Thread Cert.OutXattnRefIdeal.nD Cert.OutXattnRefIdeal.τ).loc Cert.OutXattnRefIdeal.main_arg5) = m ((c.tc : Thread Cert.OutXattnRefIdeal.nD Cert.OutXattnRefIdeal.τ).loc Cert.OutXattnRefIdeal.main_arg5)
      ∧ r.2.mem ((c.tc : Thread Cert.OutXattnRefIdeal.nD Cert.OutXattnRefIdeal.τ).loc Cert.OutXattnRefIdeal.main_arg6) = m ((c.tc : Thread Cert.OutXattnRefIdeal.nD Cert.OutXattnRefIdeal.τ).loc Cert.OutXattnRefIdeal.main_arg6)
      ∧ r.2.mem ((c.tc : Thread Cert.OutXattnRefIdeal.nD Cert.OutXattnRefIdeal.τ).loc Cert.OutXattnRefIdeal.main_arg7) = m ((c.tc : Thread Cert.OutXattnRefIdeal.nD Cert.OutXattnRefIdeal.τ).loc Cert.OutXattnRefIdeal.main_arg7)
      ∧ r.2.mem ((c.tc : Thread Cert.OutXattnRefIdeal.nD Cert.OutXattnRefIdeal.τ).loc Cert.OutXattnRefIdeal.main_arg8) = m ((c.tc : Thread Cert.OutXattnRefIdeal.nD Cert.OutXattnRefIdeal.τ).loc Cert.OutXattnRefIdeal.main_arg8)
      ∧ r.2.mem ((c.tc : Thread Cert.OutXattnRefIdeal.nD Cert.OutXattnRefIdeal.τ).loc Cert.OutXattnRefIdeal.main_arg9) = m ((c.tc : Thread Cert.OutXattnRefIdeal.nD Cert.OutXattnRefIdeal.τ).loc Cert.OutXattnRefIdeal.main_arg9))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1))
      ∧ r.2.sem = fun _ => 0)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1))
      ∧ r.2.sem = fun _ => 0)

def quiescent_MemBwdRefIdeal [hMemBwdRefIdeal : Cert.MemBwdRefIdeal.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1))
      ∧ r.2.sem = fun _ => 0)

def quiescent_MemSum [hMemSum : Cert.MemSum.Facts] : Prop :=
  ∀ (m : (ℓ : Loc Cert.MemSum.nD Cert.MemSum.τ Cert.MemSum.sig) → Buf (Elt Bits) ℓ) (g : Dev Cert.MemSum.nD → PrngReg), Pre_MemSum m →
    θ_run (Cert.MemSum.defs (F := Bits)) (onTc (τ := Cert.MemSum.τ) (Cert.MemSum.main (F := Bits))) ⟨m, fun _ => 0, g⟩ (fun r => (∀ c : Dev Cert.MemSum.nD,
      r.2.mem ((c.tc : Thread Cert.MemSum.nD Cert.MemSum.τ).loc Cert.MemSum.main_arg0) = m ((c.tc : Thread Cert.MemSum.nD Cert.MemSum.τ).loc Cert.MemSum.main_arg0)
      ∧ r.2.mem ((c.tc : Thread Cert.MemSum.nD Cert.MemSum.τ).loc Cert.MemSum.main_arg1) = m ((c.tc : Thread Cert.MemSum.nD Cert.MemSum.τ).loc Cert.MemSum.main_arg1)
      ∧ r.2.mem ((c.tc : Thread Cert.MemSum.nD Cert.MemSum.τ).loc Cert.MemSum.main_arg2) = m ((c.tc : Thread Cert.MemSum.nD Cert.MemSum.τ).loc Cert.MemSum.main_arg2))
      ∧ r.2.sem = fun _ => 0)

def quiescent_MemSumIdeal [hMemSumIdeal : Cert.MemSumIdeal.Facts] : Prop :=
  ∀ (m : (ℓ : Loc Cert.MemSumIdeal.nD Cert.MemSumIdeal.τ Cert.MemSumIdeal.sig) → Buf (Elt Ideal) ℓ) (g : Dev Cert.MemSumIdeal.nD → PrngReg), Pre_MemSumIdeal m →
    θ_run (Cert.MemSumIdeal.defs (F := Ideal)) (onTc (τ := Cert.MemSumIdeal.τ) (Cert.MemSumIdeal.main (F := Ideal))) ⟨m, fun _ => 0, g⟩ (fun r => (∀ c : Dev Cert.MemSumIdeal.nD,
      r.2.mem ((c.tc : Thread Cert.MemSumIdeal.nD Cert.MemSumIdeal.τ).loc Cert.MemSumIdeal.main_arg0) = m ((c.tc : Thread Cert.MemSumIdeal.nD Cert.MemSumIdeal.τ).loc Cert.MemSumIdeal.main_arg0)
      ∧ r.2.mem ((c.tc : Thread Cert.MemSumIdeal.nD Cert.MemSumIdeal.τ).loc Cert.MemSumIdeal.main_arg1) = m ((c.tc : Thread Cert.MemSumIdeal.nD Cert.MemSumIdeal.τ).loc Cert.MemSumIdeal.main_arg1)
      ∧ r.2.mem ((c.tc : Thread Cert.MemSumIdeal.nD Cert.MemSumIdeal.τ).loc Cert.MemSumIdeal.main_arg2) = m ((c.tc : Thread Cert.MemSumIdeal.nD Cert.MemSumIdeal.τ).loc Cert.MemSumIdeal.main_arg2))
      ∧ r.2.sem = fun _ => 0)

def quiescent_MemSumRefIdeal [hMemSumRefIdeal : Cert.MemSumRefIdeal.Facts] : Prop :=
  ∀ (m : (ℓ : Loc Cert.MemSumRefIdeal.nD Cert.MemSumRefIdeal.τ Cert.MemSumRefIdeal.sig) → Buf (Elt Ideal) ℓ) (g : Dev Cert.MemSumRefIdeal.nD → PrngReg), Pre_MemSumRefIdeal m →
    θ_run (Cert.MemSumRefIdeal.defs (F := Ideal)) (onTc (τ := Cert.MemSumRefIdeal.τ) (Cert.MemSumRefIdeal.main (F := Ideal))) ⟨m, fun _ => 0, g⟩ (fun r => (∀ c : Dev Cert.MemSumRefIdeal.nD,
      r.2.mem ((c.tc : Thread Cert.MemSumRefIdeal.nD Cert.MemSumRefIdeal.τ).loc Cert.MemSumRefIdeal.main_arg0) = m ((c.tc : Thread Cert.MemSumRefIdeal.nD Cert.MemSumRefIdeal.τ).loc Cert.MemSumRefIdeal.main_arg0)
      ∧ r.2.mem ((c.tc : Thread Cert.MemSumRefIdeal.nD Cert.MemSumRefIdeal.τ).loc Cert.MemSumRefIdeal.main_arg1) = m ((c.tc : Thread Cert.MemSumRefIdeal.nD Cert.MemSumRefIdeal.τ).loc Cert.MemSumRefIdeal.main_arg1)
      ∧ r.2.mem ((c.tc : Thread Cert.MemSumRefIdeal.nD Cert.MemSumRefIdeal.τ).loc Cert.MemSumRefIdeal.main_arg2) = m ((c.tc : Thread Cert.MemSumRefIdeal.nD Cert.MemSumRefIdeal.τ).loc Cert.MemSumRefIdeal.main_arg2))
      ∧ r.2.sem = fun _ => 0)

def quiescent_GradMem [hGradMem : Cert.GradMem.Facts] : Prop :=
  ∀ (m : (ℓ : Loc Cert.GradMem.nD Cert.GradMem.τ Cert.GradMem.sig) → Buf (Elt Bits) ℓ) (g : Dev Cert.GradMem.nD → PrngReg), Pre_GradMem m →
    θ_run (Cert.GradMem.defs (F := Bits)) (onTc (τ := Cert.GradMem.τ) (Cert.GradMem.main (F := Bits))) ⟨m, fun _ => 0, g⟩ (fun r => (∀ c : Dev Cert.GradMem.nD,
      r.2.mem ((c.tc : Thread Cert.GradMem.nD Cert.GradMem.τ).loc Cert.GradMem.main_arg0) = m ((c.tc : Thread Cert.GradMem.nD Cert.GradMem.τ).loc Cert.GradMem.main_arg0)
      ∧ r.2.mem ((c.tc : Thread Cert.GradMem.nD Cert.GradMem.τ).loc Cert.GradMem.main_arg1) = m ((c.tc : Thread Cert.GradMem.nD Cert.GradMem.τ).loc Cert.GradMem.main_arg1))
      ∧ r.2.sem = fun _ => 0)

def quiescent_GradMemIdeal [hGradMemIdeal : Cert.GradMemIdeal.Facts] : Prop :=
  ∀ (m : (ℓ : Loc Cert.GradMemIdeal.nD Cert.GradMemIdeal.τ Cert.GradMemIdeal.sig) → Buf (Elt Ideal) ℓ) (g : Dev Cert.GradMemIdeal.nD → PrngReg), Pre_GradMemIdeal m →
    θ_run (Cert.GradMemIdeal.defs (F := Ideal)) (onTc (τ := Cert.GradMemIdeal.τ) (Cert.GradMemIdeal.main (F := Ideal))) ⟨m, fun _ => 0, g⟩ (fun r => (∀ c : Dev Cert.GradMemIdeal.nD,
      r.2.mem ((c.tc : Thread Cert.GradMemIdeal.nD Cert.GradMemIdeal.τ).loc Cert.GradMemIdeal.main_arg0) = m ((c.tc : Thread Cert.GradMemIdeal.nD Cert.GradMemIdeal.τ).loc Cert.GradMemIdeal.main_arg0)
      ∧ r.2.mem ((c.tc : Thread Cert.GradMemIdeal.nD Cert.GradMemIdeal.τ).loc Cert.GradMemIdeal.main_arg1) = m ((c.tc : Thread Cert.GradMemIdeal.nD Cert.GradMemIdeal.τ).loc Cert.GradMemIdeal.main_arg1))
      ∧ r.2.sem = fun _ => 0)

def quiescent_GradMemRefIdeal [hGradMemRefIdeal : Cert.GradMemRefIdeal.Facts] : Prop :=
  ∀ (m : (ℓ : Loc Cert.GradMemRefIdeal.nD Cert.GradMemRefIdeal.τ Cert.GradMemRefIdeal.sig) → Buf (Elt Ideal) ℓ) (g : Dev Cert.GradMemRefIdeal.nD → PrngReg), Pre_GradMemRefIdeal m →
    θ_run (Cert.GradMemRefIdeal.defs (F := Ideal)) (onTc (τ := Cert.GradMemRefIdeal.τ) (Cert.GradMemRefIdeal.main (F := Ideal))) ⟨m, fun _ => 0, g⟩ (fun r => (∀ c : Dev Cert.GradMemRefIdeal.nD,
      r.2.mem ((c.tc : Thread Cert.GradMemRefIdeal.nD Cert.GradMemRefIdeal.τ).loc Cert.GradMemRefIdeal.main_arg0) = m ((c.tc : Thread Cert.GradMemRefIdeal.nD Cert.GradMemRefIdeal.τ).loc Cert.GradMemRefIdeal.main_arg0)
      ∧ r.2.mem ((c.tc : Thread Cert.GradMemRefIdeal.nD Cert.GradMemRefIdeal.τ).loc Cert.GradMemRefIdeal.main_arg1) = m ((c.tc : Thread Cert.GradMemRefIdeal.nD Cert.GradMemRefIdeal.τ).loc Cert.GradMemRefIdeal.main_arg1))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_GradGateRefIdeal [hGradGateRefIdeal : Cert.GradGateRefIdeal.Facts] : Prop :=
  ∀ (m : (ℓ : Loc Cert.GradGateRefIdeal.nD Cert.GradGateRefIdeal.τ Cert.GradGateRefIdeal.sig) → Buf (Elt Ideal) ℓ) (g : Dev Cert.GradGateRefIdeal.nD → PrngReg), Pre_GradGateRefIdeal m →
    θ_run (Cert.GradGateRefIdeal.defs (F := Ideal)) (onTc (τ := Cert.GradGateRefIdeal.τ) (Cert.GradGateRefIdeal.main (F := Ideal))) ⟨m, fun _ => 0, g⟩ (fun r => (∀ c : Dev Cert.GradGateRefIdeal.nD,
      r.2.mem ((c.tc : Thread Cert.GradGateRefIdeal.nD Cert.GradGateRefIdeal.τ).loc Cert.GradGateRefIdeal.main_arg0) = m ((c.tc : Thread Cert.GradGateRefIdeal.nD Cert.GradGateRefIdeal.τ).loc Cert.GradGateRefIdeal.main_arg0)
      ∧ r.2.mem ((c.tc : Thread Cert.GradGateRefIdeal.nD Cert.GradGateRefIdeal.τ).loc Cert.GradGateRefIdeal.main_arg1) = m ((c.tc : Thread Cert.GradGateRefIdeal.nD Cert.GradGateRefIdeal.τ).loc Cert.GradGateRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1))
      ∧ r.2.sem = fun _ => 0)

def quiescent_NormMemBwd [hNormMemBwd : Cert.NormMemBwd.Facts] : Prop :=
  ∀ (m : (ℓ : Loc Cert.NormMemBwd.nD Cert.NormMemBwd.τ Cert.NormMemBwd.sig) → Buf (Elt Bits) ℓ) (g : Dev Cert.NormMemBwd.nD → PrngReg), Pre_NormMemBwd m →
    θ_run (Cert.NormMemBwd.defs (F := Bits)) (onTc (τ := Cert.NormMemBwd.τ) (Cert.NormMemBwd.main (F := Bits))) ⟨m, fun _ => 0, g⟩ (fun r => (∀ c : Dev Cert.NormMemBwd.nD,
      r.2.mem ((c.tc : Thread Cert.NormMemBwd.nD Cert.NormMemBwd.τ).loc Cert.NormMemBwd.main_arg0) = m ((c.tc : Thread Cert.NormMemBwd.nD Cert.NormMemBwd.τ).loc Cert.NormMemBwd.main_arg0)
      ∧ r.2.mem ((c.tc : Thread Cert.NormMemBwd.nD Cert.NormMemBwd.τ).loc Cert.NormMemBwd.main_arg1) = m ((c.tc : Thread Cert.NormMemBwd.nD Cert.NormMemBwd.τ).loc Cert.NormMemBwd.main_arg1)
      ∧ r.2.mem ((c.tc : Thread Cert.NormMemBwd.nD Cert.NormMemBwd.τ).loc Cert.NormMemBwd.main_arg2) = m ((c.tc : Thread Cert.NormMemBwd.nD Cert.NormMemBwd.τ).loc Cert.NormMemBwd.main_arg2))
      ∧ r.2.sem = fun _ => 0)

def quiescent_NormMemBwdIdeal [hNormMemBwdIdeal : Cert.NormMemBwdIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg), Pre_NormMemBwdIdeal m →
    θ_run (Cert.NormMemBwdIdeal.defs (F := Ideal)) (onTc (τ := Cert.NormMemBwdIdeal.τ) (Cert.NormMemBwdIdeal.main (F := Ideal))) ⟨m, fun _ => 0, g⟩ (fun r => (∀ c : Dev Cert.NormMemBwdIdeal.nD,
      r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
      ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
      ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ r.2.sem = fun _ => 0)

def quiescent_NormMemBwdRefIdeal [hNormMemBwdRefIdeal : Cert.NormMemBwdRefIdeal.Facts] : Prop :=
  ∀ (m : (ℓ : Loc Cert.NormMemBwdRefIdeal.nD Cert.NormMemBwdRefIdeal.τ Cert.NormMemBwdRefIdeal.sig) → Buf (Elt Ideal) ℓ) (g : Dev Cert.NormMemBwdRefIdeal.nD → PrngReg), Pre_NormMemBwdRefIdeal m →
    θ_run (Cert.NormMemBwdRefIdeal.defs (F := Ideal)) (onTc (τ := Cert.NormMemBwdRefIdeal.τ) (Cert.NormMemBwdRefIdeal.main (F := Ideal))) ⟨m, fun _ => 0, g⟩ (fun r => (∀ c : Dev Cert.NormMemBwdRefIdeal.nD,
      r.2.mem ((c.tc : Thread Cert.NormMemBwdRefIdeal.nD Cert.NormMemBwdRefIdeal.τ).loc Cert.NormMemBwdRefIdeal.main_arg0) = m ((c.tc : Thread Cert.NormMemBwdRefIdeal.nD Cert.NormMemBwdRefIdeal.τ).loc Cert.NormMemBwdRefIdeal.main_arg0)
      ∧ r.2.mem ((c.tc : Thread Cert.NormMemBwdRefIdeal.nD Cert.NormMemBwdRefIdeal.τ).loc Cert.NormMemBwdRefIdeal.main_arg1) = m ((c.tc : Thread Cert.NormMemBwdRefIdeal.nD Cert.NormMemBwdRefIdeal.τ).loc Cert.NormMemBwdRefIdeal.main_arg1)
      ∧ r.2.mem ((c.tc : Thread Cert.NormMemBwdRefIdeal.nD Cert.NormMemBwdRefIdeal.τ).loc Cert.NormMemBwdRefIdeal.main_arg2) = m ((c.tc : Thread Cert.NormMemBwdRefIdeal.nD Cert.NormMemBwdRefIdeal.τ).loc Cert.NormMemBwdRefIdeal.main_arg2))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3))
      ∧ r.2.sem = fun _ => 0)

def quiescent_AdamMid [hAdamMid : Cert.AdamMid.Facts] : Prop :=
  ∀ (m : (ℓ : Loc Cert.AdamMid.nD Cert.AdamMid.τ Cert.AdamMid.sig) → Buf (Elt Bits) ℓ) (g : Dev Cert.AdamMid.nD → PrngReg), Pre_AdamMid m →
    θ_run (Cert.AdamMid.defs (F := Bits)) (onTc (τ := Cert.AdamMid.τ) (Cert.AdamMid.main (F := Bits))) ⟨m, fun _ => 0, g⟩ (fun r => (∀ c : Dev Cert.AdamMid.nD,
      r.2.mem ((c.tc : Thread Cert.AdamMid.nD Cert.AdamMid.τ).loc Cert.AdamMid.main_arg0) = m ((c.tc : Thread Cert.AdamMid.nD Cert.AdamMid.τ).loc Cert.AdamMid.main_arg0)
      ∧ r.2.mem ((c.tc : Thread Cert.AdamMid.nD Cert.AdamMid.τ).loc Cert.AdamMid.main_arg1) = m ((c.tc : Thread Cert.AdamMid.nD Cert.AdamMid.τ).loc Cert.AdamMid.main_arg1)
      ∧ r.2.mem ((c.tc : Thread Cert.AdamMid.nD Cert.AdamMid.τ).loc Cert.AdamMid.main_arg2) = m ((c.tc : Thread Cert.AdamMid.nD Cert.AdamMid.τ).loc Cert.AdamMid.main_arg2)
      ∧ r.2.mem ((c.tc : Thread Cert.AdamMid.nD Cert.AdamMid.τ).loc Cert.AdamMid.main_arg3) = m ((c.tc : Thread Cert.AdamMid.nD Cert.AdamMid.τ).loc Cert.AdamMid.main_arg3))
      ∧ r.2.sem = fun _ => 0)

def quiescent_AdamMidIdeal [hAdamMidIdeal : Cert.AdamMidIdeal.Facts] : Prop :=
  ∀ (m : (ℓ : Loc Cert.AdamMidIdeal.nD Cert.AdamMidIdeal.τ Cert.AdamMidIdeal.sig) → Buf (Elt Ideal) ℓ) (g : Dev Cert.AdamMidIdeal.nD → PrngReg), Pre_AdamMidIdeal m →
    θ_run (Cert.AdamMidIdeal.defs (F := Ideal)) (onTc (τ := Cert.AdamMidIdeal.τ) (Cert.AdamMidIdeal.main (F := Ideal))) ⟨m, fun _ => 0, g⟩ (fun r => (∀ c : Dev Cert.AdamMidIdeal.nD,
      r.2.mem ((c.tc : Thread Cert.AdamMidIdeal.nD Cert.AdamMidIdeal.τ).loc Cert.AdamMidIdeal.main_arg0) = m ((c.tc : Thread Cert.AdamMidIdeal.nD Cert.AdamMidIdeal.τ).loc Cert.AdamMidIdeal.main_arg0)
      ∧ r.2.mem ((c.tc : Thread Cert.AdamMidIdeal.nD Cert.AdamMidIdeal.τ).loc Cert.AdamMidIdeal.main_arg1) = m ((c.tc : Thread Cert.AdamMidIdeal.nD Cert.AdamMidIdeal.τ).loc Cert.AdamMidIdeal.main_arg1)
      ∧ r.2.mem ((c.tc : Thread Cert.AdamMidIdeal.nD Cert.AdamMidIdeal.τ).loc Cert.AdamMidIdeal.main_arg2) = m ((c.tc : Thread Cert.AdamMidIdeal.nD Cert.AdamMidIdeal.τ).loc Cert.AdamMidIdeal.main_arg2)
      ∧ r.2.mem ((c.tc : Thread Cert.AdamMidIdeal.nD Cert.AdamMidIdeal.τ).loc Cert.AdamMidIdeal.main_arg3) = m ((c.tc : Thread Cert.AdamMidIdeal.nD Cert.AdamMidIdeal.τ).loc Cert.AdamMidIdeal.main_arg3))
      ∧ r.2.sem = fun _ => 0)

def quiescent_AdamMidRefIdeal [hAdamMidRefIdeal : Cert.AdamMidRefIdeal.Facts] : Prop :=
  ∀ (m : (ℓ : Loc Cert.AdamMidRefIdeal.nD Cert.AdamMidRefIdeal.τ Cert.AdamMidRefIdeal.sig) → Buf (Elt Ideal) ℓ) (g : Dev Cert.AdamMidRefIdeal.nD → PrngReg), Pre_AdamMidRefIdeal m →
    θ_run (Cert.AdamMidRefIdeal.defs (F := Ideal)) (onTc (τ := Cert.AdamMidRefIdeal.τ) (Cert.AdamMidRefIdeal.main (F := Ideal))) ⟨m, fun _ => 0, g⟩ (fun r => (∀ c : Dev Cert.AdamMidRefIdeal.nD,
      r.2.mem ((c.tc : Thread Cert.AdamMidRefIdeal.nD Cert.AdamMidRefIdeal.τ).loc Cert.AdamMidRefIdeal.main_arg0) = m ((c.tc : Thread Cert.AdamMidRefIdeal.nD Cert.AdamMidRefIdeal.τ).loc Cert.AdamMidRefIdeal.main_arg0)
      ∧ r.2.mem ((c.tc : Thread Cert.AdamMidRefIdeal.nD Cert.AdamMidRefIdeal.τ).loc Cert.AdamMidRefIdeal.main_arg1) = m ((c.tc : Thread Cert.AdamMidRefIdeal.nD Cert.AdamMidRefIdeal.τ).loc Cert.AdamMidRefIdeal.main_arg1)
      ∧ r.2.mem ((c.tc : Thread Cert.AdamMidRefIdeal.nD Cert.AdamMidRefIdeal.τ).loc Cert.AdamMidRefIdeal.main_arg2) = m ((c.tc : Thread Cert.AdamMidRefIdeal.nD Cert.AdamMidRefIdeal.τ).loc Cert.AdamMidRefIdeal.main_arg2)
      ∧ r.2.mem ((c.tc : Thread Cert.AdamMidRefIdeal.nD Cert.AdamMidRefIdeal.τ).loc Cert.AdamMidRefIdeal.main_arg3) = m ((c.tc : Thread Cert.AdamMidRefIdeal.nD Cert.AdamMidRefIdeal.τ).loc Cert.AdamMidRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamVectors [hAdamVectors : Cert.AdamVectors.Facts] : Prop :=
  ∀ (m : (ℓ : Loc Cert.AdamVectors.nD Cert.AdamVectors.τ Cert.AdamVectors.sig) → Buf (Elt Bits) ℓ) (g : Dev Cert.AdamVectors.nD → PrngReg), Pre_AdamVectors m →
    θ_run (Cert.AdamVectors.defs (F := Bits)) (onTc (τ := Cert.AdamVectors.τ) (Cert.AdamVectors.main (F := Bits))) ⟨m, fun _ => 0, g⟩ (fun r => (∀ c : Dev Cert.AdamVectors.nD,
      r.2.mem ((c.tc : Thread Cert.AdamVectors.nD Cert.AdamVectors.τ).loc Cert.AdamVectors.main_arg0) = m ((c.tc : Thread Cert.AdamVectors.nD Cert.AdamVectors.τ).loc Cert.AdamVectors.main_arg0)
      ∧ r.2.mem ((c.tc : Thread Cert.AdamVectors.nD Cert.AdamVectors.τ).loc Cert.AdamVectors.main_arg1) = m ((c.tc : Thread Cert.AdamVectors.nD Cert.AdamVectors.τ).loc Cert.AdamVectors.main_arg1)
      ∧ r.2.mem ((c.tc : Thread Cert.AdamVectors.nD Cert.AdamVectors.τ).loc Cert.AdamVectors.main_arg2) = m ((c.tc : Thread Cert.AdamVectors.nD Cert.AdamVectors.τ).loc Cert.AdamVectors.main_arg2)
      ∧ r.2.mem ((c.tc : Thread Cert.AdamVectors.nD Cert.AdamVectors.τ).loc Cert.AdamVectors.main_arg3) = m ((c.tc : Thread Cert.AdamVectors.nD Cert.AdamVectors.τ).loc Cert.AdamVectors.main_arg3))
      ∧ r.2.sem = fun _ => 0)

def quiescent_AdamVectorsIdeal [hAdamVectorsIdeal : Cert.AdamVectorsIdeal.Facts] : Prop :=
  ∀ (m : (ℓ : Loc Cert.AdamVectorsIdeal.nD Cert.AdamVectorsIdeal.τ Cert.AdamVectorsIdeal.sig) → Buf (Elt Ideal) ℓ) (g : Dev Cert.AdamVectorsIdeal.nD → PrngReg), Pre_AdamVectorsIdeal m →
    θ_run (Cert.AdamVectorsIdeal.defs (F := Ideal)) (onTc (τ := Cert.AdamVectorsIdeal.τ) (Cert.AdamVectorsIdeal.main (F := Ideal))) ⟨m, fun _ => 0, g⟩ (fun r => (∀ c : Dev Cert.AdamVectorsIdeal.nD,
      r.2.mem ((c.tc : Thread Cert.AdamVectorsIdeal.nD Cert.AdamVectorsIdeal.τ).loc Cert.AdamVectorsIdeal.main_arg0) = m ((c.tc : Thread Cert.AdamVectorsIdeal.nD Cert.AdamVectorsIdeal.τ).loc Cert.AdamVectorsIdeal.main_arg0)
      ∧ r.2.mem ((c.tc : Thread Cert.AdamVectorsIdeal.nD Cert.AdamVectorsIdeal.τ).loc Cert.AdamVectorsIdeal.main_arg1) = m ((c.tc : Thread Cert.AdamVectorsIdeal.nD Cert.AdamVectorsIdeal.τ).loc Cert.AdamVectorsIdeal.main_arg1)
      ∧ r.2.mem ((c.tc : Thread Cert.AdamVectorsIdeal.nD Cert.AdamVectorsIdeal.τ).loc Cert.AdamVectorsIdeal.main_arg2) = m ((c.tc : Thread Cert.AdamVectorsIdeal.nD Cert.AdamVectorsIdeal.τ).loc Cert.AdamVectorsIdeal.main_arg2)
      ∧ r.2.mem ((c.tc : Thread Cert.AdamVectorsIdeal.nD Cert.AdamVectorsIdeal.τ).loc Cert.AdamVectorsIdeal.main_arg3) = m ((c.tc : Thread Cert.AdamVectorsIdeal.nD Cert.AdamVectorsIdeal.τ).loc Cert.AdamVectorsIdeal.main_arg3))
      ∧ r.2.sem = fun _ => 0)

def quiescent_AdamVectorsRefIdeal [hAdamVectorsRefIdeal : Cert.AdamVectorsRefIdeal.Facts] : Prop :=
  ∀ (m : (ℓ : Loc Cert.AdamVectorsRefIdeal.nD Cert.AdamVectorsRefIdeal.τ Cert.AdamVectorsRefIdeal.sig) → Buf (Elt Ideal) ℓ) (g : Dev Cert.AdamVectorsRefIdeal.nD → PrngReg), Pre_AdamVectorsRefIdeal m →
    θ_run (Cert.AdamVectorsRefIdeal.defs (F := Ideal)) (onTc (τ := Cert.AdamVectorsRefIdeal.τ) (Cert.AdamVectorsRefIdeal.main (F := Ideal))) ⟨m, fun _ => 0, g⟩ (fun r => (∀ c : Dev Cert.AdamVectorsRefIdeal.nD,
      r.2.mem ((c.tc : Thread Cert.AdamVectorsRefIdeal.nD Cert.AdamVectorsRefIdeal.τ).loc Cert.AdamVectorsRefIdeal.main_arg0) = m ((c.tc : Thread Cert.AdamVectorsRefIdeal.nD Cert.AdamVectorsRefIdeal.τ).loc Cert.AdamVectorsRefIdeal.main_arg0)
      ∧ r.2.mem ((c.tc : Thread Cert.AdamVectorsRefIdeal.nD Cert.AdamVectorsRefIdeal.τ).loc Cert.AdamVectorsRefIdeal.main_arg1) = m ((c.tc : Thread Cert.AdamVectorsRefIdeal.nD Cert.AdamVectorsRefIdeal.τ).loc Cert.AdamVectorsRefIdeal.main_arg1)
      ∧ r.2.mem ((c.tc : Thread Cert.AdamVectorsRefIdeal.nD Cert.AdamVectorsRefIdeal.τ).loc Cert.AdamVectorsRefIdeal.main_arg2) = m ((c.tc : Thread Cert.AdamVectorsRefIdeal.nD Cert.AdamVectorsRefIdeal.τ).loc Cert.AdamVectorsRefIdeal.main_arg2)
      ∧ r.2.mem ((c.tc : Thread Cert.AdamVectorsRefIdeal.nD Cert.AdamVectorsRefIdeal.τ).loc Cert.AdamVectorsRefIdeal.main_arg3) = m ((c.tc : Thread Cert.AdamVectorsRefIdeal.nD Cert.AdamVectorsRefIdeal.τ).loc Cert.AdamVectorsRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v4) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)) →
    ∃ (v0 : (c : Dev Cert.DownBwdIdeal.nD) → Buf (Elt Ideal) ((c.tc : Thread Cert.DownBwdIdeal.nD Cert.DownBwdIdeal.τ).loc Cert.DownBwdIdeal.main_v3)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v3) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v12) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v2)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v2) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v3) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)
      ∧ m' ((c.tc : Thread Cert.GradDownRefIdeal.nD Cert.GradDownRefIdeal.τ).loc Cert.GradDownRefIdeal.main_arg2) = m ((c.tc : Thread Cert.GradDownIdeal.nD Cert.GradDownIdeal.τ).loc Cert.GradDownIdeal.main_arg2)) →
    ∃ (v0 : (c : Dev Cert.GradDownIdeal.nD) → Buf (Elt Ideal) ((c.tc : Thread Cert.GradDownIdeal.nD Cert.GradDownIdeal.τ).loc Cert.GradDownIdeal.main_v2)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v2) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1)
          ∧ r.2.mem ((c.tc : Thread Cert.GradDownIdeal.nD Cert.GradDownIdeal.τ).loc Cert.GradDownIdeal.main_arg2) = m ((c.tc : Thread Cert.GradDownIdeal.nD Cert.GradDownIdeal.τ).loc Cert.GradDownIdeal.main_arg2))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v6) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1)
          ∧ r.2.mem ((c.tc : Thread Cert.GradDownRefIdeal.nD Cert.GradDownRefIdeal.τ).loc Cert.GradDownRefIdeal.main_arg2) = m' ((c.tc : Thread Cert.GradDownRefIdeal.nD Cert.GradDownRefIdeal.τ).loc Cert.GradDownRefIdeal.main_arg2))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)) →
    ∃ (v0 : (c : Dev Cert.UpBwdIdeal.nD) → Buf (Elt Ideal) ((c.tc : Thread Cert.UpBwdIdeal.nD Cert.UpBwdIdeal.τ).loc Cert.UpBwdIdeal.main_v3_0)) (v1 : (c : Dev Cert.UpBwdIdeal.nD) → Buf (Elt Ideal) ((c.tc : Thread Cert.UpBwdIdeal.nD Cert.UpBwdIdeal.τ).loc Cert.UpBwdIdeal.main_v3_1)) (v2 : (c : Dev Cert.UpBwdIdeal.nD) → Buf (Elt Ideal) ((c.tc : Thread Cert.UpBwdIdeal.nD Cert.UpBwdIdeal.τ).loc Cert.UpBwdIdeal.main_v3_2)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v3_0) = v0 c
          ∧ r.2.mem ((c.tc : Thread Cert.UpBwdIdeal.nD Cert.UpBwdIdeal.τ).loc Cert.UpBwdIdeal.main_v3_1) = v1 c
          ∧ r.2.mem ((c.tc : Thread Cert.UpBwdIdeal.nD Cert.UpBwdIdeal.τ).loc Cert.UpBwdIdeal.main_v3_2) = v2 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v38) = v0 c
          ∧ r.2.mem ((c.tc : Thread Cert.UpBwdRefIdeal.nD Cert.UpBwdRefIdeal.τ).loc Cert.UpBwdRefIdeal.main_v39) = v1 c
          ∧ r.2.mem ((c.tc : Thread Cert.UpBwdRefIdeal.nD Cert.UpBwdRefIdeal.τ).loc Cert.UpBwdRefIdeal.main_v40) = v2 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v3_0)) (v1 : (c : Dev Cert.DownLossIdeal.nD) → Buf (Elt Ideal) ((c.tc : Thread Cert.DownLossIdeal.nD Cert.DownLossIdeal.τ).loc Cert.DownLossIdeal.main_v3_1)) (v2 : (c : Dev Cert.DownLossIdeal.nD) → Buf (Elt Ideal) ((c.tc : Thread Cert.DownLossIdeal.nD Cert.DownLossIdeal.τ).loc Cert.DownLossIdeal.main_v3_2)) (v3 : (c : Dev Cert.DownLossIdeal.nD) → Buf (Elt Ideal) ((c.tc : Thread Cert.DownLossIdeal.nD Cert.DownLossIdeal.τ).loc Cert.DownLossIdeal.main_v3_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v3_0) = v0 c
          ∧ r.2.mem ((c.tc : Thread Cert.DownLossIdeal.nD Cert.DownLossIdeal.τ).loc Cert.DownLossIdeal.main_v3_1) = v1 c
          ∧ r.2.mem ((c.tc : Thread Cert.DownLossIdeal.nD Cert.DownLossIdeal.τ).loc Cert.DownLossIdeal.main_v3_2) = v2 c
          ∧ r.2.mem ((c.tc : Thread Cert.DownLossIdeal.nD Cert.DownLossIdeal.τ).loc Cert.DownLossIdeal.main_v3_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v53) = v0 c
          ∧ r.2.mem ((c.tc : Thread Cert.DownLossRefIdeal.nD Cert.DownLossRefIdeal.τ).loc Cert.DownLossRefIdeal.main_v52) = v1 c
          ∧ r.2.mem ((c.tc : Thread Cert.DownLossRefIdeal.nD Cert.DownLossRefIdeal.τ).loc Cert.DownLossRefIdeal.main_v54) = v2 c
          ∧ r.2.mem ((c.tc : Thread Cert.DownLossRefIdeal.nD Cert.DownLossRefIdeal.τ).loc Cert.DownLossRefIdeal.main_v55) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_GradSquare_GradSquareIdeal : Prop :=
  True

def algebraic_GradSquareIdeal_GradSquareRefIdeal [hGradSquareIdeal : Cert.GradSquareIdeal.Facts] [hGradSquareRefIdeal : Cert.GradSquareRefIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg)
    (m' : (ℓ : Loc Cert.GradSquareRefIdeal.nD Cert.GradSquareRefIdeal.τ Cert.GradSquareRefIdeal.sig) → Buf (Elt Ideal) ℓ) (g' : Dev Cert.GradSquareRefIdeal.nD → PrngReg), Pre_GradSquareIdeal m →
    (∀ c : Dev Cert.GradSquareIdeal.nD,
      m' ((c.tc : Thread Cert.GradSquareRefIdeal.nD Cert.GradSquareRefIdeal.τ).loc Cert.GradSquareRefIdeal.main_arg0) = m ((c.tc : Thread Cert.GradSquareIdeal.nD Cert.GradSquareIdeal.τ).loc Cert.GradSquareIdeal.main_arg0)
      ∧ m' ((c.tc : Thread Cert.GradSquareRefIdeal.nD Cert.GradSquareRefIdeal.τ).loc Cert.GradSquareRefIdeal.main_arg1) = m ((c.tc : Thread Cert.GradSquareIdeal.nD Cert.GradSquareIdeal.τ).loc Cert.GradSquareIdeal.main_arg1)) →
    ∃ (v0 : (c : Dev Cert.GradSquareIdeal.nD) → Buf (Elt Ideal) ((c.tc : Thread Cert.GradSquareIdeal.nD Cert.GradSquareIdeal.τ).loc Cert.GradSquareIdeal.main_v2)),
      θ_run (Cert.GradSquareIdeal.defs (F := Ideal)) (onTc (τ := Cert.GradSquareIdeal.τ) (Cert.GradSquareIdeal.main (F := Ideal))) ⟨m, fun _ => 0, g⟩ (fun r => ∀ c : Dev Cert.GradSquareIdeal.nD,
          r.2.mem ((c.tc : Thread Cert.GradSquareIdeal.nD Cert.GradSquareIdeal.τ).loc Cert.GradSquareIdeal.main_v2) = v0 c
          ∧ r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
          ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ θ_run (Cert.GradSquareRefIdeal.defs (F := Ideal)) (onTc (τ := Cert.GradSquareRefIdeal.τ) (Cert.GradSquareRefIdeal.main (F := Ideal))) ⟨m', fun _ => 0, g'⟩ (fun r => ∀ c : Dev Cert.GradSquareRefIdeal.nD,
          r.2.mem ((c.tc : Thread Cert.GradSquareRefIdeal.nD Cert.GradSquareRefIdeal.τ).loc Cert.GradSquareRefIdeal.main_v3) = v0 c
          ∧ r.2.mem ((c.tc : Thread Cert.GradSquareRefIdeal.nD Cert.GradSquareRefIdeal.τ).loc Cert.GradSquareRefIdeal.main_arg0) = m' ((c.tc : Thread Cert.GradSquareRefIdeal.nD Cert.GradSquareRefIdeal.τ).loc Cert.GradSquareRefIdeal.main_arg0)
          ∧ r.2.mem ((c.tc : Thread Cert.GradSquareRefIdeal.nD Cert.GradSquareRefIdeal.τ).loc Cert.GradSquareRefIdeal.main_arg1) = m' ((c.tc : Thread Cert.GradSquareRefIdeal.nD Cert.GradSquareRefIdeal.τ).loc Cert.GradSquareRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v2)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v2) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v3) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v2) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v3) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)) →
    ∃ (v0 : (c : Dev Cert.InBwdIdeal.nD) → Buf (Elt Ideal) ((c.tc : Thread Cert.InBwdIdeal.nD Cert.InBwdIdeal.τ).loc Cert.InBwdIdeal.main_v5_0)) (v1 : (c : Dev Cert.InBwdIdeal.nD) → Buf (Elt Ideal) ((c.tc : Thread Cert.InBwdIdeal.nD Cert.InBwdIdeal.τ).loc Cert.InBwdIdeal.main_v5_1)) (v2 : (c : Dev Cert.InBwdIdeal.nD) → Buf (Elt Ideal) ((c.tc : Thread Cert.InBwdIdeal.nD Cert.InBwdIdeal.τ).loc Cert.InBwdIdeal.main_v5_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v5_0) = v0 c
          ∧ r.2.mem ((c.tc : Thread Cert.InBwdIdeal.nD Cert.InBwdIdeal.τ).loc Cert.InBwdIdeal.main_v5_1) = v1 c
          ∧ r.2.mem ((c.tc : Thread Cert.InBwdIdeal.nD Cert.InBwdIdeal.τ).loc Cert.InBwdIdeal.main_v5_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v41) = v0 c
          ∧ r.2.mem ((c.tc : Thread Cert.InBwdRefIdeal.nD Cert.InBwdRefIdeal.τ).loc Cert.InBwdRefIdeal.main_v42) = v1 c
          ∧ r.2.mem ((c.tc : Thread Cert.InBwdRefIdeal.nD Cert.InBwdRefIdeal.τ).loc Cert.InBwdRefIdeal.main_v43) = v2 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)) (v3 : (c : Dev Cert.InProjIdeal.nD) → Buf (Elt Ideal) ((c.tc : Thread Cert.InProjIdeal.nD Cert.InProjIdeal.τ).loc Cert.InProjIdeal.main_v2_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_v2_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_v15) = v1 c
          ∧ r.2.mem ((c.tc : Thread Cert.InProjRefIdeal.nD Cert.InProjRefIdeal.τ).loc Cert.InProjRefIdeal.main_v17) = v2 c
          ∧ r.2.mem ((c.tc : Thread Cert.InProjRefIdeal.nD Cert.InProjRefIdeal.τ).loc Cert.InProjRefIdeal.main_v18) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v5)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v5) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v3) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_OutXattn_OutXattnIdeal : Prop :=
  True

def algebraic_OutXattnIdeal_OutXattnRefIdeal [hOutXattnIdeal : Cert.OutXattnIdeal.Facts] [hOutXattnRefIdeal : Cert.OutXattnRefIdeal.Facts] : Prop :=
  ∀ (m : (ℓ : Loc Cert.OutXattnIdeal.nD Cert.OutXattnIdeal.τ Cert.OutXattnIdeal.sig) → Buf (Elt Ideal) ℓ) (g : Dev Cert.OutXattnIdeal.nD → PrngReg)
    (m' : (ℓ : Loc Cert.OutXattnRefIdeal.nD Cert.OutXattnRefIdeal.τ Cert.OutXattnRefIdeal.sig) → Buf (Elt Ideal) ℓ) (g' : Dev Cert.OutXattnRefIdeal.nD → PrngReg), Pre_OutXattnIdeal m →
    (∀ c : Dev Cert.OutXattnIdeal.nD,
      m' ((c.tc : Thread Cert.OutXattnRefIdeal.nD Cert.OutXattnRefIdeal.τ).loc Cert.OutXattnRefIdeal.main_arg0) = m ((c.tc : Thread Cert.OutXattnIdeal.nD Cert.OutXattnIdeal.τ).loc Cert.OutXattnIdeal.main_arg0)
      ∧ m' ((c.tc : Thread Cert.OutXattnRefIdeal.nD Cert.OutXattnRefIdeal.τ).loc Cert.OutXattnRefIdeal.main_arg1) = m ((c.tc : Thread Cert.OutXattnIdeal.nD Cert.OutXattnIdeal.τ).loc Cert.OutXattnIdeal.main_arg1)
      ∧ m' ((c.tc : Thread Cert.OutXattnRefIdeal.nD Cert.OutXattnRefIdeal.τ).loc Cert.OutXattnRefIdeal.main_arg2) = m ((c.tc : Thread Cert.OutXattnIdeal.nD Cert.OutXattnIdeal.τ).loc Cert.OutXattnIdeal.main_arg2)
      ∧ m' ((c.tc : Thread Cert.OutXattnRefIdeal.nD Cert.OutXattnRefIdeal.τ).loc Cert.OutXattnRefIdeal.main_arg3) = m ((c.tc : Thread Cert.OutXattnIdeal.nD Cert.OutXattnIdeal.τ).loc Cert.OutXattnIdeal.main_arg3)
      ∧ m' ((c.tc : Thread Cert.OutXattnRefIdeal.nD Cert.OutXattnRefIdeal.τ).loc Cert.OutXattnRefIdeal.main_arg4) = m ((c.tc : Thread Cert.OutXattnIdeal.nD Cert.OutXattnIdeal.τ).loc Cert.OutXattnIdeal.main_arg4)
      ∧ m' ((c.tc : Thread Cert.OutXattnRefIdeal.nD Cert.OutXattnRefIdeal.τ).loc Cert.OutXattnRefIdeal.main_arg5) = m ((c.tc : Thread Cert.OutXattnIdeal.nD Cert.OutXattnIdeal.τ).loc Cert.OutXattnIdeal.main_arg5)
      ∧ m' ((c.tc : Thread Cert.OutXattnRefIdeal.nD Cert.OutXattnRefIdeal.τ).loc Cert.OutXattnRefIdeal.main_arg6) = m ((c.tc : Thread Cert.OutXattnIdeal.nD Cert.OutXattnIdeal.τ).loc Cert.OutXattnIdeal.main_arg6)
      ∧ m' ((c.tc : Thread Cert.OutXattnRefIdeal.nD Cert.OutXattnRefIdeal.τ).loc Cert.OutXattnRefIdeal.main_arg7) = m ((c.tc : Thread Cert.OutXattnIdeal.nD Cert.OutXattnIdeal.τ).loc Cert.OutXattnIdeal.main_arg7)
      ∧ m' ((c.tc : Thread Cert.OutXattnRefIdeal.nD Cert.OutXattnRefIdeal.τ).loc Cert.OutXattnRefIdeal.main_arg8) = m ((c.tc : Thread Cert.OutXattnIdeal.nD Cert.OutXattnIdeal.τ).loc Cert.OutXattnIdeal.main_arg8)
      ∧ m' ((c.tc : Thread Cert.OutXattnRefIdeal.nD Cert.OutXattnRefIdeal.τ).loc Cert.OutXattnRefIdeal.main_arg9) = m ((c.tc : Thread Cert.OutXattnIdeal.nD Cert.OutXattnIdeal.τ).loc Cert.OutXattnIdeal.main_arg9)) →
    ∃ (v0 : (c : Dev Cert.OutXattnIdeal.nD) → Buf (Elt Ideal) ((c.tc : Thread Cert.OutXattnIdeal.nD Cert.OutXattnIdeal.τ).loc Cert.OutXattnIdeal.main_v11_0)) (v1 : (c : Dev Cert.OutXattnIdeal.nD) → Buf (Elt Ideal) ((c.tc : Thread Cert.OutXattnIdeal.nD Cert.OutXattnIdeal.τ).loc Cert.OutXattnIdeal.main_v11_1)) (v2 : (c : Dev Cert.OutXattnIdeal.nD) → Buf (Elt Ideal) ((c.tc : Thread Cert.OutXattnIdeal.nD Cert.OutXattnIdeal.τ).loc Cert.OutXattnIdeal.main_v11_2)) (v3 : (c : Dev Cert.OutXattnIdeal.nD) → Buf (Elt Ideal) ((c.tc : Thread Cert.OutXattnIdeal.nD Cert.OutXattnIdeal.τ).loc Cert.OutXattnIdeal.main_v11_3)) (v4 : (c : Dev Cert.OutXattnIdeal.nD) → Buf (Elt Ideal) ((c.tc : Thread Cert.OutXattnIdeal.nD Cert.OutXattnIdeal.τ).loc Cert.OutXattnIdeal.main_v11_4)) (v5 : (c : Dev Cert.OutXattnIdeal.nD) → Buf (Elt Ideal) ((c.tc : Thread Cert.OutXattnIdeal.nD Cert.OutXattnIdeal.τ).loc Cert.OutXattnIdeal.main_v11_5)),
      θ_run (Cert.OutXattnIdeal.defs (F := Ideal)) (onTc (τ := Cert.OutXattnIdeal.τ) (Cert.OutXattnIdeal.main (F := Ideal))) ⟨m, fun _ => 0, g⟩ (fun r => ∀ c : Dev Cert.OutXattnIdeal.nD,
          r.2.mem ((c.tc : Thread Cert.OutXattnIdeal.nD Cert.OutXattnIdeal.τ).loc Cert.OutXattnIdeal.main_v11_0) = v0 c
          ∧ r.2.mem ((c.tc : Thread Cert.OutXattnIdeal.nD Cert.OutXattnIdeal.τ).loc Cert.OutXattnIdeal.main_v11_1) = v1 c
          ∧ r.2.mem ((c.tc : Thread Cert.OutXattnIdeal.nD Cert.OutXattnIdeal.τ).loc Cert.OutXattnIdeal.main_v11_2) = v2 c
          ∧ r.2.mem ((c.tc : Thread Cert.OutXattnIdeal.nD Cert.OutXattnIdeal.τ).loc Cert.OutXattnIdeal.main_v11_3) = v3 c
          ∧ r.2.mem ((c.tc : Thread Cert.OutXattnIdeal.nD Cert.OutXattnIdeal.τ).loc Cert.OutXattnIdeal.main_v11_4) = v4 c
          ∧ r.2.mem ((c.tc : Thread Cert.OutXattnIdeal.nD Cert.OutXattnIdeal.τ).loc Cert.OutXattnIdeal.main_v11_5) = v5 c
          ∧ r.2.mem ((c.tc : Thread Cert.OutXattnIdeal.nD Cert.OutXattnIdeal.τ).loc Cert.OutXattnIdeal.main_arg0) = m ((c.tc : Thread Cert.OutXattnIdeal.nD Cert.OutXattnIdeal.τ).loc Cert.OutXattnIdeal.main_arg0)
          ∧ r.2.mem ((c.tc : Thread Cert.OutXattnIdeal.nD Cert.OutXattnIdeal.τ).loc Cert.OutXattnIdeal.main_arg1) = m ((c.tc : Thread Cert.OutXattnIdeal.nD Cert.OutXattnIdeal.τ).loc Cert.OutXattnIdeal.main_arg1)
          ∧ r.2.mem ((c.tc : Thread Cert.OutXattnIdeal.nD Cert.OutXattnIdeal.τ).loc Cert.OutXattnIdeal.main_arg2) = m ((c.tc : Thread Cert.OutXattnIdeal.nD Cert.OutXattnIdeal.τ).loc Cert.OutXattnIdeal.main_arg2)
          ∧ r.2.mem ((c.tc : Thread Cert.OutXattnIdeal.nD Cert.OutXattnIdeal.τ).loc Cert.OutXattnIdeal.main_arg3) = m ((c.tc : Thread Cert.OutXattnIdeal.nD Cert.OutXattnIdeal.τ).loc Cert.OutXattnIdeal.main_arg3)
          ∧ r.2.mem ((c.tc : Thread Cert.OutXattnIdeal.nD Cert.OutXattnIdeal.τ).loc Cert.OutXattnIdeal.main_arg4) = m ((c.tc : Thread Cert.OutXattnIdeal.nD Cert.OutXattnIdeal.τ).loc Cert.OutXattnIdeal.main_arg4)
          ∧ r.2.mem ((c.tc : Thread Cert.OutXattnIdeal.nD Cert.OutXattnIdeal.τ).loc Cert.OutXattnIdeal.main_arg5) = m ((c.tc : Thread Cert.OutXattnIdeal.nD Cert.OutXattnIdeal.τ).loc Cert.OutXattnIdeal.main_arg5)
          ∧ r.2.mem ((c.tc : Thread Cert.OutXattnIdeal.nD Cert.OutXattnIdeal.τ).loc Cert.OutXattnIdeal.main_arg6) = m ((c.tc : Thread Cert.OutXattnIdeal.nD Cert.OutXattnIdeal.τ).loc Cert.OutXattnIdeal.main_arg6)
          ∧ r.2.mem ((c.tc : Thread Cert.OutXattnIdeal.nD Cert.OutXattnIdeal.τ).loc Cert.OutXattnIdeal.main_arg7) = m ((c.tc : Thread Cert.OutXattnIdeal.nD Cert.OutXattnIdeal.τ).loc Cert.OutXattnIdeal.main_arg7)
          ∧ r.2.mem ((c.tc : Thread Cert.OutXattnIdeal.nD Cert.OutXattnIdeal.τ).loc Cert.OutXattnIdeal.main_arg8) = m ((c.tc : Thread Cert.OutXattnIdeal.nD Cert.OutXattnIdeal.τ).loc Cert.OutXattnIdeal.main_arg8)
          ∧ r.2.mem ((c.tc : Thread Cert.OutXattnIdeal.nD Cert.OutXattnIdeal.τ).loc Cert.OutXattnIdeal.main_arg9) = m ((c.tc : Thread Cert.OutXattnIdeal.nD Cert.OutXattnIdeal.τ).loc Cert.OutXattnIdeal.main_arg9))
      ∧ θ_run (Cert.OutXattnRefIdeal.defs (F := Ideal)) (onTc (τ := Cert.OutXattnRefIdeal.τ) (Cert.OutXattnRefIdeal.main (F := Ideal))) ⟨m', fun _ => 0, g'⟩ (fun r => ∀ c : Dev Cert.OutXattnRefIdeal.nD,
          r.2.mem ((c.tc : Thread Cert.OutXattnRefIdeal.nD Cert.OutXattnRefIdeal.τ).loc Cert.OutXattnRefIdeal.main_v2) = v0 c
          ∧ r.2.mem ((c.tc : Thread Cert.OutXattnRefIdeal.nD Cert.OutXattnRefIdeal.τ).loc Cert.OutXattnRefIdeal.main_v52) = v1 c
          ∧ r.2.mem ((c.tc : Thread Cert.OutXattnRefIdeal.nD Cert.OutXattnRefIdeal.τ).loc Cert.OutXattnRefIdeal.main_v53) = v2 c
          ∧ r.2.mem ((c.tc : Thread Cert.OutXattnRefIdeal.nD Cert.OutXattnRefIdeal.τ).loc Cert.OutXattnRefIdeal.main_v54) = v3 c
          ∧ r.2.mem ((c.tc : Thread Cert.OutXattnRefIdeal.nD Cert.OutXattnRefIdeal.τ).loc Cert.OutXattnRefIdeal.main_v38) = v4 c
          ∧ r.2.mem ((c.tc : Thread Cert.OutXattnRefIdeal.nD Cert.OutXattnRefIdeal.τ).loc Cert.OutXattnRefIdeal.main_v55) = v5 c
          ∧ r.2.mem ((c.tc : Thread Cert.OutXattnRefIdeal.nD Cert.OutXattnRefIdeal.τ).loc Cert.OutXattnRefIdeal.main_arg0) = m' ((c.tc : Thread Cert.OutXattnRefIdeal.nD Cert.OutXattnRefIdeal.τ).loc Cert.OutXattnRefIdeal.main_arg0)
          ∧ r.2.mem ((c.tc : Thread Cert.OutXattnRefIdeal.nD Cert.OutXattnRefIdeal.τ).loc Cert.OutXattnRefIdeal.main_arg1) = m' ((c.tc : Thread Cert.OutXattnRefIdeal.nD Cert.OutXattnRefIdeal.τ).loc Cert.OutXattnRefIdeal.main_arg1)
          ∧ r.2.mem ((c.tc : Thread Cert.OutXattnRefIdeal.nD Cert.OutXattnRefIdeal.τ).loc Cert.OutXattnRefIdeal.main_arg2) = m' ((c.tc : Thread Cert.OutXattnRefIdeal.nD Cert.OutXattnRefIdeal.τ).loc Cert.OutXattnRefIdeal.main_arg2)
          ∧ r.2.mem ((c.tc : Thread Cert.OutXattnRefIdeal.nD Cert.OutXattnRefIdeal.τ).loc Cert.OutXattnRefIdeal.main_arg3) = m' ((c.tc : Thread Cert.OutXattnRefIdeal.nD Cert.OutXattnRefIdeal.τ).loc Cert.OutXattnRefIdeal.main_arg3)
          ∧ r.2.mem ((c.tc : Thread Cert.OutXattnRefIdeal.nD Cert.OutXattnRefIdeal.τ).loc Cert.OutXattnRefIdeal.main_arg4) = m' ((c.tc : Thread Cert.OutXattnRefIdeal.nD Cert.OutXattnRefIdeal.τ).loc Cert.OutXattnRefIdeal.main_arg4)
          ∧ r.2.mem ((c.tc : Thread Cert.OutXattnRefIdeal.nD Cert.OutXattnRefIdeal.τ).loc Cert.OutXattnRefIdeal.main_arg5) = m' ((c.tc : Thread Cert.OutXattnRefIdeal.nD Cert.OutXattnRefIdeal.τ).loc Cert.OutXattnRefIdeal.main_arg5)
          ∧ r.2.mem ((c.tc : Thread Cert.OutXattnRefIdeal.nD Cert.OutXattnRefIdeal.τ).loc Cert.OutXattnRefIdeal.main_arg6) = m' ((c.tc : Thread Cert.OutXattnRefIdeal.nD Cert.OutXattnRefIdeal.τ).loc Cert.OutXattnRefIdeal.main_arg6)
          ∧ r.2.mem ((c.tc : Thread Cert.OutXattnRefIdeal.nD Cert.OutXattnRefIdeal.τ).loc Cert.OutXattnRefIdeal.main_arg7) = m' ((c.tc : Thread Cert.OutXattnRefIdeal.nD Cert.OutXattnRefIdeal.τ).loc Cert.OutXattnRefIdeal.main_arg7)
          ∧ r.2.mem ((c.tc : Thread Cert.OutXattnRefIdeal.nD Cert.OutXattnRefIdeal.τ).loc Cert.OutXattnRefIdeal.main_arg8) = m' ((c.tc : Thread Cert.OutXattnRefIdeal.nD Cert.OutXattnRefIdeal.τ).loc Cert.OutXattnRefIdeal.main_arg8)
          ∧ r.2.mem ((c.tc : Thread Cert.OutXattnRefIdeal.nD Cert.OutXattnRefIdeal.τ).loc Cert.OutXattnRefIdeal.main_arg9) = m' ((c.tc : Thread Cert.OutXattnRefIdeal.nD Cert.OutXattnRefIdeal.τ).loc Cert.OutXattnRefIdeal.main_arg9))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)) →
    ∃ (v0 : (c : Dev Cert.MemProjIdeal.nD) → Buf (Elt Ideal) ((c.tc : Thread Cert.MemProjIdeal.nD Cert.MemProjIdeal.τ).loc Cert.MemProjIdeal.main_v2)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v2) = v0 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v1) = v0 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1))

def preserves_MemBwd_MemBwdIdeal : Prop :=
  True

def algebraic_MemBwdIdeal_MemBwdRefIdeal [hMemBwdIdeal : Cert.MemBwdIdeal.Facts] [hMemBwdRefIdeal : Cert.MemBwdRefIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemBwdRefIdeal.nD Cert.MemBwdRefIdeal.τ Cert.MemBwdRefIdeal.sig) → Buf (Elt Ideal) ℓ) (g' : Dev Cert.MemBwdRefIdeal.nD → PrngReg), Pre_MemBwdIdeal m →
    (∀ c : Dev Cert.MemBwdIdeal.nD,
      m' ((c.tc : Thread Cert.MemBwdRefIdeal.nD Cert.MemBwdRefIdeal.τ).loc Cert.MemBwdRefIdeal.main_arg0) = m ((c.tc : Thread Cert.MemBwdIdeal.nD Cert.MemBwdIdeal.τ).loc Cert.MemBwdIdeal.main_arg0)
      ∧ m' ((c.tc : Thread Cert.MemBwdRefIdeal.nD Cert.MemBwdRefIdeal.τ).loc Cert.MemBwdRefIdeal.main_arg1) = m ((c.tc : Thread Cert.MemBwdIdeal.nD Cert.MemBwdIdeal.τ).loc Cert.MemBwdIdeal.main_arg1)) →
    ∃ (v0 : (c : Dev Cert.MemBwdIdeal.nD) → Buf (Elt Ideal) ((c.tc : Thread Cert.MemBwdIdeal.nD Cert.MemBwdIdeal.τ).loc Cert.MemBwdIdeal.main_v2)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v2) = v0 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1))
      ∧ θ_run (Cert.MemBwdRefIdeal.defs (F := Ideal)) (onTc (τ := Cert.MemBwdRefIdeal.τ) (Cert.MemBwdRefIdeal.main (F := Ideal))) ⟨m', fun _ => 0, g'⟩ (fun r => ∀ c : Dev Cert.MemBwdRefIdeal.nD,
          r.2.mem ((c.tc : Thread Cert.MemBwdRefIdeal.nD Cert.MemBwdRefIdeal.τ).loc Cert.MemBwdRefIdeal.main_v2) = v0 c
          ∧ r.2.mem ((c.tc : Thread Cert.MemBwdRefIdeal.nD Cert.MemBwdRefIdeal.τ).loc Cert.MemBwdRefIdeal.main_arg0) = m' ((c.tc : Thread Cert.MemBwdRefIdeal.nD Cert.MemBwdRefIdeal.τ).loc Cert.MemBwdRefIdeal.main_arg0)
          ∧ r.2.mem ((c.tc : Thread Cert.MemBwdRefIdeal.nD Cert.MemBwdRefIdeal.τ).loc Cert.MemBwdRefIdeal.main_arg1) = m' ((c.tc : Thread Cert.MemBwdRefIdeal.nD Cert.MemBwdRefIdeal.τ).loc Cert.MemBwdRefIdeal.main_arg1))

def preserves_MemSum_MemSumIdeal : Prop :=
  True

def algebraic_MemSumIdeal_MemSumRefIdeal [hMemSumIdeal : Cert.MemSumIdeal.Facts] [hMemSumRefIdeal : Cert.MemSumRefIdeal.Facts] : Prop :=
  ∀ (m : (ℓ : Loc Cert.MemSumIdeal.nD Cert.MemSumIdeal.τ Cert.MemSumIdeal.sig) → Buf (Elt Ideal) ℓ) (g : Dev Cert.MemSumIdeal.nD → PrngReg)
    (m' : (ℓ : Loc Cert.MemSumRefIdeal.nD Cert.MemSumRefIdeal.τ Cert.MemSumRefIdeal.sig) → Buf (Elt Ideal) ℓ) (g' : Dev Cert.MemSumRefIdeal.nD → PrngReg), Pre_MemSumIdeal m →
    (∀ c : Dev Cert.MemSumIdeal.nD,
      m' ((c.tc : Thread Cert.MemSumRefIdeal.nD Cert.MemSumRefIdeal.τ).loc Cert.MemSumRefIdeal.main_arg0) = m ((c.tc : Thread Cert.MemSumIdeal.nD Cert.MemSumIdeal.τ).loc Cert.MemSumIdeal.main_arg0)
      ∧ m' ((c.tc : Thread Cert.MemSumRefIdeal.nD Cert.MemSumRefIdeal.τ).loc Cert.MemSumRefIdeal.main_arg1) = m ((c.tc : Thread Cert.MemSumIdeal.nD Cert.MemSumIdeal.τ).loc Cert.MemSumIdeal.main_arg1)
      ∧ m' ((c.tc : Thread Cert.MemSumRefIdeal.nD Cert.MemSumRefIdeal.τ).loc Cert.MemSumRefIdeal.main_arg2) = m ((c.tc : Thread Cert.MemSumIdeal.nD Cert.MemSumIdeal.τ).loc Cert.MemSumIdeal.main_arg2)) →
    ∃ (v0 : (c : Dev Cert.MemSumIdeal.nD) → Buf (Elt Ideal) ((c.tc : Thread Cert.MemSumIdeal.nD Cert.MemSumIdeal.τ).loc Cert.MemSumIdeal.main_v2)),
      θ_run (Cert.MemSumIdeal.defs (F := Ideal)) (onTc (τ := Cert.MemSumIdeal.τ) (Cert.MemSumIdeal.main (F := Ideal))) ⟨m, fun _ => 0, g⟩ (fun r => ∀ c : Dev Cert.MemSumIdeal.nD,
          r.2.mem ((c.tc : Thread Cert.MemSumIdeal.nD Cert.MemSumIdeal.τ).loc Cert.MemSumIdeal.main_v2) = v0 c
          ∧ r.2.mem ((c.tc : Thread Cert.MemSumIdeal.nD Cert.MemSumIdeal.τ).loc Cert.MemSumIdeal.main_arg0) = m ((c.tc : Thread Cert.MemSumIdeal.nD Cert.MemSumIdeal.τ).loc Cert.MemSumIdeal.main_arg0)
          ∧ r.2.mem ((c.tc : Thread Cert.MemSumIdeal.nD Cert.MemSumIdeal.τ).loc Cert.MemSumIdeal.main_arg1) = m ((c.tc : Thread Cert.MemSumIdeal.nD Cert.MemSumIdeal.τ).loc Cert.MemSumIdeal.main_arg1)
          ∧ r.2.mem ((c.tc : Thread Cert.MemSumIdeal.nD Cert.MemSumIdeal.τ).loc Cert.MemSumIdeal.main_arg2) = m ((c.tc : Thread Cert.MemSumIdeal.nD Cert.MemSumIdeal.τ).loc Cert.MemSumIdeal.main_arg2))
      ∧ θ_run (Cert.MemSumRefIdeal.defs (F := Ideal)) (onTc (τ := Cert.MemSumRefIdeal.τ) (Cert.MemSumRefIdeal.main (F := Ideal))) ⟨m', fun _ => 0, g'⟩ (fun r => ∀ c : Dev Cert.MemSumRefIdeal.nD,
          r.2.mem ((c.tc : Thread Cert.MemSumRefIdeal.nD Cert.MemSumRefIdeal.τ).loc Cert.MemSumRefIdeal.main_v3) = v0 c
          ∧ r.2.mem ((c.tc : Thread Cert.MemSumRefIdeal.nD Cert.MemSumRefIdeal.τ).loc Cert.MemSumRefIdeal.main_arg0) = m' ((c.tc : Thread Cert.MemSumRefIdeal.nD Cert.MemSumRefIdeal.τ).loc Cert.MemSumRefIdeal.main_arg0)
          ∧ r.2.mem ((c.tc : Thread Cert.MemSumRefIdeal.nD Cert.MemSumRefIdeal.τ).loc Cert.MemSumRefIdeal.main_arg1) = m' ((c.tc : Thread Cert.MemSumRefIdeal.nD Cert.MemSumRefIdeal.τ).loc Cert.MemSumRefIdeal.main_arg1)
          ∧ r.2.mem ((c.tc : Thread Cert.MemSumRefIdeal.nD Cert.MemSumRefIdeal.τ).loc Cert.MemSumRefIdeal.main_arg2) = m' ((c.tc : Thread Cert.MemSumRefIdeal.nD Cert.MemSumRefIdeal.τ).loc Cert.MemSumRefIdeal.main_arg2))

def preserves_GradMem_GradMemIdeal : Prop :=
  True

def algebraic_GradMemIdeal_GradMemRefIdeal [hGradMemIdeal : Cert.GradMemIdeal.Facts] [hGradMemRefIdeal : Cert.GradMemRefIdeal.Facts] : Prop :=
  ∀ (m : (ℓ : Loc Cert.GradMemIdeal.nD Cert.GradMemIdeal.τ Cert.GradMemIdeal.sig) → Buf (Elt Ideal) ℓ) (g : Dev Cert.GradMemIdeal.nD → PrngReg)
    (m' : (ℓ : Loc Cert.GradMemRefIdeal.nD Cert.GradMemRefIdeal.τ Cert.GradMemRefIdeal.sig) → Buf (Elt Ideal) ℓ) (g' : Dev Cert.GradMemRefIdeal.nD → PrngReg), Pre_GradMemIdeal m →
    (∀ c : Dev Cert.GradMemIdeal.nD,
      m' ((c.tc : Thread Cert.GradMemRefIdeal.nD Cert.GradMemRefIdeal.τ).loc Cert.GradMemRefIdeal.main_arg0) = m ((c.tc : Thread Cert.GradMemIdeal.nD Cert.GradMemIdeal.τ).loc Cert.GradMemIdeal.main_arg0)
      ∧ m' ((c.tc : Thread Cert.GradMemRefIdeal.nD Cert.GradMemRefIdeal.τ).loc Cert.GradMemRefIdeal.main_arg1) = m ((c.tc : Thread Cert.GradMemIdeal.nD Cert.GradMemIdeal.τ).loc Cert.GradMemIdeal.main_arg1)) →
    ∃ (v0 : (c : Dev Cert.GradMemIdeal.nD) → Buf (Elt Ideal) ((c.tc : Thread Cert.GradMemIdeal.nD Cert.GradMemIdeal.τ).loc Cert.GradMemIdeal.main_v2)),
      θ_run (Cert.GradMemIdeal.defs (F := Ideal)) (onTc (τ := Cert.GradMemIdeal.τ) (Cert.GradMemIdeal.main (F := Ideal))) ⟨m, fun _ => 0, g⟩ (fun r => ∀ c : Dev Cert.GradMemIdeal.nD,
          r.2.mem ((c.tc : Thread Cert.GradMemIdeal.nD Cert.GradMemIdeal.τ).loc Cert.GradMemIdeal.main_v2) = v0 c
          ∧ r.2.mem ((c.tc : Thread Cert.GradMemIdeal.nD Cert.GradMemIdeal.τ).loc Cert.GradMemIdeal.main_arg0) = m ((c.tc : Thread Cert.GradMemIdeal.nD Cert.GradMemIdeal.τ).loc Cert.GradMemIdeal.main_arg0)
          ∧ r.2.mem ((c.tc : Thread Cert.GradMemIdeal.nD Cert.GradMemIdeal.τ).loc Cert.GradMemIdeal.main_arg1) = m ((c.tc : Thread Cert.GradMemIdeal.nD Cert.GradMemIdeal.τ).loc Cert.GradMemIdeal.main_arg1))
      ∧ θ_run (Cert.GradMemRefIdeal.defs (F := Ideal)) (onTc (τ := Cert.GradMemRefIdeal.τ) (Cert.GradMemRefIdeal.main (F := Ideal))) ⟨m', fun _ => 0, g'⟩ (fun r => ∀ c : Dev Cert.GradMemRefIdeal.nD,
          r.2.mem ((c.tc : Thread Cert.GradMemRefIdeal.nD Cert.GradMemRefIdeal.τ).loc Cert.GradMemRefIdeal.main_v3) = v0 c
          ∧ r.2.mem ((c.tc : Thread Cert.GradMemRefIdeal.nD Cert.GradMemRefIdeal.τ).loc Cert.GradMemRefIdeal.main_arg0) = m' ((c.tc : Thread Cert.GradMemRefIdeal.nD Cert.GradMemRefIdeal.τ).loc Cert.GradMemRefIdeal.main_arg0)
          ∧ r.2.mem ((c.tc : Thread Cert.GradMemRefIdeal.nD Cert.GradMemRefIdeal.τ).loc Cert.GradMemRefIdeal.main_arg1) = m' ((c.tc : Thread Cert.GradMemRefIdeal.nD Cert.GradMemRefIdeal.τ).loc Cert.GradMemRefIdeal.main_arg1))

def preserves_GradGate_GradGateIdeal : Prop :=
  True

def algebraic_GradGateIdeal_GradGateRefIdeal [hGradGateIdeal : Cert.GradGateIdeal.Facts] [hGradGateRefIdeal : Cert.GradGateRefIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.GradGateRefIdeal.nD Cert.GradGateRefIdeal.τ Cert.GradGateRefIdeal.sig) → Buf (Elt Ideal) ℓ) (g' : Dev Cert.GradGateRefIdeal.nD → PrngReg), Pre_GradGateIdeal m →
    (∀ c : Dev Cert.GradGateIdeal.nD,
      m' ((c.tc : Thread Cert.GradGateRefIdeal.nD Cert.GradGateRefIdeal.τ).loc Cert.GradGateRefIdeal.main_arg0) = m ((c.tc : Thread Cert.GradGateIdeal.nD Cert.GradGateIdeal.τ).loc Cert.GradGateIdeal.main_arg0)
      ∧ m' ((c.tc : Thread Cert.GradGateRefIdeal.nD Cert.GradGateRefIdeal.τ).loc Cert.GradGateRefIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v2)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v2) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.GradGateRefIdeal.defs (F := Ideal)) (onTc (τ := Cert.GradGateRefIdeal.τ) (Cert.GradGateRefIdeal.main (F := Ideal))) ⟨m', fun _ => 0, g'⟩ (fun r => ∀ c : Dev Cert.GradGateRefIdeal.nD,
          r.2.mem ((c.tc : Thread Cert.GradGateRefIdeal.nD Cert.GradGateRefIdeal.τ).loc Cert.GradGateRefIdeal.main_v3) = v0 c
          ∧ r.2.mem ((c.tc : Thread Cert.GradGateRefIdeal.nD Cert.GradGateRefIdeal.τ).loc Cert.GradGateRefIdeal.main_arg0) = m' ((c.tc : Thread Cert.GradGateRefIdeal.nD Cert.GradGateRefIdeal.τ).loc Cert.GradGateRefIdeal.main_arg0)
          ∧ r.2.mem ((c.tc : Thread Cert.GradGateRefIdeal.nD Cert.GradGateRefIdeal.τ).loc Cert.GradGateRefIdeal.main_arg1) = m' ((c.tc : Thread Cert.GradGateRefIdeal.nD Cert.GradGateRefIdeal.τ).loc Cert.GradGateRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v1) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v13) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1))

def preserves_NormMemBwd_NormMemBwdIdeal : Prop :=
  True

def algebraic_NormMemBwdIdeal_NormMemBwdRefIdeal [hNormMemBwdIdeal : Cert.NormMemBwdIdeal.Facts] [hNormMemBwdRefIdeal : Cert.NormMemBwdRefIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg)
    (m' : (ℓ : Loc Cert.NormMemBwdRefIdeal.nD Cert.NormMemBwdRefIdeal.τ Cert.NormMemBwdRefIdeal.sig) → Buf (Elt Ideal) ℓ) (g' : Dev Cert.NormMemBwdRefIdeal.nD → PrngReg), Pre_NormMemBwdIdeal m →
    (∀ c : Dev Cert.NormMemBwdIdeal.nD,
      m' ((c.tc : Thread Cert.NormMemBwdRefIdeal.nD Cert.NormMemBwdRefIdeal.τ).loc Cert.NormMemBwdRefIdeal.main_arg0) = m ((c.tc : Thread Cert.NormMemBwdIdeal.nD Cert.NormMemBwdIdeal.τ).loc Cert.NormMemBwdIdeal.main_arg0)
      ∧ m' ((c.tc : Thread Cert.NormMemBwdRefIdeal.nD Cert.NormMemBwdRefIdeal.τ).loc Cert.NormMemBwdRefIdeal.main_arg1) = m ((c.tc : Thread Cert.NormMemBwdIdeal.nD Cert.NormMemBwdIdeal.τ).loc Cert.NormMemBwdIdeal.main_arg1)
      ∧ m' ((c.tc : Thread Cert.NormMemBwdRefIdeal.nD Cert.NormMemBwdRefIdeal.τ).loc Cert.NormMemBwdRefIdeal.main_arg2) = m ((c.tc : Thread Cert.NormMemBwdIdeal.nD Cert.NormMemBwdIdeal.τ).loc Cert.NormMemBwdIdeal.main_arg2)) →
    ∃ (v0 : (c : Dev Cert.NormMemBwdIdeal.nD) → Buf (Elt Ideal) ((c.tc : Thread Cert.NormMemBwdIdeal.nD Cert.NormMemBwdIdeal.τ).loc Cert.NormMemBwdIdeal.main_v1_0)) (v1 : (c : Dev Cert.NormMemBwdIdeal.nD) → Buf (Elt Ideal) ((c.tc : Thread Cert.NormMemBwdIdeal.nD Cert.NormMemBwdIdeal.τ).loc Cert.NormMemBwdIdeal.main_v1_1)) (v2 : (c : Dev Cert.NormMemBwdIdeal.nD) → Buf (Elt Ideal) ((c.tc : Thread Cert.NormMemBwdIdeal.nD Cert.NormMemBwdIdeal.τ).loc Cert.NormMemBwdIdeal.main_v1_2)),
      θ_run (Cert.NormMemBwdIdeal.defs (F := Ideal)) (onTc (τ := Cert.NormMemBwdIdeal.τ) (Cert.NormMemBwdIdeal.main (F := Ideal))) ⟨m, fun _ => 0, g⟩ (fun r => ∀ c : Dev Cert.NormMemBwdIdeal.nD,
          r.2.mem ((c.tc : Thread Cert.NormMemBwdIdeal.nD Cert.NormMemBwdIdeal.τ).loc Cert.NormMemBwdIdeal.main_v1_0) = v0 c
          ∧ r.2.mem ((c.tc : Thread Cert.NormMemBwdIdeal.nD Cert.NormMemBwdIdeal.τ).loc Cert.NormMemBwdIdeal.main_v1_1) = v1 c
          ∧ r.2.mem ((c.tc : Thread Cert.NormMemBwdIdeal.nD Cert.NormMemBwdIdeal.τ).loc Cert.NormMemBwdIdeal.main_v1_2) = v2 c
          ∧ r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
          ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
          ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ θ_run (Cert.NormMemBwdRefIdeal.defs (F := Ideal)) (onTc (τ := Cert.NormMemBwdRefIdeal.τ) (Cert.NormMemBwdRefIdeal.main (F := Ideal))) ⟨m', fun _ => 0, g'⟩ (fun r => ∀ c : Dev Cert.NormMemBwdRefIdeal.nD,
          r.2.mem ((c.tc : Thread Cert.NormMemBwdRefIdeal.nD Cert.NormMemBwdRefIdeal.τ).loc Cert.NormMemBwdRefIdeal.main_v35) = v0 c
          ∧ r.2.mem ((c.tc : Thread Cert.NormMemBwdRefIdeal.nD Cert.NormMemBwdRefIdeal.τ).loc Cert.NormMemBwdRefIdeal.main_v36) = v1 c
          ∧ r.2.mem ((c.tc : Thread Cert.NormMemBwdRefIdeal.nD Cert.NormMemBwdRefIdeal.τ).loc Cert.NormMemBwdRefIdeal.main_v37) = v2 c
          ∧ r.2.mem ((c.tc : Thread Cert.NormMemBwdRefIdeal.nD Cert.NormMemBwdRefIdeal.τ).loc Cert.NormMemBwdRefIdeal.main_arg0) = m' ((c.tc : Thread Cert.NormMemBwdRefIdeal.nD Cert.NormMemBwdRefIdeal.τ).loc Cert.NormMemBwdRefIdeal.main_arg0)
          ∧ r.2.mem ((c.tc : Thread Cert.NormMemBwdRefIdeal.nD Cert.NormMemBwdRefIdeal.τ).loc Cert.NormMemBwdRefIdeal.main_arg1) = m' ((c.tc : Thread Cert.NormMemBwdRefIdeal.nD Cert.NormMemBwdRefIdeal.τ).loc Cert.NormMemBwdRefIdeal.main_arg1)
          ∧ r.2.mem ((c.tc : Thread Cert.NormMemBwdRefIdeal.nD Cert.NormMemBwdRefIdeal.τ).loc Cert.NormMemBwdRefIdeal.main_arg2) = m' ((c.tc : Thread Cert.NormMemBwdRefIdeal.nD Cert.NormMemBwdRefIdeal.τ).loc Cert.NormMemBwdRefIdeal.main_arg2))

def preserves_AdamMlp_AdamMlpIdeal : Prop :=
  True

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v23) = v0 c
          ∧ r.2.mem ((c.tc : Thread Cert.AdamMlpRefIdeal.nD Cert.AdamMlpRefIdeal.τ).loc Cert.AdamMlpRefIdeal.main_v4) = v1 c
          ∧ r.2.mem ((c.tc : Thread Cert.AdamMlpRefIdeal.nD Cert.AdamMlpRefIdeal.τ).loc Cert.AdamMlpRefIdeal.main_v10) = v2 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3))

def preserves_AdamMid_AdamMidIdeal : Prop :=
  True

def algebraic_AdamMidIdeal_AdamMidRefIdeal [hAdamMidIdeal : Cert.AdamMidIdeal.Facts] [hAdamMidRefIdeal : Cert.AdamMidRefIdeal.Facts] : Prop :=
  ∀ (m : (ℓ : Loc Cert.AdamMidIdeal.nD Cert.AdamMidIdeal.τ Cert.AdamMidIdeal.sig) → Buf (Elt Ideal) ℓ) (g : Dev Cert.AdamMidIdeal.nD → PrngReg)
    (m' : (ℓ : Loc Cert.AdamMidRefIdeal.nD Cert.AdamMidRefIdeal.τ Cert.AdamMidRefIdeal.sig) → Buf (Elt Ideal) ℓ) (g' : Dev Cert.AdamMidRefIdeal.nD → PrngReg), Pre_AdamMidIdeal m →
    (∀ c : Dev Cert.AdamMidIdeal.nD,
      m' ((c.tc : Thread Cert.AdamMidRefIdeal.nD Cert.AdamMidRefIdeal.τ).loc Cert.AdamMidRefIdeal.main_arg0) = m ((c.tc : Thread Cert.AdamMidIdeal.nD Cert.AdamMidIdeal.τ).loc Cert.AdamMidIdeal.main_arg0)
      ∧ m' ((c.tc : Thread Cert.AdamMidRefIdeal.nD Cert.AdamMidRefIdeal.τ).loc Cert.AdamMidRefIdeal.main_arg1) = m ((c.tc : Thread Cert.AdamMidIdeal.nD Cert.AdamMidIdeal.τ).loc Cert.AdamMidIdeal.main_arg1)
      ∧ m' ((c.tc : Thread Cert.AdamMidRefIdeal.nD Cert.AdamMidRefIdeal.τ).loc Cert.AdamMidRefIdeal.main_arg2) = m ((c.tc : Thread Cert.AdamMidIdeal.nD Cert.AdamMidIdeal.τ).loc Cert.AdamMidIdeal.main_arg2)
      ∧ m' ((c.tc : Thread Cert.AdamMidRefIdeal.nD Cert.AdamMidRefIdeal.τ).loc Cert.AdamMidRefIdeal.main_arg3) = m ((c.tc : Thread Cert.AdamMidIdeal.nD Cert.AdamMidIdeal.τ).loc Cert.AdamMidIdeal.main_arg3)) →
    ∃ (v0 : (c : Dev Cert.AdamMidIdeal.nD) → Buf (Elt Ideal) ((c.tc : Thread Cert.AdamMidIdeal.nD Cert.AdamMidIdeal.τ).loc Cert.AdamMidIdeal.main_v0_0)) (v1 : (c : Dev Cert.AdamMidIdeal.nD) → Buf (Elt Ideal) ((c.tc : Thread Cert.AdamMidIdeal.nD Cert.AdamMidIdeal.τ).loc Cert.AdamMidIdeal.main_v0_1)) (v2 : (c : Dev Cert.AdamMidIdeal.nD) → Buf (Elt Ideal) ((c.tc : Thread Cert.AdamMidIdeal.nD Cert.AdamMidIdeal.τ).loc Cert.AdamMidIdeal.main_v0_2)),
      θ_run (Cert.AdamMidIdeal.defs (F := Ideal)) (onTc (τ := Cert.AdamMidIdeal.τ) (Cert.AdamMidIdeal.main (F := Ideal))) ⟨m, fun _ => 0, g⟩ (fun r => ∀ c : Dev Cert.AdamMidIdeal.nD,
          r.2.mem ((c.tc : Thread Cert.AdamMidIdeal.nD Cert.AdamMidIdeal.τ).loc Cert.AdamMidIdeal.main_v0_0) = v0 c
          ∧ r.2.mem ((c.tc : Thread Cert.AdamMidIdeal.nD Cert.AdamMidIdeal.τ).loc Cert.AdamMidIdeal.main_v0_1) = v1 c
          ∧ r.2.mem ((c.tc : Thread Cert.AdamMidIdeal.nD Cert.AdamMidIdeal.τ).loc Cert.AdamMidIdeal.main_v0_2) = v2 c
          ∧ r.2.mem ((c.tc : Thread Cert.AdamMidIdeal.nD Cert.AdamMidIdeal.τ).loc Cert.AdamMidIdeal.main_arg0) = m ((c.tc : Thread Cert.AdamMidIdeal.nD Cert.AdamMidIdeal.τ).loc Cert.AdamMidIdeal.main_arg0)
          ∧ r.2.mem ((c.tc : Thread Cert.AdamMidIdeal.nD Cert.AdamMidIdeal.τ).loc Cert.AdamMidIdeal.main_arg1) = m ((c.tc : Thread Cert.AdamMidIdeal.nD Cert.AdamMidIdeal.τ).loc Cert.AdamMidIdeal.main_arg1)
          ∧ r.2.mem ((c.tc : Thread Cert.AdamMidIdeal.nD Cert.AdamMidIdeal.τ).loc Cert.AdamMidIdeal.main_arg2) = m ((c.tc : Thread Cert.AdamMidIdeal.nD Cert.AdamMidIdeal.τ).loc Cert.AdamMidIdeal.main_arg2)
          ∧ r.2.mem ((c.tc : Thread Cert.AdamMidIdeal.nD Cert.AdamMidIdeal.τ).loc Cert.AdamMidIdeal.main_arg3) = m ((c.tc : Thread Cert.AdamMidIdeal.nD Cert.AdamMidIdeal.τ).loc Cert.AdamMidIdeal.main_arg3))
      ∧ θ_run (Cert.AdamMidRefIdeal.defs (F := Ideal)) (onTc (τ := Cert.AdamMidRefIdeal.τ) (Cert.AdamMidRefIdeal.main (F := Ideal))) ⟨m', fun _ => 0, g'⟩ (fun r => ∀ c : Dev Cert.AdamMidRefIdeal.nD,
          r.2.mem ((c.tc : Thread Cert.AdamMidRefIdeal.nD Cert.AdamMidRefIdeal.τ).loc Cert.AdamMidRefIdeal.main_v23) = v0 c
          ∧ r.2.mem ((c.tc : Thread Cert.AdamMidRefIdeal.nD Cert.AdamMidRefIdeal.τ).loc Cert.AdamMidRefIdeal.main_v4) = v1 c
          ∧ r.2.mem ((c.tc : Thread Cert.AdamMidRefIdeal.nD Cert.AdamMidRefIdeal.τ).loc Cert.AdamMidRefIdeal.main_v10) = v2 c
          ∧ r.2.mem ((c.tc : Thread Cert.AdamMidRefIdeal.nD Cert.AdamMidRefIdeal.τ).loc Cert.AdamMidRefIdeal.main_arg0) = m' ((c.tc : Thread Cert.AdamMidRefIdeal.nD Cert.AdamMidRefIdeal.τ).loc Cert.AdamMidRefIdeal.main_arg0)
          ∧ r.2.mem ((c.tc : Thread Cert.AdamMidRefIdeal.nD Cert.AdamMidRefIdeal.τ).loc Cert.AdamMidRefIdeal.main_arg1) = m' ((c.tc : Thread Cert.AdamMidRefIdeal.nD Cert.AdamMidRefIdeal.τ).loc Cert.AdamMidRefIdeal.main_arg1)
          ∧ r.2.mem ((c.tc : Thread Cert.AdamMidRefIdeal.nD Cert.AdamMidRefIdeal.τ).loc Cert.AdamMidRefIdeal.main_arg2) = m' ((c.tc : Thread Cert.AdamMidRefIdeal.nD Cert.AdamMidRefIdeal.τ).loc Cert.AdamMidRefIdeal.main_arg2)
          ∧ r.2.mem ((c.tc : Thread Cert.AdamMidRefIdeal.nD Cert.AdamMidRefIdeal.τ).loc Cert.AdamMidRefIdeal.main_arg3) = m' ((c.tc : Thread Cert.AdamMidRefIdeal.nD Cert.AdamMidRefIdeal.τ).loc Cert.AdamMidRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamVectors_AdamVectorsIdeal : Prop :=
  True

def algebraic_AdamVectorsIdeal_AdamVectorsRefIdeal [hAdamVectorsIdeal : Cert.AdamVectorsIdeal.Facts] [hAdamVectorsRefIdeal : Cert.AdamVectorsRefIdeal.Facts] : Prop :=
  ∀ (m : (ℓ : Loc Cert.AdamVectorsIdeal.nD Cert.AdamVectorsIdeal.τ Cert.AdamVectorsIdeal.sig) → Buf (Elt Ideal) ℓ) (g : Dev Cert.AdamVectorsIdeal.nD → PrngReg)
    (m' : (ℓ : Loc Cert.AdamVectorsRefIdeal.nD Cert.AdamVectorsRefIdeal.τ Cert.AdamVectorsRefIdeal.sig) → Buf (Elt Ideal) ℓ) (g' : Dev Cert.AdamVectorsRefIdeal.nD → PrngReg), Pre_AdamVectorsIdeal m →
    (∀ c : Dev Cert.AdamVectorsIdeal.nD,
      m' ((c.tc : Thread Cert.AdamVectorsRefIdeal.nD Cert.AdamVectorsRefIdeal.τ).loc Cert.AdamVectorsRefIdeal.main_arg0) = m ((c.tc : Thread Cert.AdamVectorsIdeal.nD Cert.AdamVectorsIdeal.τ).loc Cert.AdamVectorsIdeal.main_arg0)
      ∧ m' ((c.tc : Thread Cert.AdamVectorsRefIdeal.nD Cert.AdamVectorsRefIdeal.τ).loc Cert.AdamVectorsRefIdeal.main_arg1) = m ((c.tc : Thread Cert.AdamVectorsIdeal.nD Cert.AdamVectorsIdeal.τ).loc Cert.AdamVectorsIdeal.main_arg1)
      ∧ m' ((c.tc : Thread Cert.AdamVectorsRefIdeal.nD Cert.AdamVectorsRefIdeal.τ).loc Cert.AdamVectorsRefIdeal.main_arg2) = m ((c.tc : Thread Cert.AdamVectorsIdeal.nD Cert.AdamVectorsIdeal.τ).loc Cert.AdamVectorsIdeal.main_arg2)
      ∧ m' ((c.tc : Thread Cert.AdamVectorsRefIdeal.nD Cert.AdamVectorsRefIdeal.τ).loc Cert.AdamVectorsRefIdeal.main_arg3) = m ((c.tc : Thread Cert.AdamVectorsIdeal.nD Cert.AdamVectorsIdeal.τ).loc Cert.AdamVectorsIdeal.main_arg3)) →
    ∃ (v0 : (c : Dev Cert.AdamVectorsIdeal.nD) → Buf (Elt Ideal) ((c.tc : Thread Cert.AdamVectorsIdeal.nD Cert.AdamVectorsIdeal.τ).loc Cert.AdamVectorsIdeal.main_v0_0)) (v1 : (c : Dev Cert.AdamVectorsIdeal.nD) → Buf (Elt Ideal) ((c.tc : Thread Cert.AdamVectorsIdeal.nD Cert.AdamVectorsIdeal.τ).loc Cert.AdamVectorsIdeal.main_v0_1)) (v2 : (c : Dev Cert.AdamVectorsIdeal.nD) → Buf (Elt Ideal) ((c.tc : Thread Cert.AdamVectorsIdeal.nD Cert.AdamVectorsIdeal.τ).loc Cert.AdamVectorsIdeal.main_v0_2)),
      θ_run (Cert.AdamVectorsIdeal.defs (F := Ideal)) (onTc (τ := Cert.AdamVectorsIdeal.τ) (Cert.AdamVectorsIdeal.main (F := Ideal))) ⟨m, fun _ => 0, g⟩ (fun r => ∀ c : Dev Cert.AdamVectorsIdeal.nD,
          r.2.mem ((c.tc : Thread Cert.AdamVectorsIdeal.nD Cert.AdamVectorsIdeal.τ).loc Cert.AdamVectorsIdeal.main_v0_0) = v0 c
          ∧ r.2.mem ((c.tc : Thread Cert.AdamVectorsIdeal.nD Cert.AdamVectorsIdeal.τ).loc Cert.AdamVectorsIdeal.main_v0_1) = v1 c
          ∧ r.2.mem ((c.tc : Thread Cert.AdamVectorsIdeal.nD Cert.AdamVectorsIdeal.τ).loc Cert.AdamVectorsIdeal.main_v0_2) = v2 c
          ∧ r.2.mem ((c.tc : Thread Cert.AdamVectorsIdeal.nD Cert.AdamVectorsIdeal.τ).loc Cert.AdamVectorsIdeal.main_arg0) = m ((c.tc : Thread Cert.AdamVectorsIdeal.nD Cert.AdamVectorsIdeal.τ).loc Cert.AdamVectorsIdeal.main_arg0)
          ∧ r.2.mem ((c.tc : Thread Cert.AdamVectorsIdeal.nD Cert.AdamVectorsIdeal.τ).loc Cert.AdamVectorsIdeal.main_arg1) = m ((c.tc : Thread Cert.AdamVectorsIdeal.nD Cert.AdamVectorsIdeal.τ).loc Cert.AdamVectorsIdeal.main_arg1)
          ∧ r.2.mem ((c.tc : Thread Cert.AdamVectorsIdeal.nD Cert.AdamVectorsIdeal.τ).loc Cert.AdamVectorsIdeal.main_arg2) = m ((c.tc : Thread Cert.AdamVectorsIdeal.nD Cert.AdamVectorsIdeal.τ).loc Cert.AdamVectorsIdeal.main_arg2)
          ∧ r.2.mem ((c.tc : Thread Cert.AdamVectorsIdeal.nD Cert.AdamVectorsIdeal.τ).loc Cert.AdamVectorsIdeal.main_arg3) = m ((c.tc : Thread Cert.AdamVectorsIdeal.nD Cert.AdamVectorsIdeal.τ).loc Cert.AdamVectorsIdeal.main_arg3))
      ∧ θ_run (Cert.AdamVectorsRefIdeal.defs (F := Ideal)) (onTc (τ := Cert.AdamVectorsRefIdeal.τ) (Cert.AdamVectorsRefIdeal.main (F := Ideal))) ⟨m', fun _ => 0, g'⟩ (fun r => ∀ c : Dev Cert.AdamVectorsRefIdeal.nD,
          r.2.mem ((c.tc : Thread Cert.AdamVectorsRefIdeal.nD Cert.AdamVectorsRefIdeal.τ).loc Cert.AdamVectorsRefIdeal.main_v23) = v0 c
          ∧ r.2.mem ((c.tc : Thread Cert.AdamVectorsRefIdeal.nD Cert.AdamVectorsRefIdeal.τ).loc Cert.AdamVectorsRefIdeal.main_v4) = v1 c
          ∧ r.2.mem ((c.tc : Thread Cert.AdamVectorsRefIdeal.nD Cert.AdamVectorsRefIdeal.τ).loc Cert.AdamVectorsRefIdeal.main_v10) = v2 c
          ∧ r.2.mem ((c.tc : Thread Cert.AdamVectorsRefIdeal.nD Cert.AdamVectorsRefIdeal.τ).loc Cert.AdamVectorsRefIdeal.main_arg0) = m' ((c.tc : Thread Cert.AdamVectorsRefIdeal.nD Cert.AdamVectorsRefIdeal.τ).loc Cert.AdamVectorsRefIdeal.main_arg0)
          ∧ r.2.mem ((c.tc : Thread Cert.AdamVectorsRefIdeal.nD Cert.AdamVectorsRefIdeal.τ).loc Cert.AdamVectorsRefIdeal.main_arg1) = m' ((c.tc : Thread Cert.AdamVectorsRefIdeal.nD Cert.AdamVectorsRefIdeal.τ).loc Cert.AdamVectorsRefIdeal.main_arg1)
          ∧ r.2.mem ((c.tc : Thread Cert.AdamVectorsRefIdeal.nD Cert.AdamVectorsRefIdeal.τ).loc Cert.AdamVectorsRefIdeal.main_arg2) = m' ((c.tc : Thread Cert.AdamVectorsRefIdeal.nD Cert.AdamVectorsRefIdeal.τ).loc Cert.AdamVectorsRefIdeal.main_arg2)
          ∧ r.2.mem ((c.tc : Thread Cert.AdamVectorsRefIdeal.nD Cert.AdamVectorsRefIdeal.τ).loc Cert.AdamVectorsRefIdeal.main_arg3) = m' ((c.tc : Thread Cert.AdamVectorsRefIdeal.nD Cert.AdamVectorsRefIdeal.τ).loc Cert.AdamVectorsRefIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDownBwd : Cert.DownBwd.Facts) (hDownBwdIdeal : Cert.DownBwdIdeal.Facts) (hDownBwdRefIdeal : Cert.DownBwdRefIdeal.Facts) (hGradIn : Cert.GradIn.Facts) (hGradInIdeal : Cert.GradInIdeal.Facts) (hGradInRefIdeal : Cert.GradInRefIdeal.Facts) (hGradDown : Cert.GradDown.Facts) (hGradDownIdeal : Cert.GradDownIdeal.Facts) (hGradDownRefIdeal : Cert.GradDownRefIdeal.Facts) (hUpBwd : Cert.UpBwd.Facts) (hUpBwdIdeal : Cert.UpBwdIdeal.Facts) (hUpBwdRefIdeal : Cert.UpBwdRefIdeal.Facts) (hDownLoss : Cert.DownLoss.Facts) (hDownLossIdeal : Cert.DownLossIdeal.Facts) (hDownLossRefIdeal : Cert.DownLossRefIdeal.Facts) (hGradSquare : Cert.GradSquare.Facts) (hGradSquareIdeal : Cert.GradSquareIdeal.Facts) (hGradSquareRefIdeal : Cert.GradSquareRefIdeal.Facts) (hGradOut : Cert.GradOut.Facts) (hGradOutIdeal : Cert.GradOutIdeal.Facts) (hGradOutRefIdeal : Cert.GradOutRefIdeal.Facts) (hOutBwd : Cert.OutBwd.Facts) (hOutBwdIdeal : Cert.OutBwdIdeal.Facts) (hOutBwdRefIdeal : Cert.OutBwdRefIdeal.Facts) (hInBwd : Cert.InBwd.Facts) (hInBwdIdeal : Cert.InBwdIdeal.Facts) (hInBwdRefIdeal : Cert.InBwdRefIdeal.Facts) (hInProj : Cert.InProj.Facts) (hInProjIdeal : Cert.InProjIdeal.Facts) (hInProjRefIdeal : Cert.InProjRefIdeal.Facts) (hGradUp : Cert.GradUp.Facts) (hGradUpIdeal : Cert.GradUpIdeal.Facts) (hGradUpRefIdeal : Cert.GradUpRefIdeal.Facts) (hOutXattn : Cert.OutXattn.Facts) (hOutXattnIdeal : Cert.OutXattnIdeal.Facts) (hOutXattnRefIdeal : Cert.OutXattnRefIdeal.Facts) (hMemProj : Cert.MemProj.Facts) (hMemProjIdeal : Cert.MemProjIdeal.Facts) (hMemProjRefIdeal : Cert.MemProjRefIdeal.Facts) (hMemBwd : Cert.MemBwd.Facts) (hMemBwdIdeal : Cert.MemBwdIdeal.Facts) (hMemBwdRefIdeal : Cert.MemBwdRefIdeal.Facts) (hMemSum : Cert.MemSum.Facts) (hMemSumIdeal : Cert.MemSumIdeal.Facts) (hMemSumRefIdeal : Cert.MemSumRefIdeal.Facts) (hGradMem : Cert.GradMem.Facts) (hGradMemIdeal : Cert.GradMemIdeal.Facts) (hGradMemRefIdeal : Cert.GradMemRefIdeal.Facts) (hGradGate : Cert.GradGate.Facts) (hGradGateIdeal : Cert.GradGateIdeal.Facts) (hGradGateRefIdeal : Cert.GradGateRefIdeal.Facts) (hNormMem : Cert.NormMem.Facts) (hNormMemIdeal : Cert.NormMemIdeal.Facts) (hNormMemRefIdeal : Cert.NormMemRefIdeal.Facts) (hNormMemBwd : Cert.NormMemBwd.Facts) (hNormMemBwdIdeal : Cert.NormMemBwdIdeal.Facts) (hNormMemBwdRefIdeal : Cert.NormMemBwdRefIdeal.Facts) (hAdamMlp : Cert.AdamMlp.Facts) (hAdamMlpIdeal : Cert.AdamMlpIdeal.Facts) (hAdamMlpRefIdeal : Cert.AdamMlpRefIdeal.Facts) (hAdamMid : Cert.AdamMid.Facts) (hAdamMidIdeal : Cert.AdamMidIdeal.Facts) (hAdamMidRefIdeal : Cert.AdamMidRefIdeal.Facts) (hAdamIn : Cert.AdamIn.Facts) (hAdamInIdeal : Cert.AdamInIdeal.Facts) (hAdamInRefIdeal : Cert.AdamInRefIdeal.Facts) (hAdamVectors : Cert.AdamVectors.Facts) (hAdamVectorsIdeal : Cert.AdamVectorsIdeal.Facts) (hAdamVectorsRefIdeal : Cert.AdamVectorsRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_GradSquare (hGradSquare := hGradSquare)
    ∧ quiescent_GradSquareIdeal (hGradSquareIdeal := hGradSquareIdeal)
    ∧ quiescent_GradSquareRefIdeal (hGradSquareRefIdeal := hGradSquareRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_InProj (hInProj := hInProj)
    ∧ quiescent_InProjIdeal (hInProjIdeal := hInProjIdeal)
    ∧ quiescent_InProjRefIdeal (hInProjRefIdeal := hInProjRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_OutXattn (hOutXattn := hOutXattn)
    ∧ quiescent_OutXattnIdeal (hOutXattnIdeal := hOutXattnIdeal)
    ∧ quiescent_OutXattnRefIdeal (hOutXattnRefIdeal := hOutXattnRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ quiescent_MemBwd (hMemBwd := hMemBwd)
    ∧ quiescent_MemBwdIdeal (hMemBwdIdeal := hMemBwdIdeal)
    ∧ quiescent_MemBwdRefIdeal (hMemBwdRefIdeal := hMemBwdRefIdeal)
    ∧ quiescent_MemSum (hMemSum := hMemSum)
    ∧ quiescent_MemSumIdeal (hMemSumIdeal := hMemSumIdeal)
    ∧ quiescent_MemSumRefIdeal (hMemSumRefIdeal := hMemSumRefIdeal)
    ∧ quiescent_GradMem (hGradMem := hGradMem)
    ∧ quiescent_GradMemIdeal (hGradMemIdeal := hGradMemIdeal)
    ∧ quiescent_GradMemRefIdeal (hGradMemRefIdeal := hGradMemRefIdeal)
    ∧ quiescent_GradGate (hGradGate := hGradGate)
    ∧ quiescent_GradGateIdeal (hGradGateIdeal := hGradGateIdeal)
    ∧ quiescent_GradGateRefIdeal (hGradGateRefIdeal := hGradGateRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_NormMemBwd (hNormMemBwd := hNormMemBwd)
    ∧ quiescent_NormMemBwdIdeal (hNormMemBwdIdeal := hNormMemBwdIdeal)
    ∧ quiescent_NormMemBwdRefIdeal (hNormMemBwdRefIdeal := hNormMemBwdRefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_AdamMid (hAdamMid := hAdamMid)
    ∧ quiescent_AdamMidIdeal (hAdamMidIdeal := hAdamMidIdeal)
    ∧ quiescent_AdamMidRefIdeal (hAdamMidRefIdeal := hAdamMidRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamVectors (hAdamVectors := hAdamVectors)
    ∧ quiescent_AdamVectorsIdeal (hAdamVectorsIdeal := hAdamVectorsIdeal)
    ∧ quiescent_AdamVectorsRefIdeal (hAdamVectorsRefIdeal := hAdamVectorsRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_DownBwd_DownBwdIdeal
    ∧ algebraic_DownBwdIdeal_DownBwdRefIdeal (hDownBwdIdeal := hDownBwdIdeal) (hDownBwdRefIdeal := hDownBwdRefIdeal)
    ∧ preserves_GradIn_GradInIdeal
    ∧ algebraic_GradInIdeal_GradInRefIdeal (hGradInIdeal := hGradInIdeal) (hGradInRefIdeal := hGradInRefIdeal)
    ∧ preserves_GradDown_GradDownIdeal
    ∧ algebraic_GradDownIdeal_GradDownRefIdeal (hGradDownIdeal := hGradDownIdeal) (hGradDownRefIdeal := hGradDownRefIdeal)
    ∧ preserves_UpBwd_UpBwdIdeal
    ∧ algebraic_UpBwdIdeal_UpBwdRefIdeal (hUpBwdIdeal := hUpBwdIdeal) (hUpBwdRefIdeal := hUpBwdRefIdeal)
    ∧ preserves_DownLoss_DownLossIdeal
    ∧ algebraic_DownLossIdeal_DownLossRefIdeal (hDownLossIdeal := hDownLossIdeal) (hDownLossRefIdeal := hDownLossRefIdeal)
    ∧ preserves_GradSquare_GradSquareIdeal
    ∧ algebraic_GradSquareIdeal_GradSquareRefIdeal (hGradSquareIdeal := hGradSquareIdeal) (hGradSquareRefIdeal := hGradSquareRefIdeal)
    ∧ preserves_GradOut_GradOutIdeal
    ∧ algebraic_GradOutIdeal_GradOutRefIdeal (hGradOutIdeal := hGradOutIdeal) (hGradOutRefIdeal := hGradOutRefIdeal)
    ∧ preserves_OutBwd_OutBwdIdeal
    ∧ algebraic_OutBwdIdeal_OutBwdRefIdeal (hOutBwdIdeal := hOutBwdIdeal) (hOutBwdRefIdeal := hOutBwdRefIdeal)
    ∧ preserves_InBwd_InBwdIdeal
    ∧ algebraic_InBwdIdeal_InBwdRefIdeal (hInBwdIdeal := hInBwdIdeal) (hInBwdRefIdeal := hInBwdRefIdeal)
    ∧ preserves_InProj_InProjIdeal
    ∧ algebraic_InProjIdeal_InProjRefIdeal (hInProjIdeal := hInProjIdeal) (hInProjRefIdeal := hInProjRefIdeal)
    ∧ preserves_GradUp_GradUpIdeal
    ∧ algebraic_GradUpIdeal_GradUpRefIdeal (hGradUpIdeal := hGradUpIdeal) (hGradUpRefIdeal := hGradUpRefIdeal)
    ∧ preserves_OutXattn_OutXattnIdeal
    ∧ algebraic_OutXattnIdeal_OutXattnRefIdeal (hOutXattnIdeal := hOutXattnIdeal) (hOutXattnRefIdeal := hOutXattnRefIdeal)
    ∧ preserves_MemProj_MemProjIdeal
    ∧ algebraic_MemProjIdeal_MemProjRefIdeal (hMemProjIdeal := hMemProjIdeal) (hMemProjRefIdeal := hMemProjRefIdeal)
    ∧ preserves_MemBwd_MemBwdIdeal
    ∧ algebraic_MemBwdIdeal_MemBwdRefIdeal (hMemBwdIdeal := hMemBwdIdeal) (hMemBwdRefIdeal := hMemBwdRefIdeal)
    ∧ preserves_MemSum_MemSumIdeal
    ∧ algebraic_MemSumIdeal_MemSumRefIdeal (hMemSumIdeal := hMemSumIdeal) (hMemSumRefIdeal := hMemSumRefIdeal)
    ∧ preserves_GradMem_GradMemIdeal
    ∧ algebraic_GradMemIdeal_GradMemRefIdeal (hGradMemIdeal := hGradMemIdeal) (hGradMemRefIdeal := hGradMemRefIdeal)
    ∧ preserves_GradGate_GradGateIdeal
    ∧ algebraic_GradGateIdeal_GradGateRefIdeal (hGradGateIdeal := hGradGateIdeal) (hGradGateRefIdeal := hGradGateRefIdeal)
    ∧ preserves_NormMem_NormMemIdeal
    ∧ algebraic_NormMemIdeal_NormMemRefIdeal (hNormMemIdeal := hNormMemIdeal) (hNormMemRefIdeal := hNormMemRefIdeal)
    ∧ preserves_NormMemBwd_NormMemBwdIdeal
    ∧ algebraic_NormMemBwdIdeal_NormMemBwdRefIdeal (hNormMemBwdIdeal := hNormMemBwdIdeal) (hNormMemBwdRefIdeal := hNormMemBwdRefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_AdamMid_AdamMidIdeal
    ∧ algebraic_AdamMidIdeal_AdamMidRefIdeal (hAdamMidIdeal := hAdamMidIdeal) (hAdamMidRefIdeal := hAdamMidRefIdeal)
    ∧ preserves_AdamIn_AdamInIdeal
    ∧ algebraic_AdamInIdeal_AdamInRefIdeal (hAdamInIdeal := hAdamInIdeal) (hAdamInRefIdeal := hAdamInRefIdeal)
    ∧ preserves_AdamVectors_AdamVectorsIdeal
    ∧ algebraic_AdamVectorsIdeal_AdamVectorsRefIdeal (hAdamVectorsIdeal := hAdamVectorsIdeal) (hAdamVectorsRefIdeal := hAdamVectorsRefIdeal)
-- ==== Pre_finite.lean ====
abbrev S4x2048x8x64 : Shape := ⟨4, ![4, 2048, 8, 64]⟩
abbrev S4x8x2048 : Shape := ⟨3, ![4, 8, 2048]⟩
abbrev S4x2048x1024 : Shape := ⟨3, ![4, 2048, 1024]⟩
abbrev S8192x3072 : Shape := ⟨2, ![8192, 3072]⟩
abbrev S_ : Shape := ⟨0, ![]⟩

class Facts : Prop where
  bcast_S_S4x2048x8x64 : S_.BroadcastsInDim S4x2048x8x64 (![] : Fin 0 → Fin S4x2048x8x64.rank)
  bcast_S_S4x8x2048 : S_.BroadcastsInDim S4x8x2048 (![] : Fin 0 → Fin S4x8x2048.rank)
  bcast_S_S4x2048x1024 : S_.BroadcastsInDim S4x2048x1024 (![] : Fin 0 → Fin S4x2048x1024.rank)

variable [Facts]

def fn {F : FTy → Type} [FloatOps F] (main_arg0 : FVec F S4x2048x8x64 .f32) (main_arg1 : FVec F S4x2048x8x64 .f32) (main_arg2 : FVec F S4x2048x8x64 .f32) (main_arg3 : FVec F S4x8x2048 .f32) (main_arg4 : FVec F S4x2048x1024 .f32) (main_arg5 : FVec F S8192x3072 .f32) : IVec S4x2048x8x64 1 × IVec S4x2048x8x64 1 × IVec S4x2048x8x64 1 × IVec S4x8x2048 1 × IVec S4x2048x1024 1 :=
  let main_v0 : FVec F S4x2048x8x64 .f32 := Host.absf main_arg0
  let main_cst : FVec F S_ .f32 := constant S_ .f32 0x7F800000#32
  let main_v1 : FVec F S4x2048x8x64 .f32 := broadcastInDim S4x2048x8x64 ![] bcast_S_S4x2048x8x64 main_cst
  let main_v2 : IVec S4x2048x8x64 1 := cmpf .olt main_v0 main_v1
  let main_v3 : FVec F S4x2048x8x64 .f32 := Host.absf main_arg1
  let main_cst_0 : FVec F S_ .f32 := constant S_ .f32 0x7F800000#32
  let main_v4 : FVec F S4x2048x8x64 .f32 := broadcastInDim S4x2048x8x64 ![] bcast_S_S4x2048x8x64 main_cst_0
  let main_v5 : IVec S4x2048x8x64 1 := cmpf .olt main_v3 main_v4
  let main_v6 : FVec F S4x2048x8x64 .f32 := Host.absf main_arg2
  let main_cst_1 : FVec F S_ .f32 := constant S_ .f32 0x7F800000#32
  let main_v7 : FVec F S4x2048x8x64 .f32 := broadcastInDim S4x2048x8x64 ![] bcast_S_S4x2048x8x64 main_cst_1
  let main_v8 : IVec S4x2048x8x64 1 := cmpf .olt main_v6 main_v7
  let main_v9 : FVec F S4x8x2048 .f32 := Host.absf main_arg3
  let main_cst_2 : FVec F S_ .f32 := constant S_ .f32 0x7F800000#32
  let main_v10 : FVec F S4x8x2048 .f32 := broadcastInDim S4x8x2048 ![] bcast_S_S4x8x2048 main_cst_2
  let main_v11 : IVec S4x8x2048 1 := cmpf .olt main_v9 main_v10
  let main_v12 : FVec F S4x2048x1024 .f32 := Host.absf main_arg4
  let main_cst_3 : FVec F S_ .f32 := constant S_ .f32 0x7F800000#32
  let main_v13 : FVec F S4x2048x1024 .f32 := broadcastInDim S4x2048x1024 ![] bcast_S_S4x2048x1024 main_cst_3
  let main_v14 : IVec S4x2048x1024 1 := cmpf .olt main_v12 main_v13
  (main_v2, main_v5, main_v8, main_v11, main_v14)
-- ==== Kernel.lean ====
abbrev S4x2048x8x64 : Shape := ⟨4, ![4, 2048, 8, 64]⟩
abbrev S4x8x2048 : Shape := ⟨3, ![4, 8, 2048]⟩
abbrev S4x2048x1024 : Shape := ⟨3, ![4, 2048, 1024]⟩
abbrev S8192x3072 : Shape := ⟨2, ![8192, 3072]⟩
abbrev S8192x512 : Shape := ⟨2, ![8192, 512]⟩
abbrev S8192x1536 : Shape := ⟨2, ![8192, 1536]⟩
abbrev S8192x3x4x128 : Shape := ⟨4, ![8192, 3, 4, 128]⟩
abbrev S8192x4x3x128 : Shape := ⟨4, ![8192, 4, 3, 128]⟩
abbrev S4x8x2048x2048 : Shape := ⟨4, ![4, 8, 2048, 2048]⟩
abbrev S_ : Shape := ⟨0, ![]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x2048x1 : Shape := ⟨4, ![4, 8, 2048, 1]⟩
abbrev S4x8x64x2048 : Shape := ⟨4, ![4, 8, 64, 2048]⟩
abbrev S4x2048x8 : Shape := ⟨3, ![4, 2048, 8]⟩
abbrev S4x2048x8x1 : Shape := ⟨4, ![4, 2048, 8, 1]⟩
abbrev S8192x1024 : Shape := ⟨2, ![8192, 1024]⟩
abbrev S4x4x2x2048 : Shape := ⟨4, ![4, 4, 2, 2048]⟩
abbrev S2048x128 : Shape := ⟨2, ![2048, 128]⟩
abbrev S512x128 : Shape := ⟨2, ![512, 128]⟩
abbrev S1x8x2048 : Shape := ⟨3, ![1, 8, 2048]⟩
abbrev S2048x384 : Shape := ⟨2, ![2048, 384]⟩
abbrev S1x1x2x512 : Shape := ⟨4, ![1, 1, 2, 512]⟩
abbrev S1x128 : Shape := ⟨2, ![1, 128]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S512x512 : Shape := ⟨2, ![512, 512]⟩
abbrev S1x1x1x512 : Shape := ⟨4, ![1, 1, 1, 512]⟩

abbrev nBuf : Space → Nat
  | .hbm => 59
  | .vmem => 19
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x64, .f32⟩
  | .hbm, ⟨2, _⟩ => ⟨S4x2048x8x64, .f32⟩
  | .hbm, ⟨3, _⟩ => ⟨S4x8x2048, .f32⟩
  | .hbm, ⟨4, _⟩ => ⟨S4x2048x1024, .f32⟩
  | .hbm, ⟨5, _⟩ => ⟨S8192x3072, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x1536, .f32⟩
  | .hbm, ⟨10, _⟩ => ⟨S8192x3x4x128, .f32⟩
  | .hbm, ⟨11, _⟩ => ⟨S8192x4x3x128, .f32⟩
  | .hbm, ⟨12, _⟩ => ⟨S8192x1536, .f32⟩
  | .hbm, ⟨13, _⟩ => ⟨S8192x1536, .bf16⟩
  | .hbm, ⟨14, _⟩ => ⟨S4x8x2048x2048, .f32⟩
  | .hbm, ⟨15, _⟩ => ⟨S_, .f32⟩
  | .hbm, ⟨16, _⟩ => ⟨S4x8x2048x2048, .f32⟩
  | .hbm, ⟨17, _⟩ => ⟨S4x8x2048x2048, .f32⟩
  | .hbm, ⟨18, _⟩ => ⟨S4x8x1x2048, .f32⟩
  | .hbm, ⟨19, _⟩ => ⟨S4x8x2048x2048, .f32⟩
  | .hbm, ⟨20, _⟩ => ⟨S4x8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S1x1x2048x2048, .i1⟩
  | .hbm, ⟨28, _⟩ => ⟨S_, .f32⟩
  | .hbm, ⟨29, _⟩ => ⟨S_, .f32⟩
  | .hbm, ⟨30, _⟩ => ⟨S4x8x2048x2048, .i1⟩
  | .hbm, ⟨31, _⟩ => ⟨S4x8x2048x2048, .f32⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S4x8x2048x1, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S_, .f32⟩
  | .hbm, ⟨40, _⟩ => ⟨S4x8x2048, .f32⟩
  | .hbm, ⟨41, _⟩ => ⟨S4x8x2048x1, .f32⟩
  | .hbm, ⟨42, _⟩ => ⟨S4x8x2048x2048, .f32⟩
  | .hbm, ⟨43, _⟩ => ⟨S4x8x2048x2048, .f32⟩
  | .hbm, ⟨44, _⟩ => ⟨S4x8x64x2048, .f32⟩
  | .hbm, ⟨45, _⟩ => ⟨S4x2048x8x64, .f32⟩
  | .hbm, ⟨46, _⟩ => ⟨S8192x512, .f32⟩
  | .hbm, ⟨47, _⟩ => ⟨S4x8x2048x1, .f32⟩
  | .hbm, ⟨48, _⟩ => ⟨S4x8x2048x1, .f32⟩
  | .hbm, ⟨49, _⟩ => ⟨S4x8x2048, .f32⟩
  | .hbm, ⟨50, _⟩ => ⟨S4x2048x8, .f32⟩
  | .hbm, ⟨51, _⟩ => ⟨S4x2048x8x1, .f32⟩
  | .hbm, ⟨52, _⟩ => ⟨S4x2048x8x64, .f32⟩
  | .hbm, ⟨53, _⟩ => ⟨S8192x512, .f32⟩
  | .hbm, ⟨54, _⟩ => ⟨S8192x1024, .f32⟩
  | .hbm, ⟨55, _⟩ => ⟨S8192x1024, .bf16⟩
  | .hbm, ⟨56, _⟩ => ⟨S8192x3072, .bf16⟩
  | .hbm, ⟨57, _⟩ => ⟨S8192x3072, .bf16⟩
  | .hbm, ⟨58, _⟩ => ⟨S4x4x2x2048, .f32⟩
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S1x8x2048, .f32⟩
  | .local _ .vmem, ⟨13, _⟩ => ⟨S1x8x2048, .f32⟩
  | .local _ .vmem, ⟨14, _⟩ => ⟨S2048x384, .bf16⟩
  | .local _ .vmem, ⟨15, _⟩ => ⟨S2048x384, .bf16⟩
  | .local _ .vmem, ⟨16, _⟩ => ⟨S1x1x2x512, .f32⟩
  | .local _ .vmem, ⟨17, _⟩ => ⟨S1x1x2x512, .f32⟩
  | .local _ .vmem, ⟨18, _⟩ => ⟨S2048x128, .f32⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44_0 : Ref sig .tc := ⟨.hbm, 57, rfl⟩
abbrev main_v44_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c0_i32_7 : BitVec 32 := 0#32
  let v27 : BitVec 1 := Scalar.cmpi .eq arg2 c0_i32_7
  let v28 : BitVec 32 := Scalar.extui v27
  let c0_i32_8 : BitVec 32 := 0#32
  let v29 : BitVec 1 := Scalar.cmpi .ne v28 c0_i32_8
  v29

def k0_off1 (i : grid0.Coords) (c0_i32_13 : BitVec 32) : Fin 3 → Nat :=
  let c0_14 : Index := 0#32
  let c2_i32_12 : BitVec 32 := 2#32
  let arg1 : BitVec 32 := BitVec.ofNat 32 (i 1).val
  let v39 : BitVec 32 := Scalar.muli c2_i32_12 arg1
  let v40 : BitVec 32 := Scalar.addi v39 c0_i32_13
  let v41 : Index := Scalar.indexCast v40
  let c0_15 : Index := 0#32
  ![0, v41.toNat, 0]
def k0_cond3 (i : grid0.Coords) : BitVec 1 :=
  let arg2 : BitVec 32 := BitVec.ofNat 32 (i 2).val
  let c1_i32 : BitVec 32 := 1#32
  let v30 : BitVec 1 := Scalar.cmpi .eq arg2 c1_i32
  let v31 : BitVec 32 := Scalar.extui v30
  let c0_i32_9 : BitVec 32 := 0#32
  let v32 : BitVec 1 := Scalar.cmpi .ne v31 c0_i32_9
  v32

def k0_off2 (i : grid0.Coords) (c0_i32_13 : BitVec 32) : Fin 3 → Nat :=
  let c0_14 : Index := 0#32
  let c2_i32_12 : BitVec 32 := 2#32
  let arg1 : BitVec 32 := BitVec.ofNat 32 (i 1).val
  let v39 : BitVec 32 := Scalar.muli c2_i32_12 arg1
  let v40 : BitVec 32 := Scalar.addi v39 c0_i32_13
  let v41 : Index := Scalar.indexCast v40
  let c512 : Index := 512#32
  ![0, v41.toNat, 512]
def k0_cond4 (i : grid0.Coords) : BitVec 1 :=
  let arg2 : BitVec 32 := BitVec.ofNat 32 (i 2).val
  let c2_i32 : BitVec 32 := 2#32
  let v33 : BitVec 1 := Scalar.cmpi .eq arg2 c2_i32
  let v34 : BitVec 32 := Scalar.extui v33
  let c0_i32_10 : BitVec 32 := 0#32
  let v35 : BitVec 1 := Scalar.cmpi .ne v34 c0_i32_10
  v35

def k0_off3 (i : grid0.Coords) (c0_i32_13 : BitVec 32) : Fin 3 → Nat :=
  let c0_14 : Index := 0#32
  let c2_i32_12 : BitVec 32 := 2#32
  let arg1 : BitVec 32 := BitVec.ofNat 32 (i 1).val
  let v39 : BitVec 32 := Scalar.muli c2_i32_12 arg1
  let v40 : BitVec 32 := Scalar.addi v39 c0_i32_13
  let v41 : Index := Scalar.indexCast v40
  let c1024 : Index := 1024#32
  ![0, v41.toNat, 1024]
def k0_cond5 (i : grid0.Coords) : BitVec 1 :=
  let arg2 : BitVec 32 := BitVec.ofNat 32 (i 2).val
  let c3_i32 : BitVec 32 := 3#32
  let v36 : BitVec 1 := Scalar.cmpi .eq arg2 c3_i32
  let v37 : BitVec 32 := Scalar.extui v36
  let c0_i32_11 : BitVec 32 := 0#32
  let v38 : BitVec 1 := Scalar.cmpi .ne v37 c0_i32_11
  v38

def k0_off4 (i : grid0.Coords) (c0_i32_13 : BitVec 32) : Fin 3 → Nat :=
  let c0_14 : Index := 0#32
  let c2_i32_12 : BitVec 32 := 2#32
  let arg1 : BitVec 32 := BitVec.ofNat 32 (i 1).val
  let v39 : BitVec 32 := Scalar.muli c2_i32_12 arg1
  let v40 : BitVec 32 := Scalar.addi v39 c0_i32_13
  let v41 : Index := Scalar.indexCast v40
  let c1536 : Index := 1536#32
  ![0, v41.toNat, 1536]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.muli c3_i32 arg1
  let c1_i32 : BitVec 32 := 1#32
  let v3 : BitVec 32 := Scalar.addi v2 c1_i32
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.muli c3_i32 arg1
  let c2_i32 : BitVec 32 := 2#32
  let v3 : BitVec 32 := Scalar.addi v2 c2_i32
  let c0_i32 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S2048x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x8x64 : Shape := ⟨4, ![4, 2048, 8, 64]⟩
abbrev S4x8x2048 : Shape := ⟨3, ![4, 8, 2048]⟩
abbrev S4x2048x1024 : Shape := ⟨3, ![4, 2048, 1024]⟩
abbrev S8192x3072 : Shape := ⟨2, ![8192, 3072]⟩
abbrev S4x2048x512 : Shape := ⟨3, ![4, 2048, 512]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x64x2048 : Shape := ⟨4, ![4, 8, 64, 2048]⟩
abbrev S4x8x2048x64 : Shape := ⟨4, ![4, 8, 2048, 64]⟩
abbrev S8192x4x128 : Shape := ⟨3, ![8192, 4, 128]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩
abbrev S4x4x2x2048 : Shape := ⟨4, ![4, 4, 2, 2048]⟩

abbrev nBuf : Space → Nat
  | .hbm => 124
  | .vmem => 0
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x64, .f32⟩
  | .hbm, ⟨2, _⟩ => ⟨S4x2048x8x64, .f32⟩
  | .hbm, ⟨3, _⟩ => ⟨S4x8x2048, .f32⟩
  | .hbm, ⟨4, _⟩ => ⟨S4x2048x1024, .f32⟩
  | .hbm, ⟨5, _⟩ => ⟨S8192x3072, .f32⟩
  | .hbm, ⟨6, _⟩ => ⟨S4x2048x512, .f32⟩
  | .hbm, ⟨7, _⟩ => ⟨S4x2048x8x64, .f32⟩
  | .hbm, ⟨8, _⟩ => ⟨S4x8x2048x2048, .f32⟩
  | .hbm, ⟨9, _⟩ => ⟨S_, .f32⟩
  | .hbm, ⟨10, _⟩ => ⟨S4x8x2048x2048, .f32⟩
  | .hbm, ⟨11, _⟩ => ⟨S4x8x2048x2048, .f32⟩
  | .hbm, ⟨12, _⟩ => ⟨S4x8x2048x1, .f32⟩
  | .hbm, ⟨13, _⟩ => ⟨S4x8x1x2048, .f32⟩
  | .hbm, ⟨14, _⟩ => ⟨S4x8x2048x2048, .f32⟩
  | .hbm, ⟨15, _⟩ => ⟨S4x8x2048x2048, .f32⟩
  | .hbm, ⟨16, _⟩ => ⟨S4x8x2048x2048, .f32⟩
  | .hbm, ⟨17, _⟩ => ⟨S4x8x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S1x1x2048x2048, .i1⟩
  | .hbm, ⟨25, _⟩ => ⟨S_, .f32⟩
  | .hbm, ⟨26, _⟩ => ⟨S_, .f32⟩
  | .hbm, ⟨27, _⟩ => ⟨S4x8x2048x2048, .i1⟩
  | .hbm, ⟨28, _⟩ => ⟨S4x8x2048x2048, .f32⟩
  | .hbm, ⟨29, _⟩ => ⟨S4x8x2048x2048, .f32⟩
  | .hbm, ⟨30, _⟩ => ⟨S_, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S4x8x2048x1, .f32⟩
  | .hbm, ⟨35, _⟩ => ⟨S4x8x2048x2048, .f32⟩
  | .hbm, ⟨36, _⟩ => ⟨S4x8x2048x2048, .i1⟩
  | .hbm, ⟨37, _⟩ => ⟨S4x8x2048x2048, .f32⟩
  | .hbm, ⟨38, _⟩ => ⟨S_, .f32⟩
  | .hbm, ⟨39, _⟩ => ⟨S4x8x2048, .f32⟩
  | .hbm, ⟨40, _⟩ => ⟨S_, .f32⟩
  | .hbm, ⟨41, _⟩ => ⟨S4x8x2048, .f32⟩
  | .hbm, ⟨42, _⟩ => ⟨S4x8x2048, .f32⟩
  | .hbm, ⟨43, _⟩ => ⟨S_, .f32⟩
  | .hbm, ⟨44, _⟩ => ⟨S4x8x2048, .f32⟩
  | .hbm, ⟨45, _⟩ => ⟨S4x8x2048, .i1⟩
  | .hbm, ⟨46, _⟩ => ⟨S_, .f32⟩
  | .hbm, ⟨47, _⟩ => ⟨S4x8x2048, .f32⟩
  | .hbm, ⟨48, _⟩ => ⟨S4x8x2048, .i1⟩
  | .hbm, ⟨49, _⟩ => ⟨S_, .f32⟩
  | .hbm, ⟨50, _⟩ => ⟨S4x8x2048, .f32⟩
  | .hbm, ⟨51, _⟩ => ⟨S_, .f32⟩
  | .hbm, ⟨52, _⟩ => ⟨S4x8x2048, .f32⟩
  | .hbm, ⟨53, _⟩ => ⟨S_, .f32⟩
  | .hbm, ⟨54, _⟩ => ⟨S4x8x2048, .f32⟩
  | .hbm, ⟨55, _⟩ => ⟨S4x8x2048, .f32⟩
  | .hbm, ⟨56, _⟩ => ⟨S4x8x2048, .f32⟩
  | .hbm, ⟨57, _⟩ => ⟨S4x8x2048x1, .f32⟩
  | .hbm, ⟨58, _⟩ => ⟨S4x8x2048x2048, .f32⟩
  | .hbm, ⟨59, _⟩ => ⟨S4x8x2048x2048, .f32⟩
  | .hbm, ⟨60, _⟩ => ⟨S4x8x2048x2048, .f32⟩
  | .hbm, ⟨61, _⟩ => ⟨S_, .f32⟩
  | .hbm, ⟨62, _⟩ => ⟨S4x8x2048, .f32⟩
  | .hbm, ⟨63, _⟩ => ⟨S4x8x2048x1, .f32⟩
  | .hbm, ⟨64, _⟩ => ⟨S4x8x2048x2048, .f32⟩
  | .hbm, ⟨65, _⟩ => ⟨S4x8x2048x2048, .f32⟩
  | .hbm, ⟨66, _⟩ => ⟨S4x8x2048x1, .f32⟩
  | .hbm, ⟨67, _⟩ => ⟨S_, .f32⟩
  | .hbm, ⟨68, _⟩ => ⟨S4x8x2048x1, .f32⟩
  | .hbm, ⟨69, _⟩ => ⟨S4x8x2048x1, .f32⟩
  | .hbm, ⟨70, _⟩ => ⟨S4x8x64x2048, .f32⟩
  | .hbm, ⟨71, _⟩ => ⟨S4x2048x8x64, .f32⟩
  | .hbm, ⟨72, _⟩ => ⟨S4x8x64x2048, .f32⟩
  | .hbm, ⟨73, _⟩ => ⟨S4x8x2048x2048, .f32⟩
  | .hbm, ⟨74, _⟩ => ⟨S4x8x64x2048, .f32⟩
  | .hbm, ⟨75, _⟩ => ⟨S4x2048x8x64, .f32⟩
  | .hbm, ⟨76, _⟩ => ⟨S4x8x2048x2048, .f32⟩
  | .hbm, ⟨77, _⟩ => ⟨S4x8x2048x2048, .f32⟩
  | .hbm, ⟨78, _⟩ => ⟨S4x8x2048x2048, .f32⟩
  | .hbm, ⟨79, _⟩ => ⟨S_, .f32⟩
  | .hbm, ⟨80, _⟩ => ⟨S4x8x2048, .f32⟩
  | .hbm, ⟨81, _⟩ => ⟨S4x8x2048x1, .f32⟩
  | .hbm, ⟨82, _⟩ => ⟨S4x8x2048x1, .f32⟩
  | .hbm, ⟨83, _⟩ => ⟨S4x8x2048x2048, .f32⟩
  | .hbm, ⟨84, _⟩ => ⟨S4x8x2048x2048, .f32⟩
  | .hbm, ⟨85, _⟩ => ⟨S_, .f32⟩
  | .hbm, ⟨86, _⟩ => ⟨S4x8x2048, .f32⟩
  | .hbm, ⟨87, _⟩ => ⟨S4x8x2048x2048, .f32⟩
  | .hbm, ⟨88, _⟩ => ⟨S4x8x2048x2048, .f32⟩
  | .hbm, ⟨89, _⟩ => ⟨S4x8x2048x2048, .f32⟩
  | .hbm, ⟨90, _⟩ => ⟨S_, .f32⟩
  | .hbm, ⟨91, _⟩ => ⟨S4x8x2048x2048, .f32⟩
  | .hbm, ⟨92, _⟩ => ⟨S4x8x2048x2048, .f32⟩
  | .hbm, ⟨93, _⟩ => ⟨S_, .f32⟩
  | .hbm, ⟨94, _⟩ => ⟨S4x8x2048, .f32⟩
  | .hbm, ⟨95, _⟩ => ⟨S4x8x2048x1, .f32⟩
  | .hbm, ⟨96, _⟩ => ⟨S4x8x2048x2048, .f32⟩
  | .hbm, ⟨97, _⟩ => ⟨S_, .f32⟩
  | .hbm, ⟨98, _⟩ => ⟨S4x8x2048, .f32⟩
  | .hbm, ⟨99, _⟩ => ⟨S4x8x1x2048, .f32⟩
  | .hbm, ⟨100, _⟩ => ⟨S_, .f32⟩
  | .hbm, ⟨101, _⟩ => ⟨S4x8x2048, .f32⟩
  | .hbm, ⟨102, _⟩ => ⟨S_, .f32⟩
  | .hbm, ⟨103, _⟩ => ⟨S4x8x2048, .f32⟩
  | .hbm, ⟨104, _⟩ => ⟨S4x8x2048, .f32⟩
  | .hbm, ⟨105, _⟩ => ⟨S_, .f32⟩
  | .hbm, ⟨106, _⟩ => ⟨S4x8x2048x2048, .f32⟩
  | .hbm, ⟨107, _⟩ => ⟨S4x8x2048x2048, .f32⟩
  | .hbm, ⟨108, _⟩ => ⟨S4x8x2048x64, .f32⟩
  | .hbm, ⟨109, _⟩ => ⟨S4x2048x8x64, .f32⟩
  | .hbm, ⟨110, _⟩ => ⟨S4x8x2048x64, .f32⟩
  | .hbm, ⟨111, _⟩ => ⟨S4x2048x8x64, .f32⟩
  | .hbm, ⟨112, _⟩ => ⟨S8192x4x128, .f32⟩
  | .hbm, ⟨113, _⟩ => ⟨S8192x4x128, .f32⟩
  | .hbm, ⟨114, _⟩ => ⟨S8192x4x128, .f32⟩
  | .hbm, ⟨115, _⟩ => ⟨S8192x4x1x128, .f32⟩
  | .hbm, ⟨116, _⟩ => ⟨S8192x4x1x128, .f32⟩
  | .hbm, ⟨117, _⟩ => ⟨S8192x4x1x128, .f32⟩
  | .hbm, ⟨118, _⟩ => ⟨S8192x4x3x128, .f32⟩
  | .hbm, ⟨119, _⟩ => ⟨S8192x1536, .f32⟩
  | .hbm, ⟨120, _⟩ => ⟨S8192x1536, .f32⟩
  | .hbm, ⟨121, _⟩ => ⟨S8192x3072, .f32⟩
  | .hbm, ⟨122, _⟩ => ⟨S8192x3072, .bf16⟩
  | .hbm, ⟨123, _⟩ => ⟨S4x4x2x2048, .f32⟩
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_v18_1 : Ref sig .tc := ⟨.hbm, 27, rfl⟩
abbrev main_call0_v2 : Ref sig .tc := ⟨.hbm, 28, rfl⟩
abbrev main_v18_0 : Ref sig .tc := ⟨.hbm, 29, rfl⟩
abbrev main_call0_cst : Ref sig .tc := ⟨.hbm, 30, rfl⟩
abbrev main_v18_2 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call1_cst : Ref sig .tc := ⟨.hbm, 90, rfl⟩
abbrev main_call1_v0 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_cst_16 : Ref sig .tc := ⟨.hbm, 102, rfl⟩
abbrev main_v72 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]

def κ : String → Option EReal := fun
  | "mask" => some ⊥
  | _ => none
-- ==== Up.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x4096, .f32⟩
  | .hbm, ⟨8, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DownBwd.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S8192x1024, .bf16⟩
  | .hbm, ⟨4, _⟩ => ⟨S4096x1024, .bf16⟩
  | .hbm, ⟨5, _⟩ => ⟨S8192x4096, .bf16⟩
  | .hbm, ⟨6, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownBwdRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x1024, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== GradIn.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradDown.lean ====
abbrev S8192x4096 : Shape := ⟨2, ![8192, 4096]⟩
abbrev S8192x1024 : Shape := ⟨2, ![8192, 1024]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4x2048x1024, .f32⟩
  | .hbm, ⟨3, _⟩ => ⟨S8192x4096, .bf16⟩
  | .hbm, ⟨4, _⟩ => ⟨S8192x1024, .bf16⟩
  | .hbm, ⟨5, _⟩ => ⟨S4x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GradDownRefIdeal.lean ====
abbrev S8192x4096 : Shape := ⟨2, ![8192, 4096]⟩
abbrev S8192x1024 : Shape := ⟨2, ![8192, 1024]⟩
abbrev S4x2048x1024 : Shape := ⟨3, ![4, 2048, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4x2048x1024, .f32⟩
  | .hbm, ⟨3, _⟩ => ⟨S_, .f32⟩
  | .hbm, ⟨4, _⟩ => ⟨S4096x1024, .f32⟩
  | .hbm, ⟨5, _⟩ => ⟨S8192x1024, .f32⟩
  | .hbm, ⟨6, _⟩ => ⟨S1024x4096, .f32⟩
  | .hbm, ⟨7, _⟩ => ⟨S4096x1024, .f32⟩
  | .hbm, ⟨8, _⟩ => ⟨S4x1024x1024, .f32⟩
  | .hbm, ⟨9, _⟩ => ⟨S4x1024x1024, .f32⟩
  | .hbm, ⟨10, _⟩ => ⟨S4x2048x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== UpBwd.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpBwdRefIdeal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DownLoss.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x4096, .bf16⟩
  | .hbm, ⟨6, _⟩ => ⟨S4096x1024, .bf16⟩
  | .hbm, ⟨7, _⟩ => ⟨S1x1024, .f32⟩
  | .hbm, ⟨8, _⟩ => ⟨S1x128, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x128, .f32⟩
  | .hbm, ⟨76, _⟩ => ⟨S8192x1024, .bf16⟩
  | .hbm, ⟨77, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== GradSquare.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradSquareRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradOut.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutBwd.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutBwdRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InBwd.lean ====
abbrev S8192x3072 : Shape := ⟨2, ![8192, 3072]⟩
abbrev S8192x128 : Shape := ⟨2, ![8192, 128]⟩
abbrev S1024x3072 : Shape := ⟨2, ![1024, 3072]⟩
abbrev S1024x128 : Shape := ⟨2, ![1024, 128]⟩
abbrev S8192x1024 : Shape := ⟨2, ![8192, 1024]⟩
abbrev S1024 : Shape := ⟨1, ![1024]⟩
abbrev S1x1024 : Shape := ⟨2, ![1, 1024]⟩
abbrev S512x3072 : Shape := ⟨2, ![512, 3072]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x3072, .f32⟩
  | .hbm, ⟨1, _⟩ => ⟨S8192x128, .f32⟩
  | .hbm, ⟨2, _⟩ => ⟨S1024x3072, .f32⟩
  | .hbm, ⟨3, _⟩ => ⟨S1024x128, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x3072, .bf16⟩
  | .hbm, ⟨8, _⟩ => ⟨S8192x128, .bf16⟩
  | .hbm, ⟨9, _⟩ => ⟨S1024x3072, .bf16⟩
  | .hbm, ⟨10, _⟩ => ⟨S1024x128, .bf16⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x128, .bf16⟩
  | .local _ .vmem, ⟨3, _⟩ => ⟨S512x128, .bf16⟩
  | .local _ .vmem, ⟨4, _⟩ => ⟨S1024x3072, .bf16⟩
  | .local _ .vmem, ⟨5, _⟩ => ⟨S1024x128, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InBwdRefIdeal.lean ====
abbrev S8192x3072 : Shape := ⟨2, ![8192, 3072]⟩
abbrev S8192x128 : Shape := ⟨2, ![8192, 128]⟩
abbrev S1024x3072 : Shape := ⟨2, ![1024, 3072]⟩
abbrev S1024x128 : Shape := ⟨2, ![1024, 128]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x128, .f32⟩
  | .hbm, ⟨2, _⟩ => ⟨S1024x3072, .f32⟩
  | .hbm, ⟨3, _⟩ => ⟨S1024x128, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x128, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S1x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S1024x3200 : Shape := ⟨2, ![1024, 3200]⟩
abbrev S1x1024 : Shape := ⟨2, ![1, 1024]⟩
abbrev S8192x1536 : Shape := ⟨2, ![8192, 1536]⟩
abbrev S8192x128 : Shape := ⟨2, ![8192, 128]⟩
abbrev S512x1024 : Shape := ⟨2, ![512, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1024x1536 : Shape := ⟨2, ![1024, 1536]⟩
abbrev S1024x128 : Shape := ⟨2, ![1024, 128]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3200, .f32⟩
  | .hbm, ⟨3, _⟩ => ⟨S1024x3200, .bf16⟩
  | .hbm, ⟨4, _⟩ => ⟨S1x1024, .f32⟩
  | .hbm, ⟨5, _⟩ => ⟨S8192x1024, .bf16⟩
  | .hbm, ⟨6, _⟩ => ⟨S8192x1536, .f32⟩
  | .hbm, ⟨7, _⟩ => ⟨S8192x1536, .bf16⟩
  | .hbm, ⟨8, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1024, .bf16⟩
  | .local _ .vmem, ⟨5, _⟩ => ⟨S512x1024, .bf16⟩
  | .local _ .vmem, ⟨6, _⟩ => ⟨S512x1536, .f32⟩
  | .local _ .vmem, ⟨7, _⟩ => ⟨S512x1536, .f32⟩
  | .local _ .vmem, ⟨8, _⟩ => ⟨S512x1536, .bf16⟩
  | .local _ .vmem, ⟨9, _⟩ => ⟨S512x1536, .bf16⟩
  | .local _ .vmem, ⟨10, _⟩ => ⟨S512x128, .f32⟩
  | .local _ .vmem, ⟨11, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S8192x1024 : Shape := ⟨2, ![8192, 1024]⟩
abbrev S1024 : Shape := ⟨1, ![1024]⟩
abbrev S1024x3200 : Shape := ⟨2, ![1024, 3200]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3200 : Shape := ⟨2, ![8192, 3200]⟩
abbrev S8192x1536 : Shape := ⟨2, ![8192, 1536]⟩
abbrev S8192x128 : Shape := ⟨2, ![8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3200, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x3200, .f32⟩
  | .hbm, ⟨20, _⟩ => ⟨S8192x1024, .bf16⟩
  | .hbm, ⟨21, _⟩ => ⟨S8192x1536, .f32⟩
  | .hbm, ⟨22, _⟩ => ⟨S8192x1536, .f32⟩
  | .hbm, ⟨23, _⟩ => ⟨S8192x1536, .bf16⟩
  | .hbm, ⟨24, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== GradUp.lean ====
abbrev S8192x1024 : Shape := ⟨2, ![8192, 1024]⟩
abbrev S8192x4096 : Shape := ⟨2, ![8192, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S4x2048x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GradUpRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutXattn.lean ====
abbrev S8192x512 : Shape := ⟨2, ![8192, 512]⟩
abbrev S8192x1024 : Shape := ⟨2, ![8192, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 27
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S8192x512, .bf16⟩
  | .hbm, ⟨11, _⟩ => ⟨S8192x512, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S512x1024, .bf16⟩
  | .hbm, ⟨18, _⟩ => ⟨S512x1024, .bf16⟩
  | .hbm, ⟨19, _⟩ => ⟨S1x1024, .f32⟩
  | .hbm, ⟨20, _⟩ => ⟨S1x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .f32⟩
  | .hbm, ⟨26, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutXattnRefIdeal.lean ====
abbrev S8192x512 : Shape := ⟨2, ![8192, 512]⟩
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S4x2048x4x256, .f32⟩
  | .hbm, ⟨31, _⟩ => ⟨S4x256x4x256, .f32⟩
  | .hbm, ⟨32, _⟩ => ⟨S4x256x4x256, .f32⟩
  | .hbm, ⟨33, _⟩ => ⟨S4x4x2048x256, .f32⟩
  | .hbm, ⟨34, _⟩ => ⟨S_, .f32⟩
  | .hbm, ⟨35, _⟩ => ⟨S4x4x2048x256, .f32⟩
  | .hbm, ⟨36, _⟩ => ⟨S4x4x2048x256, .f32⟩
  | .hbm, ⟨37, _⟩ => ⟨S_, .f32⟩
  | .hbm, ⟨38, _⟩ => ⟨S4x4x2048, .f32⟩
  | .hbm, ⟨39, _⟩ => ⟨S_, .f32⟩
  | .hbm, ⟨40, _⟩ => ⟨S4x4x2048, .f32⟩
  | .hbm, ⟨41, _⟩ => ⟨S4x4x2048, .f32⟩
  | .hbm, ⟨42, _⟩ => ⟨S4x4x2048x1, .f32⟩
  | .hbm, ⟨43, _⟩ => ⟨S4x4x2048x256, .f32⟩
  | .hbm, ⟨44, _⟩ => ⟨S4x4x2048x256, .f32⟩
  | .hbm, ⟨45, _⟩ => ⟨S4x4x2048x256, .f32⟩
  | .hbm, ⟨46, _⟩ => ⟨S_, .f32⟩
  | .hbm, ⟨47, _⟩ => ⟨S4x4x2048, .f32⟩
  | .hbm, ⟨48, _⟩ => ⟨S4x4x2048x1, .f32⟩
  | .hbm, ⟨49, _⟩ => ⟨S4x4x2048x256, .f32⟩
  | .hbm, ⟨50, _⟩ => ⟨S4x4x2048x256, .f32⟩
  | .hbm, ⟨51, _⟩ => ⟨S4x4x256x2048, .f32⟩
  | .hbm, ⟨52, _⟩ => ⟨S4x2048x4x256, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S8192x1024, .bf16⟩
  | .hbm, ⟨74, _⟩ => ⟨S8192x1024, .bf16⟩
  | .hbm, ⟨75, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== MemProj.lean ====
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .bf16⟩
  | .hbm, ⟨3, _⟩ => ⟨S1024x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemProjRefIdeal.lean ====
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemBwd.lean ====
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .bf16⟩
  | .hbm, ⟨3, _⟩ => ⟨S1024x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemBwdRefIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MemSum.lean ====
abbrev S1024x1024 : Shape := ⟨2, ![1024, 1024]⟩

abbrev nBuf : Space → Nat
  | .hbm => 6
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== MemSumRefIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GradMem.lean ====
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .bf16⟩
  | .hbm, ⟨3, _⟩ => ⟨S1024x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradMemRefIdeal.lean ====
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradGate.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x1024, .bf16⟩
  | .hbm, ⟨3, _⟩ => ⟨S8192x128, .bf16⟩
  | .hbm, ⟨4, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradGateRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x128, .f32⟩
  | .hbm, ⟨5, _⟩ => ⟨S128x1024, .f32⟩
  | .hbm, ⟨6, _⟩ => ⟨S1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormMem.lean ====
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1x1024, .f32⟩
  | .hbm, ⟨3, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMemRefIdeal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormMemBwd.lean ====
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormMemBwdRefIdeal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024, .f32⟩
  | .hbm, ⟨31, _⟩ => ⟨S1024x1024, .f32⟩
  | .hbm, ⟨32, _⟩ => ⟨S_, .f32⟩
  | .hbm, ⟨33, _⟩ => ⟨S1024, .f32⟩
  | .hbm, ⟨34, _⟩ => ⟨S1024x1, .f32⟩
  | .hbm, ⟨35, _⟩ => ⟨S1024x1024, .f32⟩
  | .hbm, ⟨36, _⟩ => ⟨S1024x1024, .f32⟩
  | .hbm, ⟨37, _⟩ => ⟨S1024x1, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S_, .f32⟩
  | .hbm, ⟨42, _⟩ => ⟨S1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .bf16⟩
  | .hbm, ⟨49, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== AdamMlp.lean ====
abbrev S1024x1024 : Shape := ⟨2, ![1024, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpIdeal.lean ====
abbrev S1024x1024 : Shape := ⟨2, ![1024, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMid.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMidIdeal.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMidRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x770 : Shape := ⟨2, ![1024, 770]⟩
abbrev S128x770 : Shape := ⟨2, ![128, 770]⟩

abbrev nBuf : Space → Nat
  | .hbm => 7
  | .vmem => 14
  | .smem => 0
  | _ => 0

abbrev bufTy : (tb : Table) → Fin (tcTables nBuf tb) → BufTy
  | .hbm, ⟨0, _⟩ => ⟨S1024x770, .f32⟩
  | .hbm, ⟨1, _⟩ => ⟨S1024x770, .f32⟩
  | .hbm, ⟨2, _⟩ => ⟨S1024x770, .f32⟩
  | .hbm, ⟨3, _⟩ => ⟨S1024x770, .f32⟩
  | .hbm, ⟨4, _⟩ => ⟨S1024x770, .f32⟩
  | .hbm, ⟨5, _⟩ => ⟨S1024x770, .f32⟩
  | .hbm, ⟨6, _⟩ => ⟨S1024x770, .f32⟩
  | .local _ .vmem, ⟨0, _⟩ => ⟨S128x770, .f32⟩
  | .local _ .vmem, ⟨1, _⟩ => ⟨S128x770, .f32⟩
  | .local _ .vmem, ⟨2, _⟩ => ⟨S128x770, .f32⟩
  | .local _ .vmem, ⟨3, _⟩ => ⟨S128x770, .f32⟩
  | .local _ .vmem, ⟨4, _⟩ => ⟨S128x770, .f32⟩
  | .local _ .vmem, ⟨5, _⟩ => ⟨S128x770, .f32⟩
  | .local _ .vmem, ⟨6, _⟩ => ⟨S128x770, .f32⟩
  | .local _ .vmem, ⟨7, _⟩ => ⟨S128x770, .f32⟩
  | .local _ .vmem, ⟨8, _⟩ => ⟨S128x770, .f32⟩
  | .local _ .vmem, ⟨9, _⟩ => ⟨S128x770, .f32⟩
  | .local _ .vmem, ⟨10, _⟩ => ⟨S128x770, .f32⟩
  | .local _ .vmem, ⟨11, _⟩ => ⟨S128x770, .f32⟩
  | .local _ .vmem, ⟨12, _⟩ => ⟨S128x770, .f32⟩
  | .local _ .vmem, ⟨13, _⟩ => ⟨S128x770, .f32⟩
  | _, _ => ⟨S1024x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x770 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x770 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x770 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x770 : Shape := ⟨2, ![1024, 770]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x770, .f32⟩
  | .hbm, ⟨1, _⟩ => ⟨S1024x770, .f32⟩
  | .hbm, ⟨2, _⟩ => ⟨S1024x770, .f32⟩
  | .hbm, ⟨3, _⟩ => ⟨S1024x770, .f32⟩
  | .hbm, ⟨4, _⟩ => ⟨S_, .f32⟩
  | .hbm, ⟨5, _⟩ => ⟨S1024x770, .f32⟩
  | .hbm, ⟨6, _⟩ => ⟨S1024x770, .f32⟩
  | .hbm, ⟨7, _⟩ => ⟨S_, .f32⟩
  | .hbm, ⟨8, _⟩ => ⟨S1024x770, .f32⟩
  | .hbm, ⟨9, _⟩ => ⟨S1024x770, .f32⟩
  | .hbm, ⟨10, _⟩ => ⟨S1024x770, .f32⟩
  | .hbm, ⟨11, _⟩ => ⟨S_, .f32⟩
  | .hbm, ⟨12, _⟩ => ⟨S1024x770, .f32⟩
  | .hbm, ⟨13, _⟩ => ⟨S1024x770, .f32⟩
  | .hbm, ⟨14, _⟩ => ⟨S1024x770, .f32⟩
  | .hbm, ⟨15, _⟩ => ⟨S_, .f32⟩
  | .hbm, ⟨16, _⟩ => ⟨S1024x770, .f32⟩
  | .hbm, ⟨17, _⟩ => ⟨S1024x770, .f32⟩
  | .hbm, ⟨18, _⟩ => ⟨S1024x770, .f32⟩
  | .hbm, ⟨19, _⟩ => ⟨S_, .f32⟩
  | .hbm, ⟨20, _⟩ => ⟨S1024x770, .f32⟩
  | .hbm, ⟨21, _⟩ => ⟨S1024x770, .f32⟩
  | .hbm, ⟨22, _⟩ => ⟨S_, .f32⟩
  | .hbm, ⟨23, _⟩ => ⟨S1024x770, .f32⟩
  | .hbm, ⟨24, _⟩ => ⟨S1024x770, .f32⟩
  | .hbm, ⟨25, _⟩ => ⟨S1024x770, .f32⟩
  | .hbm, ⟨26, _⟩ => ⟨S_, .f32⟩
  | .hbm, ⟨27, _⟩ => ⟨S1024x770, .f32⟩
  | .hbm, ⟨28, _⟩ => ⟨S1024x770, .f32⟩
  | .hbm, ⟨29, _⟩ => ⟨S1024x770, .f32⟩
  | .hbm, ⟨30, _⟩ => ⟨S_, .f32⟩
  | .hbm, ⟨31, _⟩ => ⟨S1024x770, .f32⟩
  | .hbm, ⟨32, _⟩ => ⟨S1024x770, .f32⟩
  | .hbm, ⟨33, _⟩ => ⟨S1024x770, .f32⟩
  | .hbm, ⟨34, _⟩ => ⟨S_, .f32⟩
  | .hbm, ⟨35, _⟩ => ⟨S1024x770, .f32⟩
  | .hbm, ⟨36, _⟩ => ⟨S1024x770, .f32⟩
  | _, _ => ⟨S1024x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamVectors.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVectorsRefIdeal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Setup.lean ====
/-
  What the runs of the backward kernel are stated over: its branch conditions in closed form over the grid points,
  the staging buffers and the scratch that carries the query gradient.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The coordinates of a grid point. -/
theorem coords3 (t : Fin grid0.N) : t.val < 64 ∧ (grid0.coords t 0).val = t.val / 16 % 4 ∧ (grid0.coords t 1).val = t.val / 4 % 4
    ∧ (grid0.coords t 2).val = t.val / 1 % 4 :=
  ⟨Nat.lt_of_lt_of_eq t.isLt N_0, Pipeline.Grid.coords_val t 0 (by decide) rfl, Pipeline.Grid.coords_val t 1 (by decide) rfl,
    Pipeline.Grid.coords_val t 2 (by decide) rfl⟩

/-- The condition of the body's `scf.if` 0 (`k0_h1`), from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    obtain ⟨ht, e0, e1, e2⟩ := coords3 t
    simp only [cond0_0, e0, e1, e2]
    word_cmp
   : ∀ t : Fin grid0.N, cond0_0 (grid0.coords t) ↔ t.val % 4 = 0)

/-- The condition of the body's `scf.if` 1 (`k0_h2`), from the grid coordinates. -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    obtain ⟨ht, e0, e1, e2⟩ := coords3 t
    simp only [cond0_1, k0_cond2, e0, e1, e2]
    word_cmp
   : ∀ t : Fin grid0.N, cond0_1 (grid0.coords t) ↔ t.val % 4 = 0)

/-- The condition of the body's `scf.if` 2 (`k0_h3`), from the grid coordinates. -/
abbrev cond0_2 (i : grid0.Coords) : Prop := k0_cond3 i = 1#1
/-- It holds at the points ≡ 1 (mod 4) — by arithmetic of the point. -/
theorem hcond0_2 : ∀ t : Fin cfg0.N, cond0_2 (grid0.coords t) ↔ t.val % 4 = 1 :=
  (fun t => by
    obtain ⟨ht, e0, e1, e2⟩ := coords3 t
    simp only [cond0_2, k0_cond3, e0, e1, e2]
    word_cmp
   : ∀ t : Fin grid0.N, cond0_2 (grid0.coords t) ↔ t.val % 4 = 1)

/-- The condition of the body's `scf.if` 3 (`k0_h4`), from the grid coordinates. -/
abbrev cond0_3 (i : grid0.Coords) : Prop := k0_cond4 i = 1#1
/-- It holds at the points ≡ 2 (mod 4) — by arithmetic of the point. -/
theorem hcond0_3 : ∀ t : Fin cfg0.N, cond0_3 (grid0.coords t) ↔ t.val % 4 = 2 :=
  (fun t => by
    obtain ⟨ht, e0, e1, e2⟩ := coords3 t
    simp only [cond0_3, k0_cond4, e0, e1, e2]
    word_cmp
   : ∀ t : Fin grid0.N, cond0_3 (grid0.coords t) ↔ t.val % 4 = 2)

/-- The condition of the body's `scf.if` 4 (`k0_h5`), from the grid coordinates. -/
abbrev cond0_4 (i : grid0.Coords) : Prop := k0_cond5 i = 1#1
/-- It holds at the points ≡ 3 (mod 4) — by arithmetic of the point. -/
theorem hcond0_4 : ∀ t : Fin cfg0.N, cond0_4 (grid0.coords t) ↔ t.val % 4 = 3 :=
  (fun t => by
    obtain ⟨ht, e0, e1, e2⟩ := coords3 t
    simp only [cond0_4, k0_cond5, e0, e1, e2]
    word_cmp
   : ∀ t : Fin grid0.N, cond0_4 (grid0.coords t) ↔ t.val % 4 = 3)

/-! ## The kernel body on any staging memrefs: a subtype the run finds -/

/-- Each window's current staging memref at point `t`, spelled as the pipeline passes it (`bodyAt0`), and its wholeness. -/
abbrev ms0_0 (t : Fin cfg0.N) : Memref sig .tc .vmem S2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x384 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x2x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2048x128 .f32 := Memref.whole cc0_scratch0
/-- The scratch `arg13` the kernel carries between points, as a view: what it holds is stated through it. -/
abbrev VS0_0 : View sig .tc .vmem S2048x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fox

end
-- ==== Proof.Runs.lean ====
/-
  The backward kernel's body run once at each of its four key blocks.
-/
module

public import proofs.«01_k».proof.Proof.Setup

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S1x8x2048 .f32) (harg9 : arg9.IsWhole) (arg11 : Memref sig .tc .vmem S2048x384 .bf16) (harg11 : arg11.IsWhole) (arg12 : Memref sig .tc .vmem S1x1x2x512 .f32) (harg12 : arg12.IsWhole) (arg13 : Memref sig .tc .vmem S2048x128 .f32) (harg13 : arg13.IsWhole)

/-- The body run from the blocks `x0` to `x6` and the scratch as in `S`: the pieces `L7` are left in the block of dz, over whatever it
    held, `L8` in the block of the gradient of c, and the scratch as in `S'`. -/
def Ran (x0 : Vec F S2048x128 .bf16) (x1 : Vec F S512x128 .bf16) (x2 : Vec F S512x128 .bf16) (x3 : Vec F S2048x128 .f32) (x4 : Vec F S2048x128 .bf16) (x5 : Vec F S2048x128 .f32) (x6 : Vec F S1x8x2048 .f32) (S S' : sProp 𝕄)
    (L7 : List (View.Piece (Elt F) S2048x384 .bf16)) (L8 : List (View.Piece (Elt F) S1x1x2x512 .f32)) : Prop :=
  ∀ (E : Set ℕ) (K : PUnit → sProp 𝕄) (d7 : Vec F S2048x384 .bf16),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg11 fullShare d7 ∗ (∃ d, owns (c : Thread nD τ) arg12 fullShare d) ∗ S
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg11.view.loc (c : Thread nD τ) ↦[arg11.view.set]{fullShare} arg11.view.writes (Elt F) (harg11.unread d7) L7) ∗ (∃ f, arg12.view.loc (c : Thread nD τ) ↦[arg12.view.set]{fullShare} arg12.view.writes (Elt F) f L8) ∗ S') -∗ K ⟨⟩))
      ⊢ wp frame (wpE (defs₀ (F := F)) Variants.none c none) E (cc0_fox_bwd i arg3 harg3 arg4 harg4 arg5 harg5 arg6 harg6 arg7 harg7 arg8 harg8 arg9 harg9 (Memref.whole main_v43) (Memref.isWhole_whole _) arg11 harg11 arg12 harg12 arg13 harg13) K

set_option maxHeartbeats 4000000 in
/-- The body at key block 0: the scratch is zeroed first. The pieces its stores leave, last store first, are the witnesses the run finds, those of the scratch first. -/
noncomputable def runA (hc0 : cond0_0 i) (hc1 : cond0_1 i) (hc2 : ¬cond0_2 i) (hc3 : ¬cond0_3 i) (hc4 : ¬cond0_4 i)
    (x0 : Vec F S2048x128 .bf16) (x1 : Vec F S512x128 .bf16) (x2 : Vec F S512x128 .bf16) (x3 : Vec F S2048x128 .f32) (x4 : Vec F S2048x128 .bf16) (x5 : Vec F S2048x128 .f32) (x6 : Vec F S1x8x2048 .f32) :
    Σ' (LS0 : List (View.Piece (Elt F) S2048x128 .f32)) (L7 : List (View.Piece (Elt F) S2048x384 .bf16)), { L8 : List (View.Piece (Elt F) S1x1x2x512 .f32) //
      Ran c i arg3 harg3 arg4 harg4 arg5 harg5 arg6 harg6 arg7 harg7 arg8 harg8 arg9 harg9 arg11 harg11 arg12 harg12 arg13 harg13 x0 x1 x2 x3 x4 x5 x6 iprop(∃ d, owns (c : Thread nD τ) arg13 fullShare d)
        iprop(∃ f, arg13.view.loc (c : Thread nD τ) ↦[arg13.view.set]{fullShare} arg13.view.writes (Elt F) f LS0) L7 L8 } := by
  refine ⟨?_, ?_, ?_, fun E K d7 => ?run⟩
  case run =>
    simp only [cc0_fox_bwd_eq_skeleton]; unfold cc0_fox_bwd_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf7
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexists _; iexact H8
    iexists _; iexact HS0

set_option maxHeartbeats 4000000 in
/-- The body at key block 1. -/
noncomputable def runB (hc0 : ¬cond0_0 i) (hc1 : ¬cond0_1 i) (hc2 : cond0_2 i) (hc3 : ¬cond0_3 i) (hc4 : ¬cond0_4 i)
    (x0 : Vec F S2048x128 .bf16) (x1 : Vec F S512x128 .bf16) (x2 : Vec F S512x128 .bf16) (x3 : Vec F S2048x128 .f32) (x4 : Vec F S2048x128 .bf16) (x5 : Vec F S2048x128 .f32) (x6 : Vec F S1x8x2048 .f32) (xs0 : Vec F S2048x128 .f32) :
    Σ' (LS0 : List (View.Piece (Elt F) S2048x128 .f32)) (L7 : List (View.Piece (Elt F) S2048x384 .bf16)), { L8 : List (View.Piece (Elt F) S1x1x2x512 .f32) //
      Ran c i arg3 harg3 arg4 harg4 arg5 harg5 arg6 harg6 arg7 harg7 arg8 harg8 arg9 harg9 arg11 harg11 arg12 harg12 arg13 harg13 x0 x1 x2 x3 x4 x5 x6 (owns (c : Thread nD τ) arg13 fullShare xs0)
        iprop(arg13.view.loc (c : Thread nD τ) ↦[arg13.view.set]{fullShare} arg13.view.writes (Elt F) (harg13.unread xs0) LS0) L7 L8 } := by
  refine ⟨?_, ?_, ?_, fun E K d7 => ?run⟩
  case run =>
    simp only [cc0_fox_bwd_eq_skeleton]; unfold cc0_fox_bwd_skel
    simp only [k0_part28_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf7; obtain rfl := harg13.eq_unread hfs0
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexists _; iexact H8
    iexact HS0

set_option maxHeartbeats 4000000 in
/-- The body at key block 2. -/
noncomputable def runC (hc0 : ¬cond0_0 i) (hc1 : ¬cond0_1 i) (hc2 : ¬cond0_2 i) (hc3 : cond0_3 i) (hc4 : ¬cond0_4 i)
    (x0 : Vec F S2048x128 .bf16) (x1 : Vec F S512x128 .bf16) (x2 : Vec F S512x128 .bf16) (x3 : Vec F S2048x128 .f32) (x4 : Vec F S2048x128 .bf16) (x5 : Vec F S2048x128 .f32) (x6 : Vec F S1x8x2048 .f32) (xs0 : Vec F S2048x128 .f32) :
    Σ' (LS0 : List (View.Piece (Elt F) S2048x128 .f32)) (L7 : List (View.Piece (Elt F) S2048x384 .bf16)), { L8 : List (View.Piece (Elt F) S1x1x2x512 .f32) //
      Ran c i arg3 harg3 arg4 harg4 arg5 harg5 arg6 harg6 arg7 harg7 arg8 harg8 arg9 harg9 arg11 harg11 arg12 harg12 arg13 harg13 x0 x1 x2 x3 x4 x5 x6 (owns (c : Thread nD τ) arg13 fullShare xs0)
        iprop(arg13.view.loc (c : Thread nD τ) ↦[arg13.view.set]{fullShare} arg13.view.writes (Elt F) (harg13.unread xs0) LS0) L7 L8 } := by
  refine ⟨?_, ?_, ?_, fun E K d7 => ?run⟩
  case run =>
    simp only [cc0_fox_bwd_eq_skeleton]; unfold cc0_fox_bwd_skel
    simp only [k0_part28_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf7; obtain rfl := harg13.eq_unread hfs0
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexists _; iexact H8
    iexact HS0

set_option maxHeartbeats 4000000 in
/-- The body at key block 3: the finished query gradient is copied out. -/
noncomputable def runD (hc0 : ¬cond0_0 i) (hc1 : ¬cond0_1 i) (hc2 : ¬cond0_2 i) (hc3 : ¬cond0_3 i) (hc4 : cond0_4 i)
    (x0 : Vec F S2048x128 .bf16) (x1 : Vec F S512x128 .bf16) (x2 : Vec F S512x128 .bf16) (x3 : Vec F S2048x128 .f32) (x4 : Vec F S2048x128 .bf16) (x5 : Vec F S2048x128 .f32) (x6 : Vec F S1x8x2048 .f32) (xs0 : Vec F S2048x128 .f32) :
    Σ' (LS0 : List (View.Piece (Elt F) S2048x128 .f32)) (L7 : List (View.Piece (Elt F) S2048x384 .bf16)), { L8 : List (View.Piece (Elt F) S1x1x2x512 .f32) //
      Ran c i arg3 harg3 arg4 harg4 arg5 harg5 arg6 harg6 arg7 harg7 arg8 harg8 arg9 harg9 arg11 harg11 arg12 harg12 arg13 harg13 x0 x1 x2 x3 x4 x5 x6 (owns (c : Thread nD τ) arg13 fullShare xs0)
        iprop(arg13.view.loc (c : Thread nD τ) ↦[arg13.view.set]{fullShare} arg13.view.writes (Elt F) (harg13.unread xs0) LS0) L7 L8 } := by
  refine ⟨?_, ?_, ?_, fun E K d7 => ?run⟩
  case run =>
    simp only [cc0_fox_bwd_eq_skeleton]; unfold cc0_fox_bwd_skel
    simp only [k0_part28_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf7; obtain rfl := harg13.eq_unread hfs0
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexists _; iexact H8
    iexact HS0

end Cert.KernelIdeal.Fox

end
-- ==== Proof.Frame.lean ====
/-
  The launch of the backward kernel. What each point leaves in the scratch that carries the query gradient, in the
  block of dz (over whatever that block held) and in the block of the gradient of c; the body obligation with the
  block of dz held to what some starting contents lead to; the run of @main and the frame.
-/
module

public import proofs.«01_k».proof.Proof.Runs

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The four cases at a point of the grid -/

/-- The run at a point of key block 0. -/
abbrev atA (c : Dev nD) (t : Fin cfg0.N) (h : t.val % 4 = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h) ((hcond0_1 t).mpr h) (fun e => absurd ((hcond0_2 t).mp e) (by omega)) (fun e => absurd ((hcond0_3 t).mp e) (by omega)) (fun e => absurd ((hcond0_4 t).mp e) (by omega)) (iblk m c 0 t) (iblk m c 1 t) (iblk m c 2 t) (iblk m c 3 t) (iblk m c 4 t) (iblk m c 5 t) (iblk m c 6 t)

/-- The pieces of the scratch cover it at the first key block. -/
theorem scover (c : Dev nD) (t : Fin cfg0.N) (h : t.val % 4 = 0) (y : S2048x128.Idx) : ∃ pc ∈ (atA m c t h).1, y ∈ pc.1.set :=
  View.cover_of_wholeMem (atA m c t h).1 (by sl_whole_mem) y

/-- What key block 0 leaves in the scratch. -/
def scrA (c : Dev nD) (t : Fin cfg0.N) (h : t.val % 4 = 0) : Vec F S2048x128 .f32 :=
  VS0_0.read (Elt F) (VS0_0.writes (Elt F) VS0_0.junk (atA m c t h).1)

/-- What key block 0 leaves in the block of dz that held `d`. -/
def dzA (c : Dev nD) (t : Fin cfg0.N) (h : t.val % 4 = 0) (d : Vec F S2048x384 .bf16) : Vec F S2048x384 .bf16 :=
  (ms0_7 t).view.read (Elt F) ((ms0_7 t).view.writes (Elt F) ((hs0_7 t).unread d) (atA m c t h).2.1)

/-- The pieces of the gradient of c cover its block at key block 0. -/
theorem dcCoverA (c : Dev nD) (t : Fin cfg0.N) (h : t.val % 4 = 0) (y : S1x1x2x512.Idx) : ∃ pc ∈ (atA m c t h).2.2.1, y ∈ pc.1.set :=
  View.cover_of_tiledL (atA m c t h).2.2.1 S1x1x1x512.size (by sl_kernel_rfl) y

/-- What key block 0 leaves in the block of the gradient of c. -/
def dcA (c : Dev nD) (t : Fin cfg0.N) (h : t.val % 4 = 0) : Vec F S1x1x2x512 .f32 :=
  View.canon (atA m c t h).2.2.1

/-- The run at a point of key block 1. -/
abbrev atB (c : Dev nD) (t : Fin cfg0.N) (h : t.val % 4 = 1) (xs : Vec F S2048x128 .f32) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun e => absurd ((hcond0_0 t).mp e) (by omega)) (fun e => absurd ((hcond0_1 t).mp e) (by omega)) ((hcond0_2 t).mpr h) (fun e => absurd ((hcond0_3 t).mp e) (by omega)) (fun e => absurd ((hcond0_4 t).mp e) (by omega)) (iblk m c 0 t) (iblk m c 1 t) (iblk m c 2 t) (iblk m c 3 t) (iblk m c 4 t) (iblk m c 5 t) (iblk m c 6 t) xs

/-- What key block 1 leaves in the scratch that held `xs`. -/
def scrB (c : Dev nD) (t : Fin cfg0.N) (h : t.val % 4 = 1) (xs : Vec F S2048x128 .f32) : Vec F S2048x128 .f32 :=
  scM0_0.view.read (Elt F) (scM0_0.view.writes (Elt F) ((Memref.isWhole_whole cc0_scratch0).unread xs) (atB m c t h xs).1)

/-- What key block 1 leaves in the block of dz that held `d`. -/
def dzB (c : Dev nD) (t : Fin cfg0.N) (h : t.val % 4 = 1) (xs : Vec F S2048x128 .f32) (d : Vec F S2048x384 .bf16) : Vec F S2048x384 .bf16 :=
  (ms0_7 t).view.read (Elt F) ((ms0_7 t).view.writes (Elt F) ((hs0_7 t).unread d) (atB m c t h xs).2.1)

/-- The pieces of the gradient of c cover its block at key block 1. -/
theorem dcCoverB (c : Dev nD) (t : Fin cfg0.N) (h : t.val % 4 = 1) (xs : Vec F S2048x128 .f32) (y : S1x1x2x512.Idx) : ∃ pc ∈ (atB m c t h xs).2.2.1, y ∈ pc.1.set :=
  View.cover_of_tiledL (atB m c t h xs).2.2.1 S1x1x1x512.size (by sl_kernel_rfl) y

/-- What key block 1 leaves in the block of the gradient of c. -/
def dcB (c : Dev nD) (t : Fin cfg0.N) (h : t.val % 4 = 1) (xs : Vec F S2048x128 .f32) : Vec F S1x1x2x512 .f32 :=
  View.canon (atB m c t h xs).2.2.1

/-- The run at a point of key block 2. -/
abbrev atC (c : Dev nD) (t : Fin cfg0.N) (h : t.val % 4 = 2) (xs : Vec F S2048x128 .f32) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun e => absurd ((hcond0_0 t).mp e) (by omega)) (fun e => absurd ((hcond0_1 t).mp e) (by omega)) (fun e => absurd ((hcond0_2 t).mp e) (by omega)) ((hcond0_3 t).mpr h) (fun e => absurd ((hcond0_4 t).mp e) (by omega)) (iblk m c 0 t) (iblk m c 1 t) (iblk m c 2 t) (iblk m c 3 t) (iblk m c 4 t) (iblk m c 5 t) (iblk m c 6 t) xs

/-- What key block 2 leaves in the scratch that held `xs`. -/
def scrC (c : Dev nD) (t : Fin cfg0.N) (h : t.val % 4 = 2) (xs : Vec F S2048x128 .f32) : Vec F S2048x128 .f32 :=
  scM0_0.view.read (Elt F) (scM0_0.view.writes (Elt F) ((Memref.isWhole_whole cc0_scratch0).unread xs) (atC m c t h xs).1)

/-- What key block 2 leaves in the block of dz that held `d`. -/
def dzC (c : Dev nD) (t : Fin cfg0.N) (h : t.val % 4 = 2) (xs : Vec F S2048x128 .f32) (d : Vec F S2048x384 .bf16) : Vec F S2048x384 .bf16 :=
  (ms0_7 t).view.read (Elt F) ((ms0_7 t).view.writes (Elt F) ((hs0_7 t).unread d) (atC m c t h xs).2.1)

/-- The pieces of the gradient of c cover its block at key block 2. -/
theorem dcCoverC (c : Dev nD) (t : Fin cfg0.N) (h : t.val % 4 = 2) (xs : Vec F S2048x128 .f32) (y : S1x1x2x512.Idx) : ∃ pc ∈ (atC m c t h xs).2.2.1, y ∈ pc.1.set :=
  View.cover_of_tiledL (atC m c t h xs).2.2.1 S1x1x1x512.size (by sl_kernel_rfl) y

/-- What key block 2 leaves in the block of the gradient of c. -/
def dcC (c : Dev nD) (t : Fin cfg0.N) (h : t.val % 4 = 2) (xs : Vec F S2048x128 .f32) : Vec F S1x1x2x512 .f32 :=
  View.canon (atC m c t h xs).2.2.1

/-- The run at a point of key block 3. -/
abbrev atD (c : Dev nD) (t : Fin cfg0.N) (h : t.val % 4 = 3) (xs : Vec F S2048x128 .f32) :=
  runD (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun e => absurd ((hcond0_0 t).mp e) (by omega)) (fun e => absurd ((hcond0_1 t).mp e) (by omega)) (fun e => absurd ((hcond0_2 t).mp e) (by omega)) (fun e => absurd ((hcond0_3 t).mp e) (by omega)) ((hcond0_4 t).mpr h) (iblk m c 0 t) (iblk m c 1 t) (iblk m c 2 t) (iblk m c 3 t) (iblk m c 4 t) (iblk m c 5 t) (iblk m c 6 t) xs

/-- What key block 3 leaves in the scratch that held `xs`. -/
def scrD (c : Dev nD) (t : Fin cfg0.N) (h : t.val % 4 = 3) (xs : Vec F S2048x128 .f32) : Vec F S2048x128 .f32 :=
  scM0_0.view.read (Elt F) (scM0_0.view.writes (Elt F) ((Memref.isWhole_whole cc0_scratch0).unread xs) (atD m c t h xs).1)

/-- What key block 3 leaves in the block of dz that held `d`. -/
def dzD (c : Dev nD) (t : Fin cfg0.N) (h : t.val % 4 = 3) (xs : Vec F S2048x128 .f32) (d : Vec F S2048x384 .bf16) : Vec F S2048x384 .bf16 :=
  (ms0_7 t).view.read (Elt F) ((ms0_7 t).view.writes (Elt F) ((hs0_7 t).unread d) (atD m c t h xs).2.1)

/-- The pieces of the gradient of c cover its block at key block 3. -/
theorem dcCoverD (c : Dev nD) (t : Fin cfg0.N) (h : t.val % 4 = 3) (xs : Vec F S2048x128 .f32) (y : S1x1x2x512.Idx) : ∃ pc ∈ (atD m c t h xs).2.2.1, y ∈ pc.1.set :=
  View.cover_of_tiledL (atD m c t h xs).2.2.1 S1x1x1x512.size (by sl_kernel_rfl) y

/-- What key block 3 leaves in the block of the gradient of c. -/
def dcD (c : Dev nD) (t : Fin cfg0.N) (h : t.val % 4 = 3) (xs : Vec F S2048x128 .f32) : Vec F S1x1x2x512 .f32 :=
  View.canon (atD m c t h xs).2.2.1

/-! ## What the points leave, one after another -/

/-- The scratch after point `n`. -/
def scrAt (c : Dev nD) : (n : ℕ) → n < cfg0.N → Vec F S2048x128 .f32
  | 0, hn => scrA m c ⟨0, hn⟩ rfl
  | n + 1, hn =>
    if h0 : (n + 1) % 4 = 0 then scrA m c ⟨n + 1, hn⟩ h0
    else if h1 : (n + 1) % 4 = 1 then scrB m c ⟨n + 1, hn⟩ h1 (scrAt c n (Nat.lt_of_succ_lt hn))
    else if h2 : (n + 1) % 4 = 2 then scrC m c ⟨n + 1, hn⟩ h2 (scrAt c n (Nat.lt_of_succ_lt hn))
    else scrD m c ⟨n + 1, hn⟩ (show (n + 1) % 4 = 3 by omega) (scrAt c n (Nat.lt_of_succ_lt hn))

/-- The scratch before point `t`, where `t` is not the first. -/
abbrev scrBefore (c : Dev nD) (t : Fin cfg0.N) : Vec F S2048x128 .f32 := scrAt m c (t.val - 1) (by omega)

theorem scrAt_A (c : Dev nD) (t : Fin cfg0.N) (h : t.val % 4 = 0) : scrAt m c t.val t.isLt = scrA m c t h := by
  obtain ⟨n, hn⟩ := t
  cases n with
  | zero => rfl
  | succ n => exact dif_pos h
theorem scrAt_B (c : Dev nD) (t : Fin cfg0.N) (h : t.val % 4 = 1) : scrAt m c t.val t.isLt = scrB m c t h (scrBefore m c t) := by
  obtain ⟨n, hn⟩ := t
  cases n with
  | zero => exact absurd h (by show ¬(0 : ℕ) % 4 = _; omega)
  | succ n => exact (dif_neg (by dsimp only at h; omega)).trans (dif_pos h)
theorem scrAt_C (c : Dev nD) (t : Fin cfg0.N) (h : t.val % 4 = 2) : scrAt m c t.val t.isLt = scrC m c t h (scrBefore m c t) := by
  obtain ⟨n, hn⟩ := t
  cases n with
  | zero => exact absurd h (by show ¬(0 : ℕ) % 4 = _; omega)
  | succ n => exact (dif_neg (by dsimp only at h; omega)).trans ((dif_neg (by dsimp only at h; omega)).trans (dif_pos h))
theorem scrAt_D (c : Dev nD) (t : Fin cfg0.N) (h : t.val % 4 = 3) : scrAt m c t.val t.isLt = scrD m c t h (scrBefore m c t) := by
  obtain ⟨n, hn⟩ := t
  cases n with
  | zero => exact absurd h (by show ¬(0 : ℕ) % 4 = _; omega)
  | succ n => exact (dif_neg (by dsimp only at h; omega)).trans ((dif_neg (by dsimp only at h; omega)).trans (dif_neg (by dsimp only at h; omega)))

/-- What point `t` makes of the block of dz that held `d`. -/
def dzStep (c : Dev nD) (t : Fin cfg0.N) (d : Vec F S2048x384 .bf16) : Vec F S2048x384 .bf16 :=
  if h0 : t.val % 4 = 0 then dzA m c t h0 d
  else if h1 : t.val % 4 = 1 then dzB m c t h1 (scrBefore m c t) d
  else if h2 : t.val % 4 = 2 then dzC m c t h2 (scrBefore m c t) d
  else dzD m c t (by omega) (scrBefore m c t) d

/-- The block of dz after point `n`, from the contents `d` that it had at the first of the four points of its run. -/
def dzAt (c : Dev nD) (d : Vec F S2048x384 .bf16) : (n : ℕ) → n < cfg0.N → Vec F S2048x384 .bf16
  | 0, hn => dzStep m c ⟨0, hn⟩ d
  | n + 1, hn => if (n + 1) % 4 = 0 then dzStep m c ⟨n + 1, hn⟩ d
    else dzStep m c ⟨n + 1, hn⟩ (dzAt c d n (Nat.lt_of_succ_lt hn))

theorem dzAt_first (c : Dev nD) (d : Vec F S2048x384 .bf16) (t : Fin cfg0.N) (h : t.val % 4 = 0) :
    dzAt m c d t.val t.isLt = dzStep m c t d := by
  obtain ⟨n, hn⟩ := t
  cases n with
  | zero => rfl
  | succ n => exact if_pos h
theorem dzAt_next (c : Dev nD) (d : Vec F S2048x384 .bf16) (t : Fin cfg0.N) (h : ¬t.val % 4 = 0) :
    dzAt m c d t.val t.isLt = dzStep m c t (dzAt m c d (t.val - 1) (by omega)) := by
  obtain ⟨n, hn⟩ := t
  cases n with
  | zero => exact absurd rfl h
  | succ n => exact if_neg h

/-- What point `t` leaves in the block of the gradient of c. -/
def dcAt (c : Dev nD) (t : Fin cfg0.N) : Vec F S1x1x2x512 .f32 :=
  if h0 : t.val % 4 = 0 then dcA m c t h0
  else if h1 : t.val % 4 = 1 then dcB m c t h1 (scrBefore m c t)
  else if h2 : t.val % 4 = 2 then dcC m c t h2 (scrBefore m c t)
  else dcD m c t (by omega) (scrBefore m c t)

/-- The region invariant before position `n`: at the start every scratch at anything; afterwards the scratch at what the
    point before left in it. -/
def PhiS (c : Dev nD) : (n : ℕ) → n ≤ cfg0.N → sProp 𝕄
  | 0, _ => Pipeline.ΦA spec0 c
  | n + 1, hn => iprop(iprop(owns (c : Thread nD τ) scM0_0 fullShare (scrAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (scrAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (scrAt m c (n - 1) (by omega))) ∗ (∃ r, prngReg c r)) := by
  cases n with
  | zero => exact absurd rfl hz
  | succ n => rfl

/-! ## The proof data -/

/-- The window held to a predicate: the block of dz, of which a point writes a part. -/
def marked : Fin 9 → Bool := fun w => w.val == 7

/-- After the body at a point: an input's buffer at its block, the gradient of c's block at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, _⟩ => dcAt m c t
  Φ t := PhiS m c t.val (Nat.le_of_lt_succ t.isLt)
  q w := Pipeline.shareOf spec0 w
  owed _ := 0

/-- What the body may leave in the block of dz at point `t`: what some starting contents lead to. -/
def Rl (c : Dev nD) (w : Fin cfg0.W) (t : Fin cfg0.N) (X : (cfg0.win w).block.Idx → Elt F (cfg0.win w).elt) : Prop :=
  match w, X with
  | ⟨7, _⟩, X => ∃ d, X = dzAt m c d t.val t.isLt
  | _, _ => True

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_8 (c : Dev nD) (t : Fin cfg0.N) : (dats m 0 c).after 8 t = dcAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- After the first of its four points the body finds in the block of dz what some starting contents led to. -/
theorem finds7 (c : Dev nD) (t : Fin cfg0.N) (h : ¬t.val % 4 = 0) (Y : Vec F S2048x384 .bf16)
    (hY : ((dats m 0 c).toRRel marked (Rl m c)).Finds 7 t Y) : ∃ d, Y = dzAt m c d (t.val - 1) (by omega) := by
  have hz : t.val ≠ 0 := fun e => h (by rw [e])
  rw [Pipeline.RDat.finds_of_pos _ rfl hz] at hY
  rcases hY with hf | hL
  · have := (flush0_7 _).mp hf
    dsimp only at this; omega
  · exact (dats m 0 c).toRRel_leaves (by rfl) hL

/-! ## The body obligation -/

/-- Every point writes the block of the gradient of c. -/
theorem liveAt0_8 (t : Fin cfg0.N) : cfg0.idle 8 (grid0.coords t) = false := by
  show (!(k0_cond2 (grid0.coords t) == 1#1) && !(k0_cond3 (grid0.coords t) == 1#1) && !(k0_cond4 (grid0.coords t) == 1#1) && !(k0_cond5 (grid0.coords t) == 1#1)) = false
  have h1 := hcond0_1 t
  have h2 := hcond0_2 t
  have h3 := hcond0_3 t
  have h4 := hcond0_4 t
  simp only [cond0_1, cond0_2, cond0_3, cond0_4] at h1 h2 h3 h4
  have hm : t.val % 4 = 0 ∨ t.val % 4 = 1 ∨ t.val % 4 = 2 ∨ t.val % 4 = 3 := by omega
  rcases hm with h | h | h | h
  · rw [h1.mpr h]; rfl
  · rw [h2.mpr h]; simp
  · rw [h3.mpr h]; simp
  · rw [h4.mpr h]; simp

/-- What a point leaves in the gradient of c's block, named. -/
theorem leaves8 (c : Dev nD) (t : Fin cfg0.N) : ((dats m 0 c).leaves 8 t : sProp 𝕄) = owns (c : Thread nD τ) (ms0_8 t) fullShare (dcAt m c t) := by
  unfold Dat.leaves; rw [liveAt0_8 t, ← after0_8]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel marked (Rl m c)).Finds 7 t Y⌝ ∗ owns (c : Thread nD τ) (ms0_7 t) fullShare Y)
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl m c 7 t X⌝ ∗ owns (c : Thread nD τ) (ms0_7 t) fullShare X)
    ∗ (dats m 0 c).leaves 8 t)

/-- What a point finds and leaves: the inputs' blocks, and the block of dz, that of the gradient of c and the scratch at given contents. -/
def held (c : Dev nD) (t : Fin cfg0.N) (Y : Vec F S2048x384 .bf16) (d8 : Vec F S1x1x2x512 .f32) (xs : Vec F S2048x128 .f32) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)
    ∗ owns (c : Thread nD τ) (ms0_7 t) fullShare Y ∗ owns (c : Thread nD τ) (ms0_8 t) fullShare d8 ∗ owns (c : Thread nD τ) scM0_0 fullShare xs)

set_option maxHeartbeats 3200000 in
/-- The body at a point, from its run there: what it leaves in the block of dz, in that of the gradient of c and in the scratch. -/
theorem body_of (c : Dev nD) (t : Fin cfg0.N) (Y : Vec F S2048x384 .bf16) (d8 : Vec F S1x1x2x512 .f32) (xs ys : Vec F S2048x128 .f32)
    {S S' : sProp 𝕄} {L7 : List (View.Piece (Elt F) S2048x384 .bf16)} {L8 : List (View.Piece (Elt F) S1x1x2x512 .f32)}
    (run : Ran c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) S S' L7 L8)
    (hS : owns (c : Thread nD τ) scM0_0 fullShare xs ⊢ S) (hS' : S' ⊢ owns (c : Thread nD τ) scM0_0 fullShare ys)
    (cover : ∀ y : S1x1x2x512.Idx, ∃ pc ∈ L8, y ∈ pc.1.set) :
    held m c t Y d8 xs ⊢ wp frame (wpE (defs₀ (F := F)) Variants.none c none) Set.univ (bodyAt0 t)
      (fun _ => held m c t ((ms0_7 t).view.read (Elt F) ((ms0_7 t).view.writes (Elt F) ((hs0_7 t).unread Y) L7)) (View.canon L8) ys) := by
  unfold bodyAt0 held
  iintro ⟨H0, H1, H2, H3, H4, H5, H6, H7, H8, HS0⟩
  iapply (run Set.univ _ Y)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iapply hS; iexact HS0
  iintro ⟨H0, H1, H2, H3, H4, H5, H6, H7, ⟨%e8, H8⟩, HS0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; rfl
  isplitl [H8]
  · unfold owns; iexists _; isplitr
    swap; · iexact H8
    ipureintro; exact View.read_writes_eq_canon _ _ _ cover
  iapply hS'; iexact HS0

/-- The scratch a run leaves, named by reading it. -/
theorem scr_back (c : Dev nD) (xs : Vec F S2048x128 .f32) (L : List (View.Piece (Elt F) S2048x128 .f32)) :
    (iprop(scM0_0.view.loc (c : Thread nD τ) ↦[scM0_0.view.set]{fullShare} scM0_0.view.writes (Elt F) ((Memref.isWhole_whole cc0_scratch0).unread xs) L) : sProp 𝕄)
      ⊢ owns (c : Thread nD τ) scM0_0 fullShare (scM0_0.view.read (Elt F) (scM0_0.view.writes (Elt F) ((Memref.isWhole_whole cc0_scratch0).unread xs) L)) := by
  unfold owns
  iintro H
  iexists _; isplitr
  swap; · iexact H
  ipureintro; rfl

/-- The body at any point: the scratch matters after the first of its four points. -/
theorem body_step (c : Dev nD) (t : Fin cfg0.N) (Y : Vec F S2048x384 .bf16) (d8 : Vec F S1x1x2x512 .f32) (xs : Vec F S2048x128 .f32)
    (hs : ¬t.val % 4 = 0 → xs = scrBefore m c t) :
    held m c t Y d8 xs ⊢ wp frame (wpE (defs₀ (F := F)) Variants.none c none) Set.univ (bodyAt0 t)
      (fun _ => held m c t (dzStep m c t Y) (dcAt m c t) (scrAt m c t.val t.isLt)) := by
  unfold dzStep dcAt
  by_cases h0 : t.val % 4 = 0
  · rw [scrAt_A m c t h0, dif_pos h0, dif_pos h0]
    refine body_of m c t Y d8 xs (scrA m c t h0) (atA m c t h0).2.2.2 ?_ ?_ (dcCoverA m c t h0)
    · iintro H
      iexists _; iexact H
    · unfold owns
      iintro ⟨%f, H⟩
      iexists _; isplitr
      swap; · iexact H
      ipureintro; exact View.read_writes_of_cover _ _ _ _ _ (scover m c t h0)
  obtain rfl := hs h0
  rw [dif_neg h0, dif_neg h0]
  by_cases h1 : t.val % 4 = 1
  · rw [scrAt_B m c t h1, dif_pos h1, dif_pos h1]
    exact body_of m c t Y d8 _ _ (atB m c t h1 _).2.2.2 .rfl (scr_back c _ _) (dcCoverB m c t h1 _)
  rw [dif_neg h1, dif_neg h1]
  by_cases h2 : t.val % 4 = 2
  · rw [scrAt_C m c t h2, dif_pos h2, dif_pos h2]
    exact body_of m c t Y d8 _ _ (atC m c t h2 _).2.2.2 .rfl (scr_back c _ _) (dcCoverC m c t h2 _)
  rw [dif_neg h2, dif_neg h2, scrAt_D m c t (by omega)]
  exact body_of m c t Y d8 _ _ (atD m c t (by omega) _).2.2.2 .rfl (scr_back c _ _) (dcCoverD m c t (by omega) _)

set_option maxHeartbeats 3200000 in
/-- The body at any point, between the invariants. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, after0_0, after0_1, after0_2, after0_3, after0_4, after0_5, after0_6, leaves8]
  rw [show (dats m 0 c).owesAt () t.succ = (dats m 0 c).owesAt () t.castSucc from rfl]
  rw [show (dats m 0 c).Φ t.succ = PhiS m c (t.val + 1) t.isLt from rfl, PhiS_succ, PhiS_castSucc m c t]
  have key : (PhiS m c t.val (Nat.le_of_lt t.isLt) : sProp 𝕄)
      ⊢ iprop((∃ xs, ⌜¬t.val % 4 = 0 → xs = scrBefore m c t⌝ ∗ owns (c : Thread nD τ) scM0_0 fullShare xs) ∗ (∃ r, prngReg c r)) := by
    by_cases hz : t.val = 0
    · rw [PhiS_zero m c _ _ hz, PhiA0_eq]
      iintro ⟨⟨%d, HS0⟩, Hg⟩
      isplitl [HS0]
      · iexists d; isplitr
        swap; · iexact HS0
        ipureintro; exact fun h => absurd (by rw [hz]) h
      iexact Hg
    · rw [PhiS_pos m c _ _ hz]
      iintro ⟨HS0, Hg⟩
      isplitl [HS0]
      · iexists _; isplitr
        swap; · iexact HS0
        ipureintro; exact fun _ => rfl
      iexact Hg
  iintro ⟨HP, Ho, ⟨%d0, H0⟩, ⟨%d1, H1⟩, ⟨%d2, H2⟩, ⟨%d3, H3⟩, ⟨%d4, H4⟩, ⟨%d5, H5⟩, ⟨%d6, H6⟩, ⟨%d7, %hd7, H7⟩, ⟨%d8, H8⟩⟩
  ihave HP2 := key $$ HP
  icases HP2 with ⟨⟨%xs, %hs, HS0⟩, Hg⟩
  have hdz : ∃ d, dzStep m c t d7 = dzAt m c d t.val t.isLt := by
    by_cases h0 : t.val % 4 = 0
    · exact ⟨d7, (dzAt_first m c d7 t h0).symm⟩
    · obtain ⟨e7, he7⟩ := finds7 m c t h0 d7 hd7
      exact ⟨e7, by rw [dzAt_next m c e7 t h0, ← he7]⟩
  iapply (wp_wand_r Idealize.ShloMosaic.frame (wpE (defs₀ (F := F)) Variants.none (c : Thread nD τ) none) Set.univ)
  isplitr [Ho Hg]
  · iapply (body_step m c t d7 _ xs hs)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS0
  unfold held
  iintro %_ ⟨H0, H1, H2, H3, H4, H5, H6, H7, H8, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact hdz
  iexact H8

theorem defs₀_row (t : Fin cfg0.N) :
    defs₀ (F := F) .tc cfg0.body (cfg0.bodyArgs t (cfg0.slots t)) = bodyAt0 t := by
  unfold defs₀; rw [Defs.onTc_tc]

set_option maxHeartbeats 6400000 in
/-- The body obligation, at every point. -/
theorem body_obligation (c : Dev nD) : Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS0, Hg⟩
  isplitl [HS0]
  · iexists _; iexact HS0
  iexact Hg

/-! ## The run and the frame -/

/-- The proof data with the block of dz held to its predicate. -/
abbrev rdat (c : Dev nD) : Pipeline.RDat τ (Elt F) Unit ℕ (UR sig nD τ) ℕ cfg0 c := (dats m 0 c).toRRel marked (Rl m c)

set_option backward.isDefEq.respectTransparency.types false in
/-- The run of @main: the arrays as the proof data say, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (rdat m) (V m)) :=
  (θ_run defs _ _).mono (fun _ h => h.1) (run_main_quiescent m ρ)

/-- A frame run of relational proof data leaves @main's arguments unchanged. -/
theorem args_of {r : PUnit × MemSt nD τ sig (Elt F)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (h.arr_in c 6 rfl).trans ((A_eq m c 6).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m h.1, h.2⟩) (run_main_quiescent m ρ)

end Cert.KernelIdeal.Fox

end
-- ==== Proof.KernelFrame.lean ====
/-
  The kernel before idealization: with the named constant read as its literal, the idealized kernel is the kernel, so
  that the launch proved for the one is the launch of the other.
-/
module

public import proofs.«01_k».proof.Proof.Frame
public import proofs.«01_k».proof.Proof.Gen.Kernel.Frame
public import Idealize.ShloMosaic.PureOps.BitExact

@[expose] public section

set_option maxRecDepth 16384

noncomputable section

namespace Cert.Kernel.Fox

open Idealize.ShloMosaic Idealize.ShloMosaic.TcCoe Idealize.SL.Sem
open Cert.Kernel.Gen

/-- A named constant read as the literal it stands for. -/
abbrev literal : Named Bits := ⟨fun _ _ {φ} b => Scalar.ofBits φ b⟩

/-- The body at a grid point and its staging buffers. -/
theorem body_same (t : Fin grid0.N) (s : (w : Fin 9) → Fin (win0 w).nbuf) (p : Proc τ) :
    @Cert.KernelIdeal.defs₀ Bits _ literal _ p (0 : Fin 1) (t, s) = defs₀ (F := Bits) p (0 : Fin 1) (t, s) := by
  cases p <;> rfl

theorem bodies_same : @Cert.KernelIdeal.defs₀ Bits _ literal _ = defs₀ (F := Bits) :=
  funext fun p => funext fun | 0 => funext fun a => body_same a.1 a.2 p

theorem defs_same : @Cert.KernelIdeal.defs Bits _ literal _ = defs (F := Bits) :=
  congrArg (Pipeline.defs (pcfgs (F := Bits))) bodies_same

set_option maxHeartbeats 2000000 in
/-- The host lines and the launch. -/
theorem main_same : @Cert.KernelIdeal.main Bits _ _ = main (F := Bits) := by
  funext c
  unfold Cert.KernelIdeal.main main Cert.KernelIdeal.fn_where.body fn_where.body
  rfl

theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [← main_same, ← defs_same]
  exact @Cert.KernelIdeal.Fox.frame Bits _ literal m ρ

end Cert.Kernel.Fox

end
-- ==== Proof.Step.lean ====
/-
  What one query block against one key block computes, as vectors: the probabilities of each of the pair's two heads, the
  gradient of the scores, and what is added to the gradients of q, k, v and c.
-/
module

public import proofs.«01_k».proof.Proof.Setup

@[expose] public section

noncomputable section

namespace Cert.KernelIdeal.Fox

open Idealize.ShloMosaic
open Cert.KernelIdeal.Gen

variable {F : FTy → Type} [FloatOps F] [Named F]

/-- Which of the 128 lanes lie in `[lo, hi)`. -/
def lanes (lo hi : BitVec 32) : IVec S1x128 1 :=
  andi (cmpi .sge (iota .tc S1x128 32 [1] iota_S1x128_d1_w32) (broadcast S1x128 lo))
    (cmpi .slt (iota .tc S1x128 32 [1] iota_S1x128_d1_w32) (broadcast S1x128 hi))

/-- The same for every row of a block. -/
def lanesOn (lo hi : BitVec 32) : IVec S512x128 1 :=
  broadcastTo S512x128 (shapeCast S1x128 (lanes lo hi) shapeCasts_S1x128_S1x128) broadcasts_S1x128_S512x128

/-- A block as it is loaded. -/
def asBlock {e : EltTy} (x : Vec F S512x128 e) : Vec F S512x128 e := shapeCast S512x128 x shapeCasts_S512x128_S512x128

/-- A block with the other head's lanes zeroed. -/
def onHead (lo hi : BitVec 32) (x : FVec F S512x128 .bf16) : FVec F S512x128 .bf16 :=
  select (lanesOn lo hi) x (broadcast S512x128 (Scalar.ofBits .bf16 0x0000#16))

/-- The query block times the scale. -/
def scaled (x : Vec F S512x128 .bf16) : FVec F S512x128 .bf16 :=
  mulf (asBlock x) (broadcast S512x128 (Scalar.ofBits .bf16 0x3E00#16))

/-- Queries against keys, less the keys' column of c. -/
def score (q k : FVec F S512x128 .bf16) (c : Vec F S1x1x512 .f32) : FVec F S512x512 .f32 :=
  subf (matmul dot_S512x128_S512x128_S512x512_1_1_0_0_n_n none q k (constant S512x512 .f32 0x00000000#32))
    (broadcastTo S512x512 (shapeCast S1x512 c shapeCasts_S1x1x512_S1x512) broadcasts_S1x512_S512x512)

/-- Which keys a block's queries may see, where both blocks begin at `w`. -/
def seen (w : BitVec 32) : IVec S512x512 1 :=
  cmpi .sle (broadcastTo S512x512 (addi (broadcast S1x512 w) (iota .tc S1x512 32 [1] iota_S1x512_d1_w32)) broadcasts_S1x512_S512x512)
    (broadcastTo S512x512 (addi (broadcast S512x1 w) (iota .tc S512x1 32 [0] iota_S512x1_d0_w32)) broadcasts_S512x1_S512x512)

/-- The scores less the rows' log-sum-exp, exponentiated. -/
def expLess (s : FVec F S512x512 .f32) (l : Vec F S512x1 .f32) : FVec F S512x512 .f32 :=
  exp (subf s (broadcastTo S512x512 (shapeCast S512x1 l shapeCasts_S512x1_S512x1) broadcasts_S512x1_S512x512))

/-- The probabilities of a block of queries that all come after the keys. -/
def probFull (q k : FVec F S512x128 .bf16) (c : Vec F S1x1x512 .f32) (l : Vec F S512x1 .f32) : FVec F S512x512 .f32 :=
  expLess (score q k c) l

/-- The probabilities of a block on the diagonal. -/
def probDiag (w : BitVec 32) (q k : FVec F S512x128 .bf16) (c : Vec F S1x1x512 .f32) (l : Vec F S512x1 .f32) : FVec F S512x512 .f32 :=
  expLess (select (seen w) (score q k c) (broadcast S512x512 (Named.named κ "mask" 0xF149F2CA#32))) l

/-- The rows' sums of the output's gradient times the output, over a head's lanes. -/
def rowDot (lo hi : BitVec 32) (d : Vec F S512x128 .bf16) (o : Vec F S512x128 .f32) : FVec F S512x1 .f32 :=
  shapeCast S512x1 (multiReduction .add [1] S512
    (select (lanesOn lo hi) (mulf (extf .f32 (asBlock d) bitsLt_bf16_f32) (asBlock o)) (broadcast S512x128 (Scalar.ofBits .f32 0x00000000#32)))
    0x00000000#32 reduces_S512x128_S512 (.inl rfl) rfl) shapeCasts_S512_S512x1

/-- The gradient of the scores. -/
def scoreGrad (lo hi : BitVec 32) (p : FVec F S512x512 .f32) (d : Vec F S512x128 .bf16) (o : Vec F S512x128 .f32) (v : Vec F S512x128 .bf16) :
    FVec F S512x512 .f32 :=
  mulf p (subf (matmul dot_S512x128_S512x128_S512x512_1_1_0_0_n_n none (onHead lo hi (asBlock d)) (asBlock v) (constant S512x512 .f32 0x00000000#32))
    (broadcastTo S512x512 (rowDot lo hi d o) broadcasts_S512x1_S512x512))

/-- A zero block. -/
def zeroBlock : FVec F S512x128 .f32 := broadcast S512x128 (Scalar.ofBits .f32 0x00000000#32)

/-- A sum, and a block of weights times a block of rows added to it. -/
def addRows (a : FVec F S512x128 .f32) (w : FVec F S512x512 .f32) (x : FVec F S512x128 .bf16) : FVec F S512x128 .f32 :=
  addf a (matmul dot_S512x512_S512x128_S512x128_1_0_0_1_n_n none (truncf .bf16 w bitsLt_bf16_f32) x (constant S512x128 .f32 0x00000000#32))

/-- The same with the weights transposed. -/
def addCols (a : FVec F S512x128 .f32) (w : FVec F S512x512 .f32) (x : FVec F S512x128 .bf16) : FVec F S512x128 .f32 :=
  addf a (matmul dot_S512x512_S512x128_S512x128_0_0_1_1_n_n none (truncf .bf16 w bitsLt_bf16_f32) x (constant S512x128 .f32 0x00000000#32))

/-- A row, less the sums of a block's columns. -/
def lessCols (a : FVec F S1x512 .f32) (w : FVec F S512x512 .f32) : FVec F S1x512 .f32 :=
  subf a (shapeCast S1x512 (multiReduction .add [0] S512 w 0x00000000#32 reduces_S512x512_S512 (.inl rfl) rfl) shapeCasts_S512_S1x512)

/-- A zero row. -/
def zeroRow : FVec F S1x512 .f32 := broadcast S1x512 (Scalar.ofBits .f32 0x00000000#32)

/-- The scratch's rows with a step's share of the gradient of q added. -/
def moreQ (x : Vec F S512x128 .f32) (dq : FVec F S512x128 .f32) : FVec F S512x128 .f32 :=
  shapeCast S512x128 (addf x (mulf dq (broadcast S512x128 (Scalar.ofBits .f32 0x3E000000#32)))) shapeCasts_S512x128_S512x128

/-- The two heads' gradients of k side by side. -/
def outK (a b : FVec F S512x128 .f32) : FVec F S512x128 .bf16 := truncf .bf16 (select (lanesOn 0#32 64#32) a b) bitsLt_bf16_f32

/-- The two heads' gradients of v added: each is zero outside its head's lanes. -/
def outV (a b : FVec F S512x128 .f32) : FVec F S512x128 .bf16 := truncf .bf16 (addf a b) bitsLt_bf16_f32

/-- A head's row of the gradient of c. -/
def outC (a : FVec F S1x512 .f32) : FVec F S1x1x1x512 .f32 := shapeCast S1x1x1x512 a shapeCasts_S1x512_S1x1x1x512

/-- The rectangle of 512 rows from row `o`. -/
abbrev rowsR (o : ℕ) (h : o + 512 ≤ 2048) : Rect S2048x128 :=
  Rect.unit ![o, 0] S512x128.size (fun a => by match a with | ⟨0, _⟩ => exact h | ⟨1, _⟩ => exact le_refl 128)

/-- One column of them. -/
abbrev colR (o l : ℕ) (h : o + 512 ≤ 2048) (hl : l + 1 ≤ 128) : Rect S2048x128 :=
  Rect.unit ![o, l] S512x1.size (fun a => by match a with | ⟨0, _⟩ => exact h | ⟨1, _⟩ => exact hl)

/-- 512 columns of one row of c. -/
abbrev rowC (r o : ℕ) (hr : r + 1 ≤ 8) (h : o + 512 ≤ 2048) : Rect S1x8x2048 :=
  Rect.unit ![0, r, o] S1x1x512.size (fun a => by match a with | ⟨0, _⟩ => exact le_refl 1 | ⟨1, _⟩ => exact hr | ⟨2, _⟩ => exact h)

end Cert.KernelIdeal.Fox

end
-- ==== Proof.Sweep.lean ====
/-
  One key block's sweep over the query blocks that see it, as vectors over the seven blocks the body reads.
-/
module

public import proofs.«01_k».proof.Proof.Step

@[expose] public section

noncomputable section

namespace Cert.KernelIdeal.Fox

open Idealize.ShloMosaic
open Cert.KernelIdeal.Gen

variable {F : FTy → Type} [FloatOps F] [Named F]

/-- A head's first lane, -/
def laneLo (e : Fin 2) : BitVec 32 := BitVec.ofNat 32 (64 * e.val)
/-- and the lane after its last. -/
def laneHi (e : Fin 2) : BitVec 32 := BitVec.ofNat 32 (64 * e.val + 64)

/-- The row of c that head `e` of pair `i 1` reads. -/
def cRow (i : grid0.Coords) (e : Fin 2) : ℕ :=
  (Scalar.indexCast (Scalar.addi (Scalar.muli 2#32 (BitVec.ofNat 32 (i 1).val)) (BitVec.ofNat 32 e.val))).toNat

theorem cRow_eq (i : grid0.Coords) (e : Fin 2) : cRow i e = 2 * (i 1).val + e.val := by
  have h1 : (i 1).val < 4 := (i 1).isLt
  unfold cRow Scalar.indexCast Scalar.addi Scalar.muli
  generalize (i 1).val = n at h1
  interval_cases n <;> fin_cases e <;> rfl

theorem cRow_le (i : grid0.Coords) (e : Fin 2) : cRow i e + 1 ≤ 8 := by
  rw [cRow_eq]; have h1 : (i 1).val < 4 := (i 1).isLt; have := e.isLt; omega

/-- The query blocks that see key block `j`. -/
def stepsOf : Fin 4 → List (Fin 4)
  | 0 => [0, 1, 2, 3]
  | 1 => [1, 2, 3]
  | 2 => [2, 3]
  | 3 => [3]

theorem blk_le (i : Fin 4) : 512 * i.val + 512 ≤ 2048 := by have := i.isLt; omega
theorem lane_le (e : Fin 2) : 64 * e.val + 1 ≤ 128 := by have := e.isLt; omega

/-- A whole block of 512 rows. -/
abbrev wholeR : Rect S512x128 :=
  Rect.unit ![0, 0] S512x128.size (fun a => by match a with | ⟨0, _⟩ => exact le_refl 512 | ⟨1, _⟩ => exact le_refl 128)

section
variable (g : grid0.Coords) (j : Fin 4)
variable (x0 : Vec F S2048x128 .bf16) (x1 x2 : Vec F S512x128 .bf16) (x3 : Vec F S2048x128 .f32) (x4 : Vec F S2048x128 .bf16)
  (x5 : Vec F S2048x128 .f32) (x6 : Vec F S1x8x2048 .f32)

/-- Query block `i`, scaled. -/
def qB (i : Fin 4) : FVec F S512x128 .bf16 := scaled (View.ld (Val := Elt F) x0 (rowsR (512 * i.val) (blk_le i)))

/-- The key block on head `e`'s lanes. -/
def kB (e : Fin 2) : FVec F S512x128 .bf16 := onHead (laneLo e) (laneHi e) (asBlock (View.ld (Val := Elt F) x1 wholeR))

/-- Query block `i` of the output's gradient on head `e`'s lanes. -/
def dB (i : Fin 4) (e : Fin 2) : FVec F S512x128 .bf16 :=
  onHead (laneLo e) (laneHi e) (asBlock (View.ld (Val := Elt F) x4 (rowsR (512 * i.val) (blk_le i))))

/-- The probabilities of query block `i` at key block `j`, head `e`. -/
def pB (i : Fin 4) (e : Fin 2) : FVec F S512x512 .f32 :=
  bif i.val == j.val then
    probDiag (BitVec.ofNat 32 (512 * j.val)) (qB x0 i) (kB x1 e) (View.ld (Val := Elt F) x6 (rowC (cRow g e) (512 * j.val) (cRow_le g e) (blk_le j)))
      (View.ld (Val := Elt F) x5 (colR (512 * i.val) (64 * e.val) (blk_le i) (lane_le e)))
  else
    probFull (qB x0 i) (kB x1 e) (View.ld (Val := Elt F) x6 (rowC (cRow g e) (512 * j.val) (cRow_le g e) (blk_le j)))
      (View.ld (Val := Elt F) x5 (colR (512 * i.val) (64 * e.val) (blk_le i) (lane_le e)))

/-- The gradient of those scores. -/
def sB (i : Fin 4) (e : Fin 2) : FVec F S512x512 .f32 :=
  scoreGrad (laneLo e) (laneHi e) (pB g j x0 x1 x5 x6 i e) (View.ld (Val := Elt F) x4 (rowsR (512 * i.val) (blk_le i)))
    (View.ld (Val := Elt F) x3 (rowsR (512 * i.val) (blk_le i))) (View.ld (Val := Elt F) x2 wholeR)

/-- Head `e`'s gradient of the key block. -/
def gK (e : Fin 2) : FVec F S512x128 .f32 :=
  (stepsOf j).foldl (fun a i => addCols a (sB g j x0 x1 x2 x3 x4 x5 x6 i e) (qB x0 i)) zeroBlock

/-- Head `e`'s gradient of the value block. -/
def gV (e : Fin 2) : FVec F S512x128 .f32 :=
  (stepsOf j).foldl (fun a i => addCols a (pB g j x0 x1 x5 x6 i e) (dB x4 i e)) zeroBlock

/-- Head `e`'s gradient of the key block's columns of c. -/
def gC (e : Fin 2) : FVec F S1x512 .f32 :=
  (stepsOf j).foldl (fun a i => lessCols a (sB g j x0 x1 x2 x3 x4 x5 x6 i e)) zeroRow

/-- What the key block adds to query block `i`'s gradient, before the scale. -/
def gQ (i : Fin 4) : FVec F S512x128 .f32 :=
  addRows (addRows zeroBlock (sB g j x0 x1 x2 x3 x4 x5 x6 i 0) (kB x1 0)) (sB g j x0 x1 x2 x3 x4 x5 x6 i 1) (kB x1 1)

end

end Cert.KernelIdeal.Fox

end
-- ==== Proof.StepReal.lean ====
/-
  The step's vectors at the exact values: where the blocks hold reals, each vector holds the reals of the formula it is.
-/
module

public import proofs.«01_k».proof.Proof.Sweep
public import Idealize.ShloMosaic.Lib.Pointwise

@[expose] public section

noncomputable section

namespace Cert.KernelIdeal.Fox

open Idealize.ShloMosaic
open Cert.KernelIdeal.Gen
open scoped BigOperators

/-- A block holds the reals `X`. -/
def Holds2 {n m : ℕ} (x : (⟨2, ![n, m]⟩ : Shape).Idx → EReal) (X : Fin n → Fin m → ℝ) : Prop :=
  ∀ r l, x (ix2 r l) = ((X r l : ℝ) : EReal)

/-- A sum of reals, among the extended reals. -/
theorem coe_sum {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

theorem eighth_bf16 : Ideal.ofBits .bf16 0x3E00#16 = (((1 : ℝ) / 8 : ℝ) : EReal) := by
  simp [Ideal.ofBits, Ideal.ieee, -EReal.coe_mul]; norm_num

theorem eighth_f32 : Ideal.ofBits .f32 0x3E000000#32 = (((1 : ℝ) / 8 : ℝ) : EReal) := by
  simp [Ideal.ofBits, Ideal.ieee, -EReal.coe_mul]; norm_num

/-- The mask's value. -/
theorem mask_bot : Named.named (F := Ideal) (φ := .f32) κ "mask" 0xF149F2CA#32 = ⊥ := by
  have h : κ "mask" = some ⊥ := by simp [κ]
  show (κ "mask").getD _ = ⊥
  rw [h]; rfl

/-! ## Lanes -/

theorem lane_bit (lo hi : BitVec 32) (e : Fin 2) (hlo : lo = BitVec.ofNat 32 (64 * e.val)) (hhi : hi = BitVec.ofNat 32 (64 * e.val + 64)) (l : Fin 128) :
    IntOp.andi (IntOp.cmpi .sge (BitVec.ofNat 32 l.val) lo) (IntOp.cmpi .slt (BitVec.ofNat 32 l.val) hi)
      = if l.val / 64 = e.val then 1#1 else 0#1 := by
  subst hlo hhi
  revert e l; decide

theorem lanesOn_apply (e : Fin 2) (r : Fin 512) (l : Fin 128) :
    lanesOn (laneLo e) (laneHi e) (ix2 r l) = if l.val / 64 = e.val then 1#1 else 0#1 := by
  pointwise [lanesOn, lanes]
  exact lane_bit _ _ e rfl rfl l

/-- A choice by a lane's head, among the reals. -/
theorem select_if (p : Prop) [Decidable p] (a b : EReal) : Scalar.select (if p then 1#1 else 0#1) a b = if p then a else b := by
  by_cases h : p
  · simp only [h, if_true]; rfl
  · simp only [h, if_false]; rfl

/-- The lanes of head `e`, the others zeroed. -/
def onL (e : Fin 2) (X : Fin 512 → Fin 128 → ℝ) : Fin 512 → Fin 128 → ℝ := fun r l => if l.val / 64 = e.val then X r l else 0

theorem onHead_holds (e : Fin 2) {x : FVec Ideal S512x128 .bf16} {X : Fin 512 → Fin 128 → ℝ} (hx : Holds2 x X) :
    Holds2 (onHead (laneLo e) (laneHi e) x) (onL e X) := fun r l => by
  pointwise [onHead]
  rw [lanesOn_apply, select_if, hx r l, onL]
  split
  · rfl
  · rfl

theorem asBlock_holds {t : EltTy} (x : Vec Ideal S512x128 t) : asBlock x = x := by
  funext j; rw [show j = ix2 (j 0) (j 1) from ValueIdx.eq_ix2 j]; pointwise [asBlock]

theorem scaled_holds {x : Vec Ideal S512x128 .bf16} {X : Fin 512 → Fin 128 → ℝ} (hx : Holds2 x X) :
    Holds2 (scaled x) (fun r l => X r l * (1 / 8)) := fun r l => by
  pointwise [scaled, asBlock]
  rw [hx r l, show Ideal.ofBits .bf16 15872#16 = _ from eighth_bf16, ← EReal.coe_mul]

/-! ## Scores and probabilities -/

theorem score_holds {q k : FVec Ideal S512x128 .bf16} {c : Vec Ideal S1x1x512 .f32} {Q K : Fin 512 → Fin 128 → ℝ} {C : Fin 512 → ℝ}
    (hq : Holds2 q Q) (hk : Holds2 k K) (hc : ∀ s, c (ix3 0 0 s) = ((C s : ℝ) : EReal)) :
    Holds2 (score q k c) (fun r s => (∑ l, Q r l * K s l) - C s) := fun r s => by
  pointwise [score]
  simp only [hq r _, hk s _, hc s, ← EReal.coe_mul, coe_sum, ← EReal.coe_sub]

theorem seen_apply (j : Fin 4) (r s : Fin 512) : seen (BitVec.ofNat 32 (512 * j.val)) (ix2 r s) = if s.val ≤ r.val then 1#1 else 0#1 := by
  pointwise [seen]
  have hj := j.isLt; have hr := r.isLt; have hs := s.isLt
  have e : ∀ n < 512, IntOp.addi (BitVec.ofNat 32 (512 * j.val)) (BitVec.ofNat 32 n) = BitVec.ofNat 32 (512 * j.val + n) := fun n hn => by
    unfold IntOp.addi; rw [BitVec.ofNat_add]
  have ti : ∀ n < 4096, (BitVec.ofNat 32 n).toInt = (n : ℤ) := fun n hn => by
    rw [BitVec.toInt_eq_toNat_of_lt]
    · simp only [BitVec.toNat_ofNat]; congr 1; exact Nat.mod_eq_of_lt (by omega)
    · simp only [BitVec.toNat_ofNat]; rw [Nat.mod_eq_of_lt (by omega)]; omega
  rw [e _ hs, e _ hr]
  unfold IntOp.cmpi
  simp only [BitVec.sle, ti _ (show 512 * j.val + s.val < 4096 by omega), ti _ (show 512 * j.val + r.val < 4096 by omega)]
  by_cases h : s.val ≤ r.val
  · rw [if_pos h]; rw [decide_eq_true (by omega)]; rfl
  · rw [if_neg h]; rw [decide_eq_false (by omega)]; rfl

theorem probFull_holds {q k : FVec Ideal S512x128 .bf16} {c : Vec Ideal S1x1x512 .f32} {x : Vec Ideal S512x1 .f32}
    {Q K : Fin 512 → Fin 128 → ℝ} {C L : Fin 512 → ℝ}
    (hq : Holds2 q Q) (hk : Holds2 k K) (hc : ∀ s, c (ix3 0 0 s) = ((C s : ℝ) : EReal)) (hl : ∀ r, x (ix2 r 0) = ((L r : ℝ) : EReal)) :
    Holds2 (probFull q k c x) (fun r s => Real.exp ((∑ l, Q r l * K s l) - C s - L r)) := fun r s => by
  pointwise [probFull, expLess]
  rw [score_holds hq hk hc r s, hl r, ← EReal.coe_sub, Ideal.exp_coe]

theorem probDiag_holds (j : Fin 4) {q k : FVec Ideal S512x128 .bf16} {c : Vec Ideal S1x1x512 .f32} {x : Vec Ideal S512x1 .f32}
    {Q K : Fin 512 → Fin 128 → ℝ} {C L : Fin 512 → ℝ}
    (hq : Holds2 q Q) (hk : Holds2 k K) (hc : ∀ s, c (ix3 0 0 s) = ((C s : ℝ) : EReal)) (hl : ∀ r, x (ix2 r 0) = ((L r : ℝ) : EReal)) :
    Holds2 (probDiag (BitVec.ofNat 32 (512 * j.val)) q k c x)
      (fun r s => if s.val ≤ r.val then Real.exp ((∑ l, Q r l * K s l) - C s - L r) else 0) := fun r s => by
  pointwise [probDiag, expLess]
  rw [seen_apply, select_if, score_holds hq hk hc r s, hl r]
  by_cases h : s.val ≤ r.val
  · rw [if_pos h, if_pos h, ← EReal.coe_sub, Ideal.exp_coe]
  · rw [if_neg h, if_neg h, show Named.named (F := Ideal) (φ := .f32) κ "mask" 4048155338#32 = ⊥ from mask_bot, EReal.bot_sub]
    rfl

/-! ## The scores' gradient -/

theorem rowDot_holds (e : Fin 2) {d : Vec Ideal S512x128 .bf16} {o : Vec Ideal S512x128 .f32} {D O : Fin 512 → Fin 128 → ℝ}
    (hd : Holds2 d D) (ho : Holds2 o O) (r : Fin 512) :
    rowDot (laneLo e) (laneHi e) d o (ix2 r 0) = ((∑ l, onL e D r l * O r l : ℝ) : EReal) := by
  pointwise [rowDot, asBlock]
  rw [← coe_sum]
  refine Finset.sum_congr rfl fun l _ => ?_
  rw [lanesOn_apply, select_if, hd r l, ho r l, onL]
  split
  · rw [← EReal.coe_mul]
  · rw [zero_mul, EReal.coe_zero]

theorem scoreGrad_holds (e : Fin 2) {p : FVec Ideal S512x512 .f32} {d : Vec Ideal S512x128 .bf16} {o : Vec Ideal S512x128 .f32}
    {v : Vec Ideal S512x128 .bf16} {Pr : Fin 512 → Fin 512 → ℝ} {D O W : Fin 512 → Fin 128 → ℝ}
    (hp : Holds2 p Pr) (hd : Holds2 d D) (ho : Holds2 o O) (hv : Holds2 v W) :
    Holds2 (scoreGrad (laneLo e) (laneHi e) p d o v)
      (fun r s => Pr r s * ((∑ l, onL e D r l * W s l) - ∑ l, onL e D r l * O r l)) := fun r s => by
  pointwise [scoreGrad]
  rw [hp r s, rowDot_holds e hd ho r]
  simp only [asBlock_holds, (onHead_holds e hd) r _, hv s _, ← EReal.coe_mul, coe_sum, ← EReal.coe_sub]

/-! ## What is added up -/

theorem zeroBlock_holds : Holds2 (zeroBlock (F := Ideal)) (fun _ _ => 0) := fun r l => by
  pointwise [zeroBlock]
  exact EReal.coe_zero.symm

theorem addRows_holds {a : FVec Ideal S512x128 .f32} {w : FVec Ideal S512x512 .f32} {x : FVec Ideal S512x128 .bf16}
    {A : Fin 512 → Fin 128 → ℝ} {W : Fin 512 → Fin 512 → ℝ} {X : Fin 512 → Fin 128 → ℝ} (ha : Holds2 a A) (hw : Holds2 w W) (hx : Holds2 x X) :
    Holds2 (addRows a w x) (fun r l => A r l + ∑ s, W r s * X s l) := fun r l => by
  pointwise [addRows]
  simp only [ha r l, hw r _, hx _ l, ← EReal.coe_mul, coe_sum, ← EReal.coe_add]

theorem addCols_holds {a : FVec Ideal S512x128 .f32} {w : FVec Ideal S512x512 .f32} {x : FVec Ideal S512x128 .bf16}
    {A : Fin 512 → Fin 128 → ℝ} {W : Fin 512 → Fin 512 → ℝ} {X : Fin 512 → Fin 128 → ℝ} (ha : Holds2 a A) (hw : Holds2 w W) (hx : Holds2 x X) :
    Holds2 (addCols a w x) (fun s l => A s l + ∑ r, W r s * X r l) := fun s l => by
  pointwise [addCols]
  simp only [ha s l, hw _ s, hx _ l, ← EReal.coe_mul, coe_sum, ← EReal.coe_add]

theorem zeroRow_holds : Holds2 (zeroRow (F := Ideal)) (fun _ _ => 0) := fun r l => by
  pointwise [zeroRow]
  exact EReal.coe_zero.symm

theorem lessCols_holds {a : FVec Ideal S1x512 .f32} {w : FVec Ideal S512x512 .f32}
    {A : Fin 1 → Fin 512 → ℝ} {W : Fin 512 → Fin 512 → ℝ} (ha : Holds2 a A) (hw : Holds2 w W) :
    Holds2 (lessCols a w) (fun z s => A z s - ∑ r, W r s) := fun z s => by
  obtain rfl : z = 0 := Subsingleton.elim _ _
  pointwise [lessCols]
  simp only [ha 0 s, hw _ s, coe_sum, ← EReal.coe_sub]

theorem moreQ_holds {x : Vec Ideal S512x128 .f32} {d : FVec Ideal S512x128 .f32} {X D : Fin 512 → Fin 128 → ℝ} (hx : Holds2 x X) (hd : Holds2 d D) :
    Holds2 (moreQ x d) (fun r l => X r l + D r l * (1 / 8)) := fun r l => by
  pointwise [moreQ]
  rw [hx r l, hd r l, show Ideal.ofBits .f32 1040187392#32 = _ from eighth_f32, ← EReal.coe_mul, ← EReal.coe_add]

theorem outK_holds {a b : FVec Ideal S512x128 .f32} {A B : Fin 512 → Fin 128 → ℝ} (ha : Holds2 a A) (hb : Holds2 b B) :
    Holds2 (outK a b) (fun r l => if l.val / 64 = 0 then A r l else B r l) := fun r l => by
  pointwise [outK]
  rw [show lanesOn 0#32 64#32 (ix2 r l) = _ from lanesOn_apply 0 r l, select_if, ha r l, hb r l]
  by_cases h : l.val / 64 = 0
  · rw [if_pos h]; exact if_pos h
  · rw [if_neg h]; exact if_neg h

theorem outV_holds {a b : FVec Ideal S512x128 .f32} {A B : Fin 512 → Fin 128 → ℝ} (ha : Holds2 a A) (hb : Holds2 b B) :
    Holds2 (outV a b) (fun r l => A r l + B r l) := fun r l => by
  pointwise [outV]
  rw [ha r l, hb r l, ← EReal.coe_add]

theorem outC_apply {a : FVec Ideal S1x512 .f32} {A : Fin 1 → Fin 512 → ℝ} (ha : Holds2 a A) (s : Fin 512) :
    outC a (ix4 0 0 0 s) = ((A 0 s : ℝ) : EReal) := by
  pointwise [outC]
  rw [ha 0 s]

/-! ## The loads -/

theorem ld_rows {t : EltTy} (x : Vec Ideal S2048x128 t) (o : ℕ) (h : o + 512 ≤ 2048) (r : Fin 512) (l : Fin 128) :
    View.ld (Val := Elt Ideal) x (rowsR o h) (ix2 r l) = x (ix2 ⟨o + r.val, by have := r.isLt; omega⟩ l) := by
  pointwise [View.ld]

theorem ld_whole {t : EltTy} (x : Vec Ideal S512x128 t) (r : Fin 512) (l : Fin 128) :
    View.ld (Val := Elt Ideal) x wholeR (ix2 r l) = x (ix2 r l) := by
  pointwise [View.ld]

theorem ld_col (x : Vec Ideal S2048x128 .f32) (o l : ℕ) (h : o + 512 ≤ 2048) (hl : l + 1 ≤ 128) (r : Fin 512) :
    View.ld (Val := Elt Ideal) x (colR o l h hl) (ix2 r 0) = x (ix2 ⟨o + r.val, by have := r.isLt; omega⟩ ⟨l, by omega⟩) := by
  pointwise [View.ld]

theorem ld_row (x : Vec Ideal S1x8x2048 .f32) (a o : ℕ) (ha : a + 1 ≤ 8) (h : o + 512 ≤ 2048) (s : Fin 512) :
    View.ld (Val := Elt Ideal) x (rowC a o ha h) (ix3 0 0 s) = x (ix3 0 ⟨a, by omega⟩ ⟨o + s.val, by have := s.isLt; omega⟩) := by
  pointwise [View.ld]

end Cert.KernelIdeal.Fox

end
-- ==== Proof.SweepReal.lean ====
/-
  The sweep at the exact values: what a key block's sweep leaves, as sums over all the query rows. A row before the key
  has probability zero, so the rows that the sweep passes over add nothing.
-/
module

public import proofs.«01_k».proof.Proof.StepReal

@[expose] public section

noncomputable section

namespace Cert.KernelIdeal.Fox

open Idealize.ShloMosaic
open Cert.KernelIdeal.Gen
open scoped BigOperators

/-- Row `r` of block `i`. -/
def row (i : Fin 4) (r : Fin 512) : Fin 2048 := ⟨512 * i.val + r.val, by have := i.isLt; have := r.isLt; omega⟩

/-- A sum over the rows, block by block. -/
theorem sum_rows (f : Fin 2048 → ℝ) : ∑ R, f R = ∑ i, ∑ r, f (row i r) := by
  rw [Fin.sum_univ_tiles 4 512 (by decide) f]
  refine Finset.sum_congr rfl fun i _ => Finset.sum_congr rfl fun r _ => congrArg f (Fin.ext ?_)
  show i.val * 512 + r.val = 512 * i.val + r.val
  omega

/-- A fold that adds one array at each step. -/
theorem holds_foldl {n m : ℕ} (step : ((⟨2, ![n, m]⟩ : Shape).Idx → EReal) → Fin 4 → (⟨2, ![n, m]⟩ : Shape).Idx → EReal)
    (T : Fin 4 → Fin n → Fin m → ℝ) (L : List (Fin 4))
    (h : ∀ i ∈ L, ∀ a A, Holds2 a A → Holds2 (step a i) (fun x y => A x y + T i x y)) :
    ∀ a A, Holds2 a A → Holds2 (L.foldl step a) (fun x y => A x y + (L.map fun i => T i x y).sum) := by
  induction L with
  | nil => intro a A ha x y; simpa using ha x y
  | cons i L ih =>
    intro a A ha
    have h1 := ih (fun k hk => h k (List.mem_cons_of_mem _ hk)) _ _ (h i List.mem_cons_self a A ha)
    intro x y
    rw [List.foldl_cons, h1 x y]
    refine congrArg _ ?_
    show A x y + T i x y + _ = _
    rw [add_assoc]; simp only [List.map_cons, List.sum_cons]

/-- The steps of key block `j` are the blocks from `j` on. -/
theorem mem_steps {i j : Fin 4} (h : i ∈ stepsOf j) : j ≤ i := by
  revert h; revert i j; decide

/-- A sum over the steps is the sum over all the blocks, where the earlier ones add nothing. -/
theorem sum_steps (j : Fin 4) (f : Fin 4 → ℝ) (h : ∀ i < j, f i = 0) : ((stepsOf j).map f).sum = ∑ i, f i := by
  rw [Fin.sum_univ_four]
  fin_cases j
  · simp [stepsOf]; ring
  · simp [stepsOf, h 0 (by decide)]; ring
  · simp [stepsOf, h 0 (by decide), h 1 (by decide)]
  · simp [stepsOf, h 0 (by decide), h 1 (by decide), h 2 (by decide)]

/-- The lanes of head `e`, the others zeroed, of any rows. -/
def onH {ι : Type} (e : Fin 2) (X : ι → Fin 128 → ℝ) : ι → Fin 128 → ℝ := fun r l => if l.val / 64 = e.val then X r l else 0

section
variable (g : grid0.Coords) (j : Fin 4)
variable (X0 : Fin 2048 → Fin 128 → ℝ) (X1 X2 : Fin 512 → Fin 128 → ℝ) (X3 X4 X5 : Fin 2048 → Fin 128 → ℝ) (C : Fin 8 → Fin 2048 → ℝ)

/-- Head `e`'s probability of query row `R` at the block's key `s`. -/
def pG (e : Fin 2) (R : Fin 2048) (s : Fin 512) : ℝ :=
  if 512 * j.val + s.val ≤ R.val then
    Real.exp ((∑ l, X0 R l * (1 / 8) * onH e X1 s l) - C ⟨cRow g e, cRow_le g e⟩ (row j s) - X5 R ⟨64 * e.val, lane_le e⟩)
  else 0

/-- The gradient of that score. -/
def sG (e : Fin 2) (R : Fin 2048) (s : Fin 512) : ℝ :=
  pG g j X0 X1 X5 C e R s * ((∑ l, onH e X4 R l * X2 s l) - ∑ l, onH e X4 R l * X3 R l)

variable {X0 X1 X2 X3 X4 X5 C}

theorem pG_early (e : Fin 2) (i : Fin 4) (h : i < j) (r s : Fin 512) : pG g j X0 X1 X5 C e (row i r) s = 0 := by
  unfold pG
  rw [if_neg]
  show ¬(512 * j.val + s.val ≤ 512 * i.val + r.val)
  have := r.isLt; have h' : i.val < j.val := h; omega

theorem sG_early (e : Fin 2) (i : Fin 4) (h : i < j) (r s : Fin 512) : sG g j X0 X1 X2 X3 X4 X5 C e (row i r) s = 0 := by
  unfold sG
  rw [pG_early g j e i h, zero_mul]

variable {x0 : Vec Ideal S2048x128 .bf16} {x1 x2 : Vec Ideal S512x128 .bf16} {x3 : Vec Ideal S2048x128 .f32} {x4 : Vec Ideal S2048x128 .bf16}
  {x5 : Vec Ideal S2048x128 .f32} {x6 : Vec Ideal S1x8x2048 .f32}

theorem qB_holds (h0 : Holds2 x0 X0) (i : Fin 4) : Holds2 (qB x0 i) (fun r l => X0 (row i r) l * (1 / 8)) :=
  scaled_holds (X := fun r l => X0 (row i r) l) fun r l => (ld_rows x0 _ _ r l).trans (h0 _ _)

theorem kB_holds (h1 : Holds2 x1 X1) (e : Fin 2) : Holds2 (kB x1 e) (onH e X1) := by
  unfold kB
  rw [asBlock_holds]
  exact onHead_holds e (X := X1) fun r l => (ld_whole x1 r l).trans (h1 _ _)

theorem dB_holds (h4 : Holds2 x4 X4) (i : Fin 4) (e : Fin 2) : Holds2 (dB x4 i e) (fun r l => onH e X4 (row i r) l) := by
  unfold dB
  rw [asBlock_holds]
  exact onHead_holds e (X := fun r l => X4 (row i r) l) fun r l => (ld_rows x4 _ _ r l).trans (h4 _ _)

theorem pB_holds (h0 : Holds2 x0 X0) (h1 : Holds2 x1 X1) (h5 : Holds2 x5 X5) (h6 : ∀ a s, x6 (ix3 0 a s) = ((C a s : ℝ) : EReal))
    (i : Fin 4) (hi : j ≤ i) (e : Fin 2) :
    Holds2 (pB g j x0 x1 x5 x6 i e) (fun r s => pG g j X0 X1 X5 C e (row i r) s) := by
  have hc : ∀ s, View.ld (Val := Elt Ideal) x6 (rowC (cRow g e) (512 * j.val) (cRow_le g e) (blk_le j)) (ix3 0 0 s)
      = ((C ⟨cRow g e, cRow_le g e⟩ (row j s) : ℝ) : EReal) := fun s => (ld_row x6 _ _ _ _ s).trans (h6 _ _)
  have hl : ∀ r, View.ld (Val := Elt Ideal) x5 (colR (512 * i.val) (64 * e.val) (blk_le i) (lane_le e)) (ix2 r 0)
      = ((X5 (row i r) ⟨64 * e.val, lane_le e⟩ : ℝ) : EReal) := fun r => (ld_col x5 _ _ _ _ r).trans (h5 _ _)
  by_cases hij : i = j
  · subst hij
    unfold pB
    rw [beq_self_eq_true, cond_true]
    intro r s
    rw [probDiag_holds i (qB_holds h0 i) (kB_holds h1 e) hc hl r s]
    unfold pG
    have hrow : (512 * i.val + s.val ≤ (row i r).val) ↔ s.val ≤ r.val := by
      show 512 * i.val + s.val ≤ 512 * i.val + r.val ↔ _; omega
    simp only [hrow]
  · unfold pB
    have hne : (i.val == j.val) = false := by
      rw [beq_eq_false_iff_ne]; exact fun h => hij (Fin.ext h)
    rw [hne, cond_false]
    intro r s
    rw [probFull_holds (qB_holds h0 i) (kB_holds h1 e) hc hl r s]
    refine congrArg _ (Eq.symm (if_pos ?_))
    show 512 * j.val + s.val ≤ 512 * i.val + r.val
    have hlt : j.val < i.val := lt_of_le_of_ne hi fun h => hij (Fin.ext h.symm)
    have := s.isLt; omega

theorem sB_holds (h0 : Holds2 x0 X0) (h1 : Holds2 x1 X1) (h2 : Holds2 x2 X2) (h3 : Holds2 x3 X3) (h4 : Holds2 x4 X4) (h5 : Holds2 x5 X5)
    (h6 : ∀ a s, x6 (ix3 0 a s) = ((C a s : ℝ) : EReal)) (i : Fin 4) (hi : j ≤ i) (e : Fin 2) :
    Holds2 (sB g j x0 x1 x2 x3 x4 x5 x6 i e) (fun r s => sG g j X0 X1 X2 X3 X4 X5 C e (row i r) s) :=
  scoreGrad_holds e (D := fun r l => X4 (row i r) l) (O := fun r l => X3 (row i r) l) (W := X2) (pB_holds g j h0 h1 h5 h6 i hi e)
    (fun r l => (ld_rows x4 _ _ r l).trans (h4 _ _)) (fun r l => (ld_rows x3 _ _ r l).trans (h3 _ _))
    (fun r l => (ld_whole x2 r l).trans (h2 _ _))

theorem gK_holds (h0 : Holds2 x0 X0) (h1 : Holds2 x1 X1) (h2 : Holds2 x2 X2) (h3 : Holds2 x3 X3) (h4 : Holds2 x4 X4) (h5 : Holds2 x5 X5)
    (h6 : ∀ a s, x6 (ix3 0 a s) = ((C a s : ℝ) : EReal)) (e : Fin 2) :
    Holds2 (gK g j x0 x1 x2 x3 x4 x5 x6 e) (fun s l => ∑ R, sG g j X0 X1 X2 X3 X4 X5 C e R s * (X0 R l * (1 / 8))) := by
  have := holds_foldl (fun a i => addCols a (sB g j x0 x1 x2 x3 x4 x5 x6 i e) (qB x0 i))
    (fun i s l => ∑ r, sG g j X0 X1 X2 X3 X4 X5 C e (row i r) s * (X0 (row i r) l * (1 / 8))) (stepsOf j)
    (fun i hi a A ha => addCols_holds ha (sB_holds g j h0 h1 h2 h3 h4 h5 h6 i (mem_steps hi) e) (qB_holds h0 i)) _ _ zeroBlock_holds
  intro s l
  unfold gK
  refine (this s l).trans (congrArg _ ?_)
  show 0 + _ = _
  rw [zero_add, sum_steps j _ fun i hi => ?_]
  · beta_reduce; rw [sum_rows]
  exact Finset.sum_eq_zero fun r _ => by rw [sG_early g j e i hi, zero_mul]

theorem gV_holds (h0 : Holds2 x0 X0) (h1 : Holds2 x1 X1) (h4 : Holds2 x4 X4) (h5 : Holds2 x5 X5)
    (h6 : ∀ a s, x6 (ix3 0 a s) = ((C a s : ℝ) : EReal)) (e : Fin 2) :
    Holds2 (gV g j x0 x1 x4 x5 x6 e) (fun s l => ∑ R, pG g j X0 X1 X5 C e R s * onH e X4 R l) := by
  have := holds_foldl (fun a i => addCols a (pB g j x0 x1 x5 x6 i e) (dB x4 i e))
    (fun i s l => ∑ r, pG g j X0 X1 X5 C e (row i r) s * onH e X4 (row i r) l) (stepsOf j)
    (fun i hi a A ha => addCols_holds ha (pB_holds g j h0 h1 h5 h6 i (mem_steps hi) e) (dB_holds h4 i e)) _ _ zeroBlock_holds
  intro s l
  unfold gV
  refine (this s l).trans (congrArg _ ?_)
  show 0 + _ = _
  rw [zero_add, sum_steps j _ fun i hi => ?_]
  · beta_reduce; rw [sum_rows]
  exact Finset.sum_eq_zero fun r _ => by rw [pG_early g j e i hi, zero_mul]

theorem gC_holds (h0 : Holds2 x0 X0) (h1 : Holds2 x1 X1) (h2 : Holds2 x2 X2) (h3 : Holds2 x3 X3) (h4 : Holds2 x4 X4) (h5 : Holds2 x5 X5)
    (h6 : ∀ a s, x6 (ix3 0 a s) = ((C a s : ℝ) : EReal)) (e : Fin 2) :
    Holds2 (gC g j x0 x1 x2 x3 x4 x5 x6 e) (fun _ s => -∑ R, sG g j X0 X1 X2 X3 X4 X5 C e R s) := by
  have := holds_foldl (fun a i => lessCols a (sB g j x0 x1 x2 x3 x4 x5 x6 i e))
    (fun i _ s => -∑ r, sG g j X0 X1 X2 X3 X4 X5 C e (row i r) s) (stepsOf j)
    (fun i hi a A ha x y => (lessCols_holds ha (sB_holds g j h0 h1 h2 h3 h4 h5 h6 i (mem_steps hi) e) x y).trans
      (congrArg _ (sub_eq_add_neg _ _))) _ _ zeroRow_holds
  intro z s
  unfold gC
  refine (this z s).trans (congrArg _ ?_)
  show 0 + _ = _
  rw [zero_add, sum_steps j _ fun i hi => ?_]
  · beta_reduce; rw [sum_rows, Finset.sum_neg_distrib]
  rw [Finset.sum_eq_zero fun r _ => sG_early g j e i hi r s, neg_zero]

theorem gQ_holds (h0 : Holds2 x0 X0) (h1 : Holds2 x1 X1) (h2 : Holds2 x2 X2) (h3 : Holds2 x3 X3) (h4 : Holds2 x4 X4) (h5 : Holds2 x5 X5)
    (h6 : ∀ a s, x6 (ix3 0 a s) = ((C a s : ℝ) : EReal)) (i : Fin 4) (hi : j ≤ i) :
    Holds2 (gQ g j x0 x1 x2 x3 x4 x5 x6 i)
      (fun r l => (∑ s, sG g j X0 X1 X2 X3 X4 X5 C 0 (row i r) s * onH 0 X1 s l) + ∑ s, sG g j X0 X1 X2 X3 X4 X5 C 1 (row i r) s * onH 1 X1 s l) := by
  have := addRows_holds (addRows_holds zeroBlock_holds (sB_holds g j h0 h1 h2 h3 h4 h5 h6 i hi 0) (kB_holds h1 0))
    (sB_holds g j h0 h1 h2 h3 h4 h5 h6 i hi 1) (kB_holds h1 1)
  intro r l
  unfold gQ
  refine (this r l).trans (congrArg _ ?_)
  show 0 + _ + _ = _
  rw [zero_add]

end

end Cert.KernelIdeal.Fox

end
-- ==== Proof.FoxMath.lean ====
/-
  One head of the forgetting attention over the reals: the scores, the probabilities and the gradients, and the two ways
  in which they are reached, the reference's (a row maximum taken off, the query's own gate kept) and the kernel's (the
  row's logarithm of its mass taken off).
-/
module

public import Mathlib.Analysis.SpecialFunctions.Log.Basic
public import Mathlib.Tactic.FieldSimp
public import Mathlib.Tactic.Ring

@[expose] public section

noncomputable section

namespace Cert.KernelIdeal.Fox

open scoped BigOperators

/-- One head's queries, keys, values, cotangents and summed gates. -/
structure Head where
  q : Fin 2048 → Fin 64 → ℝ
  k : Fin 2048 → Fin 64 → ℝ
  v : Fin 2048 → Fin 64 → ℝ
  g : Fin 2048 → Fin 64 → ℝ
  c : Fin 2048 → ℝ

namespace Head

variable (H : Head)

/-- The scaled product of query `r` and key `s`. -/
def score (r s : Fin 2048) : ℝ := (∑ d, H.q r d * H.k s d) * (1 / 8)

/-- The weight of key `s` for query `r`, up to a factor of the row. -/
def weight (r s : Fin 2048) : ℝ := if s.val ≤ r.val then Real.exp (H.score r s - H.c s) else 0

/-- The row's mass. -/
def mass (r : Fin 2048) : ℝ := ∑ s, H.weight r s

/-- The probability. -/
def prob (r s : Fin 2048) : ℝ := H.weight r s / H.mass r

/-- The gradient at the probability. -/
def gradP (r s : Fin 2048) : ℝ := ∑ d, H.g r d * H.v s d

/-- The row's mean of that gradient. -/
def mean (r : Fin 2048) : ℝ := ∑ s, H.prob r s * H.gradP r s

/-- The gradient at the score. -/
def gradS (r s : Fin 2048) : ℝ := H.prob r s * (H.gradP r s - H.mean r)

/-- The gradient at the query. -/
def gradQ (r : Fin 2048) (d : Fin 64) : ℝ := (∑ s, H.gradS r s * H.k s d) * (1 / 8)

/-- The gradient at the key. -/
def gradK (s : Fin 2048) (d : Fin 64) : ℝ := (∑ r, H.gradS r s * H.q r d) * (1 / 8)

/-- The gradient at the value. -/
def gradV (s : Fin 2048) (d : Fin 64) : ℝ := ∑ r, H.prob r s * H.g r d

/-- The gradient at the summed gate. -/
def gradC (s : Fin 2048) : ℝ := -∑ r, H.gradS r s

/-- The mixed values. -/
def mixed (r : Fin 2048) (d : Fin 64) : ℝ := ∑ s, H.prob r s * H.v s d

theorem weight_nonneg (r s : Fin 2048) : 0 ≤ H.weight r s := by
  unfold weight; split
  · exact (Real.exp_pos _).le
  · exact le_rfl

theorem mass_pos (r : Fin 2048) : 0 < H.mass r := by
  refine Finset.sum_pos' (fun s _ => H.weight_nonneg r s) ⟨r, Finset.mem_univ r, ?_⟩
  unfold weight
  rw [if_pos (le_refl _)]
  exact Real.exp_pos _

/-- The weights of a row with any amount added to its scores. -/
def shifted (a : ℝ) (r s : Fin 2048) : ℝ := if s.val ≤ r.val then Real.exp (H.score r s - H.c s + a) else 0

theorem shifted_eq (a : ℝ) (r s : Fin 2048) : H.shifted a r s = H.weight r s * Real.exp a := by
  unfold shifted weight
  split
  · rw [Real.exp_add]
  · rw [zero_mul]

/-- Their sum. -/
def total (a : ℝ) (r : Fin 2048) : ℝ := ∑ s, H.shifted a r s

theorem total_eq (a : ℝ) (r : Fin 2048) : H.total a r = H.mass r * Real.exp a := by
  unfold total mass
  rw [Finset.sum_mul]
  exact Finset.sum_congr rfl fun s _ => H.shifted_eq a r s

theorem total_pos (a : ℝ) (r : Fin 2048) : 0 < H.total a r := by
  rw [total_eq]; exact mul_pos (H.mass_pos r) (Real.exp_pos a)

/-- A row's probabilities do not see what is added to its scores. -/
theorem shifted_div (a : ℝ) (r s : Fin 2048) : H.shifted a r s * (1 / H.total a r) = H.prob r s := by
  rw [shifted_eq, total_eq]
  unfold prob
  have h := (H.mass_pos r).ne'
  have h' := (Real.exp_pos a).ne'
  field_simp

/-- The kernel's probability: the logarithm of the row's mass comes off the score. -/
theorem exp_sub_log (a : ℝ) (r s : Fin 2048) :
    (if s.val ≤ r.val then Real.exp (H.score r s - H.c s - (-a + Real.log (H.total a r))) else 0) = H.prob r s := by
  rw [← H.shifted_div a r s]
  unfold shifted
  split
  · rw [show H.score r s - H.c s - (-a + Real.log (H.total a r)) = (H.score r s - H.c s + a) - Real.log (H.total a r) by ring,
      Real.exp_sub, Real.exp_log (H.total_pos a r), div_eq_mul_one_div]
  · rw [zero_mul]

/-- The cotangent against the mixed values is the row's mean. -/
theorem sum_mixed (r : Fin 2048) : ∑ d, H.g r d * H.mixed r d = H.mean r := by
  unfold mixed mean gradP
  simp only [Finset.mul_sum]
  rw [Finset.sum_comm]
  refine Finset.sum_congr rfl fun s _ => Finset.sum_congr rfl fun d _ => ?_
  ring

/-- The reference's gradient at the score: the quotient's two terms. -/
theorem quotient_grad (a : ℝ) (r s : Fin 2048) :
    (H.gradP r s * (1 / H.total a r)
        + -∑ s', H.gradP r s' * (1 * (1 / (H.total a r * H.total a r))) * H.shifted a r s') * H.shifted a r s = H.gradS r s := by
  have h := (H.total_pos a r).ne'
  have hm : ∑ s', H.gradP r s' * (1 * (1 / (H.total a r * H.total a r))) * H.shifted a r s' = (1 / H.total a r) * H.mean r := by
    unfold mean
    rw [Finset.mul_sum]
    refine Finset.sum_congr rfl fun s' _ => ?_
    rw [← H.shifted_div a r s']
    field_simp
  rw [hm]
  unfold gradS
  rw [← H.shifted_div a r s]
  ring

/-- The probabilities of a row sum to one. -/
theorem sum_prob (r : Fin 2048) : ∑ s, H.prob r s = 1 := by
  unfold prob
  simp only [div_eq_mul_inv]
  rw [← Finset.sum_mul]
  exact mul_inv_cancel₀ (H.mass_pos r).ne'

/-- A row's gradients at the scores sum to zero: its own gate gets nothing. -/
theorem sum_gradS (r : Fin 2048) : ∑ s, H.gradS r s = 0 := by
  unfold gradS
  simp only [mul_sub]
  rw [Finset.sum_sub_distrib, ← Finset.sum_mul, sum_prob, one_mul]
  exact sub_self _

/-- Past the query there is nothing. -/
theorem gradS_late (r s : Fin 2048) (h : ¬s.val ≤ r.val) : H.gradS r s = 0 := by
  unfold gradS prob weight
  rw [if_neg h, zero_div, zero_mul]

end Head

end Cert.KernelIdeal.Fox

end
-- ==== Proof.Heads.lean ====
/-
  The arguments as reals, head by head, and what both programs' host lines do with them at the exact values: the causal
  mask as a choice, a row's maximum as some real.
-/
module

public import proofs.«01_k».proof.Proof.FoxMath
public import proofs.«01_k».proof.Proof.StepReal

@[expose] public section

noncomputable section

namespace Cert.KernelIdeal.Fox

open Idealize.ShloMosaic
open scoped BigOperators

/-- The arguments as reals: queries, keys, values, summed gates and the cotangent of the mixer's output. -/
structure Args where
  q : Fin 4 → Fin 2048 → Fin 8 → Fin 64 → ℝ
  k : Fin 4 → Fin 2048 → Fin 8 → Fin 64 → ℝ
  v : Fin 4 → Fin 2048 → Fin 8 → Fin 64 → ℝ
  c : Fin 4 → Fin 8 → Fin 2048 → ℝ
  y : Fin 4 → Fin 2048 → Fin 1024 → ℝ

/-- Column `d` of head `h` in the attention's half of the mixer's output. -/
def outCol (h : Fin 8) (d : Fin 64) : Fin 1024 := ⟨512 + (h.val * 64 + d.val), by have := h.isLt; have := d.isLt; omega⟩

/-- Sequence `b`'s head `h`. -/
def Args.head (A : Args) (b : Fin 4) (h : Fin 8) : Head where
  q r d := A.q b r h d
  k r d := A.k b r h d
  v r d := A.v b r h d
  g r d := A.y b r (outCol h d)
  c r := A.c b h r

/-- The five argument arrays hold these reals. -/
structure Args.In (A : Args) (x0 x1 x2 : (⟨4, ![4, 2048, 8, 64]⟩ : Shape).Idx → EReal) (x3 : (⟨3, ![4, 8, 2048]⟩ : Shape).Idx → EReal)
    (x4 : (⟨3, ![4, 2048, 1024]⟩ : Shape).Idx → EReal) : Prop where
  q : ∀ b r h d, x0 (ix4 b r h d) = ((A.q b r h d : ℝ) : EReal)
  k : ∀ b r h d, x1 (ix4 b r h d) = ((A.k b r h d : ℝ) : EReal)
  v : ∀ b r h d, x2 (ix4 b r h d) = ((A.v b r h d : ℝ) : EReal)
  c : ∀ b h r, x3 (ix3 b h r) = ((A.c b h r : ℝ) : EReal)
  y : ∀ b r l, x4 (ix3 b r l) = ((A.y b r l : ℝ) : EReal)

/-- A position at or before another, by their words. -/
theorem le_bit (r s : Fin 2048) :
    IntOp.cmpi .sle (BitVec.ofNat 32 s.val) (BitVec.ofNat 32 r.val) = if s.val ≤ r.val then 1#1 else 0#1 := by
  have hr := r.isLt; have hs := s.isLt
  have ti : ∀ n < 4096, (BitVec.ofNat 32 n).toInt = (n : ℤ) := fun n hn => by
    rw [BitVec.toInt_eq_toNat_of_lt]
    · simp only [BitVec.toNat_ofNat]; congr 1; exact Nat.mod_eq_of_lt (by omega)
    · simp only [BitVec.toNat_ofNat]; rw [Nat.mod_eq_of_lt (by omega)]; omega
  unfold IntOp.cmpi
  simp only [BitVec.sle, ti _ (show s.val < 4096 by omega), ti _ (show r.val < 4096 by omega)]
  by_cases h : s.val ≤ r.val
  · rw [if_pos h]; rw [decide_eq_true (by omega)]; rfl
  · rw [if_neg h]; rw [decide_eq_false (by omega)]; rfl

/-- The masked scores' literal. -/
theorem ninf_f32 : Ideal.ofBits .f32 0xFF800000#32 = ⊥ := by
  simp [Ideal.ofBits, Ideal.ieee]

theorem one_f32 : Ideal.ofBits .f32 0x3F800000#32 = ((1 : ℝ) : EReal) := by
  simp [Ideal.ofBits, Ideal.ieee, -EReal.coe_mul]; norm_num

/-- The maximum of a row that has a real and no `⊤` is a real. -/
theorem fold_max_real {n : ℕ} (f : Fin n → EReal) (h : ∀ k, f k ≠ ⊤) (k₀ : Fin n) (x : ℝ) (hx : f k₀ = (x : EReal)) :
    ∃ M : ℝ, (Finset.univ : Finset (Fin n)).fold max ⊥ f = (M : EReal) := by
  have h1 : (Finset.univ : Finset (Fin n)).fold max ⊥ f ≠ ⊤ := by
    have : (Finset.univ : Finset (Fin n)).fold max ⊥ f < ⊤ :=
      (Finset.fold_max_lt _).2 ⟨bot_lt_top, fun k _ => lt_top_iff_ne_top.2 (h k)⟩
    exact this.ne
  have h2 : (Finset.univ : Finset (Fin n)).fold max ⊥ f ≠ ⊥ := by
    have : (⊥ : EReal) < (Finset.univ : Finset (Fin n)).fold max ⊥ f :=
      (Finset.lt_fold_max _).2 (Or.inr ⟨k₀, Finset.mem_univ _, by rw [hx]; exact EReal.bot_lt_coe x⟩)
    exact this.ne'
  exact ⟨_, (EReal.coe_toReal h1 h2).symm⟩

/-- A masked row of scores: reals up to the query, `⊥` past it. -/
theorem masked_row (f : Fin 2048 → EReal) (r : Fin 2048) (X : Fin 2048 → ℝ)
    (h : ∀ s, f s = if s.val ≤ r.val then ((X s : ℝ) : EReal) else ⊥) :
    ∃ M : ℝ, (Finset.univ : Finset (Fin 2048)).fold max ⊥ f = (M : EReal) :=
  fold_max_real f (fun s => by rw [h s]; split; exact EReal.coe_ne_top _; exact bot_ne_top) r (X r) (by rw [h r, if_pos le_rfl])

/-- The host's row maximum, over the last axis of a rank-four array. -/
theorem host_max {n : ℕ} {u : Shape} (y : (⟨4, ![4, 8, n, n]⟩ : Shape).Idx → EReal) (init : u.Idx → EReal)
    (h' : (⟨4, ![4, 8, n, n]⟩ : Shape).ReducesTo [3] ⟨3, ![4, 8, n]⟩) (hr : (⟨4, ![4, 8, n, n]⟩ : Shape).Reduces [3] ⟨3, ![4, 8, n]⟩)
    (hu : 0 < u.numel) (hi : init (Shape.Idx.first hu) = ⊥) (b : Fin 4) (h : Fin 8) (r : Fin n) :
    Host.reduce (FloatOps.maximumf (F := Ideal) (φ := .f32)) y init h' hu (ix3 b h r)
      = (Finset.univ : Finset (Fin n)).fold max ⊥ (fun s => y (ix4 b h r s)) := by
  rw [Host.reduce_eq_fold_single _ y init h' hr hu (ix3 b h r), hi]
  refine congrArg (fun f => Finset.fold max ⊥ f Finset.univ) (funext fun s => congrArg y (funext fun a => Fin.ext ?_))
  match a with
  | ⟨0, _⟩ => rfl
  | ⟨1, _⟩ => rfl
  | ⟨2, _⟩ => rfl
  | ⟨3, _⟩ => rfl

/-- The exponential of a masked score less a real. -/
theorem exp_masked (p : Prop) [Decidable p] (x m : ℝ) :
    Ideal.exp ((if p then ((x : ℝ) : EReal) else ⊥) - (m : EReal)) = ((if p then Real.exp (x - m) else 0 : ℝ) : EReal) := by
  by_cases h : p
  · rw [if_pos h, if_pos h, ← EReal.coe_sub, Ideal.exp_coe]
  · rw [if_neg h, if_neg h, EReal.bot_sub]; rfl

end Cert.KernelIdeal.Fox

end
-- ==== Proof.RefValue.lean ====
/-
  The reference at the exact values: each gradient that it returns, read at an index, is the head's.
-/
module

public import proofs.«01_k».proof.Proof.Heads
public import proofs.«01_k».proof.Proof.Gen.ReferenceIdeal.Read

@[expose] public section

noncomputable section

namespace Cert.ReferenceIdeal.Fox

open Idealize.ShloMosaic
open Cert.ReferenceIdeal Cert.ReferenceIdeal.Gen Cert.ReferenceIdeal.Read
open Cert.KernelIdeal.Fox (Head Args coe_sum eighth_f32 select_if le_bit ninf_f32 one_f32 masked_row exp_masked outCol host_max)
open scoped BigOperators

variable {x0 x1 x2 : Vec Ideal S4x2048x8x64 .f32} {x3 : Vec Ideal S4x8x2048 .f32} {x4 : Vec Ideal S4x2048x1024 .f32} {A : Args}
  (hx : A.In x0 x1 x2 x3 x4) (b : Fin 4) (h : Fin 8)

include hx

theorem score_ref (r s : Fin 2048) :
    val_main_v10 (F := Ideal) x0 x1 x3 (ix4 b h r s)
      = (((A.head b h).score r s + ((A.head b h).c r - (A.head b h).c s) : ℝ) : EReal) := by
  pointwise [val_main_v10, val_main_v9, val_main_v8, val_main_v7, val_main_v6, val_main_v5, val_main_v4, val_main_v3, val_main_v2, val_main_cst]
  rw [eighth_f32]
  simp only [hx.q, hx.k, hx.c, ← EReal.coe_mul, coe_sum, ← EReal.coe_sub, ← EReal.coe_add]
  rfl

theorem masked_ref (r s : Fin 2048) :
    val_main_v18_0 (F := Ideal) x0 x1 x3 (ix4 b h r s)
      = if s.val ≤ r.val then (((A.head b h).score r s + ((A.head b h).c r - (A.head b h).c s) : ℝ) : EReal) else ⊥ := by
  pointwise [val_main_v18_0, val_main_v18_1, val_main_v17, val_main_v16, val_main_v15, val_main_v14, val_main_v13, val_main_v12, val_main_v11, val_main_call0_v0, val_main_call0_v2, val_main_cst_0]
  rw [le_bit, select_if, score_ref hx]
  refine congrArg _ ?_
  exact ninf_f32

theorem max_ref (r : Fin 2048) : ∃ M : ℝ, val_main_v26 (F := Ideal) x0 x1 x3 (ix3 b h r) = (M : EReal) := by
  obtain ⟨M, hM⟩ := masked_row (fun s => val_main_v18_0 (F := Ideal) x0 x1 x3 (ix4 b h r s)) r _ (masked_ref hx b h r)
  refine ⟨M, ?_⟩
  rw [val_main_v26_apply, val_main_v25_apply, val_main_cst_3_apply]
  have hv : val_main_v19 (F := Ideal) x0 x1 x3 (ix3 b h r) = (M : EReal) := by
    rw [← hM]
    unfold val_main_v19
    exact host_max _ _ reducesTo_S4x8x2048x2048_S4x8x2048_d3 (by decide) h_S_ ninf_f32 b h r
  rw [hv]
  show max (Ideal.ofBits .f32 0xFF800000#32) (M : EReal) = M
  rw [ninf_f32]; exact max_eq_right bot_le

/-- What the reference adds to a row's scores: the query's gate less the row's maximum. -/
def shift (r : Fin 2048) : ℝ := (A.head b h).c r - (max_ref hx b h r).choose

theorem exp_ref (r s : Fin 2048) :
    val_main_v39 (F := Ideal) x0 x1 x3 (ix4 b h r s) = (((A.head b h).shifted (shift hx b h r) r s : ℝ) : EReal) := by
  pointwise [val_main_v39, val_main_v38, val_main_v37, val_main_v36]
  rw [masked_ref hx, (max_ref hx b h r).choose_spec, exp_masked]
  refine congrArg _ ?_
  unfold Head.shifted shift
  split
  · refine congrArg _ ?_; ring
  · rfl

theorem total_ref (r : Fin 2048) :
    val_main_v41 (F := Ideal) x0 x1 x3 (ix4 b h r 0) = (((A.head b h).total (shift hx b h r) r : ℝ) : EReal) := by
  pointwise [val_main_v41, val_main_v40, val_main_cst_9]
  simp only [exp_ref hx, coe_sum]
  rfl

theorem prob_ref (r s : Fin 2048) : val_main_v43 (F := Ideal) x0 x1 x3 (ix4 b h r s) = (((A.head b h).prob r s : ℝ) : EReal) := by
  pointwise [val_main_v43, val_main_v42]
  rw [total_ref hx, exp_ref hx, Ideal.div_coe ((A.head b h).total_pos _ r).ne', ← EReal.coe_mul, Head.shifted_div]

theorem out_ref (s : Fin 2048) (d : Fin 64) : val_main_v1 (F := Ideal) x4 (ix4 b s h d) = (((A.head b h).g s d : ℝ) : EReal) := by
  pointwise [val_main_v1, val_main_v0]
  exact hx.y b s _

theorem gradP_ref (r s : Fin 2048) : val_main_v50 (F := Ideal) x2 x4 (ix4 b h r s) = (((A.head b h).gradP r s : ℝ) : EReal) := by
  pointwise [val_main_v50, val_main_v49]
  simp only [out_ref hx, hx.v, ← EReal.coe_mul, coe_sum]
  rfl

theorem gradV_ref (s : Fin 2048) (d : Fin 64) :
    val_main_v52 (F := Ideal) x0 x1 x3 x4 (ix4 b s h d) = (((A.head b h).gradV s d : ℝ) : EReal) := by
  pointwise [val_main_v52, val_main_v51, val_main_v49]
  simp only [out_ref hx, prob_ref hx, ← EReal.coe_mul, coe_sum]
  refine congrArg _ (Finset.sum_congr rfl fun r _ => mul_comm _ _)

theorem gradS_ref (r s : Fin 2048) :
    val_main_v65 (F := Ideal) x0 x1 x2 x3 x4 (ix4 b h r s) = (((A.head b h).gradS r s : ℝ) : EReal) := by
  have h64 : val_main_v64 (F := Ideal) x0 x1 x2 x3 x4 (ix4 b h r s) = (((A.head b h).gradS r s : ℝ) : EReal) := by
    pointwise [val_main_v64, val_main_v63, val_main_v62, val_main_v61, val_main_v60, val_main_v59, val_main_v58, val_main_v57, val_main_v56, val_main_v55, val_main_v54, val_main_v53, val_main_v46, val_main_v45, val_main_v44, val_main_cst_10, val_main_cst_11, val_main_cst_12]
    have hl := ((A.head b h).total_pos (shift hx b h r) r).ne'
    rw [show (1 : EReal) = ((1 : ℝ) : EReal) from rfl]
    simp only [total_ref hx, gradP_ref hx, exp_ref hx, ← EReal.coe_mul, Ideal.div_coe hl, Ideal.div_coe (mul_ne_zero hl hl), coe_sum,
      ← EReal.coe_neg, ← EReal.coe_add]
    rw [← (A.head b h).quotient_grad (shift hx b h r) r s]
    refine congrArg _ (congrArg (· * _) (congrArg _ ?_))
    exact Fin.sum_univ_one _
  pointwise [val_main_v65, val_main_call1_v0, val_main_call1_cst]
  have hm : val_main_v18_1 (F := Ideal) (ix4 b h r s) = if s.val ≤ r.val then 1#1 else 0#1 := by
    pointwise [val_main_v18_1, val_main_v17, val_main_v16, val_main_v15, val_main_v14, val_main_v13, val_main_v12, val_main_v11]
    exact le_bit r s
  rw [hm, select_if, h64]
  by_cases hs : s.val ≤ r.val
  · rw [if_pos hs]
  · rw [if_neg hs, (A.head b h).gradS_late r s hs]; rfl

theorem gradC_ref (s : Fin 2048) :
    val_main_v73 (F := Ideal) x0 x1 x2 x3 x4 (ix3 b h s) = (((A.head b h).gradC s : ℝ) : EReal) := by
  pointwise [val_main_v73, val_main_v72, val_main_v71, val_main_v70, val_main_v69, val_main_v68, val_main_v67, val_main_v66, val_main_cst_13, val_main_cst_14, val_main_cst_15, val_main_cst_16]
  simp only [gradS_ref hx, ← EReal.coe_neg, coe_sum, ← EReal.coe_add]
  refine congrArg _ ?_
  unfold Head.gradC
  simp only [Fin.sum_univ_one, Head.sum_gradS, add_zero, Finset.sum_neg_distrib]

theorem gradQ_ref (r : Fin 2048) (d : Fin 64) :
    val_main_v79 (F := Ideal) x0 x1 x2 x3 x4 (ix4 b r h d) = (((A.head b h).gradQ r d : ℝ) : EReal) := by
  pointwise [val_main_v79, val_main_v78, val_main_v75, val_main_v74, val_main_cst_17]
  rw [eighth_f32]
  simp only [gradS_ref hx, hx.k, ← EReal.coe_mul, coe_sum]
  refine congrArg _ ?_
  unfold Head.gradQ
  rw [Finset.sum_mul]
  exact Finset.sum_congr rfl fun s _ => mul_right_comm _ _ _

theorem gradK_ref (s : Fin 2048) (d : Fin 64) :
    val_main_v77 (F := Ideal) x0 x1 x2 x3 x4 (ix4 b s h d) = (((A.head b h).gradK s d : ℝ) : EReal) := by
  pointwise [val_main_v77, val_main_v76, val_main_v75, val_main_v74, val_main_cst_17]
  rw [eighth_f32]
  simp only [gradS_ref hx, hx.q, ← EReal.coe_mul, coe_sum]
  refine congrArg _ ?_
  unfold Head.gradK
  rw [Finset.sum_mul]
  exact Finset.sum_congr rfl fun r _ => mul_right_comm _ _ _

end Cert.ReferenceIdeal.Fox

end
-- ==== Proof.RefPacked.lean ====
/-
  The reference's two results at the exact values, read at an index: the gradients packed by pairs of heads, and the
  gates' gradient.
-/
module

public import proofs.«01_k».proof.Proof.RefValue

@[expose] public section

noncomputable section

namespace Cert.KernelIdeal.Fox

/-- Sequence `b`'s token `s`. -/
def tok (b : Fin 4) (s : Fin 2048) : Fin 8192 := ⟨2048 * b.val + s.val, by have := b.isLt; have := s.isLt; omega⟩

/-- The head that lane `l` of pair `p` belongs to. -/
def laneHead (p : Fin 4) (l : Fin 128) : Fin 8 := ⟨2 * p.val + l.val / 64, by have := p.isLt; have := l.isLt; omega⟩

/-- The lane's column within its head. -/
def laneCol (l : Fin 128) : Fin 64 := ⟨l.val % 64, Nat.mod_lt _ (by decide)⟩

/-- Lane `l` of array `w` (queries, keys, values) of pair `p`, in the packed gradient's right half. -/
def packCol (p : Fin 4) (w : Fin 3) (l : Fin 128) : Fin 3072 :=
  ⟨1536 + (384 * p.val + 128 * w.val + l.val), by have := p.isLt; have := w.isLt; have := l.isLt; omega⟩

end Cert.KernelIdeal.Fox

namespace Cert.ReferenceIdeal.Fox

open Idealize.ShloMosaic
open Cert.ReferenceIdeal Cert.ReferenceIdeal.Gen Cert.ReferenceIdeal.Read
open Cert.KernelIdeal.Fox (Head Args outCol tok laneHead laneCol packCol)
open scoped BigOperators

variable {x0 x1 x2 : Vec Ideal S4x2048x8x64 .f32} {x3 : Vec Ideal S4x8x2048 .f32} {x4 : Vec Ideal S4x2048x1024 .f32} {A : Args}
  (hx : A.In x0 x1 x2 x3 x4) (x5 : Vec Ideal S8192x3072 .f32)

/-- A pair's row of a reshaped gradient is its two heads' rows. -/
theorem pair_idx (b : Fin 4) (s : Fin 2048) (p : Fin 4) (l : Fin 128) :
    idx_main_v80 (ix3 (tok b s) p l) = ix4 b s (laneHead p l) (laneCol l) := by
  have hb := b.isLt; have hs := s.isLt; have hp := p.isLt; have hl := l.isLt
  funext a
  refine Fin.ext ?_
  match a with
  | ⟨0, _⟩ => show (((2048 * b.val + s.val) * 4 + p.val) * 128 + l.val) / 1048576 = b.val; omega
  | ⟨1, _⟩ => show (((2048 * b.val + s.val) * 4 + p.val) * 128 + l.val) / 512 % 2048 = s.val; omega
  | ⟨2, _⟩ => show (((2048 * b.val + s.val) * 4 + p.val) * 128 + l.val) / 64 % 8 = 2 * p.val + l.val / 64; omega
  | ⟨3, _⟩ => show (((2048 * b.val + s.val) * 4 + p.val) * 128 + l.val) % 64 = l.val % 64; omega

/-- A column of the packed half is a lane of one of a pair's three arrays. -/
theorem pack_idx (R : Fin 8192) (p : Fin 4) (w : Fin 3) (l : Fin 128) (c : Fin 1536) (hc : c.val = 384 * p.val + 128 * w.val + l.val) :
    idx_main_v88 (ix2 R c) = ix4 R p w l := by
  have hR := R.isLt; have hp := p.isLt; have hw := w.isLt; have hl := l.isLt
  funext a
  refine Fin.ext ?_
  match a with
  | ⟨0, _⟩ => show (R.val * 1536 + c.val) / 1536 = R.val; omega
  | ⟨1, _⟩ => show (R.val * 1536 + c.val) / 384 % 4 = p.val; omega
  | ⟨2, _⟩ => show (R.val * 1536 + c.val) / 128 % 3 = w.val; omega
  | ⟨3, _⟩ => show (R.val * 1536 + c.val) % 128 = l.val; omega

/-- The packed half of the first result. -/
theorem right_half (R : Fin 8192) (p : Fin 4) (w : Fin 3) (l : Fin 128) :
    val_main_v90 (F := Ideal) x0 x1 x2 x3 x4 x5 (ix2 R (packCol p w l)) = val_main_v86 (F := Ideal) x0 x1 x2 x3 x4 (ix4 R p w l) := by
  have hp := p.isLt; have hw := w.isLt; have hl := l.isLt
  pointwise [val_main_v90, val_main_v89]
  rw [dif_neg (by show ¬(1536 + (384 * p.val + 128 * w.val + l.val) < 1536); omega)]
  rw [val_main_v88_apply, pack_idx R p w l _ (by show 1536 + (384 * p.val + 128 * w.val + l.val) - 1536 = _; omega)]

/-- The left half is the gradient handed in. -/
theorem left_half (R : Fin 8192) (c : Fin 3072) (hc : c.val < 1536) :
    val_main_v90 (F := Ideal) x0 x1 x2 x3 x4 x5 (ix2 R c) = x5 (ix2 R c) := by
  pointwise [val_main_v90, val_main_v89]
  rw [dif_pos hc, val_main_v87_apply]
  refine congrArg x5 (funext fun a => Fin.ext ?_)
  match a with
  | ⟨0, _⟩ => rfl
  | ⟨1, _⟩ => rfl

include hx

theorem packedQ_ref (b : Fin 4) (s : Fin 2048) (p : Fin 4) (l : Fin 128) :
    val_main_v90 (F := Ideal) x0 x1 x2 x3 x4 x5 (ix2 (tok b s) (packCol p 0 l))
      = (((A.head b (laneHead p l)).gradQ s (laneCol l) : ℝ) : EReal) := by
  rw [right_half, ← gradQ_ref hx]
  pointwise [val_main_v86, val_main_v83]
  rw [val_main_v80_apply, pair_idx]

theorem packedK_ref (b : Fin 4) (s : Fin 2048) (p : Fin 4) (l : Fin 128) :
    val_main_v90 (F := Ideal) x0 x1 x2 x3 x4 x5 (ix2 (tok b s) (packCol p 1 l))
      = (((A.head b (laneHead p l)).gradK s (laneCol l) : ℝ) : EReal) := by
  rw [right_half, ← gradK_ref hx]
  pointwise [val_main_v86, val_main_v84]
  rw [val_main_v81_apply]
  exact congrArg _ (pair_idx b s p l)

theorem packedV_ref (b : Fin 4) (s : Fin 2048) (p : Fin 4) (l : Fin 128) :
    val_main_v90 (F := Ideal) x0 x1 x2 x3 x4 x5 (ix2 (tok b s) (packCol p 2 l))
      = (((A.head b (laneHead p l)).gradV s (laneCol l) : ℝ) : EReal) := by
  rw [right_half, ← gradV_ref hx]
  pointwise [val_main_v86, val_main_v85]
  rw [val_main_v82_apply]
  exact congrArg _ (pair_idx b s p l)

theorem gates_ref (b p : Fin 4) (e : Fin 2) (s : Fin 2048) (h : Fin 8) (hh : h.val = 2 * p.val + e.val) :
    val_main_v91 (F := Ideal) x0 x1 x2 x3 x4 (ix4 b p e s) = (((A.head b h).gradC s : ℝ) : EReal) := by
  rw [← gradC_ref hx]
  pointwise [val_main_v91]
  refine congrArg _ (congrArg (fun h => ix3 b h s) (Fin.ext ?_))
  show p.val * 2 + e.val = h.val
  omega

end Cert.ReferenceIdeal.Fox

end
-- ==== Proof.HeadSweep.lean ====
/-
  A pair's sweep in terms of its two heads: when the seven blocks hold the heads' numbers side by side, the sweep's sums
  are the heads' gradients.
-/
module

public import proofs.«01_k».proof.Proof.SweepReal
public import proofs.«01_k».proof.Proof.RefPacked

@[expose] public section

noncomputable section

namespace Cert.KernelIdeal.Fox

open Idealize.ShloMosaic
open Cert.KernelIdeal.Gen
open scoped BigOperators

/-- Head `e` of pair `p`, -/
def headOf (p : Fin 4) (e : Fin 2) : Fin 8 := ⟨2 * p.val + e.val, by have := p.isLt; have := e.isLt; omega⟩

/-- and its lane for column `d`. -/
def headLane (e : Fin 2) (d : Fin 64) : Fin 128 := ⟨64 * e.val + d.val, by have := e.isLt; have := d.isLt; omega⟩

theorem laneHead_headLane (p : Fin 4) (e : Fin 2) (d : Fin 64) : laneHead p (headLane e d) = headOf p e :=
  Fin.ext (by have := d.isLt; show 2 * p.val + (64 * e.val + d.val) / 64 = 2 * p.val + e.val; omega)

theorem laneCol_headLane (e : Fin 2) (d : Fin 64) : laneCol (headLane e d) = d :=
  Fin.ext (by have := d.isLt; show (64 * e.val + d.val) % 64 = d.val; omega)

theorem laneHead_of (p : Fin 4) (e : Fin 2) (l : Fin 128) (h : l.val / 64 = e.val) : laneHead p l = headOf p e :=
  Fin.ext (by show 2 * p.val + l.val / 64 = 2 * p.val + e.val; rw [h])

/-- A sum over one head's lanes is the sum over its columns. -/
theorem sum_lanes (e : Fin 2) (f : Fin 128 → ℝ) : ∑ l, (if l.val / 64 = e.val then f l else 0) = ∑ d, f (headLane e d) := by
  rw [Fin.sum_univ_tiles 2 64 (by decide)]
  rw [Finset.sum_eq_single e]
  · refine Finset.sum_congr rfl fun d _ => ?_
    have hd := d.isLt
    refine (if_pos ?_).trans (congrArg f (Fin.ext ?_))
    · show (e.val * 64 + d.val) / 64 = e.val; omega
    · show e.val * 64 + d.val = 64 * e.val + d.val; omega
  · intro i _ hi
    refine Finset.sum_eq_zero fun d _ => if_neg ?_
    have hd := d.isLt
    show ¬(i.val * 64 + d.val) / 64 = e.val
    intro h
    exact hi (Fin.ext (by omega))
  · intro h; exact absurd (Finset.mem_univ e) h

section
variable (H : Fin 8 → Head) (a : Fin 8 → Fin 2048 → ℝ) (g : grid0.Coords) (p j : Fin 4)

/-- The pair's queries, -/
def pQ (R : Fin 2048) (l : Fin 128) : ℝ := (H (laneHead p l)).q R (laneCol l)
/-- key block, -/
def pK (s : Fin 512) (l : Fin 128) : ℝ := (H (laneHead p l)).k (row j s) (laneCol l)
/-- value block, -/
def pV (s : Fin 512) (l : Fin 128) : ℝ := (H (laneHead p l)).v (row j s) (laneCol l)
/-- mixed values, -/
def pO (R : Fin 2048) (l : Fin 128) : ℝ := (H (laneHead p l)).mixed R (laneCol l)
/-- output gradients, -/
def pD (R : Fin 2048) (l : Fin 128) : ℝ := (H (laneHead p l)).g R (laneCol l)
/-- and log-sums. -/
def pL (R : Fin 2048) (l : Fin 128) : ℝ := -a (laneHead p l) R + Real.log ((H (laneHead p l)).total (a (laneHead p l) R) R)
/-- All the heads' gates. -/
def pC (h : Fin 8) (s : Fin 2048) : ℝ := (H h).c s

variable {p}

theorem dot_onH (e : Fin 2) (X Y : Fin 128 → ℝ) :
    ∑ l, X l * (if l.val / 64 = e.val then Y l else 0) = ∑ d, X (headLane e d) * Y (headLane e d) := by
  rw [← sum_lanes e fun l => X l * Y l]
  refine Finset.sum_congr rfl fun l _ => ?_
  split <;> simp

theorem dot_onH' (e : Fin 2) (X Y : Fin 128 → ℝ) :
    ∑ l, (if l.val / 64 = e.val then X l else 0) * Y l = ∑ d, X (headLane e d) * Y (headLane e d) := by
  rw [← sum_lanes e fun l => X l * Y l]
  refine Finset.sum_congr rfl fun l _ => ?_
  split <;> simp

variable (hg : (g 1).val = p.val)
include hg

theorem cRow_head (e : Fin 2) : (⟨cRow g e, cRow_le g e⟩ : Fin 8) = headOf p e :=
  Fin.ext (by show cRow g e = 2 * p.val + e.val; rw [cRow_eq, hg])

theorem pG_head (e : Fin 2) (R : Fin 2048) (s : Fin 512) :
    pG g j (pQ H p) (pK H p j) (pL H a p) (pC H) e R s = (H (headOf p e)).prob R (row j s) := by
  rw [← (H (headOf p e)).exp_sub_log (a (headOf p e) R) R (row j s)]
  unfold pG
  have e1 : ∑ l, pQ H p R l * (1 / 8) * onH e (pK H p j) s l = (H (headOf p e)).score R (row j s) := by
    unfold onH Head.score
    rw [dot_onH e (fun l => pQ H p R l * (1 / 8)) (fun l => pK H p j s l), Finset.sum_mul]
    refine Finset.sum_congr rfl fun d _ => ?_
    unfold pQ pK
    rw [laneHead_headLane, laneCol_headLane]
    ring
  have e2 : pL H a p R ⟨64 * e.val, lane_le e⟩ = -a (headOf p e) R + Real.log ((H (headOf p e)).total (a (headOf p e) R) R) := by
    unfold pL
    rw [laneHead_of p e _ (by show 64 * e.val / 64 = e.val; omega)]
  rw [e1, e2, cRow_head g hg]
  rfl

theorem sG_head (e : Fin 2) (R : Fin 2048) (s : Fin 512) :
    sG g j (pQ H p) (pK H p j) (pV H p j) (pO H p) (pD H p) (pL H a p) (pC H) e R s = (H (headOf p e)).gradS R (row j s) := by
  unfold sG Head.gradS
  rw [pG_head H a g j hg]
  refine congrArg _ (congrArg₂ _ ?_ ?_)
  · unfold onH Head.gradP
    rw [dot_onH' e (fun l => pD H p R l) (fun l => pV H p j s l)]
    refine Finset.sum_congr rfl fun d _ => ?_
    unfold pD pV
    rw [laneHead_headLane, laneCol_headLane]
  · unfold onH
    rw [dot_onH' e (fun l => pD H p R l) (fun l => pO H p R l), ← Head.sum_mixed]
    refine Finset.sum_congr rfl fun d _ => ?_
    unfold pD pO
    rw [laneHead_headLane, laneCol_headLane]

theorem gradK_head (e : Fin 2) (s : Fin 512) (l : Fin 128) (he : l.val / 64 = e.val) :
    ∑ R, sG g j (pQ H p) (pK H p j) (pV H p j) (pO H p) (pD H p) (pL H a p) (pC H) e R s * (pQ H p R l * (1 / 8))
      = (H (laneHead p l)).gradK (row j s) (laneCol l) := by
  unfold Head.gradK
  rw [Finset.sum_mul]
  refine Finset.sum_congr rfl fun R _ => ?_
  rw [sG_head H a g j hg, laneHead_of p e l he]
  unfold pQ
  rw [laneHead_of p e l he]
  ring

theorem gradV_head (s : Fin 512) (l : Fin 128) :
    ∑ R, pG g j (pQ H p) (pK H p j) (pL H a p) (pC H) 0 R s * onH 0 (pD H p) R l
      + ∑ R, pG g j (pQ H p) (pK H p j) (pL H a p) (pC H) 1 R s * onH 1 (pD H p) R l
      = (H (laneHead p l)).gradV (row j s) (laneCol l) := by
  unfold Head.gradV
  rw [← Finset.sum_add_distrib]
  refine Finset.sum_congr rfl fun R _ => ?_
  rw [pG_head H a g j hg, pG_head H a g j hg]
  unfold onH pD
  have hl := l.isLt
  rcases (by omega : l.val / 64 = 0 ∨ l.val / 64 = 1) with h | h
  · rw [if_pos (by rw [h]; rfl), if_neg (by rw [h]; decide), mul_zero, add_zero, laneHead_of p 0 l h]
  · rw [if_neg (by rw [h]; decide), if_pos (by rw [h]; rfl), mul_zero, zero_add, laneHead_of p 1 l h]

theorem gradC_head (e : Fin 2) (s : Fin 512) :
    -∑ R, sG g j (pQ H p) (pK H p j) (pV H p j) (pO H p) (pD H p) (pL H a p) (pC H) e R s = (H (headOf p e)).gradC (row j s) := by
  unfold Head.gradC
  exact congrArg _ (Finset.sum_congr rfl fun R _ => sG_head H a g j hg e R s)

omit hg in
variable (p) in
/-- Key block `j`'s share of the gradient of q. -/
def share (R : Fin 2048) (l : Fin 128) : ℝ := (∑ s, (H (laneHead p l)).gradS R (row j s) * (H (laneHead p l)).k (row j s) (laneCol l)) * (1 / 8)

omit hg in
theorem share_early (i : Fin 4) (h : i < j) (r : Fin 512) (l : Fin 128) : share H p j (row i r) l = 0 := by
  unfold share
  rw [Finset.sum_eq_zero fun s _ => ?_, zero_mul]
  rw [Head.gradS_late _ _ _ ?_, zero_mul]
  show ¬(512 * j.val + s.val ≤ 512 * i.val + r.val)
  have := r.isLt; have h' : i.val < j.val := h; omega

omit hg in
theorem sum_share (R : Fin 2048) (l : Fin 128) : ∑ j, share H p j R l = (H (laneHead p l)).gradQ R (laneCol l) := by
  unfold share Head.gradQ
  rw [← Finset.sum_mul, sum_rows]

theorem share_head (R : Fin 2048) (l : Fin 128) :
    ((∑ s, sG g j (pQ H p) (pK H p j) (pV H p j) (pO H p) (pD H p) (pL H a p) (pC H) 0 R s * onH 0 (pK H p j) s l)
      + ∑ s, sG g j (pQ H p) (pK H p j) (pV H p j) (pO H p) (pD H p) (pL H a p) (pC H) 1 R s * onH 1 (pK H p j) s l) * (1 / 8)
      = share H p j R l := by
  unfold share
  rw [← Finset.sum_add_distrib]
  refine congrArg (· * (1 / 8 : ℝ)) (Finset.sum_congr rfl fun s _ => ?_)
  rw [sG_head H a g j hg, sG_head H a g j hg]
  unfold onH pK
  have hl := l.isLt
  rcases (by omega : l.val / 64 = 0 ∨ l.val / 64 = 1) with h | h
  · rw [if_pos (by rw [h]; rfl), if_neg (by rw [h]; decide), mul_zero, add_zero, laneHead_of p 0 l h]
  · rw [if_neg (by rw [h]; decide), if_pos (by rw [h]; rfl), mul_zero, zero_add, laneHead_of p 1 l h]

end

end Cert.KernelIdeal.Fox

end
-- ==== Proof.Stores.lean ====
/-
  Reading a scratch or a block after the body's stores: each store fills 512 rows (of some columns), and an element is
  the last store's that holds it.
-/
module

public import proofs.«01_k».proof.Proof.SweepReal
public import Idealize.ShloMosaic.Lib.WritesUnit

@[expose] public section

noncomputable section

namespace Cert.KernelIdeal.Fox

open Idealize.ShloMosaic
open Cert.KernelIdeal.Gen

section
variable {sig' : RefSig} {sp : Space} (v : View sig' .tc sp S2048x128 .f32) (f : v.ty.Contents (Elt Ideal))

/-- After a store of 512 rows: those rows are the store's, the others as before. -/
theorem read_rows (k : Fin 4) (o : ℕ) (ho : o = 512 * k.val) (h : o + 512 ≤ 2048) (w : (rowsR o h).shape.Idx → Elt Ideal .f32)
    (L : List (View.Piece (Elt Ideal) S2048x128 .f32)) (i : Fin 4) (r : Fin 512) (l : Fin 128) :
    v.read (Elt Ideal) (v.writes (Elt Ideal) f (⟨rowsR o h, w⟩ :: L)) (ix2 (row i r) l)
      = if i = k then w (ix2 r l) else v.read (Elt Ideal) (v.writes (Elt Ideal) f L) (ix2 (row i r) l) := by
  subst ho
  split
  · rename_i e; subst e
    exact View.read_writes_cons_unit_of_mem v f _ w L (ix2 (row i r) l) (ix2 r l) rfl
      (Fin.forall_fin_two.mpr ⟨rfl, (Nat.zero_add _).symm⟩)
  · rename_i e
    refine View.read_writes_cons_unit_of_not_mem v f _ w L (ix2 (row i r) l) rfl (0 : Fin 2) ?_
    show 512 * i.val + r.val < 512 * k.val ∨ 512 * k.val + 512 ≤ 512 * i.val + r.val
    have := r.isLt
    have : i.val ≠ k.val := fun h => e (Fin.ext h)
    omega

/-- After a store of everything. -/
theorem read_all (h) (w : (Rect.unit ![0, 0] S2048x128.size h : Rect S2048x128).shape.Idx → Elt Ideal .f32)
    (L : List (View.Piece (Elt Ideal) S2048x128 .f32)) (R : Fin 2048) (l : Fin 128) :
    v.read (Elt Ideal) (v.writes (Elt Ideal) f (⟨Rect.unit ![0, 0] S2048x128.size h, w⟩ :: L)) (ix2 R l) = w (ix2 R l) := by
  exact View.read_writes_cons_unit_of_mem v f _ w L (ix2 R l) (ix2 R l) rfl
    (Fin.forall_fin_two.mpr ⟨(Nat.zero_add _).symm, (Nat.zero_add _).symm⟩)

/-- A load of 512 rows after stores. -/
theorem load_rows (k : Fin 4) (o : ℕ) (ho : o = 512 * k.val) (h : o + 512 ≤ 2048)
    (L : List (View.Piece (Elt Ideal) S2048x128 .f32)) (r : Fin 512) (l : Fin 128) :
    v.readCov L (rowsR o h).toLoadRect (ix2 r l) = v.read (Elt Ideal) (v.writes (Elt Ideal) v.junk L) (ix2 (row k r) l) := by
  subst ho
  refine congrArg (v.read (Elt Ideal) (v.writes (Elt Ideal) v.junk L)) ?_
  funext a
  match a with
  | ⟨0, _⟩ => exact Fin.ext (by show 512 * k.val + 1 * r.val = 512 * k.val + r.val; omega)
  | ⟨1, _⟩ => exact Fin.ext (by show 0 + 1 * l.val = l.val; omega)

end

section
variable {sig' : RefSig} {sp : Space} (v : View sig' .tc sp S2048x384 .bf16) (f : v.ty.Contents (Elt Ideal))

/-- Lane `l` of part `w` of the block of dz: 0 the gradient of q, 1 of k, 2 of v. -/
def part (w : Fin 3) (l : Fin 128) : Fin 384 := ⟨128 * w.val + l.val, by have := w.isLt; have := l.isLt; omega⟩

/-- After a store of 512 rows of a part. -/
theorem read_part (k : Fin 4) (w : Fin 3) (o p : ℕ) (ho : o = 512 * k.val) (hp : p = 128 * w.val) (h)
    (x : (Rect.unit ![o, p] S512x128.size h : Rect S2048x384).shape.Idx → Elt Ideal .bf16)
    (L : List (View.Piece (Elt Ideal) S2048x384 .bf16)) (i : Fin 4) (w' : Fin 3) (r : Fin 512) (l : Fin 128) :
    v.read (Elt Ideal) (v.writes (Elt Ideal) f (⟨Rect.unit ![o, p] S512x128.size h, x⟩ :: L)) (ix2 (row i r) (part w' l))
      = if i = k ∧ w' = w then x (ix2 r l) else v.read (Elt Ideal) (v.writes (Elt Ideal) f L) (ix2 (row i r) (part w' l)) := by
  subst ho; subst hp
  split
  · rename_i e; obtain ⟨rfl, rfl⟩ := e
    exact View.read_writes_cons_unit_of_mem v f _ x L (ix2 (row i r) (part w' l)) (ix2 r l) rfl (Fin.forall_fin_two.mpr ⟨rfl, rfl⟩)
  · rename_i e
    have hr := r.isLt; have hl := l.isLt
    by_cases hi : i = k
    · refine View.read_writes_cons_unit_of_not_mem v f _ x L (ix2 (row i r) (part w' l)) rfl (1 : Fin 2) ?_
      show 128 * w'.val + l.val < 128 * w.val ∨ 128 * w.val + 128 ≤ 128 * w'.val + l.val
      have : w'.val ≠ w.val := fun h => e ⟨hi, Fin.ext h⟩
      omega
    · refine View.read_writes_cons_unit_of_not_mem v f _ x L (ix2 (row i r) (part w' l)) rfl (0 : Fin 2) ?_
      show 512 * i.val + r.val < 512 * k.val ∨ 512 * k.val + 512 ≤ 512 * i.val + r.val
      have : i.val ≠ k.val := fun h => hi (Fin.ext h)
      omega

/-- After a store of all the rows of the first part. -/
theorem read_first (h) (x : (Rect.unit ![0, 0] S2048x128.size h : Rect S2048x384).shape.Idx → Elt Ideal .bf16)
    (L : List (View.Piece (Elt Ideal) S2048x384 .bf16)) (R : Fin 2048) (w' : Fin 3) (l : Fin 128) :
    v.read (Elt Ideal) (v.writes (Elt Ideal) f (⟨Rect.unit ![0, 0] S2048x128.size h, x⟩ :: L)) (ix2 R (part w' l))
      = if w' = 0 then x (ix2 R l) else v.read (Elt Ideal) (v.writes (Elt Ideal) f L) (ix2 R (part w' l)) := by
  split
  · rename_i e; subst e
    exact View.read_writes_cons_unit_of_mem v f _ x L (ix2 R (part 0 l)) (ix2 R l) rfl
      (Fin.forall_fin_two.mpr ⟨(Nat.zero_add _).symm, rfl⟩)
  · rename_i e
    refine View.read_writes_cons_unit_of_not_mem v f _ x L (ix2 R (part w' l)) rfl (1 : Fin 2) ?_
    show 128 * w'.val + l.val < 0 ∨ 0 + 128 ≤ 128 * w'.val + l.val
    have : w'.val ≠ 0 := fun h => e (Fin.ext h)
    omega

end

/-- The two rows of the gradient of c. -/
theorem canon_pair (h1 h0) (x1 : (Rect.unit ![0, 0, 1, 0] S1x1x1x512.size h1 : Rect S1x1x2x512).shape.Idx → Elt Ideal .f32)
    (x0 : (Rect.unit ![0, 0, 0, 0] S1x1x1x512.size h0 : Rect S1x1x2x512).shape.Idx → Elt Ideal .f32) (e : Fin 2) (s : Fin 512) :
    View.canon ([⟨Rect.unit ![0, 0, 1, 0] S1x1x1x512.size h1, x1⟩, ⟨Rect.unit ![0, 0, 0, 0] S1x1x1x512.size h0, x0⟩] : List (View.Piece (Elt Ideal) S1x1x2x512 .f32)) (ix4 0 0 e s)
      = if e = 1 then x1 (ix4 0 0 0 s) else x0 (ix4 0 0 0 s) := by
  by_cases he : e = 1
  · subst he
    have e1 : (ix4 0 0 1 s : S1x1x2x512.Idx) = (Rect.unit ![0, 0, 1, 0] S1x1x1x512.size h1 : Rect S1x1x2x512).emb (ix4 0 0 0 s) := by
      funext a
      match a with
      | ⟨0, _⟩ => rfl
      | ⟨1, _⟩ => rfl
      | ⟨2, _⟩ => rfl
      | ⟨3, _⟩ => exact Fin.ext (by show s.val = 0 + 1 * s.val; omega)
    rw [if_pos rfl, e1]
    exact View.canon_cons_emb _ x1 _ (ix4 0 0 0 s)
  · have he0 : e = 0 := by omega
    subst he0
    have e1 : (ix4 0 0 0 s : S1x1x2x512.Idx) = (Rect.unit ![0, 0, 0, 0] S1x1x1x512.size h0 : Rect S1x1x2x512).emb (ix4 0 0 0 s) := by
      funext a
      match a with
      | ⟨0, _⟩ => rfl
      | ⟨1, _⟩ => rfl
      | ⟨2, _⟩ => rfl
      | ⟨3, _⟩ => exact Fin.ext (by show s.val = 0 + 1 * s.val; omega)
    rw [if_neg he, View.canon_cons_of_not_mem]
    · rw [e1]
      exact View.canon_cons_emb _ x0 _ (ix4 0 0 0 s)
    · intro hm
      dsimp only at hm
      rw [Rect.mem_set_unit] at hm
      exact absurd (hm 2).1 (by show ¬(1 ≤ 0); omega)

end Cert.KernelIdeal.Fox

end
-- ==== Proof.PiecesA.lean ====
/-
  The pieces the body's stores leave at key block 0, as the sweep's vectors.
-/
module

public import proofs.«01_k».proof.Proof.Sweep
public import proofs.«01_k».proof.Proof.Runs

@[expose] public section

set_option maxRecDepth 16384

noncomputable section

namespace Cert.KernelIdeal.Fox

open Idealize.ShloMosaic Idealize.ShloMosaic.TcCoe Idealize.ShloMosaic.Tactic
open Cert.KernelIdeal.Gen

variable {F : FTy → Type} [FloatOps F] [Named F]

/-- The scratch's pieces after it is zeroed, -/
def scrA0 : List (View.Piece (Elt F) S2048x128 .f32) := [⟨Rect.unit ![0, 0] S2048x128.size inb_S2048x128_S2048x128_0_0, k0_pay284⟩]

/-- and after query block 0's step at key block 0. -/
def scrA1 (g : grid0.Coords) (v : View sig .tc .vmem S2048x128 .f32) (x0 : Vec F S2048x128 .bf16) (x1 x2 : Vec F S512x128 .bf16) (x3 : Vec F S2048x128 .f32) (x4 : Vec F S2048x128 .bf16)
    (x5 : Vec F S2048x128 .f32) (x6 : Vec F S1x8x2048 .f32) : List (View.Piece (Elt F) S2048x128 .f32) :=
  ⟨rowsR 0 (by decide), moreQ (v.readCov (scrA0) (rowsR 0 (by decide)).toLoadRect) (gQ g 0 x0 x1 x2 x3 x4 x5 x6 0)⟩ :: scrA0

/-- and after query block 1's step at key block 0. -/
def scrA2 (g : grid0.Coords) (v : View sig .tc .vmem S2048x128 .f32) (x0 : Vec F S2048x128 .bf16) (x1 x2 : Vec F S512x128 .bf16) (x3 : Vec F S2048x128 .f32) (x4 : Vec F S2048x128 .bf16)
    (x5 : Vec F S2048x128 .f32) (x6 : Vec F S1x8x2048 .f32) : List (View.Piece (Elt F) S2048x128 .f32) :=
  ⟨rowsR 512 (by decide), moreQ (v.readCov (scrA1 g v x0 x1 x2 x3 x4 x5 x6) (rowsR 512 (by decide)).toLoadRect) (gQ g 0 x0 x1 x2 x3 x4 x5 x6 1)⟩ :: scrA1 g v x0 x1 x2 x3 x4 x5 x6

/-- and after query block 2's step at key block 0. -/
def scrA3 (g : grid0.Coords) (v : View sig .tc .vmem S2048x128 .f32) (x0 : Vec F S2048x128 .bf16) (x1 x2 : Vec F S512x128 .bf16) (x3 : Vec F S2048x128 .f32) (x4 : Vec F S2048x128 .bf16)
    (x5 : Vec F S2048x128 .f32) (x6 : Vec F S1x8x2048 .f32) : List (View.Piece (Elt F) S2048x128 .f32) :=
  ⟨rowsR 1024 (by decide), moreQ (v.readCov (scrA2 g v x0 x1 x2 x3 x4 x5 x6) (rowsR 1024 (by decide)).toLoadRect) (gQ g 0 x0 x1 x2 x3 x4 x5 x6 2)⟩ :: scrA2 g v x0 x1 x2 x3 x4 x5 x6

/-- and after query block 3's step at key block 0. -/
def scrA4 (g : grid0.Coords) (v : View sig .tc .vmem S2048x128 .f32) (x0 : Vec F S2048x128 .bf16) (x1 x2 : Vec F S512x128 .bf16) (x3 : Vec F S2048x128 .f32) (x4 : Vec F S2048x128 .bf16)
    (x5 : Vec F S2048x128 .f32) (x6 : Vec F S1x8x2048 .f32) : List (View.Piece (Elt F) S2048x128 .f32) :=
  ⟨rowsR 1536 (by decide), moreQ (v.readCov (scrA3 g v x0 x1 x2 x3 x4 x5 x6) (rowsR 1536 (by decide)).toLoadRect) (gQ g 0 x0 x1 x2 x3 x4 x5 x6 3)⟩ :: scrA3 g v x0 x1 x2 x3 x4 x5 x6

variable (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S1x8x2048 .f32) (harg9 : arg9.IsWhole) (arg11 : Memref sig .tc .vmem S2048x384 .bf16) (harg11 : arg11.IsWhole) (arg12 : Memref sig .tc .vmem S1x1x2x512 .f32) (harg12 : arg12.IsWhole) (arg13 : Memref sig .tc .vmem S2048x128 .f32) (harg13 : arg13.IsWhole) (hc0 : cond0_0 i) (hc1 : cond0_1 i) (hc2 : ¬cond0_2 i) (hc3 : ¬cond0_3 i) (hc4 : ¬cond0_4 i)
  (x0 : Vec F S2048x128 .bf16) (x1 : Vec F S512x128 .bf16) (x2 : Vec F S512x128 .bf16) (x3 : Vec F S2048x128 .f32) (x4 : Vec F S2048x128 .bf16) (x5 : Vec F S2048x128 .f32) (x6 : Vec F S1x8x2048 .f32)

set_option maxHeartbeats 4000000 in
/-- The pieces key block 0 writes into the scratch. -/
theorem piecesA_scr :
    (runA (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6).1 = scrA4 i arg13.view x0 x1 x2 x3 x4 x5 x6 := by
  unfold runA
  dsimp only
  sl_unfold_words
  simp only [View.readAt_eq_ld, harg3.read_unread, harg4.read_unread, harg5.read_unread, harg6.read_unread, harg7.read_unread, harg8.read_unread, harg9.read_unread]
  dsimp only [k0_pay20, k0_pay21, k0_pay22, k0_pay23, k0_pay27, k0_pay28, k0_pay29, k0_pay30, k0_pay31, k0_pay32, k0_pay33, k0_pay34, k0_pay38, k0_pay284, k0_pay285, k0_pay286, k0_pay287, k0_pay288, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow, scrA0, scrA1, scrA2, scrA3, scrA4]
  rfl

set_option maxHeartbeats 4000000 in
/-- The pieces key block 0 writes into the block of dz. -/
theorem piecesA_dz :
    (runA (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6).2.1 = [⟨Rect.unit ![0, 256] S512x128.size inb_S2048x384_S512x128_0_256, outV (gV i 0 x0 x1 x4 x5 x6 0) (gV i 0 x0 x1 x4 x5 x6 1)⟩,
    ⟨Rect.unit ![0, 128] S512x128.size inb_S2048x384_S512x128_0_128, outK (gK i 0 x0 x1 x2 x3 x4 x5 x6 0) (gK i 0 x0 x1 x2 x3 x4 x5 x6 1)⟩] := by
  unfold runA
  dsimp only
  sl_unfold_words
  simp only [View.readAt_eq_ld, harg3.read_unread, harg4.read_unread, harg5.read_unread, harg6.read_unread, harg7.read_unread, harg8.read_unread, harg9.read_unread]
  dsimp only [k0_pay20, k0_pay21, k0_pay22, k0_pay24, k0_pay25, k0_pay27, k0_pay28, k0_pay29, k0_pay30, k0_pay31, k0_pay32, k0_pay33, k0_pay35, k0_pay36, k0_pay285, k0_pay286, k0_pay287, k0_pay288, k0_pay291, k0_pay292, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow, scrA0, scrA1, scrA2, scrA3, scrA4]
  rfl

set_option maxHeartbeats 4000000 in
/-- The pieces key block 0 writes into the block of the gradient of c. -/
theorem piecesA_dc :
    (runA (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6).2.2.1 = [⟨Rect.unit ![0, 0, 1, 0] S1x1x1x512.size inb_S1x1x2x512_S1x1x1x512_0_0_1_0, outC (gC i 0 x0 x1 x2 x3 x4 x5 x6 1)⟩,
    ⟨Rect.unit ![0, 0, 0, 0] S1x1x1x512.size inb_S1x1x2x512_S1x1x1x512_0_0_0_0, outC (gC i 0 x0 x1 x2 x3 x4 x5 x6 0)⟩] := by
  unfold runA
  dsimp only
  sl_unfold_words
  simp only [View.readAt_eq_ld, harg3.read_unread, harg4.read_unread, harg5.read_unread, harg6.read_unread, harg7.read_unread, harg8.read_unread, harg9.read_unread]
  dsimp only [k0_pay20, k0_pay21, k0_pay26, k0_pay27, k0_pay28, k0_pay29, k0_pay30, k0_pay31, k0_pay32, k0_pay37, k0_pay285, k0_pay286, k0_pay287, k0_pay288, k0_pay289, k0_pay290, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow, scrA0, scrA1, scrA2, scrA3, scrA4]
  rfl

end Cert.KernelIdeal.Fox

end
-- ==== Proof.PairBlocks.lean ====
/-
  A pair's blocks through one key block's sweep: what is stored to dz and to the gradient of c, and what the scratch that
  carries the gradient of q holds afterwards.
-/
module

public import proofs.«01_k».proof.Proof.HeadSweep
public import proofs.«01_k».proof.Proof.Stores
public import proofs.«01_k».proof.Proof.PiecesA

@[expose] public section

noncomputable section

namespace Cert.KernelIdeal.Fox

open Idealize.ShloMosaic
open Cert.KernelIdeal.Gen
open scoped BigOperators

/-- Every row is a row of a block. -/
theorem exists_row (R : Fin 2048) : ∃ i r, R = row i r :=
  ⟨⟨R.val / 512, by have := R.isLt; omega⟩, ⟨R.val % 512, by omega⟩, Fin.ext (by show R.val = 512 * (R.val / 512) + R.val % 512; omega)⟩

/-- The seven blocks hold the numbers of pair `p` of the heads `H` at key block `j`. -/
structure PairBlocks (H : Fin 8 → Head) (a : Fin 8 → Fin 2048 → ℝ) (p j : Fin 4) (x0 : Vec Ideal S2048x128 .bf16) (x1 x2 : Vec Ideal S512x128 .bf16)
    (x3 : Vec Ideal S2048x128 .f32) (x4 : Vec Ideal S2048x128 .bf16) (x5 : Vec Ideal S2048x128 .f32) (x6 : Vec Ideal S1x8x2048 .f32) : Prop where
  h0 : Holds2 x0 (pQ H p)
  h1 : Holds2 x1 (pK H p j)
  h2 : Holds2 x2 (pV H p j)
  h3 : Holds2 x3 (pO H p)
  h4 : Holds2 x4 (pD H p)
  h5 : Holds2 x5 (pL H a p)
  h6 : ∀ h s, x6 (ix3 0 h s) = ((pC H h s : ℝ) : EReal)

section
variable {H : Fin 8 → Head} {a : Fin 8 → Fin 2048 → ℝ} {p j : Fin 4} {x0 : Vec Ideal S2048x128 .bf16} {x1 x2 : Vec Ideal S512x128 .bf16}
  {x3 : Vec Ideal S2048x128 .f32} {x4 : Vec Ideal S2048x128 .bf16} {x5 : Vec Ideal S2048x128 .f32} {x6 : Vec Ideal S1x8x2048 .f32}
  {g : grid0.Coords} (hg : (g 1).val = p.val)
include hg

theorem outK_head (P : PairBlocks H a p j x0 x1 x2 x3 x4 x5 x6) :
    Holds2 (outK (gK g j x0 x1 x2 x3 x4 x5 x6 0) (gK g j x0 x1 x2 x3 x4 x5 x6 1)) (fun s l => (H (laneHead p l)).gradK (row j s) (laneCol l)) := by
  intro s l
  rw [outK_holds (gK_holds g j P.h0 P.h1 P.h2 P.h3 P.h4 P.h5 P.h6 0) (gK_holds g j P.h0 P.h1 P.h2 P.h3 P.h4 P.h5 P.h6 1) s l]
  refine congrArg _ ?_
  beta_reduce
  have hl := l.isLt
  rcases (by omega : l.val / 64 = 0 ∨ l.val / 64 = 1) with h | h
  · rw [if_pos h]; exact gradK_head H a g j hg 0 s l h
  · rw [if_neg (show ¬ (l.val / 64 = 0) by omega)]; exact gradK_head H a g j hg 1 s l h

theorem outV_head (P : PairBlocks H a p j x0 x1 x2 x3 x4 x5 x6) :
    Holds2 (outV (gV g j x0 x1 x4 x5 x6 0) (gV g j x0 x1 x4 x5 x6 1)) (fun s l => (H (laneHead p l)).gradV (row j s) (laneCol l)) := by
  intro s l
  rw [outV_holds (gV_holds g j P.h0 P.h1 P.h4 P.h5 P.h6 0) (gV_holds g j P.h0 P.h1 P.h4 P.h5 P.h6 1) s l]
  exact congrArg _ (gradV_head H a g j hg s l)

theorem outC_head (P : PairBlocks H a p j x0 x1 x2 x3 x4 x5 x6) (e : Fin 2) (s : Fin 512) :
    outC (gC g j x0 x1 x2 x3 x4 x5 x6 e) (ix4 0 0 0 s) = (((H (headOf p e)).gradC (row j s) : ℝ) : EReal) := by
  rw [outC_apply (gC_holds g j P.h0 P.h1 P.h2 P.h3 P.h4 P.h5 P.h6 e) s]
  exact congrArg _ (gradC_head H a g j hg e s)

theorem moreQ_head (P : PairBlocks H a p j x0 x1 x2 x3 x4 x5 x6) (i : Fin 4) (hi : j ≤ i) {x : Vec Ideal S512x128 .f32} {X : Fin 512 → Fin 128 → ℝ}
    (hX : Holds2 x X) : Holds2 (moreQ x (gQ g j x0 x1 x2 x3 x4 x5 x6 i)) (fun r l => X r l + share H p j (row i r) l) := by
  intro r l
  rw [moreQ_holds hX (gQ_holds g j P.h0 P.h1 P.h2 P.h3 P.h4 P.h5 P.h6 i hi) r l]
  refine congrArg _ ?_
  beta_reduce
  rw [share_head H a g j hg]

section
variable {sig' : RefSig} {sp : Space} (v : View sig' .tc sp S2048x128 .f32) (f : v.ty.Contents (Elt Ideal))
  {xs : Vec Ideal S2048x128 .f32} {X : Fin 2048 → Fin 128 → ℝ} (hX : Holds2 xs X) (hf : v.read (Elt Ideal) f = xs)

omit hg in
theorem ld_holds (hX : Holds2 xs X) (i : Fin 4) (o : ℕ) (ho : o = 512 * i.val) (h : o + 512 ≤ 2048) :
    Holds2 (View.ld (Val := Elt Ideal) xs (rowsR o h)) (fun r l => X (row i r) l) := by
  subst ho
  exact fun r l => (ld_rows xs _ _ r l).trans (hX _ _)

/-- The scratch's pieces at key block 1, -/
abbrev scrB3 (g : grid0.Coords) (x0 : Vec Ideal S2048x128 .bf16) (x1 x2 : Vec Ideal S512x128 .bf16) (x3 : Vec Ideal S2048x128 .f32) (x4 : Vec Ideal S2048x128 .bf16)
    (x5 : Vec Ideal S2048x128 .f32) (x6 : Vec Ideal S1x8x2048 .f32) (xs : Vec Ideal S2048x128 .f32) : List (View.Piece (Elt Ideal) S2048x128 .f32) :=
  [⟨rowsR 1536 (by decide), moreQ (View.ld (Val := Elt Ideal) xs (rowsR 1536 (by decide))) (gQ g 1 x0 x1 x2 x3 x4 x5 x6 3)⟩,
   ⟨rowsR 1024 (by decide), moreQ (View.ld (Val := Elt Ideal) xs (rowsR 1024 (by decide))) (gQ g 1 x0 x1 x2 x3 x4 x5 x6 2)⟩,
   ⟨rowsR 512 (by decide), moreQ (View.ld (Val := Elt Ideal) xs (rowsR 512 (by decide))) (gQ g 1 x0 x1 x2 x3 x4 x5 x6 1)⟩]

/-- at key block 2 -/
abbrev scrC2 (g : grid0.Coords) (x0 : Vec Ideal S2048x128 .bf16) (x1 x2 : Vec Ideal S512x128 .bf16) (x3 : Vec Ideal S2048x128 .f32) (x4 : Vec Ideal S2048x128 .bf16)
    (x5 : Vec Ideal S2048x128 .f32) (x6 : Vec Ideal S1x8x2048 .f32) (xs : Vec Ideal S2048x128 .f32) : List (View.Piece (Elt Ideal) S2048x128 .f32) :=
  [⟨rowsR 1536 (by decide), moreQ (View.ld (Val := Elt Ideal) xs (rowsR 1536 (by decide))) (gQ g 2 x0 x1 x2 x3 x4 x5 x6 3)⟩,
   ⟨rowsR 1024 (by decide), moreQ (View.ld (Val := Elt Ideal) xs (rowsR 1024 (by decide))) (gQ g 2 x0 x1 x2 x3 x4 x5 x6 2)⟩]

/-- and at key block 3. -/
abbrev scrD1 (g : grid0.Coords) (x0 : Vec Ideal S2048x128 .bf16) (x1 x2 : Vec Ideal S512x128 .bf16) (x3 : Vec Ideal S2048x128 .f32) (x4 : Vec Ideal S2048x128 .bf16)
    (x5 : Vec Ideal S2048x128 .f32) (x6 : Vec Ideal S1x8x2048 .f32) (xs : Vec Ideal S2048x128 .f32) : List (View.Piece (Elt Ideal) S2048x128 .f32) :=
  [⟨rowsR 1536 (by decide), moreQ (View.ld (Val := Elt Ideal) xs (rowsR 1536 (by decide))) (gQ g 3 x0 x1 x2 x3 x4 x5 x6 3)⟩]

include hX hf

theorem scrB_holds (P : PairBlocks H a p 1 x0 x1 x2 x3 x4 x5 x6) :
    Holds2 (v.read (Elt Ideal) (v.writes (Elt Ideal) f (scrB3 g x0 x1 x2 x3 x4 x5 x6 xs))) (fun R l => X R l + share H p 1 R l) := by
  intro R l
  obtain ⟨i, r, rfl⟩ := exists_row R
  unfold scrB3
  rw [read_rows v f 3 1536 rfl, read_rows v f 2 1024 rfl, read_rows v f 1 512 rfl]
  fin_cases i
  · show v.read (Elt Ideal) f (ix2 (row 0 r) l) = _
    rw [hf, hX]
    refine congrArg _ ?_
    show X (row 0 r) l = X (row 0 r) l + share H p 1 (row 0 r) l
    rw [share_early H 1 0 (by decide), add_zero]
  · exact moreQ_head hg P 1 (by decide) (ld_holds hX 1 512 rfl _) r l
  · exact moreQ_head hg P 2 (by decide) (ld_holds hX 2 1024 rfl _) r l
  · exact moreQ_head hg P 3 (by decide) (ld_holds hX 3 1536 rfl _) r l

theorem scrC_holds (P : PairBlocks H a p 2 x0 x1 x2 x3 x4 x5 x6) :
    Holds2 (v.read (Elt Ideal) (v.writes (Elt Ideal) f (scrC2 g x0 x1 x2 x3 x4 x5 x6 xs))) (fun R l => X R l + share H p 2 R l) := by
  intro R l
  obtain ⟨i, r, rfl⟩ := exists_row R
  unfold scrC2
  rw [read_rows v f 3 1536 rfl, read_rows v f 2 1024 rfl]
  have early : ∀ i : Fin 4, i < 2 → v.read (Elt Ideal) f (ix2 (row i r) l) = ((X (row i r) l + share H p 2 (row i r) l : ℝ) : EReal) := fun i hi => by
    rw [hf, hX, share_early H 2 i hi, add_zero]
  fin_cases i
  · exact early 0 (by decide)
  · exact early 1 (by decide)
  · exact moreQ_head hg P 2 (by decide) (ld_holds hX 2 1024 rfl _) r l
  · exact moreQ_head hg P 3 (by decide) (ld_holds hX 3 1536 rfl _) r l

theorem scrD_holds (P : PairBlocks H a p 3 x0 x1 x2 x3 x4 x5 x6) :
    Holds2 (v.read (Elt Ideal) (v.writes (Elt Ideal) f (scrD1 g x0 x1 x2 x3 x4 x5 x6 xs))) (fun R l => X R l + share H p 3 R l) := by
  intro R l
  obtain ⟨i, r, rfl⟩ := exists_row R
  unfold scrD1
  rw [read_rows v f 3 1536 rfl]
  have early : ∀ i : Fin 4, i < 3 → v.read (Elt Ideal) f (ix2 (row i r) l) = ((X (row i r) l + share H p 3 (row i r) l : ℝ) : EReal) := fun i hi => by
    rw [hf, hX, share_early H 3 i hi, add_zero]
  fin_cases i
  · exact early 0 (by decide)
  · exact early 1 (by decide)
  · exact early 2 (by decide)
  · exact moreQ_head hg P 3 (by decide) (ld_holds hX 3 1536 rfl _) r l

end

/-- At key block 0 the scratch is zeroed first. -/
theorem scrA_holds (v w : View sig .tc .vmem S2048x128 .f32) (f : v.ty.Contents (Elt Ideal))
    (P : PairBlocks H a p 0 x0 x1 x2 x3 x4 x5 x6) :
    Holds2 (v.read (Elt Ideal) (v.writes (Elt Ideal) f (scrA4 g w x0 x1 x2 x3 x4 x5 x6))) (fun R l => share H p 0 R l) := by
  have zero : ∀ (u : View sig .tc .vmem S2048x128 .f32) (f : u.ty.Contents (Elt Ideal)) (R : Fin 2048) (l : Fin 128),
      u.read (Elt Ideal) (u.writes (Elt Ideal) f scrA0) (ix2 R l) = ((0 : ℝ) : EReal) := fun u f R l => by
    unfold scrA0
    rw [read_all u f]
    pointwise [k0_pay284]
    exact EReal.coe_zero.symm
  have l0 : Holds2 (n := 512) (m := 128) (w.readCov (Val := Elt Ideal) scrA0 (rowsR 0 (by decide)).toLoadRect) (fun _ _ => 0) := fun r l => by
    rw [load_rows w 0 0 rfl, zero]
  have l1 : Holds2 (n := 512) (m := 128) (w.readCov (Val := Elt Ideal) (scrA1 g w x0 x1 x2 x3 x4 x5 x6) (rowsR 512 (by decide)).toLoadRect) (fun _ _ => 0) := fun r l => by
    unfold scrA1
    rw [load_rows w 1 512 rfl, read_rows w _ 0 0 rfl, if_neg (by decide), zero]
  have l2 : Holds2 (n := 512) (m := 128) (w.readCov (Val := Elt Ideal) (scrA2 g w x0 x1 x2 x3 x4 x5 x6) (rowsR 1024 (by decide)).toLoadRect) (fun _ _ => 0) := fun r l => by
    unfold scrA2 scrA1
    rw [load_rows w 2 1024 rfl, read_rows w _ 1 512 rfl, if_neg (by decide), read_rows w _ 0 0 rfl, if_neg (by decide), zero]
  have l3 : Holds2 (n := 512) (m := 128) (w.readCov (Val := Elt Ideal) (scrA3 g w x0 x1 x2 x3 x4 x5 x6) (rowsR 1536 (by decide)).toLoadRect) (fun _ _ => 0) := fun r l => by
    unfold scrA3 scrA2 scrA1
    rw [load_rows w 3 1536 rfl, read_rows w _ 2 1024 rfl, if_neg (by decide), read_rows w _ 1 512 rfl, if_neg (by decide), read_rows w _ 0 0 rfl, if_neg (by decide), zero]
  intro R l
  obtain ⟨i, r, rfl⟩ := exists_row R
  have step : ∀ (i : Fin 4) (x : Vec Ideal S512x128 .f32), Holds2 x (fun _ _ => 0) →
      moreQ x (gQ g 0 x0 x1 x2 x3 x4 x5 x6 i) (ix2 r l) = ((share H p 0 (row i r) l : ℝ) : EReal) := fun i x h => by
    rw [moreQ_head hg P i (Fin.zero_le _) h r l]; exact congrArg _ (zero_add _)
  fin_cases i
  · unfold scrA4 scrA3 scrA2 scrA1
    rw [read_rows v f 3 1536 rfl, read_rows v f 2 1024 rfl, read_rows v f 1 512 rfl, read_rows v f 0 0 rfl]
    exact step 0 _ l0
  · unfold scrA4 scrA3 scrA2
    rw [read_rows v f 3 1536 rfl, read_rows v f 2 1024 rfl, read_rows v f 1 512 rfl]
    exact step 1 _ l1
  · unfold scrA4 scrA3
    rw [read_rows v f 3 1536 rfl, read_rows v f 2 1024 rfl]
    exact step 2 _ l2
  · unfold scrA4
    rw [read_rows v f 3 1536 rfl]
    exact step 3 _ l3

end

end Cert.KernelIdeal.Fox

end
-- ==== Proof.PiecesB.lean ====
/-
  The pieces the body's stores leave at key block 1, as the sweep's vectors.
-/
module

public import proofs.«01_k».proof.Proof.Sweep
public import proofs.«01_k».proof.Proof.Runs

@[expose] public section

set_option maxRecDepth 16384

noncomputable section

namespace Cert.KernelIdeal.Fox

open Idealize.ShloMosaic Idealize.ShloMosaic.TcCoe Idealize.ShloMosaic.Tactic
open Cert.KernelIdeal.Gen

variable {F : FTy → Type} [FloatOps F] [Named F]

variable (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S1x8x2048 .f32) (harg9 : arg9.IsWhole) (arg11 : Memref sig .tc .vmem S2048x384 .bf16) (harg11 : arg11.IsWhole) (arg12 : Memref sig .tc .vmem S1x1x2x512 .f32) (harg12 : arg12.IsWhole) (arg13 : Memref sig .tc .vmem S2048x128 .f32) (harg13 : arg13.IsWhole) (hc0 : ¬cond0_0 i) (hc1 : ¬cond0_1 i) (hc2 : cond0_2 i) (hc3 : ¬cond0_3 i) (hc4 : ¬cond0_4 i)
  (x0 : Vec F S2048x128 .bf16) (x1 : Vec F S512x128 .bf16) (x2 : Vec F S512x128 .bf16) (x3 : Vec F S2048x128 .f32) (x4 : Vec F S2048x128 .bf16) (x5 : Vec F S2048x128 .f32) (x6 : Vec F S1x8x2048 .f32) (xs0 : Vec F S2048x128 .f32)

set_option maxHeartbeats 4000000 in
/-- The pieces key block 1 writes into the scratch. -/
theorem piecesB_scr :
    (runB (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6 xs0).1 = [⟨rowsR 1536 (by decide), moreQ (View.ld (Val := Elt F) xs0 (rowsR 1536 (by decide))) (gQ i 1 x0 x1 x2 x3 x4 x5 x6 3)⟩,
    ⟨rowsR 1024 (by decide), moreQ (View.ld (Val := Elt F) xs0 (rowsR 1024 (by decide))) (gQ i 1 x0 x1 x2 x3 x4 x5 x6 2)⟩,
    ⟨rowsR 512 (by decide), moreQ (View.ld (Val := Elt F) xs0 (rowsR 512 (by decide))) (gQ i 1 x0 x1 x2 x3 x4 x5 x6 1)⟩] := by
  unfold runB
  dsimp only
  sl_unfold_words
  simp only [View.readAt_eq_ld, harg3.read_unread, harg4.read_unread, harg5.read_unread, harg6.read_unread, harg7.read_unread, harg8.read_unread, harg9.read_unread, harg13.read_unread]
  dsimp only [k0_pay124, k0_pay125, k0_pay126, k0_pay127, k0_pay131, k0_pay132, k0_pay133, k0_pay134, k0_pay135, k0_pay136, k0_pay137, k0_pay138, k0_pay142, k0_pay285, k0_pay286, k0_pay287, k0_pay288, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow]
  rfl

set_option maxHeartbeats 4000000 in
/-- The pieces key block 1 writes into the block of dz. -/
theorem piecesB_dz :
    (runB (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6 xs0).2.1 = [⟨Rect.unit ![512, 256] S512x128.size inb_S2048x384_S512x128_512_256, outV (gV i 1 x0 x1 x4 x5 x6 0) (gV i 1 x0 x1 x4 x5 x6 1)⟩,
    ⟨Rect.unit ![512, 128] S512x128.size inb_S2048x384_S512x128_512_128, outK (gK i 1 x0 x1 x2 x3 x4 x5 x6 0) (gK i 1 x0 x1 x2 x3 x4 x5 x6 1)⟩] := by
  unfold runB
  dsimp only
  sl_unfold_words
  simp only [View.readAt_eq_ld, harg3.read_unread, harg4.read_unread, harg5.read_unread, harg6.read_unread, harg7.read_unread, harg8.read_unread, harg9.read_unread, harg13.read_unread]
  dsimp only [k0_pay124, k0_pay125, k0_pay126, k0_pay128, k0_pay129, k0_pay131, k0_pay132, k0_pay133, k0_pay134, k0_pay135, k0_pay136, k0_pay137, k0_pay139, k0_pay140, k0_pay285, k0_pay286, k0_pay287, k0_pay288, k0_pay293, k0_pay294, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow]
  rfl

set_option maxHeartbeats 4000000 in
/-- The pieces key block 1 writes into the block of the gradient of c. -/
theorem piecesB_dc :
    (runB (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6 xs0).2.2.1 = [⟨Rect.unit ![0, 0, 1, 0] S1x1x1x512.size inb_S1x1x2x512_S1x1x1x512_0_0_1_0, outC (gC i 1 x0 x1 x2 x3 x4 x5 x6 1)⟩,
    ⟨Rect.unit ![0, 0, 0, 0] S1x1x1x512.size inb_S1x1x2x512_S1x1x1x512_0_0_0_0, outC (gC i 1 x0 x1 x2 x3 x4 x5 x6 0)⟩] := by
  unfold runB
  dsimp only
  sl_unfold_words
  simp only [View.readAt_eq_ld, harg3.read_unread, harg4.read_unread, harg5.read_unread, harg6.read_unread, harg7.read_unread, harg8.read_unread, harg9.read_unread, harg13.read_unread]
  dsimp only [k0_pay124, k0_pay125, k0_pay130, k0_pay131, k0_pay132, k0_pay133, k0_pay134, k0_pay135, k0_pay136, k0_pay141, k0_pay285, k0_pay286, k0_pay287, k0_pay288, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow]
  rfl

end Cert.KernelIdeal.Fox

end
-- ==== Proof.PiecesC.lean ====
/-
  The pieces the body's stores leave at key block 2, as the sweep's vectors.
-/
module

public import proofs.«01_k».proof.Proof.Sweep
public import proofs.«01_k».proof.Proof.Runs

@[expose] public section

set_option maxRecDepth 16384

noncomputable section

namespace Cert.KernelIdeal.Fox

open Idealize.ShloMosaic Idealize.ShloMosaic.TcCoe Idealize.ShloMosaic.Tactic
open Cert.KernelIdeal.Gen

variable {F : FTy → Type} [FloatOps F] [Named F]

variable (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S1x8x2048 .f32) (harg9 : arg9.IsWhole) (arg11 : Memref sig .tc .vmem S2048x384 .bf16) (harg11 : arg11.IsWhole) (arg12 : Memref sig .tc .vmem S1x1x2x512 .f32) (harg12 : arg12.IsWhole) (arg13 : Memref sig .tc .vmem S2048x128 .f32) (harg13 : arg13.IsWhole) (hc0 : ¬cond0_0 i) (hc1 : ¬cond0_1 i) (hc2 : ¬cond0_2 i) (hc3 : cond0_3 i) (hc4 : ¬cond0_4 i)
  (x0 : Vec F S2048x128 .bf16) (x1 : Vec F S512x128 .bf16) (x2 : Vec F S512x128 .bf16) (x3 : Vec F S2048x128 .f32) (x4 : Vec F S2048x128 .bf16) (x5 : Vec F S2048x128 .f32) (x6 : Vec F S1x8x2048 .f32) (xs0 : Vec F S2048x128 .f32)

set_option maxHeartbeats 4000000 in
/-- The pieces key block 2 writes into the scratch. -/
theorem piecesC_scr :
    (runC (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6 xs0).1 = [⟨rowsR 1536 (by decide), moreQ (View.ld (Val := Elt F) xs0 (rowsR 1536 (by decide))) (gQ i 2 x0 x1 x2 x3 x4 x5 x6 3)⟩,
    ⟨rowsR 1024 (by decide), moreQ (View.ld (Val := Elt F) xs0 (rowsR 1024 (by decide))) (gQ i 2 x0 x1 x2 x3 x4 x5 x6 2)⟩] := by
  unfold runC
  dsimp only
  sl_unfold_words
  simp only [View.readAt_eq_ld, harg3.read_unread, harg4.read_unread, harg5.read_unread, harg6.read_unread, harg7.read_unread, harg8.read_unread, harg9.read_unread, harg13.read_unread]
  dsimp only [k0_pay195, k0_pay196, k0_pay200, k0_pay201, k0_pay202, k0_pay203, k0_pay204, k0_pay205, k0_pay206, k0_pay207, k0_pay208, k0_pay209, k0_pay210, k0_pay211, k0_pay215, k0_pay216, k0_pay217, k0_pay218, k0_pay219, k0_pay220, k0_pay221, k0_pay222, k0_pay226, k0_pay227, k0_pay228, k0_pay229, k0_pay230, k0_pay231, k0_pay232, k0_pay233, k0_pay234, k0_pay235, k0_pay236, k0_pay237, k0_pay241, k0_pay242, k0_pay243, k0_pay244, k0_pay245, k0_pay246, k0_pay247, k0_pay285, k0_pay286, k0_pay287, k0_pay288, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow]
  rfl

set_option maxHeartbeats 4000000 in
/-- The pieces key block 2 writes into the block of dz. -/
theorem piecesC_dz :
    (runC (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6 xs0).2.1 = [⟨Rect.unit ![1024, 256] S512x128.size inb_S2048x384_S512x128_1024_256, outV (gV i 2 x0 x1 x4 x5 x6 0) (gV i 2 x0 x1 x4 x5 x6 1)⟩,
    ⟨Rect.unit ![1024, 128] S512x128.size inb_S2048x384_S512x128_1024_128, outK (gK i 2 x0 x1 x2 x3 x4 x5 x6 0) (gK i 2 x0 x1 x2 x3 x4 x5 x6 1)⟩] := by
  unfold runC
  dsimp only
  sl_unfold_words
  simp only [View.readAt_eq_ld, harg3.read_unread, harg4.read_unread, harg5.read_unread, harg6.read_unread, harg7.read_unread, harg8.read_unread, harg9.read_unread, harg13.read_unread]
  dsimp only [k0_pay195, k0_pay196, k0_pay197, k0_pay198, k0_pay200, k0_pay201, k0_pay202, k0_pay204, k0_pay205, k0_pay206, k0_pay207, k0_pay208, k0_pay209, k0_pay210, k0_pay212, k0_pay213, k0_pay215, k0_pay216, k0_pay217, k0_pay218, k0_pay219, k0_pay220, k0_pay221, k0_pay223, k0_pay224, k0_pay228, k0_pay229, k0_pay230, k0_pay232, k0_pay233, k0_pay234, k0_pay235, k0_pay236, k0_pay237, k0_pay238, k0_pay239, k0_pay241, k0_pay242, k0_pay243, k0_pay244, k0_pay245, k0_pay250, k0_pay251, k0_pay285, k0_pay286, k0_pay287, k0_pay288, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow]
  rfl

set_option maxHeartbeats 4000000 in
/-- The pieces key block 2 writes into the block of the gradient of c. -/
theorem piecesC_dc :
    (runC (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6 xs0).2.2.1 = [⟨Rect.unit ![0, 0, 1, 0] S1x1x1x512.size inb_S1x1x2x512_S1x1x1x512_0_0_1_0, outC (gC i 2 x0 x1 x2 x3 x4 x5 x6 1)⟩,
    ⟨Rect.unit ![0, 0, 0, 0] S1x1x1x512.size inb_S1x1x2x512_S1x1x1x512_0_0_0_0, outC (gC i 2 x0 x1 x2 x3 x4 x5 x6 0)⟩] := by
  unfold runC
  dsimp only
  sl_unfold_words
  simp only [View.readAt_eq_ld, harg3.read_unread, harg4.read_unread, harg5.read_unread, harg6.read_unread, harg7.read_unread, harg8.read_unread, harg9.read_unread, harg13.read_unread]
  dsimp only [k0_pay195, k0_pay196, k0_pay199, k0_pay200, k0_pay201, k0_pay202, k0_pay204, k0_pay205, k0_pay206, k0_pay207, k0_pay208, k0_pay209, k0_pay214, k0_pay215, k0_pay216, k0_pay217, k0_pay218, k0_pay219, k0_pay220, k0_pay225, k0_pay228, k0_pay229, k0_pay230, k0_pay232, k0_pay233, k0_pay234, k0_pay235, k0_pay236, k0_pay240, k0_pay241, k0_pay242, k0_pay243, k0_pay244, k0_pay248, k0_pay249, k0_pay285, k0_pay286, k0_pay287, k0_pay288, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow]
  rfl

end Cert.KernelIdeal.Fox

end
-- ==== Proof.PiecesD.lean ====
/-
  The pieces the body's stores leave at key block 3, as the sweep's vectors.
-/
module

public import proofs.«01_k».proof.Proof.Sweep
public import proofs.«01_k».proof.Proof.Runs

@[expose] public section

set_option maxRecDepth 16384

noncomputable section

namespace Cert.KernelIdeal.Fox

open Idealize.ShloMosaic Idealize.ShloMosaic.TcCoe Idealize.ShloMosaic.Tactic
open Cert.KernelIdeal.Gen

variable {F : FTy → Type} [FloatOps F] [Named F]

variable (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S1x8x2048 .f32) (harg9 : arg9.IsWhole) (arg11 : Memref sig .tc .vmem S2048x384 .bf16) (harg11 : arg11.IsWhole) (arg12 : Memref sig .tc .vmem S1x1x2x512 .f32) (harg12 : arg12.IsWhole) (arg13 : Memref sig .tc .vmem S2048x128 .f32) (harg13 : arg13.IsWhole) (hc0 : ¬cond0_0 i) (hc1 : ¬cond0_1 i) (hc2 : ¬cond0_2 i) (hc3 : ¬cond0_3 i) (hc4 : cond0_4 i)
  (x0 : Vec F S2048x128 .bf16) (x1 : Vec F S512x128 .bf16) (x2 : Vec F S512x128 .bf16) (x3 : Vec F S2048x128 .f32) (x4 : Vec F S2048x128 .bf16) (x5 : Vec F S2048x128 .f32) (x6 : Vec F S1x8x2048 .f32) (xs0 : Vec F S2048x128 .f32)

set_option maxHeartbeats 4000000 in
/-- The pieces key block 3 writes into the scratch. -/
theorem piecesD_scr :
    (runD (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6 xs0).1 = [⟨rowsR 1536 (by decide), moreQ (View.ld (Val := Elt F) xs0 (rowsR 1536 (by decide))) (gQ i 3 x0 x1 x2 x3 x4 x5 x6 3)⟩] := by
  unfold runD
  dsimp only
  sl_unfold_words
  simp only [View.readAt_eq_ld, harg3.read_unread, harg4.read_unread, harg5.read_unread, harg6.read_unread, harg7.read_unread, harg8.read_unread, harg9.read_unread, harg13.read_unread]
  dsimp only [k0_pay1, k0_pay252, k0_pay253, k0_pay257, k0_pay258, k0_pay259, k0_pay260, k0_pay261, k0_pay262, k0_pay263, k0_pay264, k0_pay265, k0_pay266, k0_pay267, k0_pay268, k0_pay272, k0_pay273, k0_pay274, k0_pay275, k0_pay276, k0_pay277, k0_pay278, k0_pay279, k0_pay283, k0_pay285, k0_pay286, k0_pay287, k0_pay288, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow]
  rfl

set_option maxHeartbeats 4000000 in
/-- The pieces key block 3 writes into the block of dz. -/
theorem piecesD_dz :
    (runD (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6 xs0).2.1 = ⟨Rect.unit ![0, 0] S2048x128.size inb_S2048x384_S2048x128_0_0, truncf .bf16 (arg13.view.readAt (Elt F) (Rect.unit ![0, 0] S2048x128.size inb_S2048x128_S2048x128_0_0).toLoadRect (arg13.view.writes (Elt F) (harg13.unread xs0) [⟨rowsR 1536 (by decide), moreQ (View.ld (Val := Elt F) xs0 (rowsR 1536 (by decide))) (gQ i 3 x0 x1 x2 x3 x4 x5 x6 3)⟩])) bitsLt_bf16_f32⟩ ::
    [⟨Rect.unit ![1536, 256] S512x128.size inb_S2048x384_S512x128_1536_256, outV (gV i 3 x0 x1 x4 x5 x6 0) (gV i 3 x0 x1 x4 x5 x6 1)⟩,
    ⟨Rect.unit ![1536, 128] S512x128.size inb_S2048x384_S512x128_1536_128, outK (gK i 3 x0 x1 x2 x3 x4 x5 x6 0) (gK i 3 x0 x1 x2 x3 x4 x5 x6 1)⟩] := by
  unfold runD
  dsimp only
  sl_unfold_words
  simp only [View.readAt_eq_ld, harg3.read_unread, harg4.read_unread, harg5.read_unread, harg6.read_unread, harg7.read_unread, harg8.read_unread, harg9.read_unread, harg13.read_unread]
  dsimp only [k0_pay1, k0_pay4, k0_pay5, k0_pay6, k0_pay252, k0_pay253, k0_pay254, k0_pay255, k0_pay257, k0_pay258, k0_pay259, k0_pay260, k0_pay261, k0_pay262, k0_pay263, k0_pay264, k0_pay265, k0_pay266, k0_pay267, k0_pay268, k0_pay269, k0_pay270, k0_pay272, k0_pay273, k0_pay274, k0_pay275, k0_pay276, k0_pay277, k0_pay278, k0_pay279, k0_pay280, k0_pay281, k0_pay283, k0_pay285, k0_pay286, k0_pay287, k0_pay288, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow]
  rfl

set_option maxHeartbeats 4000000 in
/-- The pieces key block 3 writes into the block of the gradient of c. -/
theorem piecesD_dc :
    (runD (F := F) c i arg3 harg3 arg4 harg4 arg5 harg5 arg6 harg6 arg7 harg7 arg8 harg8 arg9 harg9 arg11 harg11 arg12 harg12 arg13 harg13 hc0 hc1 hc2 hc3 hc4 x0 x1 x2 x3 x4 x5 x6 xs0).2.2.1 = [⟨Rect.unit ![0, 0, 1, 0] S1x1x1x512.size inb_S1x1x2x512_S1x1x1x512_0_0_1_0, outC (gC i 3 x0 x1 x2 x3 x4 x5 x6 1)⟩,
    ⟨Rect.unit ![0, 0, 0, 0] S1x1x1x512.size inb_S1x1x2x512_S1x1x1x512_0_0_0_0, outC (gC i 3 x0 x1 x2 x3 x4 x5 x6 0)⟩] := by
  unfold runD
  dsimp only
  sl_unfold_words
  simp only [View.readAt_eq_ld, harg3.read_unread, harg4.read_unread, harg5.read_unread, harg6.read_unread, harg7.read_unread, harg8.read_unread, harg9.read_unread, harg13.read_unread]
  dsimp only [k0_pay2, k0_pay3, k0_pay252, k0_pay253, k0_pay256, k0_pay257, k0_pay258, k0_pay259, k0_pay261, k0_pay262, k0_pay263, k0_pay264, k0_pay265, k0_pay266, k0_pay271, k0_pay272, k0_pay273, k0_pay274, k0_pay275, k0_pay276, k0_pay277, k0_pay282, k0_pay285, k0_pay286, k0_pay287, k0_pay288, outC, outK, outV, gC, gK, gV, stepsOf, List.foldl, lessCols, addCols, addRows, sB, pB, scoreGrad, rowDot, probDiag, probFull, expLess, score, seen, qB, kB, dB, scaled, onHead, asBlock, lanesOn, lanes, zeroBlock, zeroRow, moreQ, gQ, laneLo, laneHi, cRow]
  rfl

end Cert.KernelIdeal.Fox

end
-- ==== Proof.HostValue.lean ====
/-
  What the kernel's host lines leave, at the exact values: the packed queries, keys and values, the mixed values, the
  logarithms of the rows' masses, and the cotangents, each read at an index.
-/
module

public import proofs.«01_k».proof.Proof.RefPacked
public import Idealize.ShloMosaic.Lib.StableHlo.ReadAt

@[expose] public section

noncomputable section

namespace Cert.KernelIdeal.Fox

open Idealize.ShloMosaic
open Cert.KernelIdeal Cert.KernelIdeal.Gen
open scoped BigOperators

variable (m : (ℓ : Loc nD τ sig) → Buf (Elt Ideal) ℓ) (c : Dev nD)

/-- The masked scores. -/
def vScores : Vec Ideal S4x8x2048x2048 .f32 := V m c main_v21
/-- The rows' maxima. -/
def vMax : Vec Ideal S4x8x2048x1 .f32 := V m c main_v23
/-- The exponentials. -/
def vExp : Vec Ideal S4x8x2048x2048 .f32 := V m c main_v26
/-- The rows' masses. -/
def vMass : Vec Ideal S4x8x2048x1 .f32 := V m c main_v28
/-- The probabilities. -/
def vProb : Vec Ideal S4x8x2048x2048 .f32 := V m c main_v30
/-- The rows' maxima plus the logarithms of their masses. -/
def vLog : Vec Ideal S4x8x2048x1 .f32 := V m c main_v35
/-- The mixed values, a token's heads side by side. -/
def vMixed : Vec Ideal S8192x512 .f32 := V m c main_v33
/-- The logarithms, spread over each head's lanes. -/
def vLse : Vec Ideal S8192x512 .f32 := V m c main_v40
/-- The packed queries, keys and values. -/
def vPacked : Vec Ideal S8192x1536 .bf16 := V m c main_v7
/-- The cotangents, a token's per row. -/
def vCot : Vec Ideal S8192x1024 .bf16 := V m c main_v42

theorem vMax_eq : vMax m c = broadcastInDim S4x8x2048x1 ![0, 1, 2] bcast_S4x8x2048_S4x8x2048x1_0_1_2
    (Host.reduce (FloatOps.maximumf (F := Ideal) (φ := .f32)) (vScores m c) (constant S_ .f32 0xFF800000#32) reducesTo_S4x8x2048x2048_S4x8x2048_d3 h_S_) := by
  unfold vMax vScores V
  after_reads_simp <;> rfl

theorem vExp_eq : vExp m c = Host.exp (F := Ideal) (φ := .f32) (subf (F := Ideal) (φ := .f32) (vScores m c) (broadcastInDim S4x8x2048x2048 ![0, 1, 2, 3] bcast_S4x8x2048x1_S4x8x2048x2048_0_1_2_3 (vMax m c))) := by
  unfold vExp vMax vScores V
  after_reads_simp <;> rfl

theorem vMass_eq : vMass m c = broadcastInDim S4x8x2048x1 ![0, 1, 2] bcast_S4x8x2048_S4x8x2048x1_0_1_2
    (Host.reduceAdd (F := Ideal) (φ := .f32) (vExp m c) (constant (F := Ideal) S_ .f32 0x00000000#32) reducesTo_S4x8x2048x2048_S4x8x2048_d3 h_S_) := by
  unfold vMass vExp V
  after_reads_simp <;> rfl

theorem vProb_eq : vProb m c = Host.divf (F := Ideal) (φ := .f32) (vExp m c) (broadcastInDim S4x8x2048x2048 ![0, 1, 2, 3] bcast_S4x8x2048x1_S4x8x2048x2048_0_1_2_3 (vMass m c)) := by
  unfold vProb vMass vExp V
  after_reads_simp <;> rfl

theorem vLog_eq : vLog m c = addf (F := Ideal) (φ := .f32) (vMax m c) (Host.log (F := Ideal) (φ := .f32) (vMass m c)) := by
  unfold vLog vMass vMax V
  after_reads_simp <;> rfl

/-- The values, as launched. -/
def vVal : Vec Ideal S4x2048x8x64 .f32 := V m c main_arg2

theorem vMixed_eq : vMixed m c = shapeCast S8192x512 (transpose S4x2048x8x64 [0, 3, 1, 2]
    (Host.dotGeneral (F := Ideal) (φ₁ := .f32) (φ₂ := .f32) dot_S4x2048x8x64_S4x8x2048x2048_S4x8x64x2048_1_3_3_2_02_01 none (vVal m c) (vProb m c))
      transposes_S4x8x64x2048_S4x2048x8x64_0_3_1_2) shapeCasts_S4x2048x8x64_S8192x512 := by
  unfold vMixed vProb vVal V
  after_reads_simp <;> rfl

theorem vLse_eq : vLse m c = shapeCast S8192x512 (broadcastInDim S4x2048x8x64 ![0, 1, 2, 3] bcast_S4x2048x8x1_S4x2048x8x64_0_1_2_3
    (broadcastInDim S4x2048x8x1 ![0, 1, 2] bcast_S4x2048x8_S4x2048x8x1_0_1_2
      (transpose S4x2048x8 [0, 2, 1] (shapeCast S4x8x2048 (vLog m c) shapeCasts_S4x8x2048x1_S4x8x2048) transposes_S4x8x2048_S4x2048x8_0_2_1)))
    shapeCasts_S4x2048x8x64_S8192x512 := by
  unfold vLse vLog V
  after_reads_simp <;> rfl

variable {A : Args}
  (hx : A.In (V m c main_arg0) (V m c main_arg1) (V m c main_arg2) (V m c main_arg3) (V m c main_arg4)) (b : Fin 4) (h : Fin 8)

include hx

theorem scores_host (r s : Fin 2048) :
    vScores m c (ix4 b h r s) = if s.val ≤ r.val then (((A.head b h).score r s - (A.head b h).c s : ℝ) : EReal) else ⊥ := by
  have hq : ∀ b r h d, (m (c, Proc.tc.devRef main_arg0) : Vec Ideal S4x2048x8x64 .f32) (ix4 b r h d) = ((A.q b r h d : ℝ) : EReal) :=
    fun b r h d => by rw [← hx.q b r h d, V_main_arg0]
  have hk : ∀ b r h d, (m (c, Proc.tc.devRef main_arg1) : Vec Ideal S4x2048x8x64 .f32) (ix4 b r h d) = ((A.k b r h d : ℝ) : EReal) :=
    fun b r h d => by rw [← hx.k b r h d, V_main_arg1]
  have hc : ∀ b h r, (m (c, Proc.tc.devRef main_arg3) : Vec Ideal S4x8x2048 .f32) (ix3 b h r) = ((A.c b h r : ℝ) : EReal) :=
    fun b h r => by rw [← hx.c b h r, V_main_arg3]
  unfold vScores V
  after_reads_at
  rw [le_bit, select_if, eighth_f32]
  simp only [hq, hk, hc, ← EReal.coe_mul, coe_sum, ← EReal.coe_sub]
  refine congrArg _ ?_
  exact ninf_f32

theorem max_host (r : Fin 2048) : ∃ M : ℝ, vMax m c (ix4 b h r 0) = (M : EReal) := by
  obtain ⟨M, hM⟩ := masked_row (fun s => vScores m c (ix4 b h r s)) r _ (scores_host m c hx b h r)
  refine ⟨M, ?_⟩
  rw [vMax_eq, ← hM, ← host_max (y := vScores m c) (h' := reducesTo_S4x8x2048x2048_S4x8x2048_d3) (hr := by decide) (hu := h_S_) (init := constant (F := Ideal) S_ .f32 0xFF800000#32) (hi := ninf_f32)]
  generalize Host.reduce (FloatOps.maximumf (F := Ideal) (φ := .f32)) (vScores m c) (constant S_ .f32 0xFF800000#32) reducesTo_S4x8x2048x2048_S4x8x2048_d3 h_S_ = y
  pointwise

/-- What comes off a row's scores: its maximum. -/
def less (r : Fin 2048) : ℝ := -(max_host m c hx b h r).choose

theorem exp_host (r s : Fin 2048) :
    vExp m c (ix4 b h r s) = (((A.head b h).shifted (less m c hx b h r) r s : ℝ) : EReal) := by
  rw [vExp_eq]
  pointwise
  rw [scores_host m c hx, (max_host m c hx b h r).choose_spec, exp_masked]
  rfl

theorem mass_host (r : Fin 2048) : vMass m c (ix4 b h r 0) = (((A.head b h).total (less m c hx b h r) r : ℝ) : EReal) := by
  rw [vMass_eq]
  pointwise
  simp only [exp_host m c hx, coe_sum]
  rfl

theorem prob_host (r s : Fin 2048) : vProb m c (ix4 b h r s) = (((A.head b h).prob r s : ℝ) : EReal) := by
  rw [vProb_eq]
  pointwise
  rw [mass_host m c hx, exp_host m c hx, Ideal.div_coe ((A.head b h).total_pos _ r).ne', ← EReal.coe_mul, Head.shifted_div]

theorem log_host (r : Fin 2048) :
    vLog m c (ix4 b h r 0) = ((-less m c hx b h r + Real.log ((A.head b h).total (less m c hx b h r) r) : ℝ) : EReal) := by
  have e : ∀ (x y : Vec Ideal S4x8x2048x1 .f32) (i : S4x8x2048x1.Idx),
      addf (F := Ideal) (φ := .f32) x (Host.log (F := Ideal) (φ := .f32) y) i = x i + Ideal.log (y i) := fun _ _ _ => rfl
  have hM : vMax m c (ix4 b h r 0) = ((-less m c hx b h r : ℝ) : EReal) := by
    unfold less; rw [neg_neg]; exact (max_host m c hx b h r).choose_spec
  rw [vLog_eq, e, mass_host m c hx, hM, Ideal.log_coe, if_neg (not_le.2 ((A.head b h).total_pos _ r)), ← EReal.coe_add]

end Cert.KernelIdeal.Fox

end
-- ==== Proof.HostArrays.lean ====
/-
  The arrays that the kernel is handed, at the exact values: each read at a token and a lane of a pair of heads.
-/
module

public import proofs.«01_k».proof.Proof.HostValue

@[expose] public section

noncomputable section

namespace Cert.KernelIdeal.Fox

open Idealize.ShloMosaic
open Cert.KernelIdeal Cert.KernelIdeal.Gen
open scoped BigOperators

variable (m : (ℓ : Loc nD τ sig) → Buf (Elt Ideal) ℓ) (c : Dev nD) {A : Args}
  (hx : A.In (V m c main_arg0) (V m c main_arg1) (V m c main_arg2) (V m c main_arg3) (V m c main_arg4))

/-- Lane `l` of pair `p`, among all the heads' lanes. -/
def pairCol (p : Fin 4) (l : Fin 128) : Fin 512 := ⟨128 * p.val + l.val, by have := p.isLt; have := l.isLt; omega⟩

/-- Lane `l` of pair `p`'s queries (0), keys (1) or values (2). -/
def triCol (p : Fin 4) (w : Fin 3) (l : Fin 128) : Fin 1536 :=
  ⟨384 * p.val + 128 * w.val + l.val, by have := p.isLt; have := w.isLt; have := l.isLt; omega⟩

/-- Any array over tokens and heads, its heads put side by side, read at a pair's lane. -/
theorem side_apply (y : Vec Ideal S4x2048x8x64 .f32) (b : Fin 4) (r : Fin 2048) (p : Fin 4) (l : Fin 128) :
    shapeCast S8192x512 y shapeCasts_S4x2048x8x64_S8192x512 (ix2 (tok b r) (pairCol p l)) = y (ix4 b r (laneHead p l) (laneCol l)) := by
  have hb := b.isLt; have hr := r.isLt; have hp := p.isLt; have hl := l.isLt
  refine shapeCast_apply y shapeCasts_S4x2048x8x64_S8192x512 _ _ ?_
  rewrite [Shape.rowMajor_val_four, Shape.rowMajor_val_two]
  show ((b.val * 2048 + r.val) * 8 + (2 * p.val + l.val / 64)) * 64 + l.val % 64 = (2048 * b.val + r.val) * 512 + (128 * p.val + l.val)
  omega

/-- Heads side by side. -/
def side (y : Vec Ideal S4x2048x8x64 .f32) : Vec Ideal S8192x512 .f32 := shapeCast S8192x512 y shapeCasts_S4x2048x8x64_S8192x512

theorem packedQ_host (R : Fin 8192) (p : Fin 4) (l : Fin 128) :
    vPacked m c (ix2 R (triCol p 0 l)) = side (V m c main_arg0) (ix2 R (pairCol p l)) := by
  have hp := p.isLt; have hl := l.isLt
  show _ = side (m (c, Proc.tc.devRef main_arg0)) _
  unfold vPacked V
  after_reads_at
  rw [dif_pos (by show (384 * p.val + 128 * 0 + l.val) / 128 % 3 * 512 + (384 * p.val + 128 * 0 + l.val) / 384 * 128 + (384 * p.val + 128 * 0 + l.val) % 128 < 512; omega)]
  after_reads_simp
  unfold side
  refine congrArg (fun j => shapeCast S8192x512 (m (c, Proc.tc.devRef main_arg0) : Vec Ideal S4x2048x8x64 .f32) shapeCasts_S4x2048x8x64_S8192x512 (ix2 R j)) (Fin.ext ?_)
  show (384 * p.val + 128 * 0 + l.val) / 128 % 3 * 512 + (384 * p.val + 128 * 0 + l.val) / 384 * 128 + (384 * p.val + 128 * 0 + l.val) % 128 = 128 * p.val + l.val
  omega

theorem packedK_host (R : Fin 8192) (p : Fin 4) (l : Fin 128) :
    vPacked m c (ix2 R (triCol p 1 l)) = side (V m c main_arg1) (ix2 R (pairCol p l)) := by
  have hp := p.isLt; have hl := l.isLt
  show _ = side (m (c, Proc.tc.devRef main_arg1)) _
  unfold vPacked V
  after_reads_at
  rw [dif_neg (by show ¬((384 * p.val + 128 * 1 + l.val) / 128 % 3 * 512 + (384 * p.val + 128 * 1 + l.val) / 384 * 128 + (384 * p.val + 128 * 1 + l.val) % 128 < 512); omega)]
  rw [dif_pos (by show (384 * p.val + 128 * 1 + l.val) / 128 % 3 * 512 + (384 * p.val + 128 * 1 + l.val) / 384 * 128 + (384 * p.val + 128 * 1 + l.val) % 128 - 512 < 512; omega)]
  after_reads_simp
  unfold side
  refine congrArg (fun j => shapeCast S8192x512 (m (c, Proc.tc.devRef main_arg1) : Vec Ideal S4x2048x8x64 .f32) shapeCasts_S4x2048x8x64_S8192x512 (ix2 R j)) (Fin.ext ?_)
  show (384 * p.val + 128 * 1 + l.val) / 128 % 3 * 512 + (384 * p.val + 128 * 1 + l.val) / 384 * 128 + (384 * p.val + 128 * 1 + l.val) % 128 - 512 = 128 * p.val + l.val
  omega

theorem packedV_host (R : Fin 8192) (p : Fin 4) (l : Fin 128) :
    vPacked m c (ix2 R (triCol p 2 l)) = side (V m c main_arg2) (ix2 R (pairCol p l)) := by
  have hp := p.isLt; have hl := l.isLt
  show _ = side (m (c, Proc.tc.devRef main_arg2)) _
  unfold vPacked V
  after_reads_at
  rw [dif_neg (by show ¬((384 * p.val + 128 * 2 + l.val) / 128 % 3 * 512 + (384 * p.val + 128 * 2 + l.val) / 384 * 128 + (384 * p.val + 128 * 2 + l.val) % 128 < 512); omega)]
  rw [dif_neg (by show ¬((384 * p.val + 128 * 2 + l.val) / 128 % 3 * 512 + (384 * p.val + 128 * 2 + l.val) / 384 * 128 + (384 * p.val + 128 * 2 + l.val) % 128 - 512 < 512); omega)]
  after_reads_simp
  unfold side
  refine congrArg (fun j => shapeCast S8192x512 (m (c, Proc.tc.devRef main_arg2) : Vec Ideal S4x2048x8x64 .f32) shapeCasts_S4x2048x8x64_S8192x512 (ix2 R j)) (Fin.ext ?_)
  show (384 * p.val + 128 * 2 + l.val) / 128 % 3 * 512 + (384 * p.val + 128 * 2 + l.val) / 384 * 128 + (384 * p.val + 128 * 2 + l.val) % 128 - 512 - 512 = 128 * p.val + l.val
  omega

include hx

theorem packed_host (b : Fin 4) (r : Fin 2048) (p : Fin 4) (l : Fin 128) :
    vPacked m c (ix2 (tok b r) (triCol p 0 l)) = (((A.head b (laneHead p l)).q r (laneCol l) : ℝ) : EReal)
      ∧ vPacked m c (ix2 (tok b r) (triCol p 1 l)) = (((A.head b (laneHead p l)).k r (laneCol l) : ℝ) : EReal)
      ∧ vPacked m c (ix2 (tok b r) (triCol p 2 l)) = (((A.head b (laneHead p l)).v r (laneCol l) : ℝ) : EReal) := by
  rw [packedQ_host, packedK_host, packedV_host]
  unfold side
  exact ⟨(side_apply _ b r p l).trans (hx.q _ _ _ _), (side_apply _ b r p l).trans (hx.k _ _ _ _), (side_apply _ b r p l).trans (hx.v _ _ _ _)⟩

theorem mixed_host (b : Fin 4) (r : Fin 2048) (p : Fin 4) (l : Fin 128) :
    vMixed m c (ix2 (tok b r) (pairCol p l)) = (((A.head b (laneHead p l)).mixed r (laneCol l) : ℝ) : EReal) := by
  rw [vMixed_eq, side_apply]
  have hv : ∀ b r h d, vVal m c (ix4 b r h d) = ((A.v b r h d : ℝ) : EReal) := hx.v
  pointwise
  simp only [prob_host m c hx, hv, ← EReal.coe_mul, coe_sum]
  refine congrArg _ (Finset.sum_congr rfl fun s _ => mul_comm _ _)

theorem lse_host (b : Fin 4) (r : Fin 2048) (p : Fin 4) (l : Fin 128) :
    vLse m c (ix2 (tok b r) (pairCol p l))
      = ((-less m c hx b (laneHead p l) r + Real.log ((A.head b (laneHead p l)).total (less m c hx b (laneHead p l) r) r) : ℝ) : EReal) := by
  rw [vLse_eq, side_apply, ← log_host]
  pointwise

theorem cot_host (b : Fin 4) (r : Fin 2048) (l : Fin 1024) : vCot m c (ix2 (tok b r) l) = ((A.y b r l : ℝ) : EReal) := by
  have hb := b.isLt; have hr := r.isLt
  have hy : ∀ b r l, (m (c, Proc.tc.devRef main_arg4) : Vec Ideal S4x2048x1024 .f32) (ix3 b r l) = ((A.y b r l : ℝ) : EReal) :=
    fun b r l => by rw [← hx.y b r l, V_main_arg4]
  rw [← hy]
  unfold vCot V
  after_reads_at
  refine congrArg₂ (fun b r => (m (c, Proc.tc.devRef main_arg4) : Vec Ideal S4x2048x1024 .f32) (ix3 b r l)) (Fin.ext ?_) (Fin.ext ?_)
  · show (2048 * b.val + r.val) / 2048 = b.val; omega
  · show (2048 * b.val + r.val) % 2048 = r.val; omega

end Cert.KernelIdeal.Fox

end
-- ==== Proof.Blocks.lean ====
/-
  The seven blocks the body reads at a point of the grid, as the numbers of a pair of heads of one batch.
-/
module

public import proofs.«01_k».proof.Proof.HeadSweep
public import proofs.«01_k».proof.Proof.HostArrays

@[expose] public section

noncomputable section

namespace Cert.KernelIdeal.Fox

open Idealize.ShloMosaic Idealize.ShloMosaic.TcCoe
open Cert.KernelIdeal Cert.KernelIdeal.Gen
open scoped BigOperators

/-- A point's batch, -/
def bOf (t : Fin cfg0.N) : Fin 4 := ⟨t.val / 16, by have : cfg0.N = 64 := N_0; omega⟩
/-- pair of heads -/
def pOf (t : Fin cfg0.N) : Fin 4 := ⟨t.val / 4 % 4, by omega⟩
/-- and key block. -/
def jOf (t : Fin cfg0.N) : Fin 4 := ⟨t.val % 4, by omega⟩

theorem coords_at : ∀ t : Fin cfg0.N, ((grid0.coords t) 0).val = t.val / 16 ∧ ((grid0.coords t) 1).val = t.val / 4 % 4 ∧ ((grid0.coords t) 2).val = t.val % 4 :=
  (by decide +kernel : ∀ t : Fin grid0.N, ((grid0.coords t) 0).val = t.val / 16 ∧ ((grid0.coords t) 1).val = t.val / 4 % 4 ∧ ((grid0.coords t) 2).val = t.val % 4)

theorem idx0 : ∀ t : Fin cfg0.N, win0_0.index t 0 = t.val / 16 ∧ win0_0.index t 1 = 3 * (t.val / 4 % 4) :=
  (by decide +kernel : ∀ t : Fin grid0.N, win0_0.index t 0 = t.val / 16 ∧ win0_0.index t 1 = 3 * (t.val / 4 % 4))
theorem idx1 : ∀ t : Fin cfg0.N, win0_1.index t 0 = 4 * (t.val / 16) + t.val % 4 ∧ win0_1.index t 1 = 3 * (t.val / 4 % 4) + 1 :=
  (by decide +kernel : ∀ t : Fin grid0.N, win0_1.index t 0 = 4 * (t.val / 16) + t.val % 4 ∧ win0_1.index t 1 = 3 * (t.val / 4 % 4) + 1)
theorem idx2 : ∀ t : Fin cfg0.N, win0_2.index t 0 = 4 * (t.val / 16) + t.val % 4 ∧ win0_2.index t 1 = 3 * (t.val / 4 % 4) + 2 :=
  (by decide +kernel : ∀ t : Fin grid0.N, win0_2.index t 0 = 4 * (t.val / 16) + t.val % 4 ∧ win0_2.index t 1 = 3 * (t.val / 4 % 4) + 2)
theorem idx3 : ∀ t : Fin cfg0.N, win0_3.index t 0 = t.val / 16 ∧ win0_3.index t 1 = t.val / 4 % 4 :=
  (by decide +kernel : ∀ t : Fin grid0.N, win0_3.index t 0 = t.val / 16 ∧ win0_3.index t 1 = t.val / 4 % 4)
theorem idx4 : ∀ t : Fin cfg0.N, win0_4.index t 0 = t.val / 16 ∧ win0_4.index t 1 = 4 + t.val / 4 % 4 :=
  (by decide +kernel : ∀ t : Fin grid0.N, win0_4.index t 0 = t.val / 16 ∧ win0_4.index t 1 = 4 + t.val / 4 % 4)
theorem idx5 : ∀ t : Fin cfg0.N, win0_5.index t 0 = t.val / 16 ∧ win0_5.index t 1 = t.val / 4 % 4 :=
  (by decide +kernel : ∀ t : Fin grid0.N, win0_5.index t 0 = t.val / 16 ∧ win0_5.index t 1 = t.val / 4 % 4)
theorem idx6 : ∀ t : Fin cfg0.N, win0_6.index t 0 = t.val / 16 ∧ win0_6.index t 1 = 0 ∧ win0_6.index t 2 = 0 :=
  (by decide +kernel : ∀ t : Fin grid0.N, win0_6.index t 0 = t.val / 16 ∧ win0_6.index t 1 = 0 ∧ win0_6.index t 2 = 0)

variable (m : (ℓ : Loc nD τ sig) → Buf (Elt Ideal) ℓ) (c : Dev nD) (t : Fin cfg0.N)

theorem read0 (X : Vec Ideal S8192x1536 .bf16) (R : Fin 2048) (l : Fin 128) :
    ((cfg0.win 0).blk t).view.read (Elt Ideal) X (ix2 R l) = X (ix2 (tok (bOf t) R) (triCol (pOf t) 0 l)) := by
  show X ((win0_0.rect t).emb (ix2 R l)) = X _
  refine congrArg X (funext fun a => Fin.ext ?_)
  rw [Pipeline.Window.rect_emb_val win0_0 t (ix2 R l) a]
  match a with
  | ⟨0, _⟩ =>
    show win0_0.index t 0 * 2048 + R.val = 2048 * (t.val / 16) + R.val
    rw [(idx0 t).1]; omega
  | ⟨1, _⟩ =>
    show win0_0.index t 1 * 128 + l.val = 384 * (t.val / 4 % 4) + 128 * 0 + l.val
    rw [(idx0 t).2]; omega

theorem iblk0_apply (R : Fin 2048) (l : Fin 128) : iblk m c 0 t (ix2 R l) = vPacked m c (ix2 (tok (bOf t) R) (triCol (pOf t) 0 l)) := by
  unfold iblk vPacked
  exact read0 t (V m c main_v7) R l

theorem read1 (X : Vec Ideal S8192x1536 .bf16) (s : Fin 512) (l : Fin 128) :
    ((cfg0.win 1).blk t).view.read (Elt Ideal) X (ix2 s l) = X (ix2 (tok (bOf t) (row (jOf t) s)) (triCol (pOf t) 1 l)) := by
  show X ((win0_1.rect t).emb (ix2 s l)) = X _
  refine congrArg X (funext fun a => Fin.ext ?_)
  rw [Pipeline.Window.rect_emb_val win0_1 t (ix2 s l) a]
  match a with
  | ⟨0, _⟩ =>
    show win0_1.index t 0 * 512 + s.val = 2048 * (t.val / 16) + (512 * (t.val % 4) + s.val)
    rw [(idx1 t).1]; omega
  | ⟨1, _⟩ =>
    show win0_1.index t 1 * 128 + l.val = 384 * (t.val / 4 % 4) + 128 * 1 + l.val
    rw [(idx1 t).2]; omega

theorem iblk1_apply (s : Fin 512) (l : Fin 128) : iblk m c 1 t (ix2 s l) = vPacked m c (ix2 (tok (bOf t) (row (jOf t) s)) (triCol (pOf t) 1 l)) := by
  unfold iblk vPacked
  exact read1 t (V m c main_v7) s l

theorem read2 (X : Vec Ideal S8192x1536 .bf16) (s : Fin 512) (l : Fin 128) :
    ((cfg0.win 2).blk t).view.read (Elt Ideal) X (ix2 s l) = X (ix2 (tok (bOf t) (row (jOf t) s)) (triCol (pOf t) 2 l)) := by
  show X ((win0_2.rect t).emb (ix2 s l)) = X _
  refine congrArg X (funext fun a => Fin.ext ?_)
  rw [Pipeline.Window.rect_emb_val win0_2 t (ix2 s l) a]
  match a with
  | ⟨0, _⟩ =>
    show win0_2.index t 0 * 512 + s.val = 2048 * (t.val / 16) + (512 * (t.val % 4) + s.val)
    rw [(idx2 t).1]; omega
  | ⟨1, _⟩ =>
    show win0_2.index t 1 * 128 + l.val = 384 * (t.val / 4 % 4) + 128 * 2 + l.val
    rw [(idx2 t).2]; omega

theorem iblk2_apply (s : Fin 512) (l : Fin 128) : iblk m c 2 t (ix2 s l) = vPacked m c (ix2 (tok (bOf t) (row (jOf t) s)) (triCol (pOf t) 2 l)) := by
  unfold iblk vPacked
  exact read2 t (V m c main_v7) s l

theorem read3 (X : Vec Ideal S8192x512 .f32) (R : Fin 2048) (l : Fin 128) :
    ((cfg0.win 3).blk t).view.read (Elt Ideal) X (ix2 R l) = X (ix2 (tok (bOf t) R) (pairCol (pOf t) l)) := by
  show X ((win0_3.rect t).emb (ix2 R l)) = X _
  refine congrArg X (funext fun a => Fin.ext ?_)
  rw [Pipeline.Window.rect_emb_val win0_3 t (ix2 R l) a]
  match a with
  | ⟨0, _⟩ =>
    show win0_3.index t 0 * 2048 + R.val = 2048 * (t.val / 16) + R.val
    rw [(idx3 t).1]; omega
  | ⟨1, _⟩ =>
    show win0_3.index t 1 * 128 + l.val = 128 * (t.val / 4 % 4) + l.val
    rw [(idx3 t).2]; omega

theorem iblk3_apply (R : Fin 2048) (l : Fin 128) : iblk m c 3 t (ix2 R l) = vMixed m c (ix2 (tok (bOf t) R) (pairCol (pOf t) l)) := by
  unfold iblk vMixed
  exact read3 t (V m c main_v33) R l

theorem read4 (X : Vec Ideal S8192x1024 .bf16) (R : Fin 2048) (l : Fin 128) :
    ((cfg0.win 4).blk t).view.read (Elt Ideal) X (ix2 R l) = X (ix2 (tok (bOf t) R) (outCol (laneHead (pOf t) l) (laneCol l))) := by
  show X ((win0_4.rect t).emb (ix2 R l)) = X _
  refine congrArg X (funext fun a => Fin.ext ?_)
  rw [Pipeline.Window.rect_emb_val win0_4 t (ix2 R l) a]
  match a with
  | ⟨0, _⟩ =>
    show win0_4.index t 0 * 2048 + R.val = 2048 * (t.val / 16) + R.val
    rw [(idx4 t).1]; omega
  | ⟨1, _⟩ =>
    show win0_4.index t 1 * 128 + l.val = 512 + ((2 * (t.val / 4 % 4) + l.val / 64) * 64 + l.val % 64)
    rw [(idx4 t).2]; omega

theorem iblk4_apply (R : Fin 2048) (l : Fin 128) : iblk m c 4 t (ix2 R l) = vCot m c (ix2 (tok (bOf t) R) (outCol (laneHead (pOf t) l) (laneCol l))) := by
  unfold iblk vCot
  exact read4 t (V m c main_v42) R l

theorem read5 (X : Vec Ideal S8192x512 .f32) (R : Fin 2048) (l : Fin 128) :
    ((cfg0.win 5).blk t).view.read (Elt Ideal) X (ix2 R l) = X (ix2 (tok (bOf t) R) (pairCol (pOf t) l)) := by
  show X ((win0_5.rect t).emb (ix2 R l)) = X _
  refine congrArg X (funext fun a => Fin.ext ?_)
  rw [Pipeline.Window.rect_emb_val win0_5 t (ix2 R l) a]
  match a with
  | ⟨0, _⟩ =>
    show win0_5.index t 0 * 2048 + R.val = 2048 * (t.val / 16) + R.val
    rw [(idx5 t).1]; omega
  | ⟨1, _⟩ =>
    show win0_5.index t 1 * 128 + l.val = 128 * (t.val / 4 % 4) + l.val
    rw [(idx5 t).2]; omega

theorem iblk5_apply (R : Fin 2048) (l : Fin 128) : iblk m c 5 t (ix2 R l) = vLse m c (ix2 (tok (bOf t) R) (pairCol (pOf t) l)) := by
  unfold iblk vLse
  exact read5 t (V m c main_v40) R l

theorem read6 (X : Vec Ideal S4x8x2048 .f32) (h : Fin 8) (s : Fin 2048) :
    ((cfg0.win 6).blk t).view.read (Elt Ideal) X (ix3 0 h s) = X (ix3 (bOf t) h s) := by
  show X ((win0_6.rect t).emb (ix3 0 h s)) = X _
  refine congrArg X (funext fun a => Fin.ext ?_)
  rw [Pipeline.Window.rect_emb_val win0_6 t (ix3 0 h s) a]
  match a with
  | ⟨0, _⟩ =>
    show win0_6.index t 0 * 1 + 0 = t.val / 16
    rw [(idx6 t).1]; omega
  | ⟨1, _⟩ =>
    show win0_6.index t 1 * 8 + h.val = h.val
    rw [(idx6 t).2.1]; omega
  | ⟨2, _⟩ =>
    show win0_6.index t 2 * 2048 + s.val = s.val
    rw [(idx6 t).2.2]; omega

theorem iblk6_apply (h : Fin 8) (s : Fin 2048) : iblk m c 6 t (ix3 0 h s) = V m c main_arg3 (ix3 (bOf t) h s) := by
  unfold iblk
  exact read6 t (V m c main_arg3) h s

variable {A : Args}
  (hx : A.In (V m c main_arg0) (V m c main_arg1) (V m c main_arg2) (V m c main_arg3) (V m c main_arg4))

/-- The heads of the point's batch, -/
abbrev heads (A : Args) (t : Fin cfg0.N) : Fin 8 → Head := fun h => A.head (bOf t) h
/-- and what was taken off their scores. -/
abbrev lessOf : Fin 8 → Fin 2048 → ℝ := fun h r => less m c hx (bOf t) h r

include hx

theorem holds0 : Holds2 (n := 2048) (m := 128) (iblk m c 0 t) (pQ (heads A t) (pOf t)) := fun R l =>
  (iblk0_apply m c t R l).trans (packed_host m c hx (bOf t) R (pOf t) l).1
theorem holds1 : Holds2 (n := 512) (m := 128) (iblk m c 1 t) (pK (heads A t) (pOf t) (jOf t)) := fun s l =>
  (iblk1_apply m c t s l).trans (packed_host m c hx (bOf t) _ (pOf t) l).2.1
theorem holds2 : Holds2 (n := 512) (m := 128) (iblk m c 2 t) (pV (heads A t) (pOf t) (jOf t)) := fun s l =>
  (iblk2_apply m c t s l).trans (packed_host m c hx (bOf t) _ (pOf t) l).2.2
theorem holds3 : Holds2 (n := 2048) (m := 128) (iblk m c 3 t) (pO (heads A t) (pOf t)) := fun R l =>
  (iblk3_apply m c t R l).trans (mixed_host m c hx (bOf t) R (pOf t) l)
theorem holds4 : Holds2 (n := 2048) (m := 128) (iblk m c 4 t) (pD (heads A t) (pOf t)) := fun R l =>
  (iblk4_apply m c t R l).trans (cot_host m c hx (bOf t) R _)
theorem holds5 : Holds2 (n := 2048) (m := 128) (iblk m c 5 t) (pL (heads A t) (lessOf m c t hx) (pOf t)) := fun R l =>
  (iblk5_apply m c t R l).trans (lse_host m c hx (bOf t) R (pOf t) l)
theorem holds6 (h : Fin 8) (s : Fin 2048) : iblk m c 6 t (ix3 0 h s) = ((pC (heads A t) h s : ℝ) : EReal) :=
  (iblk6_apply m c t h s).trans (hx.c _ _ _)

end Cert.KernelIdeal.Fox

end
-- ==== Proof.Point.lean ====
/-
  What the kernel leaves after each point of its grid, as reals: the scratch holds the query gradient's shares of the
  key blocks swept so far; the block of dz holds the key and value gradients of those blocks, and after the fourth the
  query gradient as well; the block of the gradient of c holds the key block's gate gradients.
-/
module

public import proofs.«01_k».proof.Proof.PairBlocks
public import proofs.«01_k».proof.Proof.PiecesA
public import proofs.«01_k».proof.Proof.PiecesB
public import proofs.«01_k».proof.Proof.PiecesC
public import proofs.«01_k».proof.Proof.PiecesD
public import proofs.«01_k».proof.Proof.Frame
public import proofs.«01_k».proof.Proof.Blocks

@[expose] public section

noncomputable section

namespace Cert.KernelIdeal.Fox

open Idealize.ShloMosaic Idealize.ShloMosaic.TcCoe
open Cert.KernelIdeal Cert.KernelIdeal.Gen
open scoped BigOperators

/-- The query gradient's shares of key blocks 0 to `n`. -/
def sofar (H : Fin 8 → Head) (p : Fin 4) (n : ℕ) (R : Fin 2048) (l : Fin 128) : ℝ := ∑ j : Fin 4, if j.val ≤ n then share H p j R l else 0

theorem sofar_zero (H : Fin 8 → Head) (p : Fin 4) : sofar H p 0 = fun R l => share H p 0 R l := by
  funext R l; unfold sofar; rw [Fin.sum_univ_four]; simp
theorem sofar_one (H : Fin 8 → Head) (p : Fin 4) : sofar H p 1 = fun R l => sofar H p 0 R l + share H p 1 R l := by
  funext R l; unfold sofar; rw [Fin.sum_univ_four, Fin.sum_univ_four]; simp
theorem sofar_two (H : Fin 8 → Head) (p : Fin 4) : sofar H p 2 = fun R l => sofar H p 1 R l + share H p 2 R l := by
  funext R l; unfold sofar; rw [Fin.sum_univ_four, Fin.sum_univ_four]; simp
theorem sofar_three (H : Fin 8 → Head) (p : Fin 4) : sofar H p 3 = fun R l => sofar H p 2 R l + share H p 3 R l := by
  funext R l; unfold sofar; rw [Fin.sum_univ_four, Fin.sum_univ_four]; simp
theorem sofar_all (H : Fin 8 → Head) (p : Fin 4) (R : Fin 2048) (l : Fin 128) : sofar H p 3 R l = (H (laneHead p l)).gradQ R (laneCol l) := by
  rw [← sum_share]
  exact Finset.sum_congr rfl fun j _ => if_pos (by have := j.isLt; omega)

variable (m : (ℓ : Loc nD τ sig) → Buf (Elt Ideal) ℓ) (c : Dev nD)
variable {A : Args}
  (hx : A.In (V m c main_arg0) (V m c main_arg1) (V m c main_arg2) (V m c main_arg3) (V m c main_arg4))

/-- The blocks of point `t` hold its pair's numbers. -/
theorem blocks_at (t : Fin cfg0.N) : PairBlocks (heads A t) (lessOf m c t hx) (pOf t) (jOf t)
    (iblk m c 0 t) (iblk m c 1 t) (iblk m c 2 t) (iblk m c 3 t) (iblk m c 4 t) (iblk m c 5 t) (iblk m c 6 t) :=
  ⟨holds0 m c t hx, holds1 m c t hx, holds2 m c t hx, holds3 m c t hx, holds4 m c t hx, holds5 m c t hx, holds6 m c t hx⟩

theorem blocks_j (t : Fin cfg0.N) (j : Fin 4) (h : t.val % 4 = j.val) : PairBlocks (heads A t) (lessOf m c t hx) (pOf t) j
    (iblk m c 0 t) (iblk m c 1 t) (iblk m c 2 t) (iblk m c 3 t) (iblk m c 4 t) (iblk m c 5 t) (iblk m c 6 t) := by
  have e : jOf t = j := Fin.ext h
  have B := blocks_at m c hx t
  rw [e] at B
  exact B

include hx

theorem after_scrA (t : Fin cfg0.N) (h : t.val % 4 = 0) : Holds2 (scrA m c t h) (fun R l => share (heads A t) (pOf t) 0 R l) := by
  have e : (atA m c t h).1 = _ := piecesA_scr _ _ _ _ _ _ _ _ _ _ _ _ _ _ _ _ _ _ _ _ _ _ _ _ _ _ _ _ _ _ _ _ _ _
  unfold scrA
  rw [e]
  exact scrA_holds (coords_at t).2.1 _ _ _ (blocks_j m c hx t 0 h)

theorem after_scrB (t : Fin cfg0.N) (h : t.val % 4 = 1) {xs : Vec Ideal S2048x128 .f32} {X : Fin 2048 → Fin 128 → ℝ} (hX : Holds2 xs X) :
    Holds2 (scrB m c t h xs) (fun R l => X R l + share (heads A t) (pOf t) 1 R l) := by
  have e : (atB m c t h xs).1 = _ := piecesB_scr _ _ _ _ _ _ _ _ _ _ _ _ _ _ _ _ _ _ _ _ _ _ _ _ _ _ _ _ _ _ _ _ _ _ _
  unfold scrB
  rw [e]
  exact scrB_holds (coords_at t).2.1 _ _ hX (Memref.IsWhole.read_unread _ _) (blocks_j m c hx t 1 h)

theorem after_scrC (t : Fin cfg0.N) (h : t.val % 4 = 2) {xs : Vec Ideal S2048x128 .f32} {X : Fin 2048 → Fin 128 → ℝ} (hX : Holds2 xs X) :
    Holds2 (scrC m c t h xs) (fun R l => X R l + share (heads A t) (pOf t) 2 R l) := by
  have e : (atC m c t h xs).1 = _ := piecesC_scr _ _ _ _ _ _ _ _ _ _ _ _ _ _ _ _ _ _ _ _ _ _ _ _ _ _ _ _ _ _ _ _ _ _ _
  unfold scrC
  rw [e]
  exact scrC_holds (coords_at t).2.1 _ _ hX (Memref.IsWhole.read_unread _ _) (blocks_j m c hx t 2 h)

theorem after_scrD (t : Fin cfg0.N) (h : t.val % 4 = 3) {xs : Vec Ideal S2048x128 .f32} {X : Fin 2048 → Fin 128 → ℝ} (hX : Holds2 xs X) :
    Holds2 (scrD m c t h xs) (fun R l => X R l + share (heads A t) (pOf t) 3 R l) := by
  have e : (atD m c t h xs).1 = _ := piecesD_scr _ _ _ _ _ _ _ _ _ _ _ _ _ _ _ _ _ _ _ _ _ _ _ _ _ _ _ _ _ _ _ _ _ _ _
  unfold scrD
  rw [e]
  exact scrD_holds (coords_at t).2.1 _ _ hX (Memref.IsWhole.read_unread _ _) (blocks_j m c hx t 3 h)

/-- The scratch after every point. -/
theorem after_scr : ∀ (n : ℕ) (hn : n < cfg0.N), Holds2 (scrAt m c n hn) (sofar (heads A ⟨n, hn⟩) (pOf ⟨n, hn⟩) (n % 4)) := by
  intro n
  induction n with
  | zero =>
    intro hn
    have e0 : 0 % 4 = 0 := rfl
    rw [e0, sofar_zero, scrAt_A m c ⟨0, hn⟩ rfl]
    exact after_scrA m c hx ⟨0, hn⟩ rfl
  | succ n ih =>
    intro hn
    have ih := ih (Nat.lt_of_succ_lt hn)
    have same : ¬ (n + 1) % 4 = 0 → heads A ⟨n, Nat.lt_of_succ_lt hn⟩ = heads A ⟨n + 1, hn⟩ ∧ pOf ⟨n, Nat.lt_of_succ_lt hn⟩ = pOf ⟨n + 1, hn⟩ := by
      intro h
      have eb : bOf ⟨n, Nat.lt_of_succ_lt hn⟩ = bOf ⟨n + 1, hn⟩ := Fin.ext (by show n / 16 = (n + 1) / 16; omega)
      refine ⟨?_, Fin.ext (by show n / 4 % 4 = (n + 1) / 4 % 4; omega)⟩
      unfold heads
      rw [eb]
    rcases (by omega : (n + 1) % 4 = 0 ∨ (n + 1) % 4 = 1 ∨ (n + 1) % 4 = 2 ∨ (n + 1) % 4 = 3) with h | h | h | h
    · rw [scrAt_A m c ⟨n + 1, hn⟩ h, h, sofar_zero]
      exact after_scrA m c hx ⟨n + 1, hn⟩ h
    · obtain ⟨e1, e2⟩ := same (by omega)
      rw [e1, e2, show n % 4 = 0 by omega] at ih
      rw [scrAt_B m c ⟨n + 1, hn⟩ h, h, sofar_one]
      exact after_scrB m c hx ⟨n + 1, hn⟩ h ih
    · obtain ⟨e1, e2⟩ := same (by omega)
      rw [e1, e2, show n % 4 = 1 by omega] at ih
      rw [scrAt_C m c ⟨n + 1, hn⟩ h, h, sofar_two]
      exact after_scrC m c hx ⟨n + 1, hn⟩ h ih
    · obtain ⟨e1, e2⟩ := same (by omega)
      rw [e1, e2, show n % 4 = 2 by omega] at ih
      rw [scrAt_D m c ⟨n + 1, hn⟩ h, h, sofar_three]
      exact after_scrD m c hx ⟨n + 1, hn⟩ h ih

/-- The block of the gradient of c after every point. -/
theorem after_dc (t : Fin cfg0.N) (e : Fin 2) (s : Fin 512) :
    dcAt m c t (ix4 0 0 e s) = (((heads A t (headOf (pOf t) e)).gradC (row (jOf t) s) : ℝ) : EReal) := by
  have two : ∀ x : EReal, ∀ y : Fin 2 → EReal, (if e = 1 then y 1 else y 0) = y e := by
    intro _ y; fin_cases e <;> rfl
  rcases (by omega : t.val % 4 = 0 ∨ t.val % 4 = 1 ∨ t.val % 4 = 2 ∨ t.val % 4 = 3) with h | h | h | h
  · have ep : (atA m c t h).2.2.1 = _ := piecesA_dc _ _ _ _ _ _ _ _ _ _ _ _ _ _ _ _ _ _ _ _ _ _ _ _ _ _ _ _ _ _ _ _ _ _
    have ej : jOf t = 0 := Fin.ext h
    unfold dcAt
    rw [dif_pos h]
    unfold dcA
    rw [ep, ej]
    refine (canon_pair _ _ _ _ e s).trans ?_
    have q := fun e => outC_head (coords_at t).2.1 (blocks_j m c hx t 0 h) e s
    exact (two 0 fun e => outC (gC (grid0.coords t) 0 (iblk m c 0 t) (iblk m c 1 t) (iblk m c 2 t) (iblk m c 3 t) (iblk m c 4 t) (iblk m c 5 t) (iblk m c 6 t) e) (ix4 0 0 0 s)).trans (q e)
  · have ep : (atB m c t h (scrBefore m c t)).2.2.1 = _ := piecesB_dc _ _ _ _ _ _ _ _ _ _ _ _ _ _ _ _ _ _ _ _ _ _ _ _ _ _ _ _ _ _ _ _ _ _ _
    have ej : jOf t = 1 := Fin.ext h
    unfold dcAt
    rw [dif_neg (by omega), dif_pos h]
    unfold dcB
    rw [ep, ej]
    refine (canon_pair _ _ _ _ e s).trans ?_
    have q := fun e => outC_head (coords_at t).2.1 (blocks_j m c hx t 1 h) e s
    exact (two 0 fun e => outC (gC (grid0.coords t) 1 (iblk m c 0 t) (iblk m c 1 t) (iblk m c 2 t) (iblk m c 3 t) (iblk m c 4 t) (iblk m c 5 t) (iblk m c 6 t) e) (ix4 0 0 0 s)).trans (q e)
  · have ep : (atC m c t h (scrBefore m c t)).2.2.1 = _ := piecesC_dc _ _ _ _ _ _ _ _ _ _ _ _ _ _ _ _ _ _ _ _ _ _ _ _ _ _ _ _ _ _ _ _ _ _ _
    have ej : jOf t = 2 := Fin.ext h
    unfold dcAt
    rw [dif_neg (by omega), dif_neg (by omega), dif_pos h]
    unfold dcC
    rw [ep, ej]
    refine (canon_pair _ _ _ _ e s).trans ?_
    have q := fun e => outC_head (coords_at t).2.1 (blocks_j m c hx t 2 h) e s
    exact (two 0 fun e => outC (gC (grid0.coords t) 2 (iblk m c 0 t) (iblk m c 1 t) (iblk m c 2 t) (iblk m c 3 t) (iblk m c 4 t) (iblk m c 5 t) (iblk m c 6 t) e) (ix4 0 0 0 s)).trans (q e)
  · have ep : (atD m c t h (scrBefore m c t)).2.2.1 = _ := piecesD_dc _ _ _ _ _ _ _ _ _ _ _ _ _ _ _ _ _ _ _ _ _ _ _ _ _ _ _ _ _ _ _ _ _ _ _
    have ej : jOf t = 3 := Fin.ext h
    unfold dcAt
    rw [dif_neg (by omega), dif_neg (by omega), dif_neg (by omega)]
    unfold dcD
    rw [ep, ej]
    refine (canon_pair _ _ _ _ e s).trans ?_
    have q := fun e => outC_head (coords_at t).2.1 (blocks_j m c hx t 3 h) e s
    exact (two 0 fun e => outC (gC (grid0.coords t) 3 (iblk m c 0 t) (iblk m c 1 t) (iblk m c 2 t) (iblk m c 3 t) (iblk m c 4 t) (iblk m c 5 t) (iblk m c 6 t) e) (ix4 0 0 0 s)).trans (q e)

/-- What the block of dz at point `t` should hold in part `w` at row `R`. -/
def dzWant (A : Args) (t : Fin cfg0.N) (w : Fin 3) (R : Fin 2048) (l : Fin 128) : ℝ :=
  match w with
  | 0 => (heads A t (laneHead (pOf t) l)).gradQ R (laneCol l)
  | 1 => (heads A t (laneHead (pOf t) l)).gradK R (laneCol l)
  | 2 => (heads A t (laneHead (pOf t) l)).gradV R (laneCol l)

/-- Key block 0 stores its rows of the key and value parts and leaves the rest. -/
theorem after_dzA (t : Fin cfg0.N) (h : t.val % 4 = 0) (d : Vec Ideal S2048x384 .bf16) (i : Fin 4) (r : Fin 512) (w : Fin 3) (l : Fin 128) (hw : w ≠ 0) :
    dzA m c t h d (ix2 (row i r) (part w l)) = if i = 0 then ((dzWant A t w (row i r) l : ℝ) : EReal) else d (ix2 (row i r) (part w l)) := by
  have ep : (atA m c t h).2.1 = _ := piecesA_dz _ _ _ _ _ _ _ _ _ _ _ _ _ _ _ _ _ _ _ _ _ _ _ _ _ _ _ _ _ _ _ _ _ _
  unfold dzA
  rw [ep]
  have keep : ∀ q, (ms0_7 t).view.read (Elt Ideal) ((hs0_7 t).unread d) q = d q := fun q => congrFun ((hs0_7 t).read_unread d) q
  rw [read_part _ _ 0 2 0 256 rfl rfl, read_part _ _ 0 1 0 128 rfl rfl]
  by_cases hi : i = 0
  · subst hi
    rw [if_pos rfl]
    have hw2 := w.isLt
    have hw0 : w.val ≠ 0 := fun e => hw (Fin.ext e)
    rcases (by omega : w.val = 1 ∨ w.val = 2) with e | e
    · obtain rfl : w = 1 := Fin.ext e
      rw [if_neg (by decide), if_pos ⟨rfl, rfl⟩]
      exact outK_head (coords_at t).2.1 (blocks_j m c hx t 0 h) r l
    · obtain rfl : w = 2 := Fin.ext e
      rw [if_pos ⟨rfl, rfl⟩]
      exact outV_head (coords_at t).2.1 (blocks_j m c hx t 0 h) r l
  · rw [if_neg hi, if_neg (fun e => hi e.1), if_neg (fun e => hi e.1)]
    exact keep _

/-- Key block 1 stores its rows of the key and value parts and leaves the rest. -/
theorem after_dzB (t : Fin cfg0.N) (h : t.val % 4 = 1) (xs : Vec Ideal S2048x128 .f32) (d : Vec Ideal S2048x384 .bf16) (i : Fin 4) (r : Fin 512) (w : Fin 3) (l : Fin 128) (hw : w ≠ 0) :
    dzB m c t h xs d (ix2 (row i r) (part w l)) = if i = 1 then ((dzWant A t w (row i r) l : ℝ) : EReal) else d (ix2 (row i r) (part w l)) := by
  have ep : (atB m c t h xs).2.1 = _ := piecesB_dz _ _ _ _ _ _ _ _ _ _ _ _ _ _ _ _ _ _ _ _ _ _ _ _ _ _ _ _ _ _ _ _ _ _ _
  unfold dzB
  rw [ep]
  have keep : ∀ q, (ms0_7 t).view.read (Elt Ideal) ((hs0_7 t).unread d) q = d q := fun q => congrFun ((hs0_7 t).read_unread d) q
  rw [read_part _ _ 1 2 512 256 rfl rfl, read_part _ _ 1 1 512 128 rfl rfl]
  by_cases hi : i = 1
  · subst hi
    rw [if_pos rfl]
    have hw2 := w.isLt
    have hw0 : w.val ≠ 0 := fun e => hw (Fin.ext e)
    rcases (by omega : w.val = 1 ∨ w.val = 2) with e | e
    · obtain rfl : w = 1 := Fin.ext e
      rw [if_neg (by decide), if_pos ⟨rfl, rfl⟩]
      exact outK_head (coords_at t).2.1 (blocks_j m c hx t 1 h) r l
    · obtain rfl : w = 2 := Fin.ext e
      rw [if_pos ⟨rfl, rfl⟩]
      exact outV_head (coords_at t).2.1 (blocks_j m c hx t 1 h) r l
  · rw [if_neg hi, if_neg (fun e => hi e.1), if_neg (fun e => hi e.1)]
    exact keep _

/-- Key block 2 stores its rows of the key and value parts and leaves the rest. -/
theorem after_dzC (t : Fin cfg0.N) (h : t.val % 4 = 2) (xs : Vec Ideal S2048x128 .f32) (d : Vec Ideal S2048x384 .bf16) (i : Fin 4) (r : Fin 512) (w : Fin 3) (l : Fin 128) (hw : w ≠ 0) :
    dzC m c t h xs d (ix2 (row i r) (part w l)) = if i = 2 then ((dzWant A t w (row i r) l : ℝ) : EReal) else d (ix2 (row i r) (part w l)) := by
  have ep : (atC m c t h xs).2.1 = _ := piecesC_dz _ _ _ _ _ _ _ _ _ _ _ _ _ _ _ _ _ _ _ _ _ _ _ _ _ _ _ _ _ _ _ _ _ _ _
  unfold dzC
  rw [ep]
  have keep : ∀ q, (ms0_7 t).view.read (Elt Ideal) ((hs0_7 t).unread d) q = d q := fun q => congrFun ((hs0_7 t).read_unread d) q
  rw [read_part _ _ 2 2 1024 256 rfl rfl, read_part _ _ 2 1 1024 128 rfl rfl]
  by_cases hi : i = 2
  · subst hi
    rw [if_pos rfl]
    have hw2 := w.isLt
    have hw0 : w.val ≠ 0 := fun e => hw (Fin.ext e)
    rcases (by omega : w.val = 1 ∨ w.val = 2) with e | e
    · obtain rfl : w = 1 := Fin.ext e
      rw [if_neg (by decide), if_pos ⟨rfl, rfl⟩]
      exact outK_head (coords_at t).2.1 (blocks_j m c hx t 2 h) r l
    · obtain rfl : w = 2 := Fin.ext e
      rw [if_pos ⟨rfl, rfl⟩]
      exact outV_head (coords_at t).2.1 (blocks_j m c hx t 2 h) r l
  · rw [if_neg hi, if_neg (fun e => hi e.1), if_neg (fun e => hi e.1)]
    exact keep _

/-- Key block 3 stores its rows of the key and value parts and leaves the rest. -/
theorem after_dzD (t : Fin cfg0.N) (h : t.val % 4 = 3) (xs : Vec Ideal S2048x128 .f32) (d : Vec Ideal S2048x384 .bf16) (i : Fin 4) (r : Fin 512) (w : Fin 3) (l : Fin 128) (hw : w ≠ 0) :
    dzD m c t h xs d (ix2 (row i r) (part w l)) = if i = 3 then ((dzWant A t w (row i r) l : ℝ) : EReal) else d (ix2 (row i r) (part w l)) := by
  have ep : (atD m c t h xs).2.1 = _ := piecesD_dz _ _ _ _ _ _ _ _ _ _ _ _ _ _ _ _ _ _ _ _ _ _ _ _ _ _ _ _ _ _ _ _ _ _ _
  unfold dzD
  rw [ep]
  have keep : ∀ q, (ms0_7 t).view.read (Elt Ideal) ((hs0_7 t).unread d) q = d q := fun q => congrFun ((hs0_7 t).read_unread d) q
  rw [read_first _ _, if_neg hw, read_part _ _ 3 2 1536 256 rfl rfl, read_part _ _ 3 1 1536 128 rfl rfl]
  by_cases hi : i = 3
  · subst hi
    rw [if_pos rfl]
    have hw2 := w.isLt
    have hw0 : w.val ≠ 0 := fun e => hw (Fin.ext e)
    rcases (by omega : w.val = 1 ∨ w.val = 2) with e | e
    · obtain rfl : w = 1 := Fin.ext e
      rw [if_neg (by decide), if_pos ⟨rfl, rfl⟩]
      exact outK_head (coords_at t).2.1 (blocks_j m c hx t 3 h) r l
    · obtain rfl : w = 2 := Fin.ext e
      rw [if_pos ⟨rfl, rfl⟩]
      exact outV_head (coords_at t).2.1 (blocks_j m c hx t 3 h) r l
  · rw [if_neg hi, if_neg (fun e => hi e.1), if_neg (fun e => hi e.1)]
    exact keep _

omit hx in
/-- The cast keeps each number. -/
theorem truncf_val (x : FVec Ideal S2048x128 .f32) (h : FTy.bits .bf16 < FTy.bits .f32) (i : S2048x128.Idx) : (truncf (F := Ideal) .bf16 x h : S2048x128.Idx → EReal) i = (x i : EReal) := rfl

omit hx in
/-- A load of the whole scratch. -/
theorem read_whole {sig' : RefSig} {sp : Space} (v : View sig' .tc sp S2048x128 .f32) (f : v.ty.Contents (Elt Ideal)) (h) (R : Fin 2048) (l : Fin 128) :
    v.readAt (Elt Ideal) (Rect.unit ![0, 0] S2048x128.size h : Rect S2048x128).toLoadRect f (ix2 R l) = v.read (Elt Ideal) f (ix2 R l) := by
  refine congrArg (v.read (Elt Ideal) f) ?_
  funext a
  match a with
  | ⟨0, _⟩ => exact Fin.ext (by show 0 + 1 * R.val = R.val; omega)
  | ⟨1, _⟩ => exact Fin.ext (by show 0 + 1 * l.val = l.val; omega)

/-- Key block 3 stores the scratch as the query part. -/
theorem after_dzD_first (t : Fin cfg0.N) (h : t.val % 4 = 3) (xs : Vec Ideal S2048x128 .f32) (d : Vec Ideal S2048x384 .bf16) (R : Fin 2048) (l : Fin 128) :
    dzD m c t h xs d (ix2 R (part 0 l)) = scrD m c t h xs (ix2 R l) := by
  have ep : (atD m c t h xs).2.1 = _ := piecesD_dz _ _ _ _ _ _ _ _ _ _ _ _ _ _ _ _ _ _ _ _ _ _ _ _ _ _ _ _ _ _ _ _ _ _ _
  have eq : (atD m c t h xs).1 = _ := piecesD_scr _ _ _ _ _ _ _ _ _ _ _ _ _ _ _ _ _ _ _ _ _ _ _ _ _ _ _ _ _ _ _ _ _ _ _
  unfold dzD scrD
  rw [ep, eq, read_first _ _, if_pos rfl]
  exact (truncf_val _ _ _).trans (read_whole _ _ _ _ _)

/-- The key and value parts of the rows swept so far. -/
theorem after_dz (d : Vec Ideal S2048x384 .bf16) : ∀ (n : ℕ) (hn : n < cfg0.N) (i : Fin 4) (r : Fin 512) (w : Fin 3) (l : Fin 128), i.val ≤ n % 4 → w ≠ 0 →
    dzAt m c d n hn (ix2 (row i r) (part w l)) = ((dzWant A ⟨n, hn⟩ w (row i r) l : ℝ) : EReal) := by
  intro n
  induction n with
  | zero =>
    intro hn i r w l hi hw
    rw [dzAt_first m c d ⟨0, hn⟩ rfl]
    unfold dzStep
    have e0 : (⟨0, hn⟩ : Fin cfg0.N).val % 4 = 0 := rfl
    rw [dif_pos e0, after_dzA m c hx _ _ d i r w l hw, if_pos (Fin.ext (by have : i.val ≤ 0 := hi; show i.val = 0; omega))]
  | succ n ih =>
    intro hn i r w l hi hw
    have same : ¬ (n + 1) % 4 = 0 → dzWant A ⟨n, Nat.lt_of_succ_lt hn⟩ w (row i r) l = dzWant A ⟨n + 1, hn⟩ w (row i r) l := by
      intro h
      have eb : bOf ⟨n, Nat.lt_of_succ_lt hn⟩ = bOf ⟨n + 1, hn⟩ := Fin.ext (by show n / 16 = (n + 1) / 16; omega)
      have ep : pOf ⟨n, Nat.lt_of_succ_lt hn⟩ = pOf ⟨n + 1, hn⟩ := Fin.ext (by show n / 4 % 4 = (n + 1) / 4 % 4; omega)
      unfold dzWant heads
      rw [eb, ep]
    rcases (by omega : (n + 1) % 4 = 0 ∨ (n + 1) % 4 = 1 ∨ (n + 1) % 4 = 2 ∨ (n + 1) % 4 = 3) with h | h | h | h
    · rw [dzAt_first m c d ⟨n + 1, hn⟩ h]
      unfold dzStep
      rw [dif_pos h, after_dzA m c hx _ _ d i r w l hw, if_pos (Fin.ext (by show i.val = 0; omega))]
    · rw [dzAt_next m c d ⟨n + 1, hn⟩ (by show ¬ (n + 1) % 4 = 0; omega)]
      unfold dzStep
      rw [dif_neg (by show ¬ (n + 1) % 4 = 0; omega), dif_pos h, after_dzB m c hx _ _ _ _ i r w l hw]
      split
      · rfl
      · rename_i ne
        have ne' : i.val ≠ 1 := fun e => ne (Fin.ext e)
        exact (ih (Nat.lt_of_succ_lt hn) i r w l (by omega) hw).trans (congrArg _ (same (by omega)))
    · rw [dzAt_next m c d ⟨n + 1, hn⟩ (by show ¬ (n + 1) % 4 = 0; omega)]
      unfold dzStep
      rw [dif_neg (by show ¬ (n + 1) % 4 = 0; omega), dif_neg (by show ¬ (n + 1) % 4 = 1; omega), dif_pos h, after_dzC m c hx _ _ _ _ i r w l hw]
      split
      · rfl
      · rename_i ne
        have ne' : i.val ≠ 2 := fun e => ne (Fin.ext e)
        exact (ih (Nat.lt_of_succ_lt hn) i r w l (by omega) hw).trans (congrArg _ (same (by omega)))
    · rw [dzAt_next m c d ⟨n + 1, hn⟩ (by show ¬ (n + 1) % 4 = 0; omega)]
      unfold dzStep
      rw [dif_neg (by show ¬ (n + 1) % 4 = 0; omega), dif_neg (by show ¬ (n + 1) % 4 = 1; omega), dif_neg (by show ¬ (n + 1) % 4 = 2; omega), after_dzD m c hx _ _ _ _ i r w l hw]
      split
      · rfl
      · rename_i ne
        have ne' : i.val ≠ 3 := fun e => ne (Fin.ext e)
        exact (ih (Nat.lt_of_succ_lt hn) i r w l (by omega) hw).trans (congrArg _ (same (by omega)))

/-- The block of dz after the last key block of a pair. -/
theorem dz_done (d : Vec Ideal S2048x384 .bf16) (t : Fin cfg0.N) (h : t.val % 4 = 3) (w : Fin 3) (R : Fin 2048) (l : Fin 128) :
    dzAt m c d t.val t.isLt (ix2 R (part w l)) = ((dzWant A t w R l : ℝ) : EReal) := by
  by_cases hw : w = 0
  · subst hw
    have hs := after_scr m c hx t.val t.isLt
    rw [scrAt_D m c t h, h] at hs
    rw [dzAt_next m c d t (by omega)]
    unfold dzStep
    rw [dif_neg (by omega), dif_neg (by omega), dif_neg (by omega), after_dzD_first m c hx, hs]
    exact congrArg _ (sofar_all _ _ _ _)
  · obtain ⟨i, r, rfl⟩ := exists_row R
    exact after_dz m c hx d t.val t.isLt i r w l (by have := i.isLt; omega) hw

end Cert.KernelIdeal.Fox

end
-- ==== Proof.Outputs.lean ====
/-
  The kernel's two results as whole arrays: the packed gradient's right half is the pairs' gradients, block by block, and
  its left half is what the array held at entry; the gradient of c is the key blocks'. Both are the reference's results.
-/
module

public import proofs.«01_k».proof.Proof.Point
public import Idealize.ShloMosaic.Lib.StableHlo.ReadAt
public import Idealize.ShloMosaic.Lib.Pipeline.ArrRel

@[expose] public section

noncomputable section

namespace Cert.KernelIdeal.Fox

open Idealize.ShloMosaic Idealize.ShloMosaic.TcCoe
open Idealize.ShloMosaic.Pipeline (Dat RDat)
open Cert.KernelIdeal Cert.KernelIdeal.Gen
open scoped BigOperators

variable (m : (ℓ : Loc nD τ sig) → Buf (Elt Ideal) ℓ) (c : Dev nD)

/-- The cast to half the bits keeps each number. -/
theorem cast_back (x : FVec Ideal S8192x3072 .f32) (i : S8192x3072.Idx) :
    (id (truncf (F := Ideal) .bf16 x bitsLt_bf16_f32) : S8192x3072.Idx → EReal) i = (x i : EReal) := rfl

/-- What the packed gradient's array holds at entry. -/
theorem entry_v44 (i : S8192x3072.Idx) : V m c main_v44_0 i = V m c main_arg5 i := by
  show _ = V m c main_arg5 i
  rw [V_main_arg5]
  unfold V
  after_reads_at
  exact cast_back (m (c, Proc.tc.devRef main_arg5)) i

theorem idx7 : ∀ t : Fin cfg0.N, win0_7.index t 0 = t.val / 16 ∧ win0_7.index t 1 = 4 + t.val / 4 % 4 :=
  (by decide +kernel : ∀ t : Fin grid0.N, win0_7.index t 0 = t.val / 16 ∧ win0_7.index t 1 = 4 + t.val / 4 % 4)
theorem idx8 : ∀ t : Fin cfg0.N, win0_8.index t 0 = t.val / 16 ∧ win0_8.index t 1 = t.val / 4 % 4 ∧ win0_8.index t 2 = 0 ∧ win0_8.index t 3 = t.val % 4 :=
  (by decide +kernel : ∀ t : Fin grid0.N, win0_8.index t 0 = t.val / 16 ∧ win0_8.index t 1 = t.val / 4 % 4 ∧ win0_8.index t 2 = 0 ∧ win0_8.index t 3 = t.val % 4)

/-- Where the block of dz lies in its array. -/
theorem emb7 (t : Fin cfg0.N) (R : Fin 2048) (w : Fin 3) (l : Fin 128) :
    ((cfg0.win 7).blk t).view.emb (ix2 R (part w l)) = (ix2 (tok (bOf t) R) (packCol (pOf t) w l) : S8192x3072.Idx) := by
  show (win0_7.rect t).emb (ix2 R (part w l)) = _
  refine funext fun a => Fin.ext ?_
  rw [Pipeline.Window.rect_emb_val win0_7 t (ix2 R (part w l)) a]
  match a with
  | ⟨0, _⟩ =>
    show win0_7.index t 0 * 2048 + R.val = 2048 * (t.val / 16) + R.val
    rw [(idx7 t).1]; omega
  | ⟨1, _⟩ =>
    show win0_7.index t 1 * 384 + (128 * w.val + l.val) = 1536 + (384 * (t.val / 4 % 4) + 128 * w.val + l.val)
    rw [(idx7 t).2]; omega

/-- Where the block of the gradient of c lies in its array. -/
theorem emb8 (t : Fin cfg0.N) (e : Fin 2) (s : Fin 512) :
    ((cfg0.win 8).blk t).view.emb (ix4 0 0 e s) = (ix4 (bOf t) (pOf t) e (row (jOf t) s) : S4x4x2x2048.Idx) := by
  show (win0_8.rect t).emb (ix4 0 0 e s) = _
  refine funext fun a => Fin.ext ?_
  rw [Pipeline.Window.rect_emb_val win0_8 t (ix4 0 0 e s) a]
  match a with
  | ⟨0, _⟩ =>
    show win0_8.index t 0 * 1 + 0 = t.val / 16
    rw [(idx8 t).1]; omega
  | ⟨1, _⟩ =>
    show win0_8.index t 1 * 1 + 0 = t.val / 4 % 4
    rw [(idx8 t).2.1]; omega
  | ⟨2, _⟩ =>
    show win0_8.index t 2 * 2 + e.val = e.val
    rw [(idx8 t).2.2.1]; omega
  | ⟨3, _⟩ =>
    show win0_8.index t 3 * 512 + s.val = 512 * (t.val % 4) + s.val
    rw [(idx8 t).2.2.2]; omega

/-- Every index of the block of dz is a row and a part's lane. -/
theorem block7_idx (y : S2048x384.Idx) : ∃ R w l, y = ix2 R (part w l) := by
  have h1 := (y 1).isLt
  have h1' : (y 1).val < 384 := h1
  refine ⟨y 0, ⟨(y 1).val / 128, by omega⟩, ⟨(y 1).val % 128, by omega⟩, ?_⟩
  refine (ValueIdx.eq_ix2 y).trans ?_
  refine congrArg (ix2 (y 0)) (Fin.ext ?_)
  show (y 1).val = 128 * ((y 1).val / 128) + (y 1).val % 128
  omega

theorem block8_idx (y : S1x1x2x512.Idx) : ∃ e s, y = ix4 0 0 e s := by
  refine ⟨y 2, y 3, ?_⟩
  funext a
  match a with
  | ⟨0, _⟩ => exact Subsingleton.elim (α := Fin 1) _ _
  | ⟨1, _⟩ => exact Subsingleton.elim (α := Fin 1) _ _
  | ⟨2, _⟩ => rfl
  | ⟨3, _⟩ => rfl

variable {A : Args}
  (hx : A.In (V m c main_arg0) (V m c main_arg1) (V m c main_arg2) (V m c main_arg3) (V m c main_arg4))

/-- The reference's packed gradient of the arguments, -/
abbrev refPacked : Vec Ideal S8192x3072 .bf16 :=
  Cert.ReferenceIdeal.Read.val_main_v90 (F := Ideal) (V m c main_arg0) (V m c main_arg1) (V m c main_arg2) (V m c main_arg3) (V m c main_arg4) (V m c main_arg5)
/-- and its gradient of c. -/
abbrev refGates : Vec Ideal S4x4x2x2048 .f32 :=
  Cert.ReferenceIdeal.Read.val_main_v91 (F := Ideal) (V m c main_arg0) (V m c main_arg1) (V m c main_arg2) (V m c main_arg3) (V m c main_arg4)

include hx

theorem want_packed (t : Fin cfg0.N) (R : Fin 2048) (w : Fin 3) (l : Fin 128) :
    refPacked m c (ix2 (tok (bOf t) R) (packCol (pOf t) w l)) = ((dzWant A t w R l : ℝ) : EReal) := by
  match w with
  | 0 => exact Cert.ReferenceIdeal.Fox.packedQ_ref hx (V m c main_arg5) (bOf t) R (pOf t) l
  | 1 => exact Cert.ReferenceIdeal.Fox.packedK_ref hx (V m c main_arg5) (bOf t) R (pOf t) l
  | 2 => exact Cert.ReferenceIdeal.Fox.packedV_ref hx (V m c main_arg5) (bOf t) R (pOf t) l

theorem want_gates (t : Fin cfg0.N) (e : Fin 2) (s : Fin 512) :
    refGates m c (ix4 (bOf t) (pOf t) e (row (jOf t) s)) = (((heads A t (headOf (pOf t) e)).gradC (row (jOf t) s) : ℝ) : EReal) :=
  Cert.ReferenceIdeal.Fox.gates_ref hx (bOf t) (pOf t) e (row (jOf t) s) _ rfl

omit hx in
/-- What the body leaves in the block of the gradient of c is what the point makes of it. -/
theorem leaves_dc (t : Fin cfg0.N) (X : S1x1x2x512.Idx → Elt Ideal .f32) (hX : (rdat m c).Leaves 8 t X) : X = dcAt m c t := by
  obtain ⟨_, _, hX⟩ := hX
  unfold rdat at hX
  rw [(dats m 0 c).toRRel_after_of_eq_false (w := 8) rfl] at hX
  have hX : (dats m 0 c).Leaves 8 t X := hX
  unfold Dat.Leaves at hX
  rw [liveAt0_8 t] at hX
  exact hX.trans (after0_8 m c t)

/-- The packed gradient after the run. -/
theorem packed_result {r : PUnit × MemSt nD τ sig (Elt Ideal)} (h : RDat.FramePost (cfgs 0) (rdat m) (V m) r) :
    r.2.mem ((c.tc : Thread nD τ).loc main_v44_0) = refPacked m c := by
  obtain ⟨after, hL, hA⟩ := h.exists_exact c
  refine (hA 7).trans (funext fun (i : S8192x3072.Idx) => ?_)
  have hc : (i 1).val < 3072 := (i 1).isLt
  have hr : (i 0).val < 8192 := (i 0).isLt
  by_cases left : (i 1).val < 1536
  · refine (Dat.arrAt_apply_of_forall_not_mem (dat := (rdat m c).withAfter after) 7 cfg0.N i fun t _ _ hi => ?_).trans ?_
    · obtain ⟨y, -, hy⟩ := Finset.mem_map.mp hi
      obtain ⟨R, w, l, rfl⟩ := block7_idx y
      rw [emb7] at hy
      have := congrArg (fun j : S8192x3072.Idx => (j 1).val) hy
      have e : 1536 + (384 * (t.val / 4 % 4) + 128 * w.val + l.val) = (i 1).val := this
      omega
    · refine ((congrFun (A_eq m c 7) i).trans (entry_v44 m c i)).trans ?_
      have e := Cert.ReferenceIdeal.Fox.left_half (x0 := V m c main_arg0) (x1 := V m c main_arg1) (x2 := V m c main_arg2) (x3 := V m c main_arg3) (x4 := V m c main_arg4) (V m c main_arg5) (i 0) (i 1) left
      rw [ValueIdx.eq_ix2 i]
      exact e.symm
  · obtain ⟨t, y, ht, hy⟩ : ∃ (t : Fin cfg0.N) (y : S2048x384.Idx), t.val % 4 = 3 ∧ ((cfg0.win 7).blk t).view.emb y = i := by
      refine ⟨⟨16 * ((i 0).val / 2048) + 4 * (((i 1).val - 1536) / 384) + 3, by show _ < 64; omega⟩, ix2 ⟨(i 0).val % 2048, by omega⟩ (part ⟨((i 1).val - 1536) % 384 / 128, by omega⟩ ⟨((i 1).val - 1536) % 128, by omega⟩), by dsimp only; omega, ?_⟩
      rw [emb7]
      refine Eq.trans ?_ (ValueIdx.eq_ix2 i).symm
      refine congrArg₂ ix2 (Fin.ext ?_) (Fin.ext ?_)
      · show 2048 * ((16 * ((i 0).val / 2048) + 4 * (((i 1).val - 1536) / 384) + 3) / 16) + (i 0).val % 2048 = (i 0).val
        omega
      · show 1536 + (384 * ((16 * ((i 0).val / 2048) + 4 * (((i 1).val - 1536) / 384) + 3) / 4 % 4) + 128 * (((i 1).val - 1536) % 384 / 128) + ((i 1).val - 1536) % 128) = (i 1).val
        omega
    refine Dat.arrAt_forall_of_flushed ((rdat m c).withAfter after) 7 (fun i v => v = refPacked m c i) (fun t hf y => ?_) cfg0.N t i t.isLt ((flush0_7 t).mpr ht) (hy ▸ View.emb_mem_set _ y)
    obtain ⟨d, hd⟩ : ∃ d, after 7 t = dzAt m c d t.val t.isLt := (dats m 0 c).toRRel_leaves (w := 7) rfl (hL 7 t hf)
    obtain ⟨R, w, l, rfl⟩ := block7_idx y
    rw [emb7, want_packed m c hx]
    refine Eq.trans ?_ (dz_done m c hx d t ((flush0_7 t).mp hf) w R l)
    exact congrFun hd (ix2 R (part w l))

/-- The gradient of c after the run. -/
theorem gates_result {r : PUnit × MemSt nD τ sig (Elt Ideal)} (h : RDat.FramePost (cfgs 0) (rdat m) (V m) r) :
    r.2.mem ((c.tc : Thread nD τ).loc main_v44_1) = refGates m c := by
  obtain ⟨after, hL, hA⟩ := h.exists_exact c
  refine (hA 8).trans (funext fun (i : S4x4x2x2048.Idx) => ?_)
  have h0 : (i 0).val < 4 := (i 0).isLt
  have h1 : (i 1).val < 4 := (i 1).isLt
  have h3 : (i 3).val < 2048 := (i 3).isLt
  obtain ⟨t, y, hy⟩ : ∃ (t : Fin cfg0.N) (y : S1x1x2x512.Idx), ((cfg0.win 8).blk t).view.emb y = i := by
    refine ⟨⟨16 * (i 0).val + 4 * (i 1).val + (i 3).val / 512, by show _ < 64; omega⟩, ix4 0 0 (i 2) ⟨(i 3).val % 512, by omega⟩, ?_⟩
    refine (emb8 _ (i 2) _).trans ?_
    funext a
    match a with
    | ⟨0, _⟩ => exact Fin.ext (by show (16 * (i 0).val + 4 * (i 1).val + (i 3).val / 512) / 16 = (i 0).val; omega)
    | ⟨1, _⟩ => exact Fin.ext (by show (16 * (i 0).val + 4 * (i 1).val + (i 3).val / 512) / 4 % 4 = (i 1).val; omega)
    | ⟨2, _⟩ => rfl
    | ⟨3, _⟩ => exact Fin.ext (by show 512 * ((16 * (i 0).val + 4 * (i 1).val + (i 3).val / 512) % 4) + (i 3).val % 512 = (i 3).val; omega)
  refine Dat.arrAt_forall_of_flushed ((rdat m c).withAfter after) 8 (fun i v => v = refGates m c i) (fun t hf y => ?_) cfg0.N t i t.isLt (flush0_8 t) (hy ▸ View.emb_mem_set _ y)
  have hd : after 8 t = dcAt m c t := leaves_dc m c t (after 8 t) (hL 8 t hf)
  obtain ⟨e, s, rfl⟩ := block8_idx y
  rw [emb8, want_gates m c hx]
  refine Eq.trans ?_ (after_dc m c hx t e s)
  exact congrFun hd (ix4 0 0 e s)

end Cert.KernelIdeal.Fox

end
-- ==== Proof.Finite.lean ====
/-
  What the stated precondition gives: an array every element of which lies below +inf in magnitude holds reals.
-/
module

public import proofs.«01_k».proof.Defs
public import proofs.«01_k».proof.Proof.Heads

@[expose] public section

noncomputable section

namespace Cert.KernelIdeal.Fox

open Idealize.ShloMosaic Idealize.ShloMosaic.TcCoe

theorem pinf_f32 : Ideal.ofBits .f32 0x7F800000#32 = ⊤ := by
  simp [Ideal.ofBits, Ideal.ieee]

/-- A number below +inf in magnitude is a real. -/
theorem real_of_abs_lt (a : EReal) (h : max a (-a) < ⊤) : a = ((a.toReal : ℝ) : EReal) := by
  have h1 : a ≠ ⊤ := ((le_max_left _ _).trans_lt h).ne
  have h2 : a ≠ ⊥ := fun e => by
    have := (le_max_right a (-a)).trans_lt h
    rw [e] at this
    exact lt_irrefl _ this
  exact (EReal.coe_toReal h1 h2).symm

/-- What the comparison says of one element. -/
theorem real_of_bit (a : EReal) (h : Ideal.cmp .olt (max a (-a)) (Ideal.ofBits .f32 0x7F800000#32) = 1#1) :
    a = ((a.toReal : ℝ) : EReal) := by
  rw [pinf_f32] at h
  refine real_of_abs_lt a ?_
  by_contra hn
  simp [Ideal.cmp, hn] at h

/-- What the comparison of a whole array says of each element. -/
theorem real_of_array {s : Shape} (bc : Cert.Pre_finite.S_.BroadcastsInDim s (![] : Fin 0 → Fin s.rank)) (x : FVec Ideal s .f32)
    (h : cmpf .olt (Host.absf x) (broadcastInDim s ![] bc (constant (F := Ideal) Cert.Pre_finite.S_ .f32 0x7F800000#32)) = (fun _ => 1#1))
    (i : s.Idx) : (x i : EReal) = (((x i : EReal).toReal : ℝ) : EReal) :=
  real_of_bit (x i) (congrFun h i)

variable (m : (ℓ : Loc Cert.KernelIdeal.nD Cert.KernelIdeal.τ Cert.KernelIdeal.sig) → Buf (Elt Ideal) ℓ)
  (c : Dev Cert.KernelIdeal.nD)

/-- Each device's arguments hold reals. -/
theorem args_of_finite [hP : Cert.Pre_finite.Facts] (h : Cert.Pre_KernelIdeal_finite m) :
    ∃ A : Args, A.In (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  obtain ⟨h0, h1, h2, h3, h4⟩ := h c
  generalize m ((c.tc : Thread nD τ).loc main_arg0) = x0 at *
  generalize m ((c.tc : Thread nD τ).loc main_arg1) = x1 at *
  generalize m ((c.tc : Thread nD τ).loc main_arg2) = x2 at *
  generalize m ((c.tc : Thread nD τ).loc main_arg3) = x3 at *
  generalize m ((c.tc : Thread nD τ).loc main_arg4) = x4 at *
  exact ⟨⟨fun b r e d => EReal.toReal (x0 (ix4 b r e d)), fun b r e d => EReal.toReal (x1 (ix4 b r e d)),
      fun b r e d => EReal.toReal (x2 (ix4 b r e d)), fun b e r => EReal.toReal (x3 (ix3 b e r)),
      fun b r l => EReal.toReal (x4 (ix3 b r l))⟩,
    fun b r e d => real_of_array hP.bcast_S_S4x2048x8x64 x0 h0 _, fun b r e d => real_of_array hP.bcast_S_S4x2048x8x64 x1 h1 _,
    fun b r e d => real_of_array hP.bcast_S_S4x2048x8x64 x2 h2 _, fun b e r => real_of_array hP.bcast_S_S4x8x2048 x3 h3 _,
    fun b r l => real_of_array hP.bcast_S_S4x2048x1024 x4 h4 _⟩

end Cert.KernelIdeal.Fox

end
-- ==== Proof.Calls.lean ====
/-
  What the calls' modules share.
-/
module

public import Idealize.ShloMosaic.Lib.StableHlo.ReadAt
public import Idealize.ShloMosaic.Lib.Pointwise
public import proofs.«01_k».proof.Defs
public import Idealize.ShloMosaic.Lib.StableHlo.Run
public import Idealize.ShloMosaic.Adequacy
public import Idealize.ShloMosaic.Init

@[expose] public section

namespace Cert

open Idealize.ShloMosaic

/-- An array's contents at the exact values. -/
abbrev Arr (S : Shape) (e : EltTy) : Type := (⟨S, e⟩ : BufTy).Contents (Elt Ideal)

theorem hz2 : (![0, 0] : Fin 2 → Nat) = fun _ => 0 := funext fun a => by fin_cases a <;> rfl

end Cert
-- ==== Proof.Up.lean ====
/-
  The squared-ReLU layer's input and its squared positive part: one product per block.
-/
module

public import proofs.«01_k».proof.Proof.Calls
public import proofs.«01_k».proof.Proof.Gen.Up.Frame
public import proofs.«01_k».proof.Proof.Gen.UpIdeal.Value
public import proofs.«01_k».proof.Proof.Gen.UpRefIdeal.Read

@[expose] public section

noncomputable section

namespace Cert.UpIdeal.Layer

open Idealize.ShloMosaic Idealize.ShloMosaic.TcCoe Idealize.SL.Sem
open Cert.UpIdeal Cert.UpIdeal.Gen
open scoped BigOperators

/-- The squared positive part. -/
def squared (p : EReal) : EReal := max p 0 * max p 0

theorem pay_product (x y : Vec Ideal S1024x1024 .bf16) (j : S1024x1024.Idx) :
    k0_pay1 x y j = ∑ k : Fin 1024, x (ix2 (j 0) k) * y (ix2 k (j 1)) := by
  unfold k0_pay1
  simp only [pointwise, shapeCast_self]
  rw [zero_add]

theorem pay_input (x y : Vec Ideal S1024x1024 .bf16) (j : S1024x1024.Idx) :
    k0_pay2 x y j = ∑ k : Fin 1024, x (ix2 (j 0) k) * y (ix2 k (j 1)) := pay_product x y j

theorem pay_squared (x y : Vec Ideal S1024x1024 .bf16) (j : S1024x1024.Idx) :
    k0_pay3 x y j = squared (∑ k : Fin 1024, x (ix2 (j 0) k) * y (ix2 k (j 1))) := by
  rw [← pay_product]
  unfold k0_pay3 squared
  generalize k0_pay1 x y = p
  simp only [pointwise]

theorem lhs_at (i : S8192x4096.Idx) (k : Fin 1024) : UpRefIdeal.Read.lidx_main_v0 i k = ix2 (i 0) k :=
  funext fun a => by match a with | ⟨0, _⟩ => rfl | ⟨1, _⟩ => rfl

theorem rhs_at (i : S8192x4096.Idx) (k : Fin 1024) : UpRefIdeal.Read.ridx_main_v0 i k = ix2 k (i 1) :=
  funext fun a => by match a with | ⟨0, _⟩ => rfl | ⟨1, _⟩ => rfl

theorem squared_at (p : EReal) : max p (Ideal.ofBits .f32 0x00000000#32) * max p (Ideal.ofBits .f32 0x00000000#32) = squared p := by
  rw [Ideal.ofBits_zero_f32]
  rfl

open UpRefIdeal.Read in
theorem ref_input (x0 : Arr S8192x1024 .f32) (x1 : Arr S1024x4096 .f32)
    (i : S8192x4096.Idx) : val_main_v2 x0 x1 i = ∑ k : Fin 1024, x0 (ix2 (i 0) k) * x1 (ix2 k (i 1)) := by
  rw [val_main_v2_apply, val_main_v0_apply]
  simp only [lhs_at, rhs_at]
  rfl

open UpRefIdeal.Read in
theorem ref_squared (x0 : Arr S8192x1024 .f32) (x1 : Arr S1024x4096 .f32)
    (i : S8192x4096.Idx) : val_main_v4 x0 x1 i = squared (∑ k : Fin 1024, x0 (ix2 (i 0) k) * x1 (ix2 k (i 1))) := by
  rw [val_main_v4_apply, val_main_v3_apply, val_main_v1_apply, val_main_v0_apply, val_main_call0_v0_apply]
  simp only [lhs_at, rhs_at]
  exact squared_at _

variable (m : (ℓ : Loc nD τ sig) → Buf (Elt Ideal) ℓ) (c : Dev nD)

/-- The rows, as launched. -/
def rows : Arr S8192x1024 .f32 := m ((c : Thread nD τ).loc main_arg0)
/-- The weights, as launched. -/
def weights : Arr S1024x4096 .f32 := m ((c : Thread nD τ).loc main_arg1)

theorem rows_at (i : S8192x1024.Idx) : (V m c main_v0 : S8192x1024.Idx → EReal) i = rows m c i := by
  unfold rows
  rw [← V_main_arg0 m c]; unfold V
  after_reads_simp <;> rfl

theorem weights_at (i : S1024x4096.Idx) : (V m c main_v1 : S1024x4096.Idx → EReal) i = weights m c i := by
  unfold weights
  rw [← V_main_arg1 m c]; unfold V
  after_reads_simp <;> rfl

/-- The layer's input. -/
def input : Arr S8192x4096 .bf16 := UpRefIdeal.Read.val_main_v2 (rows m c) (weights m c)
/-- Its squared positive part. -/
def output : Arr S8192x4096 .bf16 := UpRefIdeal.Read.val_main_v4 (rows m c) (weights m c)

/-- Where each grid point's blocks lie: both outputs' block row and column give the others'. -/
theorem places : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_3.index t (0 : Fin 2) = win0_2.index t (0 : Fin 2) ∧ win0_3.index t (1 : Fin 2) = win0_2.index t (1 : Fin 2) :=
  (by decide +kernel : ∀ t : Fin grid0.N, _)

theorem onto : ∀ (q0 : Fin 8) (q1 : Fin 4), ∃ t : Fin cfg0.N, (cfg0.win 2).flush t = true ∧ (cfg0.win 3).flush t = true ∧ win0_2.index t = ![q0.val, q1.val] :=
  (by decide +kernel : ∀ (q0 : Fin 8) (q1 : Fin 4), ∃ t : Fin grid0.N, win0_2.flush t = true ∧ win0_3.flush t = true ∧ win0_2.index t = ![q0.val, q1.val])

/-- Where an index of an output's block at a grid point lies in the array. -/
def at2 (t : Fin cfg0.N) (y : S1024x1024.Idx) : S8192x4096.Idx := ((cfg0.win 2).blk t).view.emb y

theorem at3 (t : Fin cfg0.N) (y : S1024x1024.Idx) : (((cfg0.win 3).blk t).view.emb y : S8192x4096.Idx) = at2 t y := funext fun a => Fin.ext (by
  obtain ⟨-, -, -, -, e0, e1⟩ := places t
  match a with
  | ⟨0, _⟩ => show win0_3.index t (0 : Fin 2) * 1024 + 1 * (y 0).val = _; rw [e0]; rfl
  | ⟨1, _⟩ => show win0_3.index t (1 : Fin 2) * 1024 + 1 * (y 1).val = _; rw [e1]; rfl)

theorem blk0 (t : Fin cfg0.N) (y : S1024x1024.Idx) (k : Fin 1024) :
    (iblk m c 0 t : S1024x1024.Idx → EReal) (ix2 (y 0) k) = rows m c (ix2 (at2 t y 0) k) := by
  refine (rows_at m c (((cfg0.win 0).blk t).view.emb (ix2 (y 0) k))).trans (congrArg (rows m c) (funext fun a => Fin.ext ?_))
  obtain ⟨e0, e1, -⟩ := places t
  match a with
  | ⟨0, _⟩ => show win0_0.index t (0 : Fin 2) * 1024 + 1 * (y 0).val = _; rw [e0]; rfl
  | ⟨1, _⟩ => show win0_0.index t (1 : Fin 2) * 1024 + 1 * k.val = k.val; rw [e1]; omega

theorem blk1 (t : Fin cfg0.N) (y : S1024x1024.Idx) (k : Fin 1024) :
    (iblk m c 1 t : S1024x1024.Idx → EReal) (ix2 k (y 1)) = weights m c (ix2 k (at2 t y 1)) := by
  refine (weights_at m c (((cfg0.win 1).blk t).view.emb (ix2 k (y 1)))).trans (congrArg (weights m c) (funext fun a => Fin.ext ?_))
  obtain ⟨-, -, e0, e1, -⟩ := places t
  match a with
  | ⟨0, _⟩ => show win0_1.index t (0 : Fin 2) * 1024 + 1 * k.val = k.val; rw [e0]; omega
  | ⟨1, _⟩ => show win0_1.index t (1 : Fin 2) * 1024 + 1 * (y 1).val = _; rw [e1]; rfl

/-- What a grid point writes back is its block of the input. -/
theorem flushed2 (t : Fin cfg0.N) : (dats m 0 c).flushed 2 t = ((cfg0.win 2).blk t).view.read (Elt Ideal) (input m c) := by
  rw [Value.flushed2]
  funext y
  show out0_2 (iblk m c 0 t) (iblk m c 1 t) y = input m c (at2 t y)
  unfold out0_2 input
  rw [View.canon_unit_zero hz2, ref_input]
  simp only [View.ld_unit_zero (S := S1024x1024) hz2]
  rw [pay_input]
  simp only [blk0, blk1]

theorem flushed3 (t : Fin cfg0.N) : (dats m 0 c).flushed 3 t = ((cfg0.win 3).blk t).view.read (Elt Ideal) (output m c) := by
  rw [Value.flushed3]
  funext y
  refine Eq.trans ?_ (congrArg (output m c) (at3 t y)).symm
  show out0_3 (iblk m c 0 t) (iblk m c 1 t) y = output m c (at2 t y)
  unfold out0_3 output
  rw [View.canon_unit_zero hz2, ref_squared]
  simp only [View.ld_unit_zero (S := S1024x1024) hz2]
  rw [pay_squared]
  simp only [blk0, blk1]

theorem covered (i : S8192x4096.Idx) : ∃ t : Fin cfg0.N, ((cfg0.win 2).flush t = true ∧ i ∈ ((cfg0.win 2).blk t).view.set)
    ∧ (cfg0.win 3).flush t = true ∧ i ∈ ((cfg0.win 3).blk t).view.set := by
  have h0 : (i 0).val < 8192 := (i 0).isLt
  have h1 : (i 1).val < 4096 := (i 1).isLt
  obtain ⟨t, hf, hg, ht⟩ := onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  obtain ⟨-, -, -, -, e0, e1⟩ := places t
  refine ⟨t, ⟨hf, ?_⟩, hg, ?_⟩
  · show i ∈ ((View.whole main_v2_0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega
  · show i ∈ ((View.whole main_v2_1).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

/-- The arrays the call leaves are the reference's. -/
theorem array2 : (dats m 0 c).arrAt 2 cfg0.N = input m c :=
  (dats m 0 c).arrAt_eq_of_cover 2 _ (fun t _ => flushed2 m c t) fun i => (covered i).imp fun _ h => h.1

theorem array3 : (dats m 0 c).arrAt 3 cfg0.N = output m c :=
  (dats m 0 c).arrAt_eq_of_cover 3 _ (fun t _ => flushed3 m c t) fun i => (covered i).imp fun _ h => h.2

theorem reference_frame : quiescent_UpRefIdeal (hUpRefIdeal := UpRefIdeal.Gen.facts) := fun m g _ =>
  (θ_run _ _ _).mono
    (fun r h => ⟨fun c => (h c).2.2, sem_eq_zero_of_no_sems (by decide) r.2⟩)
    (UpRefIdeal.Value.run (F := Ideal) m g)

open UpRefIdeal.Read in
theorem result_congr {x0 y0 : Arr S8192x1024 .f32} {x1 y1 : Arr S1024x4096 .f32}
    (e0 : x0 = y0) (e1 : x1 = y1) :
    val_main_v2 x0 x1 = val_main_v2 y0 y1 ∧ val_main_v4 x0 x1 = val_main_v4 y0 y1 := by
  subst e0 e1
  exact ⟨rfl, rfl⟩

/-- At the exact values the call's results are the reference's. -/
theorem values : algebraic_UpIdeal_UpRefIdeal (hUpIdeal := UpIdeal.Gen.facts)
    (hUpRefIdeal := UpRefIdeal.Gen.facts) := by
  intro m g m' g' _ hagree
  refine ⟨fun c => input m c, fun c => output m c, ?_, ?_⟩
  · exact (θ_run _ _ _).mono (fun r h c => ⟨(h c).1.trans (array2 m c), (h c).2.1.trans (array3 m c), (h c).2.2⟩)
      (UpIdeal.Value.run_blocks (F := Ideal) m g)
  · refine (θ_run _ _ _).mono (fun r h c => ?_) (UpRefIdeal.Value.run (F := Ideal) m' g')
    obtain ⟨e0, e1⟩ := hagree c
    have e := result_congr e0 e1
    exact ⟨((h c).1.trans (UpRefIdeal.Read.val_main_v2_eq _ _)).trans e.1,
      ((h c).2.1.trans (UpRefIdeal.Read.val_main_v4_eq _ _)).trans e.2, (h c).2.2⟩

end Cert.UpIdeal.Layer

end
-- ==== Proof.DownBwd.lean ====
/-
  The cotangents of the squared-ReLU layer's input: one product per block, scaled by twice the positive part.
-/
module

public import proofs.«01_k».proof.Proof.Calls
public import proofs.«01_k».proof.Proof.Gen.DownBwd.Frame
public import proofs.«01_k».proof.Proof.Gen.DownBwdIdeal.Value
public import proofs.«01_k».proof.Proof.Gen.DownBwdRefIdeal.Read

@[expose] public section

noncomputable section

namespace Cert.DownBwdIdeal.Layer

open Idealize.ShloMosaic Idealize.ShloMosaic.TcCoe Idealize.SL.Sem
open Cert.DownBwdIdeal Cert.DownBwdIdeal.Gen
open scoped BigOperators

/-- One entry: twice the positive part times the product of a cotangent row with a weight row. -/
def entry (u : EReal) (p : EReal) : EReal := 2 * max u 0 * p

theorem two : Ideal.ofBits .f32 0x40000000#32 = 2 := by
  have h : ((8388608 : ℝ) : EReal) * (((2 ^ 22)⁻¹ : ℝ) : EReal) = 2 := by
    rw [← EReal.coe_mul, show (8388608 : ℝ) * (2 ^ 22)⁻¹ = 2 by norm_num]
    rfl
  simpa [Ideal.ofBits, Ideal.ieee] using h

theorem lhs_at (i : S8192x4096.Idx) (k : Fin 1024) : DownBwdRefIdeal.Read.lidx_main_v6 i k = ix2 (i 0) k :=
  funext fun a => by match a with | ⟨0, _⟩ => rfl | ⟨1, _⟩ => rfl

theorem rhs_at (i : S8192x4096.Idx) (k : Fin 1024) : DownBwdRefIdeal.Read.ridx_main_v6 i k = ix2 (i 1) k :=
  funext fun a => by match a with | ⟨0, _⟩ => rfl | ⟨1, _⟩ => rfl

/-- Differentiating the square adds the product with the positive part to itself, where the input is positive. -/
theorem entry_of_parts (u p : EReal) :
    (if u > 0 then max u 0 * p + p * max u 0 else 0) = entry u p := by
  unfold entry
  by_cases h : u > 0
  · rw [if_pos h, mul_comm p, mul_assoc, ← one_add_one_eq_two, EReal.right_distrib_of_nonneg zero_le_one zero_le_one, one_mul]
  · rw [if_neg h, max_eq_right (not_lt.mp h), mul_zero, zero_mul]

theorem pay_apply (x y z : Vec Ideal S1024x1024 .bf16) (j : S1024x1024.Idx) :
    k0_pay1 x y z j = entry (z j) (∑ k : Fin 1024, x (ix2 (j 0) k) * y (ix2 (j 1) k)) := by
  unfold k0_pay1 entry
  simp only [pointwise, shapeCast_self]
  rw [two, zero_add]

/-- The derivative's two halves, chosen where the input is positive, are the entry. -/
theorem select_entry (u p : EReal) :
    Scalar.select (Ideal.cmp .ogt u (Ideal.ofBits .f32 0x00000000#32))
      (max u (Ideal.ofBits .f32 0x00000000#32) * p + p * max u (Ideal.ofBits .f32 0x00000000#32)) (Ideal.ofBits .f32 0x00000000#32) = entry u p := by
  rw [← entry_of_parts, Ideal.ofBits_zero_f32]
  by_cases h : 0 < u <;> simp [Ideal.cmp, Scalar.select, h]

open DownBwdRefIdeal.Read in
theorem ref_apply (x0 : Arr S8192x1024 .f32) (x1 : Arr S4096x1024 .f32)
    (x2 : Arr S8192x4096 .f32) (i : S8192x4096.Idx) :
    val_main_v12 x0 x1 x2 i = entry (x2 i) (∑ k : Fin 1024, x0 (ix2 (i 0) k) * x1 (ix2 (i 1) k)) := by
  rw [val_main_v12_apply, val_main_v11_apply, val_main_v9_apply, val_main_v7_apply, val_main_v8_apply, val_main_v6_apply, val_main_v0_apply, val_main_v2_apply, val_main_v10_apply, val_main_v1_apply, val_main_call0_v0_apply]
  simp only [lhs_at, rhs_at]
  exact select_entry _ _

variable (m : (ℓ : Loc nD τ sig) → Buf (Elt Ideal) ℓ) (c : Dev nD)

/-- The cotangents, as launched. -/
def cots : Arr S8192x1024 .f32 := m ((c : Thread nD τ).loc main_arg0)
/-- The weights, as launched. -/
def weights : Arr S4096x1024 .f32 := m ((c : Thread nD τ).loc main_arg1)
/-- The layer's input, as launched. -/
def inputs : Arr S8192x4096 .f32 := m ((c : Thread nD τ).loc main_arg2)

theorem cots_at (i : S8192x1024.Idx) : (V m c main_v0 : S8192x1024.Idx → EReal) i = cots m c i := by
  unfold cots
  rw [← V_main_arg0 m c]; unfold V
  after_reads_simp <;> rfl

theorem weights_at (i : S4096x1024.Idx) : (V m c main_v1 : S4096x1024.Idx → EReal) i = weights m c i := by
  unfold weights
  rw [← V_main_arg1 m c]; unfold V
  after_reads_simp <;> rfl

theorem inputs_at (i : S8192x4096.Idx) : (V m c main_v2 : S8192x4096.Idx → EReal) i = inputs m c i := by
  unfold inputs
  rw [← V_main_arg2 m c]; unfold V
  after_reads_simp <;> rfl

/-- The result array. -/
def result : Arr S8192x4096 .bf16 :=
  DownBwdRefIdeal.Read.val_main_v12 (cots m c) (weights m c) (inputs m c)

/-- Where each grid point's blocks lie: the output's block row and column give the others'. -/
theorem places : ∀ t : Fin cfg0.N, win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (0 : Fin 2) ∧ win0_2.index t (1 : Fin 2) = win0_3.index t (1 : Fin 2) :=
  (by decide +kernel : ∀ t : Fin grid0.N, _)

theorem onto : ∀ (q0 : Fin 8) (q1 : Fin 4), ∃ t : Fin cfg0.N, (cfg0.win 3).flush t = true ∧ win0_3.index t = ![q0.val, q1.val] :=
  (by decide +kernel : ∀ (q0 : Fin 8) (q1 : Fin 4), ∃ t : Fin grid0.N, win0_3.flush t = true ∧ win0_3.index t = ![q0.val, q1.val])

/-- Where an index of the output's block at a grid point lies in the array. -/
def at3 (t : Fin cfg0.N) (y : S1024x1024.Idx) : S8192x4096.Idx := ((cfg0.win 3).blk t).view.emb y

theorem blk0 (t : Fin cfg0.N) (y : S1024x1024.Idx) (k : Fin 1024) :
    (iblk m c 0 t : S1024x1024.Idx → EReal) (ix2 (y 0) k) = cots m c (ix2 (at3 t y 0) k) := by
  refine (cots_at m c (((cfg0.win 0).blk t).view.emb (ix2 (y 0) k))).trans (congrArg (cots m c) (funext fun a => Fin.ext ?_))
  obtain ⟨e0, e1, -⟩ := places t
  match a with
  | ⟨0, _⟩ => show win0_0.index t (0 : Fin 2) * 1024 + 1 * (y 0).val = _; rw [e0]; rfl
  | ⟨1, _⟩ => show win0_0.index t (1 : Fin 2) * 1024 + 1 * k.val = k.val; rw [e1]; omega

theorem blk1 (t : Fin cfg0.N) (y : S1024x1024.Idx) (k : Fin 1024) :
    (iblk m c 1 t : S1024x1024.Idx → EReal) (ix2 (y 1) k) = weights m c (ix2 (at3 t y 1) k) := by
  refine (weights_at m c (((cfg0.win 1).blk t).view.emb (ix2 (y 1) k))).trans (congrArg (weights m c) (funext fun a => Fin.ext ?_))
  obtain ⟨-, -, e0, e1, -⟩ := places t
  match a with
  | ⟨0, _⟩ => show win0_1.index t (0 : Fin 2) * 1024 + 1 * (y 1).val = _; rw [e0]; rfl
  | ⟨1, _⟩ => show win0_1.index t (1 : Fin 2) * 1024 + 1 * k.val = k.val; rw [e1]; omega

theorem blk2 (t : Fin cfg0.N) (y : S1024x1024.Idx) :
    (iblk m c 2 t : S1024x1024.Idx → EReal) y = inputs m c (at3 t y) := by
  refine (inputs_at m c (((cfg0.win 2).blk t).view.emb y)).trans (congrArg (inputs m c) (funext fun a => Fin.ext ?_))
  obtain ⟨-, -, -, -, e0, e1⟩ := places t
  match a with
  | ⟨0, _⟩ => show win0_2.index t (0 : Fin 2) * 1024 + 1 * (y 0).val = _; rw [e0]; rfl
  | ⟨1, _⟩ => show win0_2.index t (1 : Fin 2) * 1024 + 1 * (y 1).val = _; rw [e1]; rfl

/-- What a grid point writes back is its block of the result. -/
theorem flushed (t : Fin cfg0.N) : (dats m 0 c).flushed 3 t = ((cfg0.win 3).blk t).view.read (Elt Ideal) (result m c) := by
  rw [Value.flushed3]
  funext y
  show out0_3 (iblk m c 0 t) (iblk m c 1 t) (iblk m c 2 t) y = result m c (at3 t y)
  unfold out0_3 result
  rw [View.canon_unit_zero hz2, ref_apply]
  simp only [View.ld_unit_zero (S := S1024x1024) hz2]
  rw [pay_apply, blk2]
  simp only [blk0, blk1]

theorem covered (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  obtain ⟨t, hf, ht⟩ := onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, hf, ?_⟩
  show i ∈ ((View.whole main_v3).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The array the call leaves is the reference's. -/
theorem array : (dats m 0 c).arrAt 3 cfg0.N = result m c :=
  (dats m 0 c).arrAt_eq_of_cover 3 _ (fun t _ => flushed m c t) covered

theorem reference_frame : quiescent_DownBwdRefIdeal (hDownBwdRefIdeal := DownBwdRefIdeal.Gen.facts) := fun m g _ =>
  (θ_run _ _ _).mono
    (fun r h => ⟨fun c => (h c).2, sem_eq_zero_of_no_sems (by decide) r.2⟩)
    (DownBwdRefIdeal.Value.run (F := Ideal) m g)

theorem result_congr {x0 y0 : Arr S8192x1024 .f32} {x1 y1 : Arr S4096x1024 .f32}
    {x2 y2 : Arr S8192x4096 .f32} (e0 : x0 = y0) (e1 : x1 = y1) (e2 : x2 = y2) :
    DownBwdRefIdeal.Read.val_main_v12 x0 x1 x2 = DownBwdRefIdeal.Read.val_main_v12 y0 y1 y2 := by
  subst e0 e1 e2
  rfl

/-- At the exact values the call's result is the reference's. -/
theorem values : algebraic_DownBwdIdeal_DownBwdRefIdeal (hDownBwdIdeal := DownBwdIdeal.Gen.facts)
    (hDownBwdRefIdeal := DownBwdRefIdeal.Gen.facts) := by
  intro m g m' g' _ hagree
  refine ⟨fun c => result m c, ?_, ?_⟩
  · exact (θ_run _ _ _).mono (fun r h c => ⟨(h c).1.trans (array m c), (h c).2⟩)
      (DownBwdIdeal.Value.run_blocks (F := Ideal) m g)
  · refine (θ_run _ _ _).mono (fun r h c => ?_) (DownBwdRefIdeal.Value.run (F := Ideal) m' g')
    obtain ⟨e0, e1, e2⟩ := hagree c
    exact ⟨((h c).1.trans (DownBwdRefIdeal.Read.val_main_v12_eq _ _ _)).trans (result_congr e0 e1 e2), (h c).2⟩

end Cert.DownBwdIdeal.Layer

end
-- ==== Proof.RowSums.lean ====
/-
  A sum over the token rows, one block of consecutive rows at a time.
-/
module

public import Mathlib.Algebra.BigOperators.Fin
public import Mathlib.Data.EReal.Basic

@[expose] public section

namespace Cert.RowSums

open scoped BigOperators

/-- The sum over `a` consecutive blocks of `b`. -/
theorem range_blocks {M : Type*} [AddCommMonoid M] (F : ℕ → M) (b : ℕ) :
    ∀ a : ℕ, ∑ s ∈ Finset.range a, ∑ k ∈ Finset.range b, F (b * s + k) = ∑ r ∈ Finset.range (b * a), F r
  | 0 => by simp
  | a + 1 => by rw [Finset.sum_range_succ, range_blocks F b a, Nat.mul_succ, Finset.sum_range_add]

/-- The blocks' sums add up to the whole sum. -/
theorem blocks {M : Type*} [AddCommMonoid M] (a b N : ℕ) (hN : b * a = N) (f : Fin N → M) (g : ℕ → M)
    (h : ∀ (s : ℕ) (hs : s < a), g s = ∑ k : Fin b, f ⟨b * s + k.val, hN ▸ (Nat.add_lt_add_left k.isLt _).trans_le
      ((Nat.mul_succ b s).symm.le.trans (Nat.mul_le_mul_left b hs))⟩) :
    ∑ s ∈ Finset.range a, g s = ∑ r : Fin N, f r := by
  let F : ℕ → M := fun n => if hn : n < N then f ⟨n, hn⟩ else 0
  have hF : ∀ r : Fin N, f r = F r.val := fun r => by simp only [F, r.isLt, dif_pos, Fin.eta]
  have hg : ∀ s, s < a → g s = ∑ k ∈ Finset.range b, F (b * s + k) := fun s hs => by
    rw [h s hs, ← Fin.sum_univ_eq_sum_range (fun k => F (b * s + k)) b]
    exact Finset.sum_congr rfl fun k _ => hF _
  rw [Finset.sum_congr rfl fun r _ => hF r, Fin.sum_univ_eq_sum_range F N,
    Finset.sum_congr rfl fun s hs => hg s (Finset.mem_range.mp hs), range_blocks, hN]

/-- Four blocks of 2048 rows. -/
theorem four_blocks {M : Type*} [AddCommMonoid M] (f : Fin 8192 → M) (g : ℕ → M)
    (h : ∀ (s : ℕ) (hs : s < 4), g s = ∑ k : Fin 2048, f ⟨2048 * s + k.val, by have := k.isLt; omega⟩) :
    ∑ s ∈ Finset.range 4, g s = ∑ r : Fin 8192, f r :=
  blocks 4 2048 8192 rfl f g h

end Cert.RowSums
-- ==== Proof.GradIn.lean ====
/-
  The gradient of a projection's weights: the rows' outer products, summed a block of rows at a time.
-/
module

public import proofs.«01_k».proof.Proof.Calls
public import proofs.«01_k».proof.Proof.RowSums
public import proofs.«01_k».proof.Proof.Gen.GradIn.Frame
public import proofs.«01_k».proof.Proof.Gen.GradInIdeal.Value
public import proofs.«01_k».proof.Proof.Gen.GradInRefIdeal.Read

@[expose] public section

noncomputable section

namespace Cert.GradInIdeal.Grad

open Idealize.ShloMosaic Idealize.ShloMosaic.TcCoe Idealize.SL.Sem
open Cert.GradInIdeal Cert.GradInIdeal.Gen
open scoped BigOperators

theorem pay_zero (j : S1024x1024.Idx) : k0_pay1 (F := Ideal) j = 0 := by
  unfold k0_pay1
  simp only [pointwise]

theorem pay_add (a : Vec Ideal S1024x1024 .f32) (x y : Vec Ideal S2048x1024 .bf16) (j : S1024x1024.Idx) :
    k0_pay2 a x y j = a j + ∑ k : Fin 2048, x (ix2 k (j 0)) * y (ix2 k (j 1)) := by
  unfold k0_pay2
  simp only [pointwise, shapeCast_self]
  rw [zero_add]

theorem lhs_at (i : S1024x3072.Idx) (k : Fin 8192) :
    GradInRefIdeal.Read.lidx_main_v2 (GradInRefIdeal.Read.idx_main_v3 i) k = ix2 k (i 1) :=
  funext fun a => by match a with | ⟨0, _⟩ => rfl | ⟨1, _⟩ => rfl

theorem rhs_at (i : S1024x3072.Idx) (k : Fin 8192) :
    GradInRefIdeal.Read.ridx_main_v2 (GradInRefIdeal.Read.idx_main_v3 i) k = ix2 k (i 0) :=
  funext fun a => by match a with | ⟨0, _⟩ => rfl | ⟨1, _⟩ => rfl

open GradInRefIdeal.Read in
theorem ref_apply (x0 : Arr S8192x1024 .f32) (x1 : Arr S8192x3072 .f32)
    (i : S1024x3072.Idx) : val_main_v3 x0 x1 i = ∑ k : Fin 8192, x0 (ix2 k (i 0)) * x1 (ix2 k (i 1)) := by
  rw [val_main_v3_apply, val_main_v2_apply]
  simp only [lhs_at, rhs_at]
  exact Finset.sum_congr rfl fun k _ => mul_comm _ _

variable (m : (ℓ : Loc nD τ sig) → Buf (Elt Ideal) ℓ) (c : Dev nD)

/-- The rows, as launched. -/
def rows : Arr S8192x1024 .f32 := m ((c : Thread nD τ).loc main_arg0)
/-- The cotangents, as launched. -/
def cots : Arr S8192x3072 .f32 := m ((c : Thread nD τ).loc main_arg1)

theorem rows_at (i : S8192x1024.Idx) : (V m c main_v0 : S8192x1024.Idx → EReal) i = rows m c i := by
  unfold rows
  rw [← V_main_arg0 m c]; unfold V
  after_reads_simp <;> rfl

theorem cots_at (i : S8192x3072.Idx) : (V m c main_v1 : S8192x3072.Idx → EReal) i = cots m c i := by
  unfold cots
  rw [← V_main_arg1 m c]; unfold V
  after_reads_simp <;> rfl

/-- The result array. -/
def result : Arr S1024x3072 .f32 := GradInRefIdeal.Read.val_main_v3 (rows m c) (cots m c)

/-- Where each grid point's blocks lie: four points in turn take four blocks of rows. -/
theorem places : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- A grid point's block of rows, and its block of cotangents. -/
def rowBlock (t : Fin cfg0.N) : Vec Ideal S2048x1024 .bf16 := iblk m c 0 t
def cotBlock (t : Fin cfg0.N) : Vec Ideal S2048x1024 .bf16 := iblk m c 1 t

/-- The sum over a block's rows of the products of two columns. -/
def columns (x y : S2048x1024.Idx → EReal) (j : S1024x1024.Idx) : EReal := ∑ k : Fin 2048, x (ix2 k (j 0)) * y (ix2 k (j 1))

/-- The products a grid point adds. -/
def addend (n : ℕ) (j : S1024x1024.Idx) : EReal :=
  if h : n < cfg0.N then columns (rowBlock m c ⟨n, h⟩) (cotBlock m c ⟨n, h⟩) j else 0

theorem fold (b : ℕ) (h : b + 3 < cfg0.N) (j : S1024x1024.Idx) :
    Pipeline.accAt (Value.reset2 m c) (Value.step2 m c) b 3 h j = ∑ s ∈ Finset.range 4, addend m c (b + s) j := by
  refine (Pipeline.accAt_add_apply (Value.reset2 m c) (Value.step2 m c) (fun _ => (0 : EReal)) (addend m c) b 3 ?_ ?_ 3 le_rfl h j).trans (zero_add _)
  · intro hb i
    unfold Value.reset2 addend
    rw [dif_pos hb]
    exact (pay_add _ _ _ i).trans (congrArg (· + _) (pay_zero i))
  · intro n hn acc i _ _
    unfold Value.step2 addend
    rw [dif_pos hn]
    exact pay_add _ _ _ i

theorem blk0 (t : Fin cfg0.N) (k : Fin 2048) (a : Fin 1024) (r : Fin 8192) (hr : r.val = 2048 * (t.val % 4) + k.val) :
    (iblk m c 0 t : S2048x1024.Idx → EReal) (ix2 k a) = rows m c (ix2 r a) := by
  refine (rows_at m c (((cfg0.win 0).blk t).view.emb (ix2 k a))).trans (congrArg (rows m c) (funext fun a' => Fin.ext ?_))
  obtain ⟨e0, e1, -⟩ := places t
  match a' with
  | ⟨0, _⟩ => show win0_0.index t (0 : Fin 2) * 2048 + 1 * k.val = r.val; omega
  | ⟨1, _⟩ => show win0_0.index t (1 : Fin 2) * 1024 + 1 * a.val = a.val; omega

theorem blk1 (t : Fin cfg0.N) (k : Fin 2048) (b : Fin 1024) (r : Fin 8192) (hr : r.val = 2048 * (t.val % 4) + k.val)
    (d : Fin 3072) (hd : d.val = 1024 * (t.val / 4) + b.val) :
    (iblk m c 1 t : S2048x1024.Idx → EReal) (ix2 k b) = cots m c (ix2 r d) := by
  refine (cots_at m c (((cfg0.win 1).blk t).view.emb (ix2 k b))).trans (congrArg (cots m c) (funext fun a' => Fin.ext ?_))
  obtain ⟨-, -, e0, e1⟩ := places t
  match a' with
  | ⟨0, _⟩ => show win0_1.index t (0 : Fin 2) * 2048 + 1 * k.val = r.val; omega
  | ⟨1, _⟩ => show win0_1.index t (1 : Fin 2) * 1024 + 1 * b.val = d.val; omega

/-- The array the call leaves is the reference's. -/
theorem array : Value.G2 m c = result m c := by
  funext i
  have hN : cfg0.N = 12 := N_0
  have h0 : (i 0).val < 1024 := (i 0).isLt
  have h1 : (i 1).val < 3072 := (i 1).isLt
  have hq : Value.run2Of i = (i 1).val / 1024 := by
    show 3 * ((i 0).val / 1024 - 0) + 1 * ((i 1).val / 1024 - 0) = _
    omega
  unfold Value.G2 result
  rw [dif_pos (by rw [hq]; omega), ref_apply, fold]
  refine RowSums.four_blocks (fun k => rows m c (ix2 k (i 0)) * cots m c (ix2 k (i 1))) _ fun s hs => ?_
  have hn : 4 * Value.run2Of i + s < cfg0.N := by rw [hq]; omega
  unfold addend
  rw [dif_pos hn]
  refine Finset.sum_congr rfl fun k _ => ?_
  have hr : 2048 * s + k.val = 2048 * ((4 * Value.run2Of i + s) % 4) + k.val := by omega
  refine congrArg₂ (· * ·) ((blk0 m c ⟨_, hn⟩ k _ ⟨2048 * s + k.val, by have := k.isLt; omega⟩ hr).trans ?_)
    ((blk1 m c ⟨_, hn⟩ k _ ⟨2048 * s + k.val, by have := k.isLt; omega⟩ hr (i 1) ?_))
  · refine congrArg (rows m c) (congrArg (ix2 _) (Fin.ext ?_))
    show (i 0).val % 1024 = (i 0).val
    omega
  · show (i 1).val = 1024 * ((4 * Value.run2Of i + s) / 4) + (i 1).val % 1024
    rw [hq]; omega

theorem reference_frame : quiescent_GradInRefIdeal (hGradInRefIdeal := GradInRefIdeal.Gen.facts) := fun m g _ =>
  (θ_run _ _ _).mono
    (fun r h => ⟨fun c => (h c).2, sem_eq_zero_of_no_sems (by decide) r.2⟩)
    (GradInRefIdeal.Value.run (F := Ideal) m g)

open GradInRefIdeal.Read in
theorem result_congr {x0 y0 : Arr S8192x1024 .f32} {x1 y1 : Arr S8192x3072 .f32}
    (e0 : x0 = y0) (e1 : x1 = y1) : val_main_v3 x0 x1 = val_main_v3 y0 y1 := by
  subst e0 e1
  rfl

/-- At the exact values the call's result is the reference's. -/
theorem values : algebraic_GradInIdeal_GradInRefIdeal (hGradInIdeal := GradInIdeal.Gen.facts)
    (hGradInRefIdeal := GradInRefIdeal.Gen.facts) := by
  intro m g m' g' _ hagree
  refine ⟨fun c => result m c, ?_, ?_⟩
  · exact (θ_run _ _ _).mono (fun r h c => ⟨(h c).1.trans (array m c), (h c).2⟩)
      (GradInIdeal.Value.run (F := Ideal) m g)
  · refine (θ_run _ _ _).mono (fun r h c => ?_) (GradInRefIdeal.Value.run (F := Ideal) m' g')
    obtain ⟨e0, e1⟩ := hagree c
    exact ⟨((h c).1.trans (GradInRefIdeal.Read.val_main_v3_eq _ _)).trans (result_congr e0 e1), (h c).2⟩

end Cert.GradInIdeal.Grad

end
-- ==== Proof.GradDown.lean ====
/-
  The gradient of the MLP's second weights: the rows' outer products, summed a block of rows at a time, into the second
  half of each shard's rows; the first half is kept.
-/
module

public import proofs.«01_k».proof.Proof.Calls
public import proofs.«01_k».proof.Proof.RowSums
public import proofs.«01_k».proof.Proof.Gen.GradDown.Frame
public import proofs.«01_k».proof.Proof.Gen.GradDownIdeal.Value
public import proofs.«01_k».proof.Proof.Gen.GradDownRefIdeal.Read

@[expose] public section

noncomputable section

namespace Cert.GradDownIdeal.Grad

open Idealize.ShloMosaic Idealize.ShloMosaic.TcCoe Idealize.SL.Sem
open Cert.GradDownIdeal Cert.GradDownIdeal.Gen
open scoped BigOperators

theorem pay_zero (j : S1x1024x1024.Idx) : k0_pay1 (F := Ideal) j = 0 := by
  unfold k0_pay1
  simp only [pointwise]

theorem pay_add (a : Vec Ideal S1x1024x1024 .f32) (x y : Vec Ideal S2048x1024 .bf16) (j : S1x1024x1024.Idx) :
    k0_pay2 a x y j = a j + ∑ k : Fin 2048, x (ix2 k (j 1)) * y (ix2 k (j 2)) := by
  unfold k0_pay2
  simp only [pointwise, shapeCast_self]
  rw [zero_add]

theorem hz3 : (![0, 0, 0] : Fin 3 → Nat) = fun _ => 0 := funext fun a => by fin_cases a <;> rfl
/-- The first of four points in turn adds its products to zeros. -/
theorem out_first (c : Dev nD) (i : grid0.Coords) (arg3 : Memref sig .tc .vmem S2048x1024 .bf16) (harg3 : arg3.IsWhole)
    (arg4 : Memref sig .tc .vmem S2048x1024 .bf16) (harg4 : arg4.IsWhole) (arg6 : Memref sig .tc .vmem S1x1024x1024 .f32) (harg6 : arg6.IsWhole)
    (hc0 : cond0_0 i) (x y : Vec Ideal S2048x1024 .bf16) :
    out0_A_2 c i arg3 harg3 arg4 harg4 arg6 harg6 hc0 x y = k0_pay2 (k0_pay1 (F := Ideal)) x y := by
  unfold out0_A_2
  rw [View.read_writes_eq_canon _ _ _ (by apply cover0_A_2)]
  unfold kernelRun0_A
  dsimp only
  try sl_unfold_words
  rw [View.canon_cons_unit_zero (S := S1x1024x1024) hz3, View.readCov_unit_zero (S := S1x1024x1024) _ hz3]
  simp only [View.readAt_eq_ld, harg3.read_unread, harg4.read_unread, View.ld_unit_zero (S := S2048x1024) hz2]

/-- A later point adds its products to what the point before left. -/
theorem out_later (c : Dev nD) (i : grid0.Coords) (arg3 : Memref sig .tc .vmem S2048x1024 .bf16) (harg3 : arg3.IsWhole)
    (arg4 : Memref sig .tc .vmem S2048x1024 .bf16) (harg4 : arg4.IsWhole) (arg6 : Memref sig .tc .vmem S1x1024x1024 .f32) (harg6 : arg6.IsWhole)
    (hc0 : ¬cond0_0 i) (x y : Vec Ideal S2048x1024 .bf16) (a : Vec Ideal S1x1024x1024 .f32) :
    out0_B_2 c i arg3 harg3 arg4 harg4 arg6 harg6 hc0 x y a = k0_pay2 a x y := by
  unfold out0_B_2
  rw [View.read_writes_eq_canon _ _ _ (by apply cover0_B_2)]
  unfold kernelRun0_B
  dsimp only
  try sl_unfold_words
  rw [View.canon_unit_zero hz3]
  simp only [View.readAt_eq_ld, harg3.read_unread, harg4.read_unread, harg6.read_unread, View.ld_unit_zero (S := S2048x1024) hz2,
    View.ld_unit_zero (S := S1x1024x1024) hz3]

open GradDownRefIdeal.Read in
/-- The reference's first half of a shard's rows is the array it was given. -/
theorem ref_kept (x0 : Arr S8192x4096 .f32) (x1 : Arr S8192x1024 .f32)
    (x2 : Arr S4x2048x1024 .f32) (i : S4x2048x1024.Idx) (h : (i 1).val < 1024) :
    val_main_v6 x0 x1 x2 i = x2 i := by
  unfold val_main_v6
  refine (concatenate_pair_apply_left (s₁ := GradDownRefIdeal.S4x1024x1024) (s₂ := GradDownRefIdeal.S4x1024x1024) 1 _ _ _ i rfl (ix3 (i 0) ⟨(i 1).val, h⟩ (i 2)) fun b => ?_).trans ?_
  · match b with
    | ⟨0, _⟩ => rfl
    | ⟨1, _⟩ => rfl
    | ⟨2, _⟩ => rfl
  · rw [val_main_v4_apply]
    exact congrArg x2 (funext fun b => by match b with | ⟨0, _⟩ => rfl | ⟨1, _⟩ => rfl | ⟨2, _⟩ => rfl)

open GradDownRefIdeal.Read in
/-- Its second half holds the sums of products. -/
theorem ref_sums (x0 : Arr S8192x4096 .f32) (x1 : Arr S8192x1024 .f32)
    (x2 : Arr S4x2048x1024 .f32) (i : S4x2048x1024.Idx) (a : Fin 4) (p q : Fin 1024) (r : Fin 4096)
    (h0 : (i 0).val = a.val) (h1 : (i 1).val = 1024 + p.val) (h2 : (i 2).val = q.val) (hr : r.val = 1024 * a.val + p.val) :
    val_main_v6 x0 x1 x2 i = ∑ k : Fin 8192, x0 (ix2 k r) * x1 (ix2 k q) := by
  unfold val_main_v6
  refine (concatenate_pair_apply_right (s₁ := GradDownRefIdeal.S4x1024x1024) (s₂ := GradDownRefIdeal.S4x1024x1024) 1 _ _ _ i rfl rfl (ix3 a p q) (fun b hb => ?_) ?_).trans ?_
  · match b with
    | ⟨0, _⟩ => exact h0.symm
    | ⟨1, _⟩ => exact absurd rfl hb
    | ⟨2, _⟩ => exact h2.symm
  · show p.val + 1024 = (i 1).val
    omega
  · rw [val_main_v5_apply, val_main_v3_apply, val_main_v2_apply]
    refine Finset.sum_congr rfl fun k _ => (mul_comm _ _).trans (congrArg₂ (· * ·) (congrArg x0 ?_) (congrArg x1 ?_))
    · refine funext fun b => Fin.ext ?_
      match b with
      | ⟨0, _⟩ => rfl
      | ⟨1, _⟩ => show ((a.val * 1024 + p.val) * 1024 + q.val) / 1024 = r.val; omega
    · refine funext fun b => Fin.ext ?_
      match b with
      | ⟨0, _⟩ => rfl
      | ⟨1, _⟩ => show ((a.val * 1024 + p.val) * 1024 + q.val) % 1024 = q.val; omega

variable (m : (ℓ : Loc nD τ sig) → Buf (Elt Ideal) ℓ) (c : Dev nD)

/-- The rows, the cotangents and the gradients so far, as launched. -/
def rows : Arr S8192x4096 .f32 := m ((c : Thread nD τ).loc main_arg0)
def cots : Arr S8192x1024 .f32 := m ((c : Thread nD τ).loc main_arg1)
def given : Arr S4x2048x1024 .f32 := m ((c : Thread nD τ).loc main_arg2)

theorem rows_at (i : S8192x4096.Idx) : (V m c main_v0 : S8192x4096.Idx → EReal) i = rows m c i := by
  unfold rows
  rw [← V_main_arg0 m c]; unfold V
  after_reads_simp <;> rfl

theorem cots_at (i : S8192x1024.Idx) : (V m c main_v1 : S8192x1024.Idx → EReal) i = cots m c i := by
  unfold cots
  rw [← V_main_arg1 m c]; unfold V
  after_reads_simp <;> rfl

theorem given_at (i : S4x2048x1024.Idx) : (V m c main_v2 : S4x2048x1024.Idx → EReal) i = given m c i := by
  unfold given
  rw [← V_main_arg2 m c]; unfold V
  after_reads_simp <;> rfl

/-- The result array. -/
def result : Arr S4x2048x1024 .f32 :=
  GradDownRefIdeal.Read.val_main_v6 (rows m c) (cots m c) (given m c)

/-- Where each grid point's blocks lie: four points in turn take four blocks of rows. -/
theorem places : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 3) = t.val / 4 ∧ win0_2.index t (1 : Fin 3) = 1 ∧ win0_2.index t (2 : Fin 3) = 0 :=
  (by decide +kernel : ∀ t : Fin grid0.N, _)

/-- A grid point's block of rows, and its block of cotangents. -/
def rowBlock (t : Fin cfg0.N) : Vec Ideal S2048x1024 .bf16 := iblk m c 0 t
def cotBlock (t : Fin cfg0.N) : Vec Ideal S2048x1024 .bf16 := iblk m c 1 t

/-- The sum over a block's rows of the products of two columns. -/
def columns (x y : S2048x1024.Idx → EReal) (j : S1x1024x1024.Idx) : EReal := ∑ k : Fin 2048, x (ix2 k (j 1)) * y (ix2 k (j 2))

/-- The products a grid point adds. -/
def addend (n : ℕ) (j : S1x1024x1024.Idx) : EReal :=
  if h : n < cfg0.N then columns (rowBlock m c ⟨n, h⟩) (cotBlock m c ⟨n, h⟩) j else 0

/-- What the first of four points leaves, and what a later one makes of it. -/
def start (n : ℕ) (h : n < cfg0.N) : S1x1024x1024.Idx → EReal := k0_pay2 (k0_pay1 (F := Ideal)) (rowBlock m c ⟨n, h⟩) (cotBlock m c ⟨n, h⟩)
def onward (n : ℕ) (h : n < cfg0.N) (a : S1x1024x1024.Idx → EReal) : S1x1024x1024.Idx → EReal :=
  k0_pay2 a (rowBlock m c ⟨n, h⟩) (cotBlock m c ⟨n, h⟩)

theorem fold (b : ℕ) (h : b + 3 < cfg0.N) (j : S1x1024x1024.Idx) :
    Pipeline.accAt (start m c) (onward m c) b 3 h j = ∑ s ∈ Finset.range 4, addend m c (b + s) j := by
  refine (Pipeline.accAt_add_apply (start m c) (onward m c) (fun _ => (0 : EReal)) (addend m c) b 3 ?_ ?_ 3 le_rfl h j).trans (zero_add _)
  · intro hb i
    unfold start addend
    rw [dif_pos hb]
    exact (pay_add _ _ _ i).trans (congrArg (· + _) (pay_zero i))
  · intro n hn acc i _ _
    unfold onward addend
    rw [dif_pos hn]
    exact pay_add _ _ _ i

/-- The last of four points leaves their sum. -/
theorem left (t : Fin cfg0.N) (h3 : t.val % 4 = 3) (h : 4 * (t.val / 4) + 3 < cfg0.N) :
    outsAt0 m c t.val t.isLt = Pipeline.accAt (start m c) (onward m c) (4 * (t.val / 4)) 3 h := by
  have e := Pipeline.eq_accAt_of_mod (fun n hn => (outsAt0 m c n hn : S1x1024x1024.Idx → EReal)) 4 (start m c) (onward m c)
    (fun n hn h0 => (outsAt0_A m c ⟨n, hn⟩ h0).trans (out_first c _ _ _ _ _ _ _ _ _ _))
    (fun n hn h0 => (outsAt0_B m c ⟨n + 1, hn⟩ h0).trans (out_later c _ _ _ _ _ _ _ _ _ _ _))
    (by decide) t.val t.isLt (by rw [h3]; exact h)
  refine e.trans ?_
  congr 1

theorem blk0 (t : Fin cfg0.N) (k : Fin 2048) (a : Fin 1024) (r : Fin 8192) (hr : r.val = 2048 * (t.val % 4) + k.val)
    (d : Fin 4096) (hd : d.val = 1024 * (t.val / 4) + a.val) : rowBlock m c t (ix2 k a) = rows m c (ix2 r d) := by
  refine (rows_at m c (((cfg0.win 0).blk t).view.emb (ix2 k a))).trans (congrArg (rows m c) (funext fun a' => Fin.ext ?_))
  obtain ⟨e0, e1, -⟩ := places t
  match a' with
  | ⟨0, _⟩ => show win0_0.index t (0 : Fin 2) * 2048 + 1 * k.val = r.val; omega
  | ⟨1, _⟩ => show win0_0.index t (1 : Fin 2) * 1024 + 1 * a.val = d.val; omega

theorem blk1 (t : Fin cfg0.N) (k : Fin 2048) (b : Fin 1024) (r : Fin 8192) (hr : r.val = 2048 * (t.val % 4) + k.val) :
    cotBlock m c t (ix2 k b) = cots m c (ix2 r b) := by
  refine (cots_at m c (((cfg0.win 1).blk t).view.emb (ix2 k b))).trans (congrArg (cots m c) (funext fun a' => Fin.ext ?_))
  obtain ⟨-, -, e0, e1, -⟩ := places t
  match a' with
  | ⟨0, _⟩ => show win0_1.index t (0 : Fin 2) * 2048 + 1 * k.val = r.val; omega
  | ⟨1, _⟩ => show win0_1.index t (1 : Fin 2) * 1024 + 1 * b.val = b.val; omega

theorem disjoint : ∀ t t' : Fin cfg0.N, (cfg0.win 2).flush t = true → (cfg0.win 2).flush t' = true → t ≠ t' →
    Disjoint ((cfg0.win 2).blk t).view.set ((cfg0.win 2).blk t').view.set := by
  intro t t' h h' hne
  refine (cfg0.win 2).disjoint_blk fun e => hne (Fin.ext ?_)
  have e' : win0_2.index t (0 : Fin 3) = win0_2.index t' (0 : Fin 3) := congrFun e _
  have h1 := (flush0_2 t).mp h
  have h2 := (flush0_2 t').mp h'
  obtain ⟨-, -, -, -, e1, -⟩ := places t
  obtain ⟨-, -, -, -, e2, -⟩ := places t'
  omega

/-- A row of the second half of a shard is the four points' sum. -/
theorem array_sums (i : S4x2048x1024.Idx) (h1 : 1024 ≤ (i 1).val) : (dats m 0 c).arrAt 2 cfg0.N i = result m c i := by
  have hN : cfg0.N = 16 := N_0
  have b0 : (i 0).val < 4 := (i 0).isLt
  have b1 : (i 1).val < 2048 := (i 1).isLt
  have b2 : (i 2).val < 1024 := (i 2).isLt
  let t : Fin cfg0.N := ⟨4 * (i 0).val + 3, by omega⟩
  have ht : t.val = 4 * (i 0).val + 3 := rfl
  let p : Fin 1024 := ⟨(i 1).val - 1024, by omega⟩
  let y : S1x1024x1024.Idx := ix3 (0 : Fin 1) p (i 2)
  have hi : ((cfg0.win 2).blk t).view.emb y = i := by
    obtain ⟨-, -, -, -, e0, e1, e2⟩ := places t
    refine funext fun a => Fin.ext ?_
    match a with
    | ⟨0, _⟩ => show win0_2.index t (0 : Fin 3) * 1 + 1 * 0 = (i 0).val; omega
    | ⟨1, _⟩ => show win0_2.index t (1 : Fin 3) * 1024 + 1 * ((i 1).val - 1024) = (i 1).val; omega
    | ⟨2, _⟩ => show win0_2.index t (2 : Fin 3) * 1024 + 1 * (i 2).val = (i 2).val; omega
  have hflush : (cfg0.win 2).flush t = true := (flush0_2 t).mpr (by omega)
  have hleft := (dats m 0 c).arrAt_emb_eq_flushed 2 disjoint t hflush y
  rw [hi] at hleft
  refine hleft.trans ?_
  show (dats m 0 c).flushed 2 t y = _
  have h4 : 4 * (t.val / 4) + 3 < cfg0.N := by omega
  rw [Value.flushed2]
  refine (congrFun (left m c t (by omega) h4) y).trans ((fold m c _ h4 y).trans ?_)
  unfold result
  rw [ref_sums _ _ _ i ⟨(i 0).val, b0⟩ p ⟨(i 2).val, b2⟩ ⟨1024 * (i 0).val + p.val, by have := p.isLt; omega⟩ rfl
    (by show (i 1).val = 1024 + ((i 1).val - 1024); omega) rfl rfl]
  refine RowSums.four_blocks (fun k => rows m c (ix2 k _) * cots m c (ix2 k _)) _ fun s hs => ?_
  have hn : 4 * (t.val / 4) + s < cfg0.N := by omega
  unfold addend
  rw [dif_pos hn]
  refine Finset.sum_congr rfl fun k _ => ?_
  have hr : 2048 * s + k.val = 2048 * ((4 * (t.val / 4) + s) % 4) + k.val := by omega
  refine congrArg₂ (· * ·) (blk0 m c ⟨_, hn⟩ k _ ⟨2048 * s + k.val, by have := k.isLt; omega⟩ hr _ ?_)
    (blk1 m c ⟨_, hn⟩ k _ ⟨2048 * s + k.val, by have := k.isLt; omega⟩ hr)
  show 1024 * (i 0).val + p.val = 1024 * ((4 * (t.val / 4) + s) / 4) + p.val
  omega

/-- A row of the first half is kept. -/
theorem array_kept (i : S4x2048x1024.Idx) (h1 : (i 1).val < 1024) : (dats m 0 c).arrAt 2 cfg0.N i = result m c i := by
  refine (Value.entry2 m c i fun t _ hmem => ?_).trans ((given_at m c i).trans (ref_kept _ _ _ i h1).symm)
  obtain ⟨-, -, -, -, -, e1, -⟩ := places t
  obtain ⟨y, -, hy⟩ := Finset.mem_map.mp hmem
  have := congrArg (fun f : S4x2048x1024.Idx => (f 1).val) hy
  have hy' : win0_2.index t (1 : Fin 3) * 1024 + 1 * (y 1).val = (i 1).val := this
  omega

theorem array : (dats m 0 c).arrAt 2 cfg0.N = result m c := funext fun i =>
  (lt_or_ge (i 1).val 1024).elim (array_kept m c i) (array_sums m c i)

theorem reference_frame : quiescent_GradDownRefIdeal (hGradDownRefIdeal := GradDownRefIdeal.Gen.facts) := fun m g _ =>
  (θ_run _ _ _).mono
    (fun r h => ⟨fun c => (h c).2, sem_eq_zero_of_no_sems (by decide) r.2⟩)
    (GradDownRefIdeal.Value.run (F := Ideal) m g)

open GradDownRefIdeal.Read in
theorem result_congr {x0 y0 : Arr S8192x4096 .f32} {x1 y1 : Arr S8192x1024 .f32}
    {x2 y2 : Arr S4x2048x1024 .f32} (e0 : x0 = y0) (e1 : x1 = y1) (e2 : x2 = y2) :
    val_main_v6 x0 x1 x2 = val_main_v6 y0 y1 y2 := by
  subst e0 e1 e2
  rfl

/-- At the exact values the call's result is the reference's. -/
theorem values : algebraic_GradDownIdeal_GradDownRefIdeal (hGradDownIdeal := GradDownIdeal.Gen.facts)
    (hGradDownRefIdeal := GradDownRefIdeal.Gen.facts) := by
  intro m g m' g' _ hagree
  refine ⟨fun c => result m c, ?_, ?_⟩
  · exact (θ_run _ _ _).mono (fun r h c => ⟨(h c).1.trans (array m c), (h c).2⟩)
      (GradDownIdeal.Value.run_blocks (F := Ideal) m g)
  · refine (θ_run _ _ _).mono (fun r h c => ?_) (GradDownRefIdeal.Value.run (F := Ideal) m' g')
    obtain ⟨e0, e1, e2⟩ := hagree c
    exact ⟨((h c).1.trans (GradDownRefIdeal.Read.val_main_v6_eq _ _ _)).trans (result_congr e0 e1 e2), (h c).2⟩

end Cert.GradDownIdeal.Grad

end
-- ==== Proof.Norm.lean ====
/-
  The gradient of a root-mean-square norm at one entry of a row, in the two forms that it is written in.
-/
module

public import Idealize.ShloMosaic.PureOps.Ideal.Laws
public import Mathlib.Algebra.BigOperators.Fin

@[expose] public section

noncomputable section

namespace Cert.Norm

open Idealize.ShloMosaic
open scoped BigOperators

theorem half : Ideal.ofBits .f32 0xBF000000#32 = ((-(1 / 2) : ℝ) : EReal) := by
  have h : (-(1 / 2) : ℝ) = -((8388608 : ℝ) * (2 ^ 24)⁻¹) := by norm_num
  rw [h]
  simp [Ideal.ofBits, Ideal.ieee]

theorem width : Ideal.ofBits .f32 0x44800000#32 = ((1024 : ℝ) : EReal) := by
  have h : (1024 : ℝ) = (8388608 : ℝ) * (2 ^ 13)⁻¹ := by norm_num
  rw [h]
  simp [Ideal.ofBits, Ideal.ieee]

theorem share : Ideal.ofBits .f32 0x3A800000#32 = ((1 / 1024 : ℝ) : EReal) := by
  have h : (1 / 1024 : ℝ) = (8388608 : ℝ) * (2 ^ 33)⁻¹ := by norm_num
  rw [h]
  simp [Ideal.ofBits, Ideal.ieee]

theorem eps_pos : 0 < Ideal.ofBits .f32 0x358637BD#32 := by
  have h : (0 : EReal) < ((8796093 : ℝ) : EReal) * (((2 ^ 43)⁻¹ : ℝ) : EReal) := by
    rw [← EReal.coe_mul]
    exact_mod_cast (by norm_num : (0 : ℝ) < 8796093 * (2 ^ 43)⁻¹)
  simpa [Ideal.ofBits, Ideal.ieee] using h

/-- The mean square of a row, and the literal that keeps it from zero. -/
def meanSq (x : Fin 1024 → EReal) : EReal :=
  Ideal.div (∑ k, x k * x k) (Ideal.ofBits .f32 0x44800000#32) + Ideal.ofBits .f32 0x358637BD#32

theorem square_nonneg (a : EReal) : 0 ≤ a * a := by
  induction a with
  | bot => simp
  | top => simp
  | coe r => exact_mod_cast mul_self_nonneg r

theorem meanSq_pos (x : Fin 1024 → EReal) : 0 < meanSq x := by
  unfold meanSq
  have h : 0 ≤ Ideal.div (∑ k, x k * x k) (Ideal.ofBits .f32 0x44800000#32) := by
    rw [width]
    unfold Ideal.div
    rw [if_neg (by norm_num)]
    exact mul_nonneg (Finset.sum_nonneg fun k _ => square_nonneg _) (by rw [← EReal.coe_inv]; exact_mod_cast (by norm_num : (0 : ℝ) ≤ 1024⁻¹))
  exact lt_of_lt_of_le eps_pos (le_add_of_nonneg_left h)

/-- Minus a half of a value, twice, is minus the value. -/
theorem halves (q : EReal) : ((-(1 / 2) : ℝ) : EReal) * q + ((-(1 / 2) : ℝ) : EReal) * q = -q := by
  induction q with
  | bot => rw [EReal.coe_mul_bot_of_neg (by norm_num)]; rfl
  | top => rw [EReal.coe_mul_top_of_neg (by norm_num)]; rfl
  | coe r =>
    have : -(1 / 2) * r + -(1 / 2) * r = -r := by ring
    exact_mod_cast this

/-- The two forms of the gradient agree wherever the mean square is positive, infinite included. -/
theorem forms (e A P x : EReal) (he : 0 < e) :
    (A * Ideal.rsqrt e + x * Ideal.div (P * (Ideal.ofBits .f32 0xBF000000#32 * Ideal.div (Ideal.rsqrt e) e)) (Ideal.ofBits .f32 0x44800000#32))
        + Ideal.div (P * (Ideal.ofBits .f32 0xBF000000#32 * Ideal.div (Ideal.rsqrt e) e)) (Ideal.ofBits .f32 0x44800000#32) * x
      = Ideal.rsqrt e * A - x * (Ideal.rsqrt e * Ideal.rsqrt e * Ideal.rsqrt e * Ideal.ofBits .f32 0x3A800000#32) * P := by
  rw [half, width, share]
  have h1024 : ((1024 : ℝ) : EReal) ≠ 0 := by norm_num
  obtain ⟨r, hr, hd⟩ : ∃ r : ℝ, Ideal.rsqrt e = (r : EReal) ∧ Ideal.div (Ideal.rsqrt e) e = ((r * r * r : ℝ) : EReal) := by
    induction e with
    | bot => exact absurd he (by simp)
    | top => exact ⟨0, rfl, by unfold Ideal.div; simp⟩
    | coe y =>
      have hy : 0 < y := by exact_mod_cast he
      have e1 : Ideal.rsqrt (y : EReal) = (((Real.sqrt y)⁻¹ : ℝ) : EReal) := by
        rw [Ideal.rsqrt_coe, if_neg hy.le.not_gt, if_neg hy.ne']
      refine ⟨_, e1, ?_⟩
      rw [e1]
      unfold Ideal.div
      rw [if_neg (by exact_mod_cast hy.ne'), ← EReal.coe_inv, ← EReal.coe_mul]
      congr 1
      have hs : Real.sqrt y * Real.sqrt y = y := Real.mul_self_sqrt hy.le
      have h0 : Real.sqrt y ≠ 0 := (Real.sqrt_pos.mpr hy).ne'
      rw [mul_assoc, ← mul_inv (Real.sqrt y) (Real.sqrt y), hs]
  rw [hd, hr]
  have s : Ideal.div (P * (((-(1 / 2) : ℝ) : EReal) * ((r * r * r : ℝ) : EReal))) ((1024 : ℝ) : EReal)
      = ((-(1 / 2) : ℝ) : EReal) * (((r * r * r * (1 / 1024) : ℝ) : EReal) * P) := by
    unfold Ideal.div
    rw [if_neg h1024, ← EReal.coe_inv, ← EReal.coe_mul, mul_assoc P, ← EReal.coe_mul, ← mul_assoc ((-(1 / 2) : ℝ) : EReal), ← EReal.coe_mul, mul_comm P]
    congr 2
    ring
  rw [s]
  have q1 : x * (((-(1 / 2) : ℝ) : EReal) * (((r * r * r * (1 / 1024) : ℝ) : EReal) * P))
      = ((-(1 / 2) : ℝ) : EReal) * (x * ((r * r * r * (1 / 1024) : ℝ) : EReal) * P) := by
    rw [mul_left_comm, mul_assoc x]
  rw [mul_comm (((-(1 / 2) : ℝ) : EReal) * _) x, q1, add_assoc, halves, mul_comm A, ← EReal.coe_mul, ← EReal.coe_mul, ← EReal.coe_mul]
  rfl

/-- What reaches a row's entry: the residual's cotangent, and the norm's own part. -/
def entry (h g x : Fin 1024 → EReal) (res : EReal) (j : Fin 1024) : EReal :=
  res + (Ideal.rsqrt (meanSq x) * (h j * g j)
    - x j * (Ideal.rsqrt (meanSq x) * Ideal.rsqrt (meanSq x) * Ideal.rsqrt (meanSq x) * Ideal.ofBits .f32 0x3A800000#32) * ∑ k, h k * g k * x k)

/-- A row's part of a gain's gradient. -/
def gain (h x : Fin 1024 → EReal) (j : Fin 1024) : EReal := h j * (x j * Ideal.rsqrt (meanSq x))

end Cert.Norm

end
-- ==== Proof.UpBwd.lean ====
/-
  The gradient through the MLP's first weights and the norm before them: of the residual stream, and of the norm's gain.
-/
module

public import proofs.«01_k».proof.Proof.Calls
public import proofs.«01_k».proof.Proof.RowSums
public import proofs.«01_k».proof.Proof.Norm
public import proofs.«01_k».proof.Proof.Gen.UpBwd.Frame
public import proofs.«01_k».proof.Proof.Gen.UpBwdIdeal.Value
public import proofs.«01_k».proof.Proof.Gen.UpBwdRefIdeal.Read

@[expose] public section

noncomputable section

namespace Cert.UpBwdIdeal.Norm

open Idealize.ShloMosaic Idealize.ShloMosaic.TcCoe Idealize.SL.Sem
open Cert.UpBwdIdeal Cert.UpBwdIdeal.Gen Cert.Norm
open scoped BigOperators

/-! ## The kernel's block and the reference's array, at an index -/

/-- The cotangent of the normed row: the row's product with the weights' rows. -/
def back (d : Fin 4096 → EReal) (w : S1024x4096.Idx → EReal) (j : Fin 1024) : EReal := ∑ k : Fin 4096, d k * w (ix2 j k)

theorem pay_back (v1 : Vec Ideal S512x4096 .bf16) (v3 : Vec Ideal S1024x4096 .bf16) (i : S512x1024.Idx) :
    k0_pay3 v1 v3 i = back (fun k => v1 (ix2 (i 0) k)) v3 (i 1) := by
  unfold k0_pay3 back
  simp only [pointwise, shapeCast_self]
  rw [zero_add]

theorem pay_root (v0 : Vec Ideal S512x1024 .f32) (i : S512x1.Idx) :
    k0_pay4 v0 i = Ideal.rsqrt (meanSq fun k => v0 (ix2 (i 0) k)) := by
  unfold k0_pay4 meanSq
  simp only [pointwise, shapeCast_self]

theorem pay_entry (v0 : Vec Ideal S512x1024 .f32) (v1 : Vec Ideal S512x4096 .bf16) (v3 : Vec Ideal S1024x4096 .bf16) (v6 : Vec Ideal S1x1024 .f32)
    (v35 : Vec Ideal S512x1024 .f32) (i : S512x1024.Idx) : k0_pay6 v0 v1 v3 v6 v35 i
      = entry (back (fun k => v1 (ix2 (i 0) k)) v3) (fun k => v6 (ix2 0 k)) (fun k => v0 (ix2 (i 0) k)) (v35 i) (i 1) := by
  unfold k0_pay6 entry
  simp only [pointwise, shapeCast_self, pay_root, pay_back]
  rfl

theorem pay_gain (v0 : Vec Ideal S512x1024 .f32) (v1 : Vec Ideal S512x4096 .bf16) (v3 : Vec Ideal S1024x4096 .bf16) (a : Vec Ideal S1x1024 .f32)
    (i : S1x1024.Idx) : k0_pay2 (k0_pay5 v0 v1 v3) a i
      = a i + ∑ p : Fin 512, gain (back (fun k => v1 (ix2 p k)) v3) (fun k => v0 (ix2 p k)) (i 1) := by
  unfold k0_pay2 k0_pay5 gain
  simp only [pointwise, shapeCast_self, pay_root, pay_back]
  rfl

theorem pay_zero (i : S1x1024.Idx) : k0_pay1 (F := Ideal) i = 0 := by
  unfold k0_pay1
  simp only [pointwise]

section Reference

open UpBwdRefIdeal.Read

variable (x0 : Arr S8192x4096 .f32) (x1 : Arr S1024x4096 .f32)
  (x2 : Arr S8192x1024 .f32) (x3 : Arr S1024 .f32)
  (x4 : Arr S8192x1024 .f32)

theorem ref_back (i : S8192x1024.Idx) : val_main_v17 x0 x1 i = back (fun k => x0 (ix2 (i 0) k)) x1 (i 1) := by
  rw [val_main_v17_apply]
  refine Finset.sum_congr rfl fun k _ => congrArg₂ (· * ·) (congrArg x0 ?_) (congrArg x1 ?_)
  · exact funext fun a => by match a with | ⟨0, _⟩ => rfl | ⟨1, _⟩ => rfl
  · exact funext fun a => by match a with | ⟨0, _⟩ => rfl | ⟨1, _⟩ => rfl

theorem ref_meanSq (i : UpBwdRefIdeal.S8192x1.Idx) : val_main_v6 x2 i = meanSq fun k => x2 (ix2 (i 0) k) := by
  rw [val_main_v6_apply, val_main_v4_apply, val_main_v2_apply, val_main_v1_apply, val_main_v3_apply, val_main_v5_apply]
  simp only [val_main_v0_apply, val_main_cst_apply, val_main_cst_0_apply, val_main_cst_1_apply]
  show Ideal.div (Ideal.ofBits .f32 0x00000000#32 + _) _ + _ = _
  rw [Ideal.ofBits_zero_f32, zero_add]
  unfold meanSq
  refine congrArg (fun s => Ideal.div s _ + _) (Finset.sum_congr rfl fun k _ => ?_)
  have e : idx_main_v1 (idx_main_v2 i) k = ix2 (i 0) k := funext fun a => by match a with | ⟨0, _⟩ => rfl | ⟨1, _⟩ => rfl
  rw [e]
  rfl

theorem ref_root (i : UpBwdRefIdeal.S8192x1.Idx) : val_main_v7 x2 i = Ideal.rsqrt (meanSq fun k => x2 (ix2 (i 0) k)) := by
  rw [val_main_v7_apply, ref_meanSq]
  rfl

theorem ref_scaled (i : S8192x1024.Idx) : val_main_v22 x0 x1 x3 i = back (fun k => x0 (ix2 (i 0) k)) x1 (i 1) * x3 (ix1 (i 1)) := by
  rw [val_main_v22_apply, ref_back, val_main_v21_apply, val_main_v13_apply]
  refine congrArg (_ * ·) (congrArg x3 (funext fun a => ?_))
  match a with | ⟨0, _⟩ => rfl

theorem ref_part (i : S8192x1024.Idx) : val_main_v33 x0 x1 x2 x3 i
    = Ideal.div ((∑ k, back (fun k => x0 (ix2 (i 0) k)) x1 k * x3 (ix1 k) * x2 (ix2 (i 0) k)) * (Ideal.ofBits .f32 0xBF000000#32
        * Ideal.div (Ideal.rsqrt (meanSq fun k => x2 (ix2 (i 0) k))) (meanSq fun k => x2 (ix2 (i 0) k)))) (Ideal.ofBits .f32 0x44800000#32) := by
  rw [val_main_v33_apply, val_main_v32_apply, Fin.sum_univ_one, val_main_v31_apply, val_main_v29_apply, val_main_v10_apply, val_main_v8_apply,
    ref_root, ref_meanSq, val_main_v26_apply, val_main_v25_apply, val_main_v9_apply, val_main_v30_apply]
  simp only [val_main_v24_apply, ref_scaled, val_main_cst_2_apply, val_main_cst_5_apply, val_main_cst_6_apply, val_main_cst_7_apply]
  show Ideal.ofBits .f32 0x00000000#32 + Ideal.div ((Ideal.ofBits .f32 0x00000000#32 + _) * _) _ = _
  rw [Ideal.ofBits_zero_f32, zero_add, zero_add]
  refine congrArg (fun s => Ideal.div (s * _) _) (Finset.sum_congr rfl fun k _ => ?_)
  have e : idx_main_v25 (idx_main_v26 (idx_main_v32 (idx_main_v33 i) 0)) k = ix2 (i 0) k := funext fun a => Fin.ext (by
    match a with
    | ⟨0, _⟩ => show (i 0).val * 1 + 0 = (i 0).val; omega
    | ⟨1, _⟩ => rfl)
  rw [e]
  exact mul_comm _ _

theorem ref_entry (i : S8192x1024.Idx) : val_main_v38 x0 x1 x2 x3 x4 i
    = entry (back (fun k => x0 (ix2 (i 0) k)) x1) (fun k => x3 (ix1 k)) (fun k => x2 (ix2 (i 0) k)) (x4 i) (i 1) := by
  rw [val_main_v38_apply, val_main_v37_apply, val_main_v35_apply, val_main_v36_apply, val_main_v34_apply, val_main_v28_apply, val_main_v27_apply,
    ref_root, ref_scaled, ref_part]
  have e : x2 i = x2 (ix2 (i 0) (i 1)) := congrArg x2 (funext fun a => by match a with | ⟨0, _⟩ => rfl | ⟨1, _⟩ => rfl)
  rw [e]
  exact congrArg (x4 i + ·) (forms _ _ _ _ (meanSq_pos _))

theorem ref_gain (i : S1x1024.Idx) : val_main_v40 x0 x1 x2 i
    = ∑ p : Fin 8192, gain (back (fun k => x0 (ix2 p k)) x1) (fun k => x2 (ix2 p k)) (i 1) := by
  have h0 : (i 0).val < 1 := (i 0).isLt
  rw [val_main_v40_apply, val_main_v23_apply, Fin.sum_univ_one, val_main_v20_apply, val_main_v19_apply]
  simp only [val_main_v18_apply, val_main_v12_apply, val_main_v11_apply, ref_root, ref_back, val_main_cst_3_apply, val_main_cst_4_apply]
  show Ideal.ofBits .f32 0x00000000#32 + (Ideal.ofBits .f32 0x00000000#32 + _) = _
  rw [Ideal.ofBits_zero_f32, zero_add, zero_add]
  refine Finset.sum_congr rfl fun p _ => ?_
  have e : idx_main_v19 (idx_main_v20 (idx_main_v23 (idx_main_v40 i) 0)) p = ix2 p (i 1) := funext fun a => Fin.ext (by
    match a with
    | ⟨0, _⟩ => rfl
    | ⟨1, _⟩ => show 0 * 1024 + ((i 0).val * 1024 + (i 1).val) = (i 1).val; omega)
  rw [e]
  exact mul_comm _ _

end Reference

/-! ## What a grid point leaves in its three outputs' buffers -/

section Left

variable (c : Dev nD) (i : grid0.Coords) (arg1 : Memref sig .tc .vmem S512x4096 .bf16) (harg1 : arg1.IsWhole)
  (arg2 : Memref sig .tc .vmem S1024x4096 .bf16) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S512x1024 .bf16) (harg7 : arg7.IsWhole)
  (arg8 : Memref sig .tc .vmem S1x1024 .f32) (harg8 : arg8.IsWhole)
  (x0 : Vec Ideal S512x4096 .bf16) (x1 : Vec Ideal S1024x4096 .bf16) (x2 : Vec Ideal S512x1024 .f32) (x3 : Vec Ideal S1x1024 .f32)
  (x4 : Vec Ideal S512x1024 .f32) (a : Vec Ideal S1x1024 .f32)

theorem first (hc0 : cond0_0 i) : out0_A_5 c i arg1 harg1 arg2 harg2 arg3 harg3 arg4 harg4 arg5 harg5 arg6 harg6 arg7 harg7 arg8 harg8 hc0 x0 x1 x2 x3 x4 = k0_pay6 x2 x0 x1 x3 x4
    ∧ out0_A_6 c i arg1 harg1 arg2 harg2 arg3 harg3 arg4 harg4 arg5 harg5 arg6 harg6 arg7 harg7 arg8 harg8 hc0 x0 x1 x2 x3 x4 = k0_pay7 x2 x0 x1 x3 x4
    ∧ out0_A_7 c i arg1 harg1 arg2 harg2 arg3 harg3 arg4 harg4 arg5 harg5 arg6 harg6 arg7 harg7 arg8 harg8 hc0 x0 x1 x2 x3 x4 = k0_pay2 (k0_pay5 x2 x0 x1) (k0_pay1 (F := Ideal)) := by
  unfold out0_A_5 out0_A_6 out0_A_7
  rw [View.read_writes_eq_canon _ _ _ (by apply cover0_A_5), View.read_writes_eq_canon _ _ _ (by apply cover0_A_6), View.read_writes_eq_canon _ _ _ (by apply cover0_A_7)]
  unfold kernelRun0_A
  dsimp only
  try sl_unfold_words
  refine ⟨(View.canon_unit_zero hz2 _ _).trans ?_, (View.canon_unit_zero hz2 _ _).trans ?_, (View.canon_cons_unit_zero (S := S1x1024) hz2 _ _ _).trans ?_⟩
  on_goal 3 => rw [View.readCov_unit_zero (S := S1x1024) _ hz2]
  all_goals simp only [View.readAt_eq_ld, harg1.read_unread, harg2.read_unread, harg3.read_unread, harg4.read_unread, harg5.read_unread, harg8.read_unread,
    View.ld_unit_zero (S := S512x4096) hz2, View.ld_unit_zero (S := S1024x4096) hz2, View.ld_unit_zero (S := S512x1024) hz2,
    View.ld_unit_zero (S := S1x1024) hz2]

theorem later (hc0 : ¬cond0_0 i) : out0_B_5 c i arg1 harg1 arg2 harg2 arg3 harg3 arg4 harg4 arg5 harg5 arg6 harg6 arg7 harg7 arg8 harg8 hc0 x0 x1 x2 x3 x4 a = k0_pay6 x2 x0 x1 x3 x4
    ∧ out0_B_6 c i arg1 harg1 arg2 harg2 arg3 harg3 arg4 harg4 arg5 harg5 arg6 harg6 arg7 harg7 arg8 harg8 hc0 x0 x1 x2 x3 x4 a = k0_pay7 x2 x0 x1 x3 x4
    ∧ out0_B_7 c i arg1 harg1 arg2 harg2 arg3 harg3 arg4 harg4 arg5 harg5 arg6 harg6 arg7 harg7 arg8 harg8 hc0 x0 x1 x2 x3 x4 a = k0_pay2 (k0_pay5 x2 x0 x1) a := by
  unfold out0_B_5 out0_B_6 out0_B_7
  rw [View.read_writes_eq_canon _ _ _ (by apply cover0_B_5), View.read_writes_eq_canon _ _ _ (by apply cover0_B_6), View.read_writes_eq_canon _ _ _ (by apply cover0_B_7)]
  unfold kernelRun0_B
  dsimp only
  try sl_unfold_words
  refine ⟨(View.canon_unit_zero hz2 _ _).trans ?_, (View.canon_unit_zero hz2 _ _).trans ?_, (View.canon_unit_zero hz2 _ _).trans ?_⟩
  all_goals simp only [View.readAt_eq_ld, harg1.read_unread, harg2.read_unread, harg3.read_unread, harg4.read_unread, harg5.read_unread, harg8.read_unread,
    View.ld_unit_zero (S := S512x4096) hz2, View.ld_unit_zero (S := S1024x4096) hz2, View.ld_unit_zero (S := S512x1024) hz2,
    View.ld_unit_zero (S := S1x1024) hz2]

end Left

variable (m : (ℓ : Loc nD τ sig) → Buf (Elt Ideal) ℓ) (c : Dev nD)

/-- The hidden cotangents, the weights, the normed rows' source, the gain and the residual cotangents, as launched. -/
def cots : Arr S8192x4096 .f32 := m ((c : Thread nD τ).loc main_arg0)
def weights : Arr S1024x4096 .f32 := m ((c : Thread nD τ).loc main_arg1)
def rows : Arr S8192x1024 .f32 := m ((c : Thread nD τ).loc main_arg2)
def gains : Arr S1024 .f32 := m ((c : Thread nD τ).loc main_arg3)
def resid : Arr S8192x1024 .f32 := m ((c : Thread nD τ).loc main_arg4)

theorem cots_at (i : S8192x4096.Idx) : (V m c main_v0 : S8192x4096.Idx → EReal) i = cots m c i := by
  unfold cots
  rw [← V_main_arg0 m c]; unfold V
  after_reads_simp <;> rfl

theorem weights_at (i : S1024x4096.Idx) : (V m c main_v1 : S1024x4096.Idx → EReal) i = weights m c i := by
  unfold weights
  rw [← V_main_arg1 m c]; unfold V
  after_reads_simp <;> rfl

theorem rows_at (i : S8192x1024.Idx) : (V m c main_arg2 : S8192x1024.Idx → EReal) i = rows m c i :=
  congrFun (V_main_arg2 m c) i

theorem resid_at (i : S8192x1024.Idx) : (V m c main_arg4 : S8192x1024.Idx → EReal) i = resid m c i :=
  congrFun (V_main_arg4 m c) i

theorem gains_at (i : S1x1024.Idx) : (V m c main_v2 : S1x1024.Idx → EReal) i = gains m c (ix1 (i 1)) := by
  have e : (V m c main_v2 : S1x1024.Idx → EReal) = Idealize.ShloMosaic.shapeCast S1x1024 (gains m c) shapeCasts_S1024_S1x1024 := by
    unfold gains
    rw [← V_main_arg3 m c]; unfold V
    after_reads_simp <;> rfl
  rw [e]
  refine shapeCast_apply _ shapeCasts_S1024_S1x1024 i (ix1 (i 1)) ?_
  have h0 : (i 0).val < 1 := (i 0).isLt
  rw [Shape.rowMajor_val_one, Shape.rowMajor_val_two]
  show (i 1).val = (i 0).val * 1024 + (i 1).val
  omega

/-- The three results: of the stream, twice, and of the gain. -/
def stream : Arr S8192x1024 .f32 :=
  UpBwdRefIdeal.Read.val_main_v38 (cots m c) (weights m c) (rows m c) (gains m c) (resid m c)
def ofGain : Arr S1x1024 .f32 :=
  UpBwdRefIdeal.Read.val_main_v40 (cots m c) (weights m c) (rows m c)

/-- Where each grid point's blocks lie. -/
theorem places : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ win0_7.index t (0 : Fin 2) = 0 ∧ win0_7.index t (1 : Fin 2) = 0 :=
  (by decide +kernel : ∀ t : Fin grid0.N, _)

/-- A grid point's blocks. -/
def cotBlock (t : Fin cfg0.N) : Vec Ideal S512x4096 .bf16 := iblk m c 0 t
def weightBlock (t : Fin cfg0.N) : Vec Ideal S1024x4096 .bf16 := iblk m c 1 t
def rowBlock (t : Fin cfg0.N) : Vec Ideal S512x1024 .f32 := iblk m c 2 t
def gainBlock (t : Fin cfg0.N) : Vec Ideal S1x1024 .f32 := iblk m c 3 t
def residBlock (t : Fin cfg0.N) : Vec Ideal S512x1024 .f32 := iblk m c 4 t

theorem blk0 (t : Fin cfg0.N) (p : Fin 512) (k : Fin 4096) (r : Fin 8192) (hr : r.val = 512 * t.val + p.val) :
    cotBlock m c t (ix2 p k) = cots m c (ix2 r k) := by
  refine (cots_at m c (((cfg0.win 0).blk t).view.emb (ix2 p k))).trans (congrArg (cots m c) (funext fun a => Fin.ext ?_))
  obtain ⟨⟨e0, e1⟩, -⟩ := places t
  match a with
  | ⟨0, _⟩ => show win0_0.index t (0 : Fin 2) * 512 + 1 * p.val = r.val; omega
  | ⟨1, _⟩ => show win0_0.index t (1 : Fin 2) * 4096 + 1 * k.val = k.val; omega

theorem blk1 (t : Fin cfg0.N) : weightBlock m c t = weights m c := by
  funext y
  refine (weights_at m c (((cfg0.win 1).blk t).view.emb y)).trans (congrArg (weights m c) (funext fun a => Fin.ext ?_))
  obtain ⟨-, ⟨e0, e1⟩, -⟩ := places t
  match a with
  | ⟨0, _⟩ => show win0_1.index t (0 : Fin 2) * 1024 + 1 * (y 0).val = (y 0).val; omega
  | ⟨1, _⟩ => show win0_1.index t (1 : Fin 2) * 4096 + 1 * (y 1).val = (y 1).val; omega

theorem blk2 (t : Fin cfg0.N) (p : Fin 512) (k : Fin 1024) (r : Fin 8192) (hr : r.val = 512 * t.val + p.val) :
    rowBlock m c t (ix2 p k) = rows m c (ix2 r k) := by
  refine (rows_at m c (((cfg0.win 2).blk t).view.emb (ix2 p k))).trans (congrArg (rows m c) (funext fun a => Fin.ext ?_))
  obtain ⟨-, -, ⟨e0, e1⟩, -⟩ := places t
  match a with
  | ⟨0, _⟩ => show win0_2.index t (0 : Fin 2) * 512 + 1 * p.val = r.val; omega
  | ⟨1, _⟩ => show win0_2.index t (1 : Fin 2) * 1024 + 1 * k.val = k.val; omega

theorem blk3 (t : Fin cfg0.N) (k : Fin 1024) : gainBlock m c t (ix2 0 k) = gains m c (ix1 k) := by
  refine (gains_at m c (((cfg0.win 3).blk t).view.emb (ix2 0 k))).trans (congrArg (fun j => gains m c (ix1 j)) (Fin.ext ?_))
  obtain ⟨-, -, -, ⟨-, e1⟩, -⟩ := places t
  show win0_3.index t (1 : Fin 2) * 1024 + 1 * k.val = k.val
  omega

/-- Where an index of a row block of an output lies in the array. -/
def spot (t : Fin cfg0.N) (y : S512x1024.Idx) : S8192x1024.Idx := ((cfg0.win 5).blk t).view.emb y

theorem spot_0 (t : Fin cfg0.N) (y : S512x1024.Idx) : (spot t y 0).val = 512 * t.val + (y 0).val := by
  obtain ⟨-, -, -, -, -, ⟨e0, -⟩, -⟩ := places t
  show win0_5.index t (0 : Fin 2) * 512 + 1 * (y 0).val = _
  omega

theorem spot_1 (t : Fin cfg0.N) (y : S512x1024.Idx) : spot t y 1 = y 1 := by
  obtain ⟨-, -, -, -, -, ⟨-, e1⟩, -⟩ := places t
  refine Fin.ext ?_
  show win0_5.index t (1 : Fin 2) * 1024 + 1 * (y 1).val = (y 1).val
  omega

theorem blk4 (t : Fin cfg0.N) (y : S512x1024.Idx) : residBlock m c t y = resid m c (spot t y) := by
  refine (resid_at m c (((cfg0.win 4).blk t).view.emb y)).trans (congrArg (resid m c) (funext fun a => Fin.ext ?_))
  obtain ⟨-, -, -, -, ⟨e0, e1⟩, ⟨e2, e3⟩, -⟩ := places t
  match a with
  | ⟨0, _⟩ => show win0_4.index t (0 : Fin 2) * 512 + 1 * (y 0).val = win0_5.index t (0 : Fin 2) * 512 + 1 * (y 0).val; omega
  | ⟨1, _⟩ => show win0_4.index t (1 : Fin 2) * 1024 + 1 * (y 1).val = win0_5.index t (1 : Fin 2) * 1024 + 1 * (y 1).val; omega

theorem spot_rounded (t : Fin cfg0.N) (y : S512x1024.Idx) : (((cfg0.win 6).blk t).view.emb y : S8192x1024.Idx) = spot t y := rfl

/-- A grid point's block of the stream's gradient. -/
def piece (t : Fin cfg0.N) : Vec Ideal S512x1024 .f32 :=
  k0_pay6 (rowBlock m c t) (cotBlock m c t) (weightBlock m c t) (gainBlock m c t) (residBlock m c t)

theorem piece_at (t : Fin cfg0.N) (y : S512x1024.Idx) : piece m c t y = stream m c (spot t y) := by
  unfold piece stream
  rw [pay_entry, ref_entry, blk1, blk4, spot_1]
  congr 1
  · congr 1
    funext k
    exact blk0 m c t (y 0) k (spot t y 0) (spot_0 t y)
  · funext k
    exact blk3 m c t k
  · funext k
    exact blk2 m c t (y 0) k (spot t y 0) (spot_0 t y)

theorem flushed_stream (t : Fin cfg0.N) : (dats m 0 c).flushed 5 t = ((cfg0.win 5).blk t).view.read (Elt Ideal) (stream m c) := by
  funext y
  refine Eq.trans ?_ (piece_at m c t y)
  by_cases h0 : t.val % 16 = 0
  · rw [Value.flushed5_A m c t h0, (first ..).1]
    rfl
  · rw [Value.flushed5_B m c t h0, (later ..).1]
    rfl

theorem flushed_rounded (t : Fin cfg0.N) : (dats m 0 c).flushed 6 t = ((cfg0.win 6).blk t).view.read (Elt Ideal) (stream m c) := by
  funext y
  refine Eq.trans ?_ ((piece_at m c t y).trans (congrArg (stream m c) (spot_rounded t y).symm))
  by_cases h0 : t.val % 16 = 0
  · rw [Value.flushed6_A m c t h0, (first ..).2.1]
    rfl
  · rw [Value.flushed6_B m c t h0, (later ..).2.1]
    rfl

theorem N_16 : cfg0.N = 16 := N_0

theorem covered_stream (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN := N_16
  obtain ⟨t, ht⟩ : ∃ t : Fin cfg0.N, t.val = (i 0).val / 512 := ⟨⟨(i 0).val / 512, by omega⟩, rfl⟩
  obtain ⟨-, -, -, -, -, ⟨e0, e1⟩, -⟩ := places t
  refine ⟨t, flush0_5 t, ?_⟩
  show i ∈ ((View.whole main_v3_0).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

theorem covered_rounded (i : S8192x1024.Idx) : ∃ t : Fin cfg0.N, (cfg0.win 6).flush t = true ∧ i ∈ ((cfg0.win 6).blk t).view.set := by
  obtain ⟨t, -, h⟩ := covered_stream i
  have e : ((cfg0.win 6).blk t).view.set = ((cfg0.win 5).blk t).view.set := (View.set_slice_whole _ _).trans (View.set_slice_whole _ _).symm
  exact ⟨t, flush0_6 t, e ▸ h⟩

/-! ## The gain's gradient: the blocks' sums -/

/-- What a grid point adds. -/
def addend (n : ℕ) (j : S1x1024.Idx) : EReal := if h : n < cfg0.N then
  ∑ p : Fin 512, gain (back (fun k => cotBlock m c ⟨n, h⟩ (ix2 p k)) (weightBlock m c ⟨n, h⟩)) (fun k => rowBlock m c ⟨n, h⟩ (ix2 p k)) (j 1) else 0

/-- What the first point leaves, and what a later one makes of it. -/
def start (n : ℕ) (h : n < cfg0.N) : S1x1024.Idx → EReal :=
  k0_pay2 (k0_pay5 (rowBlock m c ⟨n, h⟩) (cotBlock m c ⟨n, h⟩) (weightBlock m c ⟨n, h⟩)) (k0_pay1 (F := Ideal))
def onward (n : ℕ) (h : n < cfg0.N) (a : S1x1024.Idx → EReal) : S1x1024.Idx → EReal :=
  k0_pay2 (k0_pay5 (rowBlock m c ⟨n, h⟩) (cotBlock m c ⟨n, h⟩) (weightBlock m c ⟨n, h⟩)) a

theorem fold (b : ℕ) (h : b + 15 < cfg0.N) (j : S1x1024.Idx) :
    Pipeline.accAt (start m c) (onward m c) b 15 h j = ∑ s ∈ Finset.range 16, addend m c (b + s) j := by
  refine (Pipeline.accAt_add_apply (start m c) (onward m c) (fun _ => (0 : EReal)) (addend m c) b 15 ?_ ?_ 15 le_rfl h j).trans (zero_add _)
  · intro hb i
    unfold start addend
    rw [dif_pos hb]
    exact (pay_gain _ _ _ _ i).trans (congrArg (· + _) (pay_zero i))
  · intro n hn acc i _ _
    unfold onward addend
    rw [dif_pos hn]
    exact pay_gain _ _ _ _ i

theorem left_first (t : Fin cfg0.N) (h0 : t.val % 16 = 0) : (outsAt0 m c t.val t.isLt).2.2 = start m c t.val t.isLt := by
  refine (congrArg (fun q => q.2.2) (outsAt0_A m c t h0)).trans ?_
  dsimp only
  rw [(first ..).2.2]
  rfl

theorem left_later (n : ℕ) (hn : n + 1 < cfg0.N) (h0 : ¬(n + 1) % 16 = 0) :
    (outsAt0 m c (n + 1) hn).2.2 = onward m c (n + 1) hn (outsAt0 m c n (Nat.lt_of_succ_lt hn)).2.2 := by
  have e := outsAt0_B m c ⟨n + 1, hn⟩ h0
  refine (congrArg (fun q => q.2.2) e).trans ?_
  dsimp only
  rw [(later ..).2.2]
  rfl

theorem left (t : Fin cfg0.N) (h15 : t.val % 16 = 15) (h : 16 * (t.val / 16) + 15 < cfg0.N) :
    (outsAt0 m c t.val t.isLt).2.2 = Pipeline.accAt (start m c) (onward m c) (16 * (t.val / 16)) 15 h := by
  have e := Pipeline.eq_accAt_of_mod (fun n hn => ((outsAt0 m c n hn).2.2 : S1x1024.Idx → EReal)) 16 (start m c) (onward m c)
    (fun n hn h0 => left_first m c ⟨n, hn⟩ h0) (fun n hn h0 => left_later m c n hn h0)
    (by decide) t.val t.isLt (by rw [h15]; exact h)
  refine e.trans ?_
  congr 1

theorem flushed_gain (t : Fin cfg0.N) (hf : (cfg0.win 7).flush t = true) :
    (dats m 0 c).flushed 7 t = ((cfg0.win 7).blk t).view.read (Elt Ideal) (ofGain m c) := by
  have h15 := (flush0_7 t).mp hf
  have hN := N_16
  have ht := t.isLt
  have hq : t.val / 16 = 0 := by omega
  have h : 16 * (t.val / 16) + 15 < cfg0.N := by omega
  funext y
  have hy : (((cfg0.win 7).blk t).view.emb y : S1x1024.Idx) = y := by
    refine funext fun a => Fin.ext ?_
    obtain ⟨-, -, -, -, -, -, -, e0, e1⟩ := places t
    match a with
    | ⟨0, _⟩ => show win0_7.index t (0 : Fin 2) * 1 + 1 * (y 0).val = (y 0).val; omega
    | ⟨1, _⟩ => show win0_7.index t (1 : Fin 2) * 1024 + 1 * (y 1).val = (y 1).val; omega
  refine Eq.trans ?_ (congrArg (ofGain m c) hy.symm)
  rw [Value.flushed7]
  refine (congrFun (left m c t h15 h) y).trans ((fold m c _ h y).trans ?_)
  unfold ofGain
  rw [ref_gain]
  refine RowSums.blocks 16 512 8192 rfl _ _ fun s hs => ?_
  have hn : 16 * (t.val / 16) + s < cfg0.N := by omega
  unfold addend
  rw [dif_pos hn]
  refine Finset.sum_congr rfl fun p _ => ?_
  rw [blk1]
  congr 1
  · congr 1
    funext k
    exact blk0 m c ⟨_, hn⟩ p k _ (by show 512 * s + p.val = 512 * (16 * (t.val / 16) + s) + p.val; omega)
  · funext k
    exact blk2 m c ⟨_, hn⟩ p k _ (by show 512 * s + p.val = 512 * (16 * (t.val / 16) + s) + p.val; omega)

theorem covered_gain (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  have hN := N_16
  obtain ⟨t, ht⟩ : ∃ t : Fin cfg0.N, t.val = 15 := ⟨⟨15, by omega⟩, rfl⟩
  obtain ⟨-, -, -, -, -, -, -, e0, e1⟩ := places t
  refine ⟨t, (flush0_7 t).mpr (by omega), ?_⟩
  show i ∈ ((View.whole main_v3_2).slice (win0_7.rect t)).set
  rw [View.set_slice_whole, Rect.mem_set_unit]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 1024 ≤ (i 1).val ∧ (i 1).val < win0_7.index t (1 : Fin 2) * 1024 + 1024; omega

/-! ## The arrays the call leaves -/

theorem array_stream : (dats m 0 c).arrAt 5 cfg0.N = stream m c :=
  (dats m 0 c).arrAt_eq_of_cover 5 _ (fun t _ => flushed_stream m c t) covered_stream

theorem array_rounded : (dats m 0 c).arrAt 6 cfg0.N = stream m c :=
  (dats m 0 c).arrAt_eq_of_cover 6 _ (fun t _ => flushed_rounded m c t) covered_rounded

theorem array_gain : (dats m 0 c).arrAt 7 cfg0.N = ofGain m c :=
  (dats m 0 c).arrAt_eq_of_cover 7 _ (fun t hf => flushed_gain m c t hf) covered_gain

theorem reference_frame : quiescent_UpBwdRefIdeal (hUpBwdRefIdeal := UpBwdRefIdeal.Gen.facts) := fun m g _ =>
  (θ_run _ _ _).mono
    (fun r h => ⟨fun c => (h c).2.2.2, sem_eq_zero_of_no_sems (by decide) r.2⟩)
    (UpBwdRefIdeal.Value.run (F := Ideal) m g)

section Agree

open UpBwdRefIdeal.Read

variable {x0 y0 : Arr S8192x4096 .f32} {x1 y1 : Arr S1024x4096 .f32}
  {x2 y2 : Arr S8192x1024 .f32} {x3 y3 : Arr S1024 .f32}
  {x4 y4 : Arr S8192x1024 .f32}

theorem stream_congr (e0 : x0 = y0) (e1 : x1 = y1) (e2 : x2 = y2) (e3 : x3 = y3) (e4 : x4 = y4) :
    val_main_v38 x0 x1 x2 x3 x4 = val_main_v38 y0 y1 y2 y3 y4 := by
  subst e0 e1 e2 e3 e4
  rfl

theorem gain_congr (e0 : x0 = y0) (e1 : x1 = y1) (e2 : x2 = y2) :
    val_main_v40 x0 x1 x2 = val_main_v40 y0 y1 y2 := by
  subst e0 e1 e2
  rfl

end Agree

/-- At the exact values the call's results are the reference's. -/
theorem values : algebraic_UpBwdIdeal_UpBwdRefIdeal (hUpBwdIdeal := UpBwdIdeal.Gen.facts)
    (hUpBwdRefIdeal := UpBwdRefIdeal.Gen.facts) := by
  intro m g m' g' _ hagree
  refine ⟨fun c => stream m c, fun c => stream m c, fun c => ofGain m c, ?_, ?_⟩
  · exact (θ_run _ _ _).mono
      (fun r h c => ⟨(h c).1.trans (array_stream m c), (h c).2.1.trans (array_rounded m c), (h c).2.2.1.trans (array_gain m c), (h c).2.2.2⟩)
      (UpBwdIdeal.Value.run_blocks (F := Ideal) m g)
  · refine (θ_run _ _ _).mono (fun r h c => ?_) (UpBwdRefIdeal.Value.run (F := Ideal) m' g')
    obtain ⟨e0, e1, e2, e3, e4⟩ := hagree c
    exact ⟨((h c).1.trans (UpBwdRefIdeal.Read.val_main_v38_eq _ _)).trans (stream_congr e0 e1 e2 e3 e4),
      ((h c).2.1.trans (UpBwdRefIdeal.Read.val_main_v39_eq _ _)).trans (stream_congr e0 e1 e2 e3 e4),
      ((h c).2.2.1.trans (UpBwdRefIdeal.Read.val_main_v40_eq _ _ _)).trans (gain_congr e0 e1 e2), (h c).2.2.2⟩

end Cert.UpBwdIdeal.Norm

end
-- ==== Proof.DownLoss.lean ====
/-
  The block's second product, the loss of its normed rows against the targets, and the gradients of the rows and of the norm's gain.
-/
module

public import proofs.«01_k».proof.Proof.Calls
public import proofs.«01_k».proof.Proof.RowSums
public import proofs.«01_k».proof.Proof.Norm
public import proofs.«01_k».proof.Proof.Gen.DownLoss.Frame
public import proofs.«01_k».proof.Proof.Gen.DownLossIdeal.Value
public import proofs.«01_k».proof.Proof.Gen.DownLossRefIdeal.Read

@[expose] public section

noncomputable section

namespace Cert.DownLossIdeal.Loss

open Idealize.ShloMosaic Idealize.ShloMosaic.TcCoe Idealize.SL.Sem
open Cert.DownLossIdeal Cert.DownLossIdeal.Gen Cert.Norm
open scoped BigOperators

/-! ## The literals -/

theorem one_half : Ideal.ofBits .f32 0x3F000000#32 = ((1 / 2 : ℝ) : EReal) := by
  have h : (1 / 2 : ℝ) = (8388608 : ℝ) * (2 ^ 24)⁻¹ := by norm_num
  rw [h]
  simp [Ideal.ofBits, Ideal.ieee]

theorem one : Ideal.ofBits .f32 0x3F800000#32 = ((1 : ℝ) : EReal) := by
  have h : (1 : ℝ) = (8388608 : ℝ) * (2 ^ 23)⁻¹ := by norm_num
  rw [h]
  simp [Ideal.ofBits, Ideal.ieee]

theorem two : Ideal.ofBits .f32 0x40000000#32 = ((2 : ℝ) : EReal) := by
  have h : (2 : ℝ) = (8388608 : ℝ) * (2 ^ 22)⁻¹ := by norm_num
  rw [h]
  simp [Ideal.ofBits, Ideal.ieee]

theorem half_share : Ideal.ofBits .f32 0x3A000000#32 = ((1 / 2048 : ℝ) : EReal) := by
  have h : (1 / 2048 : ℝ) = (8388608 : ℝ) * (2 ^ 34)⁻¹ := by norm_num
  rw [h]
  simp [Ideal.ofBits, Ideal.ieee]

theorem div_width (a : EReal) : Ideal.div a (Ideal.ofBits .f32 0x44800000#32) = a * ((1024⁻¹ : ℝ) : EReal) := by
  rw [width]
  unfold Ideal.div
  rw [if_neg (by norm_num), ← EReal.coe_inv]

/-- The derivative of a half of the mean of the squares, as the chain of its steps and as the miss's share. -/
theorem slope_forms (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [div_width, one_half, one, two, share, ← mul_assoc, ← EReal.coe_mul, ← EReal.coe_mul, ← EReal.coe_mul, mul_comm]
  norm_num

/-- A real at least zero distributes over a sum. -/
theorem mul_sum {n : ℕ} (r : ℝ) (h : 0 ≤ r) (f : Fin n → EReal) : (r : EReal) * ∑ k, f k = ∑ k, (r : EReal) * f k := by
  induction n with
  | zero => simp
  | succ n ih =>
    rw [Fin.sum_univ_succ, Fin.sum_univ_succ, EReal.left_distrib_of_nonneg_of_ne_top (by exact_mod_cast h) (EReal.coe_ne_top r), ih]

/-- A half of the sum of the rows' means is the sum of the rows' shares. -/
theorem loss_forms (f : Fin 8192 → EReal) : Ideal.ofBits .f32 0x3F000000#32 * ∑ r, Ideal.div (f r) (Ideal.ofBits .f32 0x44800000#32)
    = ∑ r, Ideal.ofBits .f32 0x3A000000#32 * f r := by
  rw [one_half, mul_sum _ (by norm_num)]
  refine Finset.sum_congr rfl fun r _ => ?_
  rw [div_width, half_share, mul_comm (f r), ← mul_assoc, ← EReal.coe_mul]
  norm_num

/-! ## The kernel's block and the reference's array, at an index -/

/-- A row of the stream after the block: the row before it and its product. -/
def total (x : Fin 1024 → EReal) (a : Fin 4096 → EReal) (w : S4096x1024.Idx → EReal) (j : Fin 1024) : EReal :=
  x j + ∑ k : Fin 4096, a k * w (ix2 k j)

/-- By how much the normed row misses its target, the loss's slope there, and the row's part of the loss. -/
def miss (t g s : Fin 1024 → EReal) (j : Fin 1024) : EReal := t j * Ideal.rsqrt (meanSq t) * g j - s j
def slope (t g s : Fin 1024 → EReal) (j : Fin 1024) : EReal := miss t g s j * Ideal.ofBits .f32 0x3A800000#32
def part (t g s : Fin 1024 → EReal) : EReal := Ideal.ofBits .f32 0x3A000000#32 * ∑ j, miss t g s j * miss t g s j

section Block

variable (v0 : Vec Ideal S512x1024 .f32) (v1 : Vec Ideal S512x4096 .bf16) (v3 : Vec Ideal S4096x1024 .bf16) (v7 : Vec Ideal S1x1024 .f32)
  (v21 : Vec Ideal S512x1024 .f32)

theorem pay_total (i : S512x1024.Idx) : k0_pay1 v0 v1 v3 i
    = total (fun k => v0 (ix2 (i 0) k)) (fun k => v1 (ix2 (i 0) k)) v3 (i 1) := by
  have e : v0 i = v0 (ix2 (i 0) (i 1)) := congrArg v0 (funext fun a => by match a with | ⟨0, _⟩ => rfl | ⟨1, _⟩ => rfl)
  unfold k0_pay1 total
  simp only [pointwise, shapeCast_self]
  rw [zero_add, e]

theorem pay_root (i : S512x1.Idx) : k0_pay5 v0 v1 v3 i
    = Ideal.rsqrt (meanSq (total (fun k => v0 (ix2 (i 0) k)) (fun k => v1 (ix2 (i 0) k)) v3)) := by
  unfold k0_pay5 meanSq
  simp only [pointwise, shapeCast_self, pay_total]

theorem pay_miss (i : S512x1024.Idx) : k0_pay3 v0 v1 v3 v7 v21 i
    = miss (total (fun k => v0 (ix2 (i 0) k)) (fun k => v1 (ix2 (i 0) k)) v3) (fun k => v7 (ix2 0 k)) (fun k => v21 (ix2 (i 0) k)) (i 1) := by
  have e : v21 i = v21 (ix2 (i 0) (i 1)) := congrArg v21 (funext fun a => by match a with | ⟨0, _⟩ => rfl | ⟨1, _⟩ => rfl)
  unfold k0_pay3 k0_pay2 miss meanSq
  simp only [pointwise, shapeCast_self, pay_total]
  rw [e]
  rfl

theorem pay_slope (i : S512x1024.Idx) : k0_pay4 v0 v1 v3 v7 v21 i
    = slope (total (fun k => v0 (ix2 (i 0) k)) (fun k => v1 (ix2 (i 0) k)) v3) (fun k => v7 (ix2 0 k)) (fun k => v21 (ix2 (i 0) k)) (i 1) := by
  unfold k0_pay4 slope
  simp only [pointwise, shapeCast_self, pay_miss]

theorem pay_scaled (i : S512x1024.Idx) : k0_pay6 v0 v1 v3 v7 v21 i
    = slope (total (fun k => v0 (ix2 (i 0) k)) (fun k => v1 (ix2 (i 0) k)) v3) (fun k => v7 (ix2 0 k)) (fun k => v21 (ix2 (i 0) k)) (i 1)
      * v7 (ix2 0 (i 1)) := by
  unfold k0_pay6 k0_pay2
  simp only [pointwise, shapeCast_self, pay_slope]
  rfl

theorem pay_entry (i : S512x1024.Idx) : k0_pay9 (k0_pay1 v0 v1 v3) (k0_pay5 v0 v1 v3) (k0_pay7 v0 v1 v3 v7 v21) (k0_pay8 v0 v1 v3 v7 v21) i
    = entry (slope (total (fun k => v0 (ix2 (i 0) k)) (fun k => v1 (ix2 (i 0) k)) v3) (fun k => v7 (ix2 0 k)) (fun k => v21 (ix2 (i 0) k)))
      (fun k => v7 (ix2 0 k)) (total (fun k => v0 (ix2 (i 0) k)) (fun k => v1 (ix2 (i 0) k)) v3) 0 (i 1) := by
  unfold k0_pay9 k0_pay7 k0_pay8 entry
  simp only [pointwise, shapeCast_self, pay_total, pay_root, pay_scaled]
  rw [zero_add]
  rfl

theorem pay_gain (a : Vec Ideal S1x1024 .f32) (i : S1x1024.Idx) :
    k0_pay13 (k0_pay1 v0 v1 v3) (k0_pay4 v0 v1 v3 v7 v21) (k0_pay5 v0 v1 v3) a i
    = a i + ∑ p : Fin 512, gain (slope (total (fun k => v0 (ix2 p k)) (fun k => v1 (ix2 p k)) v3) (fun k => v7 (ix2 0 k)) (fun k => v21 (ix2 p k)))
      (total (fun k => v0 (ix2 p k)) (fun k => v1 (ix2 p k)) v3) (i 1) := by
  unfold k0_pay13 gain
  simp only [pointwise, shapeCast_self, pay_total, pay_root, pay_slope]
  rfl

theorem pay_loss (a : Vec Ideal S1x128 .f32) (i : S1x128.Idx) : k0_pay14 (k0_pay3 v0 v1 v3 v7 v21) a i
    = a i + ∑ p : Fin 512, part (total (fun k => v0 (ix2 p k)) (fun k => v1 (ix2 p k)) v3) (fun k => v7 (ix2 0 k)) (fun k => v21 (ix2 p k)) := by
  unfold k0_pay14 part
  simp only [pointwise, shapeCast_self, pay_miss]
  refine congrArg (a i + ·) ?_
  rw [half_share, ← mul_sum _ (by norm_num), mul_comm, Finset.sum_comm]

theorem pay_zero (i : S1x1024.Idx) : k0_pay11 (F := Ideal) i = 0 := by
  unfold k0_pay11
  simp only [pointwise]

theorem pay_zeros (i : S1x128.Idx) : k0_pay12 (F := Ideal) i = 0 := by
  unfold k0_pay12
  simp only [pointwise]

end Block

section Reference

open DownLossRefIdeal.Read

variable (x0 : Arr S8192x4096 .f32) (x1 : Arr S4096x1024 .f32)
  (x2 : Arr S8192x1024 .f32) (x3 : Arr S1024 .f32)
  (x4 : Arr S8192x1024 .f32)

theorem ref_total (i : S8192x1024.Idx) : val_main_v1 x0 x1 x2 i = total (fun k => x2 (ix2 (i 0) k)) (fun k => x0 (ix2 (i 0) k)) x1 (i 1) := by
  have e : x2 i = x2 (ix2 (i 0) (i 1)) := congrArg x2 (funext fun a => by match a with | ⟨0, _⟩ => rfl | ⟨1, _⟩ => rfl)
  rw [val_main_v1_apply, val_main_v0_apply, e]
  refine congrArg (_ + ·) (Finset.sum_congr rfl fun k _ => congrArg₂ (fun p q => x0 p * x1 q) ?_ ?_)
  all_goals exact funext fun a => by match a with | ⟨0, _⟩ => rfl | ⟨1, _⟩ => rfl

theorem ref_meanSq (i : DownLossRefIdeal.S8192x1.Idx) : val_main_v8 x0 x1 x2 i
    = meanSq (total (fun k => x2 (ix2 (i 0) k)) (fun k => x0 (ix2 (i 0) k)) x1) := by
  rw [val_main_v8_apply, val_main_v6_apply, val_main_v4_apply, val_main_v3_apply, val_main_v5_apply, val_main_v7_apply]
  simp only [val_main_v2_apply, val_main_cst_apply, val_main_cst_0_apply, val_main_cst_1_apply, ref_total]
  show Ideal.div (Ideal.ofBits .f32 0x00000000#32 + _) _ + _ = _
  rw [Ideal.ofBits_zero_f32, zero_add]
  rfl

theorem ref_root (i : DownLossRefIdeal.S8192x1.Idx) : val_main_v9 x0 x1 x2 i
    = Ideal.rsqrt (meanSq (total (fun k => x2 (ix2 (i 0) k)) (fun k => x0 (ix2 (i 0) k)) x1)) := by
  rw [val_main_v9_apply, ref_meanSq]
  rfl

theorem ref_miss (i : S8192x1024.Idx) : val_main_v18 x0 x1 x2 x3 x4 i
    = miss (total (fun k => x2 (ix2 (i 0) k)) (fun k => x0 (ix2 (i 0) k)) x1) (fun k => x3 (ix1 k)) (fun k => x4 (ix2 (i 0) k)) (i 1) := by
  have e : x4 i = x4 (ix2 (i 0) (i 1)) := congrArg x4 (funext fun a => by match a with | ⟨0, _⟩ => rfl | ⟨1, _⟩ => rfl)
  rw [val_main_v18_apply, val_main_v17_apply, val_main_v14_apply, val_main_v13_apply, ref_total, ref_root, val_main_v16_apply, val_main_v15_apply, e]
  refine congrArg (fun g => _ * g - _) (congrArg x3 (funext fun a => ?_))
  match a with | ⟨0, _⟩ => rfl

theorem ref_slope (i : S8192x1024.Idx) : val_main_v32 x0 x1 x2 x3 x4 i
    = slope (total (fun k => x2 (ix2 (i 0) k)) (fun k => x0 (ix2 (i 0) k)) x1) (fun k => x3 (ix1 k)) (fun k => x4 (ix2 (i 0) k)) (i 1) := by
  rw [val_main_v32_apply, val_main_v21_apply, ref_miss, val_main_v20_apply, val_main_cst_3_apply, val_main_v31_apply, val_main_v30_apply, val_main_v28_apply,
    val_main_v29_apply, val_main_v27_apply, val_main_cst_8_apply, val_main_cst_9_apply, val_main_cst_10_apply]
  exact slope_forms _

theorem ref_scaled (i : S8192x1024.Idx) : val_main_v37 x0 x1 x2 x3 x4 i
    = slope (total (fun k => x2 (ix2 (i 0) k)) (fun k => x0 (ix2 (i 0) k)) x1) (fun k => x3 (ix1 k)) (fun k => x4 (ix2 (i 0) k)) (i 1)
      * x3 (ix1 (i 1)) := by
  rw [val_main_v37_apply, ref_slope, val_main_v36_apply, val_main_v15_apply]
  refine congrArg (_ * ·) (congrArg x3 (funext fun a => ?_))
  match a with | ⟨0, _⟩ => rfl

theorem ref_part (i : S8192x1024.Idx) : val_main_v48 x0 x1 x2 x3 x4 i
    = Ideal.div ((∑ k, slope (total (fun k => x2 (ix2 (i 0) k)) (fun k => x0 (ix2 (i 0) k)) x1) (fun k => x3 (ix1 k)) (fun k => x4 (ix2 (i 0) k)) k
          * x3 (ix1 k) * total (fun k => x2 (ix2 (i 0) k)) (fun k => x0 (ix2 (i 0) k)) x1 k)
        * (Ideal.ofBits .f32 0xBF000000#32
        * Ideal.div (Ideal.rsqrt (meanSq (total (fun k => x2 (ix2 (i 0) k)) (fun k => x0 (ix2 (i 0) k)) x1)))
          (meanSq (total (fun k => x2 (ix2 (i 0) k)) (fun k => x0 (ix2 (i 0) k)) x1)))) (Ideal.ofBits .f32 0x44800000#32) := by
  rw [val_main_v48_apply, val_main_v47_apply, Fin.sum_univ_one, val_main_v46_apply, val_main_v44_apply, val_main_v12_apply, val_main_v10_apply,
    ref_root, ref_meanSq, val_main_v41_apply, val_main_v40_apply, val_main_v11_apply, val_main_v45_apply]
  have e : ∀ k, idx_main_v40 (idx_main_v41 (idx_main_v47 (idx_main_v48 i) 0)) k = ix2 (i 0) k := fun k => funext fun a => Fin.ext (by
    match a with
    | ⟨0, _⟩ => show (i 0).val * 1 + 0 = (i 0).val; omega
    | ⟨1, _⟩ => rfl)
  simp only [val_main_v39_apply, ref_scaled, ref_total, val_main_cst_2_apply, val_main_cst_13_apply, val_main_cst_14_apply, val_main_cst_15_apply]
  show Ideal.ofBits .f32 0x00000000#32 + Ideal.div ((Ideal.ofBits .f32 0x00000000#32 + _) * _) _ = _
  rw [Ideal.ofBits_zero_f32, zero_add, zero_add]
  refine congrArg (fun s => Ideal.div (s * _) _) (Finset.sum_congr rfl fun k _ => ?_)
  rw [e]
  exact mul_comm _ _

theorem ref_entry (i : S8192x1024.Idx) : val_main_v52 x0 x1 x2 x3 x4 i
    = entry (slope (total (fun k => x2 (ix2 (i 0) k)) (fun k => x0 (ix2 (i 0) k)) x1) (fun k => x3 (ix1 k)) (fun k => x4 (ix2 (i 0) k)))
      (fun k => x3 (ix1 k)) (total (fun k => x2 (ix2 (i 0) k)) (fun k => x0 (ix2 (i 0) k)) x1) 0 (i 1) := by
  rw [val_main_v52_apply, val_main_v50_apply, val_main_v51_apply, val_main_v49_apply, val_main_v43_apply, val_main_v42_apply, ref_total, ref_root, ref_scaled, ref_part]
  unfold entry
  rw [zero_add]
  exact forms _ _ _ _ (meanSq_pos _)

theorem ref_gain (i : S1x1024.Idx) : val_main_v55 x0 x1 x2 x3 x4 i
    = ∑ p : Fin 8192, gain (slope (total (fun k => x2 (ix2 p k)) (fun k => x0 (ix2 p k)) x1) (fun k => x3 (ix1 k)) (fun k => x4 (ix2 p k)))
      (total (fun k => x2 (ix2 p k)) (fun k => x0 (ix2 p k)) x1) (i 1) := by
  have h0 : (i 0).val < 1 := (i 0).isLt
  rw [val_main_v55_apply, val_main_v38_apply, Fin.sum_univ_one, val_main_v35_apply, val_main_v34_apply]
  simp only [val_main_v33_apply, val_main_v14_apply, val_main_v13_apply, ref_total, ref_root, ref_slope, val_main_cst_11_apply, val_main_cst_12_apply]
  show Ideal.ofBits .f32 0x00000000#32 + (Ideal.ofBits .f32 0x00000000#32 + _) = _
  rw [Ideal.ofBits_zero_f32, zero_add, zero_add]
  refine Finset.sum_congr rfl fun p _ => ?_
  have e : idx_main_v34 (idx_main_v35 (idx_main_v38 (idx_main_v55 i) 0)) p = ix2 p (i 1) := funext fun a => Fin.ext (by
    match a with
    | ⟨0, _⟩ => rfl
    | ⟨1, _⟩ => show 0 * 1024 + ((i 0).val * 1024 + (i 1).val) = (i 1).val; omega)
  rw [e]
  exact mul_comm _ _

theorem ref_loss (i : S1x128.Idx) : val_main_v53 x0 x1 x2 x3 x4 i
    = ∑ p : Fin 8192, part (total (fun k => x2 (ix2 p k)) (fun k => x0 (ix2 p k)) x1) (fun k => x3 (ix1 k)) (fun k => x4 (ix2 p k)) := by
  rw [val_main_v53_apply, val_main_v26_apply, val_main_v25_apply, val_main_cst_7_apply, val_main_cst_6_apply]
  refine Eq.trans ?_ (loss_forms _)
  show Ideal.ofBits .f32 0x3F000000#32 * (Ideal.ofBits .f32 0x00000000#32 + _) = _
  rw [Ideal.ofBits_zero_f32, zero_add, sum_idx1]
  refine congrArg (_ * ·) (Finset.sum_congr rfl fun p _ => ?_)
  rw [val_main_v24_apply, val_main_v22_apply, val_main_v23_apply]
  simp only [val_main_v19_apply, ref_miss, val_main_cst_4_apply, val_main_cst_5_apply]
  show Ideal.div (Ideal.ofBits .f32 0x00000000#32 + _) _ = _
  rw [Ideal.ofBits_zero_f32, zero_add]
  rfl

end Reference

/-! ## What a grid point leaves in its four outputs' buffers -/

section Left

variable (c : Dev nD) (i : grid0.Coords) (arg1 : Memref sig .tc .vmem S512x4096 .bf16) (harg1 : arg1.IsWhole)
  (arg2 : Memref sig .tc .vmem S4096x1024 .bf16) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S512x1024 .f32) (harg5 : arg5.IsWhole)
  (arg6 : Memref sig .tc .vmem S1x128 .f32) (harg6 : arg6.IsWhole) (arg7 : Memref sig .tc .vmem S512x1024 .f32) (harg7 : arg7.IsWhole)
  (arg8 : Memref sig .tc .vmem S512x1024 .bf16) (harg8 : arg8.IsWhole) (arg9 : Memref sig .tc .vmem S1x1024 .f32) (harg9 : arg9.IsWhole)
  (x0 : Vec Ideal S512x4096 .bf16) (x1 : Vec Ideal S4096x1024 .bf16) (x2 : Vec Ideal S512x1024 .f32) (x3 : Vec Ideal S1x1024 .f32)
  (x4 : Vec Ideal S512x1024 .f32) (l : Vec Ideal S1x128 .f32) (a : Vec Ideal S1x1024 .f32)

theorem first (hc0 : cond0_0 i) : out0_A_5 c i arg1 harg1 arg2 harg2 arg3 harg3 arg4 harg4 arg5 harg5 arg6 harg6 arg7 harg7 arg8 harg8 arg9 harg9 hc0 x0 x1 x2 x3 x4
      = k0_pay14 (k0_pay3 x2 x0 x1 x3 x4) (k0_pay12 (F := Ideal))
    ∧ out0_A_6 c i arg1 harg1 arg2 harg2 arg3 harg3 arg4 harg4 arg5 harg5 arg6 harg6 arg7 harg7 arg8 harg8 arg9 harg9 hc0 x0 x1 x2 x3 x4
      = k0_pay9 (k0_pay1 x2 x0 x1) (k0_pay5 x2 x0 x1) (k0_pay7 x2 x0 x1 x3 x4) (k0_pay8 x2 x0 x1 x3 x4)
    ∧ out0_A_7 c i arg1 harg1 arg2 harg2 arg3 harg3 arg4 harg4 arg5 harg5 arg6 harg6 arg7 harg7 arg8 harg8 arg9 harg9 hc0 x0 x1 x2 x3 x4
      = k0_pay10 (k0_pay1 x2 x0 x1) (k0_pay5 x2 x0 x1) (k0_pay7 x2 x0 x1 x3 x4) (k0_pay8 x2 x0 x1 x3 x4)
    ∧ out0_A_8 c i arg1 harg1 arg2 harg2 arg3 harg3 arg4 harg4 arg5 harg5 arg6 harg6 arg7 harg7 arg8 harg8 arg9 harg9 hc0 x0 x1 x2 x3 x4
      = k0_pay13 (k0_pay1 x2 x0 x1) (k0_pay4 x2 x0 x1 x3 x4) (k0_pay5 x2 x0 x1) (k0_pay11 (F := Ideal)) := by
  unfold out0_A_5 out0_A_6 out0_A_7 out0_A_8
  rw [View.read_writes_eq_canon _ _ _ (by apply cover0_A_5),
    View.read_writes_eq_canon _ _ _ (by apply cover0_A_6),
    View.read_writes_eq_canon _ _ _ (by apply cover0_A_7),
    View.read_writes_eq_canon _ _ _ (by apply cover0_A_8)]
  unfold kernelRun0_A
  dsimp only
  try sl_unfold_words
  refine ⟨(View.canon_cons_unit_zero (S := S1x128) hz2 _ _ _).trans ?_, (View.canon_unit_zero hz2 _ _).trans ?_,
    (View.canon_unit_zero hz2 _ _).trans ?_, (View.canon_cons_unit_zero (S := S1x1024) hz2 _ _ _).trans ?_⟩
  on_goal 1 => rw [View.readCov_unit_zero (S := S1x128) _ hz2]
  on_goal 4 => rw [View.readCov_unit_zero (S := S1x1024) _ hz2]
  all_goals simp only [View.readAt_eq_ld, harg1.read_unread, harg2.read_unread, harg3.read_unread, harg4.read_unread, harg5.read_unread,
    harg6.read_unread, harg9.read_unread, View.ld_unit_zero (S := S512x4096) hz2, View.ld_unit_zero (S := S4096x1024) hz2,
    View.ld_unit_zero (S := S512x1024) hz2, View.ld_unit_zero (S := S1x1024) hz2, View.ld_unit_zero (S := S1x128) hz2]

theorem later (hc0 : ¬cond0_0 i) : out0_B_5 c i arg1 harg1 arg2 harg2 arg3 harg3 arg4 harg4 arg5 harg5 arg6 harg6 arg7 harg7 arg8 harg8 arg9 harg9 hc0 x0 x1 x2 x3 x4 l a
      = k0_pay14 (k0_pay3 x2 x0 x1 x3 x4) l
    ∧ out0_B_6 c i arg1 harg1 arg2 harg2 arg3 harg3 arg4 harg4 arg5 harg5 arg6 harg6 arg7 harg7 arg8 harg8 arg9 harg9 hc0 x0 x1 x2 x3 x4 l a
      = k0_pay9 (k0_pay1 x2 x0 x1) (k0_pay5 x2 x0 x1) (k0_pay7 x2 x0 x1 x3 x4) (k0_pay8 x2 x0 x1 x3 x4)
    ∧ out0_B_7 c i arg1 harg1 arg2 harg2 arg3 harg3 arg4 harg4 arg5 harg5 arg6 harg6 arg7 harg7 arg8 harg8 arg9 harg9 hc0 x0 x1 x2 x3 x4 l a
      = k0_pay10 (k0_pay1 x2 x0 x1) (k0_pay5 x2 x0 x1) (k0_pay7 x2 x0 x1 x3 x4) (k0_pay8 x2 x0 x1 x3 x4)
    ∧ out0_B_8 c i arg1 harg1 arg2 harg2 arg3 harg3 arg4 harg4 arg5 harg5 arg6 harg6 arg7 harg7 arg8 harg8 arg9 harg9 hc0 x0 x1 x2 x3 x4 l a
      = k0_pay13 (k0_pay1 x2 x0 x1) (k0_pay4 x2 x0 x1 x3 x4) (k0_pay5 x2 x0 x1) a := by
  unfold out0_B_5 out0_B_6 out0_B_7 out0_B_8
  rw [View.read_writes_eq_canon _ _ _ (by apply cover0_B_5),
    View.read_writes_eq_canon _ _ _ (by apply cover0_B_6),
    View.read_writes_eq_canon _ _ _ (by apply cover0_B_7),
    View.read_writes_eq_canon _ _ _ (by apply cover0_B_8)]
  unfold kernelRun0_B
  dsimp only
  try sl_unfold_words
  refine ⟨(View.canon_unit_zero hz2 _ _).trans ?_, (View.canon_unit_zero hz2 _ _).trans ?_, (View.canon_unit_zero hz2 _ _).trans ?_,
    (View.canon_unit_zero hz2 _ _).trans ?_⟩
  all_goals simp only [View.readAt_eq_ld, harg1.read_unread, harg2.read_unread, harg3.read_unread, harg4.read_unread, harg5.read_unread,
    harg6.read_unread, harg9.read_unread, View.ld_unit_zero (S := S512x4096) hz2, View.ld_unit_zero (S := S4096x1024) hz2,
    View.ld_unit_zero (S := S512x1024) hz2, View.ld_unit_zero (S := S1x1024) hz2, View.ld_unit_zero (S := S1x128) hz2]

end Left

variable (m : (ℓ : Loc nD τ sig) → Buf (Elt Ideal) ℓ) (c : Dev nD)

/-- The activations, the weights, the stream before the block, the gain and the targets, as launched. -/
def acts : Arr S8192x4096 .f32 := m ((c : Thread nD τ).loc main_arg0)
def weights : Arr S4096x1024 .f32 := m ((c : Thread nD τ).loc main_arg1)
def rows : Arr S8192x1024 .f32 := m ((c : Thread nD τ).loc main_arg2)
def gains : Arr S1024 .f32 := m ((c : Thread nD τ).loc main_arg3)
def targets : Arr S8192x1024 .f32 := m ((c : Thread nD τ).loc main_arg4)

theorem acts_at (i : S8192x4096.Idx) : (V m c main_v0 : S8192x4096.Idx → EReal) i = acts m c i := by
  unfold acts
  rw [← V_main_arg0 m c]; unfold V
  after_reads_simp <;> rfl

theorem weights_at (i : S4096x1024.Idx) : (V m c main_v1 : S4096x1024.Idx → EReal) i = weights m c i := by
  unfold weights
  rw [← V_main_arg1 m c]; unfold V
  after_reads_simp <;> rfl

theorem rows_at (i : S8192x1024.Idx) : (V m c main_arg2 : S8192x1024.Idx → EReal) i = rows m c i :=
  congrFun (V_main_arg2 m c) i

theorem targets_at (i : S8192x1024.Idx) : (V m c main_arg4 : S8192x1024.Idx → EReal) i = targets m c i :=
  congrFun (V_main_arg4 m c) i

theorem gains_at (i : S1x1024.Idx) : (V m c main_v2 : S1x1024.Idx → EReal) i = gains m c (ix1 (i 1)) := by
  have e : (V m c main_v2 : S1x1024.Idx → EReal) = Idealize.ShloMosaic.shapeCast S1x1024 (gains m c) shapeCasts_S1024_S1x1024 := by
    unfold gains
    rw [← V_main_arg3 m c]; unfold V
    after_reads_simp <;> rfl
  rw [e]
  refine shapeCast_apply _ shapeCasts_S1024_S1x1024 i (ix1 (i 1)) ?_
  have h0 : (i 0).val < 1 := (i 0).isLt
  rw [Shape.rowMajor_val_one, Shape.rowMajor_val_two]
  show (i 1).val = (i 0).val * 1024 + (i 1).val
  omega

/-- The results: the loss, and the gradients of the stream and of the gain. -/
def loss : Arr S1x128 .f32 :=
  DownLossRefIdeal.Read.val_main_v53 (acts m c) (weights m c) (rows m c) (gains m c) (targets m c)
def stream : Arr S8192x1024 .f32 :=
  DownLossRefIdeal.Read.val_main_v52 (acts m c) (weights m c) (rows m c) (gains m c) (targets m c)
def ofGain : Arr S1x1024 .f32 :=
  DownLossRefIdeal.Read.val_main_v55 (acts m c) (weights m c) (rows m c) (gains m c) (targets m c)

/-- Where each grid point's blocks lie. -/
theorem places : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ win0_3.index t (1 : Fin 2) = 0 ∧ (win0_4.index t (0 : Fin 2) = t.val ∧ win0_4.index t (1 : Fin 2) = 0)
    ∧ (win0_5.index t (0 : Fin 2) = 0 ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) ∧ win0_8.index t (0 : Fin 2) = 0 ∧ win0_8.index t (1 : Fin 2) = 0 :=
  (by decide +kernel : ∀ t : Fin grid0.N, _)

/-- A grid point's blocks. -/
def actBlock (t : Fin cfg0.N) : Vec Ideal S512x4096 .bf16 := iblk m c 0 t
def weightBlock (t : Fin cfg0.N) : Vec Ideal S4096x1024 .bf16 := iblk m c 1 t
def rowBlock (t : Fin cfg0.N) : Vec Ideal S512x1024 .f32 := iblk m c 2 t
def gainBlock (t : Fin cfg0.N) : Vec Ideal S1x1024 .f32 := iblk m c 3 t
def targetBlock (t : Fin cfg0.N) : Vec Ideal S512x1024 .f32 := iblk m c 4 t

theorem blk0 (t : Fin cfg0.N) (p : Fin 512) (r : Fin 8192) (hr : r.val = 512 * t.val + p.val) :
    (fun k => actBlock m c t (ix2 p k)) = fun k => acts m c (ix2 r k) := by
  funext k
  refine (acts_at m c (((cfg0.win 0).blk t).view.emb (ix2 p k))).trans (congrArg (acts m c) (funext fun a => Fin.ext ?_))
  obtain ⟨⟨e0, e1⟩, -⟩ := places t
  match a with
  | ⟨0, _⟩ => show win0_0.index t (0 : Fin 2) * 512 + 1 * p.val = r.val; omega
  | ⟨1, _⟩ => show win0_0.index t (1 : Fin 2) * 4096 + 1 * k.val = k.val; omega

theorem blk1 (t : Fin cfg0.N) : weightBlock m c t = weights m c := by
  funext y
  refine (weights_at m c (((cfg0.win 1).blk t).view.emb y)).trans (congrArg (weights m c) (funext fun a => Fin.ext ?_))
  obtain ⟨-, ⟨e0, e1⟩, -⟩ := places t
  match a with
  | ⟨0, _⟩ => show win0_1.index t (0 : Fin 2) * 4096 + 1 * (y 0).val = (y 0).val; omega
  | ⟨1, _⟩ => show win0_1.index t (1 : Fin 2) * 1024 + 1 * (y 1).val = (y 1).val; omega

theorem blk2 (t : Fin cfg0.N) (p : Fin 512) (r : Fin 8192) (hr : r.val = 512 * t.val + p.val) :
    (fun k => rowBlock m c t (ix2 p k)) = fun k => rows m c (ix2 r k) := by
  funext k
  refine (rows_at m c (((cfg0.win 2).blk t).view.emb (ix2 p k))).trans (congrArg (rows m c) (funext fun a => Fin.ext ?_))
  obtain ⟨-, -, ⟨e0, e1⟩, -⟩ := places t
  match a with
  | ⟨0, _⟩ => show win0_2.index t (0 : Fin 2) * 512 + 1 * p.val = r.val; omega
  | ⟨1, _⟩ => show win0_2.index t (1 : Fin 2) * 1024 + 1 * k.val = k.val; omega

theorem blk3 (t : Fin cfg0.N) : (fun k => gainBlock m c t (ix2 0 k)) = fun k => gains m c (ix1 k) := by
  funext k
  refine (gains_at m c (((cfg0.win 3).blk t).view.emb (ix2 0 k))).trans (congrArg (fun j => gains m c (ix1 j)) (Fin.ext ?_))
  obtain ⟨-, -, -, e1, -⟩ := places t
  show win0_3.index t (1 : Fin 2) * 1024 + 1 * k.val = k.val
  omega

theorem blk4 (t : Fin cfg0.N) (p : Fin 512) (r : Fin 8192) (hr : r.val = 512 * t.val + p.val) :
    (fun k => targetBlock m c t (ix2 p k)) = fun k => targets m c (ix2 r k) := by
  funext k
  refine (targets_at m c (((cfg0.win 4).blk t).view.emb (ix2 p k))).trans (congrArg (targets m c) (funext fun a => Fin.ext ?_))
  obtain ⟨-, -, -, -, ⟨e0, e1⟩, -⟩ := places t
  match a with
  | ⟨0, _⟩ => show win0_4.index t (0 : Fin 2) * 512 + 1 * p.val = r.val; omega
  | ⟨1, _⟩ => show win0_4.index t (1 : Fin 2) * 1024 + 1 * k.val = k.val; omega

/-- Where an index of a row block of an output lies in the array. -/
def spot (t : Fin cfg0.N) (y : S512x1024.Idx) : S8192x1024.Idx := ((cfg0.win 6).blk t).view.emb y

theorem spot_0 (t : Fin cfg0.N) (y : S512x1024.Idx) : (spot t y 0).val = 512 * t.val + (y 0).val := by
  obtain ⟨-, -, -, -, -, -, ⟨e0, -⟩, -⟩ := places t
  show win0_6.index t (0 : Fin 2) * 512 + 1 * (y 0).val = _
  omega

theorem spot_1 (t : Fin cfg0.N) (y : S512x1024.Idx) : spot t y 1 = y 1 := by
  obtain ⟨-, -, -, -, -, -, ⟨-, e1⟩, -⟩ := places t
  refine Fin.ext ?_
  show win0_6.index t (1 : Fin 2) * 1024 + 1 * (y 1).val = (y 1).val
  omega

theorem spot_rounded (t : Fin cfg0.N) (y : S512x1024.Idx) : (((cfg0.win 7).blk t).view.emb y : S8192x1024.Idx) = spot t y := rfl

/-- A row of a grid point's block and the same row of the arrays: the stream after the block, and its target. -/
def blockTotal (t : Fin cfg0.N) (p : Fin 512) : Fin 1024 → EReal :=
  total (fun k => rowBlock m c t (ix2 p k)) (fun k => actBlock m c t (ix2 p k)) (weightBlock m c t)
def rowTotal (r : Fin 8192) : Fin 1024 → EReal := total (fun k => rows m c (ix2 r k)) (fun k => acts m c (ix2 r k)) (weights m c)

theorem blockTotal_eq (t : Fin cfg0.N) (p : Fin 512) (r : Fin 8192) (hr : r.val = 512 * t.val + p.val) : blockTotal m c t p = rowTotal m c r := by
  unfold blockTotal rowTotal
  rw [blk0 m c t p r hr, blk1, blk2 m c t p r hr]

/-- A grid point's block of the stream's gradient. -/
def piece (t : Fin cfg0.N) : Vec Ideal S512x1024 .f32 :=
  k0_pay9 (k0_pay1 (rowBlock m c t) (actBlock m c t) (weightBlock m c t)) (k0_pay5 (rowBlock m c t) (actBlock m c t) (weightBlock m c t))
    (k0_pay7 (rowBlock m c t) (actBlock m c t) (weightBlock m c t) (gainBlock m c t) (targetBlock m c t))
    (k0_pay8 (rowBlock m c t) (actBlock m c t) (weightBlock m c t) (gainBlock m c t) (targetBlock m c t))

theorem piece_at (t : Fin cfg0.N) (y : S512x1024.Idx) : piece m c t y = stream m c (spot t y) := by
  unfold piece stream
  rw [pay_entry, ref_entry, blk0 m c t (y 0) _ (spot_0 t y), blk1, blk2 m c t (y 0) _ (spot_0 t y), blk3, blk4 m c t (y 0) _ (spot_0 t y), spot_1]

theorem flushed_stream (t : Fin cfg0.N) : (dats m 0 c).flushed 6 t = ((cfg0.win 6).blk t).view.read (Elt Ideal) (stream m c) := by
  funext y
  refine Eq.trans ?_ (piece_at m c t y)
  by_cases h0 : t.val % 16 = 0
  · rw [Value.flushed6_A m c t h0, (first ..).2.1]
    rfl
  · rw [Value.flushed6_B m c t h0, (later ..).2.1]
    rfl

theorem flushed_rounded (t : Fin cfg0.N) : (dats m 0 c).flushed 7 t = ((cfg0.win 7).blk t).view.read (Elt Ideal) (stream m c) := by
  funext y
  refine Eq.trans ?_ ((piece_at m c t y).trans (congrArg (stream m c) (spot_rounded t y).symm))
  by_cases h0 : t.val % 16 = 0
  · rw [Value.flushed7_A m c t h0, (first ..).2.2.1]
    rfl
  · rw [Value.flushed7_B m c t h0, (later ..).2.2.1]
    rfl

theorem N_16 : cfg0.N = 16 := N_0

theorem covered_stream (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hN := N_16
  obtain ⟨t, ht⟩ : ∃ t : Fin cfg0.N, t.val = (i 0).val / 512 := ⟨⟨(i 0).val / 512, by omega⟩, rfl⟩
  obtain ⟨-, -, -, -, -, -, ⟨e0, e1⟩, -⟩ := places t
  refine ⟨t, flush0_6 t, ?_⟩
  show i ∈ ((View.whole main_v3_1).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

theorem covered_rounded (i : S8192x1024.Idx) : ∃ t : Fin cfg0.N, (cfg0.win 7).flush t = true ∧ i ∈ ((cfg0.win 7).blk t).view.set := by
  obtain ⟨t, -, h⟩ := covered_stream i
  have e : ((cfg0.win 7).blk t).view.set = ((cfg0.win 6).blk t).view.set := (View.set_slice_whole _ _).trans (View.set_slice_whole _ _).symm
  exact ⟨t, flush0_7 t, e ▸ h⟩

/-! ## The loss and the gain's gradient: the blocks' sums -/

/-- What a grid point adds to the loss. -/
def lossAddend (n : ℕ) (j : S1x128.Idx) : EReal := if h : n < cfg0.N then
  ∑ p : Fin 512, part (blockTotal m c ⟨n, h⟩ p) (fun k => gainBlock m c ⟨n, h⟩ (ix2 0 k)) (fun k => targetBlock m c ⟨n, h⟩ (ix2 p k)) else 0

/-- What a grid point makes of what was left before it; the first makes it of zeros. -/
def lossOnward (n : ℕ) (h : n < cfg0.N) (a : S1x128.Idx → EReal) : S1x128.Idx → EReal :=
  k0_pay14 (k0_pay3 (rowBlock m c ⟨n, h⟩) (actBlock m c ⟨n, h⟩) (weightBlock m c ⟨n, h⟩)
    (gainBlock m c ⟨n, h⟩) (targetBlock m c ⟨n, h⟩)) a
def lossStart (n : ℕ) (h : n < cfg0.N) : S1x128.Idx → EReal := lossOnward m c n h (k0_pay12 (F := Ideal))

theorem loss_fold (b : ℕ) (h : b + 15 < cfg0.N) (j : S1x128.Idx) :
    Pipeline.accAt (lossStart m c) (lossOnward m c) b 15 h j = ∑ s ∈ Finset.range 16, lossAddend m c (b + s) j := by
  refine (Pipeline.accAt_add_apply (lossStart m c) (lossOnward m c) (fun _ => (0 : EReal)) (lossAddend m c) b 15 ?_ ?_ 15 le_rfl h j).trans (zero_add _)
  · intro hb i
    unfold lossStart lossOnward lossAddend
    rw [dif_pos hb]
    exact (pay_loss _ _ _ _ _ _ i).trans (congrArg (· + _) (pay_zeros i))
  · intro n hn acc i _ _
    unfold lossOnward lossAddend
    rw [dif_pos hn]
    exact pay_loss _ _ _ _ _ _ i

theorem loss_left_first (t : Fin cfg0.N) (h0 : t.val % 16 = 0) : (outsAt0 m c t.val t.isLt).1 = lossStart m c t.val t.isLt := by
  refine (congrArg (fun q => q.1) (outsAt0_A m c t h0)).trans ?_
  dsimp only
  rw [(first ..).1]
  rfl

theorem loss_left_later (n : ℕ) (hn : n + 1 < cfg0.N) (h0 : ¬(n + 1) % 16 = 0) :
    (outsAt0 m c (n + 1) hn).1 = lossOnward m c (n + 1) hn (outsAt0 m c n (Nat.lt_of_succ_lt hn)).1 := by
  have e := outsAt0_B m c ⟨n + 1, hn⟩ h0
  refine (congrArg (fun q => q.1) e).trans ?_
  dsimp only
  rw [(later ..).1]
  rfl

theorem loss_left (t : Fin cfg0.N) (h15 : t.val % 16 = 15) (h : 16 * (t.val / 16) + 15 < cfg0.N) :
    (outsAt0 m c t.val t.isLt).1 = Pipeline.accAt (lossStart m c) (lossOnward m c) (16 * (t.val / 16)) 15 h := by
  have e := Pipeline.eq_accAt_of_mod (fun n hn => ((outsAt0 m c n hn).1 : S1x128.Idx → EReal)) 16 (lossStart m c) (lossOnward m c)
    (fun n hn h0 => loss_left_first m c ⟨n, hn⟩ h0) (fun n hn h0 => loss_left_later m c n hn h0)
    (by decide) t.val t.isLt (by rw [h15]; exact h)
  refine e.trans ?_
  congr 1

theorem flushed_loss (t : Fin cfg0.N) (hf : (cfg0.win 5).flush t = true) :
    (dats m 0 c).flushed 5 t = ((cfg0.win 5).blk t).view.read (Elt Ideal) (loss m c) := by
  have h15 := (flush0_5 t).mp hf
  have hN := N_16
  have ht := t.isLt
  have hq : t.val / 16 = 0 := by omega
  have h : 16 * (t.val / 16) + 15 < cfg0.N := by omega
  funext y
  have hy : (((cfg0.win 5).blk t).view.emb y : S1x128.Idx) = y := by
    refine funext fun a => Fin.ext ?_
    obtain ⟨-, -, -, -, -, ⟨e0, e1⟩, -⟩ := places t
    match a with
    | ⟨0, _⟩ => show win0_5.index t (0 : Fin 2) * 1 + 1 * (y 0).val = (y 0).val; omega
    | ⟨1, _⟩ => show win0_5.index t (1 : Fin 2) * 128 + 1 * (y 1).val = (y 1).val; omega
  refine Eq.trans ?_ (congrArg (loss m c) hy.symm)
  rw [Value.flushed5]
  refine (congrFun (loss_left m c t h15 h) y).trans ((loss_fold m c _ h y).trans ?_)
  unfold loss
  rw [ref_loss]
  refine RowSums.blocks 16 512 8192 rfl _ _ fun s hs => ?_
  have hn : 16 * (t.val / 16) + s < cfg0.N := by omega
  unfold lossAddend
  rw [dif_pos hn]
  refine Finset.sum_congr rfl fun p _ => ?_
  have hr : 512 * s + p.val = 512 * (16 * (t.val / 16) + s) + p.val := by omega
  rw [blk3]
  exact congrArg₂ (fun x s => part x _ s) (blockTotal_eq m c ⟨_, hn⟩ p _ hr) (blk4 m c ⟨_, hn⟩ p _ hr)

theorem covered_loss (i : S1x128.Idx) : ∃ t : Fin cfg0.N, (cfg0.win 5).flush t = true ∧ i ∈ ((cfg0.win 5).blk t).view.set := by
  have h0 : (i 0).val < 1 := (i 0).isLt
  have h1 : (i 1).val < 128 := (i 1).isLt
  have hN := N_16
  obtain ⟨t, ht⟩ : ∃ t : Fin cfg0.N, t.val = 15 := ⟨⟨15, by omega⟩, rfl⟩
  obtain ⟨-, -, -, -, -, ⟨e0, e1⟩, -⟩ := places t
  refine ⟨t, (flush0_5 t).mpr (by omega), ?_⟩
  show i ∈ ((View.whole main_v3_0).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 128 ≤ (i 1).val ∧ (i 1).val < win0_5.index t (1 : Fin 2) * 128 + 128; omega

/-- What a grid point adds to the gain's gradient. -/
def gainAddend (n : ℕ) (j : S1x1024.Idx) : EReal := if h : n < cfg0.N then
  ∑ p : Fin 512, gain (slope (blockTotal m c ⟨n, h⟩ p) (fun k => gainBlock m c ⟨n, h⟩ (ix2 0 k)) (fun k => targetBlock m c ⟨n, h⟩ (ix2 p k)))
    (blockTotal m c ⟨n, h⟩ p) (j 1) else 0

/-- What a grid point makes of what was left before it; the first makes it of zeros. -/
def gainOnward (n : ℕ) (h : n < cfg0.N) (a : S1x1024.Idx → EReal) : S1x1024.Idx → EReal :=
  k0_pay13 (k0_pay1 (rowBlock m c ⟨n, h⟩) (actBlock m c ⟨n, h⟩) (weightBlock m c ⟨n, h⟩)) (k0_pay4 (rowBlock m c ⟨n, h⟩) (actBlock m c ⟨n, h⟩) (weightBlock m c ⟨n, h⟩)
    (gainBlock m c ⟨n, h⟩) (targetBlock m c ⟨n, h⟩))
    (k0_pay5 (rowBlock m c ⟨n, h⟩) (actBlock m c ⟨n, h⟩) (weightBlock m c ⟨n, h⟩)) a
def gainStart (n : ℕ) (h : n < cfg0.N) : S1x1024.Idx → EReal := gainOnward m c n h (k0_pay11 (F := Ideal))

theorem gain_fold (b : ℕ) (h : b + 15 < cfg0.N) (j : S1x1024.Idx) :
    Pipeline.accAt (gainStart m c) (gainOnward m c) b 15 h j = ∑ s ∈ Finset.range 16, gainAddend m c (b + s) j := by
  refine (Pipeline.accAt_add_apply (gainStart m c) (gainOnward m c) (fun _ => (0 : EReal)) (gainAddend m c) b 15 ?_ ?_ 15 le_rfl h j).trans (zero_add _)
  · intro hb i
    unfold gainStart gainOnward gainAddend
    rw [dif_pos hb]
    exact (pay_gain _ _ _ _ _ _ i).trans (congrArg (· + _) (pay_zero i))
  · intro n hn acc i _ _
    unfold gainOnward gainAddend
    rw [dif_pos hn]
    exact pay_gain _ _ _ _ _ _ i

theorem gain_left_first (t : Fin cfg0.N) (h0 : t.val % 16 = 0) : (outsAt0 m c t.val t.isLt).2.2.2 = gainStart m c t.val t.isLt := by
  refine (congrArg (fun q => q.2.2.2) (outsAt0_A m c t h0)).trans ?_
  dsimp only
  rw [(first ..).2.2.2]
  rfl

theorem gain_left_later (n : ℕ) (hn : n + 1 < cfg0.N) (h0 : ¬(n + 1) % 16 = 0) :
    (outsAt0 m c (n + 1) hn).2.2.2 = gainOnward m c (n + 1) hn (outsAt0 m c n (Nat.lt_of_succ_lt hn)).2.2.2 := by
  have e := outsAt0_B m c ⟨n + 1, hn⟩ h0
  refine (congrArg (fun q => q.2.2.2) e).trans ?_
  dsimp only
  rw [(later ..).2.2.2]
  rfl

theorem gain_left (t : Fin cfg0.N) (h15 : t.val % 16 = 15) (h : 16 * (t.val / 16) + 15 < cfg0.N) :
    (outsAt0 m c t.val t.isLt).2.2.2 = Pipeline.accAt (gainStart m c) (gainOnward m c) (16 * (t.val / 16)) 15 h := by
  have e := Pipeline.eq_accAt_of_mod (fun n hn => ((outsAt0 m c n hn).2.2.2 : S1x1024.Idx → EReal)) 16 (gainStart m c) (gainOnward m c)
    (fun n hn h0 => gain_left_first m c ⟨n, hn⟩ h0) (fun n hn h0 => gain_left_later m c n hn h0)
    (by decide) t.val t.isLt (by rw [h15]; exact h)
  refine e.trans ?_
  congr 1

theorem flushed_gain (t : Fin cfg0.N) (hf : (cfg0.win 8).flush t = true) :
    (dats m 0 c).flushed 8 t = ((cfg0.win 8).blk t).view.read (Elt Ideal) (ofGain m c) := by
  have h15 := (flush0_8 t).mp hf
  have hN := N_16
  have ht := t.isLt
  have hq : t.val / 16 = 0 := by omega
  have h : 16 * (t.val / 16) + 15 < cfg0.N := by omega
  funext y
  have hy : (((cfg0.win 8).blk t).view.emb y : S1x1024.Idx) = y := by
    refine funext fun a => Fin.ext ?_
    obtain ⟨-, -, -, -, -, -, -, -, e0, e1⟩ := places t
    match a with
    | ⟨0, _⟩ => show win0_8.index t (0 : Fin 2) * 1 + 1 * (y 0).val = (y 0).val; omega
    | ⟨1, _⟩ => show win0_8.index t (1 : Fin 2) * 1024 + 1 * (y 1).val = (y 1).val; omega
  refine Eq.trans ?_ (congrArg (ofGain m c) hy.symm)
  rw [Value.flushed8]
  refine (congrFun (gain_left m c t h15 h) y).trans ((gain_fold m c _ h y).trans ?_)
  unfold ofGain
  rw [ref_gain]
  refine RowSums.blocks 16 512 8192 rfl _ _ fun s hs => ?_
  have hn : 16 * (t.val / 16) + s < cfg0.N := by omega
  unfold gainAddend
  rw [dif_pos hn]
  refine Finset.sum_congr rfl fun p _ => ?_
  have hr : 512 * s + p.val = 512 * (16 * (t.val / 16) + s) + p.val := by omega
  rw [blk3]
  exact congrArg₂ (fun x s => gain (slope x _ s) x (y 1)) (blockTotal_eq m c ⟨_, hn⟩ p _ hr) (blk4 m c ⟨_, hn⟩ p _ hr)

theorem covered_gain (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  have hN := N_16
  obtain ⟨t, ht⟩ : ∃ t : Fin cfg0.N, t.val = 15 := ⟨⟨15, by omega⟩, rfl⟩
  obtain ⟨-, -, -, -, -, -, -, -, e0, e1⟩ := places t
  refine ⟨t, (flush0_8 t).mpr (by omega), ?_⟩
  show i ∈ ((View.whole main_v3_3).slice (win0_8.rect t)).set
  rw [View.set_slice_whole, Rect.mem_set_unit]
  intro a
  match a with
  | ⟨0, _⟩ => show win0_8.index t (0 : Fin 2) * 1 ≤ (i 0).val ∧ (i 0).val < win0_8.index t (0 : Fin 2) * 1 + 1; omega
  | ⟨1, _⟩ => show win0_8.index t (1 : Fin 2) * 1024 ≤ (i 1).val ∧ (i 1).val < win0_8.index t (1 : Fin 2) * 1024 + 1024; omega

/-! ## The arrays the call leaves -/

theorem array_loss : (dats m 0 c).arrAt 5 cfg0.N = loss m c :=
  (dats m 0 c).arrAt_eq_of_cover 5 _ (fun t hf => flushed_loss m c t hf) covered_loss

theorem array_stream : (dats m 0 c).arrAt 6 cfg0.N = stream m c :=
  (dats m 0 c).arrAt_eq_of_cover 6 _ (fun t _ => flushed_stream m c t) covered_stream

theorem array_rounded : (dats m 0 c).arrAt 7 cfg0.N = stream m c :=
  (dats m 0 c).arrAt_eq_of_cover 7 _ (fun t _ => flushed_rounded m c t) covered_rounded

theorem array_gain : (dats m 0 c).arrAt 8 cfg0.N = ofGain m c :=
  (dats m 0 c).arrAt_eq_of_cover 8 _ (fun t hf => flushed_gain m c t hf) covered_gain

theorem reference_frame : quiescent_DownLossRefIdeal (hDownLossRefIdeal := DownLossRefIdeal.Gen.facts) := fun m g _ =>
  (θ_run _ _ _).mono
    (fun r h => ⟨fun c => (h c).2.2.2.2, sem_eq_zero_of_no_sems (by decide) r.2⟩)
    (DownLossRefIdeal.Value.run (F := Ideal) m g)

section Agree

open DownLossRefIdeal.Read

variable {x0 y0 : Arr S8192x4096 .f32} {x1 y1 : Arr S4096x1024 .f32}
  {x2 y2 : Arr S8192x1024 .f32} {x3 y3 : Arr S1024 .f32}
  {x4 y4 : Arr S8192x1024 .f32}

theorem results_congr (e0 : x0 = y0) (e1 : x1 = y1) (e2 : x2 = y2) (e3 : x3 = y3) (e4 : x4 = y4) :
    val_main_v53 x0 x1 x2 x3 x4 = val_main_v53 y0 y1 y2 y3 y4
    ∧ val_main_v52 x0 x1 x2 x3 x4 = val_main_v52 y0 y1 y2 y3 y4
    ∧ val_main_v55 x0 x1 x2 x3 x4 = val_main_v55 y0 y1 y2 y3 y4 := by
  subst e0 e1 e2 e3 e4
  exact ⟨rfl, rfl, rfl⟩

end Agree

/-- At the exact values the call's results are the reference's. -/
theorem values : algebraic_DownLossIdeal_DownLossRefIdeal (hDownLossIdeal := DownLossIdeal.Gen.facts)
    (hDownLossRefIdeal := DownLossRefIdeal.Gen.facts) := by
  intro m g m' g' _ hagree
  refine ⟨fun c => loss m c, fun c => stream m c, fun c => stream m c, fun c => ofGain m c, ?_, ?_⟩
  · exact (θ_run _ _ _).mono
      (fun r h c => ⟨(h c).1.trans (array_loss m c), (h c).2.1.trans (array_stream m c), (h c).2.2.1.trans (array_rounded m c),
        (h c).2.2.2.1.trans (array_gain m c), (h c).2.2.2.2⟩)
      (DownLossIdeal.Value.run_blocks (F := Ideal) m g)
  · refine (θ_run _ _ _).mono (fun r h c => ?_) (DownLossRefIdeal.Value.run (F := Ideal) m' g')
    obtain ⟨e0, e1, e2, e3, e4⟩ := hagree c
    obtain ⟨el, es, eg⟩ := results_congr e0 e1 e2 e3 e4
    exact ⟨((h c).1.trans (DownLossRefIdeal.Read.val_main_v53_eq _ _ _ _ _)).trans el,
      ((h c).2.1.trans (DownLossRefIdeal.Read.val_main_v52_eq _ _)).trans es,
      ((h c).2.2.1.trans (DownLossRefIdeal.Read.val_main_v54_eq _ _)).trans es,
      ((h c).2.2.2.1.trans (DownLossRefIdeal.Read.val_main_v55_eq _ _ _ _ _)).trans eg, (h c).2.2.2.2⟩

end Cert.DownLossIdeal.Loss

end
-- ==== Proof.GradSquare.lean ====
/-
  The gradient of a square weight of the attention blocks: the rows, transposed, times the cotangents, gathered over the blocks of rows.
-/
module

public import proofs.«01_k».proof.Proof.Calls
public import proofs.«01_k».proof.Proof.RowSums
public import proofs.«01_k».proof.Proof.Gen.GradSquare.Frame
public import proofs.«01_k».proof.Proof.Gen.GradSquareIdeal.Value
public import proofs.«01_k».proof.Proof.Gen.GradSquareRefIdeal.Read

@[expose] public section

noncomputable section

namespace Cert.GradSquareIdeal.Grad

open Idealize.ShloMosaic Idealize.ShloMosaic.TcCoe Idealize.SL.Sem
open Cert.GradSquareIdeal Cert.GradSquareIdeal.Gen
open scoped BigOperators

theorem pay_zero (j : S1024x1024.Idx) : k0_pay1 (F := Ideal) j = 0 := by
  unfold k0_pay1
  simp only [pointwise]

theorem pay_add (a : Vec Ideal S1024x1024 .f32) (x y : Vec Ideal S2048x1024 .bf16) (j : S1024x1024.Idx) :
    k0_pay2 a x y j = a j + ∑ k : Fin 2048, x (ix2 k (j 0)) * y (ix2 k (j 1)) := by
  unfold k0_pay2
  simp only [pointwise, shapeCast_self]
  rw [zero_add]

theorem lhs_at (i : S1024x1024.Idx) (k : Fin 8192) :
    GradSquareRefIdeal.Read.lidx_main_v2 (GradSquareRefIdeal.Read.idx_main_v3 i) k = ix2 k (i 1) :=
  funext fun a => by match a with | ⟨0, _⟩ => rfl | ⟨1, _⟩ => rfl

theorem rhs_at (i : S1024x1024.Idx) (k : Fin 8192) :
    GradSquareRefIdeal.Read.ridx_main_v2 (GradSquareRefIdeal.Read.idx_main_v3 i) k = ix2 k (i 0) :=
  funext fun a => by match a with | ⟨0, _⟩ => rfl | ⟨1, _⟩ => rfl

open GradSquareRefIdeal.Read in
theorem ref_apply (x0 : Arr S8192x1024 .f32) (x1 : Arr S8192x1024 .f32)
    (i : S1024x1024.Idx) : val_main_v3 x0 x1 i = ∑ k : Fin 8192, x0 (ix2 k (i 0)) * x1 (ix2 k (i 1)) := by
  rw [val_main_v3_apply, val_main_v2_apply]
  simp only [lhs_at, rhs_at]
  exact Finset.sum_congr rfl fun k _ => mul_comm _ _

variable (m : (ℓ : Loc nD τ sig) → Buf (Elt Ideal) ℓ) (c : Dev nD)

/-- The rows, as launched. -/
def rows : Arr S8192x1024 .f32 := m ((c : Thread nD τ).loc main_arg0)
/-- The cotangents, as launched. -/
def cots : Arr S8192x1024 .f32 := m ((c : Thread nD τ).loc main_arg1)

theorem rows_at (i : S8192x1024.Idx) : (V m c main_v0 : S8192x1024.Idx → EReal) i = rows m c i := by
  unfold rows
  rw [← V_main_arg0 m c]; unfold V
  after_reads_simp <;> rfl

theorem cots_at (i : S8192x1024.Idx) : (V m c main_v1 : S8192x1024.Idx → EReal) i = cots m c i := by
  unfold cots
  rw [← V_main_arg1 m c]; unfold V
  after_reads_simp <;> rfl

/-- The result array. -/
def result : Arr S1024x1024 .f32 := GradSquareRefIdeal.Read.val_main_v3 (rows m c) (cots m c)

/-- Where each grid point's blocks lie: four points in turn take four blocks of rows. -/
theorem places : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- A grid point's block of rows, and its block of cotangents. -/
def rowBlock (t : Fin cfg0.N) : Vec Ideal S2048x1024 .bf16 := iblk m c 0 t
def cotBlock (t : Fin cfg0.N) : Vec Ideal S2048x1024 .bf16 := iblk m c 1 t

/-- The sum over a block's rows of the products of two columns. -/
def columns (x y : S2048x1024.Idx → EReal) (j : S1024x1024.Idx) : EReal := ∑ k : Fin 2048, x (ix2 k (j 0)) * y (ix2 k (j 1))

/-- The products a grid point adds. -/
def addend (n : ℕ) (j : S1024x1024.Idx) : EReal :=
  if h : n < cfg0.N then columns (rowBlock m c ⟨n, h⟩) (cotBlock m c ⟨n, h⟩) j else 0

theorem fold (b : ℕ) (h : b + 3 < cfg0.N) (j : S1024x1024.Idx) :
    Pipeline.accAt (Value.reset2 m c) (Value.step2 m c) b 3 h j = ∑ s ∈ Finset.range 4, addend m c (b + s) j := by
  refine (Pipeline.accAt_add_apply (Value.reset2 m c) (Value.step2 m c) (fun _ => (0 : EReal)) (addend m c) b 3 ?_ ?_ 3 le_rfl h j).trans (zero_add _)
  · intro hb i
    unfold Value.reset2 addend
    rw [dif_pos hb]
    exact (pay_add _ _ _ i).trans (congrArg (· + _) (pay_zero i))
  · intro n hn acc i _ _
    unfold Value.step2 addend
    rw [dif_pos hn]
    exact pay_add _ _ _ i

theorem blk0 (t : Fin cfg0.N) (k : Fin 2048) (a : Fin 1024) (r : Fin 8192) (hr : r.val = 2048 * (t.val % 4) + k.val) :
    (iblk m c 0 t : S2048x1024.Idx → EReal) (ix2 k a) = rows m c (ix2 r a) := by
  refine (rows_at m c (((cfg0.win 0).blk t).view.emb (ix2 k a))).trans (congrArg (rows m c) (funext fun a' => Fin.ext ?_))
  obtain ⟨e0, e1, -⟩ := places t
  match a' with
  | ⟨0, _⟩ => show win0_0.index t (0 : Fin 2) * 2048 + 1 * k.val = r.val; omega
  | ⟨1, _⟩ => show win0_0.index t (1 : Fin 2) * 1024 + 1 * a.val = a.val; omega

theorem blk1 (t : Fin cfg0.N) (k : Fin 2048) (b : Fin 1024) (r : Fin 8192) (hr : r.val = 2048 * (t.val % 4) + k.val)
    (d : Fin 1024) (hd : d.val = 1024 * (t.val / 4) + b.val) :
    (iblk m c 1 t : S2048x1024.Idx → EReal) (ix2 k b) = cots m c (ix2 r d) := by
  refine (cots_at m c (((cfg0.win 1).blk t).view.emb (ix2 k b))).trans (congrArg (cots m c) (funext fun a' => Fin.ext ?_))
  obtain ⟨-, -, e0, e1⟩ := places t
  match a' with
  | ⟨0, _⟩ => show win0_1.index t (0 : Fin 2) * 2048 + 1 * k.val = r.val; omega
  | ⟨1, _⟩ => show win0_1.index t (1 : Fin 2) * 1024 + 1 * b.val = d.val; omega

/-- The array the call leaves is the reference's. -/
theorem array : Value.G2 m c = result m c := by
  funext i
  have hN : cfg0.N = 4 := N_0
  have h0 : (i 0).val < 1024 := (i 0).isLt
  have h1 : (i 1).val < 1024 := (i 1).isLt
  have hq : Value.run2Of i = 0 := by
    unfold Value.run2Of
    omega
  unfold Value.G2 result
  rw [dif_pos (by rw [hq]; omega), ref_apply, fold]
  refine RowSums.four_blocks (fun k => rows m c (ix2 k (i 0)) * cots m c (ix2 k (i 1))) _ fun s hs => ?_
  have hn : 4 * Value.run2Of i + s < cfg0.N := by rw [hq]; omega
  unfold addend
  rw [dif_pos hn]
  refine Finset.sum_congr rfl fun k _ => ?_
  have hr : 2048 * s + k.val = 2048 * ((4 * Value.run2Of i + s) % 4) + k.val := by omega
  refine congrArg₂ (· * ·) ((blk0 m c ⟨_, hn⟩ k _ ⟨2048 * s + k.val, by have := k.isLt; omega⟩ hr).trans ?_)
    ((blk1 m c ⟨_, hn⟩ k _ ⟨2048 * s + k.val, by have := k.isLt; omega⟩ hr (i 1) ?_))
  · refine congrArg (rows m c) (congrArg (ix2 _) (Fin.ext ?_))
    show (i 0).val % 1024 = (i 0).val
    omega
  · show (i 1).val = 1024 * ((4 * Value.run2Of i + s) / 4) + (i 1).val % 1024
    rw [hq]; omega

theorem reference_frame : quiescent_GradSquareRefIdeal (hGradSquareRefIdeal := GradSquareRefIdeal.Gen.facts) := fun m g _ =>
  (θ_run _ _ _).mono
    (fun r h => ⟨fun c => (h c).2, sem_eq_zero_of_no_sems (by decide) r.2⟩)
    (GradSquareRefIdeal.Value.run (F := Ideal) m g)

open GradSquareRefIdeal.Read in
theorem result_congr {x0 y0 : Arr S8192x1024 .f32} {x1 y1 : Arr S8192x1024 .f32}
    (e0 : x0 = y0) (e1 : x1 = y1) : val_main_v3 x0 x1 = val_main_v3 y0 y1 := by
  subst e0 e1
  rfl

/-- At the exact values the call's result is the reference's. -/
theorem values : algebraic_GradSquareIdeal_GradSquareRefIdeal (hGradSquareIdeal := GradSquareIdeal.Gen.facts)
    (hGradSquareRefIdeal := GradSquareRefIdeal.Gen.facts) := by
  intro m g m' g' _ hagree
  refine ⟨fun c => result m c, ?_, ?_⟩
  · exact (θ_run _ _ _).mono (fun r h c => ⟨(h c).1.trans (array m c), (h c).2⟩)
      (GradSquareIdeal.Value.run (F := Ideal) m g)
  · refine (θ_run _ _ _).mono (fun r h c => ?_) (GradSquareRefIdeal.Value.run (F := Ideal) m' g')
    obtain ⟨e0, e1⟩ := hagree c
    exact ⟨((h c).1.trans (GradSquareRefIdeal.Read.val_main_v3_eq _ _)).trans (result_congr e0 e1), (h c).2⟩

end Cert.GradSquareIdeal.Grad

end
-- ==== Proof.GradOut.lean ====
/-
  The gradient of one half of the mixer's output weights: the rows, transposed, times the cotangents, gathered over the blocks of rows.
-/
module

public import proofs.«01_k».proof.Proof.Calls
public import proofs.«01_k».proof.Proof.RowSums
public import proofs.«01_k».proof.Proof.Gen.GradOut.Frame
public import proofs.«01_k».proof.Proof.Gen.GradOutIdeal.Value
public import proofs.«01_k».proof.Proof.Gen.GradOutRefIdeal.Read

@[expose] public section

noncomputable section

namespace Cert.GradOutIdeal.Grad

open Idealize.ShloMosaic Idealize.ShloMosaic.TcCoe Idealize.SL.Sem
open Cert.GradOutIdeal Cert.GradOutIdeal.Gen
open scoped BigOperators

theorem pay_zero (j : S512x1024.Idx) : k0_pay1 (F := Ideal) j = 0 := by
  unfold k0_pay1
  simp only [pointwise]

theorem pay_add (a : Vec Ideal S512x1024 .f32) (x : Vec Ideal S2048x512 .bf16) (y : Vec Ideal S2048x1024 .bf16) (j : S512x1024.Idx) :
    k0_pay2 a x y j = a j + ∑ k : Fin 2048, x (ix2 k (j 0)) * y (ix2 k (j 1)) := by
  unfold k0_pay2
  simp only [pointwise, shapeCast_self]
  rw [zero_add]

theorem lhs_at (i : S512x1024.Idx) (k : Fin 8192) :
    GradOutRefIdeal.Read.lidx_main_v2 (GradOutRefIdeal.Read.idx_main_v3 i) k = ix2 k (i 1) :=
  funext fun a => by match a with | ⟨0, _⟩ => rfl | ⟨1, _⟩ => rfl

theorem rhs_at (i : S512x1024.Idx) (k : Fin 8192) :
    GradOutRefIdeal.Read.ridx_main_v2 (GradOutRefIdeal.Read.idx_main_v3 i) k = ix2 k (i 0) :=
  funext fun a => by match a with | ⟨0, _⟩ => rfl | ⟨1, _⟩ => rfl

open GradOutRefIdeal.Read in
theorem ref_apply (x0 : Arr S8192x512 .f32) (x1 : Arr S8192x1024 .f32)
    (i : S512x1024.Idx) : val_main_v3 x0 x1 i = ∑ k : Fin 8192, x0 (ix2 k (i 0)) * x1 (ix2 k (i 1)) := by
  rw [val_main_v3_apply, val_main_v2_apply]
  simp only [lhs_at, rhs_at]
  exact Finset.sum_congr rfl fun k _ => mul_comm _ _

variable (m : (ℓ : Loc nD τ sig) → Buf (Elt Ideal) ℓ) (c : Dev nD)

/-- The rows, as launched. -/
def rows : Arr S8192x512 .f32 := m ((c : Thread nD τ).loc main_arg0)
/-- The cotangents, as launched. -/
def cots : Arr S8192x1024 .f32 := m ((c : Thread nD τ).loc main_arg1)

theorem rows_at (i : S8192x512.Idx) : (V m c main_v0 : S8192x512.Idx → EReal) i = rows m c i := by
  unfold rows
  rw [← V_main_arg0 m c]; unfold V
  after_reads_simp <;> rfl

theorem cots_at (i : S8192x1024.Idx) : (V m c main_v1 : S8192x1024.Idx → EReal) i = cots m c i := by
  unfold cots
  rw [← V_main_arg1 m c]; unfold V
  after_reads_simp <;> rfl

/-- The result array. -/
def result : Arr S512x1024 .f32 := GradOutRefIdeal.Read.val_main_v3 (rows m c) (cots m c)

/-- Where each grid point's blocks lie: four points in turn take four blocks of rows. -/
theorem places : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- A grid point's block of rows, and its block of cotangents. -/
def rowBlock (t : Fin cfg0.N) : Vec Ideal S2048x512 .bf16 := iblk m c 0 t
def cotBlock (t : Fin cfg0.N) : Vec Ideal S2048x1024 .bf16 := iblk m c 1 t

/-- The sum over a block's rows of the products of two columns. -/
def columns (x : S2048x512.Idx → EReal) (y : S2048x1024.Idx → EReal) (j : S512x1024.Idx) : EReal := ∑ k : Fin 2048, x (ix2 k (j 0)) * y (ix2 k (j 1))

/-- The products a grid point adds. -/
def addend (n : ℕ) (j : S512x1024.Idx) : EReal :=
  if h : n < cfg0.N then columns (rowBlock m c ⟨n, h⟩) (cotBlock m c ⟨n, h⟩) j else 0

theorem fold (b : ℕ) (h : b + 3 < cfg0.N) (j : S512x1024.Idx) :
    Pipeline.accAt (Value.reset2 m c) (Value.step2 m c) b 3 h j = ∑ s ∈ Finset.range 4, addend m c (b + s) j := by
  refine (Pipeline.accAt_add_apply (Value.reset2 m c) (Value.step2 m c) (fun _ => (0 : EReal)) (addend m c) b 3 ?_ ?_ 3 le_rfl h j).trans (zero_add _)
  · intro hb i
    unfold Value.reset2 addend
    rw [dif_pos hb]
    exact (pay_add _ _ _ i).trans (congrArg (· + _) (pay_zero i))
  · intro n hn acc i _ _
    unfold Value.step2 addend
    rw [dif_pos hn]
    exact pay_add _ _ _ i

theorem blk0 (t : Fin cfg0.N) (k : Fin 2048) (a : Fin 512) (r : Fin 8192) (hr : r.val = 2048 * (t.val % 4) + k.val) :
    (iblk m c 0 t : S2048x512.Idx → EReal) (ix2 k a) = rows m c (ix2 r a) := by
  refine (rows_at m c (((cfg0.win 0).blk t).view.emb (ix2 k a))).trans (congrArg (rows m c) (funext fun a' => Fin.ext ?_))
  obtain ⟨e0, e1, -⟩ := places t
  match a' with
  | ⟨0, _⟩ => show win0_0.index t (0 : Fin 2) * 2048 + 1 * k.val = r.val; omega
  | ⟨1, _⟩ => show win0_0.index t (1 : Fin 2) * 512 + 1 * a.val = a.val; omega

theorem blk1 (t : Fin cfg0.N) (k : Fin 2048) (b : Fin 1024) (r : Fin 8192) (hr : r.val = 2048 * (t.val % 4) + k.val)
    (d : Fin 1024) (hd : d.val = 1024 * (t.val / 4) + b.val) :
    (iblk m c 1 t : S2048x1024.Idx → EReal) (ix2 k b) = cots m c (ix2 r d) := by
  refine (cots_at m c (((cfg0.win 1).blk t).view.emb (ix2 k b))).trans (congrArg (cots m c) (funext fun a' => Fin.ext ?_))
  obtain ⟨-, -, e0, e1⟩ := places t
  match a' with
  | ⟨0, _⟩ => show win0_1.index t (0 : Fin 2) * 2048 + 1 * k.val = r.val; omega
  | ⟨1, _⟩ => show win0_1.index t (1 : Fin 2) * 1024 + 1 * b.val = d.val; omega

/-- The array the call leaves is the reference's. -/
theorem array : Value.G2 m c = result m c := by
  funext i
  have hN : cfg0.N = 4 := N_0
  have h0 : (i 0).val < 512 := (i 0).isLt
  have h1 : (i 1).val < 1024 := (i 1).isLt
  have hq : Value.run2Of i = 0 := by
    unfold Value.run2Of
    omega
  unfold Value.G2 result
  rw [dif_pos (by rw [hq]; omega), ref_apply, fold]
  refine RowSums.four_blocks (fun k => rows m c (ix2 k (i 0)) * cots m c (ix2 k (i 1))) _ fun s hs => ?_
  have hn : 4 * Value.run2Of i + s < cfg0.N := by rw [hq]; omega
  unfold addend
  rw [dif_pos hn]
  refine Finset.sum_congr rfl fun k _ => ?_
  have hr : 2048 * s + k.val = 2048 * ((4 * Value.run2Of i + s) % 4) + k.val := by omega
  refine congrArg₂ (· * ·) ((blk0 m c ⟨_, hn⟩ k _ ⟨2048 * s + k.val, by have := k.isLt; omega⟩ hr).trans ?_)
    ((blk1 m c ⟨_, hn⟩ k _ ⟨2048 * s + k.val, by have := k.isLt; omega⟩ hr (i 1) ?_))
  · refine congrArg (rows m c) (congrArg (ix2 _) (Fin.ext ?_))
    show (i 0).val % 512 = (i 0).val
    omega
  · show (i 1).val = 1024 * ((4 * Value.run2Of i + s) / 4) + (i 1).val % 1024
    rw [hq]; omega

theorem reference_frame : quiescent_GradOutRefIdeal (hGradOutRefIdeal := GradOutRefIdeal.Gen.facts) := fun m g _ =>
  (θ_run _ _ _).mono
    (fun r h => ⟨fun c => (h c).2, sem_eq_zero_of_no_sems (by decide) r.2⟩)
    (GradOutRefIdeal.Value.run (F := Ideal) m g)

open GradOutRefIdeal.Read in
theorem result_congr {x0 y0 : Arr S8192x512 .f32} {x1 y1 : Arr S8192x1024 .f32}
    (e0 : x0 = y0) (e1 : x1 = y1) : val_main_v3 x0 x1 = val_main_v3 y0 y1 := by
  subst e0 e1
  rfl

/-- At the exact values the call's result is the reference's. -/
theorem values : algebraic_GradOutIdeal_GradOutRefIdeal (hGradOutIdeal := GradOutIdeal.Gen.facts)
    (hGradOutRefIdeal := GradOutRefIdeal.Gen.facts) := by
  intro m g m' g' _ hagree
  refine ⟨fun c => result m c, ?_, ?_⟩
  · exact (θ_run _ _ _).mono (fun r h c => ⟨(h c).1.trans (array m c), (h c).2⟩)
      (GradOutIdeal.Value.run (F := Ideal) m g)
  · refine (θ_run _ _ _).mono (fun r h c => ?_) (GradOutRefIdeal.Value.run (F := Ideal) m' g')
    obtain ⟨e0, e1⟩ := hagree c
    exact ⟨((h c).1.trans (GradOutRefIdeal.Read.val_main_v3_eq _ _)).trans (result_congr e0 e1), (h c).2⟩

end Cert.GradOutIdeal.Grad

end
-- ==== Proof.OutBwd.lean ====
/-
  The gradient through the mixer's output weights: the cotangents' rows times the weights' rows, block by block.
-/
module

public import proofs.«01_k».proof.Proof.Calls
public import proofs.«01_k».proof.Proof.Gen.OutBwd.Frame
public import proofs.«01_k».proof.Proof.Gen.OutBwdIdeal.Value
public import proofs.«01_k».proof.Proof.Gen.OutBwdRefIdeal.Read

@[expose] public section

noncomputable section

namespace Cert.OutBwdIdeal.Layer

open Idealize.ShloMosaic Idealize.ShloMosaic.TcCoe Idealize.SL.Sem
open Cert.OutBwdIdeal Cert.OutBwdIdeal.Gen
open scoped BigOperators

theorem pay_apply (x y : Vec Ideal S1024x1024 .bf16) (j : S1024x1024.Idx) :
    k0_pay1 x y j = ∑ k : Fin 1024, x (ix2 (j 0) k) * y (ix2 (j 1) k) := by
  unfold k0_pay1
  simp only [pointwise, shapeCast_self]
  rw [zero_add]

open OutBwdRefIdeal.Read in
theorem ref_apply (x0 : Arr S8192x1024 .f32) (x1 : Arr S1024x1024 .f32)
    (i : S8192x1024.Idx) : val_main_v3 x0 x1 i = ∑ k : Fin 1024, x0 (ix2 (i 0) k) * x1 (ix2 (i 1) k) := by
  rw [val_main_v3_apply, val_main_v2_apply]
  refine Finset.sum_congr rfl fun k _ => congrArg₂ (· * ·) (congrArg x0 (funext fun a => ?_)) (congrArg x1 (funext fun a => ?_))
  · match a with | ⟨0, _⟩ => rfl | ⟨1, _⟩ => rfl
  · match a with | ⟨0, _⟩ => rfl | ⟨1, _⟩ => rfl

variable (m : (ℓ : Loc nD τ sig) → Buf (Elt Ideal) ℓ) (c : Dev nD)

/-- The cotangents and the weights, as launched. -/
def cots : Arr S8192x1024 .f32 := m ((c : Thread nD τ).loc main_arg0)
def weights : Arr S1024x1024 .f32 := m ((c : Thread nD τ).loc main_arg1)

theorem cots_at (i : S8192x1024.Idx) : (V m c main_v0 : S8192x1024.Idx → EReal) i = cots m c i := by
  unfold cots
  rw [← V_main_arg0 m c]; unfold V
  after_reads_simp <;> rfl

theorem weights_at (i : S1024x1024.Idx) : (V m c main_v1 : S1024x1024.Idx → EReal) i = weights m c i := by
  unfold weights
  rw [← V_main_arg1 m c]; unfold V
  after_reads_simp <;> rfl

/-- The result array. -/
def result : Arr S8192x1024 .bf16 := OutBwdRefIdeal.Read.val_main_v3 (cots m c) (weights m c)

/-- Where each grid point's blocks lie. -/
theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ (cfg0.win 2).flush t = true :=
  (by decide +kernel : ∀ t : Fin grid0.N, _)

/-- Where an index of the output's block at a grid point lies in the array. -/
def spot (t : Fin cfg0.N) (y : S1024x1024.Idx) : S8192x1024.Idx := ((cfg0.win 2).blk t).view.emb y

theorem spot_0 (t : Fin cfg0.N) (y : S1024x1024.Idx) : (spot t y 0).val = win0_2.index t (0 : Fin 2) * 1024 + 1 * (y 0).val := rfl
theorem spot_1 (t : Fin cfg0.N) (y : S1024x1024.Idx) : (spot t y 1).val = win0_2.index t (1 : Fin 2) * 1024 + 1 * (y 1).val := rfl

theorem blk0 (t : Fin cfg0.N) (y : S1024x1024.Idx) (k : Fin 1024) :
    (iblk m c 0 t : S1024x1024.Idx → EReal) (ix2 (y 0) k) = cots m c (ix2 (spot t y 0) k) := by
  refine (cots_at m c (((cfg0.win 0).blk t).view.emb (ix2 (y 0) k))).trans (congrArg (cots m c) (funext fun a => Fin.ext ?_))
  obtain ⟨e0, e1, -, -, e2, -⟩ := places t
  match a with
  | ⟨0, _⟩ => show win0_0.index t (0 : Fin 2) * 1024 + 1 * (y 0).val = win0_2.index t (0 : Fin 2) * 1024 + 1 * (y 0).val; omega
  | ⟨1, _⟩ => show win0_0.index t (1 : Fin 2) * 1024 + 1 * k.val = k.val; omega

theorem blk1 (t : Fin cfg0.N) (y : S1024x1024.Idx) (k : Fin 1024) :
    (iblk m c 1 t : S1024x1024.Idx → EReal) (ix2 (y 1) k) = weights m c (ix2 (spot t y 1) k) := by
  refine (weights_at m c (((cfg0.win 1).blk t).view.emb (ix2 (y 1) k))).trans (congrArg (weights m c) (funext fun a => Fin.ext ?_))
  obtain ⟨-, -, e0, e1, -, e3, -⟩ := places t
  match a with
  | ⟨0, _⟩ => show win0_1.index t (0 : Fin 2) * 1024 + 1 * (y 1).val = win0_2.index t (1 : Fin 2) * 1024 + 1 * (y 1).val; omega
  | ⟨1, _⟩ => show win0_1.index t (1 : Fin 2) * 1024 + 1 * k.val = k.val; omega

/-- What a grid point writes back is its block of the result. -/
theorem flushed (t : Fin cfg0.N) : (dats m 0 c).flushed 2 t = ((cfg0.win 2).blk t).view.read (Elt Ideal) (result m c) := by
  rw [Value.flushed2]
  funext y
  show out0_2 (iblk m c 0 t) (iblk m c 1 t) y = result m c (spot t y)
  unfold out0_2 result
  rw [View.canon_unit_zero hz2, ref_apply]
  simp only [View.ld_unit_zero (S := S1024x1024) hz2]
  rw [pay_apply]
  simp only [blk0, blk1]

theorem covered (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, e0, e1, hf⟩ := places t
  refine ⟨t, hf, ?_⟩
  show i ∈ ((View.whole main_v2).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The array the call leaves is the reference's. -/
theorem array : (dats m 0 c).arrAt 2 cfg0.N = result m c :=
  (dats m 0 c).arrAt_eq_of_cover 2 _ (fun t _ => flushed m c t) covered

theorem reference_frame : quiescent_OutBwdRefIdeal (hOutBwdRefIdeal := OutBwdRefIdeal.Gen.facts) := fun m g _ =>
  (θ_run _ _ _).mono
    (fun r h => ⟨fun c => (h c).2, sem_eq_zero_of_no_sems (by decide) r.2⟩)
    (OutBwdRefIdeal.Value.run (F := Ideal) m g)

open OutBwdRefIdeal.Read in
theorem result_congr {x0 y0 : Arr S8192x1024 .f32} {x1 y1 : Arr S1024x1024 .f32}
    (e0 : x0 = y0) (e1 : x1 = y1) : val_main_v3 x0 x1 = val_main_v3 y0 y1 := by
  subst e0 e1
  rfl

/-- At the exact values the call's result is the reference's. -/
theorem values : algebraic_OutBwdIdeal_OutBwdRefIdeal (hOutBwdIdeal := OutBwdIdeal.Gen.facts)
    (hOutBwdRefIdeal := OutBwdRefIdeal.Gen.facts) := by
  intro m g m' g' _ hagree
  refine ⟨fun c => result m c, ?_, ?_⟩
  · exact (θ_run _ _ _).mono (fun r h c => ⟨(h c).1.trans (array m c), (h c).2⟩)
      (OutBwdIdeal.Value.run_blocks (F := Ideal) m g)
  · refine (θ_run _ _ _).mono (fun r h c => ?_) (OutBwdRefIdeal.Value.run (F := Ideal) m' g')
    obtain ⟨e0, e1⟩ := hagree c
    exact ⟨((h c).1.trans (OutBwdRefIdeal.Read.val_main_v3_eq _ _)).trans (result_congr e0 e1), (h c).2⟩

end Cert.OutBwdIdeal.Layer

end
-- ==== Proof.InBwd.lean ====
/-
  The gradient through the mixer's input weights and the norm before them: of the residual stream, and of the norm's gain.
-/
module

public import proofs.«01_k».proof.Proof.Calls
public import proofs.«01_k».proof.Proof.RowSums
public import proofs.«01_k».proof.Proof.Norm
public import proofs.«01_k».proof.Proof.Gen.InBwd.Frame
public import proofs.«01_k».proof.Proof.Gen.InBwdIdeal.Value
public import proofs.«01_k».proof.Proof.Gen.InBwdRefIdeal.Read

@[expose] public section

noncomputable section

namespace Cert.InBwdIdeal.Norm

open Idealize.ShloMosaic Idealize.ShloMosaic.TcCoe Idealize.SL.Sem
open Cert.InBwdIdeal Cert.InBwdIdeal.Gen Cert.Norm
open scoped BigOperators

/-! ## The kernel's block and the reference's array, at an index -/

/-- The cotangent of the normed row: the row's products with the two weights' rows. -/
def back (d : Fin 3072 → EReal) (e : Fin 128 → EReal) (w : S1024x3072.Idx → EReal) (u : S1024x128.Idx → EReal) (j : Fin 1024) : EReal :=
  ∑ k : Fin 3072, d k * w (ix2 j k) + ∑ k : Fin 128, e k * u (ix2 j k)

theorem pay_back (v1 : Vec Ideal S512x3072 .bf16) (v3 : Vec Ideal S1024x3072 .bf16) (v6 : Vec Ideal S512x128 .bf16) (v8 : Vec Ideal S1024x128 .bf16)
    (i : S512x1024.Idx) : k0_pay5 v1 v3 v6 v8 i = back (fun k => v1 (ix2 (i 0) k)) (fun k => v6 (ix2 (i 0) k)) v3 v8 (i 1) := by
  unfold k0_pay5 back
  simp only [pointwise, shapeCast_self]
  rw [zero_add, zero_add]

theorem pay_root (v0 : Vec Ideal S512x1024 .f32) (i : S512x1.Idx) :
    k0_pay6 v0 i = Ideal.rsqrt (meanSq fun k => v0 (ix2 (i 0) k)) := by
  unfold k0_pay6 meanSq
  simp only [pointwise, shapeCast_self]

theorem pay_entry (v0 : Vec Ideal S512x1024 .f32) (v1 : Vec Ideal S512x3072 .bf16) (v3 : Vec Ideal S1024x3072 .bf16) (v6 : Vec Ideal S512x128 .bf16)
    (v8 : Vec Ideal S1024x128 .bf16) (v12 : Vec Ideal S1x1024 .f32) (v41 : Vec Ideal S512x1024 .f32) (i : S512x1024.Idx) :
    k0_pay1 (k0_pay7 v0 v1 v3 v6 v8 v12) v41 i = entry (back (fun k => v1 (ix2 (i 0) k)) (fun k => v6 (ix2 (i 0) k)) v3 v8)
      (fun k => v12 (ix2 0 k)) (fun k => v0 (ix2 (i 0) k)) (v41 i) (i 1) := by
  unfold k0_pay1 k0_pay7 entry
  simp only [pointwise, shapeCast_self, pay_root, pay_back]
  rfl

theorem pay_gain (v0 : Vec Ideal S512x1024 .f32) (v1 : Vec Ideal S512x3072 .bf16) (v3 : Vec Ideal S1024x3072 .bf16) (v6 : Vec Ideal S512x128 .bf16)
    (v8 : Vec Ideal S1024x128 .bf16) (a : Vec Ideal S1x1024 .f32) (i : S1x1024.Idx) : k0_pay4 (k0_pay5 v1 v3 v6 v8) (k0_pay8 v0) a i
      = a i + ∑ p : Fin 512, gain (back (fun k => v1 (ix2 p k)) (fun k => v6 (ix2 p k)) v3 v8) (fun k => v0 (ix2 p k)) (i 1) := by
  unfold k0_pay4 k0_pay8 gain
  simp only [pointwise, shapeCast_self, pay_root, pay_back]
  rfl

theorem pay_zero (i : S1x1024.Idx) : k0_pay3 (F := Ideal) i = 0 := by
  unfold k0_pay3
  simp only [pointwise]

section Reference

open InBwdRefIdeal.Read

variable (x0 : Arr S8192x3072 .f32) (x1 : Arr S8192x128 .f32)
  (x2 : Arr S1024x3072 .f32) (x3 : Arr S1024x128 .f32)
  (x4 : Arr S8192x1024 .f32) (x5 : Arr S1024 .f32)
  (x6 : Arr S8192x1024 .f32)

theorem ref_back (i : S8192x1024.Idx) : val_main_v20 x0 x1 x2 x3 i
    = back (fun k => x0 (ix2 (i 0) k)) (fun k => x1 (ix2 (i 0) k)) x2 x3 (i 1) := by
  rw [val_main_v20_apply, val_main_v18_apply, val_main_v19_apply]
  refine (add_comm _ _).trans (congrArg₂ (· + ·) (Finset.sum_congr rfl fun k _ => congrArg₂ (· * ·) (congrArg x0 ?_) (congrArg x2 ?_))
    (Finset.sum_congr rfl fun k _ => congrArg₂ (· * ·) (congrArg x1 ?_) (congrArg x3 ?_)))
  all_goals exact funext fun a => by match a with | ⟨0, _⟩ => rfl | ⟨1, _⟩ => rfl

theorem ref_meanSq (i : InBwdRefIdeal.S8192x1.Idx) : val_main_v6 x4 i = meanSq fun k => x4 (ix2 (i 0) k) := by
  rw [val_main_v6_apply, val_main_v4_apply, val_main_v2_apply, val_main_v1_apply, val_main_v3_apply, val_main_v5_apply]
  simp only [val_main_v0_apply, val_main_cst_apply, val_main_cst_0_apply, val_main_cst_1_apply]
  show Ideal.div (Ideal.ofBits .f32 0x00000000#32 + _) _ + _ = _
  rw [Ideal.ofBits_zero_f32, zero_add]
  unfold meanSq
  refine congrArg (fun s => Ideal.div s _ + _) (Finset.sum_congr rfl fun k _ => ?_)
  have e : idx_main_v1 (idx_main_v2 i) k = ix2 (i 0) k := funext fun a => by match a with | ⟨0, _⟩ => rfl | ⟨1, _⟩ => rfl
  rw [e]
  rfl

theorem ref_root (i : InBwdRefIdeal.S8192x1.Idx) : val_main_v7 x4 i = Ideal.rsqrt (meanSq fun k => x4 (ix2 (i 0) k)) := by
  rw [val_main_v7_apply, ref_meanSq]
  rfl

theorem ref_scaled (i : S8192x1024.Idx) : val_main_v25 x0 x1 x2 x3 x5 i
    = back (fun k => x0 (ix2 (i 0) k)) (fun k => x1 (ix2 (i 0) k)) x2 x3 (i 1) * x5 (ix1 (i 1)) := by
  rw [val_main_v25_apply, ref_back, val_main_v24_apply, val_main_v13_apply]
  refine congrArg (_ * ·) (congrArg x5 (funext fun a => ?_))
  match a with | ⟨0, _⟩ => rfl

theorem ref_part (i : S8192x1024.Idx) : val_main_v36 x0 x1 x2 x3 x4 x5 i
    = Ideal.div ((∑ k, back (fun k => x0 (ix2 (i 0) k)) (fun k => x1 (ix2 (i 0) k)) x2 x3 k * x5 (ix1 k) * x4 (ix2 (i 0) k))
        * (Ideal.ofBits .f32 0xBF000000#32
        * Ideal.div (Ideal.rsqrt (meanSq fun k => x4 (ix2 (i 0) k))) (meanSq fun k => x4 (ix2 (i 0) k)))) (Ideal.ofBits .f32 0x44800000#32) := by
  rw [val_main_v36_apply, val_main_v35_apply, Fin.sum_univ_one, val_main_v34_apply, val_main_v32_apply, val_main_v10_apply, val_main_v8_apply,
    ref_root, ref_meanSq, val_main_v29_apply, val_main_v28_apply, val_main_v9_apply, val_main_v33_apply]
  simp only [val_main_v27_apply, ref_scaled, val_main_cst_2_apply, val_main_cst_5_apply, val_main_cst_6_apply, val_main_cst_7_apply]
  show Ideal.ofBits .f32 0x00000000#32 + Ideal.div ((Ideal.ofBits .f32 0x00000000#32 + _) * _) _ = _
  rw [Ideal.ofBits_zero_f32, zero_add, zero_add]
  refine congrArg (fun s => Ideal.div (s * _) _) (Finset.sum_congr rfl fun k _ => ?_)
  have e : idx_main_v28 (idx_main_v29 (idx_main_v35 (idx_main_v36 i) 0)) k = ix2 (i 0) k := funext fun a => Fin.ext (by
    match a with
    | ⟨0, _⟩ => show (i 0).val * 1 + 0 = (i 0).val; omega
    | ⟨1, _⟩ => rfl)
  rw [e]
  exact mul_comm _ _

theorem ref_entry (i : S8192x1024.Idx) : val_main_v41 x0 x1 x2 x3 x4 x5 x6 i
    = entry (back (fun k => x0 (ix2 (i 0) k)) (fun k => x1 (ix2 (i 0) k)) x2 x3) (fun k => x5 (ix1 k)) (fun k => x4 (ix2 (i 0) k)) (x6 i) (i 1) := by
  rw [val_main_v41_apply, val_main_v40_apply, val_main_v38_apply, val_main_v39_apply, val_main_v37_apply, val_main_v31_apply, val_main_v30_apply,
    ref_root, ref_scaled, ref_part]
  have e : x4 i = x4 (ix2 (i 0) (i 1)) := congrArg x4 (funext fun a => by match a with | ⟨0, _⟩ => rfl | ⟨1, _⟩ => rfl)
  rw [e]
  exact congrArg (x6 i + ·) (forms _ _ _ _ (meanSq_pos _))

theorem ref_gain (i : S1x1024.Idx) : val_main_v43 x0 x1 x2 x3 x4 i
    = ∑ p : Fin 8192, gain (back (fun k => x0 (ix2 p k)) (fun k => x1 (ix2 p k)) x2 x3) (fun k => x4 (ix2 p k)) (i 1) := by
  have h0 : (i 0).val < 1 := (i 0).isLt
  rw [val_main_v43_apply, val_main_v26_apply, Fin.sum_univ_one, val_main_v23_apply, val_main_v22_apply]
  simp only [val_main_v21_apply, val_main_v12_apply, val_main_v11_apply, ref_root, ref_back, val_main_cst_3_apply, val_main_cst_4_apply]
  show Ideal.ofBits .f32 0x00000000#32 + (Ideal.ofBits .f32 0x00000000#32 + _) = _
  rw [Ideal.ofBits_zero_f32, zero_add, zero_add]
  refine Finset.sum_congr rfl fun p _ => ?_
  have e : idx_main_v22 (idx_main_v23 (idx_main_v26 (idx_main_v43 i) 0)) p = ix2 p (i 1) := funext fun a => Fin.ext (by
    match a with
    | ⟨0, _⟩ => rfl
    | ⟨1, _⟩ => show 0 * 1024 + ((i 0).val * 1024 + (i 1).val) = (i 1).val; omega)
  rw [e]
  exact mul_comm _ _

end Reference

/-! ## What a grid point leaves in its three outputs' buffers -/

section Left

variable (c : Dev nD) (i : grid0.Coords) (arg1 : Memref sig .tc .vmem S512x3072 .bf16) (harg1 : arg1.IsWhole)
  (arg2 : Memref sig .tc .vmem S512x128 .bf16) (harg2 : arg2.IsWhole) (arg3 : Memref sig .tc .vmem S1024x3072 .bf16) (harg3 : arg3.IsWhole)
  (arg4 : Memref sig .tc .vmem S1024x128 .bf16) (harg4 : arg4.IsWhole) (arg5 : Memref sig .tc .vmem S512x1024 .f32) (harg5 : arg5.IsWhole)
  (arg6 : Memref sig .tc .vmem S1x1024 .f32) (harg6 : arg6.IsWhole) (arg7 : Memref sig .tc .vmem S512x1024 .f32) (harg7 : arg7.IsWhole)
  (arg8 : Memref sig .tc .vmem S512x1024 .f32) (harg8 : arg8.IsWhole) (arg9 : Memref sig .tc .vmem S512x1024 .bf16) (harg9 : arg9.IsWhole)
  (arg10 : Memref sig .tc .vmem S1x1024 .f32) (harg10 : arg10.IsWhole)
  (x0 : Vec Ideal S512x3072 .bf16) (x1 : Vec Ideal S512x128 .bf16) (x2 : Vec Ideal S1024x3072 .bf16) (x3 : Vec Ideal S1024x128 .bf16)
  (x4 : Vec Ideal S512x1024 .f32) (x5 : Vec Ideal S1x1024 .f32) (x6 : Vec Ideal S512x1024 .f32) (a : Vec Ideal S1x1024 .f32)

theorem first (hc0 : cond0_0 i) : out0_A_7 c i arg1 harg1 arg2 harg2 arg3 harg3 arg4 harg4 arg5 harg5 arg6 harg6 arg7 harg7 arg8 harg8 arg9 harg9 arg10 harg10 hc0 x0 x1 x2 x3 x4 x5 x6 = k0_pay1 (k0_pay7 x4 x0 x2 x1 x3 x5) x6
    ∧ out0_A_8 c i arg1 harg1 arg2 harg2 arg3 harg3 arg4 harg4 arg5 harg5 arg6 harg6 arg7 harg7 arg8 harg8 arg9 harg9 arg10 harg10 hc0 x0 x1 x2 x3 x4 x5 x6 = k0_pay2 (k0_pay7 x4 x0 x2 x1 x3 x5) x6
    ∧ out0_A_9 c i arg1 harg1 arg2 harg2 arg3 harg3 arg4 harg4 arg5 harg5 arg6 harg6 arg7 harg7 arg8 harg8 arg9 harg9 arg10 harg10 hc0 x0 x1 x2 x3 x4 x5 x6 = k0_pay4 (k0_pay5 x0 x2 x1 x3) (k0_pay8 x4) (k0_pay3 (F := Ideal)) := by
  unfold out0_A_7 out0_A_8 out0_A_9
  rw [View.read_writes_eq_canon _ _ _ (by apply cover0_A_7),
    View.read_writes_eq_canon _ _ _ (by apply cover0_A_8),
    View.read_writes_eq_canon _ _ _ (by apply cover0_A_9)]
  unfold kernelRun0_A
  dsimp only
  try sl_unfold_words
  refine ⟨(View.canon_unit_zero hz2 _ _).trans ?_, (View.canon_unit_zero hz2 _ _).trans ?_, (View.canon_cons_unit_zero (S := S1x1024) hz2 _ _ _).trans ?_⟩
  on_goal 3 => rw [View.readCov_unit_zero (S := S1x1024) _ hz2]
  all_goals simp only [View.readAt_eq_ld, harg1.read_unread, harg2.read_unread, harg3.read_unread, harg4.read_unread, harg5.read_unread,
    harg6.read_unread, harg7.read_unread, harg10.read_unread, View.ld_unit_zero (S := S512x3072) hz2, View.ld_unit_zero (S := S512x128) hz2,
    View.ld_unit_zero (S := S1024x3072) hz2, View.ld_unit_zero (S := S1024x128) hz2, View.ld_unit_zero (S := S512x1024) hz2,
    View.ld_unit_zero (S := S1x1024) hz2]

theorem later (hc0 : ¬cond0_0 i) : out0_B_7 c i arg1 harg1 arg2 harg2 arg3 harg3 arg4 harg4 arg5 harg5 arg6 harg6 arg7 harg7 arg8 harg8 arg9 harg9 arg10 harg10 hc0 x0 x1 x2 x3 x4 x5 x6 a = k0_pay1 (k0_pay7 x4 x0 x2 x1 x3 x5) x6
    ∧ out0_B_8 c i arg1 harg1 arg2 harg2 arg3 harg3 arg4 harg4 arg5 harg5 arg6 harg6 arg7 harg7 arg8 harg8 arg9 harg9 arg10 harg10 hc0 x0 x1 x2 x3 x4 x5 x6 a = k0_pay2 (k0_pay7 x4 x0 x2 x1 x3 x5) x6
    ∧ out0_B_9 c i arg1 harg1 arg2 harg2 arg3 harg3 arg4 harg4 arg5 harg5 arg6 harg6 arg7 harg7 arg8 harg8 arg9 harg9 arg10 harg10 hc0 x0 x1 x2 x3 x4 x5 x6 a = k0_pay4 (k0_pay5 x0 x2 x1 x3) (k0_pay8 x4) a := by
  unfold out0_B_7 out0_B_8 out0_B_9
  rw [View.read_writes_eq_canon _ _ _ (by apply cover0_B_7),
    View.read_writes_eq_canon _ _ _ (by apply cover0_B_8),
    View.read_writes_eq_canon _ _ _ (by apply cover0_B_9)]
  unfold kernelRun0_B
  dsimp only
  try sl_unfold_words
  refine ⟨(View.canon_unit_zero hz2 _ _).trans ?_, (View.canon_unit_zero hz2 _ _).trans ?_, (View.canon_unit_zero hz2 _ _).trans ?_⟩
  all_goals simp only [View.readAt_eq_ld, harg1.read_unread, harg2.read_unread, harg3.read_unread, harg4.read_unread, harg5.read_unread,
    harg6.read_unread, harg7.read_unread, harg10.read_unread, View.ld_unit_zero (S := S512x3072) hz2, View.ld_unit_zero (S := S512x128) hz2,
    View.ld_unit_zero (S := S1024x3072) hz2, View.ld_unit_zero (S := S1024x128) hz2, View.ld_unit_zero (S := S512x1024) hz2,
    View.ld_unit_zero (S := S1x1024) hz2]

end Left

variable (m : (ℓ : Loc nD τ sig) → Buf (Elt Ideal) ℓ) (c : Dev nD)

/-- The two cotangents, the two weights, the normed rows' source, the gain and the residual cotangents, as launched. -/
def cots : Arr S8192x3072 .f32 := m ((c : Thread nD τ).loc main_arg0)
def gateCots : Arr S8192x128 .f32 := m ((c : Thread nD τ).loc main_arg1)
def weights : Arr S1024x3072 .f32 := m ((c : Thread nD τ).loc main_arg2)
def gateWeights : Arr S1024x128 .f32 := m ((c : Thread nD τ).loc main_arg3)
def rows : Arr S8192x1024 .f32 := m ((c : Thread nD τ).loc main_arg4)
def gains : Arr S1024 .f32 := m ((c : Thread nD τ).loc main_arg5)
def resid : Arr S8192x1024 .f32 := m ((c : Thread nD τ).loc main_arg6)

theorem cots_at (i : S8192x3072.Idx) : (V m c main_v0 : S8192x3072.Idx → EReal) i = cots m c i := by
  unfold cots
  rw [← V_main_arg0 m c]; unfold V
  after_reads_simp <;> rfl

theorem gateCots_at (i : S8192x128.Idx) : (V m c main_v1 : S8192x128.Idx → EReal) i = gateCots m c i := by
  unfold gateCots
  rw [← V_main_arg1 m c]; unfold V
  after_reads_simp <;> rfl

theorem weights_at (i : S1024x3072.Idx) : (V m c main_v2 : S1024x3072.Idx → EReal) i = weights m c i := by
  unfold weights
  rw [← V_main_arg2 m c]; unfold V
  after_reads_simp <;> rfl

theorem gateWeights_at (i : S1024x128.Idx) : (V m c main_v3 : S1024x128.Idx → EReal) i = gateWeights m c i := by
  unfold gateWeights
  rw [← V_main_arg3 m c]; unfold V
  after_reads_simp <;> rfl

theorem rows_at (i : S8192x1024.Idx) : (V m c main_arg4 : S8192x1024.Idx → EReal) i = rows m c i :=
  congrFun (V_main_arg4 m c) i

theorem resid_at (i : S8192x1024.Idx) : (V m c main_arg6 : S8192x1024.Idx → EReal) i = resid m c i :=
  congrFun (V_main_arg6 m c) i

theorem gains_at (i : S1x1024.Idx) : (V m c main_v4 : S1x1024.Idx → EReal) i = gains m c (ix1 (i 1)) := by
  have e : (V m c main_v4 : S1x1024.Idx → EReal) = Idealize.ShloMosaic.shapeCast S1x1024 (gains m c) shapeCasts_S1024_S1x1024 := by
    unfold gains
    rw [← V_main_arg5 m c]; unfold V
    after_reads_simp <;> rfl
  rw [e]
  refine shapeCast_apply _ shapeCasts_S1024_S1x1024 i (ix1 (i 1)) ?_
  have h0 : (i 0).val < 1 := (i 0).isLt
  rw [Shape.rowMajor_val_one, Shape.rowMajor_val_two]
  show (i 1).val = (i 0).val * 1024 + (i 1).val
  omega

/-- The results: of the stream, and of the gain. -/
def stream : Arr S8192x1024 .f32 :=
  InBwdRefIdeal.Read.val_main_v41 (cots m c) (gateCots m c) (weights m c) (gateWeights m c) (rows m c) (gains m c) (resid m c)
def ofGain : Arr S1x1024 .f32 :=
  InBwdRefIdeal.Read.val_main_v43 (cots m c) (gateCots m c) (weights m c) (gateWeights m c) (rows m c)

/-- Where each grid point's blocks lie. -/
theorem places : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0)
    ∧ win0_5.index t (1 : Fin 2) = 0 ∧ (win0_6.index t (0 : Fin 2) = t.val ∧ win0_6.index t (1 : Fin 2) = 0)
    ∧ (win0_7.index t (0 : Fin 2) = t.val ∧ win0_7.index t (1 : Fin 2) = 0) ∧ (win0_8.index t (0 : Fin 2) = t.val ∧ win0_8.index t (1 : Fin 2) = 0)
    ∧ win0_9.index t (0 : Fin 2) = 0 ∧ win0_9.index t (1 : Fin 2) = 0 :=
  (by decide +kernel : ∀ t : Fin grid0.N, _)

/-- A grid point's blocks. -/
def cotBlock (t : Fin cfg0.N) : Vec Ideal S512x3072 .bf16 := iblk m c 0 t
def gateCotBlock (t : Fin cfg0.N) : Vec Ideal S512x128 .bf16 := iblk m c 1 t
def weightBlock (t : Fin cfg0.N) : Vec Ideal S1024x3072 .bf16 := iblk m c 2 t
def gateWeightBlock (t : Fin cfg0.N) : Vec Ideal S1024x128 .bf16 := iblk m c 3 t
def rowBlock (t : Fin cfg0.N) : Vec Ideal S512x1024 .f32 := iblk m c 4 t
def gainBlock (t : Fin cfg0.N) : Vec Ideal S1x1024 .f32 := iblk m c 5 t
def residBlock (t : Fin cfg0.N) : Vec Ideal S512x1024 .f32 := iblk m c 6 t

theorem blk0 (t : Fin cfg0.N) (p : Fin 512) (r : Fin 8192) (hr : r.val = 512 * t.val + p.val) :
    (fun k => cotBlock m c t (ix2 p k)) = fun k => cots m c (ix2 r k) := by
  funext k
  refine (cots_at m c (((cfg0.win 0).blk t).view.emb (ix2 p k))).trans (congrArg (cots m c) (funext fun a => Fin.ext ?_))
  obtain ⟨⟨e0, e1⟩, -⟩ := places t
  match a with
  | ⟨0, _⟩ => show win0_0.index t (0 : Fin 2) * 512 + 1 * p.val = r.val; omega
  | ⟨1, _⟩ => show win0_0.index t (1 : Fin 2) * 3072 + 1 * k.val = k.val; omega

theorem blk1 (t : Fin cfg0.N) (p : Fin 512) (r : Fin 8192) (hr : r.val = 512 * t.val + p.val) :
    (fun k => gateCotBlock m c t (ix2 p k)) = fun k => gateCots m c (ix2 r k) := by
  funext k
  refine (gateCots_at m c (((cfg0.win 1).blk t).view.emb (ix2 p k))).trans (congrArg (gateCots m c) (funext fun a => Fin.ext ?_))
  obtain ⟨-, ⟨e0, e1⟩, -⟩ := places t
  match a with
  | ⟨0, _⟩ => show win0_1.index t (0 : Fin 2) * 512 + 1 * p.val = r.val; omega
  | ⟨1, _⟩ => show win0_1.index t (1 : Fin 2) * 128 + 1 * k.val = k.val; omega

theorem blk2 (t : Fin cfg0.N) : weightBlock m c t = weights m c := by
  funext y
  refine (weights_at m c (((cfg0.win 2).blk t).view.emb y)).trans (congrArg (weights m c) (funext fun a => Fin.ext ?_))
  obtain ⟨-, -, ⟨e0, e1⟩, -⟩ := places t
  match a with
  | ⟨0, _⟩ => show win0_2.index t (0 : Fin 2) * 1024 + 1 * (y 0).val = (y 0).val; omega
  | ⟨1, _⟩ => show win0_2.index t (1 : Fin 2) * 3072 + 1 * (y 1).val = (y 1).val; omega

theorem blk3 (t : Fin cfg0.N) : gateWeightBlock m c t = gateWeights m c := by
  funext y
  refine (gateWeights_at m c (((cfg0.win 3).blk t).view.emb y)).trans (congrArg (gateWeights m c) (funext fun a => Fin.ext ?_))
  obtain ⟨-, -, -, ⟨e0, e1⟩, -⟩ := places t
  match a with
  | ⟨0, _⟩ => show win0_3.index t (0 : Fin 2) * 1024 + 1 * (y 0).val = (y 0).val; omega
  | ⟨1, _⟩ => show win0_3.index t (1 : Fin 2) * 128 + 1 * (y 1).val = (y 1).val; omega

theorem blk4 (t : Fin cfg0.N) (p : Fin 512) (r : Fin 8192) (hr : r.val = 512 * t.val + p.val) :
    (fun k => rowBlock m c t (ix2 p k)) = fun k => rows m c (ix2 r k) := by
  funext k
  refine (rows_at m c (((cfg0.win 4).blk t).view.emb (ix2 p k))).trans (congrArg (rows m c) (funext fun a => Fin.ext ?_))
  obtain ⟨-, -, -, -, ⟨e0, e1⟩, -⟩ := places t
  match a with
  | ⟨0, _⟩ => show win0_4.index t (0 : Fin 2) * 512 + 1 * p.val = r.val; omega
  | ⟨1, _⟩ => show win0_4.index t (1 : Fin 2) * 1024 + 1 * k.val = k.val; omega

theorem blk5 (t : Fin cfg0.N) : (fun k => gainBlock m c t (ix2 0 k)) = fun k => gains m c (ix1 k) := by
  funext k
  refine (gains_at m c (((cfg0.win 5).blk t).view.emb (ix2 0 k))).trans (congrArg (fun j => gains m c (ix1 j)) (Fin.ext ?_))
  obtain ⟨-, -, -, -, -, e1, -⟩ := places t
  show win0_5.index t (1 : Fin 2) * 1024 + 1 * k.val = k.val
  omega

/-- Where an index of a row block of an output lies in the array. -/
def spot (t : Fin cfg0.N) (y : S512x1024.Idx) : S8192x1024.Idx := ((cfg0.win 7).blk t).view.emb y

theorem spot_0 (t : Fin cfg0.N) (y : S512x1024.Idx) : (spot t y 0).val = 512 * t.val + (y 0).val := by
  obtain ⟨-, -, -, -, -, -, -, ⟨e0, -⟩, -⟩ := places t
  show win0_7.index t (0 : Fin 2) * 512 + 1 * (y 0).val = _
  omega

theorem spot_1 (t : Fin cfg0.N) (y : S512x1024.Idx) : spot t y 1 = y 1 := by
  obtain ⟨-, -, -, -, -, -, -, ⟨-, e1⟩, -⟩ := places t
  refine Fin.ext ?_
  show win0_7.index t (1 : Fin 2) * 1024 + 1 * (y 1).val = (y 1).val
  omega

theorem blk6 (t : Fin cfg0.N) (y : S512x1024.Idx) : residBlock m c t y = resid m c (spot t y) := by
  refine (resid_at m c (((cfg0.win 6).blk t).view.emb y)).trans (congrArg (resid m c) (funext fun a => Fin.ext ?_))
  obtain ⟨-, -, -, -, -, -, ⟨e0, e1⟩, ⟨e2, e3⟩, -⟩ := places t
  match a with
  | ⟨0, _⟩ => show win0_6.index t (0 : Fin 2) * 512 + 1 * (y 0).val = win0_7.index t (0 : Fin 2) * 512 + 1 * (y 0).val; omega
  | ⟨1, _⟩ => show win0_6.index t (1 : Fin 2) * 1024 + 1 * (y 1).val = win0_7.index t (1 : Fin 2) * 1024 + 1 * (y 1).val; omega

theorem spot_rounded (t : Fin cfg0.N) (y : S512x1024.Idx) : (((cfg0.win 8).blk t).view.emb y : S8192x1024.Idx) = spot t y := rfl

/-- A grid point's block of the stream's gradient. -/
def piece (t : Fin cfg0.N) : Vec Ideal S512x1024 .f32 :=
  k0_pay1 (k0_pay7 (rowBlock m c t) (cotBlock m c t) (weightBlock m c t) (gateCotBlock m c t) (gateWeightBlock m c t) (gainBlock m c t))
    (residBlock m c t)

theorem piece_at (t : Fin cfg0.N) (y : S512x1024.Idx) : piece m c t y = stream m c (spot t y) := by
  unfold piece stream
  rw [pay_entry, ref_entry, blk0 m c t (y 0) _ (spot_0 t y), blk1 m c t (y 0) _ (spot_0 t y), blk2, blk3, blk4 m c t (y 0) _ (spot_0 t y), blk5, blk6,
    spot_1]

theorem flushed_stream (t : Fin cfg0.N) : (dats m 0 c).flushed 7 t = ((cfg0.win 7).blk t).view.read (Elt Ideal) (stream m c) := by
  funext y
  refine Eq.trans ?_ (piece_at m c t y)
  by_cases h0 : t.val % 16 = 0
  · rw [Value.flushed7_A m c t h0, (first ..).1]
    rfl
  · rw [Value.flushed7_B m c t h0, (later ..).1]
    rfl

theorem flushed_rounded (t : Fin cfg0.N) : (dats m 0 c).flushed 8 t = ((cfg0.win 8).blk t).view.read (Elt Ideal) (stream m c) := by
  funext y
  refine Eq.trans ?_ ((piece_at m c t y).trans (congrArg (stream m c) (spot_rounded t y).symm))
  by_cases h0 : t.val % 16 = 0
  · rw [Value.flushed8_A m c t h0, (first ..).2.1]
    rfl
  · rw [Value.flushed8_B m c t h0, (later ..).2.1]
    rfl

theorem N_16 : cfg0.N = 16 := N_0

theorem covered_stream (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  have hN := N_16
  obtain ⟨t, ht⟩ : ∃ t : Fin cfg0.N, t.val = (i 0).val / 512 := ⟨⟨(i 0).val / 512, by omega⟩, rfl⟩
  obtain ⟨-, -, -, -, -, -, -, ⟨e0, e1⟩, -⟩ := places t
  refine ⟨t, flush0_7 t, ?_⟩
  show i ∈ ((View.whole main_v5_0).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

theorem covered_rounded (i : S8192x1024.Idx) : ∃ t : Fin cfg0.N, (cfg0.win 8).flush t = true ∧ i ∈ ((cfg0.win 8).blk t).view.set := by
  obtain ⟨t, -, h⟩ := covered_stream i
  have e : ((cfg0.win 8).blk t).view.set = ((cfg0.win 7).blk t).view.set := (View.set_slice_whole _ _).trans (View.set_slice_whole _ _).symm
  exact ⟨t, flush0_8 t, e ▸ h⟩

/-! ## The gain's gradient: the blocks' sums -/

/-- What a grid point adds. -/
def addend (n : ℕ) (j : S1x1024.Idx) : EReal := if h : n < cfg0.N then
  ∑ p : Fin 512, gain (back (fun k => cotBlock m c ⟨n, h⟩ (ix2 p k)) (fun k => gateCotBlock m c ⟨n, h⟩ (ix2 p k)) (weightBlock m c ⟨n, h⟩)
    (gateWeightBlock m c ⟨n, h⟩)) (fun k => rowBlock m c ⟨n, h⟩ (ix2 p k)) (j 1) else 0

/-- What a grid point makes of what was left before it; the first makes it of zeros. -/
def onward (n : ℕ) (h : n < cfg0.N) (a : S1x1024.Idx → EReal) : S1x1024.Idx → EReal :=
  k0_pay4 (k0_pay5 (cotBlock m c ⟨n, h⟩) (weightBlock m c ⟨n, h⟩) (gateCotBlock m c ⟨n, h⟩) (gateWeightBlock m c ⟨n, h⟩))
    (k0_pay8 (rowBlock m c ⟨n, h⟩)) a
def start (n : ℕ) (h : n < cfg0.N) : S1x1024.Idx → EReal := onward m c n h (k0_pay3 (F := Ideal))

theorem fold (b : ℕ) (h : b + 15 < cfg0.N) (j : S1x1024.Idx) :
    Pipeline.accAt (start m c) (onward m c) b 15 h j = ∑ s ∈ Finset.range 16, addend m c (b + s) j := by
  refine (Pipeline.accAt_add_apply (start m c) (onward m c) (fun _ => (0 : EReal)) (addend m c) b 15 ?_ ?_ 15 le_rfl h j).trans (zero_add _)
  · intro hb i
    unfold start onward addend
    rw [dif_pos hb]
    exact (pay_gain _ _ _ _ _ _ i).trans (congrArg (· + _) (pay_zero i))
  · intro n hn acc i _ _
    unfold onward addend
    rw [dif_pos hn]
    exact pay_gain _ _ _ _ _ _ i

theorem left_first (t : Fin cfg0.N) (h0 : t.val % 16 = 0) : (outsAt0 m c t.val t.isLt).2.2 = start m c t.val t.isLt := by
  refine (congrArg (fun q => q.2.2) (outsAt0_A m c t h0)).trans ?_
  dsimp only
  rw [(first ..).2.2]
  rfl

theorem left_later (n : ℕ) (hn : n + 1 < cfg0.N) (h0 : ¬(n + 1) % 16 = 0) :
    (outsAt0 m c (n + 1) hn).2.2 = onward m c (n + 1) hn (outsAt0 m c n (Nat.lt_of_succ_lt hn)).2.2 := by
  have e := outsAt0_B m c ⟨n + 1, hn⟩ h0
  refine (congrArg (fun q => q.2.2) e).trans ?_
  dsimp only
  rw [(later ..).2.2]
  rfl

theorem left (t : Fin cfg0.N) (h15 : t.val % 16 = 15) (h : 16 * (t.val / 16) + 15 < cfg0.N) :
    (outsAt0 m c t.val t.isLt).2.2 = Pipeline.accAt (start m c) (onward m c) (16 * (t.val / 16)) 15 h := by
  have e := Pipeline.eq_accAt_of_mod (fun n hn => ((outsAt0 m c n hn).2.2 : S1x1024.Idx → EReal)) 16 (start m c) (onward m c)
    (fun n hn h0 => left_first m c ⟨n, hn⟩ h0) (fun n hn h0 => left_later m c n hn h0)
    (by decide) t.val t.isLt (by rw [h15]; exact h)
  refine e.trans ?_
  congr 1

theorem flushed_gain (t : Fin cfg0.N) (hf : (cfg0.win 9).flush t = true) :
    (dats m 0 c).flushed 9 t = ((cfg0.win 9).blk t).view.read (Elt Ideal) (ofGain m c) := by
  have h15 := (flush0_9 t).mp hf
  have hN := N_16
  have ht := t.isLt
  have hq : t.val / 16 = 0 := by omega
  have h : 16 * (t.val / 16) + 15 < cfg0.N := by omega
  funext y
  have hy : (((cfg0.win 9).blk t).view.emb y : S1x1024.Idx) = y := by
    refine funext fun a => Fin.ext ?_
    obtain ⟨-, -, -, -, -, -, -, -, -, e0, e1⟩ := places t
    match a with
    | ⟨0, _⟩ => show win0_9.index t (0 : Fin 2) * 1 + 1 * (y 0).val = (y 0).val; omega
    | ⟨1, _⟩ => show win0_9.index t (1 : Fin 2) * 1024 + 1 * (y 1).val = (y 1).val; omega
  refine Eq.trans ?_ (congrArg (ofGain m c) hy.symm)
  rw [Value.flushed9]
  refine (congrFun (left m c t h15 h) y).trans ((fold m c _ h y).trans ?_)
  unfold ofGain
  rw [ref_gain]
  refine RowSums.blocks 16 512 8192 rfl _ _ fun s hs => ?_
  have hn : 16 * (t.val / 16) + s < cfg0.N := by omega
  unfold addend
  rw [dif_pos hn]
  refine Finset.sum_congr rfl fun p _ => ?_
  have hr : 512 * s + p.val = 512 * (16 * (t.val / 16) + s) + p.val := by omega
  rw [blk2, blk3]
  exact congrArg₂ (fun h x => gain h x (y 1)) (congrArg₂ (fun d e => back d e _ _) (blk0 m c ⟨_, hn⟩ p _ hr) (blk1 m c ⟨_, hn⟩ p _ hr))
    (blk4 m c ⟨_, hn⟩ p _ hr)

theorem covered_gain (i : S1x1024.Idx) : ∃ t : Fin cfg0.N, (cfg0.win 9).flush t = true ∧ i ∈ ((cfg0.win 9).blk t).view.set := by
  have h0 : (i 0).val < 1 := (i 0).isLt
  have h1 : (i 1).val < 1024 := (i 1).isLt
  have hN := N_16
  obtain ⟨t, ht⟩ : ∃ t : Fin cfg0.N, t.val = 15 := ⟨⟨15, by omega⟩, rfl⟩
  obtain ⟨-, -, -, -, -, -, -, -, -, e0, e1⟩ := places t
  refine ⟨t, (flush0_9 t).mpr (by omega), ?_⟩
  show i ∈ ((View.whole main_v5_2).slice (win0_9.rect t)).set
  rw [View.set_slice_whole, Rect.mem_set_unit]
  intro a
  match a with
  | ⟨0, _⟩ => show win0_9.index t (0 : Fin 2) * 1 ≤ (i 0).val ∧ (i 0).val < win0_9.index t (0 : Fin 2) * 1 + 1; omega
  | ⟨1, _⟩ => show win0_9.index t (1 : Fin 2) * 1024 ≤ (i 1).val ∧ (i 1).val < win0_9.index t (1 : Fin 2) * 1024 + 1024; omega

/-! ## The arrays the call leaves -/

theorem array_stream : (dats m 0 c).arrAt 7 cfg0.N = stream m c :=
  (dats m 0 c).arrAt_eq_of_cover 7 _ (fun t _ => flushed_stream m c t) covered_stream

theorem array_rounded : (dats m 0 c).arrAt 8 cfg0.N = stream m c :=
  (dats m 0 c).arrAt_eq_of_cover 8 _ (fun t _ => flushed_rounded m c t) covered_rounded

theorem array_gain : (dats m 0 c).arrAt 9 cfg0.N = ofGain m c :=
  (dats m 0 c).arrAt_eq_of_cover 9 _ (fun t hf => flushed_gain m c t hf) covered_gain

theorem reference_frame : quiescent_InBwdRefIdeal (hInBwdRefIdeal := InBwdRefIdeal.Gen.facts) := fun m g _ =>
  (θ_run _ _ _).mono
    (fun r h => ⟨fun c => (h c).2.2.2, sem_eq_zero_of_no_sems (by decide) r.2⟩)
    (InBwdRefIdeal.Value.run (F := Ideal) m g)

section Agree

open InBwdRefIdeal.Read

variable {x0 y0 : Arr S8192x3072 .f32} {x1 y1 : Arr S8192x128 .f32}
  {x2 y2 : Arr S1024x3072 .f32} {x3 y3 : Arr S1024x128 .f32}
  {x4 y4 : Arr S8192x1024 .f32} {x5 y5 : Arr S1024 .f32}
  {x6 y6 : Arr S8192x1024 .f32}

theorem stream_congr (e0 : x0 = y0) (e1 : x1 = y1) (e2 : x2 = y2) (e3 : x3 = y3) (e4 : x4 = y4) (e5 : x5 = y5) (e6 : x6 = y6) :
    val_main_v41 x0 x1 x2 x3 x4 x5 x6 = val_main_v41 y0 y1 y2 y3 y4 y5 y6 := by
  subst e0 e1 e2 e3 e4 e5 e6
  rfl

theorem gain_congr (e0 : x0 = y0) (e1 : x1 = y1) (e2 : x2 = y2) (e3 : x3 = y3) (e4 : x4 = y4) :
    val_main_v43 x0 x1 x2 x3 x4 = val_main_v43 y0 y1 y2 y3 y4 := by
  subst e0 e1 e2 e3 e4
  rfl

end Agree

/-- At the exact values the call's results are the reference's. -/
theorem values : algebraic_InBwdIdeal_InBwdRefIdeal (hInBwdIdeal := InBwdIdeal.Gen.facts)
    (hInBwdRefIdeal := InBwdRefIdeal.Gen.facts) := by
  intro m g m' g' _ hagree
  refine ⟨fun c => stream m c, fun c => stream m c, fun c => ofGain m c, ?_, ?_⟩
  · exact (θ_run _ _ _).mono
      (fun r h c => ⟨(h c).1.trans (array_stream m c), (h c).2.1.trans (array_rounded m c), (h c).2.2.1.trans (array_gain m c), (h c).2.2.2⟩)
      (InBwdIdeal.Value.run_blocks (F := Ideal) m g)
  · refine (θ_run _ _ _).mono (fun r h c => ?_) (InBwdRefIdeal.Value.run (F := Ideal) m' g')
    obtain ⟨e0, e1, e2, e3, e4, e5, e6⟩ := hagree c
    exact ⟨((h c).1.trans (InBwdRefIdeal.Read.val_main_v41_eq _ _)).trans (stream_congr e0 e1 e2 e3 e4 e5 e6),
      ((h c).2.1.trans (InBwdRefIdeal.Read.val_main_v42_eq _ _)).trans (stream_congr e0 e1 e2 e3 e4 e5 e6),
      ((h c).2.2.1.trans (InBwdRefIdeal.Read.val_main_v43_eq _ _ _ _ _)).trans (gain_congr e0 e1 e2 e3 e4), (h c).2.2.2⟩

end Cert.InBwdIdeal.Norm

end
-- ==== Proof.InProj.lean ====
/-
  The norm before the mixer, and its product with the mixer's input weights, left in three ranges of columns.
-/
module

public import proofs.«01_k».proof.Proof.Calls
public import proofs.«01_k».proof.Proof.Norm
public import proofs.«01_k».proof.Proof.Gen.InProj.Frame
public import proofs.«01_k».proof.Proof.Gen.InProjIdeal.Value
public import proofs.«01_k».proof.Proof.Gen.InProjRefIdeal.Read

@[expose] public section

noncomputable section

namespace Cert.InProjIdeal.Product

open Idealize.ShloMosaic Idealize.ShloMosaic.TcCoe Idealize.SL.Sem
open Cert.InProjIdeal Cert.InProjIdeal.Gen Cert.Norm
open scoped BigOperators

/-- A normed row's entry, and its product with a column of the weights. -/
def normed (g x : Fin 1024 → EReal) (j : Fin 1024) : EReal := x j * Ideal.rsqrt (meanSq x) * g j
def product (g x w : Fin 1024 → EReal) : EReal := ∑ k, normed g x k * w k

theorem pay_normed (v0 : Vec Ideal S512x1024 .f32) (v1 : Vec Ideal S1x1024 .f32) (j : S512x1024.Idx) :
    k0_pay1 v0 v1 j = normed (fun k => v1 (ix2 0 k)) (fun k => v0 (ix2 (j 0) k)) (j 1) := by
  have e : v0 j = v0 (ix2 (j 0) (j 1)) := congrArg v0 (funext fun a => by match a with | ⟨0, _⟩ => rfl | ⟨1, _⟩ => rfl)
  unfold k0_pay1 normed meanSq
  simp only [pointwise, shapeCast_self]
  rw [e]
  rfl

theorem pay_first (v0 : Vec Ideal S512x1024 .f32) (v1 : Vec Ideal S1x1024 .f32) (w : Vec Ideal S1024x1536 .bf16) (j : S512x1536.Idx) :
    k0_pay2 v0 v1 w j = product (fun k => v1 (ix2 0 k)) (fun k => v0 (ix2 (j 0) k)) (fun k => w (ix2 k (j 1))) := by
  unfold k0_pay2 product
  simp only [pointwise, shapeCast_self, pay_normed]
  rw [zero_add]

theorem pay_second (v0 : Vec Ideal S512x1024 .f32) (v1 : Vec Ideal S1x1024 .f32) (w : Vec Ideal S1024x1536 .bf16) (j : S512x1536.Idx) :
    k0_pay3 v0 v1 w j = product (fun k => v1 (ix2 0 k)) (fun k => v0 (ix2 (j 0) k)) (fun k => w (ix2 k (j 1))) :=
  pay_first v0 v1 w j

theorem pay_third (v0 : Vec Ideal S512x1024 .f32) (v1 : Vec Ideal S1x1024 .f32) (w : Vec Ideal S1024x128 .bf16) (j : S512x128.Idx) :
    k0_pay4 v0 v1 w j = product (fun k => v1 (ix2 0 k)) (fun k => v0 (ix2 (j 0) k)) (fun k => w (ix2 k (j 1))) := by
  unfold k0_pay4 product
  simp only [pointwise, shapeCast_self, pay_normed]
  rw [zero_add]

section Reference

open InProjRefIdeal.Read

variable (x0 : Arr S8192x1024 .f32) (x1 : Arr S1024 .f32)
  (x2 : Arr S1024x3200 .f32)

theorem ref_root (i : InProjRefIdeal.S8192x1.Idx) : val_main_v7 x0 i = Ideal.rsqrt (meanSq fun k => x0 (ix2 (i 0) k)) := by
  rw [val_main_v7_apply, val_main_v6_apply, val_main_v4_apply, val_main_v2_apply, val_main_v1_apply, val_main_v3_apply, val_main_v5_apply]
  simp only [val_main_v0_apply, val_main_cst_apply, val_main_cst_0_apply, val_main_cst_1_apply]
  show Ideal.rsqrt (Ideal.div (Ideal.ofBits .f32 0x00000000#32 + _) _ + _) = _
  rw [Ideal.ofBits_zero_f32, zero_add]
  unfold meanSq
  refine congrArg (fun s => Ideal.rsqrt (Ideal.div s _ + _)) (Finset.sum_congr rfl fun k _ => ?_)
  have e : idx_main_v1 (idx_main_v2 i) k = ix2 (i 0) k := funext fun a => by match a with | ⟨0, _⟩ => rfl | ⟨1, _⟩ => rfl
  rw [e]
  rfl

theorem ref_normed (i : S8192x1024.Idx) : val_main_v12 x0 x1 i = normed (fun k => x1 (ix1 k)) (fun k => x0 (ix2 (i 0) k)) (i 1) := by
  rw [val_main_v12_apply, val_main_v9_apply, val_main_v8_apply, ref_root, val_main_v11_apply, val_main_v10_apply]
  have e : x0 i = x0 (ix2 (i 0) (i 1)) := congrArg x0 (funext fun a => by match a with | ⟨0, _⟩ => rfl | ⟨1, _⟩ => rfl)
  rw [e]
  refine congrArg (_ * ·) (congrArg x1 (funext fun a => ?_))
  match a with | ⟨0, _⟩ => rfl

theorem ref_product (i : InProjRefIdeal.S8192x3200.Idx) : val_main_v13 x0 x1 x2 i
    = product (fun k => x1 (ix1 k)) (fun k => x0 (ix2 (i 0) k)) (fun k => x2 (ix2 k (i 1))) := by
  rw [val_main_v13_apply]
  simp only [ref_normed]
  refine Finset.sum_congr rfl fun k _ => congrArg (_ * ·) (congrArg x2 (funext fun a => ?_))
  match a with | ⟨0, _⟩ => rfl | ⟨1, _⟩ => rfl

end Reference

variable (m : (ℓ : Loc nD τ sig) → Buf (Elt Ideal) ℓ) (c : Dev nD)

/-- The rows, the norm's gain and the weights, as launched. -/
def rows : Arr S8192x1024 .f32 := m ((c : Thread nD τ).loc main_arg0)
def gains : Arr S1024 .f32 := m ((c : Thread nD τ).loc main_arg1)
def weights : Arr S1024x3200 .f32 := m ((c : Thread nD τ).loc main_arg2)

theorem rows_at (i : S8192x1024.Idx) : (V m c main_arg0 : S8192x1024.Idx → EReal) i = rows m c i :=
  congrFun (V_main_arg0 m c) i

theorem gains_at (i : S1x1024.Idx) : (V m c main_v1 : S1x1024.Idx → EReal) i = gains m c (ix1 (i 1)) := by
  have e : (V m c main_v1 : S1x1024.Idx → EReal) = Idealize.ShloMosaic.shapeCast S1x1024 (gains m c) shapeCasts_S1024_S1x1024 := by
    unfold gains
    rw [← V_main_arg1 m c]; unfold V
    after_reads_simp <;> rfl
  rw [e]
  refine shapeCast_apply _ shapeCasts_S1024_S1x1024 i (ix1 (i 1)) ?_
  have h0 : (i 0).val < 1 := (i 0).isLt
  rw [Shape.rowMajor_val_one, Shape.rowMajor_val_two]
  show (i 1).val = (i 0).val * 1024 + (i 1).val
  omega

theorem weights_at (i : S1024x3200.Idx) : (V m c main_v0 : S1024x3200.Idx → EReal) i = weights m c i := by
  unfold weights
  rw [← V_main_arg2 m c]; unfold V
  after_reads_simp <;> rfl

/-- The four results: the normed rows, and the product's three ranges of columns. -/
def result3 : Arr S8192x1024 .bf16 := InProjRefIdeal.Read.val_main_v14 (rows m c) (gains m c)
def result4 : Arr S8192x1536 .f32 := InProjRefIdeal.Read.val_main_v15 (rows m c) (gains m c) (weights m c)
def result5 : Arr S8192x1536 .bf16 := InProjRefIdeal.Read.val_main_v17 (rows m c) (gains m c) (weights m c)
def result6 : Arr S8192x128 .f32 := InProjRefIdeal.Read.val_main_v18 (rows m c) (gains m c) (weights m c)

/-- Where each grid point's blocks lie. -/
theorem places : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ win0_6.index t (0 : Fin 2) = t.val ∧ win0_6.index t (1 : Fin 2) = 0 :=
  (by decide +kernel : ∀ t : Fin grid0.N, _)

/-- A grid point's blocks. -/
def rowBlock (t : Fin cfg0.N) : Vec Ideal S512x1024 .f32 := iblk m c 0 t
def gainBlock (t : Fin cfg0.N) : Vec Ideal S1x1024 .f32 := iblk m c 1 t
def weightBlock (t : Fin cfg0.N) : Vec Ideal S1024x3200 .bf16 := iblk m c 2 t

theorem blk0 (t : Fin cfg0.N) (p : Fin 512) (r : Fin 8192) (hr : r.val = 512 * t.val + p.val) :
    (fun k => rowBlock m c t (ix2 p k)) = fun k => rows m c (ix2 r k) := by
  funext k
  refine (rows_at m c (((cfg0.win 0).blk t).view.emb (ix2 p k))).trans (congrArg (rows m c) (funext fun a => Fin.ext ?_))
  obtain ⟨⟨e0, e1⟩, -⟩ := places t
  match a with
  | ⟨0, _⟩ => show win0_0.index t (0 : Fin 2) * 512 + 1 * p.val = r.val; omega
  | ⟨1, _⟩ => show win0_0.index t (1 : Fin 2) * 1024 + 1 * k.val = k.val; omega

theorem blk1 (t : Fin cfg0.N) : (fun k => gainBlock m c t (ix2 0 k)) = fun k => gains m c (ix1 k) := by
  funext k
  refine (gains_at m c (((cfg0.win 1).blk t).view.emb (ix2 0 k))).trans (congrArg (fun j => gains m c (ix1 j)) (Fin.ext ?_))
  obtain ⟨-, ⟨-, e1⟩, -⟩ := places t
  show win0_1.index t (1 : Fin 2) * 1024 + 1 * k.val = k.val
  omega

theorem blk2 (t : Fin cfg0.N) : weightBlock m c t = weights m c := by
  funext y
  refine (weights_at m c (((cfg0.win 2).blk t).view.emb y)).trans (congrArg (weights m c) (funext fun a => Fin.ext ?_))
  obtain ⟨-, -, ⟨e0, e1⟩, -⟩ := places t
  match a with
  | ⟨0, _⟩ => show win0_2.index t (0 : Fin 2) * 1024 + 1 * (y 0).val = (y 0).val; omega
  | ⟨1, _⟩ => show win0_2.index t (1 : Fin 2) * 3200 + 1 * (y 1).val = (y 1).val; omega

/-- A block's product with a column of the weights is the reference's, at the row's and the column's places. -/
theorem product_at (t : Fin cfg0.N) (p : Fin 512) (i : InProjRefIdeal.S8192x3200.Idx) (hr : (i 0).val = 512 * t.val + p.val) (w : Fin 1024 → EReal)
    (hw : ∀ k, w k = weightBlock m c t (ix2 k (i 1))) : product (fun k => gainBlock m c t (ix2 0 k)) (fun k => rowBlock m c t (ix2 p k)) w
      = InProjRefIdeal.Read.val_main_v13 (rows m c) (gains m c) (weights m c) i := by
  rw [ref_product, blk0 m c t p (i 0) hr, blk1, ← blk2 m c t]
  exact congrArg _ (funext hw)

theorem flushed3 (t : Fin cfg0.N) : (dats m 0 c).flushed 3 t = ((cfg0.win 3).blk t).view.read (Elt Ideal) (result3 m c) := by
  rw [Value.flushed3]
  funext y
  obtain ⟨-, -, -, ⟨e0, e1⟩, -⟩ := places t
  show out0_3 (rowBlock m c t) (gainBlock m c t) (weightBlock m c t) y = result3 m c (((cfg0.win 3).blk t).view.emb y)
  unfold out0_3
  rw [View.canon_unit_zero hz2]
  simp only [View.ld_unit_zero (S := S512x1024) hz2, View.ld_unit_zero (S := S1x1024) hz2]
  rw [pay_normed, blk1]
  refine Eq.trans ?_ (ref_normed (rows m c) (gains m c) (((cfg0.win 3).blk t).view.emb y)).symm
  rw [blk0 m c t (y 0) (((cfg0.win 3).blk t).view.emb y 0) (by
    show win0_3.index t (0 : Fin 2) * 512 + 1 * (y 0).val = _; omega)]
  refine congrArg _ (Fin.ext ?_)
  show (y 1).val = win0_3.index t (1 : Fin 2) * 1024 + 1 * (y 1).val
  omega

theorem flushed4 (t : Fin cfg0.N) : (dats m 0 c).flushed 4 t = ((cfg0.win 4).blk t).view.read (Elt Ideal) (result4 m c) := by
  rw [Value.flushed4]
  funext y
  obtain ⟨-, -, -, -, ⟨e0, e1⟩, -⟩ := places t
  show out0_4 (rowBlock m c t) (gainBlock m c t) (weightBlock m c t) y = result4 m c (((cfg0.win 4).blk t).view.emb y)
  unfold out0_4 result4
  rw [View.canon_unit_zero hz2, InProjRefIdeal.Read.val_main_v15_apply]
  simp only [View.ld_unit_zero (S := S512x1024) hz2, View.ld_unit_zero (S := S1x1024) hz2]
  rw [pay_first]
  refine product_at m c t (y 0) _ ?_ _ fun k => congrArg (weightBlock m c t) (funext fun a => Fin.ext ?_)
  · show win0_4.index t (0 : Fin 2) * 512 + 1 * (y 0).val = _
    omega
  · match a with
    | ⟨0, _⟩ => show 0 + 1 * k.val = k.val; omega
    | ⟨1, _⟩ => show 0 + 1 * (y 1).val = win0_4.index t (1 : Fin 2) * 1536 + 1 * (y 1).val; omega

theorem flushed5 (t : Fin cfg0.N) : (dats m 0 c).flushed 5 t = ((cfg0.win 5).blk t).view.read (Elt Ideal) (result5 m c) := by
  rw [Value.flushed5]
  funext y
  obtain ⟨-, -, -, -, -, ⟨e0, e1⟩, -⟩ := places t
  show out0_5 (rowBlock m c t) (gainBlock m c t) (weightBlock m c t) y = result5 m c (((cfg0.win 5).blk t).view.emb y)
  unfold out0_5 result5
  rw [View.canon_unit_zero hz2, InProjRefIdeal.Read.val_main_v17_apply, InProjRefIdeal.Read.val_main_v16_apply]
  simp only [View.ld_unit_zero (S := S512x1024) hz2, View.ld_unit_zero (S := S1x1024) hz2]
  rw [pay_second]
  refine product_at m c t (y 0) _ ?_ _ fun k => congrArg (weightBlock m c t) (funext fun a => Fin.ext ?_)
  · show win0_5.index t (0 : Fin 2) * 512 + 1 * (y 0).val = _
    omega
  · match a with
    | ⟨0, _⟩ => show 0 + 1 * k.val = k.val; omega
    | ⟨1, _⟩ => show 1536 + 1 * (y 1).val = 1536 + (win0_5.index t (1 : Fin 2) * 1536 + 1 * (y 1).val); omega

theorem flushed6 (t : Fin cfg0.N) : (dats m 0 c).flushed 6 t = ((cfg0.win 6).blk t).view.read (Elt Ideal) (result6 m c) := by
  rw [Value.flushed6]
  funext y
  obtain ⟨-, -, -, -, -, -, e0, e1⟩ := places t
  show out0_6 (rowBlock m c t) (gainBlock m c t) (weightBlock m c t) y = result6 m c (((cfg0.win 6).blk t).view.emb y)
  unfold out0_6 result6
  rw [View.canon_unit_zero hz2, InProjRefIdeal.Read.val_main_v18_apply]
  simp only [View.ld_unit_zero (S := S512x1024) hz2, View.ld_unit_zero (S := S1x1024) hz2]
  rw [pay_third]
  refine product_at m c t (y 0) _ ?_ _ fun k => congrArg (weightBlock m c t) (funext fun a => Fin.ext ?_)
  · show win0_6.index t (0 : Fin 2) * 512 + 1 * (y 0).val = _
    omega
  · match a with
    | ⟨0, _⟩ => show 0 + 1 * k.val = k.val; omega
    | ⟨1, _⟩ => show 3072 + 1 * (y 1).val = 3072 + (win0_6.index t (1 : Fin 2) * 128 + 1 * (y 1).val); omega

/-- The grid point whose blocks hold a row. -/
theorem point (r : Fin 8192) : ∃ t : Fin cfg0.N, t.val = r.val / 512 :=
  ⟨⟨r.val / 512, by have hN : cfg0.N = 16 := N_0; omega⟩, rfl⟩

theorem covered3 (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  obtain ⟨t, ht⟩ := point (i 0)
  obtain ⟨-, -, -, ⟨e0, e1⟩, -⟩ := places t
  refine ⟨t, flush0_3 t, ?_⟩
  show i ∈ ((View.whole main_v2_0).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

theorem covered4 (i : S8192x1536.Idx) : ∃ t : Fin cfg0.N, (cfg0.win 4).flush t = true ∧ i ∈ ((cfg0.win 4).blk t).view.set := by
  have h0 : (i 0).val < 8192 := (i 0).isLt
  have h1 : (i 1).val < 1536 := (i 1).isLt
  obtain ⟨t, ht⟩ := point (i 0)
  obtain ⟨-, -, -, -, ⟨e0, e1⟩, -⟩ := places t
  refine ⟨t, flush0_4 t, ?_⟩
  show i ∈ ((View.whole main_v2_1).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1536 ≤ (i 1).val ∧ (i 1).val < win0_4.index t (1 : Fin 2) * 1536 + 1536; omega

theorem covered5 (i : S8192x1536.Idx) : ∃ t : Fin cfg0.N, (cfg0.win 5).flush t = true ∧ i ∈ ((cfg0.win 5).blk t).view.set := by
  have h0 : (i 0).val < 8192 := (i 0).isLt
  have h1 : (i 1).val < 1536 := (i 1).isLt
  obtain ⟨t, ht⟩ := point (i 0)
  obtain ⟨-, -, -, -, -, ⟨e0, e1⟩, -⟩ := places t
  refine ⟨t, flush0_5 t, ?_⟩
  show i ∈ ((View.whole main_v2_2).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1536 ≤ (i 1).val ∧ (i 1).val < win0_5.index t (1 : Fin 2) * 1536 + 1536; omega

theorem covered6 (i : S8192x128.Idx) : ∃ t : Fin cfg0.N, (cfg0.win 6).flush t = true ∧ i ∈ ((cfg0.win 6).blk t).view.set := by
  have h0 : (i 0).val < 8192 := (i 0).isLt
  have h1 : (i 1).val < 128 := (i 1).isLt
  obtain ⟨t, ht⟩ := point (i 0)
  obtain ⟨-, -, -, -, -, -, e0, e1⟩ := places t
  refine ⟨t, flush0_6 t, ?_⟩
  show i ∈ ((View.whole main_v2_3).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 128 ≤ (i 1).val ∧ (i 1).val < win0_6.index t (1 : Fin 2) * 128 + 128; omega

/-- The arrays the call leaves are the reference's. -/
theorem array3 : (dats m 0 c).arrAt 3 cfg0.N = result3 m c := (dats m 0 c).arrAt_eq_of_cover 3 _ (fun t _ => flushed3 m c t) covered3
theorem array4 : (dats m 0 c).arrAt 4 cfg0.N = result4 m c := (dats m 0 c).arrAt_eq_of_cover 4 _ (fun t _ => flushed4 m c t) covered4
theorem array5 : (dats m 0 c).arrAt 5 cfg0.N = result5 m c := (dats m 0 c).arrAt_eq_of_cover 5 _ (fun t _ => flushed5 m c t) covered5
theorem array6 : (dats m 0 c).arrAt 6 cfg0.N = result6 m c := (dats m 0 c).arrAt_eq_of_cover 6 _ (fun t _ => flushed6 m c t) covered6

theorem reference_frame : quiescent_InProjRefIdeal (hInProjRefIdeal := InProjRefIdeal.Gen.facts) := fun m g _ =>
  (θ_run _ _ _).mono
    (fun r h => ⟨fun c => (h c).2.2.2.2, sem_eq_zero_of_no_sems (by decide) r.2⟩)
    (InProjRefIdeal.Value.run (F := Ideal) m g)

open InProjRefIdeal.Read in
theorem result_congr {x0 y0 : Arr S8192x1024 .f32} {x1 y1 : Arr S1024 .f32}
    {x2 y2 : Arr S1024x3200 .f32} (e0 : x0 = y0) (e1 : x1 = y1) (e2 : x2 = y2) :
    val_main_v14 x0 x1 = val_main_v14 y0 y1 ∧ val_main_v15 x0 x1 x2 = val_main_v15 y0 y1 y2
    ∧ val_main_v17 x0 x1 x2 = val_main_v17 y0 y1 y2 ∧ val_main_v18 x0 x1 x2 = val_main_v18 y0 y1 y2 := by
  subst e0 e1 e2
  exact ⟨rfl, rfl, rfl, rfl⟩

/-- At the exact values the call's results are the reference's. -/
theorem values : algebraic_InProjIdeal_InProjRefIdeal (hInProjIdeal := InProjIdeal.Gen.facts)
    (hInProjRefIdeal := InProjRefIdeal.Gen.facts) := by
  intro m g m' g' _ hagree
  refine ⟨fun c => result3 m c, fun c => result4 m c, fun c => result5 m c, fun c => result6 m c, ?_, ?_⟩
  · exact (θ_run _ _ _).mono (fun r h c => ⟨(h c).1.trans (array3 m c), (h c).2.1.trans (array4 m c),
      (h c).2.2.1.trans (array5 m c), (h c).2.2.2.1.trans (array6 m c), (h c).2.2.2.2⟩) (InProjIdeal.Value.run_blocks (F := Ideal) m g)
  · refine (θ_run _ _ _).mono (fun r h c => ?_) (InProjRefIdeal.Value.run (F := Ideal) m' g')
    obtain ⟨e0, e1, e2⟩ := hagree c
    have e := result_congr e0 e1 e2
    exact ⟨((h c).1.trans (InProjRefIdeal.Read.val_main_v14_eq _ _)).trans e.1,
      ((h c).2.1.trans (InProjRefIdeal.Read.val_main_v15_eq _ _ _)).trans e.2.1,
      ((h c).2.2.1.trans (InProjRefIdeal.Read.val_main_v17_eq _ _ _)).trans e.2.2.1,
      ((h c).2.2.2.1.trans (InProjRefIdeal.Read.val_main_v18_eq _ _ _)).trans e.2.2.2, (h c).2.2.2.2⟩

end Cert.InProjIdeal.Product

end
-- ==== Proof.GradUp.lean ====
/-
  The gradient of the MLP's first weights: the rows' outer products, summed a block of rows at a time, into the first half
  of each shard's rows, which the lines after the kernel lay side by side.
-/
module

public import proofs.«01_k».proof.Proof.Calls
public import proofs.«01_k».proof.Proof.RowSums
public import proofs.«01_k».proof.Proof.Gen.GradUp.Frame
public import proofs.«01_k».proof.Proof.Gen.GradUpIdeal.Frame
public import proofs.«01_k».proof.Proof.Gen.GradUpRefIdeal.Read
public import Idealize.ShloMosaic.Lib.Pipeline.Value

@[expose] public section

noncomputable section

namespace Cert.GradUpIdeal.Grad

open Idealize.ShloMosaic Idealize.ShloMosaic.TcCoe Idealize.SL.Sem
open Cert.GradUpIdeal Cert.GradUpIdeal.Gen
open scoped BigOperators

theorem pay_zero (j : S1x1024x1024.Idx) : k0_pay1 (F := Ideal) j = 0 := by
  unfold k0_pay1
  simp only [pointwise]

theorem pay_add (a : Vec Ideal S1x1024x1024 .f32) (x y : Vec Ideal S2048x1024 .bf16) (j : S1x1024x1024.Idx) :
    k0_pay2 a x y j = a j + ∑ k : Fin 2048, x (ix2 k (j 1)) * y (ix2 k (j 2)) := by
  unfold k0_pay2
  simp only [pointwise, shapeCast_self]
  rw [zero_add]

theorem hz3 : (![0, 0, 0] : Fin 3 → Nat) = fun _ => 0 := funext fun a => by fin_cases a <;> rfl
/-- The first of four points in turn adds its products to zeros. -/
theorem out_first (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1x1024x1024 .f32) (harg5 : arg5.IsWhole)
    (hc0 : cond0_0 i) (x y : Vec Ideal S2048x1024 .bf16) :
    out0_A_2 c i arg3 harg3 arg4 harg4 arg5 harg5 hc0 x y = k0_pay2 (k0_pay1 (F := Ideal)) x y := by
  unfold out0_A_2
  rw [View.read_writes_eq_canon _ _ _ (by apply cover0_A_2)]
  unfold kernelRun0_A
  dsimp only
  try sl_unfold_words
  rw [View.canon_cons_unit_zero (S := S1x1024x1024) hz3, View.readCov_unit_zero (S := S1x1024x1024) _ hz3]
  simp only [View.readAt_eq_ld, harg3.read_unread, harg4.read_unread, View.ld_unit_zero (S := S2048x1024) hz2]

/-- A later point adds its products to what the point before left. -/
theorem out_later (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1x1024x1024 .f32) (harg5 : arg5.IsWhole)
    (hc0 : ¬cond0_0 i) (x y : Vec Ideal S2048x1024 .bf16) (a : Vec Ideal S1x1024x1024 .f32) :
    out0_B_2 c i arg3 harg3 arg4 harg4 arg5 harg5 hc0 x y a = k0_pay2 a x y := by
  unfold out0_B_2
  rw [View.read_writes_eq_canon _ _ _ (by apply cover0_B_2)]
  unfold kernelRun0_B
  dsimp only
  try sl_unfold_words
  rw [View.canon_unit_zero hz3]
  simp only [View.readAt_eq_ld, harg3.read_unread, harg4.read_unread, harg5.read_unread, View.ld_unit_zero (S := S2048x1024) hz2,
    View.ld_unit_zero (S := S1x1024x1024) hz3]

open GradUpRefIdeal.Read in
/-- The reference's gradient is the sums of products. -/
theorem ref_sums (x0 : Arr S8192x1024 .f32) (x1 : Arr S8192x4096 .f32)
    (i : S1024x4096.Idx) : val_main_v3 x0 x1 i = ∑ k : Fin 8192, x0 (ix2 k (i 0)) * x1 (ix2 k (i 1)) := by
  rw [val_main_v3_apply, val_main_v2_apply]
  refine Finset.sum_congr rfl fun k _ => (mul_comm _ _).trans (congrArg₂ (· * ·) (congrArg x0 ?_) (congrArg x1 ?_))
  · exact funext fun b => by match b with | ⟨0, _⟩ => rfl | ⟨1, _⟩ => rfl
  · exact funext fun b => by match b with | ⟨0, _⟩ => rfl | ⟨1, _⟩ => rfl

/-- The first halves of the shards' rows, side by side. -/
def sideBySide (x : Arr S4x2048x1024 .f32) : Arr S1024x4096 .f32 :=
  shapeCast S1024x4096 (transpose S1024x4x1024 [1, 0, 2] (extractStridedSlice S4x1024x1024 ![0, 0, 0] x
    slices_S4x2048x1024_S4x1024x1024_0_0_0) transposes_S4x1024x1024_S1024x4x1024_1_0_2) shapeCasts_S1024x4x1024_S1024x4096

theorem sideBySide_at (x : Arr S4x2048x1024 .f32) (i : S1024x4096.Idx) (a : Fin 4) (p : Fin 2048)
    (q : Fin 1024) (hp : p.val = (i 0).val) (hq : (i 1).val = 1024 * a.val + q.val) : sideBySide x i = x (ix3 a p q) := by
  have b0 : (i 0).val < 1024 := (i 0).isLt
  unfold sideBySide
  refine (shapeCast_apply _ shapeCasts_S1024x4x1024_S1024x4096 i (ix3 (⟨(i 0).val, b0⟩ : Fin 1024) a q) ?_).trans ?_
  · rw [Shape.rowMajor_val_two, Shape.rowMajor_val_three]
    show ((i 0).val * 4 + a.val) * 1024 + q.val = (i 0).val * 4096 + (i 1).val
    omega
  · refine (transpose_apply [1, 0, 2] _ transposes_S4x1024x1024_S1024x4x1024_1_0_2 _ (ix3 a (⟨(i 0).val, b0⟩ : Fin 1024) q) fun b => ?_).trans ?_
    · match b with
      | ⟨0, _⟩ => rfl
      | ⟨1, _⟩ => rfl
      | ⟨2, _⟩ => rfl
    · refine extractStridedSlice_apply ![0, 0, 0] x slices_S4x2048x1024_S4x1024x1024_0_0_0 _ (ix3 a p q) fun b => ?_
      match b with
      | ⟨0, _⟩ => show a.val = 0 + a.val; omega
      | ⟨1, _⟩ => show p.val = 0 + (i 0).val; omega
      | ⟨2, _⟩ => show q.val = 0 + q.val; omega

variable (m : (ℓ : Loc nD τ sig) → Buf (Elt Ideal) ℓ) (c : Dev nD)

/-- The rows and the cotangents, as launched. -/
def rows : Arr S8192x1024 .f32 := m ((c : Thread nD τ).loc main_arg0)
def cots : Arr S8192x4096 .f32 := m ((c : Thread nD τ).loc main_arg1)

theorem rows_at (i : S8192x1024.Idx) : (V m c main_v0 : S8192x1024.Idx → EReal) i = rows m c i := by
  unfold rows
  rw [← V_main_arg0 m c]; unfold V
  after_reads_simp <;> rfl

theorem cots_at (i : S8192x4096.Idx) : (V m c main_v1 : S8192x4096.Idx → EReal) i = cots m c i := by
  unfold cots
  rw [← V_main_arg1 m c]; unfold V
  after_reads_simp <;> rfl

/-- The result array. -/
def result : Arr S1024x4096 .f32 :=
  GradUpRefIdeal.Read.val_main_v3 (rows m c) (cots m c)

/-- Where each grid point's blocks lie: four points in turn take four blocks of rows. -/
theorem places : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4
    ∧ win0_2.index t (0 : Fin 3) = t.val / 4 ∧ win0_2.index t (1 : Fin 3) = 0 ∧ win0_2.index t (2 : Fin 3) = 0 :=
  (by decide +kernel : ∀ t : Fin grid0.N, _)

/-- A grid point's block of rows, and its block of cotangents. -/
def rowBlock (t : Fin cfg0.N) : Vec Ideal S2048x1024 .bf16 := iblk m c 0 t
def cotBlock (t : Fin cfg0.N) : Vec Ideal S2048x1024 .bf16 := iblk m c 1 t

/-- The sum over a block's rows of the products of two columns. -/
def columns (x y : S2048x1024.Idx → EReal) (j : S1x1024x1024.Idx) : EReal := ∑ k : Fin 2048, x (ix2 k (j 1)) * y (ix2 k (j 2))

/-- The products a grid point adds. -/
def addend (n : ℕ) (j : S1x1024x1024.Idx) : EReal :=
  if h : n < cfg0.N then columns (rowBlock m c ⟨n, h⟩) (cotBlock m c ⟨n, h⟩) j else 0

/-- What the first of four points leaves, and what a later one makes of it. -/
def start (n : ℕ) (h : n < cfg0.N) : S1x1024x1024.Idx → EReal := k0_pay2 (k0_pay1 (F := Ideal)) (rowBlock m c ⟨n, h⟩) (cotBlock m c ⟨n, h⟩)
def onward (n : ℕ) (h : n < cfg0.N) (a : S1x1024x1024.Idx → EReal) : S1x1024x1024.Idx → EReal :=
  k0_pay2 a (rowBlock m c ⟨n, h⟩) (cotBlock m c ⟨n, h⟩)

theorem fold (b : ℕ) (h : b + 3 < cfg0.N) (j : S1x1024x1024.Idx) :
    Pipeline.accAt (start m c) (onward m c) b 3 h j = ∑ s ∈ Finset.range 4, addend m c (b + s) j := by
  refine (Pipeline.accAt_add_apply (start m c) (onward m c) (fun _ => (0 : EReal)) (addend m c) b 3 ?_ ?_ 3 le_rfl h j).trans (zero_add _)
  · intro hb i
    unfold start addend
    rw [dif_pos hb]
    exact (pay_add _ _ _ i).trans (congrArg (· + _) (pay_zero i))
  · intro n hn acc i _ _
    unfold onward addend
    rw [dif_pos hn]
    exact pay_add _ _ _ i

/-- The last of four points leaves their sum. -/
theorem left (t : Fin cfg0.N) (h3 : t.val % 4 = 3) (h : 4 * (t.val / 4) + 3 < cfg0.N) :
    outsAt0 m c t.val t.isLt = Pipeline.accAt (start m c) (onward m c) (4 * (t.val / 4)) 3 h := by
  have e := Pipeline.eq_accAt_of_mod (fun n hn => (outsAt0 m c n hn : S1x1024x1024.Idx → EReal)) 4 (start m c) (onward m c)
    (fun n hn h0 => (outsAt0_A m c ⟨n, hn⟩ h0).trans (out_first c _ _ _ _ _ _ _ _ _ _))
    (fun n hn h0 => (outsAt0_B m c ⟨n + 1, hn⟩ h0).trans (out_later c _ _ _ _ _ _ _ _ _ _ _))
    (by decide) t.val t.isLt (by rw [h3]; exact h)
  refine e.trans ?_
  congr 1

theorem blk0 (t : Fin cfg0.N) (k : Fin 2048) (a : Fin 1024) (r : Fin 8192) (hr : r.val = 2048 * (t.val % 4) + k.val)
    (d : Fin 1024) (hd : d.val = a.val) : rowBlock m c t (ix2 k a) = rows m c (ix2 r d) := by
  refine (rows_at m c (((cfg0.win 0).blk t).view.emb (ix2 k a))).trans (congrArg (rows m c) (funext fun a' => Fin.ext ?_))
  obtain ⟨e0, e1, -⟩ := places t
  match a' with
  | ⟨0, _⟩ => show win0_0.index t (0 : Fin 2) * 2048 + 1 * k.val = r.val; omega
  | ⟨1, _⟩ => show win0_0.index t (1 : Fin 2) * 1024 + 1 * a.val = d.val; omega

theorem blk1 (t : Fin cfg0.N) (k : Fin 2048) (b : Fin 1024) (r : Fin 8192) (hr : r.val = 2048 * (t.val % 4) + k.val)
    (d : Fin 4096) (hd : d.val = 1024 * (t.val / 4) + b.val) : cotBlock m c t (ix2 k b) = cots m c (ix2 r d) := by
  refine (cots_at m c (((cfg0.win 1).blk t).view.emb (ix2 k b))).trans (congrArg (cots m c) (funext fun a' => Fin.ext ?_))
  obtain ⟨-, -, e0, e1, -⟩ := places t
  match a' with
  | ⟨0, _⟩ => show win0_1.index t (0 : Fin 2) * 2048 + 1 * k.val = r.val; omega
  | ⟨1, _⟩ => show win0_1.index t (1 : Fin 2) * 1024 + 1 * b.val = d.val; omega

theorem disjoint : ∀ t t' : Fin cfg0.N, (cfg0.win 2).flush t = true → (cfg0.win 2).flush t' = true → t ≠ t' →
    Disjoint ((cfg0.win 2).blk t).view.set ((cfg0.win 2).blk t').view.set := by
  intro t t' h h' hne
  refine (cfg0.win 2).disjoint_blk fun e => hne (Fin.ext ?_)
  have e' : win0_2.index t (0 : Fin 3) = win0_2.index t' (0 : Fin 3) := congrFun e _
  have h1 := (flush0_2 t).mp h
  have h2 := (flush0_2 t').mp h'
  obtain ⟨-, -, -, -, e1, -⟩ := places t
  obtain ⟨-, -, -, -, e2, -⟩ := places t'
  omega

theorem flushed_eq (t : Fin cfg0.N) : (dats m 0 c).flushed 2 t = (cfg0.win 2).cut (grid0.coords t) (outsAt0 m c t.val t.isLt) := by
  show (cfg0.win 2).cut (grid0.coords t) ((dats m 0 c).after 2 t) = _
  rw [after0_2]

/-- A row of the first half of a shard is the four points' sum. -/
theorem array_sums (i : S1024x4096.Idx) (a : Fin 4) (p : Fin 2048) (q : Fin 1024) (hp : p.val = (i 0).val)
    (hq : (i 1).val = 1024 * a.val + q.val) : (dats m 0 c).arrAt 2 cfg0.N (ix3 a p q) = result m c i := by
  have hN : cfg0.N = 16 := N_0
  have b0 : (i 0).val < 1024 := (i 0).isLt
  have ba : a.val < 4 := a.isLt
  let t : Fin cfg0.N := ⟨4 * a.val + 3, by omega⟩
  have ht : t.val = 4 * a.val + 3 := rfl
  let y : S1x1024x1024.Idx := ix3 (0 : Fin 1) (⟨(i 0).val, b0⟩ : Fin 1024) q
  have hi : ((cfg0.win 2).blk t).view.emb y = (ix3 a p q : S4x2048x1024.Idx) := by
    obtain ⟨-, -, -, -, e0, e1, e2⟩ := places t
    refine funext fun b => Fin.ext ?_
    match b with
    | ⟨0, _⟩ => show win0_2.index t (0 : Fin 3) * 1 + 1 * 0 = a.val; omega
    | ⟨1, _⟩ => show win0_2.index t (1 : Fin 3) * 1024 + 1 * (i 0).val = p.val; omega
    | ⟨2, _⟩ => show win0_2.index t (2 : Fin 3) * 1024 + 1 * q.val = q.val; omega
  have hflush : (cfg0.win 2).flush t = true := (flush0_2 t).mpr (by omega)
  have hleft := (dats m 0 c).arrAt_emb_eq_flushed 2 disjoint t hflush y
  rw [hi] at hleft
  refine hleft.trans ?_
  show (dats m 0 c).flushed 2 t y = _
  have h4 : 4 * (t.val / 4) + 3 < cfg0.N := by omega
  rw [flushed_eq]
  refine (congrFun (left m c t (by omega) h4) y).trans ((fold m c _ h4 y).trans ?_)
  unfold result
  rw [ref_sums]
  refine RowSums.four_blocks (fun k => rows m c (ix2 k _) * cots m c (ix2 k _)) _ fun s hs => ?_
  have hn : 4 * (t.val / 4) + s < cfg0.N := by omega
  unfold addend
  rw [dif_pos hn]
  refine Finset.sum_congr rfl fun k _ => ?_
  have hr : 2048 * s + k.val = 2048 * ((4 * (t.val / 4) + s) % 4) + k.val := by omega
  refine congrArg₂ (· * ·) (blk0 m c ⟨_, hn⟩ k _ ⟨2048 * s + k.val, by have := k.isLt; omega⟩ hr _ rfl)
    (blk1 m c ⟨_, hn⟩ k _ ⟨2048 * s + k.val, by have := k.isLt; omega⟩ hr _ ?_)
  show (i 1).val = 1024 * ((4 * (t.val / 4) + s) / 4) + q.val
  omega

/-- The lines after the kernel lay the array's first halves side by side. -/
theorem lines_after : Pipeline.afterTail₀ cfgs (dats m) 0 (V0 m) [hostOps1] c main_v5 = sideBySide ((dats m 0 c).arrAt 2 cfg0.N) := by
  unfold Pipeline.afterTail₀
  have e := Pipeline.withArrays_arr spec0 launch0.win.arr_inj c (V0 m c) (fun w => (dats m 0 c).arrAt w cfg0.N) 2
  generalize (dats m 0 c).arrAt 2 cfg0.N = x at e ⊢
  rw [← e]
  unfold sideBySide
  after_reads_simp <;> rfl

theorem array : Pipeline.afterTail₀ cfgs (dats m) 0 (V0 m) [hostOps1] c main_v5 = result m c := by
  refine (lines_after m c).trans (funext fun i => ?_)
  have b0 : (i 0).val < 1024 := (i 0).isLt
  have b1 : (i 1).val < 4096 := (i 1).isLt
  have hq : (i 1).val = 1024 * ((i 1).val / 1024) + (i 1).val % 1024 := by omega
  exact (sideBySide_at _ i ⟨(i 1).val / 1024, by omega⟩ ⟨(i 0).val, by omega⟩ ⟨(i 1).val % 1024, by omega⟩ rfl hq).trans
    (array_sums m c i _ _ _ rfl hq)

theorem reference_frame : quiescent_GradUpRefIdeal (hGradUpRefIdeal := GradUpRefIdeal.Gen.facts) := fun m g _ =>
  (θ_run _ _ _).mono
    (fun r h => ⟨fun c => (h c).2, sem_eq_zero_of_no_sems (by decide) r.2⟩)
    (GradUpRefIdeal.Value.run (F := Ideal) m g)

open GradUpRefIdeal.Read in
theorem result_congr {x0 y0 : Arr S8192x1024 .f32} {x1 y1 : Arr S8192x4096 .f32}
    (e0 : x0 = y0) (e1 : x1 = y1) : val_main_v3 x0 x1 = val_main_v3 y0 y1 := by
  subst e0 e1
  rfl

/-- At the exact values the call's result is the reference's. -/
theorem values : algebraic_GradUpIdeal_GradUpRefIdeal (hGradUpIdeal := GradUpIdeal.Gen.facts)
    (hGradUpRefIdeal := GradUpRefIdeal.Gen.facts) := by
  intro m g m' g' _ hagree
  refine ⟨fun c => result m c, ?_, ?_⟩
  · exact (θ_run _ _ _).mono (fun r h c =>
      ⟨((h c).2 main_v5 (Pipeline.mem_restRefs_of main_v5 (by decide) (by decide))).trans (array m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
      (run_main (F := Ideal) m g)
  · refine (θ_run _ _ _).mono (fun r h c => ?_) (GradUpRefIdeal.Value.run (F := Ideal) m' g')
    obtain ⟨e0, e1⟩ := hagree c
    exact ⟨((h c).1.trans (GradUpRefIdeal.Read.val_main_v3_eq _ _)).trans (result_congr e0 e1), (h c).2⟩

end Cert.GradUpIdeal.Grad

end
-- ==== Proof.Softmax.lean ====
/-
  The weights that a row of 256 scores gives, and what four heads of 256 columns attend to with them.
-/
module

public import Idealize.ShloMosaic.PureOps.Ideal.Laws
public import Mathlib.Algebra.BigOperators.Fin

@[expose] public section

noncomputable section

namespace Cert.Softmax

open Idealize.ShloMosaic
open scoped BigOperators

theorem sixteenth : Ideal.ofBits .f32 0x3D800000#32 = ((1 / 16 : ℝ) : EReal) := by
  have h : (1 / 16 : ℝ) = (8388608 : ℝ) * (2 ^ 27)⁻¹ := by norm_num
  rw [h]
  simp [Ideal.ofBits, Ideal.ieee]

theorem sixteen : Ideal.ofBits .f32 0x41800000#32 = ((16 : ℝ) : EReal) := by
  have h : (16 : ℝ) = (8388608 : ℝ) * (2 ^ 19)⁻¹ := by norm_num
  rw [h]
  simp [Ideal.ofBits, Ideal.ieee]

theorem lowest : Ideal.ofBits .f32 0xFF800000#32 = ⊥ := by
  simp [Ideal.ofBits, Ideal.ieee]

/-- Division by sixteen is the product with a sixteenth. -/
theorem by_sixteen (x : EReal) : Ideal.div x (Ideal.ofBits .f32 0x41800000#32) = x * Ideal.ofBits .f32 0x3D800000#32 := by
  rw [sixteen, sixteenth]
  unfold Ideal.div
  rw [if_neg (by norm_num), ← EReal.coe_inv]
  norm_num

/-- A row's largest score, a score of a query and a key, and a row's weights. -/
def top (s : Fin 256 → EReal) : EReal := Finset.univ.fold max (Ideal.ofBits .f32 0xFF800000#32) s
def score (q k : Fin 256 → EReal) : EReal := (∑ d, q d * k d) * Ideal.ofBits .f32 0x3D800000#32
def weight (s : Fin 256 → EReal) (j : Fin 256) : EReal := Ideal.div (Ideal.exp (s j - top s)) (∑ l, Ideal.exp (s l - top s))

theorem top_again (s : Fin 256 → EReal) : max (Ideal.ofBits .f32 0xFF800000#32) (top s) = top s := by
  rw [lowest]
  exact max_eq_right bot_le

/-- The column at place `d` of the head that holds column `j`. -/
def lane (j : Fin 1024) (d : Fin 256) : Fin 1024 := ⟨j.val / 256 * 256 + d.val, by omega⟩

/-- The weights that a row of queries gives the keys of the head that holds column `j`. -/
def weights (q : Fin 1024 → EReal) (k : Fin 256 → Fin 1024 → EReal) (j : Fin 1024) : Fin 256 → EReal :=
  weight fun l => score (fun d => q (lane j d)) (fun d => k l (lane j d))

/-- What a row of queries attends to, at a column. -/
def attend (q : Fin 1024 → EReal) (k v : Fin 256 → Fin 1024 → EReal) (j : Fin 1024) : EReal := ∑ l, weights q k j l * v l j

theorem attend_congr {q q' : Fin 1024 → EReal} {k k' v v' : Fin 256 → Fin 1024 → EReal} (hq : q = q') (hk : k = k') (hv : v = v') (j : Fin 1024) :
    attend q k v j = attend q' k' v' j := by
  subst hq hk hv
  rfl

end Cert.Softmax

end
-- ==== Proof.OutXattn.lean ====
/-
  The mixer's output product, the norm before the cross attention, the cross attention with its output product, and the norm after it.
-/
module

public import proofs.«01_k».proof.Proof.Calls
public import proofs.«01_k».proof.Proof.Norm
public import proofs.«01_k».proof.Proof.Softmax
public import proofs.«01_k».proof.Proof.Gen.OutXattn.Frame
public import proofs.«01_k».proof.Proof.Gen.OutXattnIdeal.Value
public import proofs.«01_k».proof.Proof.Gen.OutXattnRefIdeal.Read

@[expose] public section

noncomputable section

namespace Cert.OutXattnIdeal.Layer

open Idealize.ShloMosaic Idealize.ShloMosaic.TcCoe Idealize.SL.Sem
open Cert.OutXattnIdeal Cert.OutXattnIdeal.Gen Cert.Norm Cert.Softmax
open scoped BigOperators

/-- A normed row's entry. -/
def normed (g x : Fin 1024 → EReal) (j : Fin 1024) : EReal := x j * Ideal.rsqrt (meanSq x) * g j

theorem entry_eq {α : Type} {a b : ℕ} (x : (⟨2, ![a, b]⟩ : Shape).Idx → α) (j : (⟨2, ![a, b]⟩ : Shape).Idx) : x j = x (ix2 (j 0) (j 1)) :=
  congrArg x (funext fun a => by match a with | ⟨0, _⟩ => rfl | ⟨1, _⟩ => rfl)

section Payloads

variable (v0 : Vec Ideal S512x1024 .f32) (v1 v6 : Vec Ideal S512x512 .bf16) (v3 v8 : Vec Ideal S512x1024 .bf16)
  (v14 : Vec Ideal S1x1024 .f32) (v30 : Vec Ideal S1024x1024 .bf16)

theorem pay_mixed (j : S512x1024.Idx) : k0_pay4 v0 v1 v3 v6 v8 j
    = v0 j + (∑ k, v1 (ix2 (j 0) k) * v3 (ix2 k (j 1)) + ∑ k, v6 (ix2 (j 0) k) * v8 (ix2 k (j 1))) := by
  unfold k0_pay4
  simp only [pointwise, shapeCast_self]
  rw [zero_add, zero_add]

theorem pay_normed (j : S512x1024.Idx) : k0_pay5 v0 v1 v3 v6 v8 v14 j
    = normed (fun k => v14 (ix2 0 k)) (fun k => k0_pay4 v0 v1 v3 v6 v8 (ix2 (j 0) k)) (j 1) := by
  unfold k0_pay5 normed meanSq
  generalize k0_pay4 v0 v1 v3 v6 v8 = w
  simp only [pointwise, shapeCast_self]
  rw [entry_eq w j]
  rfl

theorem pay_query (j : S512x1024.Idx) : k0_pay6 v0 v1 v3 v6 v8 v14 v30 j
    = ∑ k, k0_pay5 v0 v1 v3 v6 v8 v14 (ix2 (j 0) k) * v30 (ix2 k (j 1)) := by
  unfold k0_pay6
  generalize k0_pay5 v0 v1 v3 v6 v8 v14 = w
  simp only [pointwise, shapeCast_self]
  rw [zero_add]

theorem pay_second (w : FVec Ideal S512x1024 .f32) (o : Vec Ideal S512x1024 .bf16) (b : Vec Ideal S1024x1024 .bf16) (j : S512x1024.Idx) :
    k0_pay2 w o b j = w j + ∑ k, o (ix2 (j 0) k) * b (ix2 k (j 1)) := by
  unfold k0_pay2
  simp only [pointwise, shapeCast_self]
  rw [zero_add]

theorem pay_last (w : FVec Ideal S512x1024 .f32) (o : Vec Ideal S512x1024 .bf16) (b : Vec Ideal S1024x1024 .bf16) (j : S512x1024.Idx) :
    k0_pay3 w o b v14 j = normed (fun k => v14 (ix2 0 k)) (fun k => k0_pay2 w o b (ix2 (j 0) k)) (j 1) := by
  unfold k0_pay3 normed meanSq
  generalize k0_pay2 w o b = u
  simp only [pointwise, shapeCast_self]
  rw [entry_eq u j]
  rfl

/-- One head's columns, from its queries, keys and values: what each of the four pieces computes. -/
def head (q : FVec Ideal S512x256 .bf16) (k v : Vec Ideal S256x256 .bf16) : FVec Ideal S512x256 .bf16 :=
  have k' : FVec Ideal S256x256 .bf16 := shapeCast S256x256 k shapeCasts_S256x256_S256x256
  have v' : FVec Ideal S256x256 .bf16 := shapeCast S256x256 v shapeCasts_S256x256_S256x256
  have s : FVec Ideal S512x256 .f32 := mulf (matmul dot_S512x256_S256x256_S512x256_1_1_0_0_n_n none q k' (constant S512x256 .f32 0x00000000#32)) (broadcast S512x256 (Scalar.ofBits .f32 0x3D800000#32))
  have e : FVec Ideal S512x256 .f32 := exp (subf s (broadcastTo S512x256 (shapeCast S512x1
    (multiReduction .maximumf [1] S512 s 0xFF800000#32 reduces_S512x256_S512 (.inl rfl) rfl) shapeCasts_S512_S512x1) broadcasts_S512x1_S512x256))
  have p : FVec Ideal S512x256 .f32 := divf e (broadcastTo S512x256 (shapeCast S512x1
    (multiReduction .add [1] S512 e 0x00000000#32 reduces_S512x256_S512 (.inl rfl) rfl) shapeCasts_S512_S512x1) broadcasts_S512x1_S512x256)
  truncf .bf16 (matmul dot_S512x256_S256x256_S512x256_1_0_0_1_n_n none (truncf .bf16 p bitsLt_bf16_f32) v' (constant S512x256 .f32 0x00000000#32)) bitsLt_bf16_f32

theorem head_at (q : FVec Ideal S512x256 .bf16) (k v : Vec Ideal S256x256 .bf16) (j : S512x256.Idx) : head q k v j
    = ∑ l, weight (fun l => score (fun d => q (ix2 (j 0) d)) (fun d => k (ix2 l d))) l * v (ix2 l (j 1)) := by
  unfold head
  simp only [pointwise, shapeCast_self]
  simp only [zero_add]
  rfl

/-- A block's four heads, as one array. -/
def attended (q : Vec Ideal S512x1024 .bf16) (k v : Vec Ideal S256x1024 .bf16) : Vec Ideal S512x1024 .bf16 := fun j =>
  attend (fun d => q (ix2 (j 0) d)) (fun l d => k (ix2 l d)) (fun l d => v (ix2 l d)) (j 1)

/-- A head's piece is the array's, at the columns from which the head starts. -/
theorem piece_at (o : ℕ) (ho : o / 256 * 256 = o) (q : Vec Ideal S512x1024 .bf16) (k v : Vec Ideal S256x1024 .bf16) (hs : S512x1024.Slices ![0, o] S512x256)
    (hk : ∀ a, (![0, o] : Fin 2 → ℕ) a + S256x256.size a ≤ S256x1024.size a) (hq : ∀ a, (![0, o] : Fin 2 → ℕ) a + S512x256.size a ≤ S512x1024.size a)
    (x : S512x256.Idx) : head (extractStridedSlice S512x256 ![0, o] q hs) (View.ld k (Rect.unit (s := S256x1024) ![0, o] S256x256.size hk))
      (View.ld v (Rect.unit (s := S256x1024) ![0, o] S256x256.size hk)) x
      = attended q k v ((Rect.unit (s := S512x1024) ![0, o] S512x256.size hq).emb x) := by
  rw [head_at]
  unfold attended attend weights
  have hx : (x 1).val < 256 := (x 1).isLt
  have e0 : ((Rect.unit (s := S512x1024) ![0, o] S512x256.size hq).emb x 0).val = (x 0).val := by
    show 0 + 1 * (x 0).val = _
    omega
  have e1 : ((Rect.unit (s := S512x1024) ![0, o] S512x256.size hq).emb x 1).val = o + (x 1).val := by
    show o + 1 * (x 1).val = _
    omega
  have el : ∀ d : Fin 256, (lane ((Rect.unit (s := S512x1024) ![0, o] S512x256.size hq).emb x 1) d).val = o + d.val := fun d => by
    show ((Rect.unit (s := S512x1024) ![0, o] S512x256.size hq).emb x 1).val / 256 * 256 + d.val = _
    omega
  refine Finset.sum_congr rfl fun l _ => congrArg₂ (· * ·) (congrArg (fun s => weight s l) (funext fun l' => congrArg₂ score
    (funext fun d => congrArg q (funext fun a => Fin.ext ?_)) (funext fun d => congrArg k (funext fun a => Fin.ext ?_)))) (congrArg v (funext fun a => Fin.ext ?_))
  · match a with
    | ⟨0, _⟩ => show 0 + (x 0).val = _; exact (Nat.zero_add _).trans e0.symm
    | ⟨1, _⟩ => exact (el d).symm
  · match a with
    | ⟨0, _⟩ => show 0 + 1 * l'.val = l'.val; omega
    | ⟨1, _⟩ => show o + 1 * d.val = _; rw [Nat.one_mul]; exact (el d).symm
  · match a with
    | ⟨0, _⟩ => show 0 + 1 * l.val = l.val; omega
    | ⟨1, _⟩ => show o + 1 * (x 1).val = _; rw [Nat.one_mul]; exact e1.symm

end Payloads

theorem whole_read (X : S512x1024.Idx → EReal) (h : ∀ a, (![0, 0] : Fin 2 → ℕ) a + (![512, 1024] : Fin 2 → ℕ) a ≤ S512x1024.size a) :
    (fun j => X ((Rect.unit (s := S512x1024) ![0, 0] ![512, 1024] h).idx j)) = X :=
  funext fun j => congrArg X (funext fun a => Fin.ext (by
    match a with
    | ⟨0, _⟩ => show 0 + 1 * (j 0).val = (j 0).val; omega
    | ⟨1, _⟩ => show 0 + 1 * (j 1).val = (j 1).val; omega))

section Left

variable (c : Dev nD) (i : grid0.Coords)
  (arg1 : Memref sig .tc .vmem S512x512 .bf16) (harg1 : arg1.IsWhole)
  (arg2 : Memref sig .tc .vmem S512x512 .bf16) (harg2 : arg2.IsWhole)
  (arg3 : Memref sig .tc .vmem S512x1024 .f32) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1x1024 .f32) (harg6 : arg6.IsWhole)
  (arg7 : Memref sig .tc .vmem S1024x1024 .bf16) (harg7 : arg7.IsWhole)
  (arg8 : Memref sig .tc .vmem S256x1024 .bf16) (harg8 : arg8.IsWhole)
  (arg9 : Memref sig .tc .vmem S256x1024 .bf16) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S512x1024 .f32) (harg12 : arg12.IsWhole)
  (arg13 : Memref sig .tc .vmem S512x1024 .bf16) (harg13 : arg13.IsWhole)
  (arg14 : Memref sig .tc .vmem S512x1024 .bf16) (harg14 : arg14.IsWhole)
  (arg15 : Memref sig .tc .vmem S512x1024 .bf16) (harg15 : arg15.IsWhole)
  (arg16 : Memref sig .tc .vmem S512x1024 .f32) (harg16 : arg16.IsWhole)
  (arg17 : Memref sig .tc .vmem S512x1024 .bf16) (harg17 : arg17.IsWhole)
  (x0 : Vec Ideal S512x512 .bf16) (x1 : Vec Ideal S512x512 .bf16) (x2 : Vec Ideal S512x1024 .f32) (x3 : Vec Ideal S512x1024 .bf16) (x4 : Vec Ideal S512x1024 .bf16) (x5 : Vec Ideal S1x1024 .f32) (x6 : Vec Ideal S1024x1024 .bf16) (x7 : Vec Ideal S256x1024 .bf16) (x8 : Vec Ideal S256x1024 .bf16) (x9 : Vec Ideal S1024x1024 .bf16) (x10 : Vec Ideal S1x1024 .f32)

/-- The run's four pieces of the attended rows are the four heads'. -/
theorem left_attended : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).2.2.2.1
    = attended (k0_pay7 (k0_pay6 x2 x0 x3 x1 x4 x5 x6)) x7 x8 := by
  funext y
  refine View.canon_apply_of_pieces _ _ ?_ y (by apply cover0_A_14)
  unfold kernelRun0_A
  dsimp only
  try sl_unfold_words
  intro p hp
  simp only [List.mem_cons, List.not_mem_nil, or_false] at hp
  rcases hp with rfl | rfl | rfl | rfl <;> intro x <;> dsimp only
  all_goals simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x512) hz2, View.ld_unit_zero (S := S512x1024) hz2, View.ld_unit_zero (S := S1x1024) hz2, View.ld_unit_zero (S := S1024x1024) hz2]
  · exact piece_at 768 rfl _ x7 x8 _ _ _ x
  · exact piece_at 512 rfl _ x7 x8 _ _ _ x
  · exact piece_at 256 rfl _ x7 x8 _ _ _ x
  · exact piece_at 0 rfl _ x7 x8 _ _ _ x

theorem left : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = (k0_pay4 x2 x0 x3 x1 x4)
    ∧ out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = k0_pay5 x2 x0 x3 x1 x4 x5
    ∧ out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = (k0_pay7 (k0_pay6 x2 x0 x3 x1 x4 x5 x6))
    ∧ out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = attended (k0_pay7 (k0_pay6 x2 x0 x3 x1 x4 x5 x6)) x7 x8
    ∧ out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = k0_pay2 (k0_pay4 x2 x0 x3 x1 x4) (attended (k0_pay7 (k0_pay6 x2 x0 x3 x1 x4 x5 x6)) x7 x8) x9
    ∧ out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = k0_pay3 (k0_pay4 x2 x0 x3 x1 x4) (attended (k0_pay7 (k0_pay6 x2 x0 x3 x1 x4 x5 x6)) x7 x8) x9 x10 := by
  have h := left_attended c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10
  revert h
  refine fun h => ⟨(View.read_writes_eq_canon _ _ _ (by apply cover0_A_11)).trans ?_,
    (View.read_writes_eq_canon _ _ _ (by apply cover0_A_12)).trans ?_,
    (View.read_writes_eq_canon _ _ _ (by apply cover0_A_13)).trans ?_,
    (View.read_writes_eq_canon _ _ _ (by apply cover0_A_14)).trans h,
    (View.read_writes_eq_canon _ _ _ (by apply cover0_A_15)).trans ?_,
    (View.read_writes_eq_canon _ _ _ (by apply cover0_A_16)).trans ?_⟩
  all_goals
    revert h
    unfold kernelRun0_A
    dsimp only
    try sl_unfold_words
    intro h
    refine (View.canon_unit_zero hz2 _ _).trans ?_
    try simp only [View.readCov_eq_canon', h, whole_read]
    simp only [View.readAt_eq_ld, harg1.read_unread, harg2.read_unread, harg3.read_unread, harg4.read_unread, harg5.read_unread, harg6.read_unread, harg7.read_unread, harg8.read_unread, harg9.read_unread, harg10.read_unread, harg11.read_unread,
      View.ld_unit_zero (S := S512x512) hz2, View.ld_unit_zero (S := S512x1024) hz2, View.ld_unit_zero (S := S1x1024) hz2, View.ld_unit_zero (S := S1024x1024) hz2]
end Left

section Reference

open OutXattnRefIdeal.Read

variable (x0 x1 : Arr S8192x512 .f32) (x2 : Arr S8192x1024 .f32)
  (x3 : Arr S1024x1024 .f32) (x4 : Arr S1024 .f32)
  (x5 x6 x7 x8 : Arr S1024x1024 .f32) (x9 : Arr S1024 .f32)

/-- The upper and the lower half of the rows of the joined weights. -/
def upper (k : Fin 512) : Fin 1024 := ⟨k.val, by omega⟩
def lower (k : Fin 512) : Fin 1024 := ⟨512 + k.val, by omega⟩

theorem ref_mixed (i : S8192x1024.Idx) : val_main_v2 x0 x1 x2 x3 i
    = x2 i + (∑ k, x0 (ix2 (i 0) k) * x3 (ix2 (upper k) (i 1)) + ∑ k, x1 (ix2 (i 0) k) * x3 (ix2 (lower k) (i 1))) := by
  rw [val_main_v2_apply, val_main_v1_apply]
  refine congrArg (x2 i + ·) ?_
  rw [show (∑ k : Fin 1024, val_main_v0 x0 x1 (lidx_main_v1 i k) * x3 (ridx_main_v1 i k))
      = ∑ k : Fin (512 + 512), val_main_v0 x0 x1 (lidx_main_v1 i k) * x3 (ridx_main_v1 i k) from rfl, Fin.sum_univ_add]
  refine congrArg₂ (· + ·) (Finset.sum_congr rfl fun k _ => congrArg₂ (· * ·) ?_ (congrArg x3 ?_)) (Finset.sum_congr rfl fun k _ => congrArg₂ (· * ·) ?_ (congrArg x3 ?_))
  · unfold val_main_v0
    refine concatenate_pair_apply_left (s₁ := OutXattnRefIdeal.S8192x512) (s₂ := OutXattnRefIdeal.S8192x512) 1 _ _ _ (lidx_main_v1 i (Fin.castAdd 512 k)) rfl (ix2 (i 0) k) fun b => ?_
    match b with | ⟨0, _⟩ => rfl | ⟨1, _⟩ => rfl
  · exact funext fun a => Fin.ext (by match a with | ⟨0, _⟩ => rfl | ⟨1, _⟩ => rfl)
  · unfold val_main_v0
    refine concatenate_pair_apply_right (s₁ := OutXattnRefIdeal.S8192x512) (s₂ := OutXattnRefIdeal.S8192x512) 1 _ _ _ (lidx_main_v1 i (Fin.natAdd 512 k)) rfl rfl (ix2 (i 0) k) (fun b hb => ?_) ?_
    · match b with | ⟨0, _⟩ => rfl | ⟨1, _⟩ => exact absurd rfl hb
    · show k.val + 512 = 512 + k.val
      omega
  · exact funext fun a => Fin.ext (by match a with | ⟨0, _⟩ => rfl | ⟨1, _⟩ => rfl)

theorem ref_root (i : OutXattnRefIdeal.S8192x1.Idx) :
    val_main_v10 x0 x1 x2 x3 i = Ideal.rsqrt (meanSq fun k => val_main_v2 x0 x1 x2 x3 (ix2 (i 0) k)) := by
  rw [val_main_v10_apply, val_main_v9_apply, val_main_v7_apply, val_main_v5_apply, val_main_v4_apply, val_main_v6_apply, val_main_v8_apply]
  simp only [val_main_v3_apply, val_main_cst_apply, val_main_cst_0_apply, val_main_cst_1_apply]
  generalize val_main_v2 x0 x1 x2 x3 = y
  show Ideal.rsqrt (Ideal.div (Ideal.ofBits .f32 0x00000000#32 + _) _ + _) = _
  rw [Ideal.ofBits_zero_f32, zero_add]
  unfold meanSq
  refine congrArg (fun s => Ideal.rsqrt (Ideal.div s _ + _)) (Finset.sum_congr rfl fun k _ => ?_)
  have e : idx_main_v4 (idx_main_v5 i) k = ix2 (i 0) k := funext fun a => by match a with | ⟨0, _⟩ => rfl | ⟨1, _⟩ => rfl
  rw [e]
  rfl

theorem ref_normed (i : S8192x1024.Idx) : val_main_v15 x0 x1 x2 x3 x4 i
    = normed (fun k => x4 (ix1 k)) (fun k => val_main_v2 x0 x1 x2 x3 (ix2 (i 0) k)) (i 1) := by
  rw [val_main_v15_apply, val_main_v12_apply, val_main_v11_apply, ref_root, val_main_v14_apply, val_main_v13_apply]
  generalize val_main_v2 x0 x1 x2 x3 = y
  rw [entry_eq y i]
  refine congrArg (_ * ·) (congrArg x4 (funext fun a => ?_))
  match a with | ⟨0, _⟩ => rfl

theorem ref_query (i : S8192x1024.Idx) : val_main_v16 x0 x1 x2 x3 x4 x5 i
    = ∑ k, val_main_v15 x0 x1 x2 x3 x4 (ix2 (i 0) k) * x5 (ix2 k (i 1)) := by
  rw [val_main_v16_apply]
  refine Finset.sum_congr rfl fun k _ => congrArg₂ (· * ·) (congrArg _ (funext fun a => ?_)) (congrArg x5 (funext fun a => ?_))
  · match a with | ⟨0, _⟩ => rfl | ⟨1, _⟩ => rfl
  · match a with | ⟨0, _⟩ => rfl | ⟨1, _⟩ => rfl

/-- The place of a row's example's memory. -/
def memory (r : Fin 8192) (l : Fin 256) : Fin 1024 := ⟨r.val / 2048 * 256 + l.val, by omega⟩

/-- A row's scores at the head that holds a column. -/
def scores (r : Fin 8192) (j : Fin 1024) (l : Fin 256) : EReal :=
  score (fun d => val_main_v16 x0 x1 x2 x3 x4 x5 (ix2 r (lane j d))) (fun d => x6 (ix2 (memory r l) (lane j d)))

theorem ref_score (r : Fin 8192) (j : Fin 1024) (i : OutXattnRefIdeal.S4x4x2048x256.Idx) (hr : (i 0).val * 2048 + (i 2).val = r.val)
    (hj : (i 1).val = j.val / 256) : val_main_v22 x0 x1 x2 x3 x4 x5 x6 i = scores x0 x1 x2 x3 x4 x5 x6 r j (i 3) := by
  rw [val_main_v22_apply, val_main_v20_apply, val_main_v21_apply, val_main_cst_2_apply]
  refine (by_sixteen _).trans (congrArg (· * _) (Finset.sum_congr rfl fun d _ => ?_))
  rw [val_main_v17_apply, val_main_v18_apply]
  have h2 : (i 2).val < 2048 := (i 2).isLt
  have h3 : (i 3).val < 256 := (i 3).isLt
  have hd : d.val < 256 := d.isLt
  refine congrArg₂ (· * ·) (congrArg _ (funext fun a => Fin.ext ?_)) (congrArg x6 (funext fun a => Fin.ext ?_))
  · match a with
    | ⟨0, _⟩ => show ((((i 0).val * 2048 + (i 2).val) * 4 + (i 1).val) * 256 + d.val) / 1024 = r.val; omega
    | ⟨1, _⟩ => show ((((i 0).val * 2048 + (i 2).val) * 4 + (i 1).val) * 256 + d.val) % 1024 = j.val / 256 * 256 + d.val; omega
  · match a with
    | ⟨0, _⟩ => show ((((i 0).val * 256 + (i 3).val) * 4 + (i 1).val) * 256 + d.val) / 1024 = r.val / 2048 * 256 + (i 3).val; omega
    | ⟨1, _⟩ => show ((((i 0).val * 256 + (i 3).val) * 4 + (i 1).val) * 256 + d.val) % 1024 = j.val / 256 * 256 + d.val; omega

theorem ref_top (r : Fin 8192) (j : Fin 1024) (i : OutXattnRefIdeal.S4x4x2048.Idx) (hr : (i 0).val * 2048 + (i 2).val = r.val)
    (hj : (i 1).val = j.val / 256) : val_main_v25 x0 x1 x2 x3 x4 x5 x6 i = top (scores x0 x1 x2 x3 x4 x5 x6 r j) := by
  rw [val_main_v25_apply, val_main_v24_apply, val_main_cst_4_apply]
  refine Eq.trans ?_ (top_again _)
  show max _ _ = _
  refine congrArg (max _) ?_
  unfold val_main_v23
  have e : ∀ k, val_main_v22 x0 x1 x2 x3 x4 x5 x6 (idx_main_v30 i k) = scores x0 x1 x2 x3 x4 x5 x6 r j k := fun k => ref_score x0 x1 x2 x3 x4 x5 x6 r j _ hr hj
  revert e
  generalize val_main_v22 x0 x1 x2 x3 x4 x5 x6 = y
  intro e
  simp only [pointwise]
  rw [val_main_cst_3_apply]
  refine congrArg (fun s => Finset.univ.fold max (Ideal.ofBits .f32 0xFF800000#32) s) (funext fun k => (congrArg y (funext fun a => ?_)).trans (e k))
  match a with | ⟨0, _⟩ => rfl | ⟨1, _⟩ => rfl | ⟨2, _⟩ => rfl | ⟨3, _⟩ => rfl

theorem ref_exp (r : Fin 8192) (j : Fin 1024) (i : OutXattnRefIdeal.S4x4x2048x256.Idx) (hr : (i 0).val * 2048 + (i 2).val = r.val)
    (hj : (i 1).val = j.val / 256) : val_main_v29 x0 x1 x2 x3 x4 x5 x6 i
      = Ideal.exp (scores x0 x1 x2 x3 x4 x5 x6 r j (i 3) - top (scores x0 x1 x2 x3 x4 x5 x6 r j)) := by
  rw [val_main_v29_apply, val_main_v28_apply, val_main_v27_apply, val_main_v26_apply, ref_score x0 x1 x2 x3 x4 x5 x6 r j i hr hj,
    ref_top x0 x1 x2 x3 x4 x5 x6 r j (idx_main_v26 (idx_main_v27 i)) hr hj]
  rfl

theorem ref_weight (r : Fin 8192) (j : Fin 1024) (i : OutXattnRefIdeal.S4x4x2048x256.Idx) (hr : (i 0).val * 2048 + (i 2).val = r.val)
    (hj : (i 1).val = j.val / 256) : val_main_v33 x0 x1 x2 x3 x4 x5 x6 i = weight (scores x0 x1 x2 x3 x4 x5 x6 r j) (i 3) := by
  rw [val_main_v33_apply, val_main_v32_apply, val_main_v31_apply, val_main_v30_apply, val_main_cst_5_apply, ref_exp x0 x1 x2 x3 x4 x5 x6 r j i hr hj]
  simp only [fun k => ref_exp x0 x1 x2 x3 x4 x5 x6 r j (idx_main_v30 (idx_main_v31 (idx_main_v32 i)) k) hr hj]
  show Ideal.div _ (Ideal.ofBits .f32 0x00000000#32 + _) = _
  rw [Ideal.ofBits_zero_f32, zero_add]
  rfl

theorem ref_attend (i : S8192x1024.Idx) : val_main_v36 x0 x1 x2 x3 x4 x5 x6 x7 i
    = attend (fun d => val_main_v16 x0 x1 x2 x3 x4 x5 (ix2 (i 0) d)) (fun l d => x6 (ix2 (memory (i 0) l) d))
      (fun l d => x7 (ix2 (memory (i 0) l) d)) (i 1) := by
  have h0 : (i 0).val < 8192 := (i 0).isLt
  have h1 : (i 1).val < 1024 := (i 1).isLt
  rw [val_main_v36_apply, val_main_v35_apply, val_main_v34_apply]
  refine Finset.sum_congr rfl fun l _ => ?_
  rw [val_main_v19_apply, ref_weight x0 x1 x2 x3 x4 x5 x6 (i 0) (i 1) _ (by
      show ((i 0).val * 1024 + (i 1).val) / 2097152 * 2048 + ((i 0).val * 1024 + (i 1).val) / 1024 % 2048 = (i 0).val
      omega) (by
      show ((i 0).val * 1024 + (i 1).val) / 256 % 4 = (i 1).val / 256
      omega), mul_comm]
  refine congrArg (_ * ·) (congrArg x7 (funext fun a => Fin.ext ?_))
  match a with
  | ⟨0, _⟩ =>
    show (((((i 0).val * 1024 + (i 1).val) / 2097152 * 256 + l.val) * 4 + ((i 0).val * 1024 + (i 1).val) / 256 % 4) * 256 + ((i 0).val * 1024 + (i 1).val) % 256) / 1024
      = (i 0).val / 2048 * 256 + l.val
    omega
  | ⟨1, _⟩ =>
    show (((((i 0).val * 1024 + (i 1).val) / 2097152 * 256 + l.val) * 4 + ((i 0).val * 1024 + (i 1).val) / 256 % 4) * 256 + ((i 0).val * 1024 + (i 1).val) % 256) % 1024
      = (i 1).val
    omega

theorem ref_second (i : S8192x1024.Idx) : val_main_v38 x0 x1 x2 x3 x4 x5 x6 x7 x8 i
    = val_main_v2 x0 x1 x2 x3 i + ∑ k, val_main_v36 x0 x1 x2 x3 x4 x5 x6 x7 (ix2 (i 0) k) * x8 (ix2 k (i 1)) := by
  rw [val_main_v38_apply, val_main_v37_apply]
  refine congrArg (_ + ·) (Finset.sum_congr rfl fun k _ => congrArg₂ (· * ·) (congrArg _ (funext fun a => ?_)) (congrArg x8 (funext fun a => ?_)))
  · match a with | ⟨0, _⟩ => rfl | ⟨1, _⟩ => rfl
  · match a with | ⟨0, _⟩ => rfl | ⟨1, _⟩ => rfl

theorem ref_last_root (i : OutXattnRefIdeal.S8192x1.Idx) : val_main_v46 x0 x1 x2 x3 x4 x5 x6 x7 x8 i
    = Ideal.rsqrt (meanSq fun k => val_main_v38 x0 x1 x2 x3 x4 x5 x6 x7 x8 (ix2 (i 0) k)) := by
  rw [val_main_v46_apply, val_main_v45_apply, val_main_v43_apply, val_main_v41_apply, val_main_v40_apply, val_main_v42_apply, val_main_v44_apply]
  simp only [val_main_v39_apply, val_main_cst_6_apply, val_main_cst_7_apply, val_main_cst_8_apply]
  generalize val_main_v38 x0 x1 x2 x3 x4 x5 x6 x7 x8 = y
  show Ideal.rsqrt (Ideal.div (Ideal.ofBits .f32 0x00000000#32 + _) _ + _) = _
  rw [Ideal.ofBits_zero_f32, zero_add]
  unfold meanSq
  refine congrArg (fun s => Ideal.rsqrt (Ideal.div s _ + _)) (Finset.sum_congr rfl fun k _ => ?_)
  have e : idx_main_v40 (idx_main_v41 i) k = ix2 (i 0) k := funext fun a => by match a with | ⟨0, _⟩ => rfl | ⟨1, _⟩ => rfl
  rw [e]
  rfl

theorem ref_last (i : S8192x1024.Idx) : val_main_v51 x0 x1 x2 x3 x4 x5 x6 x7 x8 x9 i
    = normed (fun k => x9 (ix1 k)) (fun k => val_main_v38 x0 x1 x2 x3 x4 x5 x6 x7 x8 (ix2 (i 0) k)) (i 1) := by
  rw [val_main_v51_apply, val_main_v48_apply, val_main_v47_apply, ref_last_root, val_main_v50_apply, val_main_v49_apply]
  generalize val_main_v38 x0 x1 x2 x3 x4 x5 x6 x7 x8 = y
  rw [entry_eq y i]
  refine congrArg (_ * ·) (congrArg x9 (funext fun a => ?_))
  match a with | ⟨0, _⟩ => rfl

end Reference

variable (m : (ℓ : Loc nD τ sig) → Buf (Elt Ideal) ℓ) (c : Dev nD)

/-- The two branches' rows, the stream, the output weights, the norm's gain, the query weights, the memory's keys and values,
    the attention's output weights and the second norm's gain, as launched. -/
def ya : Arr S8192x512 .f32 := m ((c : Thread nD τ).loc main_arg0)
def yf : Arr S8192x512 .f32 := m ((c : Thread nD τ).loc main_arg1)
def rows : Arr S8192x1024 .f32 := m ((c : Thread nD τ).loc main_arg2)
def outs : Arr S1024x1024 .f32 := m ((c : Thread nD τ).loc main_arg3)
def gains : Arr S1024 .f32 := m ((c : Thread nD τ).loc main_arg4)
def asks : Arr S1024x1024 .f32 := m ((c : Thread nD τ).loc main_arg5)
def keys : Arr S1024x1024 .f32 := m ((c : Thread nD τ).loc main_arg6)
def vals : Arr S1024x1024 .f32 := m ((c : Thread nD τ).loc main_arg7)
def backs : Arr S1024x1024 .f32 := m ((c : Thread nD τ).loc main_arg8)
def gains2 : Arr S1024 .f32 := m ((c : Thread nD τ).loc main_arg9)

theorem ya_at (i : S8192x512.Idx) : (V m c main_v0 : S8192x512.Idx → EReal) i = ya m c i := by
  unfold ya
  rw [← V_main_arg0 m c]; unfold V
  after_reads_simp <;> rfl

theorem yf_at (i : S8192x512.Idx) : (V m c main_v1 : S8192x512.Idx → EReal) i = yf m c i := by
  unfold yf
  rw [← V_main_arg1 m c]; unfold V
  after_reads_simp <;> rfl

theorem rows_at (i : S8192x1024.Idx) : (V m c main_arg2 : S8192x1024.Idx → EReal) i = rows m c i :=
  congrFun (V_main_arg2 m c) i

theorem upper_at (i : S512x1024.Idx) : (V m c main_v7 : S512x1024.Idx → EReal) i = outs m c (ix2 (upper (i 0)) (i 1)) := by
  have e : (V m c main_v7 : S512x1024.Idx → EReal) = extractStridedSlice S512x1024 ![0, 0] (outs m c) slices_S1024x1024_S512x1024_0_0 := by
    unfold outs
    rw [← V_main_arg3 m c]; unfold V
    after_reads_simp <;> rfl
  rw [e]
  refine congrArg (outs m c) (funext fun a => Fin.ext ?_)
  match a with
  | ⟨0, _⟩ => show 0 + (i 0).val = (i 0).val; omega
  | ⟨1, _⟩ => show 0 + (i 1).val = (i 1).val; omega

theorem lower_at (i : S512x1024.Idx) : (V m c main_v8 : S512x1024.Idx → EReal) i = outs m c (ix2 (lower (i 0)) (i 1)) := by
  have e : (V m c main_v8 : S512x1024.Idx → EReal) = extractStridedSlice S512x1024 ![512, 0] (outs m c) slices_S1024x1024_S512x1024_512_0 := by
    unfold outs
    rw [← V_main_arg3 m c]; unfold V
    after_reads_simp <;> rfl
  rw [e]
  refine congrArg (outs m c) (funext fun a => Fin.ext ?_)
  match a with
  | ⟨0, _⟩ => rfl
  | ⟨1, _⟩ => show 0 + (i 1).val = (i 1).val; omega

theorem gain_row (g : Arr S1024 .f32) (i : S1x1024.Idx) :
    Idealize.ShloMosaic.shapeCast S1x1024 g shapeCasts_S1024_S1x1024 i = g (ix1 (i 1)) := by
  refine shapeCast_apply _ shapeCasts_S1024_S1x1024 i (ix1 (i 1)) ?_
  have h0 : (i 0).val < 1 := (i 0).isLt
  rw [Shape.rowMajor_val_one, Shape.rowMajor_val_two]
  show (i 1).val = (i 0).val * 1024 + (i 1).val
  omega

theorem gains_at (i : S1x1024.Idx) : (V m c main_v9 : S1x1024.Idx → EReal) i = gains m c (ix1 (i 1)) := by
  rw [← gain_row (gains m c) i]
  unfold gains
  rw [← V_main_arg4 m c]; unfold V
  after_reads_simp <;> rfl

theorem gains2_at (i : S1x1024.Idx) : (V m c main_v10 : S1x1024.Idx → EReal) i = gains2 m c (ix1 (i 1)) := by
  rw [← gain_row (gains2 m c) i]
  unfold gains2
  rw [← V_main_arg9 m c]; unfold V
  after_reads_simp <;> rfl

theorem casts_at (i : S1024x1024.Idx) : (V m c main_v3 : S1024x1024.Idx → EReal) i = asks m c i ∧ (V m c main_v4 : S1024x1024.Idx → EReal) i = keys m c i
    ∧ (V m c main_v5 : S1024x1024.Idx → EReal) i = vals m c i ∧ (V m c main_v6 : S1024x1024.Idx → EReal) i = backs m c i := by
  unfold asks keys vals backs
  rw [← V_main_arg5 m c, ← V_main_arg6 m c, ← V_main_arg7 m c, ← V_main_arg8 m c]; unfold V
  refine ⟨?_, ?_, ?_, ?_⟩ <;> after_reads_simp <;> rfl

open OutXattnRefIdeal.Read in
/-- The reference's stream after the mixer, its normed rows, its queries, what they attend to, the stream after that and its normed rows. -/
def ref1 : Arr S8192x1024 .f32 := val_main_v2 (ya m c) (yf m c) (rows m c) (outs m c)
open OutXattnRefIdeal.Read in
def refH : Arr S8192x1024 .bf16 := val_main_v52 (ya m c) (yf m c) (rows m c) (outs m c) (gains m c)
open OutXattnRefIdeal.Read in
def refQ : Arr S8192x1024 .bf16 := val_main_v53 (ya m c) (yf m c) (rows m c) (outs m c) (gains m c) (asks m c)
open OutXattnRefIdeal.Read in
def refO : Arr S8192x1024 .bf16 :=
  val_main_v54 (ya m c) (yf m c) (rows m c) (outs m c) (gains m c) (asks m c) (keys m c) (vals m c)
open OutXattnRefIdeal.Read in
def ref2 : Arr S8192x1024 .f32 :=
  val_main_v38 (ya m c) (yf m c) (rows m c) (outs m c) (gains m c) (asks m c) (keys m c) (vals m c) (backs m c)
open OutXattnRefIdeal.Read in
def refL : Arr S8192x1024 .bf16 :=
  val_main_v55 (ya m c) (yf m c) (rows m c) (outs m c) (gains m c) (asks m c) (keys m c) (vals m c) (backs m c) (gains2 m c)

/-- Where each grid point's blocks lie. -/
theorem places : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ win0_5.index t (1 : Fin 2) = 0 ∧ (win0_6.index t (0 : Fin 2) = 0 ∧ win0_6.index t (1 : Fin 2) = 0)
    ∧ (win0_7.index t (0 : Fin 2) = t.val / 4 ∧ win0_7.index t (1 : Fin 2) = 0) ∧ (win0_8.index t (0 : Fin 2) = t.val / 4 ∧ win0_8.index t (1 : Fin 2) = 0)
    ∧ (win0_9.index t (0 : Fin 2) = 0 ∧ win0_9.index t (1 : Fin 2) = 0) ∧ win0_10.index t (1 : Fin 2) = 0 :=
  (by decide +kernel : ∀ t : Fin grid0.N, _)

/-- The six outputs' blocks are a grid point's 512 rows. -/
theorem out_places : ∀ t : Fin cfg0.N, (win0_11.index t (0 : Fin 2) = t.val ∧ win0_11.index t (1 : Fin 2) = 0)
    ∧ (win0_12.index t (0 : Fin 2) = t.val ∧ win0_12.index t (1 : Fin 2) = 0) ∧ (win0_13.index t (0 : Fin 2) = t.val ∧ win0_13.index t (1 : Fin 2) = 0)
    ∧ (win0_14.index t (0 : Fin 2) = t.val ∧ win0_14.index t (1 : Fin 2) = 0) ∧ (win0_15.index t (0 : Fin 2) = t.val ∧ win0_15.index t (1 : Fin 2) = 0)
    ∧ win0_16.index t (0 : Fin 2) = t.val ∧ win0_16.index t (1 : Fin 2) = 0 :=
  (by decide +kernel : ∀ t : Fin grid0.N, _)

/-- A grid point's blocks. -/
def yaBlock (t : Fin cfg0.N) : Vec Ideal S512x512 .bf16 := iblk m c 0 t
def yfBlock (t : Fin cfg0.N) : Vec Ideal S512x512 .bf16 := iblk m c 1 t
def rowBlock (t : Fin cfg0.N) : Vec Ideal S512x1024 .f32 := iblk m c 2 t
def upperBlock (t : Fin cfg0.N) : Vec Ideal S512x1024 .bf16 := iblk m c 3 t
def lowerBlock (t : Fin cfg0.N) : Vec Ideal S512x1024 .bf16 := iblk m c 4 t
def gainBlock (t : Fin cfg0.N) : Vec Ideal S1x1024 .f32 := iblk m c 5 t
def askBlock (t : Fin cfg0.N) : Vec Ideal S1024x1024 .bf16 := iblk m c 6 t
def keyBlock (t : Fin cfg0.N) : Vec Ideal S256x1024 .bf16 := iblk m c 7 t
def valBlock (t : Fin cfg0.N) : Vec Ideal S256x1024 .bf16 := iblk m c 8 t
def backBlock (t : Fin cfg0.N) : Vec Ideal S1024x1024 .bf16 := iblk m c 9 t
def gain2Block (t : Fin cfg0.N) : Vec Ideal S1x1024 .f32 := iblk m c 10 t

section Blocks

variable (t : Fin cfg0.N) (p : Fin 512) (r : Fin 8192) (hr : r.val = 512 * t.val + p.val)
include hr

theorem blk0 (k : Fin 512) : yaBlock m c t (ix2 p k) = ya m c (ix2 r k) := by
  refine (ya_at m c (((cfg0.win 0).blk t).view.emb (ix2 p k))).trans (congrArg (ya m c) (funext fun a => Fin.ext ?_))
  obtain ⟨⟨e0, e1⟩, -⟩ := places t
  match a with
  | ⟨0, _⟩ => show win0_0.index t (0 : Fin 2) * 512 + 1 * p.val = r.val; omega
  | ⟨1, _⟩ => show win0_0.index t (1 : Fin 2) * 512 + 1 * k.val = k.val; omega

theorem blk1 (k : Fin 512) : yfBlock m c t (ix2 p k) = yf m c (ix2 r k) := by
  refine (yf_at m c (((cfg0.win 1).blk t).view.emb (ix2 p k))).trans (congrArg (yf m c) (funext fun a => Fin.ext ?_))
  obtain ⟨-, ⟨e0, e1⟩, -⟩ := places t
  match a with
  | ⟨0, _⟩ => show win0_1.index t (0 : Fin 2) * 512 + 1 * p.val = r.val; omega
  | ⟨1, _⟩ => show win0_1.index t (1 : Fin 2) * 512 + 1 * k.val = k.val; omega

theorem blk2 (k : Fin 1024) : rowBlock m c t (ix2 p k) = rows m c (ix2 r k) := by
  refine (rows_at m c (((cfg0.win 2).blk t).view.emb (ix2 p k))).trans (congrArg (rows m c) (funext fun a => Fin.ext ?_))
  obtain ⟨-, -, ⟨e0, e1⟩, -⟩ := places t
  match a with
  | ⟨0, _⟩ => show win0_2.index t (0 : Fin 2) * 512 + 1 * p.val = r.val; omega
  | ⟨1, _⟩ => show win0_2.index t (1 : Fin 2) * 1024 + 1 * k.val = k.val; omega

theorem blk7 (l : Fin 256) (k : Fin 1024) : keyBlock m c t (ix2 l k) = keys m c (ix2 (memory r l) k) := by
  refine (casts_at m c (((cfg0.win 7).blk t).view.emb (ix2 l k))).2.1.trans (congrArg (keys m c) (funext fun a => Fin.ext ?_))
  obtain ⟨-, -, -, -, -, -, -, ⟨e0, e1⟩, -⟩ := places t
  have hp : p.val < 512 := p.isLt
  match a with
  | ⟨0, _⟩ => show win0_7.index t (0 : Fin 2) * 256 + 1 * l.val = r.val / 2048 * 256 + l.val; omega
  | ⟨1, _⟩ => show win0_7.index t (1 : Fin 2) * 1024 + 1 * k.val = k.val; omega

theorem blk8 (l : Fin 256) (k : Fin 1024) : valBlock m c t (ix2 l k) = vals m c (ix2 (memory r l) k) := by
  refine (casts_at m c (((cfg0.win 8).blk t).view.emb (ix2 l k))).2.2.1.trans (congrArg (vals m c) (funext fun a => Fin.ext ?_))
  obtain ⟨-, -, -, -, -, -, -, -, ⟨e0, e1⟩, -⟩ := places t
  have hp : p.val < 512 := p.isLt
  match a with
  | ⟨0, _⟩ => show win0_8.index t (0 : Fin 2) * 256 + 1 * l.val = r.val / 2048 * 256 + l.val; omega
  | ⟨1, _⟩ => show win0_8.index t (1 : Fin 2) * 1024 + 1 * k.val = k.val; omega

omit hr

theorem blk3 (k : Fin 512) (j : Fin 1024) : upperBlock m c t (ix2 k j) = outs m c (ix2 (upper k) j) := by
  refine (upper_at m c (((cfg0.win 3).blk t).view.emb (ix2 k j))).trans (congrArg₂ (fun a b => outs m c (ix2 (upper a) b)) (Fin.ext ?_) (Fin.ext ?_))
  all_goals obtain ⟨-, -, -, ⟨e0, e1⟩, -⟩ := places t
  · show win0_3.index t (0 : Fin 2) * 512 + 1 * k.val = k.val
    omega
  · show win0_3.index t (1 : Fin 2) * 1024 + 1 * j.val = j.val
    omega

theorem blk4 (k : Fin 512) (j : Fin 1024) : lowerBlock m c t (ix2 k j) = outs m c (ix2 (lower k) j) := by
  refine (lower_at m c (((cfg0.win 4).blk t).view.emb (ix2 k j))).trans (congrArg₂ (fun a b => outs m c (ix2 (lower a) b)) (Fin.ext ?_) (Fin.ext ?_))
  all_goals obtain ⟨-, -, -, -, ⟨e0, e1⟩, -⟩ := places t
  · show win0_4.index t (0 : Fin 2) * 512 + 1 * k.val = k.val
    omega
  · show win0_4.index t (1 : Fin 2) * 1024 + 1 * j.val = j.val
    omega

theorem blk5 (k : Fin 1024) : gainBlock m c t (ix2 0 k) = gains m c (ix1 k) := by
  refine (gains_at m c (((cfg0.win 5).blk t).view.emb (ix2 0 k))).trans (congrArg (fun j => gains m c (ix1 j)) (Fin.ext ?_))
  obtain ⟨-, -, -, -, -, e1, -⟩ := places t
  show win0_5.index t (1 : Fin 2) * 1024 + 1 * k.val = k.val
  omega

theorem blk10 (k : Fin 1024) : gain2Block m c t (ix2 0 k) = gains2 m c (ix1 k) := by
  refine (gains2_at m c (((cfg0.win 10).blk t).view.emb (ix2 0 k))).trans (congrArg (fun j => gains2 m c (ix1 j)) (Fin.ext ?_))
  obtain ⟨-, -, -, -, -, -, -, -, -, -, e1⟩ := places t
  show win0_10.index t (1 : Fin 2) * 1024 + 1 * k.val = k.val
  omega

theorem blk6 : askBlock m c t = asks m c := by
  funext y
  refine (casts_at m c (((cfg0.win 6).blk t).view.emb y)).1.trans (congrArg (asks m c) (funext fun a => Fin.ext ?_))
  obtain ⟨-, -, -, -, -, -, ⟨e0, e1⟩, -⟩ := places t
  match a with
  | ⟨0, _⟩ => show win0_6.index t (0 : Fin 2) * 1024 + 1 * (y 0).val = (y 0).val; omega
  | ⟨1, _⟩ => show win0_6.index t (1 : Fin 2) * 1024 + 1 * (y 1).val = (y 1).val; omega

theorem blk9 : backBlock m c t = backs m c := by
  funext y
  refine (casts_at m c (((cfg0.win 9).blk t).view.emb y)).2.2.2.trans (congrArg (backs m c) (funext fun a => Fin.ext ?_))
  obtain ⟨-, -, -, -, -, -, -, -, -, ⟨e0, e1⟩, -⟩ := places t
  match a with
  | ⟨0, _⟩ => show win0_9.index t (0 : Fin 2) * 1024 + 1 * (y 0).val = (y 0).val; omega
  | ⟨1, _⟩ => show win0_9.index t (1 : Fin 2) * 1024 + 1 * (y 1).val = (y 1).val; omega

/-- What a grid point leaves in its six outputs' blocks. -/
def piece1 : Vec Ideal S512x1024 .f32 := k0_pay4 (rowBlock m c t) (yaBlock m c t) (upperBlock m c t) (yfBlock m c t) (lowerBlock m c t)
def pieceH : Vec Ideal S512x1024 .bf16 :=
  k0_pay5 (rowBlock m c t) (yaBlock m c t) (upperBlock m c t) (yfBlock m c t) (lowerBlock m c t) (gainBlock m c t)
def pieceQ : Vec Ideal S512x1024 .bf16 := k0_pay7 (F := Ideal)
  (k0_pay6 (rowBlock m c t) (yaBlock m c t) (upperBlock m c t) (yfBlock m c t) (lowerBlock m c t) (gainBlock m c t) (askBlock m c t))
def pieceO : Vec Ideal S512x1024 .bf16 := attended (pieceQ m c t) (keyBlock m c t) (valBlock m c t)
def piece2 : Vec Ideal S512x1024 .f32 := k0_pay2 (piece1 m c t) (pieceO m c t) (backBlock m c t)
def pieceL : Vec Ideal S512x1024 .bf16 := k0_pay3 (piece1 m c t) (pieceO m c t) (backBlock m c t) (gain2Block m c t)

include hr

theorem piece1_at (j : Fin 1024) : piece1 m c t (ix2 p j) = ref1 m c (ix2 r j) := by
  unfold piece1 ref1
  rw [pay_mixed, ref_mixed, blk2 m c t p r hr j]
  refine congrArg (_ + ·) (congrArg₂ (· + ·) (Finset.sum_congr rfl fun k _ => congrArg₂ (· * ·) (blk0 m c t p r hr k) (blk3 m c t k j))
    (Finset.sum_congr rfl fun k _ => congrArg₂ (· * ·) (blk1 m c t p r hr k) (blk4 m c t k j)))

theorem pieceH_at (j : Fin 1024) : pieceH m c t (ix2 p j) = refH m c (ix2 r j) := by
  refine (pay_normed _ _ _ _ _ _ _).trans (Eq.trans ?_ (ref_normed (ya m c) (yf m c) (rows m c) (outs m c) (gains m c) (ix2 r j)).symm)
  exact congrArg₂ (fun g x => normed g x j) (funext fun k => blk5 m c t k) (funext fun k => piece1_at m c t p r hr k)

theorem pieceQ_at (j : Fin 1024) : pieceQ m c t (ix2 p j) = refQ m c (ix2 r j) := by
  refine (pay_query _ _ _ _ _ _ _ _).trans (Eq.trans ?_ (ref_query (ya m c) (yf m c) (rows m c) (outs m c) (gains m c) (asks m c) (ix2 r j)).symm)
  exact Finset.sum_congr rfl fun k _ => congrArg₂ (· * ·) (pieceH_at m c t p r hr k) (congrFun (blk6 m c t) (ix2 k j))

theorem pieceO_at (j : Fin 1024) : pieceO m c t (ix2 p j) = refO m c (ix2 r j) := by
  refine Eq.trans ?_ (ref_attend (ya m c) (yf m c) (rows m c) (outs m c) (gains m c) (asks m c) (keys m c) (vals m c) (ix2 r j)).symm
  exact attend_congr (funext fun d => pieceQ_at m c t p r hr d) (funext fun l => funext fun d => blk7 m c t p r hr l d)
    (funext fun l => funext fun d => blk8 m c t p r hr l d) j

theorem piece2_at (j : Fin 1024) : piece2 m c t (ix2 p j) = ref2 m c (ix2 r j) := by
  refine (pay_second _ _ _ _).trans (Eq.trans ?_
    (ref_second (ya m c) (yf m c) (rows m c) (outs m c) (gains m c) (asks m c) (keys m c) (vals m c) (backs m c) (ix2 r j)).symm)
  exact congrArg₂ (· + ·) (piece1_at m c t p r hr j)
    (Finset.sum_congr rfl fun k _ => congrArg₂ (· * ·) (pieceO_at m c t p r hr k) (congrFun (blk9 m c t) (ix2 k j)))

theorem pieceL_at (j : Fin 1024) : pieceL m c t (ix2 p j) = refL m c (ix2 r j) := by
  refine (pay_last _ _ _ _ _).trans (Eq.trans ?_
    (ref_last (ya m c) (yf m c) (rows m c) (outs m c) (gains m c) (asks m c) (keys m c) (vals m c) (backs m c) (gains2 m c) (ix2 r j)).symm)
  exact congrArg₂ (fun g x => normed g x j) (funext fun k => blk10 m c t k) (funext fun k => piece2_at m c t p r hr k)

end Blocks

/-- An output's block agrees with its array if it does at each of its rows' places. -/
theorem spread {f : S512x1024.Idx → EReal} {g : S8192x1024.Idx → EReal} (t : Fin cfg0.N)
    (h : ∀ (p : Fin 512) (r : Fin 8192), r.val = 512 * t.val + p.val → ∀ j : Fin 1024, f (ix2 p j) = g (ix2 r j)) (ix : Fin 2 → ℕ)
    (e0 : ix 0 = t.val) (e1 : ix 1 = 0) (y : S512x1024.Idx) (i : S8192x1024.Idx) (h0 : (i 0).val = ix 0 * 512 + 1 * (y 0).val)
    (h1 : (i 1).val = ix 1 * 1024 + 1 * (y 1).val) : f y = g i := by
  rw [entry_eq f y, entry_eq g i, h (y 0) (i 0) (by omega) (y 1)]
  exact congrArg (fun j => g (ix2 (i 0) j)) (Fin.ext (by omega))

/-- The grid point whose blocks hold a row. -/
theorem point (i : S8192x1024.Idx) : ∃ t : Fin cfg0.N, ∀ ix : Fin 2 → ℕ, ix 0 = t.val → ix 1 = 0 →
    ∀ a : Fin 2, ix a * S512x1024.size a ≤ (i a).val ∧ (i a).val < ix a * S512x1024.size a + S512x1024.size a := by
  have h0 : (i 0).val < 8192 := (i 0).isLt
  have h1 : (i 1).val < 1024 := (i 1).isLt
  refine ⟨⟨(i 0).val / 512, by have hN : cfg0.N = 16 := N_0; omega⟩, fun ix e0 e1 a => ?_⟩
  match a with
  | ⟨0, _⟩ => show ix 0 * 512 ≤ (i 0).val ∧ (i 0).val < ix 0 * 512 + 512; rw [e0]; dsimp only; omega
  | ⟨1, _⟩ => show ix 1 * 1024 ≤ (i 1).val ∧ (i 1).val < ix 1 * 1024 + 1024; rw [e1]; omega

/-- What a grid point's write-backs write is its pieces. -/
theorem flushed (t : Fin cfg0.N) : (dats m 0 c).flushed 11 t = (cfg0.win 11).cut (grid0.coords t) (piece1 m c t)
    ∧ (dats m 0 c).flushed 12 t = (cfg0.win 12).cut (grid0.coords t) (pieceH m c t)
    ∧ (dats m 0 c).flushed 13 t = (cfg0.win 13).cut (grid0.coords t) (pieceQ m c t)
    ∧ (dats m 0 c).flushed 14 t = (cfg0.win 14).cut (grid0.coords t) (pieceO m c t)
    ∧ (dats m 0 c).flushed 15 t = (cfg0.win 15).cut (grid0.coords t) (piece2 m c t)
    ∧ (dats m 0 c).flushed 16 t = (cfg0.win 16).cut (grid0.coords t) (pieceL m c t) := by
  obtain ⟨h11, h12, h13, h14, h15, h16⟩ := left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    (yaBlock m c t) (yfBlock m c t) (rowBlock m c t) (upperBlock m c t) (lowerBlock m c t) (gainBlock m c t) (askBlock m c t) (keyBlock m c t) (valBlock m c t) (backBlock m c t) (gain2Block m c t)
  exact ⟨(Value.flushed11_A m c t).trans (congrArg ((cfg0.win 11).cut (grid0.coords t)) h11), (Value.flushed12_A m c t).trans (congrArg ((cfg0.win 12).cut (grid0.coords t)) h12), (Value.flushed13_A m c t).trans (congrArg ((cfg0.win 13).cut (grid0.coords t)) h13), (Value.flushed14_A m c t).trans (congrArg ((cfg0.win 14).cut (grid0.coords t)) h14), (Value.flushed15_A m c t).trans (congrArg ((cfg0.win 15).cut (grid0.coords t)) h15), (Value.flushed16_A m c t).trans (congrArg ((cfg0.win 16).cut (grid0.coords t)) h16)⟩

theorem array1 : (dats m 0 c).arrAt 11 cfg0.N = ref1 m c := by
  refine (dats m 0 c).arrAt_eq_of_cover 11 _ (fun t _ => ?_) fun i => ?_
  · obtain ⟨⟨e0, e1⟩, -⟩ := out_places t
    rw [(flushed m c t).1]
    funext y
    exact spread t (piece1_at m c t) (fun a => win0_11.index t a) e0 e1 y _ rfl rfl
  · obtain ⟨t, ht⟩ := point i
    obtain ⟨⟨e0, e1⟩, -⟩ := out_places t
    refine ⟨t, flush0_11 t, ?_⟩
    show i ∈ ((View.whole main_v11_0).slice (win0_11.rect t)).set
    rw [View.set_slice_whole, Rect.mem_set_unit]
    exact ht (fun a => win0_11.index t a) e0 e1

theorem arrayH : (dats m 0 c).arrAt 12 cfg0.N = refH m c := by
  refine (dats m 0 c).arrAt_eq_of_cover 12 _ (fun t _ => ?_) fun i => ?_
  · obtain ⟨-, ⟨e0, e1⟩, -⟩ := out_places t
    rw [(flushed m c t).2.1]
    funext y
    exact spread t (pieceH_at m c t) (fun a => win0_12.index t a) e0 e1 y _ rfl rfl
  · obtain ⟨t, ht⟩ := point i
    obtain ⟨-, ⟨e0, e1⟩, -⟩ := out_places t
    refine ⟨t, flush0_12 t, ?_⟩
    show i ∈ ((View.whole main_v11_1).slice (win0_12.rect t)).set
    rw [View.set_slice_whole, Rect.mem_set_unit]
    exact ht (fun a => win0_12.index t a) e0 e1

theorem arrayQ : (dats m 0 c).arrAt 13 cfg0.N = refQ m c := by
  refine (dats m 0 c).arrAt_eq_of_cover 13 _ (fun t _ => ?_) fun i => ?_
  · obtain ⟨-, -, ⟨e0, e1⟩, -⟩ := out_places t
    rw [(flushed m c t).2.2.1]
    funext y
    exact spread t (pieceQ_at m c t) (fun a => win0_13.index t a) e0 e1 y _ rfl rfl
  · obtain ⟨t, ht⟩ := point i
    obtain ⟨-, -, ⟨e0, e1⟩, -⟩ := out_places t
    refine ⟨t, flush0_13 t, ?_⟩
    show i ∈ ((View.whole main_v11_2).slice (win0_13.rect t)).set
    rw [View.set_slice_whole, Rect.mem_set_unit]
    exact ht (fun a => win0_13.index t a) e0 e1

theorem arrayO : (dats m 0 c).arrAt 14 cfg0.N = refO m c := by
  refine (dats m 0 c).arrAt_eq_of_cover 14 _ (fun t _ => ?_) fun i => ?_
  · obtain ⟨-, -, -, ⟨e0, e1⟩, -⟩ := out_places t
    rw [(flushed m c t).2.2.2.1]
    funext y
    exact spread t (pieceO_at m c t) (fun a => win0_14.index t a) e0 e1 y _ rfl rfl
  · obtain ⟨t, ht⟩ := point i
    obtain ⟨-, -, -, ⟨e0, e1⟩, -⟩ := out_places t
    refine ⟨t, flush0_14 t, ?_⟩
    show i ∈ ((View.whole main_v11_3).slice (win0_14.rect t)).set
    rw [View.set_slice_whole, Rect.mem_set_unit]
    exact ht (fun a => win0_14.index t a) e0 e1

theorem array2 : (dats m 0 c).arrAt 15 cfg0.N = ref2 m c := by
  refine (dats m 0 c).arrAt_eq_of_cover 15 _ (fun t _ => ?_) fun i => ?_
  · obtain ⟨-, -, -, -, ⟨e0, e1⟩, -⟩ := out_places t
    rw [(flushed m c t).2.2.2.2.1]
    funext y
    exact spread t (piece2_at m c t) (fun a => win0_15.index t a) e0 e1 y _ rfl rfl
  · obtain ⟨t, ht⟩ := point i
    obtain ⟨-, -, -, -, ⟨e0, e1⟩, -⟩ := out_places t
    refine ⟨t, flush0_15 t, ?_⟩
    show i ∈ ((View.whole main_v11_4).slice (win0_15.rect t)).set
    rw [View.set_slice_whole, Rect.mem_set_unit]
    exact ht (fun a => win0_15.index t a) e0 e1

theorem arrayL : (dats m 0 c).arrAt 16 cfg0.N = refL m c := by
  refine (dats m 0 c).arrAt_eq_of_cover 16 _ (fun t _ => ?_) fun i => ?_
  · obtain ⟨-, -, -, -, -, e0, e1⟩ := out_places t
    rw [(flushed m c t).2.2.2.2.2]
    funext y
    exact spread t (pieceL_at m c t) (fun a => win0_16.index t a) e0 e1 y _ rfl rfl
  · obtain ⟨t, ht⟩ := point i
    obtain ⟨-, -, -, -, -, e0, e1⟩ := out_places t
    refine ⟨t, flush0_16 t, ?_⟩
    show i ∈ ((View.whole main_v11_5).slice (win0_16.rect t)).set
    rw [View.set_slice_whole, Rect.mem_set_unit]
    exact ht (fun a => win0_16.index t a) e0 e1

theorem reference_frame : quiescent_OutXattnRefIdeal (hOutXattnRefIdeal := OutXattnRefIdeal.Gen.facts) := fun m g _ =>
  (θ_run _ _ _).mono
    (fun r h => ⟨fun c => (h c).2.2.2.2.2.2, sem_eq_zero_of_no_sems (by decide) r.2⟩)
    (OutXattnRefIdeal.Value.run (F := Ideal) m g)

open OutXattnRefIdeal.Read in
theorem result_congr {x0 x1 y0 y1 : Arr S8192x512 .f32} {x2 y2 : Arr S8192x1024 .f32}
    {x3 x5 x6 x7 x8 y3 y5 y6 y7 y8 : Arr S1024x1024 .f32} {x4 x9 y4 y9 : Arr S1024 .f32}
    (e0 : x0 = y0) (e1 : x1 = y1) (e2 : x2 = y2) (e3 : x3 = y3) (e4 : x4 = y4) (e5 : x5 = y5) (e6 : x6 = y6) (e7 : x7 = y7) (e8 : x8 = y8) (e9 : x9 = y9) :
    val_main_v2 x0 x1 x2 x3 = val_main_v2 y0 y1 y2 y3
    ∧ val_main_v52 x0 x1 x2 x3 x4 = val_main_v52 y0 y1 y2 y3 y4
    ∧ val_main_v53 x0 x1 x2 x3 x4 x5 = val_main_v53 y0 y1 y2 y3 y4 y5
    ∧ val_main_v54 x0 x1 x2 x3 x4 x5 x6 x7 = val_main_v54 y0 y1 y2 y3 y4 y5 y6 y7
    ∧ val_main_v38 x0 x1 x2 x3 x4 x5 x6 x7 x8 = val_main_v38 y0 y1 y2 y3 y4 y5 y6 y7 y8
    ∧ val_main_v55 x0 x1 x2 x3 x4 x5 x6 x7 x8 x9 = val_main_v55 y0 y1 y2 y3 y4 y5 y6 y7 y8 y9 := by
  subst e0 e1 e2 e3 e4 e5 e6 e7 e8 e9
  exact ⟨rfl, rfl, rfl, rfl, rfl, rfl⟩

/-- At the exact values the call's results are the reference's. -/
theorem values : algebraic_OutXattnIdeal_OutXattnRefIdeal (hOutXattnIdeal := OutXattnIdeal.Gen.facts)
    (hOutXattnRefIdeal := OutXattnRefIdeal.Gen.facts) := by
  intro m g m' g' _ hagree
  refine ⟨fun c => ref1 m c, fun c => refH m c, fun c => refQ m c, fun c => refO m c, fun c => ref2 m c, fun c => refL m c, ?_, ?_⟩
  · exact (θ_run _ _ _).mono (fun r h c => ⟨(h c).1.trans (array1 m c), (h c).2.1.trans (arrayH m c),
      (h c).2.2.1.trans (arrayQ m c), (h c).2.2.2.1.trans (arrayO m c), (h c).2.2.2.2.1.trans (array2 m c), (h c).2.2.2.2.2.1.trans (arrayL m c),
      (h c).2.2.2.2.2.2⟩) (OutXattnIdeal.Value.run_blocks (F := Ideal) m g)
  · refine (θ_run _ _ _).mono (fun r h c => ?_) (OutXattnRefIdeal.Value.run (F := Ideal) m' g')
    obtain ⟨e0, e1, e2, e3, e4, e5, e6, e7, e8, e9⟩ := hagree c
    have e := result_congr e0 e1 e2 e3 e4 e5 e6 e7 e8 e9
    exact ⟨((h c).1.trans (OutXattnRefIdeal.Read.val_main_v2_eq _ _ _ _)).trans e.1,
      ((h c).2.1.trans (OutXattnRefIdeal.Read.val_main_v52_eq _ _ _ _ _)).trans e.2.1,
      ((h c).2.2.1.trans (OutXattnRefIdeal.Read.val_main_v53_eq _ _ _ _ _ _)).trans e.2.2.1,
      ((h c).2.2.2.1.trans (OutXattnRefIdeal.Read.val_main_v54_eq m' c)).trans e.2.2.2.1,
      ((h c).2.2.2.2.1.trans (OutXattnRefIdeal.Read.val_main_v38_eq m' c)).trans e.2.2.2.2.1,
      ((h c).2.2.2.2.2.1.trans (OutXattnRefIdeal.Read.val_main_v55_eq m' c)).trans e.2.2.2.2.2, (h c).2.2.2.2.2.2⟩

end Cert.OutXattnIdeal.Layer

end
-- ==== Proof.MemProj.lean ====
/-
  The keys and the values of the cross attention's memory: its rows times a weight.
-/
module

public import proofs.«01_k».proof.Proof.Calls
public import proofs.«01_k».proof.Proof.Gen.MemProj.Frame
public import proofs.«01_k».proof.Proof.Gen.MemProjIdeal.Value
public import proofs.«01_k».proof.Proof.Gen.MemProjRefIdeal.Read

@[expose] public section

noncomputable section

namespace Cert.MemProjIdeal.Layer

open Idealize.ShloMosaic Idealize.ShloMosaic.TcCoe Idealize.SL.Sem
open Cert.MemProjIdeal Cert.MemProjIdeal.Gen
open scoped BigOperators

theorem pay_apply (x y : Vec Ideal S1024x1024 .bf16) (j : S1024x1024.Idx) :
    k0_pay1 x y j = ∑ k : Fin 1024, x (ix2 (j 0) k) * y (ix2 k (j 1)) := by
  unfold k0_pay1
  simp only [pointwise, shapeCast_self]
  rw [zero_add]

open MemProjRefIdeal.Read in
theorem ref_apply (x0 x1 : Arr S1024x1024 .f32)
    (i : S1024x1024.Idx) : val_main_v1 x0 x1 i = ∑ k : Fin 1024, x0 (ix2 (i 0) k) * x1 (ix2 k (i 1)) := by
  rw [val_main_v1_apply, val_main_v0_apply]
  refine Finset.sum_congr rfl fun k _ => congrArg₂ (· * ·) (congrArg x0 (funext fun a => ?_)) (congrArg x1 (funext fun a => ?_))
  · match a with | ⟨0, _⟩ => rfl | ⟨1, _⟩ => rfl
  · match a with | ⟨0, _⟩ => rfl | ⟨1, _⟩ => rfl

variable (m : (ℓ : Loc nD τ sig) → Buf (Elt Ideal) ℓ) (c : Dev nD)

/-- The rows and the weights, as launched. -/
def rows : Arr S1024x1024 .f32 := m ((c : Thread nD τ).loc main_arg0)
def weights : Arr S1024x1024 .f32 := m ((c : Thread nD τ).loc main_arg1)

theorem rows_at (i : S1024x1024.Idx) : (V m c main_v0 : S1024x1024.Idx → EReal) i = rows m c i := by
  unfold rows
  rw [← V_main_arg0 m c]; unfold V
  after_reads_simp <;> rfl

theorem weights_at (i : S1024x1024.Idx) : (V m c main_v1 : S1024x1024.Idx → EReal) i = weights m c i := by
  unfold weights
  rw [← V_main_arg1 m c]; unfold V
  after_reads_simp <;> rfl

/-- The result array. -/
def result : Arr S1024x1024 .bf16 := MemProjRefIdeal.Read.val_main_v1 (rows m c) (weights m c)

/-- The only grid point's blocks are the arrays. -/
theorem places : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 ∧ (cfg0.win 2).flush t = true :=
  (by decide +kernel : ∀ t : Fin grid0.N, _)

theorem blk0 (t : Fin cfg0.N) (y : S1024x1024.Idx) : (iblk m c 0 t : S1024x1024.Idx → EReal) y = rows m c y := by
  refine (rows_at m c (((cfg0.win 0).blk t).view.emb y)).trans (congrArg (rows m c) (funext fun a => Fin.ext ?_))
  obtain ⟨e0, e1, -⟩ := places t
  match a with
  | ⟨0, _⟩ => show win0_0.index t (0 : Fin 2) * 1024 + 1 * (y 0).val = (y 0).val; omega
  | ⟨1, _⟩ => show win0_0.index t (1 : Fin 2) * 1024 + 1 * (y 1).val = (y 1).val; omega

theorem blk1 (t : Fin cfg0.N) (y : S1024x1024.Idx) : (iblk m c 1 t : S1024x1024.Idx → EReal) y = weights m c y := by
  refine (weights_at m c (((cfg0.win 1).blk t).view.emb y)).trans (congrArg (weights m c) (funext fun a => Fin.ext ?_))
  obtain ⟨-, -, e0, e1, -⟩ := places t
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem spot (t : Fin cfg0.N) (y : S1024x1024.Idx) : (((cfg0.win 2).blk t).view.emb y : S1024x1024.Idx) = y := by
  obtain ⟨-, -, -, -, e0, e1, -⟩ := places t
  funext a
  apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- What the grid point writes back is the result. -/
theorem flushed (t : Fin cfg0.N) : (dats m 0 c).flushed 2 t = ((cfg0.win 2).blk t).view.read (Elt Ideal) (result m c) := by
  rw [Value.flushed2]
  funext y
  show out0_2 (iblk m c 0 t) (iblk m c 1 t) y = result m c (((cfg0.win 2).blk t).view.emb y)
  rw [spot]
  unfold out0_2 result
  rw [View.canon_unit_zero hz2, ref_apply]
  simp only [View.ld_unit_zero (S := S1024x1024) hz2]
  rw [pay_apply]
  simp only [blk0, blk1]

theorem covered (i : S1024x1024.Idx) : ∃ t : Fin cfg0.N, (cfg0.win 2).flush t = true ∧ i ∈ ((cfg0.win 2).blk t).view.set :=
  let t : Fin cfg0.N := ⟨0, by have : cfg0.N = 1 := N_0; omega⟩
  ⟨t, (places t).2.2.2.2.2.2, spot t i ▸ View.emb_mem_set _ i⟩

/-- The array the call leaves is the reference's. -/
theorem array : (dats m 0 c).arrAt 2 cfg0.N = result m c :=
  (dats m 0 c).arrAt_eq_of_cover 2 _ (fun t _ => flushed m c t) covered

theorem reference_frame : quiescent_MemProjRefIdeal (hMemProjRefIdeal := MemProjRefIdeal.Gen.facts) := fun m g _ =>
  (θ_run _ _ _).mono
    (fun r h => ⟨fun c => (h c).2, sem_eq_zero_of_no_sems (by decide) r.2⟩)
    (MemProjRefIdeal.Value.run (F := Ideal) m g)

open MemProjRefIdeal.Read in
theorem result_congr {x0 y0 x1 y1 : Arr S1024x1024 .f32}
    (e0 : x0 = y0) (e1 : x1 = y1) : val_main_v1 x0 x1 = val_main_v1 y0 y1 := by
  subst e0 e1
  rfl

/-- At the exact values the call's result is the reference's. -/
theorem values : algebraic_MemProjIdeal_MemProjRefIdeal (hMemProjIdeal := MemProjIdeal.Gen.facts)
    (hMemProjRefIdeal := MemProjRefIdeal.Gen.facts) := by
  intro m g m' g' _ hagree
  refine ⟨fun c => result m c, ?_, ?_⟩
  · exact (θ_run _ _ _).mono (fun r h c => ⟨(h c).1.trans (array m c), (h c).2⟩)
      (MemProjIdeal.Value.run_blocks (F := Ideal) m g)
  · refine (θ_run _ _ _).mono (fun r h c => ?_) (MemProjRefIdeal.Value.run (F := Ideal) m' g')
    obtain ⟨e0, e1⟩ := hagree c
    exact ⟨((h c).1.trans (MemProjRefIdeal.Read.val_main_v1_eq _ _)).trans (result_congr e0 e1), (h c).2⟩

end Cert.MemProjIdeal.Layer

end
-- ==== Proof.MemBwd.lean ====
/-
  The gradient through the memory's key weights: the cotangents' rows times the weights' rows.
-/
module

public import proofs.«01_k».proof.Proof.Calls
public import proofs.«01_k».proof.Proof.Gen.MemBwd.Frame
public import proofs.«01_k».proof.Proof.Gen.MemBwdIdeal.Value
public import proofs.«01_k».proof.Proof.Gen.MemBwdRefIdeal.Read

@[expose] public section

noncomputable section

namespace Cert.MemBwdIdeal.Layer

open Idealize.ShloMosaic Idealize.ShloMosaic.TcCoe Idealize.SL.Sem
open Cert.MemBwdIdeal Cert.MemBwdIdeal.Gen
open scoped BigOperators

theorem pay_apply (x y : Vec Ideal S1024x1024 .bf16) (j : S1024x1024.Idx) :
    k0_pay1 x y j = ∑ k : Fin 1024, x (ix2 (j 0) k) * y (ix2 (j 1) k) := by
  unfold k0_pay1
  simp only [pointwise, shapeCast_self]
  rw [zero_add]

open MemBwdRefIdeal.Read in
theorem ref_apply (x0 x1 : Arr S1024x1024 .f32)
    (i : S1024x1024.Idx) : val_main_v2 x0 x1 i = ∑ k : Fin 1024, x0 (ix2 (i 0) k) * x1 (ix2 (i 1) k) := by
  rw [val_main_v2_apply]
  refine Finset.sum_congr rfl fun k _ => congrArg₂ (· * ·) (congrArg x0 (funext fun a => ?_)) (congrArg x1 (funext fun a => ?_))
  · match a with | ⟨0, _⟩ => rfl | ⟨1, _⟩ => rfl
  · match a with | ⟨0, _⟩ => rfl | ⟨1, _⟩ => rfl

variable (m : (ℓ : Loc nD τ sig) → Buf (Elt Ideal) ℓ) (c : Dev nD)

/-- The rows and the weights, as launched. -/
def rows : Arr S1024x1024 .f32 := m ((c : Thread nD τ).loc main_arg0)
def weights : Arr S1024x1024 .f32 := m ((c : Thread nD τ).loc main_arg1)

theorem rows_at (i : S1024x1024.Idx) : (V m c main_v0 : S1024x1024.Idx → EReal) i = rows m c i := by
  unfold rows
  rw [← V_main_arg0 m c]; unfold V
  after_reads_simp <;> rfl

theorem weights_at (i : S1024x1024.Idx) : (V m c main_v1 : S1024x1024.Idx → EReal) i = weights m c i := by
  unfold weights
  rw [← V_main_arg1 m c]; unfold V
  after_reads_simp <;> rfl

/-- The result array. -/
def result : Arr S1024x1024 .f32 := MemBwdRefIdeal.Read.val_main_v2 (rows m c) (weights m c)

/-- The only grid point's blocks are the arrays. -/
theorem places : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 ∧ (cfg0.win 2).flush t = true :=
  (by decide +kernel : ∀ t : Fin grid0.N, _)

theorem blk0 (t : Fin cfg0.N) (y : S1024x1024.Idx) : (iblk m c 0 t : S1024x1024.Idx → EReal) y = rows m c y := by
  refine (rows_at m c (((cfg0.win 0).blk t).view.emb y)).trans (congrArg (rows m c) (funext fun a => Fin.ext ?_))
  obtain ⟨e0, e1, -⟩ := places t
  match a with
  | ⟨0, _⟩ => show win0_0.index t (0 : Fin 2) * 1024 + 1 * (y 0).val = (y 0).val; omega
  | ⟨1, _⟩ => show win0_0.index t (1 : Fin 2) * 1024 + 1 * (y 1).val = (y 1).val; omega

theorem blk1 (t : Fin cfg0.N) (y : S1024x1024.Idx) : (iblk m c 1 t : S1024x1024.Idx → EReal) y = weights m c y := by
  refine (weights_at m c (((cfg0.win 1).blk t).view.emb y)).trans (congrArg (weights m c) (funext fun a => Fin.ext ?_))
  obtain ⟨-, -, e0, e1, -⟩ := places t
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem spot (t : Fin cfg0.N) (y : S1024x1024.Idx) : (((cfg0.win 2).blk t).view.emb y : S1024x1024.Idx) = y := by
  obtain ⟨-, -, -, -, e0, e1, -⟩ := places t
  funext a
  apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- What the grid point writes back is the result. -/
theorem flushed (t : Fin cfg0.N) : (dats m 0 c).flushed 2 t = ((cfg0.win 2).blk t).view.read (Elt Ideal) (result m c) := by
  rw [Value.flushed2]
  funext y
  show out0_2 (iblk m c 0 t) (iblk m c 1 t) y = result m c (((cfg0.win 2).blk t).view.emb y)
  rw [spot]
  unfold out0_2 result
  rw [View.canon_unit_zero hz2, ref_apply]
  simp only [View.ld_unit_zero (S := S1024x1024) hz2]
  rw [pay_apply]
  simp only [blk0, blk1]

theorem covered (i : S1024x1024.Idx) : ∃ t : Fin cfg0.N, (cfg0.win 2).flush t = true ∧ i ∈ ((cfg0.win 2).blk t).view.set :=
  let t : Fin cfg0.N := ⟨0, by have : cfg0.N = 1 := N_0; omega⟩
  ⟨t, (places t).2.2.2.2.2.2, spot t i ▸ View.emb_mem_set _ i⟩

/-- The array the call leaves is the reference's. -/
theorem array : (dats m 0 c).arrAt 2 cfg0.N = result m c :=
  (dats m 0 c).arrAt_eq_of_cover 2 _ (fun t _ => flushed m c t) covered

theorem reference_frame : quiescent_MemBwdRefIdeal (hMemBwdRefIdeal := MemBwdRefIdeal.Gen.facts) := fun m g _ =>
  (θ_run _ _ _).mono
    (fun r h => ⟨fun c => (h c).2, sem_eq_zero_of_no_sems (by decide) r.2⟩)
    (MemBwdRefIdeal.Value.run (F := Ideal) m g)

open MemBwdRefIdeal.Read in
theorem result_congr {x0 y0 x1 y1 : Arr S1024x1024 .f32}
    (e0 : x0 = y0) (e1 : x1 = y1) : val_main_v2 x0 x1 = val_main_v2 y0 y1 := by
  subst e0 e1
  rfl

/-- At the exact values the call's result is the reference's. -/
theorem values : algebraic_MemBwdIdeal_MemBwdRefIdeal (hMemBwdIdeal := MemBwdIdeal.Gen.facts)
    (hMemBwdRefIdeal := MemBwdRefIdeal.Gen.facts) := by
  intro m g m' g' _ hagree
  refine ⟨fun c => result m c, ?_, ?_⟩
  · exact (θ_run _ _ _).mono (fun r h c => ⟨(h c).1.trans (array m c), (h c).2⟩)
      (MemBwdIdeal.Value.run_blocks (F := Ideal) m g)
  · refine (θ_run _ _ _).mono (fun r h c => ?_) (MemBwdRefIdeal.Value.run (F := Ideal) m' g')
    obtain ⟨e0, e1⟩ := hagree c
    exact ⟨((h c).1.trans (MemBwdRefIdeal.Read.val_main_v2_eq _ _)).trans (result_congr e0 e1), (h c).2⟩

end Cert.MemBwdIdeal.Layer

end
-- ==== Proof.MemSum.lean ====
/-
  The gradient through the memory's value weights, added to that through the key weights: the cotangents' rows times the weights' rows, over what was there.
-/
module

public import proofs.«01_k».proof.Proof.Calls
public import proofs.«01_k».proof.Proof.Gen.MemSum.Frame
public import proofs.«01_k».proof.Proof.Gen.MemSumIdeal.Value
public import proofs.«01_k».proof.Proof.Gen.MemSumRefIdeal.Read

@[expose] public section

noncomputable section

namespace Cert.MemSumIdeal.Layer

open Idealize.ShloMosaic Idealize.ShloMosaic.TcCoe Idealize.SL.Sem
open Cert.MemSumIdeal Cert.MemSumIdeal.Gen
open scoped BigOperators

theorem pay_apply (x y : Vec Ideal S1024x1024 .bf16) (r : Vec Ideal S1024x1024 .f32) (j : S1024x1024.Idx) :
    k0_pay1 x y r j = r j + ∑ k : Fin 1024, x (ix2 (j 0) k) * y (ix2 (j 1) k) := by
  unfold k0_pay1
  simp only [pointwise, shapeCast_self]
  rw [zero_add]

open MemSumRefIdeal.Read in
theorem ref_apply (x0 x1 x2 : Arr S1024x1024 .f32)
    (i : S1024x1024.Idx) : val_main_v3 x0 x1 x2 i = x2 i + ∑ k : Fin 1024, x0 (ix2 (i 0) k) * x1 (ix2 (i 1) k) := by
  rw [val_main_v3_apply, val_main_v2_apply]
  refine congrArg (x2 i + ·) (Finset.sum_congr rfl fun k _ => congrArg₂ (· * ·) (congrArg x0 (funext fun a => ?_)) (congrArg x1 (funext fun a => ?_)))
  · match a with | ⟨0, _⟩ => rfl | ⟨1, _⟩ => rfl
  · match a with | ⟨0, _⟩ => rfl | ⟨1, _⟩ => rfl

variable (m : (ℓ : Loc nD τ sig) → Buf (Elt Ideal) ℓ) (c : Dev nD)

/-- The rows, the weights and what is added to, as launched. -/
def rows : Arr S1024x1024 .f32 := m ((c : Thread nD τ).loc main_arg0)
def weights : Arr S1024x1024 .f32 := m ((c : Thread nD τ).loc main_arg1)

def before : Arr S1024x1024 .f32 := m ((c : Thread nD τ).loc main_arg2)

theorem rows_at (i : S1024x1024.Idx) : (V m c main_v0 : S1024x1024.Idx → EReal) i = rows m c i := by
  unfold rows
  rw [← V_main_arg0 m c]; unfold V
  after_reads_simp <;> rfl

theorem weights_at (i : S1024x1024.Idx) : (V m c main_v1 : S1024x1024.Idx → EReal) i = weights m c i := by
  unfold weights
  rw [← V_main_arg1 m c]; unfold V
  after_reads_simp <;> rfl

theorem before_at (i : S1024x1024.Idx) : (V m c main_arg2 : S1024x1024.Idx → EReal) i = before m c i := by
  unfold before
  rw [← V_main_arg2 m c]

/-- The result array. -/
def result : Arr S1024x1024 .f32 := MemSumRefIdeal.Read.val_main_v3 (rows m c) (weights m c) (before m c)

/-- The only grid point's blocks are the arrays. -/
theorem places : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 ∧ (cfg0.win 3).flush t = true :=
  (by decide +kernel : ∀ t : Fin grid0.N, _)

theorem blk0 (t : Fin cfg0.N) (y : S1024x1024.Idx) : (iblk m c 0 t : S1024x1024.Idx → EReal) y = rows m c y := by
  refine (rows_at m c (((cfg0.win 0).blk t).view.emb y)).trans (congrArg (rows m c) (funext fun a => Fin.ext ?_))
  obtain ⟨e0, e1, -⟩ := places t
  match a with
  | ⟨0, _⟩ => show win0_0.index t (0 : Fin 2) * 1024 + 1 * (y 0).val = (y 0).val; omega
  | ⟨1, _⟩ => show win0_0.index t (1 : Fin 2) * 1024 + 1 * (y 1).val = (y 1).val; omega

theorem blk1 (t : Fin cfg0.N) (y : S1024x1024.Idx) : (iblk m c 1 t : S1024x1024.Idx → EReal) y = weights m c y := by
  refine (weights_at m c (((cfg0.win 1).blk t).view.emb y)).trans (congrArg (weights m c) (funext fun a => Fin.ext ?_))
  obtain ⟨-, -, e0, e1, -⟩ := places t
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem blk2 (t : Fin cfg0.N) (y : S1024x1024.Idx) : (iblk m c 2 t : S1024x1024.Idx → EReal) y = before m c y := by
  refine (before_at m c (((cfg0.win 2).blk t).view.emb y)).trans (congrArg (before m c) (funext fun a => Fin.ext ?_))
  obtain ⟨-, -, -, -, e0, e1, -⟩ := places t
  match a with
  | ⟨0, _⟩ => show win0_2.index t (0 : Fin 2) * 1024 + 1 * (y 0).val = (y 0).val; omega
  | ⟨1, _⟩ => show win0_2.index t (1 : Fin 2) * 1024 + 1 * (y 1).val = (y 1).val; omega

theorem spot (t : Fin cfg0.N) (y : S1024x1024.Idx) : (((cfg0.win 3).blk t).view.emb y : S1024x1024.Idx) = y := by
  obtain ⟨-, -, -, -, -, -, e0, e1, -⟩ := places t
  funext a
  apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- What the grid point writes back is the result. -/
theorem flushed (t : Fin cfg0.N) : (dats m 0 c).flushed 3 t = ((cfg0.win 3).blk t).view.read (Elt Ideal) (result m c) := by
  rw [Value.flushed3]
  funext y
  show out0_3 (iblk m c 0 t) (iblk m c 1 t) (iblk m c 2 t) y = result m c (((cfg0.win 3).blk t).view.emb y)
  rw [spot]
  unfold out0_3 result
  rw [View.canon_unit_zero hz2, ref_apply]
  simp only [View.ld_unit_zero (S := S1024x1024) hz2]
  rw [pay_apply]
  simp only [blk0, blk1, blk2]

theorem covered (i : S1024x1024.Idx) : ∃ t : Fin cfg0.N, (cfg0.win 3).flush t = true ∧ i ∈ ((cfg0.win 3).blk t).view.set :=
  let t : Fin cfg0.N := ⟨0, by have : cfg0.N = 1 := N_0; omega⟩
  ⟨t, (places t).2.2.2.2.2.2.2.2, spot t i ▸ View.emb_mem_set _ i⟩

/-- The array the call leaves is the reference's. -/
theorem array : (dats m 0 c).arrAt 3 cfg0.N = result m c :=
  (dats m 0 c).arrAt_eq_of_cover 3 _ (fun t _ => flushed m c t) covered

theorem reference_frame : quiescent_MemSumRefIdeal (hMemSumRefIdeal := MemSumRefIdeal.Gen.facts) := fun m g _ =>
  (θ_run _ _ _).mono
    (fun r h => ⟨fun c => (h c).2, sem_eq_zero_of_no_sems (by decide) r.2⟩)
    (MemSumRefIdeal.Value.run (F := Ideal) m g)

open MemSumRefIdeal.Read in
theorem result_congr {x0 y0 x1 y1 x2 y2 : Arr S1024x1024 .f32}
    (e0 : x0 = y0) (e1 : x1 = y1) (e2 : x2 = y2) : val_main_v3 x0 x1 x2 = val_main_v3 y0 y1 y2 := by
  subst e0 e1 e2
  rfl

/-- At the exact values the call's result is the reference's. -/
theorem values : algebraic_MemSumIdeal_MemSumRefIdeal (hMemSumIdeal := MemSumIdeal.Gen.facts)
    (hMemSumRefIdeal := MemSumRefIdeal.Gen.facts) := by
  intro m g m' g' _ hagree
  refine ⟨fun c => result m c, ?_, ?_⟩
  · exact (θ_run _ _ _).mono (fun r h c => ⟨(h c).1.trans (array m c), (h c).2⟩)
      (MemSumIdeal.Value.run_blocks (F := Ideal) m g)
  · refine (θ_run _ _ _).mono (fun r h c => ?_) (MemSumRefIdeal.Value.run (F := Ideal) m' g')
    obtain ⟨e0, e1, e2⟩ := hagree c
    exact ⟨((h c).1.trans (MemSumRefIdeal.Read.val_main_v3_eq _ _ _)).trans (result_congr e0 e1 e2), (h c).2⟩

end Cert.MemSumIdeal.Layer

end
-- ==== Proof.GradMem.lean ====
/-
  The gradient of a weight of the memory's keys or values: the memory's rows, transposed, times the cotangents.
-/
module

public import proofs.«01_k».proof.Proof.Calls
public import proofs.«01_k».proof.Proof.Gen.GradMem.Frame
public import proofs.«01_k».proof.Proof.Gen.GradMemIdeal.Value
public import proofs.«01_k».proof.Proof.Gen.GradMemRefIdeal.Read
public import Idealize.ShloMosaic.Lib.Tactic

@[expose] public section

noncomputable section

namespace Cert.GradMemIdeal.Grad

open Idealize.ShloMosaic Idealize.ShloMosaic.TcCoe Idealize.ShloMosaic.Tactic Idealize.SL.Sem
open Cert.GradMemIdeal Cert.GradMemIdeal.Gen
open scoped BigOperators

theorem pay_apply (x y : Vec Ideal S1024x1024 .bf16) (j : S1024x1024.Idx) :
    k0_pay2 (k0_pay1 (F := Ideal)) x y j = ∑ k : Fin 1024, x (ix2 k (j 0)) * y (ix2 k (j 1)) := by
  unfold k0_pay2 k0_pay1
  simp only [pointwise, shapeCast_self]
  rw [zero_add, zero_add]

open GradMemRefIdeal.Read in
theorem ref_apply (x0 x1 : Arr S1024x1024 .f32)
    (i : S1024x1024.Idx) : val_main_v3 x0 x1 i = ∑ k : Fin 1024, x0 (ix2 k (i 0)) * x1 (ix2 k (i 1)) := by
  rw [val_main_v3_apply, val_main_v2_apply]
  refine Finset.sum_congr rfl fun k _ => (mul_comm _ _).trans
    (congrArg₂ (· * ·) (congrArg x0 (funext fun a => ?_)) (congrArg x1 (funext fun a => ?_)))
  · match a with | ⟨0, _⟩ => rfl | ⟨1, _⟩ => rfl
  · match a with | ⟨0, _⟩ => rfl | ⟨1, _⟩ => rfl

variable (m : (ℓ : Loc nD τ sig) → Buf (Elt Ideal) ℓ) (c : Dev nD)

/-- The rows and the cotangents, as launched. -/
def rows : Arr S1024x1024 .f32 := m ((c : Thread nD τ).loc main_arg0)
def cots : Arr S1024x1024 .f32 := m ((c : Thread nD τ).loc main_arg1)

theorem rows_at (i : S1024x1024.Idx) : (V m c main_v0 : S1024x1024.Idx → EReal) i = rows m c i := by
  unfold rows
  rw [← V_main_arg0 m c]; unfold V
  after_reads_simp <;> rfl

theorem cots_at (i : S1024x1024.Idx) : (V m c main_v1 : S1024x1024.Idx → EReal) i = cots m c i := by
  unfold cots
  rw [← V_main_arg1 m c]; unfold V
  after_reads_simp <;> rfl

/-- The result array. -/
def result : Arr S1024x1024 .f32 := GradMemRefIdeal.Read.val_main_v3 (rows m c) (cots m c)

/-- The only grid point's blocks are the arrays. -/
theorem places : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 ∧ (cfg0.win 2).flush t = true :=
  (by decide +kernel : ∀ t : Fin grid0.N, _)

theorem blk0 (t : Fin cfg0.N) (y : S1024x1024.Idx) : (iblk m c 0 t : S1024x1024.Idx → EReal) y = rows m c y := by
  refine (rows_at m c (((cfg0.win 0).blk t).view.emb y)).trans (congrArg (rows m c) (funext fun a => Fin.ext ?_))
  obtain ⟨e0, e1, -⟩ := places t
  match a with
  | ⟨0, _⟩ => show win0_0.index t (0 : Fin 2) * 1024 + 1 * (y 0).val = (y 0).val; omega
  | ⟨1, _⟩ => show win0_0.index t (1 : Fin 2) * 1024 + 1 * (y 1).val = (y 1).val; omega

theorem blk1 (t : Fin cfg0.N) (y : S1024x1024.Idx) : (iblk m c 1 t : S1024x1024.Idx → EReal) y = cots m c y := by
  refine (cots_at m c (((cfg0.win 1).blk t).view.emb y)).trans (congrArg (cots m c) (funext fun a => Fin.ext ?_))
  obtain ⟨-, -, e0, e1, -⟩ := places t
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem spot (t : Fin cfg0.N) (y : S1024x1024.Idx) : (((cfg0.win 2).blk t).view.emb y : S1024x1024.Idx) = y := by
  obtain ⟨-, -, -, -, e0, e1, -⟩ := places t
  funext a
  apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- What the grid point leaves in the output's block: the products, over zeros. -/
theorem left (t : Fin cfg0.N) : outsAt0 m c t = k0_pay2 (k0_pay1 (F := Ideal)) (iblk m c 0 t) (iblk m c 1 t) := by
  unfold outsAt0 out0_A_2
  refine (View.read_writes_eq_canon _ _ _ (by apply cover0_A_2)).trans ?_
  unfold kernelRun0_A
  dsimp only
  sl_unfold_words
  rw [View.canon_cons_unit_zero (S := S1024x1024) hz2, View.readCov_unit_zero (S := S1024x1024) _ hz2]
  simp only [View.readAt_eq_ld, (hs0_0 t).read_unread, (hs0_1 t).read_unread, View.ld_unit_zero (S := S1024x1024) hz2]

/-- What the grid point writes back is the result. -/
theorem flushed (t : Fin cfg0.N) : (dats m 0 c).flushed 2 t = ((cfg0.win 2).blk t).view.read (Elt Ideal) (result m c) := by
  rw [Value.flushed2, left]
  funext y
  show k0_pay2 (k0_pay1 (F := Ideal)) (iblk m c 0 t) (iblk m c 1 t) y = result m c (((cfg0.win 2).blk t).view.emb y)
  rw [spot]
  unfold result
  rw [ref_apply, pay_apply]
  simp only [blk0, blk1]

theorem covered (i : S1024x1024.Idx) : ∃ t : Fin cfg0.N, (cfg0.win 2).flush t = true ∧ i ∈ ((cfg0.win 2).blk t).view.set :=
  let t : Fin cfg0.N := ⟨0, by have : cfg0.N = 1 := N_0; omega⟩
  ⟨t, (places t).2.2.2.2.2.2, spot t i ▸ View.emb_mem_set _ i⟩

/-- The array the call leaves is the reference's. -/
theorem array : (dats m 0 c).arrAt 2 cfg0.N = result m c :=
  (dats m 0 c).arrAt_eq_of_cover 2 _ (fun t _ => flushed m c t) covered

theorem reference_frame : quiescent_GradMemRefIdeal (hGradMemRefIdeal := GradMemRefIdeal.Gen.facts) := fun m g _ =>
  (θ_run _ _ _).mono
    (fun r h => ⟨fun c => (h c).2, sem_eq_zero_of_no_sems (by decide) r.2⟩)
    (GradMemRefIdeal.Value.run (F := Ideal) m g)

open GradMemRefIdeal.Read in
theorem result_congr {x0 y0 x1 y1 : Arr S1024x1024 .f32}
    (e0 : x0 = y0) (e1 : x1 = y1) : val_main_v3 x0 x1 = val_main_v3 y0 y1 := by
  subst e0 e1
  rfl

/-- At the exact values the call's result is the reference's. -/
theorem values : algebraic_GradMemIdeal_GradMemRefIdeal (hGradMemIdeal := GradMemIdeal.Gen.facts)
    (hGradMemRefIdeal := GradMemRefIdeal.Gen.facts) := by
  intro m g m' g' _ hagree
  refine ⟨fun c => result m c, ?_, ?_⟩
  · exact (θ_run _ _ _).mono (fun r h c => ⟨(h c).1.trans (array m c), (h c).2⟩)
      (GradMemIdeal.Value.run_blocks (F := Ideal) m g)
  · refine (θ_run _ _ _).mono (fun r h c => ?_) (GradMemRefIdeal.Value.run (F := Ideal) m' g')
    obtain ⟨e0, e1⟩ := hagree c
    exact ⟨((h c).1.trans (GradMemRefIdeal.Read.val_main_v3_eq _ _)).trans (result_congr e0 e1), (h c).2⟩

end Cert.GradMemIdeal.Grad

end
-- ==== Proof.GradGate.lean ====
/-
  The gradient of the gate's columns of the mixer's input weight: the rows, transposed, times the cotangents, gathered over the blocks of rows.
-/
module

public import proofs.«01_k».proof.Proof.Calls
public import proofs.«01_k».proof.Proof.RowSums
public import proofs.«01_k».proof.Proof.Gen.GradGate.Frame
public import proofs.«01_k».proof.Proof.Gen.GradGateIdeal.Value
public import proofs.«01_k».proof.Proof.Gen.GradGateRefIdeal.Read

@[expose] public section

noncomputable section

namespace Cert.GradGateIdeal.Grad

open Idealize.ShloMosaic Idealize.ShloMosaic.TcCoe Idealize.SL.Sem
open Cert.GradGateIdeal Cert.GradGateIdeal.Gen
open scoped BigOperators

theorem pay_zero (j : S1024x128.Idx) : k0_pay1 (F := Ideal) j = 0 := by
  unfold k0_pay1
  simp only [pointwise]

theorem pay_add (a : Vec Ideal S1024x128 .f32) (x : Vec Ideal S2048x1024 .bf16) (y : Vec Ideal S2048x128 .bf16) (j : S1024x128.Idx) :
    k0_pay2 a x y j = a j + ∑ k : Fin 2048, x (ix2 k (j 0)) * y (ix2 k (j 1)) := by
  unfold k0_pay2
  simp only [pointwise, shapeCast_self]
  rw [zero_add]

theorem lhs_at (i : S1024x128.Idx) (k : Fin 8192) :
    GradGateRefIdeal.Read.lidx_main_v2 (GradGateRefIdeal.Read.idx_main_v3 i) k = ix2 k (i 1) :=
  funext fun a => by match a with | ⟨0, _⟩ => rfl | ⟨1, _⟩ => rfl

theorem rhs_at (i : S1024x128.Idx) (k : Fin 8192) :
    GradGateRefIdeal.Read.ridx_main_v2 (GradGateRefIdeal.Read.idx_main_v3 i) k = ix2 k (i 0) :=
  funext fun a => by match a with | ⟨0, _⟩ => rfl | ⟨1, _⟩ => rfl

open GradGateRefIdeal.Read in
theorem ref_apply (x0 : Arr S8192x1024 .f32) (x1 : Arr S8192x128 .f32)
    (i : S1024x128.Idx) : val_main_v3 x0 x1 i = ∑ k : Fin 8192, x0 (ix2 k (i 0)) * x1 (ix2 k (i 1)) := by
  rw [val_main_v3_apply, val_main_v2_apply]
  simp only [lhs_at, rhs_at]
  exact Finset.sum_congr rfl fun k _ => mul_comm _ _

variable (m : (ℓ : Loc nD τ sig) → Buf (Elt Ideal) ℓ) (c : Dev nD)

/-- The rows, as launched. -/
def rows : Arr S8192x1024 .f32 := m ((c : Thread nD τ).loc main_arg0)
/-- The cotangents, as launched. -/
def cots : Arr S8192x128 .f32 := m ((c : Thread nD τ).loc main_arg1)

theorem rows_at (i : S8192x1024.Idx) : (V m c main_v0 : S8192x1024.Idx → EReal) i = rows m c i := by
  unfold rows
  rw [← V_main_arg0 m c]; unfold V
  after_reads_simp <;> rfl

theorem cots_at (i : S8192x128.Idx) : (V m c main_v1 : S8192x128.Idx → EReal) i = cots m c i := by
  unfold cots
  rw [← V_main_arg1 m c]; unfold V
  after_reads_simp <;> rfl

/-- The result array. -/
def result : Arr S1024x128 .f32 := GradGateRefIdeal.Read.val_main_v3 (rows m c) (cots m c)

/-- Where each grid point's blocks lie: four points in turn take four blocks of rows. -/
theorem places : ∀ t : Fin cfg0.N, win0_0.index t (0 : Fin 2) = t.val % 4 ∧ win0_0.index t (1 : Fin 2) = 0
    ∧ win0_1.index t (0 : Fin 2) = t.val % 4 ∧ win0_1.index t (1 : Fin 2) = 0 :=
  (by decide +kernel : ∀ t : Fin grid0.N, _)

/-- A grid point's block of rows, and its block of cotangents. -/
def rowBlock (t : Fin cfg0.N) : Vec Ideal S2048x1024 .bf16 := iblk m c 0 t
def cotBlock (t : Fin cfg0.N) : Vec Ideal S2048x128 .bf16 := iblk m c 1 t

/-- The sum over a block's rows of the products of two columns. -/
def columns (x : S2048x1024.Idx → EReal) (y : S2048x128.Idx → EReal) (j : S1024x128.Idx) : EReal := ∑ k : Fin 2048, x (ix2 k (j 0)) * y (ix2 k (j 1))

/-- The products a grid point adds. -/
def addend (n : ℕ) (j : S1024x128.Idx) : EReal :=
  if h : n < cfg0.N then columns (rowBlock m c ⟨n, h⟩) (cotBlock m c ⟨n, h⟩) j else 0

theorem fold (b : ℕ) (h : b + 3 < cfg0.N) (j : S1024x128.Idx) :
    Pipeline.accAt (Value.reset2 m c) (Value.step2 m c) b 3 h j = ∑ s ∈ Finset.range 4, addend m c (b + s) j := by
  refine (Pipeline.accAt_add_apply (Value.reset2 m c) (Value.step2 m c) (fun _ => (0 : EReal)) (addend m c) b 3 ?_ ?_ 3 le_rfl h j).trans (zero_add _)
  · intro hb i
    unfold Value.reset2 addend
    rw [dif_pos hb]
    exact (pay_add _ _ _ i).trans (congrArg (· + _) (pay_zero i))
  · intro n hn acc i _ _
    unfold Value.step2 addend
    rw [dif_pos hn]
    exact pay_add _ _ _ i

theorem blk0 (t : Fin cfg0.N) (k : Fin 2048) (a : Fin 1024) (r : Fin 8192) (hr : r.val = 2048 * (t.val % 4) + k.val) :
    (iblk m c 0 t : S2048x1024.Idx → EReal) (ix2 k a) = rows m c (ix2 r a) := by
  refine (rows_at m c (((cfg0.win 0).blk t).view.emb (ix2 k a))).trans (congrArg (rows m c) (funext fun a' => Fin.ext ?_))
  obtain ⟨e0, e1, -⟩ := places t
  match a' with
  | ⟨0, _⟩ => show win0_0.index t (0 : Fin 2) * 2048 + 1 * k.val = r.val; omega
  | ⟨1, _⟩ => show win0_0.index t (1 : Fin 2) * 1024 + 1 * a.val = a.val; omega

theorem blk1 (t : Fin cfg0.N) (k : Fin 2048) (b : Fin 128) (r : Fin 8192) (hr : r.val = 2048 * (t.val % 4) + k.val) :
    (iblk m c 1 t : S2048x128.Idx → EReal) (ix2 k b) = cots m c (ix2 r b) := by
  refine (cots_at m c (((cfg0.win 1).blk t).view.emb (ix2 k b))).trans (congrArg (cots m c) (funext fun a' => Fin.ext ?_))
  obtain ⟨-, -, e0, e1⟩ := places t
  match a' with
  | ⟨0, _⟩ => show win0_1.index t (0 : Fin 2) * 2048 + 1 * k.val = r.val; omega
  | ⟨1, _⟩ => show win0_1.index t (1 : Fin 2) * 128 + 1 * b.val = b.val; omega

/-- The array the call leaves is the reference's. -/
theorem array : Value.G2 m c = result m c := by
  funext i
  have hN : cfg0.N = 4 := N_0
  have h0 : (i 0).val < 1024 := (i 0).isLt
  have h1 : (i 1).val < 128 := (i 1).isLt
  have hq : Value.run2Of i = 0 := by
    unfold Value.run2Of
    omega
  unfold Value.G2 result
  rw [dif_pos (by rw [hq]; omega), ref_apply, fold]
  refine RowSums.four_blocks (fun k => rows m c (ix2 k (i 0)) * cots m c (ix2 k (i 1))) _ fun s hs => ?_
  have hn : 4 * Value.run2Of i + s < cfg0.N := by rw [hq]; omega
  unfold addend
  rw [dif_pos hn]
  refine Finset.sum_congr rfl fun k _ => ?_
  have hr : 2048 * s + k.val = 2048 * ((4 * Value.run2Of i + s) % 4) + k.val := by omega
  refine congrArg₂ (· * ·) ((blk0 m c ⟨_, hn⟩ k _ ⟨2048 * s + k.val, by have := k.isLt; omega⟩ hr).trans ?_)
    ((blk1 m c ⟨_, hn⟩ k _ ⟨2048 * s + k.val, by have := k.isLt; omega⟩ hr).trans ?_)
  · refine congrArg (rows m c) (congrArg (ix2 _) (Fin.ext ?_))
    show (i 0).val % 1024 = (i 0).val
    omega
  · refine congrArg (cots m c) (congrArg (ix2 _) (Fin.ext ?_))
    show (i 1).val % 128 = (i 1).val
    omega

theorem reference_frame : quiescent_GradGateRefIdeal (hGradGateRefIdeal := GradGateRefIdeal.Gen.facts) := fun m g _ =>
  (θ_run _ _ _).mono
    (fun r h => ⟨fun c => (h c).2, sem_eq_zero_of_no_sems (by decide) r.2⟩)
    (GradGateRefIdeal.Value.run (F := Ideal) m g)

open GradGateRefIdeal.Read in
theorem result_congr {x0 y0 : Arr S8192x1024 .f32} {x1 y1 : Arr S8192x128 .f32}
    (e0 : x0 = y0) (e1 : x1 = y1) : val_main_v3 x0 x1 = val_main_v3 y0 y1 := by
  subst e0 e1
  rfl

/-- At the exact values the call's result is the reference's. -/
theorem values : algebraic_GradGateIdeal_GradGateRefIdeal (hGradGateIdeal := GradGateIdeal.Gen.facts)
    (hGradGateRefIdeal := GradGateRefIdeal.Gen.facts) := by
  intro m g m' g' _ hagree
  refine ⟨fun c => result m c, ?_, ?_⟩
  · exact (θ_run _ _ _).mono (fun r h c => ⟨(h c).1.trans (array m c), (h c).2⟩)
      (GradGateIdeal.Value.run (F := Ideal) m g)
  · refine (θ_run _ _ _).mono (fun r h c => ?_) (GradGateRefIdeal.Value.run (F := Ideal) m' g')
    obtain ⟨e0, e1⟩ := hagree c
    exact ⟨((h c).1.trans (GradGateRefIdeal.Read.val_main_v3_eq _ _)).trans (result_congr e0 e1), (h c).2⟩

end Cert.GradGateIdeal.Grad

end
-- ==== Proof.NormMem.lean ====
/-
  The memory's norm: a row's entries over its root mean square, times the gain.
-/
module

public import proofs.«01_k».proof.Proof.Calls
public import proofs.«01_k».proof.Proof.Norm
public import proofs.«01_k».proof.Proof.Gen.NormMem.Frame
public import proofs.«01_k».proof.Proof.Gen.NormMemIdeal.Value
public import proofs.«01_k».proof.Proof.Gen.NormMemRefIdeal.Read

@[expose] public section

noncomputable section

namespace Cert.NormMemIdeal.Norm

open Idealize.ShloMosaic Idealize.ShloMosaic.TcCoe Idealize.SL.Sem
open Cert.NormMemIdeal Cert.NormMemIdeal.Gen Cert.Norm
open scoped BigOperators

/-- A normed row's entry. -/
def normed (g x : Fin 1024 → EReal) (j : Fin 1024) : EReal := x j * Ideal.rsqrt (meanSq x) * g j

theorem pay_normed (v0 : Vec Ideal S512x1024 .f32) (v1 : Vec Ideal S1x1024 .f32) (j : S512x1024.Idx) :
    k0_pay1 v0 v1 j = normed (fun k => v1 (ix2 0 k)) (fun k => v0 (ix2 (j 0) k)) (j 1) := by
  have e : v0 j = v0 (ix2 (j 0) (j 1)) := congrArg v0 (funext fun a => by match a with | ⟨0, _⟩ => rfl | ⟨1, _⟩ => rfl)
  unfold k0_pay1 normed meanSq
  simp only [pointwise, shapeCast_self]
  rw [e]
  rfl

section Reference

open NormMemRefIdeal.Read

variable (x0 : Arr S1024x1024 .f32) (x1 : Arr S1024 .f32)

theorem ref_meanSq (i : NormMemRefIdeal.S1024x1.Idx) : val_main_v6 x0 i = meanSq fun k => x0 (ix2 (i 0) k) := by
  rw [val_main_v6_apply, val_main_v4_apply, val_main_v2_apply, val_main_v1_apply, val_main_v3_apply, val_main_v5_apply]
  simp only [val_main_v0_apply, val_main_cst_apply, val_main_cst_0_apply, val_main_cst_1_apply]
  show Ideal.div (Ideal.ofBits .f32 0x00000000#32 + _) _ + _ = _
  rw [Ideal.ofBits_zero_f32, zero_add]
  unfold meanSq
  refine congrArg (fun s => Ideal.div s _ + _) (Finset.sum_congr rfl fun k _ => ?_)
  have e : idx_main_v1 (idx_main_v2 i) k = ix2 (i 0) k := funext fun a => by match a with | ⟨0, _⟩ => rfl | ⟨1, _⟩ => rfl
  rw [e]
  rfl

theorem ref_root (i : NormMemRefIdeal.S1024x1.Idx) : val_main_v7 x0 i = Ideal.rsqrt (meanSq fun k => x0 (ix2 (i 0) k)) := by
  rw [val_main_v7_apply, ref_meanSq]
  rfl

theorem ref_normed (i : S1024x1024.Idx) : val_main_v13 x0 x1 i = normed (fun k => x1 (ix1 k)) (fun k => x0 (ix2 (i 0) k)) (i 1) := by
  rw [val_main_v13_apply, val_main_v12_apply, val_main_v9_apply, val_main_v8_apply, ref_root, val_main_v11_apply, val_main_v10_apply]
  have e : x0 i = x0 (ix2 (i 0) (i 1)) := congrArg x0 (funext fun a => by match a with | ⟨0, _⟩ => rfl | ⟨1, _⟩ => rfl)
  rw [e]
  refine congrArg (_ * ·) (congrArg x1 (funext fun a => ?_))
  match a with | ⟨0, _⟩ => rfl

end Reference

variable (m : (ℓ : Loc nD τ sig) → Buf (Elt Ideal) ℓ) (c : Dev nD)

/-- The memory's rows and the norm's gain, as launched. -/
def rows : Arr S1024x1024 .f32 := m ((c : Thread nD τ).loc main_arg0)
def gains : Arr S1024 .f32 := m ((c : Thread nD τ).loc main_arg1)

theorem gains_at (i : S1x1024.Idx) : (V m c main_v0 : S1x1024.Idx → EReal) i = gains m c (ix1 (i 1)) := by
  have e : (V m c main_v0 : S1x1024.Idx → EReal) = Idealize.ShloMosaic.shapeCast S1x1024 (gains m c) shapeCasts_S1024_S1x1024 := by
    unfold gains
    rw [← V_main_arg1 m c]; unfold V
    after_reads_simp <;> rfl
  rw [e]
  refine shapeCast_apply _ shapeCasts_S1024_S1x1024 i (ix1 (i 1)) ?_
  have h0 : (i 0).val < 1 := (i 0).isLt
  rw [Shape.rowMajor_val_one, Shape.rowMajor_val_two]
  show (i 1).val = (i 0).val * 1024 + (i 1).val
  omega

/-- The result array. -/
def result : Arr S1024x1024 .bf16 := NormMemRefIdeal.Read.val_main_v13 (rows m c) (gains m c)

theorem places : ∀ t : Fin cfg0.N, (win0_0.index t (0 : Fin 2) = t.val ∧ win0_0.index t (1 : Fin 2) = 0)
    ∧ (win0_1.index t (0 : Fin 2) = 0 ∧ win0_1.index t (1 : Fin 2) = 0) ∧ win0_2.index t (0 : Fin 2) = t.val ∧ win0_2.index t (1 : Fin 2) = 0 :=
  (by decide +kernel : ∀ t : Fin grid0.N, _)

/-- Where an index of the output's block lies in the array. -/
def spot (t : Fin cfg0.N) (y : S512x1024.Idx) : S1024x1024.Idx := ((cfg0.win 2).blk t).view.emb y

theorem spot_1 (t : Fin cfg0.N) (y : S512x1024.Idx) : spot t y 1 = y 1 := by
  obtain ⟨-, -, -, e1⟩ := places t
  refine Fin.ext ?_
  show win0_2.index t (1 : Fin 2) * 1024 + 1 * (y 1).val = (y 1).val
  omega

theorem blk0 (t : Fin cfg0.N) (y : S512x1024.Idx) (k : Fin 1024) :
    (iblk m c 0 t : S512x1024.Idx → EReal) (ix2 (y 0) k) = rows m c (ix2 (spot t y 0) k) := by
  refine (congrFun (V_main_arg0 m c) (((cfg0.win 0).blk t).view.emb (ix2 (y 0) k))).trans (congrArg (rows m c) (funext fun a => Fin.ext ?_))
  obtain ⟨⟨e0, e1⟩, -, e2, -⟩ := places t
  match a with
  | ⟨0, _⟩ => show win0_0.index t (0 : Fin 2) * 512 + 1 * (y 0).val = win0_2.index t (0 : Fin 2) * 512 + 1 * (y 0).val; omega
  | ⟨1, _⟩ => show win0_0.index t (1 : Fin 2) * 1024 + 1 * k.val = k.val; omega

theorem blk1 (t : Fin cfg0.N) (k : Fin 1024) : (iblk m c 1 t : S1x1024.Idx → EReal) (ix2 0 k) = gains m c (ix1 k) := by
  refine (gains_at m c (((cfg0.win 1).blk t).view.emb (ix2 0 k))).trans (congrArg (fun j => gains m c (ix1 j)) (Fin.ext ?_))
  obtain ⟨-, ⟨-, e1⟩, -⟩ := places t
  show win0_1.index t (1 : Fin 2) * 1024 + 1 * k.val = k.val
  omega

/-- What a grid point writes back is its block of the result. -/
theorem flushed (t : Fin cfg0.N) : (dats m 0 c).flushed 2 t = ((cfg0.win 2).blk t).view.read (Elt Ideal) (result m c) := by
  rw [Value.flushed2]
  funext y
  show out0_2 (iblk m c 0 t) (iblk m c 1 t) y = result m c (spot t y)
  unfold out0_2 result
  rw [View.canon_unit_zero hz2, ref_normed]
  simp only [View.ld_unit_zero (S := S512x1024) hz2, View.ld_unit_zero (S := S1x1024) hz2]
  rw [pay_normed, spot_1]
  simp only [blk0, blk1]

theorem N_2 : cfg0.N = 2 := N_0

theorem covered (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  have hN := N_2
  obtain ⟨t, ht⟩ : ∃ t : Fin cfg0.N, t.val = (i 0).val / 512 := ⟨⟨(i 0).val / 512, by omega⟩, rfl⟩
  obtain ⟨-, -, e0, e1⟩ := places t
  refine ⟨t, flush0_2 t, ?_⟩
  show i ∈ ((View.whole main_v1).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The array the call leaves is the reference's. -/
theorem array : (dats m 0 c).arrAt 2 cfg0.N = result m c :=
  (dats m 0 c).arrAt_eq_of_cover 2 _ (fun t _ => flushed m c t) covered

theorem reference_frame : quiescent_NormMemRefIdeal (hNormMemRefIdeal := NormMemRefIdeal.Gen.facts) := fun m g _ =>
  (θ_run _ _ _).mono
    (fun r h => ⟨fun c => (h c).2, sem_eq_zero_of_no_sems (by decide) r.2⟩)
    (NormMemRefIdeal.Value.run (F := Ideal) m g)

open NormMemRefIdeal.Read in
theorem result_congr {x0 y0 : Arr S1024x1024 .f32} {x1 y1 : Arr S1024 .f32}
    (e0 : x0 = y0) (e1 : x1 = y1) : val_main_v13 x0 x1 = val_main_v13 y0 y1 := by
  subst e0 e1
  rfl

/-- At the exact values the call's result is the reference's. -/
theorem values : algebraic_NormMemIdeal_NormMemRefIdeal (hNormMemIdeal := NormMemIdeal.Gen.facts)
    (hNormMemRefIdeal := NormMemRefIdeal.Gen.facts) := by
  intro m g m' g' _ hagree
  refine ⟨fun c => result m c, ?_, ?_⟩
  · exact (θ_run _ _ _).mono (fun r h c => ⟨(h c).1.trans (array m c), (h c).2⟩)
      (NormMemIdeal.Value.run_blocks (F := Ideal) m g)
  · refine (θ_run _ _ _).mono (fun r h c => ?_) (NormMemRefIdeal.Value.run (F := Ideal) m' g')
    obtain ⟨e0, e1⟩ := hagree c
    exact ⟨((h c).1.trans (NormMemRefIdeal.Read.val_main_v13_eq ..)).trans (result_congr e0 e1), (h c).2⟩

end Cert.NormMemIdeal.Norm

end
-- ==== Proof.NormMemBwd.lean ====
/-
  The gradient through the memory's norm: of the memory's rows, and of the norm's gain.
-/
module

public import proofs.«01_k».proof.Proof.Calls
public import proofs.«01_k».proof.Proof.Norm
public import proofs.«01_k».proof.Proof.RowSums
public import proofs.«01_k».proof.Proof.Gen.NormMemBwd.Frame
public import proofs.«01_k».proof.Proof.Gen.NormMemBwdIdeal.Value
public import proofs.«01_k».proof.Proof.Gen.NormMemBwdRefIdeal.Read

@[expose] public section

noncomputable section

namespace Cert.NormMemBwdIdeal.Norm

open Idealize.ShloMosaic Idealize.ShloMosaic.TcCoe Idealize.SL.Sem
open Cert.NormMemBwdIdeal Cert.NormMemBwdIdeal.Gen Cert.Norm
open scoped BigOperators

theorem pay_root (v0 : Vec Ideal S512x1024 .f32) (i : S512x1.Idx) :
    k0_pay2 v0 i = Ideal.rsqrt (meanSq fun k => v0 (ix2 (i 0) k)) := by
  unfold k0_pay2 meanSq
  simp only [pointwise, shapeCast_self]

theorem pay_entry (v0 v1 : Vec Ideal S512x1024 .f32) (v2 : Vec Ideal S1x1024 .f32) (i : S512x1024.Idx) : k0_pay3 v0 v1 v2 i
      = entry (fun k => v1 (ix2 (i 0) k)) (fun k => v2 (ix2 0 k)) (fun k => v0 (ix2 (i 0) k)) 0 (i 1) := by
  have e0 : v0 i = v0 (ix2 (i 0) (i 1)) := congrArg v0 (funext fun a => by match a with | ⟨0, _⟩ => rfl | ⟨1, _⟩ => rfl)
  have e1 : v1 i = v1 (ix2 (i 0) (i 1)) := congrArg v1 (funext fun a => by match a with | ⟨0, _⟩ => rfl | ⟨1, _⟩ => rfl)
  unfold k0_pay3 entry
  simp only [pointwise, shapeCast_self, pay_root]
  rw [zero_add, e0, e1]
  rfl

theorem pay_gain (v0 v1 : Vec Ideal S512x1024 .f32) (a : Vec Ideal S1x1024 .f32) (i : S1x1024.Idx) :
    k0_pay1 (k0_pay4 v0 v1) a i = a i + ∑ p : Fin 512, gain (fun k => v1 (ix2 p k)) (fun k => v0 (ix2 p k)) (i 1) := by
  unfold k0_pay1 k0_pay4 gain
  simp only [pointwise, shapeCast_self, pay_root]
  rfl

theorem pay_zero (i : S1x1024.Idx) : k0_pay6 (F := Ideal) i = 0 := by
  unfold k0_pay6
  simp only [pointwise]

section Reference

open NormMemBwdRefIdeal.Read

variable (x0 x1 : Arr S1024x1024 .f32) (x2 : Arr S1024 .f32)

theorem ref_meanSq (i : NormMemBwdRefIdeal.S1024x1.Idx) : val_main_v6 x0 i = meanSq fun k => x0 (ix2 (i 0) k) := by
  rw [val_main_v6_apply, val_main_v4_apply, val_main_v2_apply, val_main_v1_apply, val_main_v3_apply, val_main_v5_apply]
  simp only [val_main_v0_apply, val_main_cst_apply, val_main_cst_0_apply, val_main_cst_1_apply]
  show Ideal.div (Ideal.ofBits .f32 0x00000000#32 + _) _ + _ = _
  rw [Ideal.ofBits_zero_f32, zero_add]
  unfold meanSq
  refine congrArg (fun s => Ideal.div s _ + _) (Finset.sum_congr rfl fun k _ => ?_)
  have e : idx_main_v1 (idx_main_v2 i) k = ix2 (i 0) k := funext fun a => by match a with | ⟨0, _⟩ => rfl | ⟨1, _⟩ => rfl
  rw [e]
  rfl

theorem ref_root (i : NormMemBwdRefIdeal.S1024x1.Idx) : val_main_v7 x0 i = Ideal.rsqrt (meanSq fun k => x0 (ix2 (i 0) k)) := by
  rw [val_main_v7_apply, ref_meanSq]
  rfl

theorem ref_scaled (i : S1024x1024.Idx) : val_main_v20 x1 x2 i = x1 (ix2 (i 0) (i 1)) * x2 (ix1 (i 1)) := by
  rw [val_main_v20_apply, val_main_v19_apply, val_main_v13_apply]
  have e : x1 i = x1 (ix2 (i 0) (i 1)) := congrArg x1 (funext fun a => by match a with | ⟨0, _⟩ => rfl | ⟨1, _⟩ => rfl)
  rw [e]
  refine congrArg (_ * ·) (congrArg x2 (funext fun a => ?_))
  match a with | ⟨0, _⟩ => rfl

theorem ref_part (i : S1024x1024.Idx) : val_main_v31 x0 x1 x2 i
    = Ideal.div ((∑ k, x1 (ix2 (i 0) k) * x2 (ix1 k) * x0 (ix2 (i 0) k)) * (Ideal.ofBits .f32 0xBF000000#32
        * Ideal.div (Ideal.rsqrt (meanSq fun k => x0 (ix2 (i 0) k))) (meanSq fun k => x0 (ix2 (i 0) k)))) (Ideal.ofBits .f32 0x44800000#32) := by
  rw [val_main_v31_apply, val_main_v30_apply, Fin.sum_univ_one, val_main_v29_apply, val_main_v27_apply, val_main_v10_apply, val_main_v8_apply,
    ref_root, ref_meanSq, val_main_v24_apply, val_main_v23_apply, val_main_v9_apply, val_main_v28_apply]
  simp only [val_main_v22_apply, ref_scaled, val_main_cst_2_apply, val_main_cst_5_apply, val_main_cst_6_apply, val_main_cst_7_apply]
  show Ideal.ofBits .f32 0x00000000#32 + Ideal.div ((Ideal.ofBits .f32 0x00000000#32 + _) * _) _ = _
  rw [Ideal.ofBits_zero_f32, zero_add, zero_add]
  refine congrArg (fun s => Ideal.div (s * _) _) (Finset.sum_congr rfl fun k _ => ?_)
  have e : idx_main_v23 (idx_main_v24 (idx_main_v30 (idx_main_v31 i) 0)) k = ix2 (i 0) k := funext fun a => Fin.ext (by
    match a with
    | ⟨0, _⟩ => show (i 0).val * 1 + 0 = (i 0).val; omega
    | ⟨1, _⟩ => rfl)
  rw [e]
  exact mul_comm _ _

theorem ref_entry (i : S1024x1024.Idx) : val_main_v35 x0 x1 x2 i
    = entry (fun k => x1 (ix2 (i 0) k)) (fun k => x2 (ix1 k)) (fun k => x0 (ix2 (i 0) k)) 0 (i 1) := by
  rw [val_main_v35_apply, val_main_v33_apply, val_main_v34_apply, val_main_v32_apply, val_main_v26_apply, val_main_v25_apply,
    ref_root, ref_scaled, ref_part]
  have e : x0 i = x0 (ix2 (i 0) (i 1)) := congrArg x0 (funext fun a => by match a with | ⟨0, _⟩ => rfl | ⟨1, _⟩ => rfl)
  rw [e]
  exact (forms _ _ _ _ (meanSq_pos _)).trans (zero_add _).symm

theorem ref_gain (i : S1x1024.Idx) : val_main_v37 x0 x1 i
    = ∑ p : Fin 1024, gain (fun k => x1 (ix2 p k)) (fun k => x0 (ix2 p k)) (i 1) := by
  have h0 : (i 0).val < 1 := (i 0).isLt
  rw [val_main_v37_apply, val_main_v21_apply, Fin.sum_univ_one, val_main_v18_apply, val_main_v17_apply]
  simp only [val_main_v16_apply, val_main_v12_apply, val_main_v11_apply, ref_root, val_main_cst_3_apply, val_main_cst_4_apply]
  show Ideal.ofBits .f32 0x00000000#32 + (Ideal.ofBits .f32 0x00000000#32 + _) = _
  rw [Ideal.ofBits_zero_f32, zero_add, zero_add]
  refine Finset.sum_congr rfl fun p _ => ?_
  have e : idx_main_v17 (idx_main_v18 (idx_main_v21 (idx_main_v37 i) 0)) p = ix2 p (i 1) := funext fun a => Fin.ext (by
    match a with
    | ⟨0, _⟩ => rfl
    | ⟨1, _⟩ => show 0 * 1024 + ((i 0).val * 1024 + (i 1).val) = (i 1).val; omega)
  rw [e]
  exact mul_comm _ _

end Reference

/-! ## What a grid point leaves in its three outputs' buffers -/

section Left

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S1x1024 .f32) (harg3 : arg3.IsWhole)
  (arg4 : Memref sig .tc .vmem S512x1024 .f32) (harg4 : arg4.IsWhole) (arg5 : Memref sig .tc .vmem S512x1024 .bf16) (harg5 : arg5.IsWhole)
  (arg6 : Memref sig .tc .vmem S1x1024 .f32) (harg6 : arg6.IsWhole)
  (x0 x1 : Vec Ideal S512x1024 .f32) (x2 a : Vec Ideal S1x1024 .f32)

theorem first (hc0 : cond0_0 i) : out0_A_3 c i arg1 harg1 arg2 harg2 arg3 harg3 arg4 harg4 arg5 harg5 arg6 harg6 hc0 x0 x1 x2 = k0_pay3 x0 x1 x2
    ∧ out0_A_4 c i arg1 harg1 arg2 harg2 arg3 harg3 arg4 harg4 arg5 harg5 arg6 harg6 hc0 x0 x1 x2 = k0_pay5 x0 x1 x2
    ∧ out0_A_5 c i arg1 harg1 arg2 harg2 arg3 harg3 arg4 harg4 arg5 harg5 arg6 harg6 hc0 x0 x1 x2 = k0_pay1 (k0_pay4 x0 x1) (k0_pay6 (F := Ideal)) := by
  unfold out0_A_3 out0_A_4 out0_A_5
  rw [View.read_writes_eq_canon _ _ _ (by apply cover0_A_3), View.read_writes_eq_canon _ _ _ (by apply cover0_A_4), View.read_writes_eq_canon _ _ _ (by apply cover0_A_5)]
  unfold kernelRun0_A
  dsimp only
  try sl_unfold_words
  refine ⟨(View.canon_unit_zero hz2 _ _).trans ?_, (View.canon_unit_zero hz2 _ _).trans ?_, (View.canon_cons_unit_zero (S := S1x1024) hz2 _ _ _).trans ?_⟩
  on_goal 3 => rw [View.readCov_unit_zero (S := S1x1024) _ hz2]
  all_goals simp only [View.readAt_eq_ld, harg1.read_unread, harg2.read_unread, harg3.read_unread, harg6.read_unread,
    View.ld_unit_zero (S := S512x1024) hz2, View.ld_unit_zero (S := S1x1024) hz2]

theorem later (hc0 : ¬cond0_0 i) : out0_B_3 c i arg1 harg1 arg2 harg2 arg3 harg3 arg4 harg4 arg5 harg5 arg6 harg6 hc0 x0 x1 x2 a = k0_pay3 x0 x1 x2
    ∧ out0_B_4 c i arg1 harg1 arg2 harg2 arg3 harg3 arg4 harg4 arg5 harg5 arg6 harg6 hc0 x0 x1 x2 a = k0_pay5 x0 x1 x2
    ∧ out0_B_5 c i arg1 harg1 arg2 harg2 arg3 harg3 arg4 harg4 arg5 harg5 arg6 harg6 hc0 x0 x1 x2 a = k0_pay1 (k0_pay4 x0 x1) a := by
  unfold out0_B_3 out0_B_4 out0_B_5
  rw [View.read_writes_eq_canon _ _ _ (by apply cover0_B_3), View.read_writes_eq_canon _ _ _ (by apply cover0_B_4), View.read_writes_eq_canon _ _ _ (by apply cover0_B_5)]
  unfold kernelRun0_B
  dsimp only
  try sl_unfold_words
  refine ⟨(View.canon_unit_zero hz2 _ _).trans ?_, (View.canon_unit_zero hz2 _ _).trans ?_, (View.canon_unit_zero hz2 _ _).trans ?_⟩
  all_goals simp only [View.readAt_eq_ld, harg1.read_unread, harg2.read_unread, harg3.read_unread, harg6.read_unread,
    View.ld_unit_zero (S := S512x1024) hz2, View.ld_unit_zero (S := S1x1024) hz2]

end Left

variable (m : (ℓ : Loc nD τ sig) → Buf (Elt Ideal) ℓ) (c : Dev nD)

/-- The memory's rows, the cotangents and the gain, as launched. -/
def rows : Arr S1024x1024 .f32 := m ((c : Thread nD τ).loc main_arg0)
def cots : Arr S1024x1024 .f32 := m ((c : Thread nD τ).loc main_arg1)
def gains : Arr S1024 .f32 := m ((c : Thread nD τ).loc main_arg2)

theorem gains_at (i : S1x1024.Idx) : (V m c main_v0 : S1x1024.Idx → EReal) i = gains m c (ix1 (i 1)) := by
  have e : (V m c main_v0 : S1x1024.Idx → EReal) = Idealize.ShloMosaic.shapeCast S1x1024 (gains m c) shapeCasts_S1024_S1x1024 := by
    unfold gains
    rw [← V_main_arg2 m c]; unfold V
    after_reads_simp <;> rfl
  rw [e]
  refine shapeCast_apply _ shapeCasts_S1024_S1x1024 i (ix1 (i 1)) ?_
  have h0 : (i 0).val < 1 := (i 0).isLt
  rw [Shape.rowMajor_val_one, Shape.rowMajor_val_two]
  show (i 1).val = (i 0).val * 1024 + (i 1).val
  omega

/-- The three results: of the rows, twice, and of the gain. -/
def stream : Arr S1024x1024 .f32 :=
  NormMemBwdRefIdeal.Read.val_main_v35 (rows m c) (cots m c) (gains m c)
def ofGain : Arr S1x1024 .f32 := NormMemBwdRefIdeal.Read.val_main_v37 (rows m c) (cots m c)

/-- Where each grid point's blocks lie. -/
theorem places : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = 0 ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ win0_5.index t (0 : Fin 2) = 0 ∧ win0_5.index t (1 : Fin 2) = 0 :=
  (by decide +kernel : ∀ t : Fin grid0.N, _)

/-- A grid point's blocks. -/
def rowBlock (t : Fin cfg0.N) : Vec Ideal S512x1024 .f32 := iblk m c 0 t
def cotBlock (t : Fin cfg0.N) : Vec Ideal S512x1024 .f32 := iblk m c 1 t
def gainBlock (t : Fin cfg0.N) : Vec Ideal S1x1024 .f32 := iblk m c 2 t

theorem blk0 (t : Fin cfg0.N) (p : Fin 512) (k : Fin 1024) (r : Fin 1024) (hr : r.val = 512 * t.val + p.val) :
    rowBlock m c t (ix2 p k) = rows m c (ix2 r k) := by
  refine (congrFun (V_main_arg0 m c) (((cfg0.win 0).blk t).view.emb (ix2 p k))).trans (congrArg (rows m c) (funext fun a => Fin.ext ?_))
  obtain ⟨⟨e0, e1⟩, -⟩ := places t
  match a with
  | ⟨0, _⟩ => show win0_0.index t (0 : Fin 2) * 512 + 1 * p.val = r.val; omega
  | ⟨1, _⟩ => show win0_0.index t (1 : Fin 2) * 1024 + 1 * k.val = k.val; omega

theorem blk1 (t : Fin cfg0.N) (p : Fin 512) (k : Fin 1024) (r : Fin 1024) (hr : r.val = 512 * t.val + p.val) :
    cotBlock m c t (ix2 p k) = cots m c (ix2 r k) := by
  refine (congrFun (V_main_arg1 m c) (((cfg0.win 1).blk t).view.emb (ix2 p k))).trans (congrArg (cots m c) (funext fun a => Fin.ext ?_))
  obtain ⟨-, ⟨e0, e1⟩, -⟩ := places t
  match a with
  | ⟨0, _⟩ => show win0_1.index t (0 : Fin 2) * 512 + 1 * p.val = r.val; omega
  | ⟨1, _⟩ => show win0_1.index t (1 : Fin 2) * 1024 + 1 * k.val = k.val; omega

theorem blk2 (t : Fin cfg0.N) (k : Fin 1024) : gainBlock m c t (ix2 0 k) = gains m c (ix1 k) := by
  refine (gains_at m c (((cfg0.win 2).blk t).view.emb (ix2 0 k))).trans (congrArg (fun j => gains m c (ix1 j)) (Fin.ext ?_))
  obtain ⟨-, -, ⟨-, e1⟩, -⟩ := places t
  show win0_2.index t (1 : Fin 2) * 1024 + 1 * k.val = k.val
  omega

/-- Where an index of a row block of an output lies in the array. -/
def spot (t : Fin cfg0.N) (y : S512x1024.Idx) : S1024x1024.Idx := ((cfg0.win 3).blk t).view.emb y

theorem spot_0 (t : Fin cfg0.N) (y : S512x1024.Idx) : (spot t y 0).val = 512 * t.val + (y 0).val := by
  obtain ⟨-, -, -, ⟨e0, -⟩, -⟩ := places t
  show win0_3.index t (0 : Fin 2) * 512 + 1 * (y 0).val = _
  omega

theorem spot_1 (t : Fin cfg0.N) (y : S512x1024.Idx) : spot t y 1 = y 1 := by
  obtain ⟨-, -, -, ⟨-, e1⟩, -⟩ := places t
  refine Fin.ext ?_
  show win0_3.index t (1 : Fin 2) * 1024 + 1 * (y 1).val = (y 1).val
  omega

theorem spot_rounded (t : Fin cfg0.N) (y : S512x1024.Idx) : (((cfg0.win 4).blk t).view.emb y : S1024x1024.Idx) = spot t y := rfl

/-- A grid point's block of the rows' gradient. -/
def piece (t : Fin cfg0.N) : Vec Ideal S512x1024 .f32 := k0_pay3 (rowBlock m c t) (cotBlock m c t) (gainBlock m c t)

theorem piece_at (t : Fin cfg0.N) (y : S512x1024.Idx) : piece m c t y = stream m c (spot t y) := by
  unfold piece stream
  rw [pay_entry, ref_entry, spot_1]
  congr 1
  · funext k
    exact blk1 m c t (y 0) k (spot t y 0) (spot_0 t y)
  · funext k
    exact blk2 m c t k
  · funext k
    exact blk0 m c t (y 0) k (spot t y 0) (spot_0 t y)

theorem flushed_stream (t : Fin cfg0.N) : (dats m 0 c).flushed 3 t = ((cfg0.win 3).blk t).view.read (Elt Ideal) (stream m c) := by
  funext y
  refine Eq.trans ?_ (piece_at m c t y)
  by_cases h0 : t.val % 2 = 0
  · rw [Value.flushed3_A m c t h0, (first ..).1]
    rfl
  · rw [Value.flushed3_B m c t h0, (later ..).1]
    rfl

theorem flushed_rounded (t : Fin cfg0.N) : (dats m 0 c).flushed 4 t = ((cfg0.win 4).blk t).view.read (Elt Ideal) (stream m c) := by
  funext y
  refine Eq.trans ?_ ((piece_at m c t y).trans (congrArg (stream m c) (spot_rounded t y).symm))
  by_cases h0 : t.val % 2 = 0
  · rw [Value.flushed4_A m c t h0, (first ..).2.1]
    rfl
  · rw [Value.flushed4_B m c t h0, (later ..).2.1]
    rfl

theorem N_2 : cfg0.N = 2 := N_0

theorem covered_stream (i : S1024x1024.Idx) : ∃ t : Fin cfg0.N, (cfg0.win 3).flush t = true ∧ i ∈ ((cfg0.win 3).blk t).view.set := by
  have h0 : (i 0).val < 1024 := (i 0).isLt
  have h1 : (i 1).val < 1024 := (i 1).isLt
  have hN := N_2
  obtain ⟨t, ht⟩ : ∃ t : Fin cfg0.N, t.val = (i 0).val / 512 := ⟨⟨(i 0).val / 512, by omega⟩, rfl⟩
  obtain ⟨-, -, -, ⟨e0, e1⟩, -⟩ := places t
  refine ⟨t, flush0_3 t, ?_⟩
  show i ∈ ((View.whole main_v1_0).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

theorem covered_rounded (i : S1024x1024.Idx) : ∃ t : Fin cfg0.N, (cfg0.win 4).flush t = true ∧ i ∈ ((cfg0.win 4).blk t).view.set := by
  obtain ⟨t, -, h⟩ := covered_stream i
  have e : ((cfg0.win 4).blk t).view.set = ((cfg0.win 3).blk t).view.set := (View.set_slice_whole _ _).trans (View.set_slice_whole _ _).symm
  exact ⟨t, flush0_4 t, e ▸ h⟩

/-! ## The gain's gradient: the two blocks' sums -/

/-- What a grid point adds. -/
def addend (n : ℕ) (j : S1x1024.Idx) : EReal := if h : n < cfg0.N then
  ∑ p : Fin 512, gain (fun k => cotBlock m c ⟨n, h⟩ (ix2 p k)) (fun k => rowBlock m c ⟨n, h⟩ (ix2 p k)) (j 1) else 0

/-- What the first point leaves, and what the later one makes of it. -/
def start (n : ℕ) (h : n < cfg0.N) : S1x1024.Idx → EReal :=
  k0_pay1 (k0_pay4 (rowBlock m c ⟨n, h⟩) (cotBlock m c ⟨n, h⟩)) (k0_pay6 (F := Ideal))
def onward (n : ℕ) (h : n < cfg0.N) (a : S1x1024.Idx → EReal) : S1x1024.Idx → EReal :=
  k0_pay1 (k0_pay4 (rowBlock m c ⟨n, h⟩) (cotBlock m c ⟨n, h⟩)) a

theorem fold (b : ℕ) (h : b + 1 < cfg0.N) (j : S1x1024.Idx) :
    Pipeline.accAt (start m c) (onward m c) b 1 h j = ∑ s ∈ Finset.range 2, addend m c (b + s) j := by
  refine (Pipeline.accAt_add_apply (start m c) (onward m c) (fun _ => (0 : EReal)) (addend m c) b 1 ?_ ?_ 1 le_rfl h j).trans (zero_add _)
  · intro hb i
    unfold start addend
    rw [dif_pos hb]
    exact (pay_gain _ _ _ i).trans (congrArg (· + _) (pay_zero i))
  · intro n hn acc i _ _
    unfold onward addend
    rw [dif_pos hn]
    exact pay_gain _ _ _ i

theorem left_first (t : Fin cfg0.N) (h0 : t.val % 2 = 0) : (outsAt0 m c t.val t.isLt).2.2 = start m c t.val t.isLt := by
  refine (congrArg (fun q => q.2.2) (outsAt0_A m c t h0)).trans ?_
  dsimp only
  rw [(first ..).2.2]
  rfl

theorem left_later (n : ℕ) (hn : n + 1 < cfg0.N) (h0 : ¬(n + 1) % 2 = 0) :
    (outsAt0 m c (n + 1) hn).2.2 = onward m c (n + 1) hn (outsAt0 m c n (Nat.lt_of_succ_lt hn)).2.2 := by
  have e := outsAt0_B m c ⟨n + 1, hn⟩ h0
  refine (congrArg (fun q => q.2.2) e).trans ?_
  dsimp only
  rw [(later ..).2.2]
  rfl

theorem left (t : Fin cfg0.N) (h1 : t.val % 2 = 1) (h : 2 * (t.val / 2) + 1 < cfg0.N) :
    (outsAt0 m c t.val t.isLt).2.2 = Pipeline.accAt (start m c) (onward m c) (2 * (t.val / 2)) 1 h := by
  have e := Pipeline.eq_accAt_of_mod (fun n hn => ((outsAt0 m c n hn).2.2 : S1x1024.Idx → EReal)) 2 (start m c) (onward m c)
    (fun n hn h0 => left_first m c ⟨n, hn⟩ h0) (fun n hn h0 => left_later m c n hn h0)
    (by decide) t.val t.isLt (by rw [h1]; exact h)
  refine e.trans ?_
  congr 1

theorem flushed_gain (t : Fin cfg0.N) (hf : (cfg0.win 5).flush t = true) :
    (dats m 0 c).flushed 5 t = ((cfg0.win 5).blk t).view.read (Elt Ideal) (ofGain m c) := by
  have h1 := (flush0_5 t).mp hf
  have hN := N_2
  have ht := t.isLt
  have hq : t.val / 2 = 0 := by omega
  have h : 2 * (t.val / 2) + 1 < cfg0.N := by omega
  funext y
  have hy : (((cfg0.win 5).blk t).view.emb y : S1x1024.Idx) = y := by
    refine funext fun a => Fin.ext ?_
    obtain ⟨-, -, -, -, -, e0, e1⟩ := places t
    match a with
    | ⟨0, _⟩ => show win0_5.index t (0 : Fin 2) * 1 + 1 * (y 0).val = (y 0).val; omega
    | ⟨1, _⟩ => show win0_5.index t (1 : Fin 2) * 1024 + 1 * (y 1).val = (y 1).val; omega
  refine Eq.trans ?_ (congrArg (ofGain m c) hy.symm)
  rw [Value.flushed5]
  refine (congrFun (left m c t h1 h) y).trans ((fold m c _ h y).trans ?_)
  unfold ofGain
  rw [ref_gain]
  refine RowSums.blocks 2 512 1024 rfl _ _ fun s hs => ?_
  have hn : 2 * (t.val / 2) + s < cfg0.N := by omega
  unfold addend
  rw [dif_pos hn]
  refine Finset.sum_congr rfl fun p _ => ?_
  congr 1
  · funext k
    exact blk1 m c ⟨_, hn⟩ p k _ (by show 512 * s + p.val = 512 * (2 * (t.val / 2) + s) + p.val; omega)
  · funext k
    exact blk0 m c ⟨_, hn⟩ p k _ (by show 512 * s + p.val = 512 * (2 * (t.val / 2) + s) + p.val; omega)

theorem covered_gain (i : S1x1024.Idx) : ∃ t : Fin cfg0.N, (cfg0.win 5).flush t = true ∧ i ∈ ((cfg0.win 5).blk t).view.set := by
  have h0 : (i 0).val < 1 := (i 0).isLt
  have h1 : (i 1).val < 1024 := (i 1).isLt
  have hN := N_2
  obtain ⟨t, ht⟩ : ∃ t : Fin cfg0.N, t.val = 1 := ⟨⟨1, by omega⟩, rfl⟩
  obtain ⟨-, -, -, -, -, e0, e1⟩ := places t
  refine ⟨t, (flush0_5 t).mpr (by omega), ?_⟩
  show i ∈ ((View.whole main_v1_2).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 1024 ≤ (i 1).val ∧ (i 1).val < win0_5.index t (1 : Fin 2) * 1024 + 1024; omega

/-! ## The arrays the call leaves -/

theorem array_stream : (dats m 0 c).arrAt 3 cfg0.N = stream m c :=
  (dats m 0 c).arrAt_eq_of_cover 3 _ (fun t _ => flushed_stream m c t) covered_stream

theorem array_rounded : (dats m 0 c).arrAt 4 cfg0.N = stream m c :=
  (dats m 0 c).arrAt_eq_of_cover 4 _ (fun t _ => flushed_rounded m c t) covered_rounded

theorem array_gain : (dats m 0 c).arrAt 5 cfg0.N = ofGain m c :=
  (dats m 0 c).arrAt_eq_of_cover 5 _ (fun t hf => flushed_gain m c t hf) covered_gain

theorem reference_frame : quiescent_NormMemBwdRefIdeal (hNormMemBwdRefIdeal := NormMemBwdRefIdeal.Gen.facts) := fun m g _ =>
  (θ_run _ _ _).mono
    (fun r h => ⟨fun c => (h c).2.2.2, sem_eq_zero_of_no_sems (by decide) r.2⟩)
    (NormMemBwdRefIdeal.Value.run (F := Ideal) m g)

section Agree

open NormMemBwdRefIdeal.Read

variable {x0 y0 x1 y1 : Arr S1024x1024 .f32} {x2 y2 : Arr S1024 .f32}

theorem stream_congr (e0 : x0 = y0) (e1 : x1 = y1) (e2 : x2 = y2) :
    val_main_v35 x0 x1 x2 = val_main_v35 y0 y1 y2 := by
  subst e0 e1 e2
  rfl

theorem gain_congr (e0 : x0 = y0) (e1 : x1 = y1) : val_main_v37 x0 x1 = val_main_v37 y0 y1 := by
  subst e0 e1
  rfl

end Agree

/-- At the exact values the call's results are the reference's. -/
theorem values : algebraic_NormMemBwdIdeal_NormMemBwdRefIdeal (hNormMemBwdIdeal := NormMemBwdIdeal.Gen.facts)
    (hNormMemBwdRefIdeal := NormMemBwdRefIdeal.Gen.facts) := by
  intro m g m' g' _ hagree
  refine ⟨fun c => stream m c, fun c => stream m c, fun c => ofGain m c, ?_, ?_⟩
  · exact (θ_run _ _ _).mono
      (fun r h c => ⟨(h c).1.trans (array_stream m c), (h c).2.1.trans (array_rounded m c), (h c).2.2.1.trans (array_gain m c), (h c).2.2.2⟩)
      (NormMemBwdIdeal.Value.run_blocks (F := Ideal) m g)
  · refine (θ_run _ _ _).mono (fun r h c => ?_) (NormMemBwdRefIdeal.Value.run (F := Ideal) m' g')
    obtain ⟨e0, e1, e2⟩ := hagree c
    exact ⟨((h c).1.trans (NormMemBwdRefIdeal.Read.val_main_v35_eq ..)).trans (stream_congr e0 e1 e2),
      ((h c).2.1.trans (NormMemBwdRefIdeal.Read.val_main_v36_eq ..)).trans (stream_congr e0 e1 e2),
      ((h c).2.2.1.trans (NormMemBwdRefIdeal.Read.val_main_v37_eq ..)).trans (gain_congr e0 e1), (h c).2.2.2⟩

end Cert.NormMemBwdIdeal.Norm

end
-- ==== Proof.AdamMlp.lean ====
/-
  The optimiser's step of a shard of the MLP's weights.
-/
module

public import proofs.«01_k».proof.Proof.Calls
public import proofs.«01_k».proof.Proof.Gen.AdamMlp.Frame
public import proofs.«01_k».proof.Proof.Gen.AdamMlpIdeal.Value
public import proofs.«01_k».proof.Proof.Gen.AdamMlpRefIdeal.Read

@[expose] public section

noncomputable section

namespace Cert.AdamMlpIdeal.Step

open Idealize.ShloMosaic Idealize.ShloMosaic.TcCoe Idealize.SL.Sem
open Cert.AdamMlpIdeal Cert.AdamMlpIdeal.Gen

variable (m : (ℓ : Loc nD τ sig) → Buf (Elt Ideal) ℓ) (c : Dev nD)

/-- The weights, the gradients and the two moments, as launched. -/
def weights : Arr S1024x1024 .f32 := m ((c : Thread nD τ).loc main_arg0)
def grads : Arr S1024x1024 .f32 := m ((c : Thread nD τ).loc main_arg1)
def firsts : Arr S1024x1024 .f32 := m ((c : Thread nD τ).loc main_arg2)
def seconds : Arr S1024x1024 .f32 := m ((c : Thread nD τ).loc main_arg3)

/-- The three results: the weights' change and the new moments. -/
def change : Arr S1024x1024 .f32 := AdamMlpRefIdeal.Read.val_main_v23 (weights m c) (grads m c) (firsts m c) (seconds m c)
def first : Arr S1024x1024 .f32 := AdamMlpRefIdeal.Read.val_main_v4 (grads m c) (firsts m c)
def second : Arr S1024x1024 .f32 := AdamMlpRefIdeal.Read.val_main_v10 (grads m c) (seconds m c)

/-- Where an index of a grid point's block lies, in each of the arrays. -/
def spot (t : Fin cfg0.N) (y : S128x1024.Idx) : S1024x1024.Idx := ((cfg0.win 4).blk t).view.emb y

theorem blk0 (t : Fin cfg0.N) : iblk m c 0 t = fun y => weights m c (spot t y) := funext fun _ => congrFun (V_main_arg0 m c) _
theorem blk1 (t : Fin cfg0.N) : iblk m c 1 t = fun y => grads m c (spot t y) := funext fun _ => congrFun (V_main_arg1 m c) _
theorem blk2 (t : Fin cfg0.N) : iblk m c 2 t = fun y => firsts m c (spot t y) := funext fun _ => congrFun (V_main_arg2 m c) _
theorem blk3 (t : Fin cfg0.N) : iblk m c 3 t = fun y => seconds m c (spot t y) := funext fun _ => congrFun (V_main_arg3 m c) _

/-- What a grid point writes back is its block of each result. -/
theorem flushed4 (t : Fin cfg0.N) : (dats m 0 c).flushed 4 t = ((cfg0.win 4).blk t).view.read (Elt Ideal) (change m c) := by
  rw [Value.flushed4, blk0, blk1, blk2, blk3]
  funext y
  show out0_4 _ _ _ _ y = change m c (spot t y)
  unfold out0_4
  rw [View.canon_unit_zero hz2]
  simp only [View.ld_unit_zero (S := S128x1024) hz2]
  rfl

theorem flushed5 (t : Fin cfg0.N) : (dats m 0 c).flushed 5 t = ((cfg0.win 5).blk t).view.read (Elt Ideal) (first m c) := by
  rw [Value.flushed5, blk0, blk1, blk2, blk3]
  funext y
  show out0_5 _ _ _ _ y = first m c (spot t y)
  unfold out0_5
  rw [View.canon_unit_zero hz2]
  simp only [View.ld_unit_zero (S := S128x1024) hz2]
  rfl

theorem flushed6 (t : Fin cfg0.N) : (dats m 0 c).flushed 6 t = ((cfg0.win 6).blk t).view.read (Elt Ideal) (second m c) := by
  rw [Value.flushed6, blk0, blk1, blk2, blk3]
  funext y
  show out0_6 _ _ _ _ y = second m c (spot t y)
  unfold out0_6
  rw [View.canon_unit_zero hz2]
  simp only [View.ld_unit_zero (S := S128x1024) hz2]
  rfl

theorem places : ∀ t : Fin cfg0.N, win0_4.index t (0 : Fin 2) = t.val ∧ win0_4.index t (1 : Fin 2) = 0 :=
  (by decide +kernel : ∀ t : Fin grid0.N, _)

theorem covered (i : S1024x1024.Idx) : ∃ t : Fin cfg0.N, i ∈ ((cfg0.win 4).blk t).view.set := by
  have h0 : (i 0).val < 1024 := (i 0).isLt
  have h1 : (i 1).val < 1024 := (i 1).isLt
  have hN : cfg0.N = 8 := N_0
  obtain ⟨t, ht⟩ : ∃ t : Fin cfg0.N, t.val = (i 0).val / 128 := ⟨⟨(i 0).val / 128, by omega⟩, rfl⟩
  obtain ⟨e0, e1⟩ := places t
  refine ⟨t, ?_⟩
  show i ∈ ((View.whole main_v0_0).slice (win0_4.rect t)).set
  rw [View.set_slice_whole, Rect.mem_set_unit]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 1024 ≤ (i 1).val ∧ (i 1).val < win0_4.index t (1 : Fin 2) * 1024 + 1024; omega

theorem same (t : Fin cfg0.N) : ((cfg0.win 5).blk t).view.set = ((cfg0.win 4).blk t).view.set ∧ ((cfg0.win 6).blk t).view.set = ((cfg0.win 4).blk t).view.set :=
  ⟨(View.set_slice_whole _ _).trans (View.set_slice_whole _ _).symm, (View.set_slice_whole _ _).trans (View.set_slice_whole _ _).symm⟩

/-- The arrays the call leaves are the reference's. -/
theorem arrays : (dats m 0 c).arrAt 4 cfg0.N = change m c ∧ (dats m 0 c).arrAt 5 cfg0.N = first m c ∧ (dats m 0 c).arrAt 6 cfg0.N = second m c :=
  ⟨(dats m 0 c).arrAt_eq_of_cover 4 _ (fun t _ => flushed4 m c t) fun i => (covered i).imp fun t h => ⟨flush0_4 t, h⟩,
    (dats m 0 c).arrAt_eq_of_cover 5 _ (fun t _ => flushed5 m c t) fun i => (covered i).imp fun t h => ⟨flush0_5 t, (same t).1 ▸ h⟩,
    (dats m 0 c).arrAt_eq_of_cover 6 _ (fun t _ => flushed6 m c t) fun i => (covered i).imp fun t h => ⟨flush0_6 t, (same t).2 ▸ h⟩⟩

theorem reference_frame : quiescent_AdamMlpRefIdeal (hAdamMlpRefIdeal := AdamMlpRefIdeal.Gen.facts) := fun m g _ =>
  (θ_run _ _ _).mono
    (fun r h => ⟨fun c => (h c).2.2.2, sem_eq_zero_of_no_sems (by decide) r.2⟩)
    (AdamMlpRefIdeal.Value.run (F := Ideal) m g)

open AdamMlpRefIdeal.Read in
theorem results_congr {x0 y0 x1 y1 x2 y2 x3 y3 : Arr S1024x1024 .f32} (e0 : x0 = y0) (e1 : x1 = y1) (e2 : x2 = y2) (e3 : x3 = y3) :
    val_main_v23 x0 x1 x2 x3 = val_main_v23 y0 y1 y2 y3 ∧ val_main_v4 x1 x2 = val_main_v4 y1 y2 ∧ val_main_v10 x1 x3 = val_main_v10 y1 y3 := by
  subst e0 e1 e2 e3
  exact ⟨rfl, rfl, rfl⟩

/-- At the exact values the call's results are the reference's. -/
theorem values : algebraic_AdamMlpIdeal_AdamMlpRefIdeal (hAdamMlpIdeal := AdamMlpIdeal.Gen.facts)
    (hAdamMlpRefIdeal := AdamMlpRefIdeal.Gen.facts) := by
  intro m g m' g' _ hagree
  refine ⟨fun c => change m c, fun c => first m c, fun c => second m c, ?_, ?_⟩
  · exact (θ_run _ _ _).mono
      (fun r h c => ⟨(h c).1.trans (arrays m c).1, (h c).2.1.trans (arrays m c).2.1, (h c).2.2.1.trans (arrays m c).2.2, (h c).2.2.2⟩)
      (AdamMlpIdeal.Value.run_blocks (F := Ideal) m g)
  · refine (θ_run _ _ _).mono (fun r h c => ?_) (AdamMlpRefIdeal.Value.run (F := Ideal) m' g')
    obtain ⟨e0, e1, e2, e3⟩ := hagree c
    obtain ⟨r0, r1, r2⟩ := results_congr e0 e1 e2 e3
    exact ⟨((h c).1.trans (AdamMlpRefIdeal.Read.val_main_v23_eq ..)).trans r0, ((h c).2.1.trans (AdamMlpRefIdeal.Read.val_main_v4_eq ..)).trans r1,
      ((h c).2.2.1.trans (AdamMlpRefIdeal.Read.val_main_v10_eq ..)).trans r2, (h c).2.2.2⟩

end Cert.AdamMlpIdeal.Step

end
-- ==== Proof.AdamMid.lean ====
/-
  The optimiser's step of a shard of the mixer's output weights or of the cross attention's weights.
-/
module

public import proofs.«01_k».proof.Proof.Calls
public import proofs.«01_k».proof.Proof.Gen.AdamMid.Frame
public import proofs.«01_k».proof.Proof.Gen.AdamMidIdeal.Value
public import proofs.«01_k».proof.Proof.Gen.AdamMidRefIdeal.Read

@[expose] public section

noncomputable section

namespace Cert.AdamMidIdeal.Step

open Idealize.ShloMosaic Idealize.ShloMosaic.TcCoe Idealize.SL.Sem
open Cert.AdamMidIdeal Cert.AdamMidIdeal.Gen

variable (m : (ℓ : Loc nD τ sig) → Buf (Elt Ideal) ℓ) (c : Dev nD)

/-- The weights, the gradients and the two moments, as launched. -/
def weights : Arr S256x1024 .f32 := m ((c : Thread nD τ).loc main_arg0)
def grads : Arr S256x1024 .f32 := m ((c : Thread nD τ).loc main_arg1)
def firsts : Arr S256x1024 .f32 := m ((c : Thread nD τ).loc main_arg2)
def seconds : Arr S256x1024 .f32 := m ((c : Thread nD τ).loc main_arg3)

/-- The three results: the weights' change and the new moments. -/
def change : Arr S256x1024 .f32 := AdamMidRefIdeal.Read.val_main_v23 (weights m c) (grads m c) (firsts m c) (seconds m c)
def first : Arr S256x1024 .f32 := AdamMidRefIdeal.Read.val_main_v4 (grads m c) (firsts m c)
def second : Arr S256x1024 .f32 := AdamMidRefIdeal.Read.val_main_v10 (grads m c) (seconds m c)

/-- Where an index of a grid point's block lies, in each of the arrays. -/
def spot (t : Fin cfg0.N) (y : S128x1024.Idx) : S256x1024.Idx := ((cfg0.win 4).blk t).view.emb y

theorem blk0 (t : Fin cfg0.N) : iblk m c 0 t = fun y => weights m c (spot t y) := funext fun _ => congrFun (V_main_arg0 m c) _
theorem blk1 (t : Fin cfg0.N) : iblk m c 1 t = fun y => grads m c (spot t y) := funext fun _ => congrFun (V_main_arg1 m c) _
theorem blk2 (t : Fin cfg0.N) : iblk m c 2 t = fun y => firsts m c (spot t y) := funext fun _ => congrFun (V_main_arg2 m c) _
theorem blk3 (t : Fin cfg0.N) : iblk m c 3 t = fun y => seconds m c (spot t y) := funext fun _ => congrFun (V_main_arg3 m c) _

/-- What a grid point writes back is its block of each result. -/
theorem flushed4 (t : Fin cfg0.N) : (dats m 0 c).flushed 4 t = ((cfg0.win 4).blk t).view.read (Elt Ideal) (change m c) := by
  rw [Value.flushed4, blk0, blk1, blk2, blk3]
  funext y
  show out0_4 _ _ _ _ y = change m c (spot t y)
  unfold out0_4
  rw [View.canon_unit_zero hz2]
  simp only [View.ld_unit_zero (S := S128x1024) hz2]
  rfl

theorem flushed5 (t : Fin cfg0.N) : (dats m 0 c).flushed 5 t = ((cfg0.win 5).blk t).view.read (Elt Ideal) (first m c) := by
  rw [Value.flushed5, blk0, blk1, blk2, blk3]
  funext y
  show out0_5 _ _ _ _ y = first m c (spot t y)
  unfold out0_5
  rw [View.canon_unit_zero hz2]
  simp only [View.ld_unit_zero (S := S128x1024) hz2]
  rfl

theorem flushed6 (t : Fin cfg0.N) : (dats m 0 c).flushed 6 t = ((cfg0.win 6).blk t).view.read (Elt Ideal) (second m c) := by
  rw [Value.flushed6, blk0, blk1, blk2, blk3]
  funext y
  show out0_6 _ _ _ _ y = second m c (spot t y)
  unfold out0_6
  rw [View.canon_unit_zero hz2]
  simp only [View.ld_unit_zero (S := S128x1024) hz2]
  rfl

theorem places : ∀ t : Fin cfg0.N, win0_4.index t (0 : Fin 2) = t.val ∧ win0_4.index t (1 : Fin 2) = 0 :=
  (by decide +kernel : ∀ t : Fin grid0.N, _)

theorem covered (i : S256x1024.Idx) : ∃ t : Fin cfg0.N, i ∈ ((cfg0.win 4).blk t).view.set := by
  have h0 : (i 0).val < 256 := (i 0).isLt
  have h1 : (i 1).val < 1024 := (i 1).isLt
  have hN : cfg0.N = 2 := N_0
  obtain ⟨t, ht⟩ : ∃ t : Fin cfg0.N, t.val = (i 0).val / 128 := ⟨⟨(i 0).val / 128, by omega⟩, rfl⟩
  obtain ⟨e0, e1⟩ := places t
  refine ⟨t, ?_⟩
  show i ∈ ((View.whole main_v0_0).slice (win0_4.rect t)).set
  rw [View.set_slice_whole, Rect.mem_set_unit]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 1024 ≤ (i 1).val ∧ (i 1).val < win0_4.index t (1 : Fin 2) * 1024 + 1024; omega

theorem same (t : Fin cfg0.N) : ((cfg0.win 5).blk t).view.set = ((cfg0.win 4).blk t).view.set ∧ ((cfg0.win 6).blk t).view.set = ((cfg0.win 4).blk t).view.set :=
  ⟨(View.set_slice_whole _ _).trans (View.set_slice_whole _ _).symm, (View.set_slice_whole _ _).trans (View.set_slice_whole _ _).symm⟩

/-- The arrays the call leaves are the reference's. -/
theorem arrays : (dats m 0 c).arrAt 4 cfg0.N = change m c ∧ (dats m 0 c).arrAt 5 cfg0.N = first m c ∧ (dats m 0 c).arrAt 6 cfg0.N = second m c :=
  ⟨(dats m 0 c).arrAt_eq_of_cover 4 _ (fun t _ => flushed4 m c t) fun i => (covered i).imp fun t h => ⟨flush0_4 t, h⟩,
    (dats m 0 c).arrAt_eq_of_cover 5 _ (fun t _ => flushed5 m c t) fun i => (covered i).imp fun t h => ⟨flush0_5 t, (same t).1 ▸ h⟩,
    (dats m 0 c).arrAt_eq_of_cover 6 _ (fun t _ => flushed6 m c t) fun i => (covered i).imp fun t h => ⟨flush0_6 t, (same t).2 ▸ h⟩⟩

theorem reference_frame : quiescent_AdamMidRefIdeal (hAdamMidRefIdeal := AdamMidRefIdeal.Gen.facts) := fun m g _ =>
  (θ_run _ _ _).mono
    (fun r h => ⟨fun c => (h c).2.2.2, sem_eq_zero_of_no_sems (by decide) r.2⟩)
    (AdamMidRefIdeal.Value.run (F := Ideal) m g)

open AdamMidRefIdeal.Read in
theorem results_congr {x0 y0 x1 y1 x2 y2 x3 y3 : Arr S256x1024 .f32} (e0 : x0 = y0) (e1 : x1 = y1) (e2 : x2 = y2) (e3 : x3 = y3) :
    val_main_v23 x0 x1 x2 x3 = val_main_v23 y0 y1 y2 y3 ∧ val_main_v4 x1 x2 = val_main_v4 y1 y2 ∧ val_main_v10 x1 x3 = val_main_v10 y1 y3 := by
  subst e0 e1 e2 e3
  exact ⟨rfl, rfl, rfl⟩

/-- At the exact values the call's results are the reference's. -/
theorem values : algebraic_AdamMidIdeal_AdamMidRefIdeal (hAdamMidIdeal := AdamMidIdeal.Gen.facts)
    (hAdamMidRefIdeal := AdamMidRefIdeal.Gen.facts) := by
  intro m g m' g' _ hagree
  refine ⟨fun c => change m c, fun c => first m c, fun c => second m c, ?_, ?_⟩
  · exact (θ_run _ _ _).mono
      (fun r h c => ⟨(h c).1.trans (arrays m c).1, (h c).2.1.trans (arrays m c).2.1, (h c).2.2.1.trans (arrays m c).2.2, (h c).2.2.2⟩)
      (AdamMidIdeal.Value.run_blocks (F := Ideal) m g)
  · refine (θ_run _ _ _).mono (fun r h c => ?_) (AdamMidRefIdeal.Value.run (F := Ideal) m' g')
    obtain ⟨e0, e1, e2, e3⟩ := hagree c
    obtain ⟨r0, r1, r2⟩ := results_congr e0 e1 e2 e3
    exact ⟨((h c).1.trans (AdamMidRefIdeal.Read.val_main_v23_eq ..)).trans r0, ((h c).2.1.trans (AdamMidRefIdeal.Read.val_main_v4_eq ..)).trans r1,
      ((h c).2.2.1.trans (AdamMidRefIdeal.Read.val_main_v10_eq ..)).trans r2, (h c).2.2.2⟩

end Cert.AdamMidIdeal.Step

end
-- ==== Proof.AdamIn.lean ====
/-
  The optimiser's step of a shard of the mixer's input weights.
-/
module

public import proofs.«01_k».proof.Proof.Calls
public import proofs.«01_k».proof.Proof.Gen.AdamIn.Frame
public import proofs.«01_k».proof.Proof.Gen.AdamInIdeal.Value
public import proofs.«01_k».proof.Proof.Gen.AdamInRefIdeal.Read

@[expose] public section

noncomputable section

namespace Cert.AdamInIdeal.Step

open Idealize.ShloMosaic Idealize.ShloMosaic.TcCoe Idealize.SL.Sem
open Cert.AdamInIdeal Cert.AdamInIdeal.Gen

variable (m : (ℓ : Loc nD τ sig) → Buf (Elt Ideal) ℓ) (c : Dev nD)

/-- The weights, the gradients and the two moments, as launched. -/
def weights : Arr S1024x770 .f32 := m ((c : Thread nD τ).loc main_arg0)
def grads : Arr S1024x770 .f32 := m ((c : Thread nD τ).loc main_arg1)
def firsts : Arr S1024x770 .f32 := m ((c : Thread nD τ).loc main_arg2)
def seconds : Arr S1024x770 .f32 := m ((c : Thread nD τ).loc main_arg3)

/-- The three results: the weights' change and the new moments. -/
def change : Arr S1024x770 .f32 := AdamInRefIdeal.Read.val_main_v23 (weights m c) (grads m c) (firsts m c) (seconds m c)
def first : Arr S1024x770 .f32 := AdamInRefIdeal.Read.val_main_v4 (grads m c) (firsts m c)
def second : Arr S1024x770 .f32 := AdamInRefIdeal.Read.val_main_v10 (grads m c) (seconds m c)

/-- Where an index of a grid point's block lies, in each of the arrays. -/
def spot (t : Fin cfg0.N) (y : S128x770.Idx) : S1024x770.Idx := ((cfg0.win 4).blk t).view.emb y

theorem blk0 (t : Fin cfg0.N) : iblk m c 0 t = fun y => weights m c (spot t y) := funext fun _ => congrFun (V_main_arg0 m c) _
theorem blk1 (t : Fin cfg0.N) : iblk m c 1 t = fun y => grads m c (spot t y) := funext fun _ => congrFun (V_main_arg1 m c) _
theorem blk2 (t : Fin cfg0.N) : iblk m c 2 t = fun y => firsts m c (spot t y) := funext fun _ => congrFun (V_main_arg2 m c) _
theorem blk3 (t : Fin cfg0.N) : iblk m c 3 t = fun y => seconds m c (spot t y) := funext fun _ => congrFun (V_main_arg3 m c) _

/-- What a grid point writes back is its block of each result. -/
theorem flushed4 (t : Fin cfg0.N) : (dats m 0 c).flushed 4 t = ((cfg0.win 4).blk t).view.read (Elt Ideal) (change m c) := by
  rw [Value.flushed4, blk0, blk1, blk2, blk3]
  funext y
  show out0_4 _ _ _ _ y = change m c (spot t y)
  unfold out0_4
  rw [View.canon_unit_zero hz2]
  simp only [View.ld_unit_zero (S := S128x770) hz2]
  rfl

theorem flushed5 (t : Fin cfg0.N) : (dats m 0 c).flushed 5 t = ((cfg0.win 5).blk t).view.read (Elt Ideal) (first m c) := by
  rw [Value.flushed5, blk0, blk1, blk2, blk3]
  funext y
  show out0_5 _ _ _ _ y = first m c (spot t y)
  unfold out0_5
  rw [View.canon_unit_zero hz2]
  simp only [View.ld_unit_zero (S := S128x770) hz2]
  rfl

theorem flushed6 (t : Fin cfg0.N) : (dats m 0 c).flushed 6 t = ((cfg0.win 6).blk t).view.read (Elt Ideal) (second m c) := by
  rw [Value.flushed6, blk0, blk1, blk2, blk3]
  funext y
  show out0_6 _ _ _ _ y = second m c (spot t y)
  unfold out0_6
  rw [View.canon_unit_zero hz2]
  simp only [View.ld_unit_zero (S := S128x770) hz2]
  rfl

theorem places : ∀ t : Fin cfg0.N, win0_4.index t (0 : Fin 2) = t.val ∧ win0_4.index t (1 : Fin 2) = 0 :=
  (by decide +kernel : ∀ t : Fin grid0.N, _)

theorem covered (i : S1024x770.Idx) : ∃ t : Fin cfg0.N, i ∈ ((cfg0.win 4).blk t).view.set := by
  have h0 : (i 0).val < 1024 := (i 0).isLt
  have h1 : (i 1).val < 770 := (i 1).isLt
  have hN : cfg0.N = 8 := N_0
  obtain ⟨t, ht⟩ : ∃ t : Fin cfg0.N, t.val = (i 0).val / 128 := ⟨⟨(i 0).val / 128, by omega⟩, rfl⟩
  obtain ⟨e0, e1⟩ := places t
  refine ⟨t, ?_⟩
  show i ∈ ((View.whole main_v0_0).slice (win0_4.rect t)).set
  rw [View.set_slice_whole, Rect.mem_set_unit]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 770 ≤ (i 1).val ∧ (i 1).val < win0_4.index t (1 : Fin 2) * 770 + 770; omega

theorem same (t : Fin cfg0.N) : ((cfg0.win 5).blk t).view.set = ((cfg0.win 4).blk t).view.set ∧ ((cfg0.win 6).blk t).view.set = ((cfg0.win 4).blk t).view.set :=
  ⟨(View.set_slice_whole _ _).trans (View.set_slice_whole _ _).symm, (View.set_slice_whole _ _).trans (View.set_slice_whole _ _).symm⟩

/-- The arrays the call leaves are the reference's. -/
theorem arrays : (dats m 0 c).arrAt 4 cfg0.N = change m c ∧ (dats m 0 c).arrAt 5 cfg0.N = first m c ∧ (dats m 0 c).arrAt 6 cfg0.N = second m c :=
  ⟨(dats m 0 c).arrAt_eq_of_cover 4 _ (fun t _ => flushed4 m c t) fun i => (covered i).imp fun t h => ⟨flush0_4 t, h⟩,
    (dats m 0 c).arrAt_eq_of_cover 5 _ (fun t _ => flushed5 m c t) fun i => (covered i).imp fun t h => ⟨flush0_5 t, (same t).1 ▸ h⟩,
    (dats m 0 c).arrAt_eq_of_cover 6 _ (fun t _ => flushed6 m c t) fun i => (covered i).imp fun t h => ⟨flush0_6 t, (same t).2 ▸ h⟩⟩

theorem reference_frame : quiescent_AdamInRefIdeal (hAdamInRefIdeal := AdamInRefIdeal.Gen.facts) := fun m g _ =>
  (θ_run _ _ _).mono
    (fun r h => ⟨fun c => (h c).2.2.2, sem_eq_zero_of_no_sems (by decide) r.2⟩)
    (AdamInRefIdeal.Value.run (F := Ideal) m g)

open AdamInRefIdeal.Read in
theorem results_congr {x0 y0 x1 y1 x2 y2 x3 y3 : Arr S1024x770 .f32} (e0 : x0 = y0) (e1 : x1 = y1) (e2 : x2 = y2) (e3 : x3 = y3) :
    val_main_v23 x0 x1 x2 x3 = val_main_v23 y0 y1 y2 y3 ∧ val_main_v4 x1 x2 = val_main_v4 y1 y2 ∧ val_main_v10 x1 x3 = val_main_v10 y1 y3 := by
  subst e0 e1 e2 e3
  exact ⟨rfl, rfl, rfl⟩

/-- At the exact values the call's results are the reference's. -/
theorem values : algebraic_AdamInIdeal_AdamInRefIdeal (hAdamInIdeal := AdamInIdeal.Gen.facts)
    (hAdamInRefIdeal := AdamInRefIdeal.Gen.facts) := by
  intro m g m' g' _ hagree
  refine ⟨fun c => change m c, fun c => first m c, fun c => second m c, ?_, ?_⟩
  · exact (θ_run _ _ _).mono
      (fun r h c => ⟨(h c).1.trans (arrays m c).1, (h c).2.1.trans (arrays m c).2.1, (h c).2.2.1.trans (arrays m c).2.2, (h c).2.2.2⟩)
      (AdamInIdeal.Value.run_blocks (F := Ideal) m g)
  · refine (θ_run _ _ _).mono (fun r h c => ?_) (AdamInRefIdeal.Value.run (F := Ideal) m' g')
    obtain ⟨e0, e1, e2, e3⟩ := hagree c
    obtain ⟨r0, r1, r2⟩ := results_congr e0 e1 e2 e3
    exact ⟨((h c).1.trans (AdamInRefIdeal.Read.val_main_v23_eq ..)).trans r0, ((h c).2.1.trans (AdamInRefIdeal.Read.val_main_v4_eq ..)).trans r1,
      ((h c).2.2.1.trans (AdamInRefIdeal.Read.val_main_v10_eq ..)).trans r2, (h c).2.2.2⟩

end Cert.AdamInIdeal.Step

end
-- ==== Proof.AdamVectors.lean ====
/-
  The optimiser's step of the gains and the forget gate's offset, a row each.
-/
module

public import proofs.«01_k».proof.Proof.Calls
public import proofs.«01_k».proof.Proof.Gen.AdamVectors.Frame
public import proofs.«01_k».proof.Proof.Gen.AdamVectorsIdeal.Value
public import proofs.«01_k».proof.Proof.Gen.AdamVectorsRefIdeal.Read

@[expose] public section

noncomputable section

namespace Cert.AdamVectorsIdeal.Step

open Idealize.ShloMosaic Idealize.ShloMosaic.TcCoe Idealize.SL.Sem
open Cert.AdamVectorsIdeal Cert.AdamVectorsIdeal.Gen

variable (m : (ℓ : Loc nD τ sig) → Buf (Elt Ideal) ℓ) (c : Dev nD)

/-- The weights, the gradients and the two moments, as launched. -/
def weights : Arr S8x1024 .f32 := m ((c : Thread nD τ).loc main_arg0)
def grads : Arr S8x1024 .f32 := m ((c : Thread nD τ).loc main_arg1)
def firsts : Arr S8x1024 .f32 := m ((c : Thread nD τ).loc main_arg2)
def seconds : Arr S8x1024 .f32 := m ((c : Thread nD τ).loc main_arg3)

/-- The three results: the weights' change and the new moments. -/
def change : Arr S8x1024 .f32 := AdamVectorsRefIdeal.Read.val_main_v23 (weights m c) (grads m c) (firsts m c) (seconds m c)
def first : Arr S8x1024 .f32 := AdamVectorsRefIdeal.Read.val_main_v4 (grads m c) (firsts m c)
def second : Arr S8x1024 .f32 := AdamVectorsRefIdeal.Read.val_main_v10 (grads m c) (seconds m c)

/-- Where an index of a grid point's block lies, in each of the arrays. -/
def spot (t : Fin cfg0.N) (y : S8x1024.Idx) : S8x1024.Idx := ((cfg0.win 4).blk t).view.emb y

theorem blk0 (t : Fin cfg0.N) : iblk m c 0 t = fun y => weights m c (spot t y) := funext fun _ => congrFun (V_main_arg0 m c) _
theorem blk1 (t : Fin cfg0.N) : iblk m c 1 t = fun y => grads m c (spot t y) := funext fun _ => congrFun (V_main_arg1 m c) _
theorem blk2 (t : Fin cfg0.N) : iblk m c 2 t = fun y => firsts m c (spot t y) := funext fun _ => congrFun (V_main_arg2 m c) _
theorem blk3 (t : Fin cfg0.N) : iblk m c 3 t = fun y => seconds m c (spot t y) := funext fun _ => congrFun (V_main_arg3 m c) _

/-- What a grid point writes back is its block of each result. -/
theorem flushed4 (t : Fin cfg0.N) : (dats m 0 c).flushed 4 t = ((cfg0.win 4).blk t).view.read (Elt Ideal) (change m c) := by
  rw [Value.flushed4, blk0, blk1, blk2, blk3]
  funext y
  show out0_4 _ _ _ _ y = change m c (spot t y)
  unfold out0_4
  rw [View.canon_unit_zero hz2]
  simp only [View.ld_unit_zero (S := S8x1024) hz2]
  rfl

theorem flushed5 (t : Fin cfg0.N) : (dats m 0 c).flushed 5 t = ((cfg0.win 5).blk t).view.read (Elt Ideal) (first m c) := by
  rw [Value.flushed5, blk0, blk1, blk2, blk3]
  funext y
  show out0_5 _ _ _ _ y = first m c (spot t y)
  unfold out0_5
  rw [View.canon_unit_zero hz2]
  simp only [View.ld_unit_zero (S := S8x1024) hz2]
  rfl

theorem flushed6 (t : Fin cfg0.N) : (dats m 0 c).flushed 6 t = ((cfg0.win 6).blk t).view.read (Elt Ideal) (second m c) := by
  rw [Value.flushed6, blk0, blk1, blk2, blk3]
  funext y
  show out0_6 _ _ _ _ y = second m c (spot t y)
  unfold out0_6
  rw [View.canon_unit_zero hz2]
  simp only [View.ld_unit_zero (S := S8x1024) hz2]
  rfl

theorem places : ∀ t : Fin cfg0.N, win0_4.index t (0 : Fin 2) = t.val ∧ win0_4.index t (1 : Fin 2) = 0 :=
  (by decide +kernel : ∀ t : Fin grid0.N, _)

theorem covered (i : S8x1024.Idx) : ∃ t : Fin cfg0.N, i ∈ ((cfg0.win 4).blk t).view.set := by
  have h0 : (i 0).val < 8 := (i 0).isLt
  have h1 : (i 1).val < 1024 := (i 1).isLt
  have hN : cfg0.N = 1 := N_0
  obtain ⟨t, ht⟩ : ∃ t : Fin cfg0.N, t.val = (i 0).val / 8 := ⟨⟨(i 0).val / 8, by omega⟩, rfl⟩
  obtain ⟨e0, e1⟩ := places t
  refine ⟨t, ?_⟩
  show i ∈ ((View.whole main_v0_0).slice (win0_4.rect t)).set
  rw [View.set_slice_whole, Rect.mem_set_unit]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 1024 ≤ (i 1).val ∧ (i 1).val < win0_4.index t (1 : Fin 2) * 1024 + 1024; omega

theorem same (t : Fin cfg0.N) : ((cfg0.win 5).blk t).view.set = ((cfg0.win 4).blk t).view.set ∧ ((cfg0.win 6).blk t).view.set = ((cfg0.win 4).blk t).view.set :=
  ⟨(View.set_slice_whole _ _).trans (View.set_slice_whole _ _).symm, (View.set_slice_whole _ _).trans (View.set_slice_whole _ _).symm⟩

/-- The arrays the call leaves are the reference's. -/
theorem arrays : (dats m 0 c).arrAt 4 cfg0.N = change m c ∧ (dats m 0 c).arrAt 5 cfg0.N = first m c ∧ (dats m 0 c).arrAt 6 cfg0.N = second m c :=
  ⟨(dats m 0 c).arrAt_eq_of_cover 4 _ (fun t _ => flushed4 m c t) fun i => (covered i).imp fun t h => ⟨flush0_4 t, h⟩,
    (dats m 0 c).arrAt_eq_of_cover 5 _ (fun t _ => flushed5 m c t) fun i => (covered i).imp fun t h => ⟨flush0_5 t, (same t).1 ▸ h⟩,
    (dats m 0 c).arrAt_eq_of_cover 6 _ (fun t _ => flushed6 m c t) fun i => (covered i).imp fun t h => ⟨flush0_6 t, (same t).2 ▸ h⟩⟩

theorem reference_frame : quiescent_AdamVectorsRefIdeal (hAdamVectorsRefIdeal := AdamVectorsRefIdeal.Gen.facts) := fun m g _ =>
  (θ_run _ _ _).mono
    (fun r h => ⟨fun c => (h c).2.2.2, sem_eq_zero_of_no_sems (by decide) r.2⟩)
    (AdamVectorsRefIdeal.Value.run (F := Ideal) m g)

open AdamVectorsRefIdeal.Read in
theorem results_congr {x0 y0 x1 y1 x2 y2 x3 y3 : Arr S8x1024 .f32} (e0 : x0 = y0) (e1 : x1 = y1) (e2 : x2 = y2) (e3 : x3 = y3) :
    val_main_v23 x0 x1 x2 x3 = val_main_v23 y0 y1 y2 y3 ∧ val_main_v4 x1 x2 = val_main_v4 y1 y2 ∧ val_main_v10 x1 x3 = val_main_v10 y1 y3 := by
  subst e0 e1 e2 e3
  exact ⟨rfl, rfl, rfl⟩

/-- At the exact values the call's results are the reference's. -/
theorem values : algebraic_AdamVectorsIdeal_AdamVectorsRefIdeal (hAdamVectorsIdeal := AdamVectorsIdeal.Gen.facts)
    (hAdamVectorsRefIdeal := AdamVectorsRefIdeal.Gen.facts) := by
  intro m g m' g' _ hagree
  refine ⟨fun c => change m c, fun c => first m c, fun c => second m c, ?_, ?_⟩
  · exact (θ_run _ _ _).mono
      (fun r h c => ⟨(h c).1.trans (arrays m c).1, (h c).2.1.trans (arrays m c).2.1, (h c).2.2.1.trans (arrays m c).2.2, (h c).2.2.2⟩)
      (AdamVectorsIdeal.Value.run_blocks (F := Ideal) m g)
  · refine (θ_run _ _ _).mono (fun r h c => ?_) (AdamVectorsRefIdeal.Value.run (F := Ideal) m' g')
    obtain ⟨e0, e1, e2, e3⟩ := hagree c
    obtain ⟨r0, r1, r2⟩ := results_congr e0 e1 e2 e3
    exact ⟨((h c).1.trans (AdamVectorsRefIdeal.Read.val_main_v23_eq ..)).trans r0, ((h c).2.1.trans (AdamVectorsRefIdeal.Read.val_main_v4_eq ..)).trans r1,
      ((h c).2.2.1.trans (AdamVectorsRefIdeal.Read.val_main_v10_eq ..)).trans r2, (h c).2.2.2⟩

end Cert.AdamVectorsIdeal.Step

end
-- ==== Proof.lean ====
/-
  The certificate for the gradient of the forgetting attention: the two kernels' frames, the reference's frame, the mask's
  named constant, and the two results, which are the reference's at the exact values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Outputs
public import proofs.«01_k».proof.Proof.Finite
public import proofs.«01_k».proof.Proof.Up
public import proofs.«01_k».proof.Proof.DownBwd
public import proofs.«01_k».proof.Proof.GradIn
public import proofs.«01_k».proof.Proof.GradDown
public import proofs.«01_k».proof.Proof.UpBwd
public import proofs.«01_k».proof.Proof.DownLoss
public import proofs.«01_k».proof.Proof.GradSquare
public import proofs.«01_k».proof.Proof.GradOut
public import proofs.«01_k».proof.Proof.OutBwd
public import proofs.«01_k».proof.Proof.InBwd
public import proofs.«01_k».proof.Proof.InProj
public import proofs.«01_k».proof.Proof.GradUp
public import proofs.«01_k».proof.Proof.OutXattn
public import proofs.«01_k».proof.Proof.MemProj
public import proofs.«01_k».proof.Proof.MemBwd
public import proofs.«01_k».proof.Proof.MemSum
public import proofs.«01_k».proof.Proof.GradMem
public import proofs.«01_k».proof.Proof.GradGate
public import proofs.«01_k».proof.Proof.NormMem
public import proofs.«01_k».proof.Proof.NormMemBwd
public import proofs.«01_k».proof.Proof.AdamMlp
public import proofs.«01_k».proof.Proof.AdamMid
public import proofs.«01_k».proof.Proof.AdamIn
public import proofs.«01_k».proof.Proof.AdamVectors
public import Idealize.ShloMosaic.Lib.StableHlo.Run
public import Idealize.ShloMosaic.Adequacy
public import Idealize.ShloMosaic.Init

@[expose] public section

noncomputable section

namespace Cert.Proof

open Idealize.ShloMosaic Idealize.ShloMosaic.TcCoe Idealize.SL.Sem

instance pre_facts : Cert.Pre_finite.Facts := ⟨by decide, by decide, by decide⟩

/-- The reference runs host lines only and has no counters. -/
theorem reference_frame : Cert.quiescent_ReferenceIdeal (hReferenceIdeal := Cert.ReferenceIdeal.Gen.facts) := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The mask's literal is printed as the least number. -/
theorem mask_named : Cert.preserves_Kernel_KernelIdeal :=
  IdealRules.named_const.statement Cert.KernelIdeal.κ "mask" .f32 0xF149F2CA#32 ⊥ (by simp [Cert.KernelIdeal.κ])

open Cert.ReferenceIdeal Cert.ReferenceIdeal.Read in
/-- Equal arguments, equal results. -/
theorem packed_congr {x0 y0 x1 y1 x2 y2 : (⟨S4x2048x8x64, .f32⟩ : BufTy).Contents (Elt Ideal)}
    {x3 y3 : (⟨S4x8x2048, .f32⟩ : BufTy).Contents (Elt Ideal)} {x4 y4 : (⟨S4x2048x1024, .f32⟩ : BufTy).Contents (Elt Ideal)}
    {x5 y5 : (⟨S8192x3072, .f32⟩ : BufTy).Contents (Elt Ideal)} (e0 : x0 = y0) (e1 : x1 = y1) (e2 : x2 = y2) (e3 : x3 = y3)
    (e4 : x4 = y4) (e5 : x5 = y5) :
    val_main_v90 (F := Ideal) x0 x1 x2 x3 x4 x5 = val_main_v90 (F := Ideal) y0 y1 y2 y3 y4 y5
    ∧ val_main_v91 (F := Ideal) x0 x1 x2 x3 x4 = val_main_v91 (F := Ideal) y0 y1 y2 y3 y4 := by
  subst e0 e1 e2 e3 e4 e5
  exact ⟨rfl, rfl⟩

open Cert.KernelIdeal.Fox Cert.KernelIdeal.Gen in
/-- At the exact values the kernel's two results are the reference's. -/
theorem values : Cert.algebraic_KernelIdeal_ReferenceIdeal_pre_finite (hKernelIdeal := Cert.KernelIdeal.Gen.facts)
    (hReferenceIdeal := Cert.ReferenceIdeal.Gen.facts) := by
  intro m g m' g' hpre hagree
  refine ⟨fun c => refPacked m c, fun c => refGates m c, ?_, ?_⟩
  · refine (θ_run Cert.KernelIdeal.defs _ _).mono (fun r h c => ?_) (run_main (F := Ideal) m g)
    obtain ⟨A, hx⟩ := args_of_finite m c hpre
    have hx : A.In (V m c Cert.KernelIdeal.main_arg0) (V m c Cert.KernelIdeal.main_arg1) (V m c Cert.KernelIdeal.main_arg2)
        (V m c Cert.KernelIdeal.main_arg3) (V m c Cert.KernelIdeal.main_arg4) := by
      rw [V_main_arg0, V_main_arg1, V_main_arg2, V_main_arg3, V_main_arg4]; exact hx
    exact ⟨packed_result m c hx h, gates_result m c hx h, args_of m h c⟩
  · refine (θ_run Cert.ReferenceIdeal.defs _ _).mono (fun r h c => ?_) (Cert.ReferenceIdeal.Value.run (F := Ideal) m' g')
    obtain ⟨e0, e1, e2, e3, e4, e5⟩ := hagree c
    obtain ⟨h0, h1, h2⟩ := h c
    have e := packed_congr (e0.trans (V_main_arg0 m c).symm) (e1.trans (V_main_arg1 m c).symm) (e2.trans (V_main_arg2 m c).symm)
      (e3.trans (V_main_arg3 m c).symm) (e4.trans (V_main_arg4 m c).symm) (e5.trans (V_main_arg5 m c).symm)
    exact ⟨(h0.trans (Cert.ReferenceIdeal.Read.val_main_v90_eq m' c)).trans e.1,
      (h1.trans (Cert.ReferenceIdeal.Read.val_main_v91_eq m' c)).trans e.2, h2⟩

theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts, Cert.DownBwd.Gen.facts, Cert.DownBwdIdeal.Gen.facts, Cert.DownBwdRefIdeal.Gen.facts, Cert.GradIn.Gen.facts, Cert.GradInIdeal.Gen.facts, Cert.GradInRefIdeal.Gen.facts, Cert.GradDown.Gen.facts, Cert.GradDownIdeal.Gen.facts, Cert.GradDownRefIdeal.Gen.facts, Cert.UpBwd.Gen.facts, Cert.UpBwdIdeal.Gen.facts, Cert.UpBwdRefIdeal.Gen.facts, Cert.DownLoss.Gen.facts, Cert.DownLossIdeal.Gen.facts, Cert.DownLossRefIdeal.Gen.facts, Cert.GradSquare.Gen.facts, Cert.GradSquareIdeal.Gen.facts, Cert.GradSquareRefIdeal.Gen.facts, Cert.GradOut.Gen.facts, Cert.GradOutIdeal.Gen.facts, Cert.GradOutRefIdeal.Gen.facts, Cert.OutBwd.Gen.facts, Cert.OutBwdIdeal.Gen.facts, Cert.OutBwdRefIdeal.Gen.facts, Cert.InBwd.Gen.facts, Cert.InBwdIdeal.Gen.facts, Cert.InBwdRefIdeal.Gen.facts, Cert.InProj.Gen.facts, Cert.InProjIdeal.Gen.facts, Cert.InProjRefIdeal.Gen.facts, Cert.GradUp.Gen.facts, Cert.GradUpIdeal.Gen.facts, Cert.GradUpRefIdeal.Gen.facts, Cert.OutXattn.Gen.facts, Cert.OutXattnIdeal.Gen.facts, Cert.OutXattnRefIdeal.Gen.facts, Cert.MemProj.Gen.facts, Cert.MemProjIdeal.Gen.facts, Cert.MemProjRefIdeal.Gen.facts, Cert.MemBwd.Gen.facts, Cert.MemBwdIdeal.Gen.facts, Cert.MemBwdRefIdeal.Gen.facts, Cert.MemSum.Gen.facts, Cert.MemSumIdeal.Gen.facts, Cert.MemSumRefIdeal.Gen.facts, Cert.GradMem.Gen.facts, Cert.GradMemIdeal.Gen.facts, Cert.GradMemRefIdeal.Gen.facts, Cert.GradGate.Gen.facts, Cert.GradGateIdeal.Gen.facts, Cert.GradGateRefIdeal.Gen.facts, Cert.NormMem.Gen.facts, Cert.NormMemIdeal.Gen.facts, Cert.NormMemRefIdeal.Gen.facts, Cert.NormMemBwd.Gen.facts, Cert.NormMemBwdIdeal.Gen.facts, Cert.NormMemBwdRefIdeal.Gen.facts, Cert.AdamMlp.Gen.facts, Cert.AdamMlpIdeal.Gen.facts, Cert.AdamMlpRefIdeal.Gen.facts, Cert.AdamMid.Gen.facts, Cert.AdamMidIdeal.Gen.facts, Cert.AdamMidRefIdeal.Gen.facts, Cert.AdamIn.Gen.facts, Cert.AdamInIdeal.Gen.facts, Cert.AdamInRefIdeal.Gen.facts, Cert.AdamVectors.Gen.facts, Cert.AdamVectorsIdeal.Gen.facts, Cert.AdamVectorsRefIdeal.Gen.facts, pre_facts,
    fun m g _ => Cert.Kernel.Fox.frame m g, fun m g _ => Cert.KernelIdeal.Fox.frame m g,
    fun m g _ => Cert.KernelIdeal.Fox.frame m g, reference_frame, fun m g _ => reference_frame m g trivial,
    fun m g _ => Cert.Up.Gen.frame m g, fun m g _ => Cert.UpIdeal.Gen.frame m g, Cert.UpIdeal.Layer.reference_frame,
    fun m g _ => Cert.DownBwd.Gen.frame m g, fun m g _ => Cert.DownBwdIdeal.Gen.frame m g, Cert.DownBwdIdeal.Layer.reference_frame,
    fun m g _ => Cert.GradIn.Gen.frame m g, fun m g _ => Cert.GradInIdeal.Gen.frame m g, Cert.GradInIdeal.Grad.reference_frame,
    fun m g _ => Cert.GradDown.Gen.frame m g, fun m g _ => Cert.GradDownIdeal.Gen.frame m g, Cert.GradDownIdeal.Grad.reference_frame,
    fun m g _ => Cert.UpBwd.Gen.frame m g, fun m g _ => Cert.UpBwdIdeal.Gen.frame m g, Cert.UpBwdIdeal.Norm.reference_frame,
    fun m g _ => Cert.DownLoss.Gen.frame m g, fun m g _ => Cert.DownLossIdeal.Gen.frame m g, Cert.DownLossIdeal.Loss.reference_frame,
    fun m g _ => Cert.GradSquare.Gen.frame m g, fun m g _ => Cert.GradSquareIdeal.Gen.frame m g, Cert.GradSquareIdeal.Grad.reference_frame,
    fun m g _ => Cert.GradOut.Gen.frame m g, fun m g _ => Cert.GradOutIdeal.Gen.frame m g, Cert.GradOutIdeal.Grad.reference_frame,
    fun m g _ => Cert.OutBwd.Gen.frame m g, fun m g _ => Cert.OutBwdIdeal.Gen.frame m g, Cert.OutBwdIdeal.Layer.reference_frame,
    fun m g _ => Cert.InBwd.Gen.frame m g, fun m g _ => Cert.InBwdIdeal.Gen.frame m g, Cert.InBwdIdeal.Norm.reference_frame,
    fun m g _ => Cert.InProj.Gen.frame m g, fun m g _ => Cert.InProjIdeal.Gen.frame m g, Cert.InProjIdeal.Product.reference_frame,
    fun m g _ => Cert.GradUp.Gen.frame m g, fun m g _ => Cert.GradUpIdeal.Gen.frame m g, Cert.GradUpIdeal.Grad.reference_frame,
    fun m g _ => Cert.OutXattn.Gen.frame m g, fun m g _ => Cert.OutXattnIdeal.Gen.frame m g, Cert.OutXattnIdeal.Layer.reference_frame,
    fun m g _ => Cert.MemProj.Gen.frame m g, fun m g _ => Cert.MemProjIdeal.Gen.frame m g, Cert.MemProjIdeal.Layer.reference_frame,
    fun m g _ => Cert.MemBwd.Gen.frame m g, fun m g _ => Cert.MemBwdIdeal.Gen.frame m g, Cert.MemBwdIdeal.Layer.reference_frame,
    fun m g _ => Cert.MemSum.Gen.frame m g, fun m g _ => Cert.MemSumIdeal.Gen.frame m g, Cert.MemSumIdeal.Layer.reference_frame,
    fun m g _ => Cert.GradMem.Gen.frame m g, fun m g _ => Cert.GradMemIdeal.Gen.frame m g, Cert.GradMemIdeal.Grad.reference_frame,
    fun m g _ => Cert.GradGate.Gen.frame m g, fun m g _ => Cert.GradGateIdeal.Gen.frame m g, Cert.GradGateIdeal.Grad.reference_frame,
    fun m g _ => Cert.NormMem.Gen.frame m g, fun m g _ => Cert.NormMemIdeal.Gen.frame m g, Cert.NormMemIdeal.Norm.reference_frame,
    fun m g _ => Cert.NormMemBwd.Gen.frame m g, fun m g _ => Cert.NormMemBwdIdeal.Gen.frame m g, Cert.NormMemBwdIdeal.Norm.reference_frame,
    fun m g _ => Cert.AdamMlp.Gen.frame m g, fun m g _ => Cert.AdamMlpIdeal.Gen.frame m g, Cert.AdamMlpIdeal.Step.reference_frame,
    fun m g _ => Cert.AdamMid.Gen.frame m g, fun m g _ => Cert.AdamMidIdeal.Gen.frame m g, Cert.AdamMidIdeal.Step.reference_frame,
    fun m g _ => Cert.AdamIn.Gen.frame m g, fun m g _ => Cert.AdamInIdeal.Gen.frame m g, Cert.AdamInIdeal.Step.reference_frame,
    fun m g _ => Cert.AdamVectors.Gen.frame m g, fun m g _ => Cert.AdamVectorsIdeal.Gen.frame m g, Cert.AdamVectorsIdeal.Step.reference_frame,
    mask_named, values, trivial, Cert.UpIdeal.Layer.values, trivial, Cert.DownBwdIdeal.Layer.values, trivial, Cert.GradInIdeal.Grad.values, trivial, Cert.GradDownIdeal.Grad.values, trivial, Cert.UpBwdIdeal.Norm.values, trivial, Cert.DownLossIdeal.Loss.values, trivial, Cert.GradSquareIdeal.Grad.values, trivial, Cert.GradOutIdeal.Grad.values, trivial, Cert.OutBwdIdeal.Layer.values, trivial, Cert.InBwdIdeal.Norm.values, trivial, Cert.InProjIdeal.Product.values, trivial, Cert.GradUpIdeal.Grad.values, trivial, Cert.OutXattnIdeal.Layer.values, trivial, Cert.MemProjIdeal.Layer.values, trivial, Cert.MemBwdIdeal.Layer.values, trivial, Cert.MemSumIdeal.Layer.values, trivial, Cert.GradMemIdeal.Grad.values, trivial, Cert.GradGateIdeal.Grad.values, trivial, Cert.NormMemIdeal.Norm.values, trivial, Cert.NormMemBwdIdeal.Norm.values, trivial, Cert.AdamMlpIdeal.Step.values, trivial, Cert.AdamMidIdeal.Step.values, trivial, Cert.AdamInIdeal.Step.values, trivial, Cert.AdamVectorsIdeal.Step.values⟩

end Cert.Proof

end
